-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v81)) (v3 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v81) = v2 c
          ∧ r.2.mem ((c.tc : Thread Cert.KernelIdeal.nD Cert.KernelIdeal.τ).loc Cert.KernelIdeal.main_v78) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "ln2" .f32 0x3F317218#32 ((Real.log 2 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v53)) (v1 : (c : Dev Cert.Kernel2Ideal.nD) → Buf (Elt Ideal) ((c.tc : Thread Cert.Kernel2Ideal.nD Cert.Kernel2Ideal.τ).loc Cert.Kernel2Ideal.main_v56)) (v2 : (c : Dev Cert.Kernel2Ideal.nD) → Buf (Elt Ideal) ((c.tc : Thread Cert.Kernel2Ideal.nD Cert.Kernel2Ideal.τ).loc Cert.Kernel2Ideal.main_v59)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53) = v0 c
          ∧ r.2.mem ((c.tc : Thread Cert.Kernel2Ideal.nD Cert.Kernel2Ideal.τ).loc Cert.Kernel2Ideal.main_v56) = v1 c
          ∧ r.2.mem ((c.tc : Thread Cert.Kernel2Ideal.nD Cert.Kernel2Ideal.τ).loc Cert.Kernel2Ideal.main_v59) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v7) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v35) = v0 c
          ∧ r.2.mem ((c.tc : Thread Cert.Reference23Ideal.nD Cert.Reference23Ideal.τ).loc Cert.Reference23Ideal.main_v36) = v1 c
          ∧ r.2.mem ((c.tc : Thread Cert.Reference23Ideal.nD Cert.Reference23Ideal.τ).loc Cert.Reference23Ideal.main_v34) = v2 c
          ∧ r.2.mem ((c.tc : Thread Cert.Reference23Ideal.nD Cert.Reference23Ideal.τ).loc Cert.Reference23Ideal.main_v30) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v19) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v34) = v0 c
          ∧ r.2.mem ((c.tc : Thread Cert.Reference27Ideal.nD Cert.Reference27Ideal.τ).loc Cert.Reference27Ideal.main_v17) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S8x8192x64 : Shape := ⟨3, ![8, 8192, 64]⟩
abbrev S8x8192 : Shape := ⟨2, ![8, 8192]⟩
abbrev S_ : Shape := ⟨0, ![]⟩

class Facts : Prop where
  bcast_S_S8x8192x64 : S_.BroadcastsInDim S8x8192x64 (![] : Fin 0 → Fin S8x8192x64.rank)
  bcast_S_S8x8192 : S_.BroadcastsInDim S8x8192 (![] : Fin 0 → Fin S8x8192.rank)

variable [Facts]

def fn {F : FTy → Type} [FloatOps F] (main_arg0 : FVec F S8x8192x64 .f32) (main_arg1 : FVec F S8x8192x64 .f32) (main_arg2 : FVec F S8x8192x64 .f32) (main_arg3 : FVec F S8x8192 .f32) (main_arg4 : FVec F S8x8192x64 .f32) : IVec S8x8192x64 1 × IVec S8x8192x64 1 × IVec S8x8192x64 1 × IVec S8x8192 1 × IVec S8x8192x64 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_v3 : FVec F S8x8192x64 .f32 := Host.absf main_arg1
  let main_cst_0 : FVec F S_ .f32 := constant S_ .f32 0x7F800000#32
  let main_v4 : FVec F S8x8192x64 .f32 := broadcastInDim S8x8192x64 ![] bcast_S_S8x8192x64 main_cst_0
  let main_v5 : IVec S8x8192x64 1 := cmpf .olt main_v3 main_v4
  let main_v6 : FVec F S8x8192x64 .f32 := Host.absf main_arg2
  let main_cst_1 : FVec F S_ .f32 := constant S_ .f32 0x7F800000#32
  let main_v7 : FVec F S8x8192x64 .f32 := broadcastInDim S8x8192x64 ![] bcast_S_S8x8192x64 main_cst_1
  let main_v8 : IVec S8x8192x64 1 := cmpf .olt main_v6 main_v7
  let main_v9 : FVec F S8x8192 .f32 := Host.absf main_arg3
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_v12 : FVec F S8x8192x64 .f32 := Host.absf main_arg4
  let main_cst_3 : FVec F S_ .f32 := constant S_ .f32 0x7F800000#32
  let main_v13 : FVec F S8x8192x64 .f32 := broadcastInDim S8x8192x64 ![] bcast_S_S8x8192x64 main_cst_3
  let main_v14 : IVec S8x8192x64 1 := cmpf .olt main_v12 main_v13
  (main_v2, main_v5, main_v8, main_v11, main_v14)
-- ==== Pre_finite2.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  bcast_S_S8x8192x64 : S_.BroadcastsInDim S8x8192x64 (![] : Fin 0 → Fin S8x8192x64.rank)

variable [Facts]

def fn {F : FTy → Type} [FloatOps F] (main_arg0 : FVec F S8x8192x96 .f32) (main_arg1 : FVec F S8x8192x96 .f32) (main_arg2 : FVec F S8x8192x64 .f32) (main_arg3 : FVec F S8x8192x64 .f32) : IVec S8x8192x96 1 × IVec S8x8192x96 1 × IVec S8x8192x64 1 × IVec S8x8192x64 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_v3 : FVec F S8x8192x96 .f32 := Host.absf main_arg1
  let main_cst_0 : FVec F S_ .f32 := constant S_ .f32 0x7F800000#32
  let main_v4 : FVec F S8x8192x96 .f32 := broadcastInDim S8x8192x96 ![] bcast_S_S8x8192x96 main_cst_0
  let main_v5 : IVec S8x8192x96 1 := cmpf .olt main_v3 main_v4
  let main_v6 : FVec F S8x8192x64 .f32 := Host.absf main_arg2
  let main_cst_1 : FVec F S_ .f32 := constant S_ .f32 0x7F800000#32
  let main_v7 : FVec F S8x8192x64 .f32 := broadcastInDim S8x8192x64 ![] bcast_S_S8x8192x64 main_cst_1
  let main_v8 : IVec S8x8192x64 1 := cmpf .olt main_v6 main_v7
  let main_v9 : FVec F S8x8192x64 .f32 := Host.absf main_arg3
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  (main_v2, main_v5, main_v8, main_v11)
-- ==== Kernel.lean ====
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x1x8192 : Shape := ⟨3, ![8, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192x1 : Shape := ⟨3, ![8, 8192, 1]⟩
abbrev S8x16x1x512 : Shape := ⟨4, ![8, 16, 1, 512]⟩
abbrev S8x8192x61 : Shape := ⟨3, ![8, 8192, 61]⟩
abbrev S8x8192x128 : Shape := ⟨3, ![8, 8192, 128]⟩
abbrev S8x8192x60 : Shape := ⟨3, ![8, 8192, 60]⟩
abbrev S8x16x512x128 : Shape := ⟨4, ![8, 16, 512, 128]⟩
abbrev S8x16x128x512 : Shape := ⟨4, ![8, 16, 128, 512]⟩
abbrev S8192x8x64 : Shape := ⟨3, ![8192, 8, 64]⟩
abbrev S8192x512 : Shape := ⟨2, ![8192, 512]⟩
abbrev S16x512x4x128 : Shape := ⟨4, ![16, 512, 4, 128]⟩
abbrev S4x16x128x512 : Shape := ⟨4, ![4, 16, 128, 512]⟩
abbrev S8192x8x128 : Shape := ⟨3, ![8192, 8, 128]⟩
abbrev S8192x1024 : Shape := ⟨2, ![8192, 1024]⟩
abbrev S512x256 : Shape := ⟨2, ![512, 256]⟩
abbrev S512x128 : Shape := ⟨2, ![512, 128]⟩
abbrev S2x16x128x512 : Shape := ⟨4, ![2, 16, 128, 512]⟩
abbrev S1x16x128x512 : Shape := ⟨4, ![1, 16, 128, 512]⟩
abbrev S2x16x1x512 : Shape := ⟨4, ![2, 16, 1, 512]⟩
abbrev S2x1x128x512 : Shape := ⟨4, ![2, 1, 128, 512]⟩
abbrev S128x512 : Shape := ⟨2, ![128, 512]⟩
abbrev S64x512 : Shape := ⟨2, ![64, 512]⟩
abbrev S128x1 : Shape := ⟨2, ![128, 1]⟩
abbrev S1x128 : Shape := ⟨2, ![1, 128]⟩
abbrev S1x1x128x512 : Shape := ⟨4, ![1, 1, 128, 512]⟩
abbrev S1x1x1x512 : Shape := ⟨4, ![1, 1, 1, 512]⟩
abbrev S1x512 : Shape := ⟨2, ![1, 512]⟩
abbrev S256x128 : Shape := ⟨2, ![256, 128]⟩
abbrev S128x256 : Shape := ⟨2, ![128, 256]⟩
abbrev S256x256 : Shape := ⟨2, ![256, 256]⟩
abbrev S1x256 : Shape := ⟨2, ![1, 256]⟩
abbrev S64x256 : Shape := ⟨2, ![64, 256]⟩
abbrev S8x16x64x512 : Shape := ⟨4, ![8, 16, 64, 512]⟩
abbrev S8x16x512x64 : Shape := ⟨4, ![8, 16, 512, 64]⟩
abbrev S8x16x512 : Shape := ⟨3, ![8, 16, 512]⟩

abbrev nBuf : Space → Nat
  | .hbm => 102
  | .vmem => 22
  | .smem => 0
  | _ => 0

abbrev bufTy : (tb : Table) → Fin (tcTables nBuf tb) → BufTy
  | .hbm, ⟨0, _⟩ => ⟨S8x8192x64, .f32⟩
  | .hbm, ⟨1, _⟩ => ⟨S8x8192x64, .f32⟩
  | .hbm, ⟨2, _⟩ => ⟨S8x8192x64, .f32⟩
  | .hbm, ⟨3, _⟩ => ⟨S8x8192, .f32⟩
  | .hbm, ⟨4, _⟩ => ⟨S8x8192x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x1x8192, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x1x8192, .i32⟩
  | .hbm, ⟨14, _⟩ => ⟨S1x8192x1, .i32⟩
  | .hbm, ⟨15, _⟩ => ⟨S1x8192x8192, .i32⟩
  | .hbm, ⟨16, _⟩ => ⟨S1x8192x8192, .i32⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x64, .f32⟩
  | .hbm, ⟨35, _⟩ => ⟨S_, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S8x8192x1, .f32⟩
  | .hbm, ⟨40, _⟩ => ⟨S8x8192x1, .f32⟩
  | .hbm, ⟨41, _⟩ => ⟨S8x16x1x512, .f32⟩
  | .hbm, ⟨42, _⟩ => ⟨S8x8192x64, .f32⟩
  | .hbm, ⟨43, _⟩ => ⟨S_, .f32⟩
  | .hbm, ⟨44, _⟩ => ⟨S8x8192, .f32⟩
  | .hbm, ⟨45, _⟩ => ⟨S8x16x1x512, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x1, .bf16⟩
  | .hbm, ⟨51, _⟩ => ⟨S8x8192x1, .f32⟩
  | .hbm, ⟨52, _⟩ => ⟨S8x8192x1, .f32⟩
  | .hbm, ⟨53, _⟩ => ⟨S8x8192x1, .bf16⟩
  | .hbm, ⟨54, _⟩ => ⟨S8x8192x1, .f32⟩
  | .hbm, ⟨55, _⟩ => ⟨S8x8192x1, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S_, .f32⟩
  | .hbm, ⟨60, _⟩ => ⟨S8x8192x64, .f32⟩
  | .hbm, ⟨61, _⟩ => ⟨S8x8192x64, .f32⟩
  | .hbm, ⟨62, _⟩ => ⟨S8x8192x64, .f32⟩
  | .hbm, ⟨63, _⟩ => ⟨S8x8192x64, .f32⟩
  | .hbm, ⟨64, _⟩ => ⟨S_, .f32⟩
  | .hbm, ⟨65, _⟩ => ⟨S8x8192x61, .f32⟩
  | .hbm, ⟨66, _⟩ => ⟨S8x8192x128, .f32⟩
  | .hbm, ⟨67, _⟩ => ⟨S8x8192x128, .bf16⟩
  | .hbm, ⟨68, _⟩ => ⟨S_, .f32⟩
  | .hbm, ⟨69, _⟩ => ⟨S8x8192x60, .f32⟩
  | .hbm, ⟨70, _⟩ => ⟨S8x8192x128, .f32⟩
  | .hbm, ⟨71, _⟩ => ⟨S8x8192x128, .bf16⟩
  | .hbm, ⟨72, _⟩ => ⟨S8x16x512x128, .bf16⟩
  | .hbm, ⟨73, _⟩ => ⟨S8x16x128x512, .bf16⟩
  | .hbm, ⟨74, _⟩ => ⟨S8192x8x64, .f32⟩
  | .hbm, ⟨75, _⟩ => ⟨S8192x512, .f32⟩
  | .hbm, ⟨76, _⟩ => ⟨S8192x512, .bf16⟩
  | .hbm, ⟨77, _⟩ => ⟨S16x512x4x128, .bf16⟩
  | .hbm, ⟨78, _⟩ => ⟨S4x16x128x512, .bf16⟩
  | .hbm, ⟨79, _⟩ => ⟨S8192x8x128, .bf16⟩
  | .hbm, ⟨80, _⟩ => ⟨S8192x1024, .bf16⟩
  | .hbm, ⟨81, _⟩ => ⟨S8192x8x64, .f32⟩
  | .hbm, ⟨82, _⟩ => ⟨S8192x512, .f32⟩
  | .hbm, ⟨83, _⟩ => ⟨S8192x512, .bf16⟩
  | .hbm, ⟨84, _⟩ => ⟨S8x16x128x512, .f32⟩
  | .hbm, ⟨85, _⟩ => ⟨S8x16x128x512, .f32⟩
  | .hbm, ⟨86, _⟩ => ⟨S8192x512, .bf16⟩
  | .hbm, ⟨87, _⟩ => ⟨S8x16x64x512, .f32⟩
  | .hbm, ⟨88, _⟩ => ⟨S8x16x512x64, .f32⟩
  | .hbm, ⟨89, _⟩ => ⟨S8x8192x64, .f32⟩
  | .hbm, ⟨90, _⟩ => ⟨S8x16x64x512, .f32⟩
  | .hbm, ⟨91, _⟩ => ⟨S8x16x512x64, .f32⟩
  | .hbm, ⟨92, _⟩ => ⟨S8x8192x64, .f32⟩
  | .hbm, ⟨93, _⟩ => ⟨S8x16x1x512, .f32⟩
  | .hbm, ⟨94, _⟩ => ⟨S8x16x512, .f32⟩
  | .hbm, ⟨95, _⟩ => ⟨S8x16x1x512, .f32⟩
  | .hbm, ⟨96, _⟩ => ⟨S8x16x512, .f32⟩
  | .hbm, ⟨97, _⟩ => ⟨S8x16x512, .f32⟩
  | .hbm, ⟨98, _⟩ => ⟨S8x8192, .f32⟩
  | .hbm, ⟨99, _⟩ => ⟨S8192x8x64, .bf16⟩
  | .hbm, ⟨100, _⟩ => ⟨S8x8192x64, .bf16⟩
  | .hbm, ⟨101, _⟩ => ⟨S8x8192x64, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S2x16x128x512, .bf16⟩
  | .local _ .vmem, ⟨5, _⟩ => ⟨S2x16x128x512, .bf16⟩
  | .local _ .vmem, ⟨6, _⟩ => ⟨S1x16x128x512, .bf16⟩
  | .local _ .vmem, ⟨7, _⟩ => ⟨S1x16x128x512, .bf16⟩
  | .local _ .vmem, ⟨8, _⟩ => ⟨S2x16x1x512, .f32⟩
  | .local _ .vmem, ⟨9, _⟩ => ⟨S2x16x1x512, .f32⟩
  | .local _ .vmem, ⟨10, _⟩ => ⟨S2x16x1x512, .f32⟩
  | .local _ .vmem, ⟨11, _⟩ => ⟨S2x16x1x512, .f32⟩
  | .local _ .vmem, ⟨12, _⟩ => ⟨S2x16x128x512, .f32⟩
  | .local _ .vmem, ⟨13, _⟩ => ⟨S2x16x128x512, .f32⟩
  | .local _ .vmem, ⟨14, _⟩ => ⟨S2x1x128x512, .f32⟩
  | .local _ .vmem, ⟨15, _⟩ => ⟨S2x1x128x512, .f32⟩
  | .local _ .vmem, ⟨16, _⟩ => ⟨S512x128, .bf16⟩
  | .local _ .vmem, ⟨17, _⟩ => ⟨S512x128, .bf16⟩
  | .local _ .vmem, ⟨18, _⟩ => ⟨S128x512, .f32⟩
  | .local _ .vmem, ⟨19, _⟩ => ⟨S128x512, .f32⟩
  | .local _ .vmem, ⟨20, _⟩ => ⟨S64x512, .f32⟩
  | .local _ .vmem, ⟨21, _⟩ => ⟨S64x512, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66_0 : Ref sig .tc := ⟨.hbm, 84, rfl⟩
abbrev main_v66_1 : Ref sig .tc := ⟨.hbm, 85, rfl⟩
abbrev main_v66_2 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_off1 (i : grid0.Coords) : Fin 4 → Nat :=
  let c0_29 : Index := 0#32
  let arg1 : BitVec 32 := BitVec.ofNat 32 (i 1).val
  let v82 : Index := Scalar.indexCast arg1
  let c0_30 : Index := 0#32
  let c0_31 : Index := 0#32
  ![0, v82.toNat, 0, 0]
def k0_off2 (i : grid0.Coords) : Fin 4 → Nat :=
  let c0_32 : Index := 0#32
  let arg1 : BitVec 32 := BitVec.ofNat 32 (i 1).val
  let v85 : Index := Scalar.indexCast arg1
  let c0_33 : Index := 0#32
  let c0_34 : Index := 0#32
  ![0, v85.toNat, 0, 0]
def k0_off3 (i : grid0.Coords) : Fin 4 → Nat :=
  let c1 : Index := 1#32
  let arg1 : BitVec 32 := BitVec.ofNat 32 (i 1).val
  let v88 : Index := Scalar.indexCast arg1
  let c0_35 : Index := 0#32
  let c0_36 : Index := 0#32
  ![1, v88.toNat, 0, 0]
def k0_off4 (i : grid0.Coords) : Fin 4 → Nat :=
  let c0_37 : Index := 0#32
  let arg1 : BitVec 32 := BitVec.ofNat 32 (i 1).val
  let v91 : Index := Scalar.indexCast arg1
  let c0_38 : Index := 0#32
  let c0_39 : Index := 0#32
  ![0, v91.toNat, 0, 0]
def k0_off5 (i : grid0.Coords) : Fin 4 → Nat :=
  let c1_40 : Index := 1#32
  let arg1 : BitVec 32 := BitVec.ofNat 32 (i 1).val
  let v94 : Index := Scalar.indexCast arg1
  let c0_41 : Index := 0#32
  let c0_42 : Index := 0#32
  ![1, v94.toNat, 0, 0]
@[reducible] def k0_t1_loop (i : grid0.Coords) : Scf.Loop 32 :=
  let c0_i32_121 : BitVec 32 := 0#32
  let c15_i32 : BitVec 32 := 15#32
  let arg1 : BitVec 32 := BitVec.ofNat 32 (i 1).val
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let c1_i32_123 : BitVec 32 := 1#32
  ⟨c0_i32_121, v275, c1_i32_123⟩
def k0_off6 (i : grid0.Coords) (k0_t1 : Fin (k0_t1_loop i).trips) (c0_i32_155 : BitVec 32) : Fin 4 → Nat :=
  let c0_156 : Index := 0#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c1_i32_123 : BitVec 32 := 1#32
  let arg15 : BitVec 32 := Scf.iv c0_i32_121 c1_i32_123 k0_t1
  let v309 : BitVec 32 := Scalar.muli c4_i32_154 arg15
  let v310 : BitVec 32 := Scalar.addi v308 v309
  let v311 : BitVec 32 := Scalar.addi v310 c0_i32_155
  let v312 : Index := Scalar.indexCast v311
  let c0_157 : Index := 0#32
  let c0_158 : Index := 0#32
  ![0, v312.toNat, 0, 0]
def k0_off7 (i : grid0.Coords) (k0_t1 : Fin (k0_t1_loop i).trips) (c0_i32_155 : BitVec 32) : Fin 4 → Nat :=
  let c0_159 : Index := 0#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c1_i32_123 : BitVec 32 := 1#32
  let arg15 : BitVec 32 := Scf.iv c0_i32_121 c1_i32_123 k0_t1
  let v309 : BitVec 32 := Scalar.muli c4_i32_154 arg15
  let v310 : BitVec 32 := Scalar.addi v308 v309
  let v311 : BitVec 32 := Scalar.addi v310 c0_i32_155
  let v315 : Index := Scalar.indexCast v311
  let c0_160 : Index := 0#32
  let c0_161 : Index := 0#32
  ![0, v315.toNat, 0, 0]
def k0_off8 (i : grid0.Coords) (k0_t1 : Fin (k0_t1_loop i).trips) (c0_i32_155 : BitVec 32) : Fin 4 → Nat :=
  let c1_162 : Index := 1#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c1_i32_123 : BitVec 32 := 1#32
  let arg15 : BitVec 32 := Scf.iv c0_i32_121 c1_i32_123 k0_t1
  let v309 : BitVec 32 := Scalar.muli c4_i32_154 arg15
  let v310 : BitVec 32 := Scalar.addi v308 v309
  let v311 : BitVec 32 := Scalar.addi v310 c0_i32_155
  let v318 : Index := Scalar.indexCast v311
  let c0_163 : Index := 0#32
  let c0_164 : Index := 0#32
  ![1, v318.toNat, 0, 0]
def k0_off9 (i : grid0.Coords) (k0_t1 : Fin (k0_t1_loop i).trips) (c0_i32_155 : BitVec 32) : Fin 4 → Nat :=
  let c0_165 : Index := 0#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c1_i32_123 : BitVec 32 := 1#32
  let arg15 : BitVec 32 := Scf.iv c0_i32_121 c1_i32_123 k0_t1
  let v309 : BitVec 32 := Scalar.muli c4_i32_154 arg15
  let v310 : BitVec 32 := Scalar.addi v308 v309
  let v311 : BitVec 32 := Scalar.addi v310 c0_i32_155
  let v321 : Index := Scalar.indexCast v311
  let c0_166 : Index := 0#32
  let c0_167 : Index := 0#32
  ![0, v321.toNat, 0, 0]
def k0_off10 (i : grid0.Coords) (k0_t1 : Fin (k0_t1_loop i).trips) (c0_i32_155 : BitVec 32) : Fin 4 → Nat :=
  let c1_168 : Index := 1#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c1_i32_123 : BitVec 32 := 1#32
  let arg15 : BitVec 32 := Scf.iv c0_i32_121 c1_i32_123 k0_t1
  let v309 : BitVec 32 := Scalar.muli c4_i32_154 arg15
  let v310 : BitVec 32 := Scalar.addi v308 v309
  let v311 : BitVec 32 := Scalar.addi v310 c0_i32_155
  let v324 : Index := Scalar.indexCast v311
  let c0_169 : Index := 0#32
  let c0_170 : Index := 0#32
  ![1, v324.toNat, 0, 0]
@[reducible] def k0_t2_loop (i : grid0.Coords) : Scf.Loop 32 :=
  let c0_i32_121 : BitVec 32 := 0#32
  let c15_i32 : BitVec 32 := 15#32
  let arg1 : BitVec 32 := BitVec.ofNat 32 (i 1).val
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let v272 : BitVec 32 := Scalar.addi c0_i32_121 v271
  let c1_i32_124 : BitVec 32 := 1#32
  ⟨v275, v272, c1_i32_124⟩
def k0_off11 (i : grid0.Coords) (k0_t2 : Fin (k0_t2_loop i).trips) (c0_i32_155 : BitVec 32) : Fin 4 → Nat :=
  let c0_156 : Index := 0#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let c1_i32_124 : BitVec 32 := 1#32
  let arg15 : BitVec 32 := Scf.iv v275 c1_i32_124 k0_t2
  let v309 : BitVec 32 := Scalar.muli c4_i32_154 arg15
  let v310 : BitVec 32 := Scalar.addi v308 v309
  let v311 : BitVec 32 := Scalar.addi v310 c0_i32_155
  let v312 : Index := Scalar.indexCast v311
  let c0_157 : Index := 0#32
  let c0_158 : Index := 0#32
  ![0, v312.toNat, 0, 0]
def k0_off12 (i : grid0.Coords) (k0_t2 : Fin (k0_t2_loop i).trips) (c0_i32_155 : BitVec 32) : Fin 4 → Nat :=
  let c0_159 : Index := 0#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let c1_i32_124 : BitVec 32 := 1#32
  let arg15 : BitVec 32 := Scf.iv v275 c1_i32_124 k0_t2
  let v309 : BitVec 32 := Scalar.muli c4_i32_154 arg15
  let v310 : BitVec 32 := Scalar.addi v308 v309
  let v311 : BitVec 32 := Scalar.addi v310 c0_i32_155
  let v315 : Index := Scalar.indexCast v311
  let c0_160 : Index := 0#32
  let c0_161 : Index := 0#32
  ![0, v315.toNat, 0, 0]
def k0_off13 (i : grid0.Coords) (k0_t2 : Fin (k0_t2_loop i).trips) (c0_i32_155 : BitVec 32) : Fin 4 → Nat :=
  let c1_162 : Index := 1#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let c1_i32_124 : BitVec 32 := 1#32
  let arg15 : BitVec 32 := Scf.iv v275 c1_i32_124 k0_t2
  let v309 : BitVec 32 := Scalar.muli c4_i32_154 arg15
  let v310 : BitVec 32 := Scalar.addi v308 v309
  let v311 : BitVec 32 := Scalar.addi v310 c0_i32_155
  let v318 : Index := Scalar.indexCast v311
  let c0_163 : Index := 0#32
  let c0_164 : Index := 0#32
  ![1, v318.toNat, 0, 0]
def k0_off14 (i : grid0.Coords) (k0_t2 : Fin (k0_t2_loop i).trips) (c0_i32_155 : BitVec 32) : Fin 4 → Nat :=
  let c0_165 : Index := 0#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let c1_i32_124 : BitVec 32 := 1#32
  let arg15 : BitVec 32 := Scf.iv v275 c1_i32_124 k0_t2
  let v309 : BitVec 32 := Scalar.muli c4_i32_154 arg15
  let v310 : BitVec 32 := Scalar.addi v308 v309
  let v311 : BitVec 32 := Scalar.addi v310 c0_i32_155
  let v321 : Index := Scalar.indexCast v311
  let c0_166 : Index := 0#32
  let c0_167 : Index := 0#32
  ![0, v321.toNat, 0, 0]
def k0_off15 (i : grid0.Coords) (k0_t2 : Fin (k0_t2_loop i).trips) (c0_i32_155 : BitVec 32) : Fin 4 → Nat :=
  let c1_168 : Index := 1#32
  let arg1 : BitVec 32 := BitVec.ofNat 32 (i 1).val
  let c1_i32_153 : BitVec 32 := 1#32
  let v308 : BitVec 32 := Scalar.addi arg1 c1_i32_153
  let c4_i32_154 : BitVec 32 := 4#32
  let c0_i32_121 : BitVec 32 := 0#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_121
  let c1_i32_122 : BitVec 32 := 1#32
  let v273 : BitVec 32 := Scalar.divsi v271 c1_i32_122
  let v274 : BitVec 32 := Scalar.muli v273 c1_i32_122
  let v275 : BitVec 32 := Scalar.addi c0_i32_121 v274
  let c1_i32_124 : BitVec 32 := 1#32
  let arg15 : BitVec 32 := Scf.iv v275 c1_i32_124 k0_t2
  let v309 : BitVec 32 := Scalar.muli c4_i32_154 arg15
  let v310 : BitVec 32 := Scalar.addi v308 v309
  let v311 : BitVec 32 := Scalar.addi v310 c0_i32_155
  let v324 : Index := Scalar.indexCast v311
  let c0_169 : Index := 0#32
  let c0_170 : Index := 0#32
  ![1, v324.toNat, 0, 0]
@[reducible] def k0_t3_loop (i : grid0.Coords) : Scf.Loop 32 :=
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let c1_i32_129 : BitVec 32 := 1#32
  ⟨v278, v283, c1_i32_129⟩
def k0_off16 (i : grid0.Coords) (k0_t3 : Fin (k0_t3_loop i).trips) : Fin 4 → Nat :=
  let c0_153 : Index := 0#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c1_i32_129 : BitVec 32 := 1#32
  let arg15 : BitVec 32 := Scf.iv v278 c1_i32_129 k0_t3
  let v308 : Index := Scalar.indexCast arg15
  let c0_154 : Index := 0#32
  let c0_155 : Index := 0#32
  ![0, v308.toNat, 0, 0]
def k0_off17 (i : grid0.Coords) (k0_t3 : Fin (k0_t3_loop i).trips) : Fin 4 → Nat :=
  let c0_156 : Index := 0#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c1_i32_129 : BitVec 32 := 1#32
  let arg15 : BitVec 32 := Scf.iv v278 c1_i32_129 k0_t3
  let v311 : Index := Scalar.indexCast arg15
  let c0_157 : Index := 0#32
  let c0_158 : Index := 0#32
  ![0, v311.toNat, 0, 0]
def k0_off18 (i : grid0.Coords) (k0_t3 : Fin (k0_t3_loop i).trips) : Fin 4 → Nat :=
  let c1_159 : Index := 1#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c1_i32_129 : BitVec 32 := 1#32
  let arg15 : BitVec 32 := Scf.iv v278 c1_i32_129 k0_t3
  let v314 : Index := Scalar.indexCast arg15
  let c0_160 : Index := 0#32
  let c0_161 : Index := 0#32
  ![1, v314.toNat, 0, 0]
def k0_off19 (i : grid0.Coords) (k0_t3 : Fin (k0_t3_loop i).trips) : Fin 4 → Nat :=
  let c0_162 : Index := 0#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c1_i32_129 : BitVec 32 := 1#32
  let arg15 : BitVec 32 := Scf.iv v278 c1_i32_129 k0_t3
  let v317 : Index := Scalar.indexCast arg15
  let c0_163 : Index := 0#32
  let c0_164 : Index := 0#32
  ![0, v317.toNat, 0, 0]
def k0_off20 (i : grid0.Coords) (k0_t3 : Fin (k0_t3_loop i).trips) : Fin 4 → Nat :=
  let c1_165 : Index := 1#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c1_i32_129 : BitVec 32 := 1#32
  let arg15 : BitVec 32 := Scf.iv v278 c1_i32_129 k0_t3
  let v320 : Index := Scalar.indexCast arg15
  let c0_166 : Index := 0#32
  let c0_167 : Index := 0#32
  ![1, v320.toNat, 0, 0]
@[reducible] def k0_t4_loop (i : grid0.Coords) : Scf.Loop 32 :=
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let v280 : BitVec 32 := Scalar.addi v278 v279
  let c1_i32_130 : BitVec 32 := 1#32
  ⟨v283, v280, c1_i32_130⟩
def k0_off21 (i : grid0.Coords) (k0_t4 : Fin (k0_t4_loop i).trips) : Fin 4 → Nat :=
  let c0_153 : Index := 0#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let c1_i32_130 : BitVec 32 := 1#32
  let arg15 : BitVec 32 := Scf.iv v283 c1_i32_130 k0_t4
  let v308 : Index := Scalar.indexCast arg15
  let c0_154 : Index := 0#32
  let c0_155 : Index := 0#32
  ![0, v308.toNat, 0, 0]
def k0_off22 (i : grid0.Coords) (k0_t4 : Fin (k0_t4_loop i).trips) : Fin 4 → Nat :=
  let c0_156 : Index := 0#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let c1_i32_130 : BitVec 32 := 1#32
  let arg15 : BitVec 32 := Scf.iv v283 c1_i32_130 k0_t4
  let v311 : Index := Scalar.indexCast arg15
  let c0_157 : Index := 0#32
  let c0_158 : Index := 0#32
  ![0, v311.toNat, 0, 0]
def k0_off23 (i : grid0.Coords) (k0_t4 : Fin (k0_t4_loop i).trips) : Fin 4 → Nat :=
  let c1_159 : Index := 1#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let c1_i32_130 : BitVec 32 := 1#32
  let arg15 : BitVec 32 := Scf.iv v283 c1_i32_130 k0_t4
  let v314 : Index := Scalar.indexCast arg15
  let c0_160 : Index := 0#32
  let c0_161 : Index := 0#32
  ![1, v314.toNat, 0, 0]
def k0_off24 (i : grid0.Coords) (k0_t4 : Fin (k0_t4_loop i).trips) : Fin 4 → Nat :=
  let c0_162 : Index := 0#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let c1_i32_130 : BitVec 32 := 1#32
  let arg15 : BitVec 32 := Scf.iv v283 c1_i32_130 k0_t4
  let v317 : Index := Scalar.indexCast arg15
  let c0_163 : Index := 0#32
  let c0_164 : Index := 0#32
  ![0, v317.toNat, 0, 0]
def k0_off25 (i : grid0.Coords) (k0_t4 : Fin (k0_t4_loop i).trips) : Fin 4 → Nat :=
  let c1_165 : Index := 1#32
  let arg1 : BitVec 32 := BitVec.ofNat 32 (i 1).val
  let c1_i32_125 : BitVec 32 := 1#32
  let v276 : BitVec 32 := Scalar.addi arg1 c1_i32_125
  let c4_i32_126 : BitVec 32 := 4#32
  let c15_i32 : BitVec 32 := 15#32
  let v64 : BitVec 32 := Scalar.subi c15_i32 arg1
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c4_i32 : BitVec 32 := 4#32
  let c0_i32_26 : BitVec 32 := 0#32
  let v71 : BitVec 1 := Scalar.cmpi .sgt c4_i32 c0_i32_26
  let v72 : BitVec 32 := Scalar.extui v71
  let c0_i32_27 : BitVec 32 := 0#32
  let v73 : BitVec 1 := Scalar.cmpi .slt c4_i32 c0_i32_27
  let v74 : BitVec 32 := Scalar.extui v73
  let v75 : BitVec 32 := Scalar.subi v72 v74
  let v76 : BitVec 1 := Scalar.cmpi .ne v70 v75
  let v77 : BitVec 32 := Scalar.remsi v64 c4_i32
  let c0_i32_28 : BitVec 32 := 0#32
  let v78 : BitVec 1 := Scalar.cmpi .ne v77 c0_i32_28
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_126 v81
  let v278 : BitVec 32 := Scalar.addi v276 v277
  let c16_i32 : BitVec 32 := 16#32
  let v279 : BitVec 32 := Scalar.subi c16_i32 v278
  let c1_i32_128 : BitVec 32 := 1#32
  let v281 : BitVec 32 := Scalar.divsi v279 c1_i32_128
  let v282 : BitVec 32 := Scalar.muli v281 c1_i32_128
  let v283 : BitVec 32 := Scalar.addi v278 v282
  let c1_i32_130 : BitVec 32 := 1#32
  let arg15 : BitVec 32 := Scf.iv v283 c1_i32_130 k0_t4
  let v320 : Index := Scalar.indexCast arg15
  let c0_166 : Index := 0#32
  let c0_167 : Index := 0#32
  ![1, v320.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x16x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x64x8192 : Shape := ⟨3, ![8, 64, 8192]⟩

abbrev nBuf : Space → Nat
  | .hbm => 104
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S8x8192x64, .f32⟩
  | .hbm, ⟨2, _⟩ => ⟨S8x8192x64, .f32⟩
  | .hbm, ⟨3, _⟩ => ⟨S8x8192, .f32⟩
  | .hbm, ⟨4, _⟩ => ⟨S8x8192x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x1x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x1x8192, .i32⟩
  | .hbm, ⟨17, _⟩ => ⟨S1x8192x1, .i32⟩
  | .hbm, ⟨18, _⟩ => ⟨S1x8192x8192, .i32⟩
  | .hbm, ⟨19, _⟩ => ⟨S1x8192x8192, .i32⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x64, .f32⟩
  | .hbm, ⟨67, _⟩ => ⟨S8x64x8192, .f32⟩
  | .hbm, ⟨68, _⟩ => ⟨S8x8192x64, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x1x8192, .f32⟩
  | .hbm, ⟨91, _⟩ => ⟨S_, .f32⟩
  | .hbm, ⟨92, _⟩ => ⟨S8x8192, .f32⟩
  | .hbm, ⟨93, _⟩ => ⟨S_, .f32⟩
  | .hbm, ⟨94, _⟩ => ⟨S8x8192, .f32⟩
  | .hbm, ⟨95, _⟩ => ⟨S8x8192x1, .f32⟩
  | .hbm, ⟨96, _⟩ => ⟨S_, .f32⟩
  | .hbm, ⟨97, _⟩ => ⟨S8x8192, .f32⟩
  | .hbm, ⟨98, _⟩ => ⟨S8x8192, .f32⟩
  | .hbm, ⟨99, _⟩ => ⟨S_, .f32⟩
  | .hbm, ⟨100, _⟩ => ⟨S8x8192x8192, .f32⟩
  | .hbm, ⟨101, _⟩ => ⟨S8x8192x8192, .f32⟩
  | .hbm, ⟨102, _⟩ => ⟨S8x8192x64, .f32⟩
  | .hbm, ⟨103, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel2.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x16x1x512 : Shape := ⟨4, ![8, 16, 1, 512]⟩
abbrev S8x8192x32 : Shape := ⟨3, ![8, 8192, 32]⟩
abbrev S8x8192x128 : Shape := ⟨3, ![8, 8192, 128]⟩
abbrev S8x16x512x128 : Shape := ⟨4, ![8, 16, 512, 128]⟩
abbrev S8x16x128x512 : Shape := ⟨4, ![8, 16, 128, 512]⟩
abbrev S8192x8x64 : Shape := ⟨3, ![8192, 8, 64]⟩
abbrev S8192x512 : Shape := ⟨2, ![8192, 512]⟩
abbrev S16x512x4x128 : Shape := ⟨4, ![16, 512, 4, 128]⟩
abbrev S4x16x128x512 : Shape := ⟨4, ![4, 16, 128, 512]⟩
abbrev S8192x8x128 : Shape := ⟨3, ![8192, 8, 128]⟩
abbrev S8192x1024 : Shape := ⟨2, ![8192, 1024]⟩
abbrev S512x256 : Shape := ⟨2, ![512, 256]⟩
abbrev S512x128 : Shape := ⟨2, ![512, 128]⟩
abbrev S2x16x128x512 : Shape := ⟨4, ![2, 16, 128, 512]⟩
abbrev S1x16x128x512 : Shape := ⟨4, ![1, 16, 128, 512]⟩
abbrev S2x16x1x512 : Shape := ⟨4, ![2, 16, 1, 512]⟩
abbrev S2x1x128x512 : Shape := ⟨4, ![2, 1, 128, 512]⟩
abbrev S128x512 : Shape := ⟨2, ![128, 512]⟩
abbrev S64x512 : Shape := ⟨2, ![64, 512]⟩
abbrev S128x1 : Shape := ⟨2, ![128, 1]⟩
abbrev S1x128 : Shape := ⟨2, ![1, 128]⟩
abbrev S1x1x128x512 : Shape := ⟨4, ![1, 1, 128, 512]⟩
abbrev S1x1x1x512 : Shape := ⟨4, ![1, 1, 1, 512]⟩
abbrev S1x512 : Shape := ⟨2, ![1, 512]⟩
abbrev S256x128 : Shape := ⟨2, ![256, 128]⟩
abbrev S128x256 : Shape := ⟨2, ![128, 256]⟩
abbrev S256x256 : Shape := ⟨2, ![256, 256]⟩
abbrev S1x256 : Shape := ⟨2, ![1, 256]⟩
abbrev S64x256 : Shape := ⟨2, ![64, 256]⟩
abbrev S8x16x96x512 : Shape := ⟨4, ![8, 16, 96, 512]⟩
abbrev S8x16x512x96 : Shape := ⟨4, ![8, 16, 512, 96]⟩

abbrev nBuf : Space → Nat
  | .hbm => 77
  | .vmem => 22
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x64, .f32⟩
  | .hbm, ⟨31, _⟩ => ⟨S_, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S8x16x1x512, .f32⟩
  | .hbm, ⟨38, _⟩ => ⟨S8x8192x64, .f32⟩
  | .hbm, ⟨39, _⟩ => ⟨S_, .f32⟩
  | .hbm, ⟨40, _⟩ => ⟨S8x8192, .f32⟩
  | .hbm, ⟨41, _⟩ => ⟨S8x16x1x512, .f32⟩
  | .hbm, ⟨42, _⟩ => ⟨S_, .f32⟩
  | .hbm, ⟨43, _⟩ => ⟨S8x8192x32, .f32⟩
  | .hbm, ⟨44, _⟩ => ⟨S_, .f32⟩
  | .hbm, ⟨45, _⟩ => ⟨S8x8192x96, .f32⟩
  | .hbm, ⟨46, _⟩ => ⟨S8x8192x96, .f32⟩
  | .hbm, ⟨47, _⟩ => ⟨S8x8192x96, .f32⟩
  | .hbm, ⟨48, _⟩ => ⟨S8x8192x96, .f32⟩
  | .hbm, ⟨49, _⟩ => ⟨S8x8192x128, .f32⟩
  | .hbm, ⟨50, _⟩ => ⟨S8x8192x128, .bf16⟩
  | .hbm, ⟨51, _⟩ => ⟨S8x8192x128, .f32⟩
  | .hbm, ⟨52, _⟩ => ⟨S8x8192x128, .bf16⟩
  | .hbm, ⟨53, _⟩ => ⟨S8x16x512x128, .bf16⟩
  | .hbm, ⟨54, _⟩ => ⟨S8x16x128x512, .bf16⟩
  | .hbm, ⟨55, _⟩ => ⟨S8192x8x64, .f32⟩
  | .hbm, ⟨56, _⟩ => ⟨S8192x512, .f32⟩
  | .hbm, ⟨57, _⟩ => ⟨S8192x512, .bf16⟩
  | .hbm, ⟨58, _⟩ => ⟨S16x512x4x128, .bf16⟩
  | .hbm, ⟨59, _⟩ => ⟨S4x16x128x512, .bf16⟩
  | .hbm, ⟨60, _⟩ => ⟨S8192x8x128, .bf16⟩
  | .hbm, ⟨61, _⟩ => ⟨S8192x1024, .bf16⟩
  | .hbm, ⟨62, _⟩ => ⟨S8192x8x64, .f32⟩
  | .hbm, ⟨63, _⟩ => ⟨S8192x512, .f32⟩
  | .hbm, ⟨64, _⟩ => ⟨S8192x512, .bf16⟩
  | .hbm, ⟨65, _⟩ => ⟨S8x16x128x512, .f32⟩
  | .hbm, ⟨66, _⟩ => ⟨S8x16x128x512, .f32⟩
  | .hbm, ⟨67, _⟩ => ⟨S8192x512, .bf16⟩
  | .hbm, ⟨68, _⟩ => ⟨S8x16x96x512, .f32⟩
  | .hbm, ⟨69, _⟩ => ⟨S8x16x512x96, .f32⟩
  | .hbm, ⟨70, _⟩ => ⟨S8x8192x96, .f32⟩
  | .hbm, ⟨71, _⟩ => ⟨S8x16x96x512, .f32⟩
  | .hbm, ⟨72, _⟩ => ⟨S8x16x512x96, .f32⟩
  | .hbm, ⟨73, _⟩ => ⟨S8x8192x96, .f32⟩
  | .hbm, ⟨74, _⟩ => ⟨S8192x8x64, .bf16⟩
  | .hbm, ⟨75, _⟩ => ⟨S8x8192x64, .bf16⟩
  | .hbm, ⟨76, _⟩ => ⟨S8x8192x64, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S2x16x128x512, .bf16⟩
  | .local _ .vmem, ⟨5, _⟩ => ⟨S2x16x128x512, .bf16⟩
  | .local _ .vmem, ⟨6, _⟩ => ⟨S1x16x128x512, .bf16⟩
  | .local _ .vmem, ⟨7, _⟩ => ⟨S1x16x128x512, .bf16⟩
  | .local _ .vmem, ⟨8, _⟩ => ⟨S2x16x1x512, .f32⟩
  | .local _ .vmem, ⟨9, _⟩ => ⟨S2x16x1x512, .f32⟩
  | .local _ .vmem, ⟨10, _⟩ => ⟨S2x16x1x512, .f32⟩
  | .local _ .vmem, ⟨11, _⟩ => ⟨S2x16x1x512, .f32⟩
  | .local _ .vmem, ⟨12, _⟩ => ⟨S2x16x128x512, .f32⟩
  | .local _ .vmem, ⟨13, _⟩ => ⟨S2x16x128x512, .f32⟩
  | .local _ .vmem, ⟨14, _⟩ => ⟨S2x1x128x512, .f32⟩
  | .local _ .vmem, ⟨15, _⟩ => ⟨S2x1x128x512, .f32⟩
  | .local _ .vmem, ⟨16, _⟩ => ⟨S512x128, .bf16⟩
  | .local _ .vmem, ⟨17, _⟩ => ⟨S512x128, .bf16⟩
  | .local _ .vmem, ⟨18, _⟩ => ⟨S128x512, .f32⟩
  | .local _ .vmem, ⟨19, _⟩ => ⟨S128x512, .f32⟩
  | .local _ .vmem, ⟨20, _⟩ => ⟨S64x512, .f32⟩
  | .local _ .vmem, ⟨21, _⟩ => ⟨S64x512, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_off1 (i : grid0.Coords) : Fin 4 → Nat :=
  let c0_28 : Index := 0#32
  let arg1 : BitVec 32 := BitVec.ofNat 32 (i 1).val
  let v82 : Index := Scalar.indexCast arg1
  let c0_29 : Index := 0#32
  let c0_30 : Index := 0#32
  ![0, v82.toNat, 0, 0]
def k0_off2 (i : grid0.Coords) : Fin 4 → Nat :=
  let c0_31 : Index := 0#32
  let arg1 : BitVec 32 := BitVec.ofNat 32 (i 1).val
  let v85 : Index := Scalar.indexCast arg1
  let c0_32 : Index := 0#32
  let c0_33 : Index := 0#32
  ![0, v85.toNat, 0, 0]
def k0_off3 (i : grid0.Coords) : Fin 4 → Nat :=
  let c1 : Index := 1#32
  let arg1 : BitVec 32 := BitVec.ofNat 32 (i 1).val
  let v88 : Index := Scalar.indexCast arg1
  let c0_34 : Index := 0#32
  let c0_35 : Index := 0#32
  ![1, v88.toNat, 0, 0]
def k0_off4 (i : grid0.Coords) : Fin 4 → Nat :=
  let c0_36 : Index := 0#32
  let arg1 : BitVec 32 := BitVec.ofNat 32 (i 1).val
  let v91 : Index := Scalar.indexCast arg1
  let c0_37 : Index := 0#32
  let c0_38 : Index := 0#32
  ![0, v91.toNat, 0, 0]
def k0_off5 (i : grid0.Coords) : Fin 4 → Nat :=
  let c1_39 : Index := 1#32
  let arg1 : BitVec 32 := BitVec.ofNat 32 (i 1).val
  let v94 : Index := Scalar.indexCast arg1
  let c0_40 : Index := 0#32
  let c0_41 : Index := 0#32
  ![1, v94.toNat, 0, 0]
@[reducible] def k0_t1_loop (i : grid0.Coords) : Scf.Loop 32 :=
  let c0_i32_120 : BitVec 32 := 0#32
  let c15_i32 : BitVec 32 := 15#32
  let arg1 : BitVec 32 := BitVec.ofNat 32 (i 1).val
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let c1_i32_122 : BitVec 32 := 1#32
  ⟨c0_i32_120, v275, c1_i32_122⟩
def k0_off6 (i : grid0.Coords) (k0_t1 : Fin (k0_t1_loop i).trips) (c0_i32_154 : BitVec 32) : Fin 4 → Nat :=
  let c0_155 : Index := 0#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c1_i32_122 : BitVec 32 := 1#32
  let arg15 : BitVec 32 := Scf.iv c0_i32_120 c1_i32_122 k0_t1
  let v309 : BitVec 32 := Scalar.muli c4_i32_153 arg15
  let v310 : BitVec 32 := Scalar.addi v308 v309
  let v311 : BitVec 32 := Scalar.addi v310 c0_i32_154
  let v312 : Index := Scalar.indexCast v311
  let c0_156 : Index := 0#32
  let c0_157 : Index := 0#32
  ![0, v312.toNat, 0, 0]
def k0_off7 (i : grid0.Coords) (k0_t1 : Fin (k0_t1_loop i).trips) (c0_i32_154 : BitVec 32) : Fin 4 → Nat :=
  let c0_158 : Index := 0#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c1_i32_122 : BitVec 32 := 1#32
  let arg15 : BitVec 32 := Scf.iv c0_i32_120 c1_i32_122 k0_t1
  let v309 : BitVec 32 := Scalar.muli c4_i32_153 arg15
  let v310 : BitVec 32 := Scalar.addi v308 v309
  let v311 : BitVec 32 := Scalar.addi v310 c0_i32_154
  let v315 : Index := Scalar.indexCast v311
  let c0_159 : Index := 0#32
  let c0_160 : Index := 0#32
  ![0, v315.toNat, 0, 0]
def k0_off8 (i : grid0.Coords) (k0_t1 : Fin (k0_t1_loop i).trips) (c0_i32_154 : BitVec 32) : Fin 4 → Nat :=
  let c1_161 : Index := 1#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c1_i32_122 : BitVec 32 := 1#32
  let arg15 : BitVec 32 := Scf.iv c0_i32_120 c1_i32_122 k0_t1
  let v309 : BitVec 32 := Scalar.muli c4_i32_153 arg15
  let v310 : BitVec 32 := Scalar.addi v308 v309
  let v311 : BitVec 32 := Scalar.addi v310 c0_i32_154
  let v318 : Index := Scalar.indexCast v311
  let c0_162 : Index := 0#32
  let c0_163 : Index := 0#32
  ![1, v318.toNat, 0, 0]
def k0_off9 (i : grid0.Coords) (k0_t1 : Fin (k0_t1_loop i).trips) (c0_i32_154 : BitVec 32) : Fin 4 → Nat :=
  let c0_164 : Index := 0#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c1_i32_122 : BitVec 32 := 1#32
  let arg15 : BitVec 32 := Scf.iv c0_i32_120 c1_i32_122 k0_t1
  let v309 : BitVec 32 := Scalar.muli c4_i32_153 arg15
  let v310 : BitVec 32 := Scalar.addi v308 v309
  let v311 : BitVec 32 := Scalar.addi v310 c0_i32_154
  let v321 : Index := Scalar.indexCast v311
  let c0_165 : Index := 0#32
  let c0_166 : Index := 0#32
  ![0, v321.toNat, 0, 0]
def k0_off10 (i : grid0.Coords) (k0_t1 : Fin (k0_t1_loop i).trips) (c0_i32_154 : BitVec 32) : Fin 4 → Nat :=
  let c1_167 : Index := 1#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c1_i32_122 : BitVec 32 := 1#32
  let arg15 : BitVec 32 := Scf.iv c0_i32_120 c1_i32_122 k0_t1
  let v309 : BitVec 32 := Scalar.muli c4_i32_153 arg15
  let v310 : BitVec 32 := Scalar.addi v308 v309
  let v311 : BitVec 32 := Scalar.addi v310 c0_i32_154
  let v324 : Index := Scalar.indexCast v311
  let c0_168 : Index := 0#32
  let c0_169 : Index := 0#32
  ![1, v324.toNat, 0, 0]
@[reducible] def k0_t2_loop (i : grid0.Coords) : Scf.Loop 32 :=
  let c0_i32_120 : BitVec 32 := 0#32
  let c15_i32 : BitVec 32 := 15#32
  let arg1 : BitVec 32 := BitVec.ofNat 32 (i 1).val
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let v272 : BitVec 32 := Scalar.addi c0_i32_120 v271
  let c1_i32_123 : BitVec 32 := 1#32
  ⟨v275, v272, c1_i32_123⟩
def k0_off11 (i : grid0.Coords) (k0_t2 : Fin (k0_t2_loop i).trips) (c0_i32_154 : BitVec 32) : Fin 4 → Nat :=
  let c0_155 : Index := 0#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let c1_i32_123 : BitVec 32 := 1#32
  let arg15 : BitVec 32 := Scf.iv v275 c1_i32_123 k0_t2
  let v309 : BitVec 32 := Scalar.muli c4_i32_153 arg15
  let v310 : BitVec 32 := Scalar.addi v308 v309
  let v311 : BitVec 32 := Scalar.addi v310 c0_i32_154
  let v312 : Index := Scalar.indexCast v311
  let c0_156 : Index := 0#32
  let c0_157 : Index := 0#32
  ![0, v312.toNat, 0, 0]
def k0_off12 (i : grid0.Coords) (k0_t2 : Fin (k0_t2_loop i).trips) (c0_i32_154 : BitVec 32) : Fin 4 → Nat :=
  let c0_158 : Index := 0#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let c1_i32_123 : BitVec 32 := 1#32
  let arg15 : BitVec 32 := Scf.iv v275 c1_i32_123 k0_t2
  let v309 : BitVec 32 := Scalar.muli c4_i32_153 arg15
  let v310 : BitVec 32 := Scalar.addi v308 v309
  let v311 : BitVec 32 := Scalar.addi v310 c0_i32_154
  let v315 : Index := Scalar.indexCast v311
  let c0_159 : Index := 0#32
  let c0_160 : Index := 0#32
  ![0, v315.toNat, 0, 0]
def k0_off13 (i : grid0.Coords) (k0_t2 : Fin (k0_t2_loop i).trips) (c0_i32_154 : BitVec 32) : Fin 4 → Nat :=
  let c1_161 : Index := 1#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let c1_i32_123 : BitVec 32 := 1#32
  let arg15 : BitVec 32 := Scf.iv v275 c1_i32_123 k0_t2
  let v309 : BitVec 32 := Scalar.muli c4_i32_153 arg15
  let v310 : BitVec 32 := Scalar.addi v308 v309
  let v311 : BitVec 32 := Scalar.addi v310 c0_i32_154
  let v318 : Index := Scalar.indexCast v311
  let c0_162 : Index := 0#32
  let c0_163 : Index := 0#32
  ![1, v318.toNat, 0, 0]
def k0_off14 (i : grid0.Coords) (k0_t2 : Fin (k0_t2_loop i).trips) (c0_i32_154 : BitVec 32) : Fin 4 → Nat :=
  let c0_164 : Index := 0#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let c1_i32_123 : BitVec 32 := 1#32
  let arg15 : BitVec 32 := Scf.iv v275 c1_i32_123 k0_t2
  let v309 : BitVec 32 := Scalar.muli c4_i32_153 arg15
  let v310 : BitVec 32 := Scalar.addi v308 v309
  let v311 : BitVec 32 := Scalar.addi v310 c0_i32_154
  let v321 : Index := Scalar.indexCast v311
  let c0_165 : Index := 0#32
  let c0_166 : Index := 0#32
  ![0, v321.toNat, 0, 0]
def k0_off15 (i : grid0.Coords) (k0_t2 : Fin (k0_t2_loop i).trips) (c0_i32_154 : BitVec 32) : Fin 4 → Nat :=
  let c1_167 : Index := 1#32
  let arg1 : BitVec 32 := BitVec.ofNat 32 (i 1).val
  let c1_i32_152 : BitVec 32 := 1#32
  let v308 : BitVec 32 := Scalar.addi arg1 c1_i32_152
  let c4_i32_153 : BitVec 32 := 4#32
  let c0_i32_120 : BitVec 32 := 0#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v271 : BitVec 32 := Scalar.subi v81 c0_i32_120
  let c1_i32_121 : BitVec 32 := 1#32
  let v273 : BitVec 32 := Scalar.divsi v271 c1_i32_121
  let v274 : BitVec 32 := Scalar.muli v273 c1_i32_121
  let v275 : BitVec 32 := Scalar.addi c0_i32_120 v274
  let c1_i32_123 : BitVec 32 := 1#32
  let arg15 : BitVec 32 := Scf.iv v275 c1_i32_123 k0_t2
  let v309 : BitVec 32 := Scalar.muli c4_i32_153 arg15
  let v310 : BitVec 32 := Scalar.addi v308 v309
  let v311 : BitVec 32 := Scalar.addi v310 c0_i32_154
  let v324 : Index := Scalar.indexCast v311
  let c0_168 : Index := 0#32
  let c0_169 : Index := 0#32
  ![1, v324.toNat, 0, 0]
@[reducible] def k0_t3_loop (i : grid0.Coords) : Scf.Loop 32 :=
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let c1_i32_128 : BitVec 32 := 1#32
  ⟨v278, v283, c1_i32_128⟩
def k0_off16 (i : grid0.Coords) (k0_t3 : Fin (k0_t3_loop i).trips) : Fin 4 → Nat :=
  let c0_152 : Index := 0#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c1_i32_128 : BitVec 32 := 1#32
  let arg15 : BitVec 32 := Scf.iv v278 c1_i32_128 k0_t3
  let v308 : Index := Scalar.indexCast arg15
  let c0_153 : Index := 0#32
  let c0_154 : Index := 0#32
  ![0, v308.toNat, 0, 0]
def k0_off17 (i : grid0.Coords) (k0_t3 : Fin (k0_t3_loop i).trips) : Fin 4 → Nat :=
  let c0_155 : Index := 0#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c1_i32_128 : BitVec 32 := 1#32
  let arg15 : BitVec 32 := Scf.iv v278 c1_i32_128 k0_t3
  let v311 : Index := Scalar.indexCast arg15
  let c0_156 : Index := 0#32
  let c0_157 : Index := 0#32
  ![0, v311.toNat, 0, 0]
def k0_off18 (i : grid0.Coords) (k0_t3 : Fin (k0_t3_loop i).trips) : Fin 4 → Nat :=
  let c1_158 : Index := 1#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c1_i32_128 : BitVec 32 := 1#32
  let arg15 : BitVec 32 := Scf.iv v278 c1_i32_128 k0_t3
  let v314 : Index := Scalar.indexCast arg15
  let c0_159 : Index := 0#32
  let c0_160 : Index := 0#32
  ![1, v314.toNat, 0, 0]
def k0_off19 (i : grid0.Coords) (k0_t3 : Fin (k0_t3_loop i).trips) : Fin 4 → Nat :=
  let c0_161 : Index := 0#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c1_i32_128 : BitVec 32 := 1#32
  let arg15 : BitVec 32 := Scf.iv v278 c1_i32_128 k0_t3
  let v317 : Index := Scalar.indexCast arg15
  let c0_162 : Index := 0#32
  let c0_163 : Index := 0#32
  ![0, v317.toNat, 0, 0]
def k0_off20 (i : grid0.Coords) (k0_t3 : Fin (k0_t3_loop i).trips) : Fin 4 → Nat :=
  let c1_164 : Index := 1#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c1_i32_128 : BitVec 32 := 1#32
  let arg15 : BitVec 32 := Scf.iv v278 c1_i32_128 k0_t3
  let v320 : Index := Scalar.indexCast arg15
  let c0_165 : Index := 0#32
  let c0_166 : Index := 0#32
  ![1, v320.toNat, 0, 0]
@[reducible] def k0_t4_loop (i : grid0.Coords) : Scf.Loop 32 :=
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let v280 : BitVec 32 := Scalar.addi v278 v279
  let c1_i32_129 : BitVec 32 := 1#32
  ⟨v283, v280, c1_i32_129⟩
def k0_off21 (i : grid0.Coords) (k0_t4 : Fin (k0_t4_loop i).trips) : Fin 4 → Nat :=
  let c0_152 : Index := 0#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let c1_i32_129 : BitVec 32 := 1#32
  let arg15 : BitVec 32 := Scf.iv v283 c1_i32_129 k0_t4
  let v308 : Index := Scalar.indexCast arg15
  let c0_153 : Index := 0#32
  let c0_154 : Index := 0#32
  ![0, v308.toNat, 0, 0]
def k0_off22 (i : grid0.Coords) (k0_t4 : Fin (k0_t4_loop i).trips) : Fin 4 → Nat :=
  let c0_155 : Index := 0#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let c1_i32_129 : BitVec 32 := 1#32
  let arg15 : BitVec 32 := Scf.iv v283 c1_i32_129 k0_t4
  let v311 : Index := Scalar.indexCast arg15
  let c0_156 : Index := 0#32
  let c0_157 : Index := 0#32
  ![0, v311.toNat, 0, 0]
def k0_off23 (i : grid0.Coords) (k0_t4 : Fin (k0_t4_loop i).trips) : Fin 4 → Nat :=
  let c1_158 : Index := 1#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let c1_i32_129 : BitVec 32 := 1#32
  let arg15 : BitVec 32 := Scf.iv v283 c1_i32_129 k0_t4
  let v314 : Index := Scalar.indexCast arg15
  let c0_159 : Index := 0#32
  let c0_160 : Index := 0#32
  ![1, v314.toNat, 0, 0]
def k0_off24 (i : grid0.Coords) (k0_t4 : Fin (k0_t4_loop i).trips) : Fin 4 → Nat :=
  let c0_161 : Index := 0#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let c1_i32_129 : BitVec 32 := 1#32
  let arg15 : BitVec 32 := Scf.iv v283 c1_i32_129 k0_t4
  let v317 : Index := Scalar.indexCast arg15
  let c0_162 : Index := 0#32
  let c0_163 : Index := 0#32
  ![0, v317.toNat, 0, 0]
def k0_off25 (i : grid0.Coords) (k0_t4 : Fin (k0_t4_loop i).trips) : Fin 4 → Nat :=
  let c1_164 : Index := 1#32
  let arg1 : BitVec 32 := BitVec.ofNat 32 (i 1).val
  let c1_i32_124 : BitVec 32 := 1#32
  let v276 : BitVec 32 := Scalar.addi arg1 c1_i32_124
  let c4_i32_125 : BitVec 32 := 4#32
  let c15_i32 : BitVec 32 := 15#32
  let v64 : BitVec 32 := Scalar.subi c15_i32 arg1
  let c0_i32_23 : BitVec 32 := 0#32
  let v66 : BitVec 1 := Scalar.cmpi .sgt v64 c0_i32_23
  let v67 : BitVec 32 := Scalar.extui v66
  let c0_i32_24 : BitVec 32 := 0#32
  let v68 : BitVec 1 := Scalar.cmpi .slt v64 c0_i32_24
  let v69 : BitVec 32 := Scalar.extui v68
  let v70 : BitVec 32 := Scalar.subi v67 v69
  let c4_i32 : BitVec 32 := 4#32
  let c0_i32_25 : BitVec 32 := 0#32
  let v71 : BitVec 1 := Scalar.cmpi .sgt c4_i32 c0_i32_25
  let v72 : BitVec 32 := Scalar.extui v71
  let c0_i32_26 : BitVec 32 := 0#32
  let v73 : BitVec 1 := Scalar.cmpi .slt c4_i32 c0_i32_26
  let v74 : BitVec 32 := Scalar.extui v73
  let v75 : BitVec 32 := Scalar.subi v72 v74
  let v76 : BitVec 1 := Scalar.cmpi .ne v70 v75
  let v77 : BitVec 32 := Scalar.remsi v64 c4_i32
  let c0_i32_27 : BitVec 32 := 0#32
  let v78 : BitVec 1 := Scalar.cmpi .ne v77 c0_i32_27
  let v79 : BitVec 1 := Scalar.andi v76 v78
  let v65 : BitVec 32 := Scalar.divsi v64 c4_i32
  let c1_i32 : BitVec 32 := 1#32
  let v80 : BitVec 32 := Scalar.subi v65 c1_i32
  let v81 : BitVec 32 := Scalar.select v79 v80 v65
  let v277 : BitVec 32 := Scalar.muli c4_i32_125 v81
  let v278 : BitVec 32 := Scalar.addi v276 v277
  let c16_i32 : BitVec 32 := 16#32
  let v279 : BitVec 32 := Scalar.subi c16_i32 v278
  let c1_i32_127 : BitVec 32 := 1#32
  let v281 : BitVec 32 := Scalar.divsi v279 c1_i32_127
  let v282 : BitVec 32 := Scalar.muli v281 c1_i32_127
  let v283 : BitVec 32 := Scalar.addi v278 v282
  let c1_i32_129 : BitVec 32 := 1#32
  let arg15 : BitVec 32 := Scf.iv v283 c1_i32_129 k0_t4
  let v320 : Index := Scalar.indexCast arg15
  let c0_165 : Index := 0#32
  let c0_166 : Index := 0#32
  ![1, v320.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x16x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "ln2" => some ((Real.log 2 : ℝ) : EReal)
  | _ => none
-- ==== Reference2Ideal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x64, .f32⟩
  | .hbm, ⟨60, _⟩ => ⟨S8x64x8192, .f32⟩
  | .hbm, ⟨61, _⟩ => ⟨S8x8192x64, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8x8192x96, .f32⟩
  | .hbm, ⟨84, _⟩ => ⟨S8x8192x96, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .bf16⟩
  | .hbm, ⟨3, _⟩ => ⟨S4096x1024, .bf16⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S1024x4096 : Shape := ⟨2, ![1024, 4096]⟩
abbrev S8192x4096 : Shape := ⟨2, ![8192, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S8192x4096, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S8192x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .bf16⟩
  | .hbm, ⟨3, _⟩ => ⟨S1024x4096, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S8192x4096 : Shape := ⟨2, ![8192, 4096]⟩
abbrev S1024x4096 : Shape := ⟨2, ![1024, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .hbm, ⟨3, _⟩ => ⟨S1x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond5 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg2 : BitVec 32 := BitVec.ofNat 32 (i 2).val
  let c0_i32_5 : BitVec 32 := 0#32
  let v9 : BitVec 1 := Scalar.cmpi .sgt arg2 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference9Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096 : Shape := ⟨1, ![4096]⟩
abbrev S1x4096 : Shape := ⟨2, ![1, 4096]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .bf16⟩
  | .hbm, ⟨3, _⟩ => ⟨S1024x4096, .bf16⟩
  | .hbm, ⟨4, _⟩ => ⟨S_, .f32⟩
  | .hbm, ⟨5, _⟩ => ⟨S4096, .f32⟩
  | .hbm, ⟨6, _⟩ => ⟨S8192x1024, .f32⟩
  | .hbm, ⟨7, _⟩ => ⟨S1024x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S4096, .f32⟩
  | .hbm, ⟨15, _⟩ => ⟨S1x4096, .f32⟩
  | .hbm, ⟨16, _⟩ => ⟨S_, .f32⟩
  | .hbm, ⟨17, _⟩ => ⟨S4096, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S1x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩
abbrev S8192x128 : Shape := ⟨2, ![8192, 128]⟩
abbrev S2048x1024 : Shape := ⟨2, ![2048, 1024]⟩
abbrev S1024x1024 : Shape := ⟨2, ![1024, 1024]⟩
abbrev S1x1024 : Shape := ⟨2, ![1, 1024]⟩
abbrev S2048x128 : Shape := ⟨2, ![2048, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1x4096, .f32⟩
  | .hbm, ⟨3, _⟩ => ⟨S1x4096, .f32⟩
  | .hbm, ⟨4, _⟩ => ⟨S8192x4096, .bf16⟩
  | .hbm, ⟨5, _⟩ => ⟨S8192x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .bf16⟩
  | .local _ .vmem, ⟨9, _⟩ => ⟨S2048x1024, .bf16⟩
  | .local _ .vmem, ⟨10, _⟩ => ⟨S2048x128, .f32⟩
  | .local _ .vmem, ⟨11, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32 : BitVec 32 := 0#32
  let v11 : BitVec 1 := Scalar.cmpi .ne v10 c0_i32
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference10Ideal.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩
abbrev S8192x128 : Shape := ⟨2, ![8192, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1x4096, .f32⟩
  | .hbm, ⟨3, _⟩ => ⟨S1x4096, .f32⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S512x1024 : Shape := ⟨2, ![512, 1024]⟩
abbrev S8192x1024 : Shape := ⟨2, ![8192, 1024]⟩
abbrev S8192x512 : Shape := ⟨2, ![8192, 512]⟩
abbrev S4x16x128x512 : Shape := ⟨4, ![4, 16, 128, 512]⟩
abbrev S512x512 : Shape := ⟨2, ![512, 512]⟩
abbrev S4x1x128x512 : Shape := ⟨4, ![4, 1, 128, 512]⟩
abbrev S512x128 : Shape := ⟨2, ![512, 128]⟩
abbrev S128x512 : Shape := ⟨2, ![128, 512]⟩
abbrev S1x1x128x512 : Shape := ⟨4, ![1, 1, 128, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S8192x1024, .bf16⟩
  | .hbm, ⟨2, _⟩ => ⟨S8192x512, .bf16⟩
  | .hbm, ⟨3, _⟩ => ⟨S4x16x128x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S4x1x128x512, .bf16⟩
  | .local _ .vmem, ⟨6, _⟩ => ⟨S4x1x128x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference15Ideal.lean ====
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩
abbrev S16x512x4x128 : Shape := ⟨4, ![16, 512, 4, 128]⟩
abbrev S4x16x128x512 : Shape := ⟨4, ![4, 16, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S8192x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | .hbm, ⟨9, _⟩ => ⟨S16x512x4x128, .bf16⟩
  | .hbm, ⟨10, _⟩ => ⟨S4x16x128x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .bf16⟩
  | .hbm, ⟨3, _⟩ => ⟨S512x1024, .bf16⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S8192x256 : Shape := ⟨2, ![8192, 256]⟩
abbrev S256x1024 : Shape := ⟨2, ![256, 1024]⟩
abbrev S8192x1024 : Shape := ⟨2, ![8192, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S256x1024 : Shape := ⟨2, ![256, 1024]⟩
abbrev S8192x1024 : Shape := ⟨2, ![8192, 1024]⟩
abbrev S8192x256 : Shape := ⟨2, ![8192, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S8192x1024, .bf16⟩
  | .hbm, ⟨2, _⟩ => ⟨S8192x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S256x1024 : Shape := ⟨2, ![256, 1024]⟩
abbrev S8192x1024 : Shape := ⟨2, ![8192, 1024]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S8192x1024, .bf16⟩
  | .hbm, ⟨2, _⟩ => ⟨S_, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x256, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .bf16⟩
  | .hbm, ⟨3, _⟩ => ⟨S256x1024, .bf16⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8192x128 : Shape := ⟨2, ![8192, 128]⟩
abbrev S128x1536 : Shape := ⟨2, ![128, 1536]⟩
abbrev S8192x1536 : Shape := ⟨2, ![8192, 1536]⟩
abbrev S512x128 : Shape := ⟨2, ![512, 128]⟩
abbrev S128x512 : Shape := ⟨2, ![128, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S128x1536, .bf16⟩
  | .hbm, ⟨2, _⟩ => ⟨S8192x1536, .bf16⟩
  | .local _ .vmem, ⟨0, _⟩ => ⟨S512x128, .bf16⟩
  | .local _ .vmem, ⟨1, _⟩ => ⟨S512x128, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x128 : Shape := ⟨2, ![8192, 128]⟩
abbrev S128x1536 : Shape := ⟨2, ![128, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1536, .bf16⟩
  | .hbm, ⟨2, _⟩ => ⟨S8192x128, .f32⟩
  | .hbm, ⟨3, _⟩ => ⟨S128x1536, .f32⟩
  | .hbm, ⟨4, _⟩ => ⟨S8192x1536, .f32⟩
  | .hbm, ⟨5, _⟩ => ⟨S8192x1536, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S128x1536 : Shape := ⟨2, ![128, 1536]⟩
abbrev S8192x1536 : Shape := ⟨2, ![8192, 1536]⟩
abbrev S8192x128 : Shape := ⟨2, ![8192, 128]⟩
abbrev S512x512 : Shape := ⟨2, ![512, 512]⟩
abbrev S128x512 : Shape := ⟨2, ![128, 512]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x1536, .bf16⟩
  | .hbm, ⟨1, _⟩ => ⟨S8192x1536, .bf16⟩
  | .hbm, ⟨2, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S128x512, .bf16⟩
  | .local _ .vmem, ⟨3, _⟩ => ⟨S128x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S128x1536 : Shape := ⟨2, ![128, 1536]⟩
abbrev S8192x1536 : Shape := ⟨2, ![8192, 1536]⟩
abbrev S_ : Shape := ⟨0, ![]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S128x1536, .bf16⟩
  | .hbm, ⟨1, _⟩ => ⟨S8192x1536, .bf16⟩
  | .hbm, ⟨2, _⟩ => ⟨S_, .f32⟩
  | .hbm, ⟨3, _⟩ => ⟨S8192x128, .f32⟩
  | .hbm, ⟨4, _⟩ => ⟨S128x1536, .f32⟩
  | .hbm, ⟨5, _⟩ => ⟨S8192x1536, .f32⟩
  | .hbm, ⟨6, _⟩ => ⟨S8192x1536, .f32⟩
  | .hbm, ⟨7, _⟩ => ⟨S8192x128, .f32⟩
  | _, _ => ⟨S128x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x128 : Shape := ⟨2, ![8192, 128]⟩
abbrev S8192x1536 : Shape := ⟨2, ![8192, 1536]⟩
abbrev S128x1536 : Shape := ⟨2, ![128, 1536]⟩
abbrev S1024x128 : Shape := ⟨2, ![1024, 128]⟩
abbrev S1024x512 : Shape := ⟨2, ![1024, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .bf16⟩
  | .hbm, ⟨1, _⟩ => ⟨S8192x1536, .bf16⟩
  | .hbm, ⟨2, _⟩ => ⟨S128x1536, .bf16⟩
  | .local _ .vmem, ⟨0, _⟩ => ⟨S1024x128, .bf16⟩
  | .local _ .vmem, ⟨1, _⟩ => ⟨S1024x128, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x128 : Shape := ⟨2, ![8192, 128]⟩
abbrev S8192x1536 : Shape := ⟨2, ![8192, 1536]⟩
abbrev S_ : Shape := ⟨0, ![]⟩
abbrev S128x1536 : Shape := ⟨2, ![128, 1536]⟩
abbrev S1536x128 : Shape := ⟨2, ![1536, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1536, .bf16⟩
  | .hbm, ⟨2, _⟩ => ⟨S_, .bf16⟩
  | .hbm, ⟨3, _⟩ => ⟨S128x1536, .bf16⟩
  | .hbm, ⟨4, _⟩ => ⟨S8192x128, .f32⟩
  | .hbm, ⟨5, _⟩ => ⟨S128x1536, .f32⟩
  | .hbm, ⟨6, _⟩ => ⟨S8192x1536, .f32⟩
  | .hbm, ⟨7, _⟩ => ⟨S8192x1536, .f32⟩
  | .hbm, ⟨8, _⟩ => ⟨S1536x128, .f32⟩
  | .hbm, ⟨9, _⟩ => ⟨S128x1536, .f32⟩
  | .hbm, ⟨10, _⟩ => ⟨S128x1536, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S8192x4096 : Shape := ⟨2, ![8192, 4096]⟩
abbrev S8192x1024 : Shape := ⟨2, ![8192, 1024]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S8192x4096 : Shape := ⟨2, ![8192, 4096]⟩
abbrev S8192x1024 : Shape := ⟨2, ![8192, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel24.lean ====
abbrev S8192x4096 : Shape := ⟨2, ![8192, 4096]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S8192x4096 : Shape := ⟨2, ![8192, 4096]⟩
abbrev S8192x1024 : Shape := ⟨2, ![8192, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel25.lean ====
abbrev S8x4608x128 : Shape := ⟨3, ![8, 4608, 128]⟩
abbrev S4608x128 : Shape := ⟨2, ![4608, 128]⟩
abbrev S8x1152x128 : Shape := ⟨3, ![8, 1152, 128]⟩
abbrev S1152x128 : Shape := ⟨2, ![1152, 128]⟩
abbrev S1x1152x128 : Shape := ⟨3, ![1, 1152, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x4608x128, .bf16⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .hbm, ⟨7, _⟩ => ⟨S4608x128, .f32⟩
  | .local _ .vmem, ⟨0, _⟩ => ⟨S8x1152x128, .bf16⟩
  | .local _ .vmem, ⟨1, _⟩ => ⟨S8x1152x128, .bf16⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | .local _ .vmem, ⟨15, _⟩ => ⟨S1152x128, .f32⟩
  | _, _ => ⟨S8x4608x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1152x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x4608x128 : Shape := ⟨3, ![8, 4608, 128]⟩
abbrev S4608x128 : Shape := ⟨2, ![4608, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4608x128, .bf16⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S8x4608x128, .f32⟩
  | .hbm, ⟨5, _⟩ => ⟨S_, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S_, .f32⟩
  | .hbm, ⟨11, _⟩ => ⟨S4608x128, .f32⟩
  | .hbm, ⟨12, _⟩ => ⟨S4608x128, .f32⟩
  | .hbm, ⟨13, _⟩ => ⟨S4608x128, .f32⟩
  | .hbm, ⟨14, _⟩ => ⟨S_, .f32⟩
  | .hbm, ⟨15, _⟩ => ⟨S4608x128, .f32⟩
  | .hbm, ⟨16, _⟩ => ⟨S4608x128, .f32⟩
  | .hbm, ⟨17, _⟩ => ⟨S4608x128, .f32⟩
  | .hbm, ⟨18, _⟩ => ⟨S_, .f32⟩
  | .hbm, ⟨19, _⟩ => ⟨S4608x128, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S_, .f32⟩
  | .hbm, ⟨26, _⟩ => ⟨S4608x128, .f32⟩
  | .hbm, ⟨27, _⟩ => ⟨S4608x128, .f32⟩
  | .hbm, ⟨28, _⟩ => ⟨S4608x128, .f32⟩
  | .hbm, ⟨29, _⟩ => ⟨S_, .f32⟩
  | .hbm, ⟨30, _⟩ => ⟨S4608x128, .f32⟩
  | .hbm, ⟨31, _⟩ => ⟨S4608x128, .f32⟩
  | .hbm, ⟨32, _⟩ => ⟨S4608x128, .f32⟩
  | .hbm, ⟨33, _⟩ => ⟨S_, .f32⟩
  | .hbm, ⟨34, _⟩ => ⟨S4608x128, .f32⟩
  | .hbm, ⟨35, _⟩ => ⟨S4608x128, .f32⟩
  | .hbm, ⟨36, _⟩ => ⟨S4608x128, .f32⟩
  | .hbm, ⟨37, _⟩ => ⟨S_, .f32⟩
  | .hbm, ⟨38, _⟩ => ⟨S4608x128, .f32⟩
  | .hbm, ⟨39, _⟩ => ⟨S4608x128, .f32⟩
  | _, _ => ⟨S8x4608x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x10240x128 : Shape := ⟨3, ![8, 10240, 128]⟩
abbrev S10240x128 : Shape := ⟨2, ![10240, 128]⟩
abbrev S8x2560x128 : Shape := ⟨3, ![8, 2560, 128]⟩
abbrev S2560x128 : Shape := ⟨2, ![2560, 128]⟩
abbrev S1x2560x128 : Shape := ⟨3, ![1, 2560, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x10240x128, .bf16⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S10240x128, .f32⟩
  | .hbm, ⟨5, _⟩ => ⟨S10240x128, .f32⟩
  | .hbm, ⟨6, _⟩ => ⟨S10240x128, .f32⟩
  | .hbm, ⟨7, _⟩ => ⟨S10240x128, .f32⟩
  | .local _ .vmem, ⟨0, _⟩ => ⟨S8x2560x128, .bf16⟩
  | .local _ .vmem, ⟨1, _⟩ => ⟨S8x2560x128, .bf16⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S2560x128, .f32⟩
  | .local _ .vmem, ⟨7, _⟩ => ⟨S2560x128, .f32⟩
  | .local _ .vmem, ⟨8, _⟩ => ⟨S2560x128, .f32⟩
  | .local _ .vmem, ⟨9, _⟩ => ⟨S2560x128, .f32⟩
  | .local _ .vmem, ⟨10, _⟩ => ⟨S2560x128, .f32⟩
  | .local _ .vmem, ⟨11, _⟩ => ⟨S2560x128, .f32⟩
  | .local _ .vmem, ⟨12, _⟩ => ⟨S2560x128, .f32⟩
  | .local _ .vmem, ⟨13, _⟩ => ⟨S2560x128, .f32⟩
  | .local _ .vmem, ⟨14, _⟩ => ⟨S2560x128, .f32⟩
  | .local _ .vmem, ⟨15, _⟩ => ⟨S2560x128, .f32⟩
  | _, _ => ⟨S8x10240x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2560x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x10240x128 : Shape := ⟨3, ![8, 10240, 128]⟩
abbrev S10240x128 : Shape := ⟨2, ![10240, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x10240x128, .bf16⟩
  | .hbm, ⟨1, _⟩ => ⟨S10240x128, .f32⟩
  | .hbm, ⟨2, _⟩ => ⟨S10240x128, .f32⟩
  | .hbm, ⟨3, _⟩ => ⟨S10240x128, .f32⟩
  | .hbm, ⟨4, _⟩ => ⟨S8x10240x128, .f32⟩
  | .hbm, ⟨5, _⟩ => ⟨S_, .f32⟩
  | .hbm, ⟨6, _⟩ => ⟨S10240x128, .f32⟩
  | .hbm, ⟨7, _⟩ => ⟨S_, .f32⟩
  | .hbm, ⟨8, _⟩ => ⟨S10240x128, .f32⟩
  | .hbm, ⟨9, _⟩ => ⟨S10240x128, .f32⟩
  | .hbm, ⟨10, _⟩ => ⟨S_, .f32⟩
  | .hbm, ⟨11, _⟩ => ⟨S10240x128, .f32⟩
  | .hbm, ⟨12, _⟩ => ⟨S10240x128, .f32⟩
  | .hbm, ⟨13, _⟩ => ⟨S10240x128, .f32⟩
  | .hbm, ⟨14, _⟩ => ⟨S_, .f32⟩
  | .hbm, ⟨15, _⟩ => ⟨S10240x128, .f32⟩
  | .hbm, ⟨16, _⟩ => ⟨S10240x128, .f32⟩
  | .hbm, ⟨17, _⟩ => ⟨S10240x128, .f32⟩
  | .hbm, ⟨18, _⟩ => ⟨S_, .f32⟩
  | .hbm, ⟨19, _⟩ => ⟨S10240x128, .f32⟩
  | .hbm, ⟨20, _⟩ => ⟨S10240x128, .f32⟩
  | .hbm, ⟨21, _⟩ => ⟨S10240x128, .f32⟩
  | .hbm, ⟨22, _⟩ => ⟨S_, .f32⟩
  | .hbm, ⟨23, _⟩ => ⟨S10240x128, .f32⟩
  | .hbm, ⟨24, _⟩ => ⟨S10240x128, .f32⟩
  | .hbm, ⟨25, _⟩ => ⟨S_, .f32⟩
  | .hbm, ⟨26, _⟩ => ⟨S10240x128, .f32⟩
  | .hbm, ⟨27, _⟩ => ⟨S10240x128, .f32⟩
  | .hbm, ⟨28, _⟩ => ⟨S10240x128, .f32⟩
  | .hbm, ⟨29, _⟩ => ⟨S_, .f32⟩
  | .hbm, ⟨30, _⟩ => ⟨S10240x128, .f32⟩
  | .hbm, ⟨31, _⟩ => ⟨S10240x128, .f32⟩
  | .hbm, ⟨32, _⟩ => ⟨S10240x128, .f32⟩
  | .hbm, ⟨33, _⟩ => ⟨S_, .f32⟩
  | .hbm, ⟨34, _⟩ => ⟨S10240x128, .f32⟩
  | .hbm, ⟨35, _⟩ => ⟨S10240x128, .f32⟩
  | .hbm, ⟨36, _⟩ => ⟨S10240x128, .f32⟩
  | .hbm, ⟨37, _⟩ => ⟨S_, .f32⟩
  | .hbm, ⟨38, _⟩ => ⟨S10240x128, .f32⟩
  | .hbm, ⟨39, _⟩ => ⟨S10240x128, .f32⟩
  | _, _ => ⟨S8x10240x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Held.lean ====
/-
  Hand-written. Loads and stores stated on the value a memref holds: a load reads a rectangle of that value, a store
  replaces a rectangle of it. The rest of the proof of the attention's backward kernel runs its straight-line steps by
  these two rules, so that what a step leaves is a plain function of what it finds.
-/
module

public import Idealize.ShloMosaic.Lib.Exec
public import Idealize.ShloMosaic.Lib.Tactic
public import Idealize.ShloMosaic.Lib.Memref
public import Idealize.ShloMosaic.Lib.Pipeline.Kit

@[expose] public section

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {α : Type} {s : Shape}

/-- The rectangle `r` of the array `X`. -/
def pick (r : Rect s) (X : s.Idx → α) : r.shape.Idx → α := fun x => X (r.emb x)

open Classical in
/-- The array `X` with its rectangle `r` replaced by `w`. -/
def patch (r : Rect s) (X : s.Idx → α) (w : r.shape.Idx → α) : s.Idx → α :=
  fun y => if h : ∃ x, r.emb x = y then w h.choose else X y

/-- Inside the rectangle the patched array holds the patch. -/
theorem patch_emb (r : Rect s) (X : s.Idx → α) (w : r.shape.Idx → α) (x : r.shape.Idx) :
    patch r X w (r.emb x) = w x := by
  have h : ∃ x', r.emb x' = r.emb x := ⟨x, rfl⟩
  unfold patch
  rw [dif_pos h]
  exact congrArg w (r.emb.injective h.choose_spec)

/-- Outside the rectangle the patched array is the old one. -/
theorem patch_miss (r : Rect s) (X : s.Idx → α) (w : r.shape.Idx → α) (y : s.Idx) (h : ∀ x, r.emb x ≠ y) :
    patch r X w y = X y := by
  unfold patch
  exact dif_neg fun ⟨x, hx⟩ => h x hx

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {e : EltTy} {β : Type} {Q : β → sProp (MT nD τ sig Ix Val Name U Lvl)}

local notation "𝕄" => MT nD τ sig Ix Val Name U Lvl

/-- A load through the rectangle `r` of a memref that holds `X`: the program goes on with that rectangle of `X`. -/
theorem load {cs : CoreSpace} {m : Memref sig c.2.kind cs s e} {r : Rect s} {hl : m.view.LoadsAt r.toLoadRect}
    {k : (r.shape.Idx → Val e) → Prog (TpuEff nD τ sig Val Λ c.2) β} {q : PosShare TreeShare} {X : s.Idx → Val e} :
    (owns c m q X : sProp 𝕄)
      ⊢ iprop((owns c m q X -∗ wp frame (wpE defs 𝒱 c bd) E (k (pick r X)) Q)
        -∗ wp frame (wpE defs 𝒱 c bd) E (.op (.load m r.toLoadRect hl) k) Q) := by
  unfold owns
  iintro ⟨%f, %hf, H⟩ Hk
  have hv : m.view.readAt Val r.toLoadRect f = pick r X := by subst hf; rfl
  iapply (wp_load 𝒱 c bd E (Q := Q) (r := r.toLoadRect) (hl := hl) (k := k) (f := f) (S := m.view.set) ?hS) $$ H
  case hS => exact Finset.map_subset_map.mpr (Finset.subset_univ _)
  iintro H
  rw [hv]
  iapply Hk
  iexists f
  isplitr
  · ipureintro; exact hf
  · iexact H

/-- An unmasked store of `w` through the rectangle `r` of a memref that holds `X`: the memref then holds `X` with that
    rectangle replaced. -/
theorem store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) β} {X : s.Idx → Val e} :
    (owns c m fullShare X : sProp 𝕄)
      ⊢ iprop((owns c m fullShare (patch r X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (Q := Q) (r := r) (w := w) (hx := hx) (hm := hm) (k := k) (Mk := Finset.univ) (f := f)
    (S := m.view.set) ?hS) $$ H
  case hS =>
    intro i hi
    obtain ⟨x, -, rfl⟩ := Finset.mem_map.mp hi
    exact Finset.mem_map.mpr ⟨r.emb x, Finset.mem_univ _, rfl⟩
  iintro H
  iapply Hk
  iexists _
  isplitr
  · ipureintro
    show m.view.read Val ((m.view.slice r).write Val f w Finset.univ) = patch r X w
    subst hf
    funext y
    by_cases h : ∃ x, r.emb x = y
    · obtain ⟨x, rfl⟩ := h
      rw [patch_emb]
      exact View.read_slice_write_emb r f w (Finset.mem_univ x)
    · rw [patch_miss r _ w y fun x hx => h ⟨x, hx⟩]
      refine View.read_slice_write_of_not_mem r f w Finset.univ fun hm => ?_
      obtain ⟨x, -, hx⟩ := Finset.mem_map.mp hm
      exact h ⟨x, hx⟩
  · iexact H

end Cert.Held
-- ==== Proof.Tile.lean ====
/-
  Hand-written. One key block against one query tile of the attention's backward kernel: the values of such a step and
  the program that makes it. The kernel's loops repeat the unmasked step (`tile`); its first step of a grid point is the
  tile on the diagonal (`diag`). The lemmas at the end say that the regions the kernel's loops repeat are these programs.
-/
module

public import proofs.«01_k».proof.Proof.Held
public import proofs.«01_k».proof.Proof.Gen.KernelIdeal.Skeleton

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What a grid point takes from its key block, for the two heads: the keys, their scaled transposes, and the values
    with the other head's columns zeroed. -/
structure Keys (F : FTy → Type) where
  k0 : FVec F S512x128 .bf16
  k1 : FVec F S512x128 .bf16
  t0 : FVec F S128x512 .bf16
  t1 : FVec F S128x512 .bf16
  v0 : FVec F S512x128 .bf16
  v1 : FVec F S512x128 .bf16

/-- What a step takes from its query tile: the two heads' output cotangents (stacked), queries, log-sum-exps and row
    dots. -/
structure Row (F : FTy → Type) where
  g : FVec F S128x512 .bf16
  q0 : FVec F S128x512 .bf16
  q1 : FVec F S128x512 .bf16
  l0 : FVec F S1x512 .f32
  l1 : FVec F S1x512 .f32
  d0 : FVec F S1x512 .f32
  d1 : FVec F S1x512 .f32

section Values

/-- Half a tile's scores: keys against the queries of the half that starts at `o`. -/
def sc (k : FVec F S512x128 .bf16) (q : FVec F S128x512 .bf16) (o : Fin 2 → ℕ) (h : S128x512.Slices o S128x256) :
    FVec F S512x256 .f32 :=
  matmul dot_S512x128_S128x256_S512x256_1_0_0_1_n_n none k (extractStridedSlice S128x256 o q h)
    (constant S512x256 .f32 0x00000000#32)

/-- Half a row of per-query numbers, repeated for every key. -/
def rep (l : FVec F S1x512 .f32) (o : Fin 2 → ℕ) (h : S1x512.Slices o S1x256) : FVec F S512x256 .f32 :=
  broadcastTo S512x256 (extractStridedSlice S1x256 o l h) broadcasts_S1x256_S512x256

/-- The probabilities of half a tile from its scores. -/
def pr (s : FVec F S512x256 .f32) (l : FVec F S512x256 .f32) : FVec F S512x256 .f32 := exp2 (subf s l)

/-- The scores' gradients of half a tile: the probabilities times the values' products less the row dots. -/
def ds (p : FVec F S512x256 .f32) (e : FVec F S512x256 .f32) (d : FVec F S512x256 .f32) : FVec F S512x256 .bf16 :=
  truncf .bf16 (mulf p (subf e d)) bitsLt_bf16_f32

/-- What half a tile adds to the values' gradient. -/
def dvAdd (g : FVec F S128x512 .bf16) (o : Fin 2 → ℕ) (h : S128x512.Slices o S64x256) (p : FVec F S512x256 .f32) :
    FVec F S64x512 .f32 :=
  matmul dot_S64x256_S512x256_S64x512_1_1_0_0_n_n none (extractStridedSlice S64x256 o g h)
    (truncf .bf16 p bitsLt_bf16_f32) (constant S64x512 .f32 0x00000000#32)

/-- What half a tile adds to the keys' gradient. -/
def dkAdd (q : FVec F S128x512 .bf16) (o : Fin 2 → ℕ) (h : S128x512.Slices o S128x256) (z : FVec F S512x256 .bf16) :
    FVec F S128x512 .f32 :=
  matmul dot_S128x256_S512x256_S128x512_1_1_0_0_n_n none (extractStridedSlice S128x256 o q h) z
    (constant S128x512 .f32 0x00000000#32)

/-- What half a tile adds to the queries' gradient. -/
def dqAdd (t : FVec F S128x512 .bf16) (z : FVec F S512x256 .bf16) : FVec F S128x256 .f32 :=
  matmul dot_S128x512_S512x256_S128x256_1_0_0_1_n_n none t z (constant S128x256 .f32 0x00000000#32)

/-- The two halves of a head's share in the queries' gradient, side by side. -/
def both (x y : FVec F S128x256 .f32) : FVec F S128x512 .f32 :=
  concatenate S128x512 1 [⟨S128x256, x⟩, ⟨S128x256, y⟩] concatenates_S128x256_S128x256_S128x512_d1

/-! The first half of the diagonal tile meets the first 256 keys only. -/

/-- The first half's scores on the diagonal tile. -/
def scD (k : FVec F S512x128 .bf16) (q : FVec F S128x512 .bf16) : FVec F S256x256 .f32 :=
  matmul dot_S256x128_S128x256_S256x256_1_0_0_1_n_n none (extractStridedSlice S256x128 ![0, 0] k slices_S512x128_o0_0_S256x128)
    (extractStridedSlice S128x256 ![0, 0] q slices_S128x512_o0_0_S128x256) (constant S256x256 .f32 0x00000000#32)

/-- The first half of a row of per-query numbers, repeated for the first 256 keys. -/
def repD (l : FVec F S1x512 .f32) : FVec F S256x256 .f32 :=
  broadcastTo S256x256 (extractStridedSlice S1x256 ![0, 0] l slices_S1x512_o0_0_S1x256) broadcasts_S1x256_S256x256

/-- The first half's scores with −∞ where the key comes after the query. -/
def maskD (s : FVec F S256x256 .f32) : FVec F S256x256 .f32 :=
  select (cmpi .sge (addi (iota .tc S256x256 32 [1] iota_S256x256_d1_w32) (broadcast S256x256 0#32))
      (iota .tc S256x256 32 [0] iota_S256x256_d0_w32)) s (broadcast S256x256 (Scalar.ofBits .f32 0xFF800000#32))

/-- The second half's scores with −∞ where the key comes after the query. -/
def mask1 (s : FVec F S512x256 .f32) : FVec F S512x256 .f32 :=
  select (cmpi .sge (addi (iota .tc S512x256 32 [1] iota_S512x256_d1_w32) (broadcast S512x256 256#32))
      (iota .tc S512x256 32 [0] iota_S512x256_d0_w32)) s (broadcast S512x256 (Scalar.ofBits .f32 0xFF800000#32))

def prD (s : FVec F S256x256 .f32) (l : FVec F S256x256 .f32) : FVec F S256x256 .f32 := exp2 (subf s l)

def dsD (p : FVec F S256x256 .f32) (e : FVec F S256x256 .f32) (d : FVec F S256x256 .f32) : FVec F S256x256 .bf16 :=
  truncf .bf16 (mulf p (subf e d)) bitsLt_bf16_f32

def dvAddD (g : FVec F S128x512 .bf16) (o : Fin 2 → ℕ) (h : S128x512.Slices o S64x256) (p : FVec F S256x256 .f32) :
    FVec F S64x256 .f32 :=
  matmul dot_S64x256_S256x256_S64x256_1_1_0_0_n_n none (extractStridedSlice S64x256 o g h)
    (truncf .bf16 p bitsLt_bf16_f32) (constant S64x256 .f32 0x00000000#32)

def dkAddD (q : FVec F S128x512 .bf16) (z : FVec F S256x256 .bf16) : FVec F S128x256 .f32 :=
  matmul dot_S128x256_S256x256_S128x256_1_1_0_0_n_n none
    (extractStridedSlice S128x256 ![0, 0] q slices_S128x512_o0_0_S128x256) z (constant S128x256 .f32 0x00000000#32)

def dqAddD (t : FVec F S128x512 .bf16) (z : FVec F S256x256 .bf16) : FVec F S128x256 .f32 :=
  matmul dot_S128x256_S256x256_S128x256_1_0_0_1_n_n none
    (extractStridedSlice S128x256 ![0, 0] t slices_S128x512_o0_0_S128x256) z (constant S128x256 .f32 0x00000000#32)

/-- The updates a store makes of what was loaded: the sum, in the shapes the kernel casts to. -/
def up64 (x : FVec F S64x512 .f32) (a : Vec F S64x512 .f32) : Vec F S64x512 .f32 :=
  shapeCast S64x512 (addf a x) shapeCasts_S64x512_S64x512
def up128 (x : FVec F S128x512 .f32) (a : Vec F S128x512 .f32) : Vec F S128x512 .f32 :=
  shapeCast S128x512 (addf a x) shapeCasts_S128x512_S128x512
def up64D (x : FVec F S64x256 .f32) (a : Vec F S64x256 .f32) : Vec F S64x256 .f32 :=
  shapeCast S64x256 (addf a x) shapeCasts_S64x256_S64x256
def up128D (x : FVec F S128x256 .f32) (a : Vec F S128x256 .f32) : Vec F S128x256 .f32 :=
  shapeCast S128x256 (addf a x) shapeCasts_S128x256_S128x256
def upQ (x : FVec F S128x512 .f32) (a : Vec F S1x1x128x512 .f32) : Vec F S1x1x128x512 .f32 :=
  shapeCast S1x1x128x512 (addf (shapeCast S128x512 a shapeCasts_S1x1x128x512_S128x512) x) shapeCasts_S128x512_S1x1x128x512

/-- A head's probabilities in half a tile that the mask leaves alone. -/
def pOf (k : FVec F S512x128 .bf16) (q : FVec F S128x512 .bf16) (l : FVec F S1x512 .f32) (o : Fin 2 → ℕ)
    (h : S128x512.Slices o S128x256) (h' : S1x512.Slices o S1x256) : FVec F S512x256 .f32 := pr (sc k q o h) (rep l o h')

/-- A head's score gradients in half a tile, from the probabilities. -/
def zOf (v : FVec F S512x128 .bf16) (g : FVec F S128x512 .bf16) (d : FVec F S1x512 .f32) (o : Fin 2 → ℕ)
    (h : S128x512.Slices o S128x256) (h' : S1x512.Slices o S1x256) (p : FVec F S512x256 .f32) : FVec F S512x256 .bf16 :=
  ds p (sc v g o h) (rep d o h')

/-- A head's probabilities in the first half of the diagonal tile. -/
def pOfD (k : FVec F S512x128 .bf16) (q : FVec F S128x512 .bf16) (l : FVec F S1x512 .f32) : FVec F S256x256 .f32 :=
  prD (maskD (scD k q)) (repD l)

/-- A head's score gradients in the first half of the diagonal tile. -/
def zOfD (v : FVec F S512x128 .bf16) (g : FVec F S128x512 .bf16) (d : FVec F S1x512 .f32) (p : FVec F S256x256 .f32) :
    FVec F S256x256 .bf16 := dsD p (scD v g) (repD d)

/-- A head's probabilities in the second half of the diagonal tile. -/
def pOf1 (k : FVec F S512x128 .bf16) (q : FVec F S128x512 .bf16) (l : FVec F S1x512 .f32) : FVec F S512x256 .f32 :=
  pr (mask1 (sc k q ![0, 256] slices_S128x512_o0_256_S128x256)) (rep l ![0, 256] slices_S1x512_o0_256_S1x256)

end Values

/-! ## The programs -/

section Programs

variable {sp : CoreSpace} {s : Shape} {e : EltTy}

/-- Load a rectangle (twice: the second value is not used) and store an update of it. -/
def bump (m : Memref sig .tc sp s e) (r : Rect s) (hl : m.view.LoadsAt r.toLoadRect) (hx : (m.access r).Stores Finset.univ)
    (hm : (Finset.univ : Finset r.shape.Idx) = Finset.univ ∨ ∀ a, r.stride a = 1) (u : (r.shape.Idx → Elt F e) → (r.shape.Idx → Elt F e)) :
    Prog (TpuEff nD τ sig (Elt F) Λ₀ .tc) Unit := do
  let a ← Prog.lift (.load m r.toLoadRect hl)
  let _ ← Prog.lift (.load m r.toLoadRect hl)
  Prog.lift (.store m r (u a) Finset.univ hx hm)

/-- The four accumulators of a grid point. -/
structure Accs where
  m11 : Memref sig .tc .vmem S128x512 .f32
  m12 : Memref sig .tc .vmem S128x512 .f32
  m13 : Memref sig .tc .vmem S64x512 .f32
  m14 : Memref sig .tc .vmem S64x512 .f32

/-- The arrays a query tile is read from. -/
structure Srcs where
  m4 : Memref sig .tc .vmem S2x16x128x512 .bf16
  m5 : Memref sig .tc .vmem S1x16x128x512 .bf16
  m6 : Memref sig .tc .vmem S2x16x1x512 .f32
  m7 : Memref sig .tc .vmem S2x16x1x512 .f32

/-- Where a step's query tile lies: the offsets into the arrays, in bounds. -/
structure Offs where
  a : Fin 4 → ℕ
  b0 : Fin 4 → ℕ
  b1 : Fin 4 → ℕ
  c0 : Fin 4 → ℕ
  c1 : Fin 4 → ℕ
  ha : ∀ x, a x + S1x1x128x512.size x ≤ S1x16x128x512.size x
  hb0 : ∀ x, b0 x + S1x1x128x512.size x ≤ S2x16x128x512.size x
  hb1 : ∀ x, b1 x + S1x1x128x512.size x ≤ S2x16x128x512.size x
  hc0 : ∀ x, c0 x + S1x1x1x512.size x ≤ S2x16x1x512.size x
  hc1 : ∀ x, c1 x + S1x1x1x512.size x ≤ S2x16x1x512.size x

/-- The tile's rectangles. -/
def Offs.ra (o : Offs) : Rect S1x16x128x512 := Rect.unit o.a S1x1x128x512.size o.ha
def Offs.rb0 (o : Offs) : Rect S2x16x128x512 := Rect.unit o.b0 S1x1x128x512.size o.hb0
def Offs.rb1 (o : Offs) : Rect S2x16x128x512 := Rect.unit o.b1 S1x1x128x512.size o.hb1
def Offs.rc0 (o : Offs) : Rect S2x16x1x512 := Rect.unit o.c0 S1x1x1x512.size o.hc0
def Offs.rc1 (o : Offs) : Rect S2x16x1x512 := Rect.unit o.c1 S1x1x1x512.size o.hc1

/-- The accumulators' rectangles: whole, and their first 256 keys. -/
abbrev r64 : Rect S64x512 := Rect.unit (s := S64x512) ![0, 0] S64x512.size inb_S64x512_S64x512_0_0
abbrev r128 : Rect S128x512 := Rect.unit (s := S128x512) ![0, 0] S128x512.size inb_S128x512_S128x512_0_0
abbrev r64D : Rect S64x512 := Rect.unit (s := S64x512) ![0, 0] S64x256.size inb_S64x512_S64x256_0_0
abbrev r128D : Rect S128x512 := Rect.unit (s := S128x512) ![0, 0] S128x256.size inb_S128x512_S128x256_0_0

/-- A row from the seven rectangles read. -/
def mkRow (g q0 q1 : Vec F S1x1x128x512 .bf16) (l0 l1 d0 d1 : Vec F S1x1x1x512 .f32) : Row F where
  g := shapeCast S128x512 g shapeCasts_S1x1x128x512_S128x512
  q0 := shapeCast S128x512 q0 shapeCasts_S1x1x128x512_S128x512
  q1 := shapeCast S128x512 q1 shapeCasts_S1x1x128x512_S128x512
  l0 := shapeCast S1x512 l0 shapeCasts_S1x1x1x512_S1x512
  l1 := shapeCast S1x512 l1 shapeCasts_S1x1x1x512_S1x512
  d0 := shapeCast S1x512 d0 shapeCasts_S1x1x1x512_S1x512
  d1 := shapeCast S1x512 d1 shapeCasts_S1x1x1x512_S1x512

/-- Read a query tile. -/
def readRow (S : Srcs) (o : Offs) : Prog (TpuEff nD τ sig (Elt F) Λ₀ .tc) (Row F) := do
  let g ← Prog.lift (.load S.m5 o.ra.toLoadRect (View.loadsAt_vmem h_S1x1x128x512))
  let q0 ← Prog.lift (.load S.m4 o.rb0.toLoadRect (View.loadsAt_vmem h_S1x1x128x512))
  let q1 ← Prog.lift (.load S.m4 o.rb1.toLoadRect (View.loadsAt_vmem h_S1x1x128x512))
  let l0 ← Prog.lift (.load S.m6 o.rc0.toLoadRect (View.loadsAt_vmem h_S1x1x1x512))
  let l1 ← Prog.lift (.load S.m6 o.rc1.toLoadRect (View.loadsAt_vmem h_S1x1x1x512))
  let d0 ← Prog.lift (.load S.m7 o.rc0.toLoadRect (View.loadsAt_vmem h_S1x1x1x512))
  let d1 ← Prog.lift (.load S.m7 o.rc1.toLoadRect (View.loadsAt_vmem h_S1x1x1x512))
  pure (mkRow g q0 q1 l0 l1 d0 d1)

/-- Add to a head's two accumulators. -/
def add (mv : Memref sig .tc .vmem S64x512 .f32) (mk : Memref sig .tc .vmem S128x512 .f32) (x : FVec F S64x512 .f32)
    (y : FVec F S128x512 .f32) : Prog (TpuEff nD τ sig (Elt F) Λ₀ .tc) Unit := do
  bump mv r64 (View.loadsAt_vmem h_S64x512) (View.stores_vmem_bits_univ h_S64x512 rfl) (.inl rfl) (up64 x)
  bump mk r128 (View.loadsAt_vmem h_S128x512) (View.stores_vmem_bits_univ h_S128x512 rfl) (.inl rfl) (up128 y)

/-- Add to the first 256 keys of a head's two accumulators. -/
def addD (mv : Memref sig .tc .vmem S64x512 .f32) (mk : Memref sig .tc .vmem S128x512 .f32) (x : FVec F S64x256 .f32)
    (y : FVec F S128x256 .f32) : Prog (TpuEff nD τ sig (Elt F) Λ₀ .tc) Unit := do
  bump mv r64D (View.loadsAt_vmem h_S64x256) (View.stores_vmem_bits_univ h_S64x256 rfl) (.inl rfl) (up64D x)
  bump mk r128D (View.loadsAt_vmem h_S128x256) (View.stores_vmem_bits_univ h_S128x256 rfl) (.inl rfl) (up128D y)

/-- Add the two heads' shares to the queries' gradient. -/
def addQ (m8 : Memref sig .tc .vmem S2x16x128x512 .f32) (o : Offs) (x y : FVec F S128x512 .f32) :
    Prog (TpuEff nD τ sig (Elt F) Λ₀ .tc) Unit := do
  bump m8 o.rb0 (View.loadsAt_vmem h_S1x1x128x512) (View.stores_vmem_bits_univ h_S1x1x128x512 rfl) (.inl rfl) (upQ x)
  bump m8 o.rb1 (View.loadsAt_vmem h_S1x1x128x512) (View.stores_vmem_bits_univ h_S1x1x128x512 rfl) (.inl rfl) (upQ y)

/-- What one step's arithmetic gives, head by head and half by half. -/
structure Parts (F : FTy → Type) where
  x00 : FVec F S64x512 .f32
  y00 : FVec F S128x512 .f32
  x01 : FVec F S64x512 .f32
  y01 : FVec F S128x512 .f32
  x10 : FVec F S64x512 .f32
  y10 : FVec F S128x512 .f32
  x11 : FVec F S64x512 .f32
  y11 : FVec F S128x512 .f32
  w0 : FVec F S128x512 .f32
  w1 : FVec F S128x512 .f32

/-- The shares of the unmasked step. -/
def tileParts (K : Keys F) (R : Row F) : Parts F :=
  let o0 := slices_S128x512_o0_0_S128x256
  let o1 := slices_S128x512_o0_256_S128x256
  let c0 := slices_S1x512_o0_0_S1x256
  let c1 := slices_S1x512_o0_256_S1x256
  let p00 := pOf K.k0 R.q0 R.l0 ![0, 0] o0 c0
  let z00 := zOf K.v0 R.g R.d0 ![0, 0] o0 c0 p00
  let p01 := pOf K.k0 R.q0 R.l0 ![0, 256] o1 c1
  let z01 := zOf K.v0 R.g R.d0 ![0, 256] o1 c1 p01
  let p10 := pOf K.k1 R.q1 R.l1 ![0, 0] o0 c0
  let z10 := zOf K.v1 R.g R.d1 ![0, 0] o0 c0 p10
  let p11 := pOf K.k1 R.q1 R.l1 ![0, 256] o1 c1
  let z11 := zOf K.v1 R.g R.d1 ![0, 256] o1 c1 p11
  { x00 := dvAdd R.g ![0, 0] slices_S128x512_o0_0_S64x256 p00, y00 := dkAdd R.q0 ![0, 0] o0 z00
    x01 := dvAdd R.g ![0, 256] slices_S128x512_o0_256_S64x256 p01, y01 := dkAdd R.q0 ![0, 256] o1 z01
    x10 := dvAdd R.g ![64, 0] slices_S128x512_o64_0_S64x256 p10, y10 := dkAdd R.q1 ![0, 0] o0 z10
    x11 := dvAdd R.g ![64, 256] slices_S128x512_o64_256_S64x256 p11, y11 := dkAdd R.q1 ![0, 256] o1 z11
    w0 := both (dqAdd K.t0 z00) (dqAdd K.t0 z01), w1 := both (dqAdd K.t1 z10) (dqAdd K.t1 z11) }

/-- The unmasked step. -/
def tile (K : Keys F) (S : Srcs) (A : Accs) (m8 : Memref sig .tc .vmem S2x16x128x512 .f32) (o : Offs) :
    Prog (TpuEff nD τ sig (Elt F) Λ₀ .tc) Unit := do
  let R ← readRow S o
  add A.m13 A.m11 (tileParts K R).x00 (tileParts K R).y00
  add A.m13 A.m11 (tileParts K R).x01 (tileParts K R).y01
  add A.m14 A.m12 (tileParts K R).x10 (tileParts K R).y10
  add A.m14 A.m12 (tileParts K R).x11 (tileParts K R).y11
  addQ m8 o (tileParts K R).w0 (tileParts K R).w1

/-- What the diagonal step's arithmetic gives. -/
structure DParts (F : FTy → Type) where
  x00 : FVec F S64x256 .f32
  y00 : FVec F S128x256 .f32
  x01 : FVec F S64x512 .f32
  y01 : FVec F S128x512 .f32
  x10 : FVec F S64x256 .f32
  y10 : FVec F S128x256 .f32
  x11 : FVec F S64x512 .f32
  y11 : FVec F S128x512 .f32
  w0 : FVec F S128x512 .f32
  w1 : FVec F S128x512 .f32

/-- The shares of the diagonal step. -/
def diagParts (K : Keys F) (R : Row F) : DParts F :=
  let o1 := slices_S128x512_o0_256_S128x256
  let c1 := slices_S1x512_o0_256_S1x256
  let p00 := pOfD K.k0 R.q0 R.l0
  let z00 := zOfD K.v0 R.g R.d0 p00
  let p01 := pOf1 K.k0 R.q0 R.l0
  let z01 := zOf K.v0 R.g R.d0 ![0, 256] o1 c1 p01
  let p10 := pOfD K.k1 R.q1 R.l1
  let z10 := zOfD K.v1 R.g R.d1 p10
  let p11 := pOf1 K.k1 R.q1 R.l1
  let z11 := zOf K.v1 R.g R.d1 ![0, 256] o1 c1 p11
  { x00 := dvAddD R.g ![0, 0] slices_S128x512_o0_0_S64x256 p00, y00 := dkAddD R.q0 z00
    x01 := dvAdd R.g ![0, 256] slices_S128x512_o0_256_S64x256 p01, y01 := dkAdd R.q0 ![0, 256] o1 z01
    x10 := dvAddD R.g ![64, 0] slices_S128x512_o64_0_S64x256 p10, y10 := dkAddD R.q1 z10
    x11 := dvAdd R.g ![64, 256] slices_S128x512_o64_256_S64x256 p11, y11 := dkAdd R.q1 ![0, 256] o1 z11
    w0 := both (dqAddD K.t0 z00) (dqAdd K.t0 z01), w1 := both (dqAddD K.t1 z10) (dqAdd K.t1 z11) }

/-- The diagonal step. -/
def diag (K : Keys F) (S : Srcs) (A : Accs) (m8 : Memref sig .tc .vmem S2x16x128x512 .f32) (o : Offs) :
    Prog (TpuEff nD τ sig (Elt F) Λ₀ .tc) Unit := do
  let R ← readRow S o
  addD A.m13 A.m11 (diagParts K R).x00 (diagParts K R).y00
  add A.m13 A.m11 (diagParts K R).x01 (diagParts K R).y01
  addD A.m14 A.m12 (diagParts K R).x10 (diagParts K R).y10
  add A.m14 A.m12 (diagParts K R).x11 (diagParts K R).y11
  addQ m8 o (diagParts K R).w0 (diagParts K R).w1

end Programs

/-! ## The kernel's regions are these programs -/

section Regions

variable (i : grid0.Coords) (arg2 : Memref sig .tc .vmem S512x256 .bf16) (harg2 : arg2.IsWhole) (arg3 : Memref sig .tc .vmem S512x128 .bf16) (harg3 : arg3.IsWhole) (arg4 : Memref sig .tc .vmem S2x16x128x512 .bf16) (harg4 : arg4.IsWhole) (arg5 : Memref sig .tc .vmem S1x16x128x512 .bf16) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S2x16x128x512 .f32) (harg8 : arg8.IsWhole) (arg9 : Memref sig .tc .vmem S2x1x128x512 .f32) (harg9 : arg9.IsWhole) (arg10 : Memref sig .tc .vmem S512x128 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S64x512 .f32) (harg13 : arg13.IsWhole) (arg14 : Memref sig .tc .vmem S64x512 .f32) (harg14 : arg14.IsWhole)
variable (arg1 : BitVec 32) (v7 : FVec F S512x128 .bf16) (v8 : FVec F S512x128 .bf16) (v11 : IVec S128x1 1) (v19 : FVec F S128x512 .bf16) (v27 : FVec F S128x512 .bf16) (v37 : FVec F S512x128 .bf16) (v47 : FVec F S512x128 .bf16) (v81 : BitVec 32) (c0_i32_121 : BitVec 32)

/-- The offsets of the loops' trips: of the four tiles of a trip of the first, and of the one tile of the third. -/
def offs1 (k : Fin (k0_t1_loop i).trips) (w : Fin 4) : Offs :=
  ⟨k0_off6 i k (BitVec.ofNat 32 w.val), k0_off7 i k (BitVec.ofNat 32 w.val), k0_off8 i k (BitVec.ofNat 32 w.val),
    k0_off9 i k (BitVec.ofNat 32 w.val), k0_off10 i k (BitVec.ofNat 32 w.val),
    k0_off6_inb i k w, k0_off7_inb i k w, k0_off8_inb i k w, k0_off9_inb i k w, k0_off10_inb i k w⟩
def offs2 (k : Fin (k0_t2_loop i).trips) (w : Fin 4) : Offs :=
  ⟨k0_off11 i k (BitVec.ofNat 32 w.val), k0_off12 i k (BitVec.ofNat 32 w.val), k0_off13 i k (BitVec.ofNat 32 w.val),
    k0_off14 i k (BitVec.ofNat 32 w.val), k0_off15 i k (BitVec.ofNat 32 w.val),
    k0_off11_inb i k w, k0_off12_inb i k w, k0_off13_inb i k w, k0_off14_inb i k w, k0_off15_inb i k w⟩
def offs3 (k : Fin (k0_t3_loop i).trips) : Offs :=
  ⟨k0_off16 i k, k0_off17 i k, k0_off18 i k, k0_off19 i k, k0_off20 i k, k0_off16_inb i k, k0_off17_inb i k, k0_off18_inb i k, k0_off19_inb i k, k0_off20_inb i k⟩
def offs4 (k : Fin (k0_t4_loop i).trips) : Offs :=
  ⟨k0_off21 i k, k0_off22 i k, k0_off23 i k, k0_off24 i k, k0_off25 i k, k0_off21_inb i k, k0_off22_inb i k, k0_off23_inb i k, k0_off24_inb i k, k0_off25_inb i k⟩

/-- Four unmasked steps one after another. -/
def tiles4 (K : Keys F) (S : Srcs) (A : Accs) (m8 : Memref sig .tc .vmem S2x16x128x512 .f32) (o : Fin 4 → Offs) :
    Prog (TpuEff nD τ sig (Elt F) Λ₀ .tc) Unit := do
  tile K S A m8 (o 0)
  tile K S A m8 (o 1)
  tile K S A m8 (o 2)
  tile K S A m8 (o 3)

set_option maxHeartbeats 0 in
/-- The first loop's region is four unmasked steps. -/
theorem t1_eq (k : Fin (k0_t1_loop i).trips) :
    k0_t1_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 k ()
      = tiles4 ⟨v7, v8, v19, v27, v37, v47⟩ ⟨arg4, arg5, arg6, arg7⟩ ⟨arg11, arg12, arg13, arg14⟩ arg8 (offs1 i k) := rfl

set_option maxHeartbeats 0 in
/-- The second loop's region is four unmasked steps. -/
theorem t2_eq (v275 : BitVec 32) (k : Fin (k0_t2_loop i).trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 v275 k ()
      = tiles4 ⟨v7, v8, v19, v27, v37, v47⟩ ⟨arg4, arg5, arg6, arg7⟩ ⟨arg11, arg12, arg13, arg14⟩ arg8 (offs2 i k) := rfl

/-- The third loop's region is one unmasked step. -/
theorem t3_eq (v278 : BitVec 32) (k : Fin (k0_t3_loop i).trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 v278 k ()
      = tile ⟨v7, v8, v19, v27, v37, v47⟩ ⟨arg4, arg5, arg6, arg7⟩ ⟨arg11, arg12, arg13, arg14⟩ arg8 (offs3 i k) := rfl

/-- The fourth loop's region is one unmasked step. -/
theorem t4_eq (v283 : BitVec 32) (k : Fin (k0_t4_loop i).trips) :
    k0_t4_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 v283 k ()
      = tile ⟨v7, v8, v19, v27, v37, v47⟩ ⟨arg4, arg5, arg6, arg7⟩ ⟨arg11, arg12, arg13, arg14⟩ arg8 (offs4 i k) := rfl

end Regions

end Cert.KernelIdeal.Hand
-- ==== Proof.Body.lean ====
/-
  Hand-written. The whole grid point of the attention's backward kernel, as a short program: zero the queries' gradient
  at the head pair's first point, read the key block, zero the four accumulators, make the diagonal step, repeat the
  unmasked step down the column of tiles, and write the keys' and values' gradients out.
-/
module

public import proofs.«01_k».proof.Proof.Tile

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Which rows of an augmented head are its 64 true ones. -/
def trueRows : IVec S128x1 1 := cmpi .slt (iota .tc S128x1 32 [0] iota_S128x1_d0_w32) (broadcast S128x1 64#32)

/-- A head's keys, transposed and with the true rows scaled. -/
def scaled (k : FVec F S512x128 .bf16) : FVec F S128x512 .bf16 :=
  truncf .bf16 (mulf (transpose S128x512 [1, 0] (extf .f32 k bitsLt_bf16_f32) transposes_S512x128_p1_0_S128x512)
    (broadcastTo S128x512 (select trueRows (broadcast S128x1 (Scalar.ofBits .f32 0x3E000000#32))
      (broadcast S128x1 (Scalar.ofBits .f32 0x3F800000#32))) broadcasts_S128x1_S128x512)) bitsLt_bf16_f32

/-- The columns of the values between `lo` and `hi`, the others zero. -/
def columns (lo hi : BitVec 32) (v : FVec F S512x128 .bf16) : FVec F S512x128 .bf16 :=
  select (broadcastTo S512x128 (shapeCast S1x128 (andi
      (cmpi .sge (iota .tc S1x128 32 [1] iota_S1x128_d1_w32) (broadcast S1x128 lo))
      (cmpi .slt (iota .tc S1x128 32 [1] iota_S1x128_d1_w32) (broadcast S1x128 hi))) shapeCasts_S1x128_S1x128)
    broadcasts_S1x128_S512x128) v (broadcast S512x128 (Scalar.ofBits .bf16 0x0000#16))

/-- What a grid point takes from the key block it reads. -/
def keysOf (kb : Vec F S512x256 .bf16) (vb : Vec F S512x128 .bf16) : Keys F :=
  let k4 := shapeCast S512x256 kb shapeCasts_S512x256_S512x256
  let v6 := shapeCast S512x128 vb shapeCasts_S512x128_S512x128
  let k0 := extractStridedSlice S512x128 ![0, 0] k4 slices_S512x256_o0_0_S512x128
  let k1 := extractStridedSlice S512x128 ![0, 128] k4 slices_S512x256_o0_128_S512x128
  { k0 := k0, k1 := k1, t0 := scaled k0, t1 := scaled k1, v0 := columns 0#32 64#32 v6, v1 := columns 64#32 128#32 v6 }

abbrev rQ : Rect S2x16x128x512 := Rect.unit (s := S2x16x128x512) ![0, 0, 0, 0] S2x16x128x512.size inb_S2x16x128x512_S2x16x128x512_0_0_0_0
abbrev rKb : Rect S512x256 := Rect.unit (s := S512x256) ![0, 0] S512x256.size inb_S512x256_S512x256_0_0
abbrev rVb : Rect S512x128 := Rect.unit (s := S512x128) ![0, 0] S512x128.size inb_S512x128_S512x128_0_0
abbrev rH0 : Rect S2x1x128x512 := Rect.unit (s := S2x1x128x512) ![0, 0, 0, 0] S1x1x128x512.size inb_S2x1x128x512_S1x1x128x512_0_0_0_0
abbrev rH1 : Rect S2x1x128x512 := Rect.unit (s := S2x1x128x512) ![1, 0, 0, 0] S1x1x128x512.size inb_S2x1x128x512_S1x1x128x512_1_0_0_0

/-- The zeros the queries' gradient and the accumulators begin from. -/
def zeroQ : FVec F S2x16x128x512 .f32 := broadcast S2x16x128x512 (Scalar.ofBits .f32 0x00000000#32)
def zero128 : FVec F S128x512 .f32 :=
  shapeCast S128x512 (broadcast S128x512 (Scalar.ofBits .f32 0x00000000#32) : FVec F S128x512 .f32) shapeCasts_S128x512_S128x512
def zero64 : FVec F S64x512 .f32 :=
  shapeCast S64x512 (broadcast S64x512 (Scalar.ofBits .f32 0x00000000#32) : FVec F S64x512 .f32) shapeCasts_S64x512_S64x512

/-- Whether the point is the head pair's first. -/
def isFirst (i : grid0.Coords) : BitVec 1 :=
  Scalar.cmpi .ne (Scalar.extui (Scalar.cmpi .eq (BitVec.ofNat 32 (i 1).val) 0#32) : BitVec 32) 0#32

/-- Zero the queries' gradient. -/
def clearQ (m8 : Memref sig .tc .vmem S2x16x128x512 .f32) : Prog (TpuEff nD τ sig (Elt F) Λ₀ .tc) PUnit := do
  let _ ← Prog.lift (.load m8 rQ.toLoadRect (View.loadsAt_vmem h_S2x16x128x512))
  Prog.lift (.store m8 rQ zeroQ Finset.univ (View.stores_vmem_bits_univ h_S2x16x128x512 rfl) (.inl rfl))

/-- Zero the queries' gradient at the head pair's first point. -/
def startQ (i : grid0.Coords) (m8 : Memref sig .tc .vmem S2x16x128x512 .f32) : Prog (TpuEff nD τ sig (Elt F) Λ₀ .tc) PUnit :=
  if isFirst i = 1#1 then clearQ m8 else pure ⟨⟩

/-- Zero an accumulator. -/
def clear128 (m : Memref sig .tc .vmem S128x512 .f32) : Prog (TpuEff nD τ sig (Elt F) Λ₀ .tc) PUnit := do
  let _ ← Prog.lift (.load m r128.toLoadRect (View.loadsAt_vmem h_S128x512))
  Prog.lift (.store m r128 zero128 Finset.univ (View.stores_vmem_bits_univ h_S128x512 rfl) (.inl rfl))
def clear64 (m : Memref sig .tc .vmem S64x512 .f32) : Prog (TpuEff nD τ sig (Elt F) Λ₀ .tc) PUnit := do
  let _ ← Prog.lift (.load m r64.toLoadRect (View.loadsAt_vmem h_S64x512))
  Prog.lift (.store m r64 zero64 Finset.univ (View.stores_vmem_bits_univ h_S64x512 rfl) (.inl rfl))

/-- Zero the four accumulators. -/
def clearAccs (A : Accs) : Prog (TpuEff nD τ sig (Elt F) Λ₀ .tc) PUnit := do
  clear128 A.m11
  clear64 A.m13
  clear128 A.m12
  clear64 A.m14

/-- The factor of a head's key gradient: log 2 on the true rows, one on the others. -/
def lnRows : FVec F S128x512 .f32 :=
  broadcastTo S128x512 (select trueRows (broadcast S128x1 (Named.named κ "ln2" 0x3F317218#32 : F .f32))
    (broadcast S128x1 (Scalar.ofBits .f32 0x3F800000#32))) broadcasts_S128x1_S128x512

/-- A head's key gradient as written out. -/
def outK (a : Vec F S128x512 .f32) : FVec F S1x1x128x512 .f32 :=
  shapeCast S1x1x128x512 (mulf a lnRows) shapeCasts_S128x512_S1x1x128x512

/-- The two heads' value gradients as written out. -/
def outV (a b : Vec F S64x512 .f32) : FVec F S512x128 .bf16 :=
  truncf .bf16 (transpose S512x128 [1, 0]
    (concatenate S128x512 0 [⟨S64x512, a⟩, ⟨S64x512, b⟩] concatenates_S64x512_S64x512_S128x512_d0)
    transposes_S128x512_p1_0_S512x128) bitsLt_bf16_f32

/-- Write the key block's gradients out. -/
def finish (A : Accs) (m9 : Memref sig .tc .vmem S2x1x128x512 .f32) (m10 : Memref sig .tc .vmem S512x128 .bf16)
    (h10 : m10.IsWhole) : Prog (TpuEff nD τ sig (Elt F) Λ₀ .tc) PUnit := do
  let a ← Prog.lift (.load A.m11 r128.toLoadRect (View.loadsAt_vmem h_S128x512))
  let _ ← Prog.lift (.load m9 rH0.toLoadRect (View.loadsAt_vmem h_S1x1x128x512))
  Prog.lift (.store m9 rH0 (outK (F := F) a) Finset.univ (View.stores_vmem_bits_univ h_S1x1x128x512 rfl) (.inl rfl))
  let b ← Prog.lift (.load A.m12 r128.toLoadRect (View.loadsAt_vmem h_S128x512))
  let _ ← Prog.lift (.load m9 rH1.toLoadRect (View.loadsAt_vmem h_S1x1x128x512))
  Prog.lift (.store m9 rH1 (outK (F := F) b) Finset.univ (View.stores_vmem_bits_univ h_S1x1x128x512 rfl) (.inl rfl))
  let x ← Prog.lift (.load A.m13 r64.toLoadRect (View.loadsAt_vmem h_S64x512))
  let y ← Prog.lift (.load A.m14 r64.toLoadRect (View.loadsAt_vmem h_S64x512))
  let _ ← Prog.lift (.load m10 rVb.toLoadRect (View.loadsAt_vmem h_S512x128))
  Prog.lift (.store m10 rVb (outV (F := F) x y) Finset.univ
    (View.stores_vmem h_S512x128 (h10.storeExact_slice rfl _ packedbf16_S512x128_S512x128_0_0) (fun _ => rfl)) (.inl rfl))
  pure ⟨⟩

/-- The diagonal step's offsets. -/
def offsD (i : grid0.Coords) : Offs :=
  ⟨k0_off1 i, k0_off2 i, k0_off3 i, k0_off4 i, k0_off5 i, k0_off1_inb i, k0_off2_inb i, k0_off3_inb i, k0_off4_inb i, k0_off5_inb i⟩

/-- The steps below the diagonal. -/
def column (i : grid0.Coords) (K : Keys F) (S : Srcs) (A : Accs) (m8 : Memref sig .tc .vmem S2x16x128x512 .f32) :
    Prog (TpuEff nD τ sig (Elt F) Λ₀ .tc) PUnit := do
  Scf.Loop.for (k0_t1_loop i) (k0_t1_ok i) ⟨⟩ (fun k _ => tiles4 K S A m8 (offs1 i k))
  Scf.Loop.for (k0_t2_loop i) (k0_t2_ok i) ⟨⟩ (fun k _ => tiles4 K S A m8 (offs2 i k))
  Scf.Loop.for (k0_t3_loop i) (k0_t3_ok i) ⟨⟩ (fun k _ => tile K S A m8 (offs3 i k))
  Scf.Loop.for (k0_t4_loop i) (k0_t4_ok i) ⟨⟩ (fun k _ => tile K S A m8 (offs4 i k))

/-- A grid point after the queries' gradient is made ready. -/
def point (i : grid0.Coords) (S : Srcs) (A : Accs) (m2 : Memref sig .tc .vmem S512x256 .bf16) (m3 : Memref sig .tc .vmem S512x128 .bf16)
    (m8 : Memref sig .tc .vmem S2x16x128x512 .f32)
    (m9 : Memref sig .tc .vmem S2x1x128x512 .f32) (m10 : Memref sig .tc .vmem S512x128 .bf16)
    (h10 : m10.IsWhole) : Prog (TpuEff nD τ sig (Elt F) Λ₀ .tc) PUnit := do
  let kb ← Prog.lift (.load m2 rKb.toLoadRect (View.loadsAt_vmem h_S512x256))
  let vb ← Prog.lift (.load m3 rVb.toLoadRect (View.loadsAt_vmem h_S512x128))
  clearAccs A
  diag (keysOf kb vb) S A m8 (offsD i)
  column i (keysOf kb vb) S A m8
  finish A m9 m10 h10

section
variable (i : grid0.Coords) (arg2 : Memref sig .tc .vmem S512x256 .bf16) (harg2 : arg2.IsWhole) (arg3 : Memref sig .tc .vmem S512x128 .bf16) (harg3 : arg3.IsWhole) (arg4 : Memref sig .tc .vmem S2x16x128x512 .bf16) (harg4 : arg4.IsWhole) (arg5 : Memref sig .tc .vmem S1x16x128x512 .bf16) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S2x16x128x512 .f32) (harg8 : arg8.IsWhole) (arg9 : Memref sig .tc .vmem S2x1x128x512 .f32) (harg9 : arg9.IsWhole) (arg10 : Memref sig .tc .vmem S512x128 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S64x512 .f32) (harg13 : arg13.IsWhole) (arg14 : Memref sig .tc .vmem S64x512 .f32) (harg14 : arg14.IsWhole)

/-- The first piece of the function's text after its conditional: read the key block and prepare it. -/
def prepare : Prog (TpuEff nD τ sig (Elt F) Λ₀ .tc)
    (Σ' (arg1 : BitVec 32) (v6 : FVec F S512x128 .bf16) (v7 : FVec F S512x128 .bf16) (v8 : FVec F S512x128 .bf16) (v11 : IVec S128x1 1) (v19 : FVec F S128x512 .bf16) (v27 : FVec F S128x512 .bf16) (v37 : FVec F S512x128 .bf16) (v38 : IVec S1x128 32) (v40 : IVec S1x128 1), BitVec 32) := do
  let kb ← Prog.lift (.load arg2 rKb.toLoadRect (View.loadsAt_vmem h_S512x256))
  let vb ← Prog.lift (.load arg3 rVb.toLoadRect (View.loadsAt_vmem h_S512x128))
  pure ⟨BitVec.ofNat 32 (i 1).val, shapeCast S512x128 vb shapeCasts_S512x128_S512x128, (keysOf kb vb).k0, (keysOf kb vb).k1,
    trueRows, (keysOf kb vb).t0, (keysOf kb vb).t1, (keysOf kb vb).v0, iota .tc S1x128 32 [1] iota_S1x128_d1_w32,
    cmpi .sge (iota .tc S1x128 32 [1] iota_S1x128_d1_w32) (broadcast S1x128 64#32), 128#32⟩

/-- The first piece of the function's text at the head pair's first point. -/
theorem part_pos (h : isFirst i = 1#1) :
    k0_part43 (F := F) i arg2 harg2 arg3 harg3 arg4 harg4 arg5 harg5 arg6 harg6 arg7 harg7 arg8 harg8 arg9 harg9 arg10 harg10 arg11 harg11 arg12 harg12 arg13 harg13 arg14 harg14 = (clearQ arg8 >>= fun _ => prepare i arg2 arg3) := dif_pos h

/-- The first piece of the function's text at the other points. -/
theorem part_neg (h : ¬ isFirst i = 1#1) :
    k0_part43 (F := F) i arg2 harg2 arg3 harg3 arg4 harg4 arg5 harg5 arg6 harg6 arg7 harg7 arg8 harg8 arg9 harg9 arg10 harg10 arg11 harg11 arg12 harg12 arg13 harg13 arg14 harg14 = prepare i arg2 arg3 := dif_neg h

/-- The first loop's regions, as one function. -/
theorem loop1_eq (arg1 v81 c0_i32_121 : BitVec 32) (v11 : IVec S128x1 1) (v7 v8 v37 v47 : FVec F S512x128 .bf16) (v19 v27 : FVec F S128x512 .bf16) :
    k0_t1_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121
      = fun k _ => tiles4 ⟨v7, v8, v19, v27, v37, v47⟩ ⟨arg4, arg5, arg6, arg7⟩ ⟨arg11, arg12, arg13, arg14⟩ arg8 (offs1 i k) :=
  funext fun k => funext fun _ => t1_eq ..

/-- The second loop's regions, as one function. -/
theorem loop2_eq (arg1 v81 c0_i32_121 x : BitVec 32) (v11 : IVec S128x1 1) (v7 v8 v37 v47 : FVec F S512x128 .bf16) (v19 v27 : FVec F S128x512 .bf16) :
    k0_t2_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 x
      = fun k _ => tiles4 ⟨v7, v8, v19, v27, v37, v47⟩ ⟨arg4, arg5, arg6, arg7⟩ ⟨arg11, arg12, arg13, arg14⟩ arg8 (offs2 i k) :=
  funext fun k => funext fun _ => t2_eq ..

/-- The third loop's regions, as one function. -/
theorem loop3_eq (arg1 v81 c0_i32_121 x : BitVec 32) (v11 : IVec S128x1 1) (v7 v8 v37 v47 : FVec F S512x128 .bf16) (v19 v27 : FVec F S128x512 .bf16) :
    k0_t3_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 x
      = fun k _ => tile ⟨v7, v8, v19, v27, v37, v47⟩ ⟨arg4, arg5, arg6, arg7⟩ ⟨arg11, arg12, arg13, arg14⟩ arg8 (offs3 i k) :=
  funext fun k => funext fun _ => t3_eq ..

/-- The fourth loop's regions, as one function. -/
theorem loop4_eq (arg1 v81 c0_i32_121 x : BitVec 32) (v11 : IVec S128x1 1) (v7 v8 v37 v47 : FVec F S512x128 .bf16) (v19 v27 : FVec F S128x512 .bf16) :
    k0_t4_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 x
      = fun k _ => tile ⟨v7, v8, v19, v27, v37, v47⟩ ⟨arg4, arg5, arg6, arg7⟩ ⟨arg11, arg12, arg13, arg14⟩ arg8 (offs4 i k) :=
  funext fun k => funext fun _ => t4_eq ..

/-- The function's text from its loops to its last piece. -/
def lastPart (K : Keys F) (S : Srcs) (A : Accs) (m8 : Memref sig .tc .vmem S2x16x128x512 .f32) (m9 : Memref sig .tc .vmem S2x1x128x512 .f32) (v11 : IVec S128x1 1) :
    Prog (TpuEff nD τ sig (Elt F) Λ₀ .tc) (Σ' (v298 : FVec F S128x512 .f32), Vec F S1x1x128x512 .f32) := do
  column i K S A m8
  let a ← Prog.lift (.load A.m11 r128.toLoadRect (View.loadsAt_vmem h_S128x512))
  let _ ← Prog.lift (.load m9 rH0.toLoadRect (View.loadsAt_vmem h_S1x1x128x512))
  Prog.lift (.store m9 rH0 (k0_pay427 (F := F) v11 a) Finset.univ (View.stores_vmem_bits_univ h_S1x1x128x512 rfl) (.inl rfl))
  let b ← Prog.lift (.load A.m12 r128.toLoadRect (View.loadsAt_vmem h_S128x512))
  let x ← Prog.lift (.load m9 rH1.toLoadRect (View.loadsAt_vmem h_S1x1x128x512))
  pure ⟨k0_pay428 v11 b, x⟩

/-- The last piece as the program it is. -/
theorem part_loops (arg1 v81 c0_i32_121 : BitVec 32) (v11 : IVec S128x1 1) (v7 v8 v37 v47 : FVec F S512x128 .bf16) (v19 v27 : FVec F S128x512 .bf16) :
    k0_part50 (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121
      = lastPart i ⟨v7, v8, v19, v27, v37, v47⟩ ⟨arg4, arg5, arg6, arg7⟩ ⟨arg11, arg12, arg13, arg14⟩ arg8 arg9 v11 := by
  rw [k0_part50_eq_skeleton]
  unfold k0_part50_skel lastPart column
  dsimp only
  rw [loop1_eq, loop2_eq, loop3_eq, loop4_eq]
  simp only [Prog.bind_assoc]
  rfl

/-- The function's closing lines. -/
def closing (m9 : Memref sig .tc .vmem S2x1x128x512 .f32) (m10 : Memref sig .tc .vmem S512x128 .bf16) (h10 : m10.IsWhole) (A : Accs)
    (x : Σ' (v298 : FVec F S128x512 .f32), Vec F S1x1x128x512 .f32) : Prog (TpuEff nD τ sig (Elt F) Λ₀ .tc) PUnit := do
  Prog.lift (.store m9 rH1 (shapeCast S1x1x128x512 x.1 shapeCasts_S128x512_S1x1x128x512) Finset.univ (View.stores_vmem_bits_univ h_S1x1x128x512 rfl) (.inl rfl))
  let x ← Prog.lift (.load A.m13 r64.toLoadRect (View.loadsAt_vmem h_S64x512))
  let y ← Prog.lift (.load A.m14 r64.toLoadRect (View.loadsAt_vmem h_S64x512))
  let _ ← Prog.lift (.load m10 rVb.toLoadRect (View.loadsAt_vmem h_S512x128))
  Prog.lift (.store m10 rVb (outV (F := F) x y) Finset.univ
    (View.stores_vmem h_S512x128 (h10.storeExact_slice rfl _ packedbf16_S512x128_S512x128_0_0) (fun _ => rfl)) (.inl rfl))
  pure ⟨⟩

/-- The function's text after its first piece. -/
def rest (arg1 c128_i32 : BitVec 32) (v11 : IVec S128x1 1) (v6 v7 v8 v37 : FVec F S512x128 .bf16) (v19 v27 : FVec F S128x512 .bf16) (v38 : IVec S1x128 32) (v40 : IVec S1x128 1) : Prog (TpuEff nD τ sig (Elt F) Λ₀ .tc) PUnit := do
  let ⟨v47, v65, v76, v77⟩ ← k0_part44 i arg2 harg2 arg3 harg3 arg4 harg4 arg5 harg5 arg6 harg6 arg7 harg7 arg8 harg8 arg9 harg9 arg10 harg10 arg11 harg11 arg12 harg12 arg13 harg13 arg14 harg14 arg1 v6 v38 v40 c128_i32
  let ⟨v81, v84, v87, v90, v93, v96, v99, v102, v105, v108, v110, v111⟩ ← k0_part45 i arg2 harg2 arg3 harg3 arg4 harg4 arg5 harg5 arg6 harg6 arg7 harg7 arg8 harg8 arg9 harg9 arg10 harg10 arg11 harg11 arg12 harg12 arg13 harg13 arg14 harg14 arg1 v7 v37 v65 v76 v77
  let ⟨v112, v145, v148, v151, v152, v153⟩ ← k0_part46 i arg2 harg2 arg3 harg3 arg4 harg4 arg5 harg5 arg6 harg6 arg7 harg7 arg8 harg8 arg9 harg9 arg10 harg10 arg11 harg11 arg12 harg12 arg13 harg13 arg14 harg14 v8 v19 v37 v47 v84 v87 v90 v93 v99 v105 v108 v111
  let ⟨v183, v185, v187, v194⟩ ← k0_part47 i arg2 harg2 arg3 harg3 arg4 harg4 arg5 harg5 arg6 harg6 arg7 harg7 arg8 harg8 arg9 harg9 arg10 harg10 arg11 harg11 arg12 harg12 arg13 harg13 arg14 harg14 v8 v19 v47 v84 v87 v90 v93 v99 v110 v112 v148 v152 v153
  let ⟨v220, v231, v236⟩ ← k0_part48 i arg2 harg2 arg3 harg3 arg4 harg4 arg5 harg5 arg6 harg6 arg7 harg7 arg8 harg8 arg9 harg9 arg10 harg10 arg11 harg11 arg12 harg12 arg13 harg13 arg14 harg14 v27 v84 v90 v96 v102 v151 v185 v194
  let c0_i32_121 ← k0_part49 i arg2 harg2 arg3 harg3 arg4 harg4 arg5 harg5 arg6 harg6 arg7 harg7 arg8 harg8 arg9 harg9 arg10 harg10 arg11 harg11 arg12 harg12 arg13 harg13 arg14 harg14 arg1 v27 v90 v102 v145 v183 v187 v220 v231 v236
  let ⟨v298, v299⟩ ← k0_part50 i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121
  have v300 : FVec F S128x512 .f32 := shapeCast S128x512 v299 shapeCasts_S1x1x128x512_S128x512
  have v301 : FVec F S1x1x128x512 .f32 := shapeCast S1x1x128x512 v298 shapeCasts_S128x512_S1x1x128x512
  Prog.lift (.store arg9 (Rect.unit (s := S2x1x128x512) ![1, 0, 0, 0] S1x1x128x512.size inb_S2x1x128x512_S1x1x128x512_1_0_0_0) v301 Finset.univ (View.stores_vmem_bits_univ h_S1x1x128x512 rfl) (.inl rfl))
  let c0_147 : Index := 0#32
  let c0_148 : Index := 0#32
  let v302 : Vec F S64x512 .f32 ← Prog.lift (.load arg13 (Rect.unit (s := S64x512) ![0, 0] S64x512.size inb_S64x512_S64x512_0_0).toLoadRect (View.loadsAt_vmem h_S64x512))
  let c0_149 : Index := 0#32
  let c0_150 : Index := 0#32
  let v303 : Vec F S64x512 .f32 ← Prog.lift (.load arg14 (Rect.unit (s := S64x512) ![0, 0] S64x512.size inb_S64x512_S64x512_0_0).toLoadRect (View.loadsAt_vmem h_S64x512))
  have v304 : FVec F S128x512 .f32 := concatenate S128x512 0 [⟨S64x512, v302⟩, ⟨S64x512, v303⟩] concatenates_S64x512_S64x512_S128x512_d0
  have v305 : FVec F S512x128 .f32 := transpose S512x128 [1, 0] v304 transposes_S128x512_p1_0_S512x128
  have v306 : FVec F S512x128 .bf16 := truncf .bf16 v305 bitsLt_bf16_f32
  let c0_151 : Index := 0#32
  let c0_152 : Index := 0#32
  let v307 : Vec F S512x128 .bf16 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) v306 Finset.univ (View.stores_vmem h_S512x128 (harg10.storeExact_slice rfl _ packedbf16_S512x128_S512x128_0_0) (fun _ => rfl)) (.inl rfl))
  pure ⟨⟩

attribute [local irreducible] lastPart in
set_option maxHeartbeats 1000000 in
/-- The function after its first piece. -/
theorem rest_any (arg1 c128_i32 : BitVec 32) (v11 : IVec S128x1 1) (v6 v7 v8 v37 : FVec F S512x128 .bf16) (v19 v27 : FVec F S128x512 .bf16) (v38 : IVec S1x128 32) (v40 : IVec S1x128 1) :
    rest (F := F) i arg2 harg2 arg3 harg3 arg4 harg4 arg5 harg5 arg6 harg6 arg7 harg7 arg8 harg8 arg9 harg9 arg10 harg10 arg11 harg11 arg12 harg12 arg13 harg13 arg14 harg14 arg1 c128_i32 v11 v6 v7 v8 v37 v19 v27 v38 v40
     = (clearAccs ⟨arg11, arg12, arg13, arg14⟩ >>= fun _ => diag ⟨v7, v8, v19, v27, v37, (select (broadcastTo S512x128 (shapeCast S1x128 (andi v40 (cmpi .slt v38 (broadcast S1x128 c128_i32))) shapeCasts_S1x128_S1x128)
            broadcasts_S1x128_S512x128) v6 (broadcast S512x128 (Scalar.ofBits .bf16 0x0000#16)))⟩ ⟨arg4, arg5, arg6, arg7⟩ ⟨arg11, arg12, arg13, arg14⟩ arg8 (offsD i) >>= fun _ =>
        lastPart i ⟨v7, v8, v19, v27, v37, (select (broadcastTo S512x128 (shapeCast S1x128 (andi v40 (cmpi .slt v38 (broadcast S1x128 c128_i32))) shapeCasts_S1x128_S1x128)
            broadcasts_S1x128_S512x128) v6 (broadcast S512x128 (Scalar.ofBits .bf16 0x0000#16)))⟩ ⟨arg4, arg5, arg6, arg7⟩ ⟨arg11, arg12, arg13, arg14⟩ arg8 arg9 v11 >>= closing arg9 arg10 harg10 ⟨arg11, arg12, arg13, arg14⟩) := by
  unfold rest
  simp only [part_loops]
  rfl

/-- The function from its last piece on. -/
theorem last_eq (K : Keys F) (S : Srcs) (A : Accs) : (lastPart i K S A arg8 arg9 trueRows >>= closing arg9 arg10 harg10 A)
    = (column i K S A arg8 >>= fun _ => finish A arg9 arg10 harg10) := by
  unfold lastPart
  rw [Prog.bind_assoc]
  rfl

/-- The function's first reads, and what follows them. -/
theorem prepare_eq : (do
      let ⟨arg1, v6, v7, v8, v11, v19, v27, v37, v38, v40, c128_i32⟩ ← prepare i arg2 arg3
      rest (F := F) i arg2 harg2 arg3 harg3 arg4 harg4 arg5 harg5 arg6 harg6 arg7 harg7 arg8 harg8 arg9 harg9 arg10 harg10 arg11 harg11 arg12 harg12 arg13 harg13 arg14 harg14 arg1 c128_i32 v11 v6 v7 v8 v37 v19 v27 v38 v40 : Prog (TpuEff nD τ sig (Elt F) Λ₀ .tc) PUnit)
     = point i ⟨arg4, arg5, arg6, arg7⟩ ⟨arg11, arg12, arg13, arg14⟩ arg2 arg3 arg8 arg9 arg10 harg10 := by
  unfold point prepare
  refine congrArg (fun p => (Prog.lift (.load arg2 rKb.toLoadRect (View.loadsAt_vmem h_S512x256)) : Prog (TpuEff nD τ sig (Elt F) Λ₀ .tc) _) >>= p) (funext fun kb => ?_)
  refine congrArg (fun p => (Prog.lift (.load arg3 rVb.toLoadRect (View.loadsAt_vmem h_S512x128)) : Prog (TpuEff nD τ sig (Elt F) Λ₀ .tc) _) >>= p) (funext fun vb => ?_)
  refine (rest_any (F := F) i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) 128#32 trueRows
      (shapeCast S512x128 vb shapeCasts_S512x128_S512x128) (keysOf kb vb).k0 (keysOf kb vb).k1 (keysOf kb vb).v0
      (keysOf kb vb).t0 (keysOf kb vb).t1 (iota .tc S1x128 32 [1] iota_S1x128_d1_w32)
      (cmpi .sge (iota .tc S1x128 32 [1] iota_S1x128_d1_w32) (broadcast S1x128 64#32))).trans ?_
  rw [last_eq]
  rfl

/-- The kernel's function at a grid point is that program. -/
theorem cc0_eq : cc0_fox_attn_bwd (F := F) i arg2 harg2 arg3 harg3 arg4 harg4 arg5 harg5 arg6 harg6 arg7 harg7 arg8 harg8 arg9 harg9 arg10 harg10 arg11 harg11 arg12 harg12 arg13 harg13 arg14 harg14
    = (startQ i arg8 >>= fun _ => point i ⟨arg4, arg5, arg6, arg7⟩ ⟨arg11, arg12, arg13, arg14⟩ arg2 arg3 arg8 arg9 arg10 harg10) := by
  unfold startQ cc0_fox_attn_bwd
  by_cases h : isFirst i = 1#1
  · rw [if_pos h, part_pos _ _ _ _ _ _ _ _ _ _ _ _ _ _ _ _ _ _ _ _ _ _ _ _ _ _ _ h]
    exact congrArg (fun p => clearQ arg8 >>= fun _ => p) (prepare_eq ..)
  · rw [if_neg h, part_neg _ _ _ _ _ _ _ _ _ _ _ _ _ _ _ _ _ _ _ _ _ _ _ _ _ _ _ h]
    exact prepare_eq ..

end

end Cert.KernelIdeal.Hand
-- ==== Proof.Run.lean ====
/-
  Hand-written. Running the pieces of a grid point: each piece takes what the buffers hold to a plain function of it.
-/
module

public import proofs.«01_k».proof.Proof.Body

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a grid point's sources hold: queries, output cotangents, log-sum-exps and row dots, of a head pair. -/
structure Arr (F : FTy → Type) where
  x4 : Vec F S2x16x128x512 .bf16
  x5 : Vec F S1x16x128x512 .bf16
  x6 : Vec F S2x16x1x512 .f32
  x7 : Vec F S2x16x1x512 .f32

/-- What a grid point changes: the queries' gradient and the four accumulators. -/
structure St (F : FTy → Type) where
  q : Vec F S2x16x128x512 .f32
  k0 : Vec F S128x512 .f32
  k1 : Vec F S128x512 .f32
  v0 : Vec F S64x512 .f32
  v1 : Vec F S64x512 .f32

/-- The query tile read at given offsets. -/
def rowOf (X : Arr F) (o : Offs) : Row F :=
  mkRow (pick o.ra X.x5) (pick o.rb0 X.x4) (pick o.rb1 X.x4) (pick o.rc0 X.x6) (pick o.rc1 X.x6) (pick o.rc0 X.x7) (pick o.rc1 X.x7)

/-- A rectangle of an array updated. -/
def bumped {s : Shape} {e : EltTy} (r : Rect s) (u : (r.shape.Idx → Elt F e) → (r.shape.Idx → Elt F e)) (X : Vec F s e) : Vec F s e :=
  patch r X (u (pick r X))

/-- The queries' gradient after a step. -/
def qStep (o : Offs) (x y : FVec F S128x512 .f32) (q : Vec F S2x16x128x512 .f32) : Vec F S2x16x128x512 .f32 :=
  bumped o.rb1 (upQ y) (bumped o.rb0 (upQ x) q)

/-- What an unmasked step leaves. -/
def tileF (K : Keys F) (X : Arr F) (o : Offs) (s : St F) : St F :=
  let P := tileParts K (rowOf X o)
  { q := qStep o P.w0 P.w1 s.q
    k0 := bumped r128 (up128 P.y01) (bumped r128 (up128 P.y00) s.k0)
    k1 := bumped r128 (up128 P.y11) (bumped r128 (up128 P.y10) s.k1)
    v0 := bumped r64 (up64 P.x01) (bumped r64 (up64 P.x00) s.v0)
    v1 := bumped r64 (up64 P.x11) (bumped r64 (up64 P.x10) s.v1) }

/-- What the diagonal step leaves. -/
def diagF (K : Keys F) (X : Arr F) (o : Offs) (s : St F) : St F :=
  let P := diagParts K (rowOf X o)
  { q := qStep o P.w0 P.w1 s.q
    k0 := bumped r128 (up128 P.y01) (bumped r128D (up128D P.y00) s.k0)
    k1 := bumped r128 (up128 P.y11) (bumped r128D (up128D P.y10) s.k1)
    v0 := bumped r64 (up64 P.x01) (bumped r64D (up64D P.x00) s.v0)
    v1 := bumped r64 (up64 P.x11) (bumped r64D (up64D P.x10) s.v1) }

/-- What four unmasked steps leave. -/
def tiles4F (K : Keys F) (X : Arr F) (o : Fin 4 → Offs) (s : St F) : St F :=
  tileF K X (o 3) (tileF K X (o 2) (tileF K X (o 1) (tileF K X (o 0) s)))

variable (𝒱 : Variants) (c : Dev nD) {β : Type} {Q : β → sProp (MT nD τ sig Unit (Elt F) ℕ (UR sig nD τ) ℕ)}

/-- The sources, held with their contents. -/
def heldS (S : Srcs) (X : Arr F) : sProp 𝕄 :=
  iprop(owns (c.tc : Thread nD τ) S.m4 fullShare X.x4 ∗ owns (c.tc : Thread nD τ) S.m5 fullShare X.x5
    ∗ owns (c.tc : Thread nD τ) S.m6 fullShare X.x6 ∗ owns (c.tc : Thread nD τ) S.m7 fullShare X.x7)

/-- The queries' gradient and the accumulators, held with their contents. -/
def heldA (A : Accs) (m8 : Memref sig .tc .vmem S2x16x128x512 .f32) (s : St F) : sProp 𝕄 :=
  iprop(owns (c.tc : Thread nD τ) m8 fullShare s.q ∗ owns (c.tc : Thread nD τ) A.m11 fullShare s.k0
    ∗ owns (c.tc : Thread nD τ) A.m12 fullShare s.k1 ∗ owns (c.tc : Thread nD τ) A.m13 fullShare s.v0
    ∗ owns (c.tc : Thread nD τ) A.m14 fullShare s.v1)

section Pieces
variable {s : Shape} {e : EltTy}

/-- Running a load. -/
theorem load_k {m : Memref sig .tc .vmem s e} {r : Rect s} {hl : m.view.LoadsAt r.toLoadRect} {X : Vec F s e}
    {k : (r.shape.Idx → Elt F e) → Prog (TpuEff nD τ sig (Elt F) Λ₀ .tc) β} :
    (owns (c.tc : Thread nD τ) m fullShare X : sProp 𝕄)
      ⊢ iprop((owns (c.tc : Thread nD τ) m fullShare X -∗ wp frame (wpE defs₀ 𝒱 (c.tc : Thread nD τ) none) Set.univ (k (pick r X)) Q)
        -∗ wp frame (wpE defs₀ 𝒱 (c.tc : Thread nD τ) none) Set.univ (Prog.lift (.load m r.toLoadRect hl) >>= k) Q) :=
  Held.load (defs := defs₀) 𝒱 (c.tc : Thread nD τ) none Set.univ

/-- Running a store. -/
theorem store_k {m : Memref sig .tc .vmem s e} {r : Rect s} {w : r.shape.Idx → Elt F e} {hx : (m.access r).Stores Finset.univ}
    {hm : (Finset.univ : Finset r.shape.Idx) = Finset.univ ∨ ∀ a, r.stride a = 1} {X : Vec F s e}
    {k : PUnit → Prog (TpuEff nD τ sig (Elt F) Λ₀ .tc) β} :
    (owns (c.tc : Thread nD τ) m fullShare X : sProp 𝕄)
      ⊢ iprop((owns (c.tc : Thread nD τ) m fullShare (patch r X w) -∗ wp frame (wpE defs₀ 𝒱 (c.tc : Thread nD τ) none) Set.univ (k ⟨⟩) Q)
        -∗ wp frame (wpE defs₀ 𝒱 (c.tc : Thread nD τ) none) Set.univ (Prog.lift (.store m r w Finset.univ hx hm) >>= k) Q) :=
  Held.store (defs := defs₀) 𝒱 (c.tc : Thread nD τ) none Set.univ

/-- Running an update of a rectangle. -/
theorem bump_k {m : Memref sig .tc .vmem s e} {r : Rect s} {hl : m.view.LoadsAt r.toLoadRect} {hx : (m.access r).Stores Finset.univ}
    {hm : (Finset.univ : Finset r.shape.Idx) = Finset.univ ∨ ∀ a, r.stride a = 1} {u : (r.shape.Idx → Elt F e) → (r.shape.Idx → Elt F e)}
    {X : Vec F s e} {k : Unit → Prog (TpuEff nD τ sig (Elt F) Λ₀ .tc) β} :
    (owns (c.tc : Thread nD τ) m fullShare X : sProp 𝕄)
      ⊢ iprop((owns (c.tc : Thread nD τ) m fullShare (bumped r u X) -∗ wp frame (wpE defs₀ 𝒱 (c.tc : Thread nD τ) none) Set.univ (k ()) Q)
        -∗ wp frame (wpE defs₀ 𝒱 (c.tc : Thread nD τ) none) Set.univ (bump m r hl hx hm u >>= k) Q) := by
  have e : (bump m r hl hx hm u >>= k)
      = (Prog.lift (.load m r.toLoadRect hl) >>= fun a => Prog.lift (.load m r.toLoadRect hl) >>= fun _ =>
          Prog.lift (.store m r (u a) Finset.univ hx hm) >>= k) := rfl
  rw [e]
  unfold bumped
  iintro H Hk
  iapply (load_k 𝒱 c) $$ H
  iintro H
  iapply (load_k 𝒱 c) $$ H
  iintro H
  iapply (store_k 𝒱 c) $$ H
  iintro H
  iapply Hk $$ H

end Pieces

/-- Running the read of a query tile. -/
theorem readRow_k {S : Srcs} {o : Offs} {X : Arr F} {k : Row F → Prog (TpuEff nD τ sig (Elt F) Λ₀ .tc) β} :
    (heldS c S X : sProp 𝕄)
      ⊢ iprop((heldS c S X -∗ wp frame (wpE defs₀ 𝒱 (c.tc : Thread nD τ) none) Set.univ (k (rowOf X o)) Q)
        -∗ wp frame (wpE defs₀ 𝒱 (c.tc : Thread nD τ) none) Set.univ (readRow S o >>= k) Q) := by
  have e : (readRow S o >>= k)
      = (Prog.lift (.load S.m5 o.ra.toLoadRect (View.loadsAt_vmem h_S1x1x128x512)) >>= fun g =>
         Prog.lift (.load S.m4 o.rb0.toLoadRect (View.loadsAt_vmem h_S1x1x128x512)) >>= fun q0 =>
         Prog.lift (.load S.m4 o.rb1.toLoadRect (View.loadsAt_vmem h_S1x1x128x512)) >>= fun q1 =>
         Prog.lift (.load S.m6 o.rc0.toLoadRect (View.loadsAt_vmem h_S1x1x1x512)) >>= fun l0 =>
         Prog.lift (.load S.m6 o.rc1.toLoadRect (View.loadsAt_vmem h_S1x1x1x512)) >>= fun l1 =>
         Prog.lift (.load S.m7 o.rc0.toLoadRect (View.loadsAt_vmem h_S1x1x1x512)) >>= fun d0 =>
         Prog.lift (.load S.m7 o.rc1.toLoadRect (View.loadsAt_vmem h_S1x1x1x512)) >>= fun d1 =>
         k (mkRow g q0 q1 l0 l1 d0 d1)) := rfl
  rw [e]
  unfold heldS
  iintro ⟨H4, H5, H6, H7⟩ Hk
  iapply (load_k 𝒱 c) $$ H5
  iintro H5
  iapply (load_k 𝒱 c) $$ H4
  iintro H4
  iapply (load_k 𝒱 c) $$ H4
  iintro H4
  iapply (load_k 𝒱 c) $$ H6
  iintro H6
  iapply (load_k 𝒱 c) $$ H6
  iintro H6
  iapply (load_k 𝒱 c) $$ H7
  iintro H7
  iapply (load_k 𝒱 c) $$ H7
  iintro H7
  iapply Hk
  iframe

/-- Running the unmasked step. -/
theorem tile_k {K : Keys F} {S : Srcs} {A : Accs} {m8 : Memref sig .tc .vmem S2x16x128x512 .f32} {o : Offs} {X : Arr F} {s : St F}
    {k : Unit → Prog (TpuEff nD τ sig (Elt F) Λ₀ .tc) β} :
    (iprop(heldS c S X ∗ heldA c A m8 s) : sProp 𝕄)
      ⊢ iprop(((heldS c S X ∗ heldA c A m8 (tileF K X o s)) -∗ wp frame (wpE defs₀ 𝒱 (c.tc : Thread nD τ) none) Set.univ (k ()) Q)
        -∗ wp frame (wpE defs₀ 𝒱 (c.tc : Thread nD τ) none) Set.univ (tile K S A m8 o >>= k) Q) := by
  unfold tile add addQ
  simp only [Prog.bind_assoc]
  iintro ⟨HS, HA⟩ Hk
  iapply (readRow_k 𝒱 c) $$ HS
  iintro HS
  unfold heldA
  icases HA with ⟨H8, H11, H12, H13, H14⟩
  iapply (bump_k 𝒱 c) $$ H13
  iintro H13
  iapply (bump_k 𝒱 c) $$ H11
  iintro H11
  iapply (bump_k 𝒱 c) $$ H13
  iintro H13
  iapply (bump_k 𝒱 c) $$ H11
  iintro H11
  iapply (bump_k 𝒱 c) $$ H14
  iintro H14
  iapply (bump_k 𝒱 c) $$ H12
  iintro H12
  iapply (bump_k 𝒱 c) $$ H14
  iintro H14
  iapply (bump_k 𝒱 c) $$ H12
  iintro H12
  iapply (bump_k 𝒱 c) $$ H8
  iintro H8
  iapply (bump_k 𝒱 c) $$ H8
  iintro H8
  iapply Hk
  unfold tileF qStep
  dsimp only
  iframe

/-- Running the diagonal step. -/
theorem diag_k {K : Keys F} {S : Srcs} {A : Accs} {m8 : Memref sig .tc .vmem S2x16x128x512 .f32} {o : Offs} {X : Arr F} {s : St F}
    {k : Unit → Prog (TpuEff nD τ sig (Elt F) Λ₀ .tc) β} :
    (iprop(heldS c S X ∗ heldA c A m8 s) : sProp 𝕄)
      ⊢ iprop(((heldS c S X ∗ heldA c A m8 (diagF K X o s)) -∗ wp frame (wpE defs₀ 𝒱 (c.tc : Thread nD τ) none) Set.univ (k ()) Q)
        -∗ wp frame (wpE defs₀ 𝒱 (c.tc : Thread nD τ) none) Set.univ (diag K S A m8 o >>= k) Q) := by
  unfold diag add addD addQ
  simp only [Prog.bind_assoc]
  iintro ⟨HS, HA⟩ Hk
  iapply (readRow_k 𝒱 c) $$ HS
  iintro HS
  unfold heldA
  icases HA with ⟨H8, H11, H12, H13, H14⟩
  iapply (bump_k 𝒱 c) $$ H13
  iintro H13
  iapply (bump_k 𝒱 c) $$ H11
  iintro H11
  iapply (bump_k 𝒱 c) $$ H13
  iintro H13
  iapply (bump_k 𝒱 c) $$ H11
  iintro H11
  iapply (bump_k 𝒱 c) $$ H14
  iintro H14
  iapply (bump_k 𝒱 c) $$ H12
  iintro H12
  iapply (bump_k 𝒱 c) $$ H14
  iintro H14
  iapply (bump_k 𝒱 c) $$ H12
  iintro H12
  iapply (bump_k 𝒱 c) $$ H8
  iintro H8
  iapply (bump_k 𝒱 c) $$ H8
  iintro H8
  iapply Hk
  unfold diagF qStep
  dsimp only
  iframe

/-- Running four unmasked steps. -/
theorem tiles4_k {K : Keys F} {S : Srcs} {A : Accs} {m8 : Memref sig .tc .vmem S2x16x128x512 .f32} {o : Fin 4 → Offs} {X : Arr F} {s : St F}
    {k : Unit → Prog (TpuEff nD τ sig (Elt F) Λ₀ .tc) β} :
    (iprop(heldS c S X ∗ heldA c A m8 s) : sProp 𝕄)
      ⊢ iprop(((heldS c S X ∗ heldA c A m8 (tiles4F K X o s)) -∗ wp frame (wpE defs₀ 𝒱 (c.tc : Thread nD τ) none) Set.univ (k ()) Q)
        -∗ wp frame (wpE defs₀ 𝒱 (c.tc : Thread nD τ) none) Set.univ (tiles4 K S A m8 o >>= k) Q) := by
  unfold tiles4 tiles4F
  simp only [Prog.bind_assoc]
  iintro H Hk
  iapply (tile_k 𝒱 c) $$ H
  iintro H
  iapply (tile_k 𝒱 c) $$ H
  iintro H
  iapply (tile_k 𝒱 c) $$ H
  iintro H
  iapply (tile_k 𝒱 c) $$ H
  iintro H
  iapply Hk $$ H

/-- A step repeated: the state after `k` trips. -/
def trips {n : ℕ} (f : Fin n → St F → St F) : ℕ → St F → St F
  | 0, s => s
  | k + 1, s => if h : k < n then f ⟨k, h⟩ (trips f k s) else trips f k s

/-- Running a loop whose trip is a step. -/
theorem loop_k {S : Srcs} {A : Accs} {m8 : Memref sig .tc .vmem S2x16x128x512 .f32} {X : Arr F} {s : St F} (l : Scf.Loop 32) (hok : l.OK)
    (p : Fin l.trips → Prog (TpuEff nD τ sig (Elt F) Λ₀ .tc) PUnit) (f : Fin l.trips → St F → St F)
    (hp : ∀ (j : Fin l.trips) (s : St F) (R : PUnit → sProp 𝕄), (iprop(heldS c S X ∗ heldA c A m8 s) : sProp 𝕄)
      ⊢ iprop(((heldS c S X ∗ heldA c A m8 (f j s)) -∗ wp frame (wpE defs₀ 𝒱 (c.tc : Thread nD τ) none) Set.univ (.ret ⟨⟩) R)
        -∗ wp frame (wpE defs₀ 𝒱 (c.tc : Thread nD τ) none) Set.univ (p j) R))
    {k : PUnit → Prog (TpuEff nD τ sig (Elt F) Λ₀ .tc) β} :
    (iprop(heldS c S X ∗ heldA c A m8 s) : sProp 𝕄)
      ⊢ iprop(((heldS c S X ∗ heldA c A m8 (trips f l.trips s)) -∗ wp frame (wpE defs₀ 𝒱 (c.tc : Thread nD τ) none) Set.univ (k ⟨⟩) Q)
        -∗ wp frame (wpE defs₀ 𝒱 (c.tc : Thread nD τ) none) Set.univ (Scf.Loop.for l hok ⟨⟩ (fun j _ => p j) >>= k) Q) := by
  refine (Scf.wp_for_bind (M := 𝕄) frame (wpE defs₀ 𝒱 (c.tc : Thread nD τ) none) Set.univ l.lb l.ub l.st hok PUnit.unit (fun j _ => p j)
    (fun n _ => iprop(heldS c S X ∗ heldA c A m8 (trips f n s))) ?_ (kk := k) (Q := Q)).trans ?_
  · intro j acc
    have e : trips f (j.val + 1) s = f j (trips f j.val s) := by
      show (if h : j.val < _ then _ else _) = _
      rw [dif_pos j.isLt]
    rw [e]
    iintro H
    iapply (hp j (trips f j.val s)) $$ H
    iintro H
    rw [wp_ret]
    imodintro
    iexact H
  · iintro H Hk
    iapply H
    iintro %acc H
    iapply Hk $$ H

/-- What the steps below the diagonal leave. -/
def columnF (i : grid0.Coords) (K : Keys F) (X : Arr F) (s : St F) : St F :=
  trips (fun k => tileF K X (offs4 i k)) (k0_t4_loop i).trips
    (trips (fun k => tileF K X (offs3 i k)) (k0_t3_loop i).trips
      (trips (fun k => tiles4F K X (offs2 i k)) (k0_t2_loop i).trips
        (trips (fun k => tiles4F K X (offs1 i k)) (k0_t1_loop i).trips s)))

/-- Running the steps below the diagonal. -/
theorem column_k {K : Keys F} {S : Srcs} {A : Accs} {m8 : Memref sig .tc .vmem S2x16x128x512 .f32} {i : grid0.Coords} {X : Arr F} {s : St F}
    {k : PUnit → Prog (TpuEff nD τ sig (Elt F) Λ₀ .tc) β} :
    (iprop(heldS c S X ∗ heldA c A m8 s) : sProp 𝕄)
      ⊢ iprop(((heldS c S X ∗ heldA c A m8 (columnF i K X s)) -∗ wp frame (wpE defs₀ 𝒱 (c.tc : Thread nD τ) none) Set.univ (k ⟨⟩) Q)
        -∗ wp frame (wpE defs₀ 𝒱 (c.tc : Thread nD τ) none) Set.univ (column i K S A m8 >>= k) Q) := by
  unfold column columnF
  simp only [Prog.bind_assoc]
  iintro H Hk
  iapply (loop_k 𝒱 c (k0_t1_loop i) (k0_t1_ok i) _ (fun k => tiles4F K X (offs1 i k)) (fun j s R => by
    rw [← Prog.bind_pure (tiles4 K S A m8 (offs1 i j))]; exact tiles4_k 𝒱 c)) $$ H
  iintro H
  iapply (loop_k 𝒱 c (k0_t2_loop i) (k0_t2_ok i) _ (fun k => tiles4F K X (offs2 i k)) (fun j s R => by
    rw [← Prog.bind_pure (tiles4 K S A m8 (offs2 i j))]; exact tiles4_k 𝒱 c)) $$ H
  iintro H
  iapply (loop_k 𝒱 c (k0_t3_loop i) (k0_t3_ok i) _ (fun k => tileF K X (offs3 i k)) (fun j s R => by
    rw [← Prog.bind_pure (tile K S A m8 (offs3 i j))]; exact tile_k 𝒱 c)) $$ H
  iintro H
  iapply (loop_k 𝒱 c (k0_t4_loop i) (k0_t4_ok i) _ (fun k => tileF K X (offs4 i k)) (fun j s R => by
    rw [← Prog.bind_pure (tile K S A m8 (offs4 i j))]; exact tile_k 𝒱 c)) $$ H
  iintro H
  iapply Hk $$ H

/-- The accumulators zeroed. -/
def cleared (s : St F) : St F :=
  { q := s.q, k0 := patch r128 s.k0 zero128, k1 := patch r128 s.k1 zero128, v0 := patch r64 s.v0 zero64, v1 := patch r64 s.v1 zero64 }

/-- Running the accumulators' zeroing. -/
theorem clearAccs_k {A : Accs} {m8 : Memref sig .tc .vmem S2x16x128x512 .f32} {s : St F}
    {k : PUnit → Prog (TpuEff nD τ sig (Elt F) Λ₀ .tc) β} :
    (heldA c A m8 s : sProp 𝕄)
      ⊢ iprop((heldA c A m8 (cleared s) -∗ wp frame (wpE defs₀ 𝒱 (c.tc : Thread nD τ) none) Set.univ (k ⟨⟩) Q)
        -∗ wp frame (wpE defs₀ 𝒱 (c.tc : Thread nD τ) none) Set.univ (clearAccs A >>= k) Q) := by
  unfold clearAccs clear128 clear64 heldA
  simp only [Prog.bind_assoc]
  iintro ⟨H8, H11, H12, H13, H14⟩ Hk
  iapply (load_k 𝒱 c) $$ H11
  iintro H11
  iapply (store_k 𝒱 c) $$ H11
  iintro H11
  iapply (load_k 𝒱 c) $$ H13
  iintro H13
  iapply (store_k 𝒱 c) $$ H13
  iintro H13
  iapply (load_k 𝒱 c) $$ H12
  iintro H12
  iapply (store_k 𝒱 c) $$ H12
  iintro H12
  iapply (load_k 𝒱 c) $$ H14
  iintro H14
  iapply (store_k 𝒱 c) $$ H14
  iintro H14
  iapply Hk
  unfold cleared
  dsimp only
  iframe

/-- What a grid point writes out of the key gradients' accumulators, over what the buffer held. -/
def outKs (a b : Vec F S128x512 .f32) (X : Vec F S2x1x128x512 .f32) : Vec F S2x1x128x512 .f32 :=
  patch (α := F .f32) rH1 (patch (α := F .f32) rH0 X (outK (F := F) (pick (α := F .f32) r128 a))) (outK (F := F) (pick (α := F .f32) r128 b))

/-- What a grid point writes out of the value gradients' accumulators, over what the buffer held. -/
def outVs (a b : Vec F S64x512 .f32) (X : Vec F S512x128 .bf16) : Vec F S512x128 .bf16 :=
  patch rVb X (outV (F := F) (pick r64 a) (pick r64 b))

/-- Running the writing out. -/
theorem finish_k {A : Accs} {m8 : Memref sig .tc .vmem S2x16x128x512 .f32} {s : St F} {m9 : Memref sig .tc .vmem S2x1x128x512 .f32}
    {m10 : Memref sig .tc .vmem S512x128 .bf16} {h10 : m10.IsWhole} {X9 : Vec F S2x1x128x512 .f32} {X10 : Vec F S512x128 .bf16}
    {R : PUnit → sProp 𝕄} :
    (iprop(heldA c A m8 s ∗ owns (c.tc : Thread nD τ) m9 fullShare X9 ∗ owns (c.tc : Thread nD τ) m10 fullShare X10) : sProp 𝕄)
      ⊢ iprop(((heldA c A m8 s ∗ owns (c.tc : Thread nD τ) m9 fullShare (outKs s.k0 s.k1 X9)
          ∗ owns (c.tc : Thread nD τ) m10 fullShare (outVs s.v0 s.v1 X10)) -∗ R ⟨⟩)
        -∗ wp frame (wpE defs₀ 𝒱 (c.tc : Thread nD τ) none) Set.univ (finish A m9 m10 h10) R) := by
  unfold finish heldA
  iintro ⟨⟨H8, H11, H12, H13, H14⟩, H9, H10⟩ Hk
  iapply (load_k 𝒱 c) $$ H11
  iintro H11
  iapply (load_k 𝒱 c) $$ H9
  iintro H9
  iapply (store_k 𝒱 c) $$ H9
  iintro H9
  iapply (load_k 𝒱 c) $$ H12
  iintro H12
  iapply (load_k 𝒱 c) $$ H9
  iintro H9
  iapply (store_k 𝒱 c) $$ H9
  iintro H9
  iapply (load_k 𝒱 c) $$ H13
  iintro H13
  iapply (load_k 𝒱 c) $$ H14
  iintro H14
  iapply (load_k 𝒱 c) $$ H10
  iintro H10
  iapply (store_k 𝒱 c) $$ H10
  iintro H10
  rw [show (pure PUnit.unit : Prog (TpuEff nD τ sig (Elt F) Λ₀ .tc) PUnit) = .ret ⟨⟩ from rfl, wp_ret]
  imodintro
  iapply Hk
  unfold outKs outVs
  iframe

/-- The queries' gradient a grid point begins from. -/
def startF (i : grid0.Coords) (q : Vec F S2x16x128x512 .f32) : Vec F S2x16x128x512 .f32 :=
  if isFirst i = 1#1 then patch rQ q zeroQ else q

/-- Running the queries' gradient's zeroing. -/
theorem startQ_k {i : grid0.Coords} {m8 : Memref sig .tc .vmem S2x16x128x512 .f32} {q : Vec F S2x16x128x512 .f32}
    {k : PUnit → Prog (TpuEff nD τ sig (Elt F) Λ₀ .tc) β} :
    (owns (c.tc : Thread nD τ) m8 fullShare q : sProp 𝕄)
      ⊢ iprop((owns (c.tc : Thread nD τ) m8 fullShare (startF i q) -∗ wp frame (wpE defs₀ 𝒱 (c.tc : Thread nD τ) none) Set.univ (k ⟨⟩) Q)
        -∗ wp frame (wpE defs₀ 𝒱 (c.tc : Thread nD τ) none) Set.univ (startQ i m8 >>= k) Q) := by
  unfold startQ startF
  by_cases h : isFirst i = 1#1
  · rw [if_pos h, if_pos h]
    unfold clearQ
    rw [Prog.bind_assoc]
    iintro H Hk
    iapply (load_k 𝒱 c) $$ H
    iintro H
    iapply (store_k 𝒱 c) $$ H
    iintro H
    iapply Hk $$ H
  · rw [if_neg h, if_neg h]
    iintro H Hk
    iapply Hk $$ H

/-- What a grid point leaves in the queries' gradient and the accumulators. -/
def pointF (i : grid0.Coords) (X2 : Vec F S512x256 .bf16) (X3 : Vec F S512x128 .bf16) (X : Arr F) (s : St F) : St F :=
  columnF i (keysOf (pick rKb X2) (pick rVb X3)) X
    (diagF (keysOf (pick rKb X2) (pick rVb X3)) X (offsD i) (cleared { s with q := startF i s.q }))

/-- Running a grid point. -/
theorem point_k {i : grid0.Coords} {S : Srcs} {A : Accs} {m2 : Memref sig .tc .vmem S512x256 .bf16} {m3 : Memref sig .tc .vmem S512x128 .bf16}
    {m8 : Memref sig .tc .vmem S2x16x128x512 .f32} {s : St F} {m9 : Memref sig .tc .vmem S2x1x128x512 .f32}
    {m10 : Memref sig .tc .vmem S512x128 .bf16} {h10 : m10.IsWhole} {X2 : Vec F S512x256 .bf16} {X3 : Vec F S512x128 .bf16} {X : Arr F}
    {X9 : Vec F S2x1x128x512 .f32} {X10 : Vec F S512x128 .bf16} {R : PUnit → sProp 𝕄} :
    (iprop(owns (c.tc : Thread nD τ) m2 fullShare X2 ∗ owns (c.tc : Thread nD τ) m3 fullShare X3 ∗ heldS c S X ∗ heldA c A m8 s
        ∗ owns (c.tc : Thread nD τ) m9 fullShare X9 ∗ owns (c.tc : Thread nD τ) m10 fullShare X10) : sProp 𝕄)
      ⊢ iprop(((owns (c.tc : Thread nD τ) m2 fullShare X2 ∗ owns (c.tc : Thread nD τ) m3 fullShare X3 ∗ heldS c S X
          ∗ heldA c A m8 (pointF i X2 X3 X s)
          ∗ owns (c.tc : Thread nD τ) m9 fullShare (outKs (pointF i X2 X3 X s).k0 (pointF i X2 X3 X s).k1 X9)
          ∗ owns (c.tc : Thread nD τ) m10 fullShare (outVs (pointF i X2 X3 X s).v0 (pointF i X2 X3 X s).v1 X10)) -∗ R ⟨⟩)
        -∗ wp frame (wpE defs₀ 𝒱 (c.tc : Thread nD τ) none) Set.univ (startQ i m8 >>= fun _ => point i S A m2 m3 m8 m9 m10 h10) R) := by
  unfold point
  iintro ⟨H2, H3, HS, HA, H9, H10⟩ Hk
  unfold heldA
  icases HA with ⟨H8, HA⟩
  iapply (startQ_k 𝒱 c) $$ H8
  iintro H8
  iapply (load_k 𝒱 c) $$ H2
  iintro H2
  iapply (load_k 𝒱 c) $$ H3
  iintro H3
  have e : (iprop(owns (c.tc : Thread nD τ) m8 fullShare (startF i s.q) ∗ owns (c.tc : Thread nD τ) A.m11 fullShare s.k0
      ∗ owns (c.tc : Thread nD τ) A.m12 fullShare s.k1 ∗ owns (c.tc : Thread nD τ) A.m13 fullShare s.v0
      ∗ owns (c.tc : Thread nD τ) A.m14 fullShare s.v1) : sProp 𝕄) = heldA c A m8 { s with q := startF i s.q } := rfl
  ihave HA : (heldA c A m8 { s with q := startF i s.q } : sProp 𝕄) $$ [H8 HA]
  · rw [← e]
    iframe
  iapply (clearAccs_k 𝒱 c) $$ HA
  iintro HA
  ihave H : (iprop(heldS c S X ∗ heldA c A m8 (cleared { s with q := startF i s.q })) : sProp 𝕄) $$ [HS HA]
  · iframe
  iapply (diag_k 𝒱 c) $$ H
  iintro H
  iapply (column_k 𝒱 c) $$ H
  iintro ⟨HS, HA⟩
  iapply (finish_k 𝒱 c) $$ [HA H9 H10]
  · iframe
  iintro ⟨HA, H9, H10⟩
  iapply Hk
  have e : heldA c A m8 (pointF i X2 X3 X s) = (iprop(owns (c.tc : Thread nD τ) m8 fullShare (pointF i X2 X3 X s).q ∗ owns (c.tc : Thread nD τ) A.m11 fullShare (pointF i X2 X3 X s).k0
      ∗ owns (c.tc : Thread nD τ) A.m12 fullShare (pointF i X2 X3 X s).k1 ∗ owns (c.tc : Thread nD τ) A.m13 fullShare (pointF i X2 X3 X s).v0
      ∗ owns (c.tc : Thread nD τ) A.m14 fullShare (pointF i X2 X3 X s).v1) : sProp 𝕄) := rfl
  rw [← e]
  unfold pointF
  iframe

end Cert.KernelIdeal.Hand
-- ==== Proof.Model.lean ====
/-
  Hand-written. What a grid point leaves, as a function of its blocks and of the queries' gradient it finds: nothing else
  the buffers held before matters, since the point overwrites it.
-/
module

public import proofs.«01_k».proof.Proof.Run
public import Idealize.ShloMosaic.Lib.VecWindow

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic

variable {F : FTy → Type} [FloatOps F] [Named F]

/-- A whole rectangle replaced leaves the replacement. -/
theorem patch_full {α : Type} {s : Shape} {off : Fin s.rank → ℕ} (inb : ∀ a, off a + s.size a ≤ s.size a) (X w : s.Idx → α) :
    patch (Rect.unit off s.size inb) X w = w := by
  funext y
  have h := patch_emb (Rect.unit off s.size inb) X w y
  rwa [Rect.emb_unit_full inb y] at h

/-- A whole rectangle read is the array. -/
theorem pick_full {α : Type} {s : Shape} {off : Fin s.rank → ℕ} (inb : ∀ a, off a + s.size a ≤ s.size a) (X : s.Idx → α) :
    pick (Rect.unit off s.size inb) X = X := by
  funext y
  exact congrArg X (Rect.emb_unit_full inb y)

/-- The state a grid point begins its steps from. -/
def begun (i : grid0.Coords) (q : Vec F S2x16x128x512 .f32) : St F :=
  { q := if isFirst i = 1#1 then zeroQ else q, k0 := zero128, k1 := zero128, v0 := zero64, v1 := zero64 }

/-- A grid point, from its blocks and the queries' gradient it finds. -/
def pt (i : grid0.Coords) (X2 : Vec F S512x256 .bf16) (X3 : Vec F S512x128 .bf16) (X : Arr F) (q : Vec F S2x16x128x512 .f32) : St F :=
  columnF i (keysOf X2 X3) X (diagF (keysOf X2 X3) X (offsD i) (begun i q))

/-- What is in the accumulators before a grid point does not matter to it. -/
theorem pointF_eq (i : grid0.Coords) (X2 : Vec F S512x256 .bf16) (X3 : Vec F S512x128 .bf16) (X : Arr F) (s : St F) :
    pointF i X2 X3 X s = pt i X2 X3 X s.q := by
  unfold pointF pt
  rw [show pick rKb X2 = X2 from pick_full _ X2, show pick rVb X3 = X3 from pick_full _ X3]
  congr 2
  unfold cleared begun startF
  dsimp only
  rw [show patch r128 s.k0 zero128 = zero128 from patch_full _ _ _, show patch r128 s.k1 zero128 = zero128 from patch_full _ _ _,
    show patch r64 s.v0 zero64 = zero64 from patch_full _ _ _, show patch r64 s.v1 zero64 = zero64 from patch_full _ _ _,
    show patch rQ s.q zeroQ = zeroQ from patch_full _ _ _]

/-- Every index of the key gradients' block is in one head's half. -/
theorem halves (y : S2x1x128x512.Idx) : (∃ x, rH0.emb x = y) ∨ (∃ x, rH1.emb x = y) := by
  have h0 : (y 0).val < 2 := (y 0).isLt
  have h1 : (y 1).val < 1 := (y 1).isLt
  have h2 : (y 2).val < 128 := (y 2).isLt
  have h3 : (y 3).val < 512 := (y 3).isLt
  by_cases h : (y 0).val = 0
  · left
    refine ⟨fun a => ⟨![0, 0, (y 2).val, (y 3).val] a, by fin_cases a <;> first | exact Nat.one_pos | exact h2 | exact h3⟩, ?_⟩
    funext a
    refine Fin.ext ?_
    rw [Rect.emb_apply]
    fin_cases a
    · show 0 + 1 * 0 = (y 0).val; omega
    · show 0 + 1 * 0 = (y 1).val; omega
    · show 0 + 1 * (y 2).val = (y 2).val; omega
    · show 0 + 1 * (y 3).val = (y 3).val; omega
  · right
    refine ⟨fun a => ⟨![0, 0, (y 2).val, (y 3).val] a, by fin_cases a <;> first | exact Nat.one_pos | exact h2 | exact h3⟩, ?_⟩
    funext a
    refine Fin.ext ?_
    rw [Rect.emb_apply]
    fin_cases a
    · show 1 + 1 * 0 = (y 0).val; omega
    · show 0 + 1 * 0 = (y 1).val; omega
    · show 0 + 1 * (y 2).val = (y 2).val; omega
    · show 0 + 1 * (y 3).val = (y 3).val; omega

/-- The key gradients written out do not depend on what the buffer held. -/
theorem outKs_any (a b : Vec F S128x512 .f32) (X Y : Vec F S2x1x128x512 .f32) : outKs a b X = outKs a b Y := by
  funext y
  unfold outKs
  by_cases h1 : ∃ x, rH1.emb x = y
  · obtain ⟨x, rfl⟩ := h1
    rw [patch_emb, patch_emb]
  · rw [patch_miss _ _ _ _ fun x hx => h1 ⟨x, hx⟩, patch_miss _ _ _ _ fun x hx => h1 ⟨x, hx⟩]
    obtain ⟨x, rfl⟩ := (halves y).resolve_right h1
    rw [patch_emb, patch_emb]

/-- The value gradients written out. -/
theorem outVs_eq (a b : Vec F S64x512 .f32) (X : Vec F S512x128 .bf16) : outVs a b X = outV a b := by
  unfold outVs
  rw [show pick r64 a = a from pick_full _ a, show pick r64 b = b from pick_full _ b]
  exact patch_full _ _ _

end Cert.KernelIdeal.Hand
-- ==== Proof.Launched.lean ====
/-
  Hand-written. The kernel launched: what every grid point finds and leaves, and the run of the whole program.
-/
module

public import proofs.«01_k».proof.Proof.Model
public import Idealize.ShloMosaic.Lib.Pipeline.FrameBody
public import Idealize.ShloMosaic.Lib.Pipeline.FrameSuffix
public import Idealize.ShloMosaic.Lib.Pipeline.TableIdle
public import proofs.«01_k».proof.Proof.Gen.KernelIdeal.Frame
public import proofs.«01_k».proof.Proof.Gen.KernelIdeal.Points

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- The key block of a grid point. -/
def keyBlk (t : Fin cfg0.N) : Vec F S512x256 .bf16 := iblk m c 0 t
/-- The value block of a grid point. -/
def valBlk (t : Fin cfg0.N) : Vec F S512x128 .bf16 := iblk m c 1 t
/-- The head pair's queries, cotangents, log-sum-exps and row dots at a grid point. -/
def arrBlk (t : Fin cfg0.N) : Arr F := ⟨iblk m c 2 t, iblk m c 3 t, iblk m c 4 t, iblk m c 5 t⟩

/-- A grid point from the queries' gradient it finds. -/
def ptAt (t : Fin cfg0.N) (q : Vec F S2x16x128x512 .f32) : St F :=
  pt (grid0.coords t) (keyBlk m c t) (valBlk m c t) (arrBlk m c t) q

/-- The state after the `n`-th grid point. -/
def stAt : (n : ℕ) → n < cfg0.N → St F
  | 0, h => ptAt m c ⟨0, h⟩ zeroQ
  | n + 1, h => ptAt m c ⟨n + 1, h⟩ (stAt n (Nat.lt_of_succ_lt h)).q

/-- A key gradient buffer before anything is written to it. -/
def someKs : Vec F S2x1x128x512 .f32 := fun _ => FloatOps.ofBits .f32 0#32

/-- What the key gradients' buffer holds after a grid point. -/
def outKAt (t : Fin cfg0.N) : Vec F S2x1x128x512 .f32 := outKs (stAt m c t.val t.isLt).k0 (stAt m c t.val t.isLt).k1 someKs
/-- What the value gradients' buffer holds after a grid point. -/
def outVAt (t : Fin cfg0.N) : Vec F S512x128 .bf16 := outV (stAt m c t.val t.isLt).v0 (stAt m c t.val t.isLt).v1

/-- What a grid point leaves in each block. -/
def afterW (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => (stAt m c t.val t.isLt).q
  | ⟨7, _⟩ => outKAt m c t
  | ⟨8, _⟩ => outVAt m c t
  | ⟨n + 9, h⟩ => absurd h (by show ¬ n + 9 < 9; omega)

/-- The proof data of the launch. -/
def dats (_ : Fin 1) (c : Dev nD) : Dat τ (Elt F) Unit ℕ (UR sig nD τ) ℕ cfg0 c where
  A w := V m c (Pipeline.arrRef spec0 w)
  after w t := afterW m c w t
  Φ _ := Pipeline.ΦA spec0 c
  q _ := fullShare
  owed _ := 0

/-- The arrays are those the region finds. -/
theorem A_eq (w : Fin cfg0.W) : (dats m 0 c).A w = V m c (Pipeline.arrRef spec0 w) := by dsimp only [dats]

/-- The first grid point of a head pair, told by its coordinates. -/
theorem isFirst_iff : ∀ t : Fin grid0.N, isFirst (grid0.coords t) = 1#1 ↔ t.val % 16 = 0 := by decide +kernel

/-- A point's result from what it finds, whatever the first point of a head pair finds. -/
theorem ptAt_before (t : Fin cfg0.N) (d : Vec F S2x16x128x512 .f32) :
    ptAt m c t ((dats m 0 c).before 6 t d) = stAt m c t.val t.isLt := by
  by_cases h : isFirst (grid0.coords t) = 1#1
  · have key : ∀ q q' : Vec F S2x16x128x512 .f32, ptAt m c t q = ptAt m c t q' := by
      intro q q'
      unfold ptAt pt begun
      simp only [if_pos h]
    obtain ⟨n, hn⟩ := t
    cases n with
    | zero => exact key _ _
    | succ n => exact key _ _
  · have hm : t.val % 16 ≠ 0 := fun e => h ((isFirst_iff t).mpr e)
    have h0 : t.val ≠ 0 := fun e => hm (by rw [e])
    rw [(dats m 0 c).before_of_pos 6 t h0 ((cfg0.win 6).fetch_out rfl t)]
    rw [if_neg (fun e => by
      have := (flush0_6 ⟨t.val - 1, Nat.lt_of_le_of_lt (Nat.sub_le _ _) t.isLt⟩).mp e
      simp only at this
      omega)]
    obtain ⟨n, hn⟩ := t
    cases n with
    | zero => exact absurd rfl h0
    | succ n => rfl

/-- Input 0's block is left in place. -/
theorem after_0 (t : Fin cfg0.N) : (dats m 0 c).after 0 t = iblk m c 0 t := by dsimp only [dats, afterW]
/-- Input 0's block is found at every point. -/
theorem before_0 (t : Fin cfg0.N) (d) : (dats m 0 c).before 0 t d = iblk m c 0 t :=
  before0_0_of m (dats m 0 c) (A_eq m c 0) (after_0 m c) t d
/-- Input 1's block is left in place. -/
theorem after_1 (t : Fin cfg0.N) : (dats m 0 c).after 1 t = iblk m c 1 t := by dsimp only [dats, afterW]
/-- Input 1's block is found at every point. -/
theorem before_1 (t : Fin cfg0.N) (d) : (dats m 0 c).before 1 t d = iblk m c 1 t :=
  before0_1_of m (dats m 0 c) (A_eq m c 1) (after_1 m c) t d
/-- Input 2's block is left in place. -/
theorem after_2 (t : Fin cfg0.N) : (dats m 0 c).after 2 t = iblk m c 2 t := by dsimp only [dats, afterW]
/-- Input 2's block is found at every point. -/
theorem before_2 (t : Fin cfg0.N) (d) : (dats m 0 c).before 2 t d = iblk m c 2 t :=
  before0_2_of m (dats m 0 c) (A_eq m c 2) (after_2 m c) t d
/-- Input 3's block is left in place. -/
theorem after_3 (t : Fin cfg0.N) : (dats m 0 c).after 3 t = iblk m c 3 t := by dsimp only [dats, afterW]
/-- Input 3's block is found at every point. -/
theorem before_3 (t : Fin cfg0.N) (d) : (dats m 0 c).before 3 t d = iblk m c 3 t :=
  before0_3_of m (dats m 0 c) (A_eq m c 3) (after_3 m c) t d
/-- Input 4's block is left in place. -/
theorem after_4 (t : Fin cfg0.N) : (dats m 0 c).after 4 t = iblk m c 4 t := by dsimp only [dats, afterW]
/-- Input 4's block is found at every point. -/
theorem before_4 (t : Fin cfg0.N) (d) : (dats m 0 c).before 4 t d = iblk m c 4 t :=
  before0_4_of m (dats m 0 c) (A_eq m c 4) (after_4 m c) t d
/-- Input 5's block is left in place. -/
theorem after_5 (t : Fin cfg0.N) : (dats m 0 c).after 5 t = iblk m c 5 t := by dsimp only [dats, afterW]
/-- Input 5's block is found at every point. -/
theorem before_5 (t : Fin cfg0.N) (d) : (dats m 0 c).before 5 t d = iblk m c 5 t :=
  before0_5_of m (dats m 0 c) (A_eq m c 5) (after_5 m c) t d

/-- What the body is called with at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at a point. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The blocks of a point as it is called with them. -/
abbrev srcsAt (t : Fin cfg0.N) : Srcs := ⟨st0_2 t, st0_3 t, st0_4 t, st0_5 t⟩
/-- The four accumulators. -/
abbrev accs : Accs := ⟨Memref.whole cc0_scratch0, Memref.whole cc0_scratch1, Memref.whole cc0_scratch2, Memref.whole cc0_scratch3⟩

/-- The body at a point is the program the steps are proved of. -/
theorem bodyAt0_eq (t : Fin cfg0.N) : bodyAt0 (F := F) t = (startQ (grid0.coords t) (st0_6 t) >>= fun _ =>
    point (grid0.coords t) (srcsAt t) accs (st0_0 t) (st0_1 t) (st0_6 t) (st0_7 t) (st0_8 t) (hstage0_8 ((cfg0.slots t 8).cast nbuf0_8))) :=
  cc0_eq ..

/-- The body at a point, from what it finds to what it leaves. -/
theorem sound_body (t : Fin cfg0.N) :
    bodyPre m c t ⊢ wp frame (wpE (defs₀ (F := F)) Variants.none (c.tc : Thread nD τ) none) Set.univ (bodyAt0 t) (fun _ => bodyPost m c t) := by
  rw [bodyAt0_eq]
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0, before_1, before_2, before_3, before_4, before_5]
  have hs : ∀ (f0 f1 : Vec F S128x512 .f32) (f2 f3 : Vec F S64x512 .f32),
      (iprop(((c : Thread nD τ).loc cc0_scratch0 ↦{fullShare} f0) ∗ ((c : Thread nD τ).loc cc0_scratch1 ↦{fullShare} f1)
        ∗ ((c : Thread nD τ).loc cc0_scratch2 ↦{fullShare} f2) ∗ ((c : Thread nD τ).loc cc0_scratch3 ↦{fullShare} f3)) : sProp 𝕄)
      = iprop(owns (c.tc : Thread nD τ) (accs).m11 fullShare f0 ∗ owns (c.tc : Thread nD τ) (accs).m12 fullShare f1
        ∗ owns (c.tc : Thread nD τ) (accs).m13 fullShare f2 ∗ owns (c.tc : Thread nD τ) (accs).m14 fullShare f3) := by
    intro f0 f1 f2 f3
    simp only [owns_whole]
  ihave HA : (heldA c accs (st0_6 t) ⟨(dats m 0 c).before 6 t d6, f0, f1, f2, f3⟩ : sProp 𝕄) $$ [H6 S0 S1 S2 S3]
  · unfold heldA
    isplitl [H6]; · iexact H6
    rw [← hs]
    iframe
  ihave HS : (heldS c (srcsAt t) (arrBlk m c t) : sProp 𝕄) $$ [H2 H3 H4 H5]
  · unfold heldS arrBlk
    iframe
  ihave H : (iprop(owns (c.tc : Thread nD τ) (st0_0 t) fullShare (keyBlk m c t) ∗ owns (c.tc : Thread nD τ) (st0_1 t) fullShare (valBlk m c t)
      ∗ heldS c (srcsAt t) (arrBlk m c t) ∗ heldA c accs (st0_6 t) ⟨(dats m 0 c).before 6 t d6, f0, f1, f2, f3⟩
      ∗ owns (c.tc : Thread nD τ) (st0_7 t) fullShare ((dats m 0 c).before 7 t d7)
      ∗ owns (c.tc : Thread nD τ) (st0_8 t) fullShare ((dats m 0 c).before 8 t d8)) : sProp 𝕄) $$ [H0 H1 HS HA H7 H8]
  · unfold keyBlk valBlk
    iframe
  iapply (point_k Variants.none c) $$ H
  rw [pointF_eq, show pt (grid0.coords t) (keyBlk m c t) (valBlk m c t) (arrBlk m c t) ((dats m 0 c).before 6 t d6) = stAt m c t.val t.isLt from ptAt_before m c t d6,
    outVs_eq, outKs_any _ _ _ someKs]
  iintro ⟨H0, H1, HS, HA, H7, H8⟩
  unfold heldS heldA
  icases HS with ⟨H2, H3, H4, H5⟩
  icases HA with ⟨H6, HA⟩
  ihave HA : (iprop(((c : Thread nD τ).loc cc0_scratch0 ↦{fullShare} (stAt m c t.val t.isLt).k0) ∗ ((c : Thread nD τ).loc cc0_scratch1 ↦{fullShare} (stAt m c t.val t.isLt).k1)
        ∗ ((c : Thread nD τ).loc cc0_scratch2 ↦{fullShare} (stAt m c t.val t.isLt).v0) ∗ ((c : Thread nD τ).loc cc0_scratch3 ↦{fullShare} (stAt m c t.val t.isLt).v1)) : sProp 𝕄) $$ [HA]
  · rw [hs]
    iexact HA
  icases HA with ⟨S0, S1, S2, S3⟩
  isplitl [S0 S1 S2 S3 Hr]
  · isplitr [Hr]
    · isplitl [S0]; · iexists _; iexact S0
      isplitl [S1]; · iexists _; iexact S1
      isplitl [S2]; · iexists _; iexact S2
      iexists _; iexact S3
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- Every grid point meets what the launch asks of it. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters the program terminates without fault, its arrays end as the points leave them and
    the host lines after the launch compute, and every counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := fun r => Pipeline.FramePost cfgs (dats m) 0 (Pipeline.afterTail₀ cfgs (dats m) 0 (V0 m) [hostOps1]) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

end Cert.KernelIdeal.Hand
-- ==== Proof.Frames.lean ====
/-
  Hand-written. The frames of the kernel, as printed and idealized: one run, read at the two instances.
-/
module

public import proofs.«01_k».proof.Defs
public import proofs.«01_k».proof.Proof.Launched
public import proofs.«01_k».proof.Proof.Gen.Kernel
public import proofs.«01_k».proof.Proof.Gen.KernelIdeal
public import proofs.«01_k».proof.Proof.Gen.ReferenceIdeal.Run

@[expose] public section

set_option maxRecDepth 16384

noncomputable section

namespace Cert.Frames

open Idealize.ShloMosaic Idealize.ShloMosaic.TcCoe Idealize.SL.Sem

section Ideal
open KernelIdeal KernelIdeal.Gen KernelIdeal.Hand

variable {F : FTy → Type} [FloatOps F] [Named F] (m : (ℓ : Loc nD τ sig) → Buf (Elt F) ℓ) (ρ : Dev nD → PrngReg)

/-- After the run every argument holds what it held and every counter is zero. -/
theorem kept {r : PUnit × MemSt nD τ sig (Elt F)}
    (h : Pipeline.FramePost cfgs (dats m) 0 (Pipeline.afterTail₀ cfgs (dats m) 0 (V0 m) [hostOps1]) r ∧ r.2.sem = fun _ => 0) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 := by
  refine ⟨fun c => ?_, h.2⟩
  have h := h.1 c
  exact ⟨(h.2 main_arg0 (Pipeline.mem_restRefs_of main_arg0 (by decide) (by decide))).trans (W_main_arg0 m (dats m) c),
    (h.2 main_arg1 (Pipeline.mem_restRefs_of main_arg1 (by decide) (by decide))).trans (W_main_arg1 m (dats m) c),
    (h.2 main_arg2 (Pipeline.mem_restRefs_of main_arg2 (by decide) (by decide))).trans (W_main_arg2 m (dats m) c),
    (h.2 main_arg3 (Pipeline.mem_restRefs_of main_arg3 (by decide) (by decide))).trans (W_main_arg3 m (dats m) c),
    (h.2 main_arg4 (Pipeline.mem_restRefs_of main_arg4 (by decide) (by decide))).trans (W_main_arg4 m (dats m) c)⟩

/-- The program's run, at any instance of the floats. -/
theorem run_kept : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => kept m h) (run_main m ρ)

/-- The frame of the idealized kernel. -/
theorem frame_kernelIdeal : quiescent_KernelIdeal := fun m ρ _ => run_kept m ρ

end Ideal

/-- At the bit-exact instance a named constant is its own word. -/
instance namedBits : Named Bits where
  named _ _ {φ} bits := Scalar.ofBits φ bits

/-- The two printings of the kernel's function are one. -/
theorem cc0_same : Kernel.cc0_fox_attn_bwd (F := Bits) = KernelIdeal.cc0_fox_attn_bwd (F := Bits) := rfl

set_option maxHeartbeats 1000000 in
/-- The two printings' body tables are one. -/
theorem defs₀_same : Kernel.defs₀ (F := Bits) = KernelIdeal.defs₀ (F := Bits) := by
  unfold Kernel.defs₀ KernelIdeal.defs₀
  refine congrArg Defs.onTc (funext fun l => funext fun a => ?_)
  match l, a with
  | ⟨0, _⟩, (t, s) =>
    dsimp only
    rw [cc0_same]
    rfl
  | ⟨n + 1, h⟩, _ => exact absurd h (Nat.not_lt.2 (Nat.le_add_left _ _))

/-- The two printings' launches are one. -/
theorem pcfgs_same : Kernel.pcfgs (F := Bits) = KernelIdeal.pcfgs (F := Bits) := rfl

/-- The two printings' definitions are one. -/
theorem defs_same : Kernel.defs (F := Bits) = KernelIdeal.defs (F := Bits) :=
  congrArg (Pipeline.defs (KernelIdeal.pcfgs (F := Bits))) defs₀_same

set_option maxHeartbeats 4000000 in
/-- The first lines of the two printings are one. -/
theorem part0_same : Kernel.main_part0 (F := Bits) = KernelIdeal.main_part0 (F := Bits) := rfl

set_option maxHeartbeats 4000000 in
/-- The last lines of the two printings are one. -/
theorem part1_same : Kernel.main_part1 (F := Bits) = KernelIdeal.main_part1 (F := Bits) := rfl

set_option maxHeartbeats 4000000 in
/-- The two printed programs are one. -/
theorem main_same : Kernel.main (F := Bits) = KernelIdeal.main (F := Bits) := by
  funext d
  have h := congr (congrArg Bind.bind (congrFun part0_same d)) (funext fun _ : PUnit => congrFun part1_same d)
  exact h

section
open KernelIdeal

/-- A run of a program is a run of any equal one. -/
theorem run_same {D D' : Defs nD τ sig (Elt Bits) (Pipeline.Sig Λ₀ (Fin 1) fun p => (pcfgs (F := Bits) p).Adm)}
    {M M' : Dev nD → Prog (TpuEff nD τ sig (Elt Bits) (Pipeline.Sig Λ₀ (Fin 1) fun p => (pcfgs (F := Bits) p).Adm) .tc) PUnit}
    (hD : D = D') (hM : M = M') {s : MemSt nD τ sig (Elt Bits)} {Q : PUnit × MemSt nD τ sig (Elt Bits) → Prop}
    (h : θ_run D' (onTc (τ := τ) M') s Q) : θ_run D (onTc (τ := τ) M) s Q := by
  subst hD hM
  exact h

end

/-- The frame of the kernel as printed. -/
theorem frame_kernel : quiescent_Kernel := fun m ρ _ =>
  run_same defs_same main_same (run_kept (F := Bits) m ρ)

/-- The frame of the idealized reference. -/
theorem frame_referenceIdeal : quiescent_ReferenceIdeal := fun m ρ _ =>
  (θ_run ReferenceIdeal.defs _ _).mono (fun r h => ⟨fun c => (h c).2.2.2.2, sem_eq_zero_of_no_sems (by decide) r.2⟩)
    (ReferenceIdeal.Value.run m ρ)

/-- The one rewrite of the idealization: ln 2 is named. -/
theorem preserves_kernel : preserves_Kernel_KernelIdeal :=
  IdealRules.named_const.statement KernelIdeal.κ "ln2" .f32 0x3F317218#32 ((Real.log 2 : ℝ) : EReal) rfl

end Cert.Frames
-- ==== Proof.Mla.Tile.lean ====
/-
  Hand-written. One key block against one query tile of the attention's backward kernel: the values of such a step and
  the program that makes it. The kernel's loops repeat the unmasked step (`tile`); its first step of a grid point is the
  tile on the diagonal (`diag`). The lemmas at the end say that the regions the kernel's loops repeat are these programs.
-/
module

public import proofs.«01_k».proof.Proof.Held
public import proofs.«01_k».proof.Proof.Gen.Kernel2Ideal.Skeleton

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What a grid point takes from its key block, for the two heads: the keys, their scaled transposes, and the values
    with the other head's columns zeroed. -/
structure Keys (F : FTy → Type) where
  k0 : FVec F S512x128 .bf16
  k1 : FVec F S512x128 .bf16
  t0 : FVec F S128x512 .bf16
  t1 : FVec F S128x512 .bf16
  v0 : FVec F S512x128 .bf16
  v1 : FVec F S512x128 .bf16

/-- What a step takes from its query tile: the two heads' output cotangents (stacked), queries, log-sum-exps and row
    dots. -/
structure Row (F : FTy → Type) where
  g : FVec F S128x512 .bf16
  q0 : FVec F S128x512 .bf16
  q1 : FVec F S128x512 .bf16
  l0 : FVec F S1x512 .f32
  l1 : FVec F S1x512 .f32
  d0 : FVec F S1x512 .f32
  d1 : FVec F S1x512 .f32

section Values

/-- Half a tile's scores: keys against the queries of the half that starts at `o`. -/
def sc (k : FVec F S512x128 .bf16) (q : FVec F S128x512 .bf16) (o : Fin 2 → ℕ) (h : S128x512.Slices o S128x256) :
    FVec F S512x256 .f32 :=
  matmul dot_S512x128_S128x256_S512x256_1_0_0_1_n_n none k (extractStridedSlice S128x256 o q h)
    (constant S512x256 .f32 0x00000000#32)

/-- Half a row of per-query numbers, repeated for every key. -/
def rep (l : FVec F S1x512 .f32) (o : Fin 2 → ℕ) (h : S1x512.Slices o S1x256) : FVec F S512x256 .f32 :=
  broadcastTo S512x256 (extractStridedSlice S1x256 o l h) broadcasts_S1x256_S512x256

/-- The probabilities of half a tile from its scores. -/
def pr (s : FVec F S512x256 .f32) (l : FVec F S512x256 .f32) : FVec F S512x256 .f32 := exp2 (subf s l)

/-- The scores' gradients of half a tile: the probabilities times the values' products less the row dots. -/
def ds (p : FVec F S512x256 .f32) (e : FVec F S512x256 .f32) (d : FVec F S512x256 .f32) : FVec F S512x256 .bf16 :=
  truncf .bf16 (mulf p (subf e d)) bitsLt_bf16_f32

/-- What half a tile adds to the values' gradient. -/
def dvAdd (g : FVec F S128x512 .bf16) (o : Fin 2 → ℕ) (h : S128x512.Slices o S64x256) (p : FVec F S512x256 .f32) :
    FVec F S64x512 .f32 :=
  matmul dot_S64x256_S512x256_S64x512_1_1_0_0_n_n none (extractStridedSlice S64x256 o g h)
    (truncf .bf16 p bitsLt_bf16_f32) (constant S64x512 .f32 0x00000000#32)

/-- What half a tile adds to the keys' gradient. -/
def dkAdd (q : FVec F S128x512 .bf16) (o : Fin 2 → ℕ) (h : S128x512.Slices o S128x256) (z : FVec F S512x256 .bf16) :
    FVec F S128x512 .f32 :=
  matmul dot_S128x256_S512x256_S128x512_1_1_0_0_n_n none (extractStridedSlice S128x256 o q h) z
    (constant S128x512 .f32 0x00000000#32)

/-- What half a tile adds to the queries' gradient. -/
def dqAdd (t : FVec F S128x512 .bf16) (z : FVec F S512x256 .bf16) : FVec F S128x256 .f32 :=
  matmul dot_S128x512_S512x256_S128x256_1_0_0_1_n_n none t z (constant S128x256 .f32 0x00000000#32)

/-- The two halves of a head's share in the queries' gradient, side by side. -/
def both (x y : FVec F S128x256 .f32) : FVec F S128x512 .f32 :=
  concatenate S128x512 1 [⟨S128x256, x⟩, ⟨S128x256, y⟩] concatenates_S128x256_S128x256_S128x512_d1

/-! The first half of the diagonal tile meets the first 256 keys only. -/

/-- The first half's scores on the diagonal tile. -/
def scD (k : FVec F S512x128 .bf16) (q : FVec F S128x512 .bf16) : FVec F S256x256 .f32 :=
  matmul dot_S256x128_S128x256_S256x256_1_0_0_1_n_n none (extractStridedSlice S256x128 ![0, 0] k slices_S512x128_o0_0_S256x128)
    (extractStridedSlice S128x256 ![0, 0] q slices_S128x512_o0_0_S128x256) (constant S256x256 .f32 0x00000000#32)

/-- The first half of a row of per-query numbers, repeated for the first 256 keys. -/
def repD (l : FVec F S1x512 .f32) : FVec F S256x256 .f32 :=
  broadcastTo S256x256 (extractStridedSlice S1x256 ![0, 0] l slices_S1x512_o0_0_S1x256) broadcasts_S1x256_S256x256

/-- The first half's scores with −∞ where the key comes after the query. -/
def maskD (s : FVec F S256x256 .f32) : FVec F S256x256 .f32 :=
  select (cmpi .sge (addi (iota .tc S256x256 32 [1] iota_S256x256_d1_w32) (broadcast S256x256 0#32))
      (iota .tc S256x256 32 [0] iota_S256x256_d0_w32)) s (broadcast S256x256 (Scalar.ofBits .f32 0xFF800000#32))

/-- The second half's scores with −∞ where the key comes after the query. -/
def mask1 (s : FVec F S512x256 .f32) : FVec F S512x256 .f32 :=
  select (cmpi .sge (addi (iota .tc S512x256 32 [1] iota_S512x256_d1_w32) (broadcast S512x256 256#32))
      (iota .tc S512x256 32 [0] iota_S512x256_d0_w32)) s (broadcast S512x256 (Scalar.ofBits .f32 0xFF800000#32))

def prD (s : FVec F S256x256 .f32) (l : FVec F S256x256 .f32) : FVec F S256x256 .f32 := exp2 (subf s l)

def dsD (p : FVec F S256x256 .f32) (e : FVec F S256x256 .f32) (d : FVec F S256x256 .f32) : FVec F S256x256 .bf16 :=
  truncf .bf16 (mulf p (subf e d)) bitsLt_bf16_f32

def dvAddD (g : FVec F S128x512 .bf16) (o : Fin 2 → ℕ) (h : S128x512.Slices o S64x256) (p : FVec F S256x256 .f32) :
    FVec F S64x256 .f32 :=
  matmul dot_S64x256_S256x256_S64x256_1_1_0_0_n_n none (extractStridedSlice S64x256 o g h)
    (truncf .bf16 p bitsLt_bf16_f32) (constant S64x256 .f32 0x00000000#32)

def dkAddD (q : FVec F S128x512 .bf16) (z : FVec F S256x256 .bf16) : FVec F S128x256 .f32 :=
  matmul dot_S128x256_S256x256_S128x256_1_1_0_0_n_n none
    (extractStridedSlice S128x256 ![0, 0] q slices_S128x512_o0_0_S128x256) z (constant S128x256 .f32 0x00000000#32)

def dqAddD (t : FVec F S128x512 .bf16) (z : FVec F S256x256 .bf16) : FVec F S128x256 .f32 :=
  matmul dot_S128x256_S256x256_S128x256_1_0_0_1_n_n none
    (extractStridedSlice S128x256 ![0, 0] t slices_S128x512_o0_0_S128x256) z (constant S128x256 .f32 0x00000000#32)

/-- The updates a store makes of what was loaded: the sum, in the shapes the kernel casts to. -/
def up64 (x : FVec F S64x512 .f32) (a : Vec F S64x512 .f32) : Vec F S64x512 .f32 :=
  shapeCast S64x512 (addf a x) shapeCasts_S64x512_S64x512
def up128 (x : FVec F S128x512 .f32) (a : Vec F S128x512 .f32) : Vec F S128x512 .f32 :=
  shapeCast S128x512 (addf a x) shapeCasts_S128x512_S128x512
def up64D (x : FVec F S64x256 .f32) (a : Vec F S64x256 .f32) : Vec F S64x256 .f32 :=
  shapeCast S64x256 (addf a x) shapeCasts_S64x256_S64x256
def up128D (x : FVec F S128x256 .f32) (a : Vec F S128x256 .f32) : Vec F S128x256 .f32 :=
  shapeCast S128x256 (addf a x) shapeCasts_S128x256_S128x256
def upQ (x : FVec F S128x512 .f32) (a : Vec F S1x1x128x512 .f32) : Vec F S1x1x128x512 .f32 :=
  shapeCast S1x1x128x512 (addf (shapeCast S128x512 a shapeCasts_S1x1x128x512_S128x512) x) shapeCasts_S128x512_S1x1x128x512

/-- A head's probabilities in half a tile that the mask leaves alone. -/
def pOf (k : FVec F S512x128 .bf16) (q : FVec F S128x512 .bf16) (l : FVec F S1x512 .f32) (o : Fin 2 → ℕ)
    (h : S128x512.Slices o S128x256) (h' : S1x512.Slices o S1x256) : FVec F S512x256 .f32 := pr (sc k q o h) (rep l o h')

/-- A head's score gradients in half a tile, from the probabilities. -/
def zOf (v : FVec F S512x128 .bf16) (g : FVec F S128x512 .bf16) (d : FVec F S1x512 .f32) (o : Fin 2 → ℕ)
    (h : S128x512.Slices o S128x256) (h' : S1x512.Slices o S1x256) (p : FVec F S512x256 .f32) : FVec F S512x256 .bf16 :=
  ds p (sc v g o h) (rep d o h')

/-- A head's probabilities in the first half of the diagonal tile. -/
def pOfD (k : FVec F S512x128 .bf16) (q : FVec F S128x512 .bf16) (l : FVec F S1x512 .f32) : FVec F S256x256 .f32 :=
  prD (maskD (scD k q)) (repD l)

/-- A head's score gradients in the first half of the diagonal tile. -/
def zOfD (v : FVec F S512x128 .bf16) (g : FVec F S128x512 .bf16) (d : FVec F S1x512 .f32) (p : FVec F S256x256 .f32) :
    FVec F S256x256 .bf16 := dsD p (scD v g) (repD d)

/-- A head's probabilities in the second half of the diagonal tile. -/
def pOf1 (k : FVec F S512x128 .bf16) (q : FVec F S128x512 .bf16) (l : FVec F S1x512 .f32) : FVec F S512x256 .f32 :=
  pr (mask1 (sc k q ![0, 256] slices_S128x512_o0_256_S128x256)) (rep l ![0, 256] slices_S1x512_o0_256_S1x256)

end Values

/-! ## The programs -/

section Programs

variable {sp : CoreSpace} {s : Shape} {e : EltTy}

/-- Load a rectangle (twice: the second value is not used) and store an update of it. -/
def bump (m : Memref sig .tc sp s e) (r : Rect s) (hl : m.view.LoadsAt r.toLoadRect) (hx : (m.access r).Stores Finset.univ)
    (hm : (Finset.univ : Finset r.shape.Idx) = Finset.univ ∨ ∀ a, r.stride a = 1) (u : (r.shape.Idx → Elt F e) → (r.shape.Idx → Elt F e)) :
    Prog (TpuEff nD τ sig (Elt F) Λ₀ .tc) Unit := do
  let a ← Prog.lift (.load m r.toLoadRect hl)
  let _ ← Prog.lift (.load m r.toLoadRect hl)
  Prog.lift (.store m r (u a) Finset.univ hx hm)

/-- The four accumulators of a grid point. -/
structure Accs where
  m11 : Memref sig .tc .vmem S128x512 .f32
  m12 : Memref sig .tc .vmem S128x512 .f32
  m13 : Memref sig .tc .vmem S64x512 .f32
  m14 : Memref sig .tc .vmem S64x512 .f32

/-- The arrays a query tile is read from. -/
structure Srcs where
  m4 : Memref sig .tc .vmem S2x16x128x512 .bf16
  m5 : Memref sig .tc .vmem S1x16x128x512 .bf16
  m6 : Memref sig .tc .vmem S2x16x1x512 .f32
  m7 : Memref sig .tc .vmem S2x16x1x512 .f32

/-- Where a step's query tile lies: the offsets into the arrays, in bounds. -/
structure Offs where
  a : Fin 4 → ℕ
  b0 : Fin 4 → ℕ
  b1 : Fin 4 → ℕ
  c0 : Fin 4 → ℕ
  c1 : Fin 4 → ℕ
  ha : ∀ x, a x + S1x1x128x512.size x ≤ S1x16x128x512.size x
  hb0 : ∀ x, b0 x + S1x1x128x512.size x ≤ S2x16x128x512.size x
  hb1 : ∀ x, b1 x + S1x1x128x512.size x ≤ S2x16x128x512.size x
  hc0 : ∀ x, c0 x + S1x1x1x512.size x ≤ S2x16x1x512.size x
  hc1 : ∀ x, c1 x + S1x1x1x512.size x ≤ S2x16x1x512.size x

/-- The tile's rectangles. -/
def Offs.ra (o : Offs) : Rect S1x16x128x512 := Rect.unit o.a S1x1x128x512.size o.ha
def Offs.rb0 (o : Offs) : Rect S2x16x128x512 := Rect.unit o.b0 S1x1x128x512.size o.hb0
def Offs.rb1 (o : Offs) : Rect S2x16x128x512 := Rect.unit o.b1 S1x1x128x512.size o.hb1
def Offs.rc0 (o : Offs) : Rect S2x16x1x512 := Rect.unit o.c0 S1x1x1x512.size o.hc0
def Offs.rc1 (o : Offs) : Rect S2x16x1x512 := Rect.unit o.c1 S1x1x1x512.size o.hc1

/-- The accumulators' rectangles: whole, and their first 256 keys. -/
abbrev r64 : Rect S64x512 := Rect.unit (s := S64x512) ![0, 0] S64x512.size inb_S64x512_S64x512_0_0
abbrev r128 : Rect S128x512 := Rect.unit (s := S128x512) ![0, 0] S128x512.size inb_S128x512_S128x512_0_0
abbrev r64D : Rect S64x512 := Rect.unit (s := S64x512) ![0, 0] S64x256.size inb_S64x512_S64x256_0_0
abbrev r128D : Rect S128x512 := Rect.unit (s := S128x512) ![0, 0] S128x256.size inb_S128x512_S128x256_0_0

/-- A row from the seven rectangles read. -/
def mkRow (g q0 q1 : Vec F S1x1x128x512 .bf16) (l0 l1 d0 d1 : Vec F S1x1x1x512 .f32) : Row F where
  g := shapeCast S128x512 g shapeCasts_S1x1x128x512_S128x512
  q0 := shapeCast S128x512 q0 shapeCasts_S1x1x128x512_S128x512
  q1 := shapeCast S128x512 q1 shapeCasts_S1x1x128x512_S128x512
  l0 := shapeCast S1x512 l0 shapeCasts_S1x1x1x512_S1x512
  l1 := shapeCast S1x512 l1 shapeCasts_S1x1x1x512_S1x512
  d0 := shapeCast S1x512 d0 shapeCasts_S1x1x1x512_S1x512
  d1 := shapeCast S1x512 d1 shapeCasts_S1x1x1x512_S1x512

/-- Read a query tile. -/
def readRow (S : Srcs) (o : Offs) : Prog (TpuEff nD τ sig (Elt F) Λ₀ .tc) (Row F) := do
  let g ← Prog.lift (.load S.m5 o.ra.toLoadRect (View.loadsAt_vmem h_S1x1x128x512))
  let q0 ← Prog.lift (.load S.m4 o.rb0.toLoadRect (View.loadsAt_vmem h_S1x1x128x512))
  let q1 ← Prog.lift (.load S.m4 o.rb1.toLoadRect (View.loadsAt_vmem h_S1x1x128x512))
  let l0 ← Prog.lift (.load S.m6 o.rc0.toLoadRect (View.loadsAt_vmem h_S1x1x1x512))
  let l1 ← Prog.lift (.load S.m6 o.rc1.toLoadRect (View.loadsAt_vmem h_S1x1x1x512))
  let d0 ← Prog.lift (.load S.m7 o.rc0.toLoadRect (View.loadsAt_vmem h_S1x1x1x512))
  let d1 ← Prog.lift (.load S.m7 o.rc1.toLoadRect (View.loadsAt_vmem h_S1x1x1x512))
  pure (mkRow g q0 q1 l0 l1 d0 d1)

/-- Add to a head's two accumulators. -/
def add (mv : Memref sig .tc .vmem S64x512 .f32) (mk : Memref sig .tc .vmem S128x512 .f32) (x : FVec F S64x512 .f32)
    (y : FVec F S128x512 .f32) : Prog (TpuEff nD τ sig (Elt F) Λ₀ .tc) Unit := do
  bump mv r64 (View.loadsAt_vmem h_S64x512) (View.stores_vmem_bits_univ h_S64x512 rfl) (.inl rfl) (up64 x)
  bump mk r128 (View.loadsAt_vmem h_S128x512) (View.stores_vmem_bits_univ h_S128x512 rfl) (.inl rfl) (up128 y)

/-- Add to the first 256 keys of a head's two accumulators. -/
def addD (mv : Memref sig .tc .vmem S64x512 .f32) (mk : Memref sig .tc .vmem S128x512 .f32) (x : FVec F S64x256 .f32)
    (y : FVec F S128x256 .f32) : Prog (TpuEff nD τ sig (Elt F) Λ₀ .tc) Unit := do
  bump mv r64D (View.loadsAt_vmem h_S64x256) (View.stores_vmem_bits_univ h_S64x256 rfl) (.inl rfl) (up64D x)
  bump mk r128D (View.loadsAt_vmem h_S128x256) (View.stores_vmem_bits_univ h_S128x256 rfl) (.inl rfl) (up128D y)

/-- Add the two heads' shares to the queries' gradient. -/
def addQ (m8 : Memref sig .tc .vmem S2x16x128x512 .f32) (o : Offs) (x y : FVec F S128x512 .f32) :
    Prog (TpuEff nD τ sig (Elt F) Λ₀ .tc) Unit := do
  bump m8 o.rb0 (View.loadsAt_vmem h_S1x1x128x512) (View.stores_vmem_bits_univ h_S1x1x128x512 rfl) (.inl rfl) (upQ x)
  bump m8 o.rb1 (View.loadsAt_vmem h_S1x1x128x512) (View.stores_vmem_bits_univ h_S1x1x128x512 rfl) (.inl rfl) (upQ y)

/-- What one step's arithmetic gives, head by head and half by half. -/
structure Parts (F : FTy → Type) where
  x00 : FVec F S64x512 .f32
  y00 : FVec F S128x512 .f32
  x01 : FVec F S64x512 .f32
  y01 : FVec F S128x512 .f32
  x10 : FVec F S64x512 .f32
  y10 : FVec F S128x512 .f32
  x11 : FVec F S64x512 .f32
  y11 : FVec F S128x512 .f32
  w0 : FVec F S128x512 .f32
  w1 : FVec F S128x512 .f32

/-- The shares of the unmasked step. -/
def tileParts (K : Keys F) (R : Row F) : Parts F :=
  let o0 := slices_S128x512_o0_0_S128x256
  let o1 := slices_S128x512_o0_256_S128x256
  let c0 := slices_S1x512_o0_0_S1x256
  let c1 := slices_S1x512_o0_256_S1x256
  let p00 := pOf K.k0 R.q0 R.l0 ![0, 0] o0 c0
  let z00 := zOf K.v0 R.g R.d0 ![0, 0] o0 c0 p00
  let p01 := pOf K.k0 R.q0 R.l0 ![0, 256] o1 c1
  let z01 := zOf K.v0 R.g R.d0 ![0, 256] o1 c1 p01
  let p10 := pOf K.k1 R.q1 R.l1 ![0, 0] o0 c0
  let z10 := zOf K.v1 R.g R.d1 ![0, 0] o0 c0 p10
  let p11 := pOf K.k1 R.q1 R.l1 ![0, 256] o1 c1
  let z11 := zOf K.v1 R.g R.d1 ![0, 256] o1 c1 p11
  { x00 := dvAdd R.g ![0, 0] slices_S128x512_o0_0_S64x256 p00, y00 := dkAdd R.q0 ![0, 0] o0 z00
    x01 := dvAdd R.g ![0, 256] slices_S128x512_o0_256_S64x256 p01, y01 := dkAdd R.q0 ![0, 256] o1 z01
    x10 := dvAdd R.g ![64, 0] slices_S128x512_o64_0_S64x256 p10, y10 := dkAdd R.q1 ![0, 0] o0 z10
    x11 := dvAdd R.g ![64, 256] slices_S128x512_o64_256_S64x256 p11, y11 := dkAdd R.q1 ![0, 256] o1 z11
    w0 := both (dqAdd K.t0 z00) (dqAdd K.t0 z01), w1 := both (dqAdd K.t1 z10) (dqAdd K.t1 z11) }

/-- The unmasked step. -/
def tile (K : Keys F) (S : Srcs) (A : Accs) (m8 : Memref sig .tc .vmem S2x16x128x512 .f32) (o : Offs) :
    Prog (TpuEff nD τ sig (Elt F) Λ₀ .tc) Unit := do
  let R ← readRow S o
  add A.m13 A.m11 (tileParts K R).x00 (tileParts K R).y00
  add A.m13 A.m11 (tileParts K R).x01 (tileParts K R).y01
  add A.m14 A.m12 (tileParts K R).x10 (tileParts K R).y10
  add A.m14 A.m12 (tileParts K R).x11 (tileParts K R).y11
  addQ m8 o (tileParts K R).w0 (tileParts K R).w1

/-- What the diagonal step's arithmetic gives. -/
structure DParts (F : FTy → Type) where
  x00 : FVec F S64x256 .f32
  y00 : FVec F S128x256 .f32
  x01 : FVec F S64x512 .f32
  y01 : FVec F S128x512 .f32
  x10 : FVec F S64x256 .f32
  y10 : FVec F S128x256 .f32
  x11 : FVec F S64x512 .f32
  y11 : FVec F S128x512 .f32
  w0 : FVec F S128x512 .f32
  w1 : FVec F S128x512 .f32

/-- The shares of the diagonal step. -/
def diagParts (K : Keys F) (R : Row F) : DParts F :=
  let o1 := slices_S128x512_o0_256_S128x256
  let c1 := slices_S1x512_o0_256_S1x256
  let p00 := pOfD K.k0 R.q0 R.l0
  let z00 := zOfD K.v0 R.g R.d0 p00
  let p01 := pOf1 K.k0 R.q0 R.l0
  let z01 := zOf K.v0 R.g R.d0 ![0, 256] o1 c1 p01
  let p10 := pOfD K.k1 R.q1 R.l1
  let z10 := zOfD K.v1 R.g R.d1 p10
  let p11 := pOf1 K.k1 R.q1 R.l1
  let z11 := zOf K.v1 R.g R.d1 ![0, 256] o1 c1 p11
  { x00 := dvAddD R.g ![0, 0] slices_S128x512_o0_0_S64x256 p00, y00 := dkAddD R.q0 z00
    x01 := dvAdd R.g ![0, 256] slices_S128x512_o0_256_S64x256 p01, y01 := dkAdd R.q0 ![0, 256] o1 z01
    x10 := dvAddD R.g ![64, 0] slices_S128x512_o64_0_S64x256 p10, y10 := dkAddD R.q1 z10
    x11 := dvAdd R.g ![64, 256] slices_S128x512_o64_256_S64x256 p11, y11 := dkAdd R.q1 ![0, 256] o1 z11
    w0 := both (dqAddD K.t0 z00) (dqAdd K.t0 z01), w1 := both (dqAddD K.t1 z10) (dqAdd K.t1 z11) }

/-- The diagonal step. -/
def diag (K : Keys F) (S : Srcs) (A : Accs) (m8 : Memref sig .tc .vmem S2x16x128x512 .f32) (o : Offs) :
    Prog (TpuEff nD τ sig (Elt F) Λ₀ .tc) Unit := do
  let R ← readRow S o
  addD A.m13 A.m11 (diagParts K R).x00 (diagParts K R).y00
  add A.m13 A.m11 (diagParts K R).x01 (diagParts K R).y01
  addD A.m14 A.m12 (diagParts K R).x10 (diagParts K R).y10
  add A.m14 A.m12 (diagParts K R).x11 (diagParts K R).y11
  addQ m8 o (diagParts K R).w0 (diagParts K R).w1

end Programs

/-! ## The kernel's regions are these programs -/

section Regions

variable (i : grid0.Coords) (arg2 : Memref sig .tc .vmem S512x256 .bf16) (harg2 : arg2.IsWhole) (arg3 : Memref sig .tc .vmem S512x128 .bf16) (harg3 : arg3.IsWhole) (arg4 : Memref sig .tc .vmem S2x16x128x512 .bf16) (harg4 : arg4.IsWhole) (arg5 : Memref sig .tc .vmem S1x16x128x512 .bf16) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S2x16x128x512 .f32) (harg8 : arg8.IsWhole) (arg9 : Memref sig .tc .vmem S2x1x128x512 .f32) (harg9 : arg9.IsWhole) (arg10 : Memref sig .tc .vmem S512x128 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S64x512 .f32) (harg13 : arg13.IsWhole) (arg14 : Memref sig .tc .vmem S64x512 .f32) (harg14 : arg14.IsWhole)
variable (arg1 : BitVec 32) (v7 : FVec F S512x128 .bf16) (v8 : FVec F S512x128 .bf16) (v11 : IVec S128x1 1) (v19 : FVec F S128x512 .bf16) (v27 : FVec F S128x512 .bf16) (v37 : FVec F S512x128 .bf16) (v47 : FVec F S512x128 .bf16) (v81 : BitVec 32) (c0_i32_121 : BitVec 32)

/-- The offsets of the loops' trips: of the four tiles of a trip of the first, and of the one tile of the third. -/
def offs1 (k : Fin (k0_t1_loop i).trips) (w : Fin 4) : Offs :=
  ⟨k0_off6 i k (BitVec.ofNat 32 w.val), k0_off7 i k (BitVec.ofNat 32 w.val), k0_off8 i k (BitVec.ofNat 32 w.val),
    k0_off9 i k (BitVec.ofNat 32 w.val), k0_off10 i k (BitVec.ofNat 32 w.val),
    k0_off6_inb i k w, k0_off7_inb i k w, k0_off8_inb i k w, k0_off9_inb i k w, k0_off10_inb i k w⟩
def offs2 (k : Fin (k0_t2_loop i).trips) (w : Fin 4) : Offs :=
  ⟨k0_off11 i k (BitVec.ofNat 32 w.val), k0_off12 i k (BitVec.ofNat 32 w.val), k0_off13 i k (BitVec.ofNat 32 w.val),
    k0_off14 i k (BitVec.ofNat 32 w.val), k0_off15 i k (BitVec.ofNat 32 w.val),
    k0_off11_inb i k w, k0_off12_inb i k w, k0_off13_inb i k w, k0_off14_inb i k w, k0_off15_inb i k w⟩
def offs3 (k : Fin (k0_t3_loop i).trips) : Offs :=
  ⟨k0_off16 i k, k0_off17 i k, k0_off18 i k, k0_off19 i k, k0_off20 i k, k0_off16_inb i k, k0_off17_inb i k, k0_off18_inb i k, k0_off19_inb i k, k0_off20_inb i k⟩
def offs4 (k : Fin (k0_t4_loop i).trips) : Offs :=
  ⟨k0_off21 i k, k0_off22 i k, k0_off23 i k, k0_off24 i k, k0_off25 i k, k0_off21_inb i k, k0_off22_inb i k, k0_off23_inb i k, k0_off24_inb i k, k0_off25_inb i k⟩

/-- Four unmasked steps one after another. -/
def tiles4 (K : Keys F) (S : Srcs) (A : Accs) (m8 : Memref sig .tc .vmem S2x16x128x512 .f32) (o : Fin 4 → Offs) :
    Prog (TpuEff nD τ sig (Elt F) Λ₀ .tc) Unit := do
  tile K S A m8 (o 0)
  tile K S A m8 (o 1)
  tile K S A m8 (o 2)
  tile K S A m8 (o 3)

set_option maxHeartbeats 0 in
/-- The first loop's region is four unmasked steps. -/
theorem t1_eq (k : Fin (k0_t1_loop i).trips) :
    k0_t1_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 k ()
      = tiles4 ⟨v7, v8, v19, v27, v37, v47⟩ ⟨arg4, arg5, arg6, arg7⟩ ⟨arg11, arg12, arg13, arg14⟩ arg8 (offs1 i k) := rfl

set_option maxHeartbeats 0 in
/-- The second loop's region is four unmasked steps. -/
theorem t2_eq (v275 : BitVec 32) (k : Fin (k0_t2_loop i).trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 v275 k ()
      = tiles4 ⟨v7, v8, v19, v27, v37, v47⟩ ⟨arg4, arg5, arg6, arg7⟩ ⟨arg11, arg12, arg13, arg14⟩ arg8 (offs2 i k) := rfl

/-- The third loop's region is one unmasked step. -/
theorem t3_eq (v278 : BitVec 32) (k : Fin (k0_t3_loop i).trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 v278 k ()
      = tile ⟨v7, v8, v19, v27, v37, v47⟩ ⟨arg4, arg5, arg6, arg7⟩ ⟨arg11, arg12, arg13, arg14⟩ arg8 (offs3 i k) := rfl

/-- The fourth loop's region is one unmasked step. -/
theorem t4_eq (v283 : BitVec 32) (k : Fin (k0_t4_loop i).trips) :
    k0_t4_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 v283 k ()
      = tile ⟨v7, v8, v19, v27, v37, v47⟩ ⟨arg4, arg5, arg6, arg7⟩ ⟨arg11, arg12, arg13, arg14⟩ arg8 (offs4 i k) := rfl

end Regions

end Cert.Kernel2Ideal.Hand
-- ==== Proof.Mla.Body.lean ====
/-
  Hand-written. The whole grid point of the attention's backward kernel, as a short program: zero the queries' gradient
  at the head pair's first point, read the key block, zero the four accumulators, make the diagonal step, repeat the
  unmasked step down the column of tiles, and write the keys' and values' gradients out.
-/
module

public import proofs.«01_k».proof.Proof.Mla.Tile

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Which rows of an augmented head are its 96 true ones. -/
def trueRows : IVec S128x1 1 := cmpi .slt (iota .tc S128x1 32 [0] iota_S128x1_d0_w32) (broadcast S128x1 96#32)

/-- A head's keys, transposed and with the true rows scaled. -/
def scaled (k : FVec F S512x128 .bf16) : FVec F S128x512 .bf16 :=
  truncf .bf16 (mulf (transpose S128x512 [1, 0] (extf .f32 k bitsLt_bf16_f32) transposes_S512x128_p1_0_S128x512)
    (broadcastTo S128x512 (select trueRows (broadcast S128x1 (Scalar.ofBits .f32 0x3DD105EC#32))
      (broadcast S128x1 (Scalar.ofBits .f32 0x3F800000#32))) broadcasts_S128x1_S128x512)) bitsLt_bf16_f32

/-- The columns of the values between `lo` and `hi`, the others zero. -/
def columns (lo hi : BitVec 32) (v : FVec F S512x128 .bf16) : FVec F S512x128 .bf16 :=
  select (broadcastTo S512x128 (shapeCast S1x128 (andi
      (cmpi .sge (iota .tc S1x128 32 [1] iota_S1x128_d1_w32) (broadcast S1x128 lo))
      (cmpi .slt (iota .tc S1x128 32 [1] iota_S1x128_d1_w32) (broadcast S1x128 hi))) shapeCasts_S1x128_S1x128)
    broadcasts_S1x128_S512x128) v (broadcast S512x128 (Scalar.ofBits .bf16 0x0000#16))

/-- What a grid point takes from the key block it reads. -/
def keysOf (kb : Vec F S512x256 .bf16) (vb : Vec F S512x128 .bf16) : Keys F :=
  let k4 := shapeCast S512x256 kb shapeCasts_S512x256_S512x256
  let v6 := shapeCast S512x128 vb shapeCasts_S512x128_S512x128
  let k0 := extractStridedSlice S512x128 ![0, 0] k4 slices_S512x256_o0_0_S512x128
  let k1 := extractStridedSlice S512x128 ![0, 128] k4 slices_S512x256_o0_128_S512x128
  { k0 := k0, k1 := k1, t0 := scaled k0, t1 := scaled k1, v0 := columns 0#32 64#32 v6, v1 := columns 64#32 128#32 v6 }

abbrev rQ : Rect S2x16x128x512 := Rect.unit (s := S2x16x128x512) ![0, 0, 0, 0] S2x16x128x512.size inb_S2x16x128x512_S2x16x128x512_0_0_0_0
abbrev rKb : Rect S512x256 := Rect.unit (s := S512x256) ![0, 0] S512x256.size inb_S512x256_S512x256_0_0
abbrev rVb : Rect S512x128 := Rect.unit (s := S512x128) ![0, 0] S512x128.size inb_S512x128_S512x128_0_0
abbrev rH0 : Rect S2x1x128x512 := Rect.unit (s := S2x1x128x512) ![0, 0, 0, 0] S1x1x128x512.size inb_S2x1x128x512_S1x1x128x512_0_0_0_0
abbrev rH1 : Rect S2x1x128x512 := Rect.unit (s := S2x1x128x512) ![1, 0, 0, 0] S1x1x128x512.size inb_S2x1x128x512_S1x1x128x512_1_0_0_0

/-- The zeros the queries' gradient and the accumulators begin from. -/
def zeroQ : FVec F S2x16x128x512 .f32 := broadcast S2x16x128x512 (Scalar.ofBits .f32 0x00000000#32)
def zero128 : FVec F S128x512 .f32 :=
  shapeCast S128x512 (broadcast S128x512 (Scalar.ofBits .f32 0x00000000#32) : FVec F S128x512 .f32) shapeCasts_S128x512_S128x512
def zero64 : FVec F S64x512 .f32 :=
  shapeCast S64x512 (broadcast S64x512 (Scalar.ofBits .f32 0x00000000#32) : FVec F S64x512 .f32) shapeCasts_S64x512_S64x512

/-- Whether the point is the head pair's first. -/
def isFirst (i : grid0.Coords) : BitVec 1 :=
  Scalar.cmpi .ne (Scalar.extui (Scalar.cmpi .eq (BitVec.ofNat 32 (i 1).val) 0#32) : BitVec 32) 0#32

/-- Zero the queries' gradient. -/
def clearQ (m8 : Memref sig .tc .vmem S2x16x128x512 .f32) : Prog (TpuEff nD τ sig (Elt F) Λ₀ .tc) PUnit := do
  let _ ← Prog.lift (.load m8 rQ.toLoadRect (View.loadsAt_vmem h_S2x16x128x512))
  Prog.lift (.store m8 rQ zeroQ Finset.univ (View.stores_vmem_bits_univ h_S2x16x128x512 rfl) (.inl rfl))

/-- Zero the queries' gradient at the head pair's first point. -/
def startQ (i : grid0.Coords) (m8 : Memref sig .tc .vmem S2x16x128x512 .f32) : Prog (TpuEff nD τ sig (Elt F) Λ₀ .tc) PUnit :=
  if isFirst i = 1#1 then clearQ m8 else pure ⟨⟩

/-- Zero an accumulator. -/
def clear128 (m : Memref sig .tc .vmem S128x512 .f32) : Prog (TpuEff nD τ sig (Elt F) Λ₀ .tc) PUnit := do
  let _ ← Prog.lift (.load m r128.toLoadRect (View.loadsAt_vmem h_S128x512))
  Prog.lift (.store m r128 zero128 Finset.univ (View.stores_vmem_bits_univ h_S128x512 rfl) (.inl rfl))
def clear64 (m : Memref sig .tc .vmem S64x512 .f32) : Prog (TpuEff nD τ sig (Elt F) Λ₀ .tc) PUnit := do
  let _ ← Prog.lift (.load m r64.toLoadRect (View.loadsAt_vmem h_S64x512))
  Prog.lift (.store m r64 zero64 Finset.univ (View.stores_vmem_bits_univ h_S64x512 rfl) (.inl rfl))

/-- Zero the four accumulators. -/
def clearAccs (A : Accs) : Prog (TpuEff nD τ sig (Elt F) Λ₀ .tc) PUnit := do
  clear128 A.m11
  clear64 A.m13
  clear128 A.m12
  clear64 A.m14

/-- The factor of a head's key gradient: log 2 on the true rows, one on the others. -/
def lnRows : FVec F S128x512 .f32 :=
  broadcastTo S128x512 (select trueRows (broadcast S128x1 (Named.named κ "ln2" 0x3F317218#32 : F .f32))
    (broadcast S128x1 (Scalar.ofBits .f32 0x3F800000#32))) broadcasts_S128x1_S128x512

/-- A head's key gradient as written out. -/
def outK (a : Vec F S128x512 .f32) : FVec F S1x1x128x512 .f32 :=
  shapeCast S1x1x128x512 (mulf a lnRows) shapeCasts_S128x512_S1x1x128x512

/-- The two heads' value gradients as written out. -/
def outV (a b : Vec F S64x512 .f32) : FVec F S512x128 .bf16 :=
  truncf .bf16 (transpose S512x128 [1, 0]
    (concatenate S128x512 0 [⟨S64x512, a⟩, ⟨S64x512, b⟩] concatenates_S64x512_S64x512_S128x512_d0)
    transposes_S128x512_p1_0_S512x128) bitsLt_bf16_f32

/-- Write the key block's gradients out. -/
def finish (A : Accs) (m9 : Memref sig .tc .vmem S2x1x128x512 .f32) (m10 : Memref sig .tc .vmem S512x128 .bf16)
    (h10 : m10.IsWhole) : Prog (TpuEff nD τ sig (Elt F) Λ₀ .tc) PUnit := do
  let a ← Prog.lift (.load A.m11 r128.toLoadRect (View.loadsAt_vmem h_S128x512))
  let _ ← Prog.lift (.load m9 rH0.toLoadRect (View.loadsAt_vmem h_S1x1x128x512))
  Prog.lift (.store m9 rH0 (outK (F := F) a) Finset.univ (View.stores_vmem_bits_univ h_S1x1x128x512 rfl) (.inl rfl))
  let b ← Prog.lift (.load A.m12 r128.toLoadRect (View.loadsAt_vmem h_S128x512))
  let _ ← Prog.lift (.load m9 rH1.toLoadRect (View.loadsAt_vmem h_S1x1x128x512))
  Prog.lift (.store m9 rH1 (outK (F := F) b) Finset.univ (View.stores_vmem_bits_univ h_S1x1x128x512 rfl) (.inl rfl))
  let x ← Prog.lift (.load A.m13 r64.toLoadRect (View.loadsAt_vmem h_S64x512))
  let y ← Prog.lift (.load A.m14 r64.toLoadRect (View.loadsAt_vmem h_S64x512))
  let _ ← Prog.lift (.load m10 rVb.toLoadRect (View.loadsAt_vmem h_S512x128))
  Prog.lift (.store m10 rVb (outV (F := F) x y) Finset.univ
    (View.stores_vmem h_S512x128 (h10.storeExact_slice rfl _ packedbf16_S512x128_S512x128_0_0) (fun _ => rfl)) (.inl rfl))
  pure ⟨⟩

/-- The diagonal step's offsets. -/
def offsD (i : grid0.Coords) : Offs :=
  ⟨k0_off1 i, k0_off2 i, k0_off3 i, k0_off4 i, k0_off5 i, k0_off1_inb i, k0_off2_inb i, k0_off3_inb i, k0_off4_inb i, k0_off5_inb i⟩

/-- The steps below the diagonal. -/
def column (i : grid0.Coords) (K : Keys F) (S : Srcs) (A : Accs) (m8 : Memref sig .tc .vmem S2x16x128x512 .f32) :
    Prog (TpuEff nD τ sig (Elt F) Λ₀ .tc) PUnit := do
  Scf.Loop.for (k0_t1_loop i) (k0_t1_ok i) ⟨⟩ (fun k _ => tiles4 K S A m8 (offs1 i k))
  Scf.Loop.for (k0_t2_loop i) (k0_t2_ok i) ⟨⟩ (fun k _ => tiles4 K S A m8 (offs2 i k))
  Scf.Loop.for (k0_t3_loop i) (k0_t3_ok i) ⟨⟩ (fun k _ => tile K S A m8 (offs3 i k))
  Scf.Loop.for (k0_t4_loop i) (k0_t4_ok i) ⟨⟩ (fun k _ => tile K S A m8 (offs4 i k))

/-- A grid point after the queries' gradient is made ready. -/
def point (i : grid0.Coords) (S : Srcs) (A : Accs) (m2 : Memref sig .tc .vmem S512x256 .bf16) (m3 : Memref sig .tc .vmem S512x128 .bf16)
    (m8 : Memref sig .tc .vmem S2x16x128x512 .f32)
    (m9 : Memref sig .tc .vmem S2x1x128x512 .f32) (m10 : Memref sig .tc .vmem S512x128 .bf16)
    (h10 : m10.IsWhole) : Prog (TpuEff nD τ sig (Elt F) Λ₀ .tc) PUnit := do
  let kb ← Prog.lift (.load m2 rKb.toLoadRect (View.loadsAt_vmem h_S512x256))
  let vb ← Prog.lift (.load m3 rVb.toLoadRect (View.loadsAt_vmem h_S512x128))
  clearAccs A
  diag (keysOf kb vb) S A m8 (offsD i)
  column i (keysOf kb vb) S A m8
  finish A m9 m10 h10

section
variable (i : grid0.Coords) (arg2 : Memref sig .tc .vmem S512x256 .bf16) (harg2 : arg2.IsWhole) (arg3 : Memref sig .tc .vmem S512x128 .bf16) (harg3 : arg3.IsWhole) (arg4 : Memref sig .tc .vmem S2x16x128x512 .bf16) (harg4 : arg4.IsWhole) (arg5 : Memref sig .tc .vmem S1x16x128x512 .bf16) (harg5 : arg5.IsWhole) (arg6 : Memref sig .tc .vmem S2x16x1x512 .f32) (harg6 : arg6.IsWhole) (arg7 : Memref sig .tc .vmem S2x16x1x512 .f32) (harg7 : arg7.IsWhole) (arg8 : Memref sig .tc .vmem S2x16x128x512 .f32) (harg8 : arg8.IsWhole) (arg9 : Memref sig .tc .vmem S2x1x128x512 .f32) (harg9 : arg9.IsWhole) (arg10 : Memref sig .tc .vmem S512x128 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S64x512 .f32) (harg13 : arg13.IsWhole) (arg14 : Memref sig .tc .vmem S64x512 .f32) (harg14 : arg14.IsWhole)

/-- The first piece of the function's text after its conditional: read the key block and prepare it. -/
def prepare : Prog (TpuEff nD τ sig (Elt F) Λ₀ .tc)
    (Σ' (arg1 : BitVec 32) (v6 : FVec F S512x128 .bf16) (v7 : FVec F S512x128 .bf16) (v8 : FVec F S512x128 .bf16) (v11 : IVec S128x1 1) (v19 : FVec F S128x512 .bf16) (v27 : FVec F S128x512 .bf16) (v37 : FVec F S512x128 .bf16) (v38 : IVec S1x128 32) (v40 : IVec S1x128 1), BitVec 32) := do
  let kb ← Prog.lift (.load arg2 rKb.toLoadRect (View.loadsAt_vmem h_S512x256))
  let vb ← Prog.lift (.load arg3 rVb.toLoadRect (View.loadsAt_vmem h_S512x128))
  pure ⟨BitVec.ofNat 32 (i 1).val, shapeCast S512x128 vb shapeCasts_S512x128_S512x128, (keysOf kb vb).k0, (keysOf kb vb).k1,
    trueRows, (keysOf kb vb).t0, (keysOf kb vb).t1, (keysOf kb vb).v0, iota .tc S1x128 32 [1] iota_S1x128_d1_w32,
    cmpi .sge (iota .tc S1x128 32 [1] iota_S1x128_d1_w32) (broadcast S1x128 64#32), 128#32⟩

/-- The first piece of the function's text at the head pair's first point. -/
theorem part_pos (h : isFirst i = 1#1) :
    k0_part43 (F := F) i arg2 harg2 arg3 harg3 arg4 harg4 arg5 harg5 arg6 harg6 arg7 harg7 arg8 harg8 arg9 harg9 arg10 harg10 arg11 harg11 arg12 harg12 arg13 harg13 arg14 harg14 = (clearQ arg8 >>= fun _ => prepare i arg2 arg3) := dif_pos h

/-- The first piece of the function's text at the other points. -/
theorem part_neg (h : ¬ isFirst i = 1#1) :
    k0_part43 (F := F) i arg2 harg2 arg3 harg3 arg4 harg4 arg5 harg5 arg6 harg6 arg7 harg7 arg8 harg8 arg9 harg9 arg10 harg10 arg11 harg11 arg12 harg12 arg13 harg13 arg14 harg14 = prepare i arg2 arg3 := dif_neg h

/-- The first loop's regions, as one function. -/
theorem loop1_eq (arg1 v81 c0_i32_121 : BitVec 32) (v11 : IVec S128x1 1) (v7 v8 v37 v47 : FVec F S512x128 .bf16) (v19 v27 : FVec F S128x512 .bf16) :
    k0_t1_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121
      = fun k _ => tiles4 ⟨v7, v8, v19, v27, v37, v47⟩ ⟨arg4, arg5, arg6, arg7⟩ ⟨arg11, arg12, arg13, arg14⟩ arg8 (offs1 i k) :=
  funext fun k => funext fun _ => t1_eq ..

/-- The second loop's regions, as one function. -/
theorem loop2_eq (arg1 v81 c0_i32_121 x : BitVec 32) (v11 : IVec S128x1 1) (v7 v8 v37 v47 : FVec F S512x128 .bf16) (v19 v27 : FVec F S128x512 .bf16) :
    k0_t2_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 x
      = fun k _ => tiles4 ⟨v7, v8, v19, v27, v37, v47⟩ ⟨arg4, arg5, arg6, arg7⟩ ⟨arg11, arg12, arg13, arg14⟩ arg8 (offs2 i k) :=
  funext fun k => funext fun _ => t2_eq ..

/-- The third loop's regions, as one function. -/
theorem loop3_eq (arg1 v81 c0_i32_121 x : BitVec 32) (v11 : IVec S128x1 1) (v7 v8 v37 v47 : FVec F S512x128 .bf16) (v19 v27 : FVec F S128x512 .bf16) :
    k0_t3_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 x
      = fun k _ => tile ⟨v7, v8, v19, v27, v37, v47⟩ ⟨arg4, arg5, arg6, arg7⟩ ⟨arg11, arg12, arg13, arg14⟩ arg8 (offs3 i k) :=
  funext fun k => funext fun _ => t3_eq ..

/-- The fourth loop's regions, as one function. -/
theorem loop4_eq (arg1 v81 c0_i32_121 x : BitVec 32) (v11 : IVec S128x1 1) (v7 v8 v37 v47 : FVec F S512x128 .bf16) (v19 v27 : FVec F S128x512 .bf16) :
    k0_t4_body (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121 x
      = fun k _ => tile ⟨v7, v8, v19, v27, v37, v47⟩ ⟨arg4, arg5, arg6, arg7⟩ ⟨arg11, arg12, arg13, arg14⟩ arg8 (offs4 i k) :=
  funext fun k => funext fun _ => t4_eq ..

/-- The function's text from its loops to its last piece. -/
def lastPart (K : Keys F) (S : Srcs) (A : Accs) (m8 : Memref sig .tc .vmem S2x16x128x512 .f32) (m9 : Memref sig .tc .vmem S2x1x128x512 .f32) (v11 : IVec S128x1 1) :
    Prog (TpuEff nD τ sig (Elt F) Λ₀ .tc) (Σ' (v298 : FVec F S128x512 .f32), Vec F S1x1x128x512 .f32) := do
  column i K S A m8
  let a ← Prog.lift (.load A.m11 r128.toLoadRect (View.loadsAt_vmem h_S128x512))
  let _ ← Prog.lift (.load m9 rH0.toLoadRect (View.loadsAt_vmem h_S1x1x128x512))
  Prog.lift (.store m9 rH0 (k0_pay427 (F := F) v11 a) Finset.univ (View.stores_vmem_bits_univ h_S1x1x128x512 rfl) (.inl rfl))
  let b ← Prog.lift (.load A.m12 r128.toLoadRect (View.loadsAt_vmem h_S128x512))
  let x ← Prog.lift (.load m9 rH1.toLoadRect (View.loadsAt_vmem h_S1x1x128x512))
  pure ⟨k0_pay428 v11 b, x⟩

/-- The last piece as the program it is. -/
theorem part_loops (arg1 v81 c0_i32_121 : BitVec 32) (v11 : IVec S128x1 1) (v7 v8 v37 v47 : FVec F S512x128 .bf16) (v19 v27 : FVec F S128x512 .bf16) :
    k0_part50 (F := F) i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121
      = lastPart i ⟨v7, v8, v19, v27, v37, v47⟩ ⟨arg4, arg5, arg6, arg7⟩ ⟨arg11, arg12, arg13, arg14⟩ arg8 arg9 v11 := by
  rw [k0_part50_eq_skeleton]
  unfold k0_part50_skel lastPart column
  dsimp only
  rw [loop1_eq, loop2_eq, loop3_eq, loop4_eq]
  simp only [Prog.bind_assoc]
  rfl

/-- The function's closing lines. -/
def closing (m9 : Memref sig .tc .vmem S2x1x128x512 .f32) (m10 : Memref sig .tc .vmem S512x128 .bf16) (h10 : m10.IsWhole) (A : Accs)
    (x : Σ' (v298 : FVec F S128x512 .f32), Vec F S1x1x128x512 .f32) : Prog (TpuEff nD τ sig (Elt F) Λ₀ .tc) PUnit := do
  Prog.lift (.store m9 rH1 (shapeCast S1x1x128x512 x.1 shapeCasts_S128x512_S1x1x128x512) Finset.univ (View.stores_vmem_bits_univ h_S1x1x128x512 rfl) (.inl rfl))
  let x ← Prog.lift (.load A.m13 r64.toLoadRect (View.loadsAt_vmem h_S64x512))
  let y ← Prog.lift (.load A.m14 r64.toLoadRect (View.loadsAt_vmem h_S64x512))
  let _ ← Prog.lift (.load m10 rVb.toLoadRect (View.loadsAt_vmem h_S512x128))
  Prog.lift (.store m10 rVb (outV (F := F) x y) Finset.univ
    (View.stores_vmem h_S512x128 (h10.storeExact_slice rfl _ packedbf16_S512x128_S512x128_0_0) (fun _ => rfl)) (.inl rfl))
  pure ⟨⟩

/-- The function's text after its first piece. -/
def rest (arg1 c128_i32 : BitVec 32) (v11 : IVec S128x1 1) (v6 v7 v8 v37 : FVec F S512x128 .bf16) (v19 v27 : FVec F S128x512 .bf16) (v38 : IVec S1x128 32) (v40 : IVec S1x128 1) : Prog (TpuEff nD τ sig (Elt F) Λ₀ .tc) PUnit := do
  let ⟨v47, v65, v76, v77⟩ ← k0_part44 i arg2 harg2 arg3 harg3 arg4 harg4 arg5 harg5 arg6 harg6 arg7 harg7 arg8 harg8 arg9 harg9 arg10 harg10 arg11 harg11 arg12 harg12 arg13 harg13 arg14 harg14 arg1 v6 v38 v40 c128_i32
  let ⟨v81, v84, v87, v90, v93, v96, v99, v102, v105, v108, v110, v111⟩ ← k0_part45 i arg2 harg2 arg3 harg3 arg4 harg4 arg5 harg5 arg6 harg6 arg7 harg7 arg8 harg8 arg9 harg9 arg10 harg10 arg11 harg11 arg12 harg12 arg13 harg13 arg14 harg14 arg1 v7 v37 v65 v76 v77
  let ⟨v112, v145, v148, v151, v152, v153⟩ ← k0_part46 i arg2 harg2 arg3 harg3 arg4 harg4 arg5 harg5 arg6 harg6 arg7 harg7 arg8 harg8 arg9 harg9 arg10 harg10 arg11 harg11 arg12 harg12 arg13 harg13 arg14 harg14 v8 v19 v37 v47 v84 v87 v90 v93 v99 v105 v108 v111
  let ⟨v183, v185, v187, v194⟩ ← k0_part47 i arg2 harg2 arg3 harg3 arg4 harg4 arg5 harg5 arg6 harg6 arg7 harg7 arg8 harg8 arg9 harg9 arg10 harg10 arg11 harg11 arg12 harg12 arg13 harg13 arg14 harg14 v8 v19 v47 v84 v87 v90 v93 v99 v110 v112 v148 v152 v153
  let ⟨v220, v231, v236⟩ ← k0_part48 i arg2 harg2 arg3 harg3 arg4 harg4 arg5 harg5 arg6 harg6 arg7 harg7 arg8 harg8 arg9 harg9 arg10 harg10 arg11 harg11 arg12 harg12 arg13 harg13 arg14 harg14 v27 v84 v90 v96 v102 v151 v185 v194
  let c0_i32_121 ← k0_part49 i arg2 harg2 arg3 harg3 arg4 harg4 arg5 harg5 arg6 harg6 arg7 harg7 arg8 harg8 arg9 harg9 arg10 harg10 arg11 harg11 arg12 harg12 arg13 harg13 arg14 harg14 arg1 v27 v90 v102 v145 v183 v187 v220 v231 v236
  let ⟨v298, v299⟩ ← k0_part50 i arg2 harg2 arg3 harg3 arg4 harg4 arg5 harg5 arg6 harg6 arg7 harg7 arg8 harg8 arg9 harg9 arg10 harg10 arg11 harg11 arg12 harg12 arg13 harg13 arg14 harg14 arg1 v7 v8 v11 v19 v27 v37 v47 v81 c0_i32_121
  have v300 : FVec F S128x512 .f32 := shapeCast S128x512 v299 shapeCasts_S1x1x128x512_S128x512
  have v301 : FVec F S1x1x128x512 .f32 := shapeCast S1x1x128x512 v298 shapeCasts_S128x512_S1x1x128x512
  Prog.lift (.store arg9 (Rect.unit (s := S2x1x128x512) ![1, 0, 0, 0] S1x1x128x512.size inb_S2x1x128x512_S1x1x128x512_1_0_0_0) v301 Finset.univ (View.stores_vmem_bits_univ h_S1x1x128x512 rfl) (.inl rfl))
  let c0_147 : Index := 0#32
  let c0_148 : Index := 0#32
  let v302 : Vec F S64x512 .f32 ← Prog.lift (.load arg13 (Rect.unit (s := S64x512) ![0, 0] S64x512.size inb_S64x512_S64x512_0_0).toLoadRect (View.loadsAt_vmem h_S64x512))
  let c0_149 : Index := 0#32
  let c0_150 : Index := 0#32
  let v303 : Vec F S64x512 .f32 ← Prog.lift (.load arg14 (Rect.unit (s := S64x512) ![0, 0] S64x512.size inb_S64x512_S64x512_0_0).toLoadRect (View.loadsAt_vmem h_S64x512))
  have v304 : FVec F S128x512 .f32 := concatenate S128x512 0 [⟨S64x512, v302⟩, ⟨S64x512, v303⟩] concatenates_S64x512_S64x512_S128x512_d0
  have v305 : FVec F S512x128 .f32 := transpose S512x128 [1, 0] v304 transposes_S128x512_p1_0_S512x128
  have v306 : FVec F S512x128 .bf16 := truncf .bf16 v305 bitsLt_bf16_f32
  let c0_151 : Index := 0#32
  let c0_152 : Index := 0#32
  let v307 : Vec F S512x128 .bf16 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) v306 Finset.univ (View.stores_vmem h_S512x128 (harg10.storeExact_slice rfl _ packedbf16_S512x128_S512x128_0_0) (fun _ => rfl)) (.inl rfl))
  pure ⟨⟩

attribute [local irreducible] lastPart in
set_option maxHeartbeats 1000000 in
/-- The function after its first piece. -/
theorem rest_any (arg1 c128_i32 : BitVec 32) (v11 : IVec S128x1 1) (v6 v7 v8 v37 : FVec F S512x128 .bf16) (v19 v27 : FVec F S128x512 .bf16) (v38 : IVec S1x128 32) (v40 : IVec S1x128 1) :
    rest (F := F) i arg2 harg2 arg3 harg3 arg4 harg4 arg5 harg5 arg6 harg6 arg7 harg7 arg8 harg8 arg9 harg9 arg10 harg10 arg11 harg11 arg12 harg12 arg13 harg13 arg14 harg14 arg1 c128_i32 v11 v6 v7 v8 v37 v19 v27 v38 v40
     = (clearAccs ⟨arg11, arg12, arg13, arg14⟩ >>= fun _ => diag ⟨v7, v8, v19, v27, v37, (select (broadcastTo S512x128 (shapeCast S1x128 (andi v40 (cmpi .slt v38 (broadcast S1x128 c128_i32))) shapeCasts_S1x128_S1x128)
            broadcasts_S1x128_S512x128) v6 (broadcast S512x128 (Scalar.ofBits .bf16 0x0000#16)))⟩ ⟨arg4, arg5, arg6, arg7⟩ ⟨arg11, arg12, arg13, arg14⟩ arg8 (offsD i) >>= fun _ =>
        lastPart i ⟨v7, v8, v19, v27, v37, (select (broadcastTo S512x128 (shapeCast S1x128 (andi v40 (cmpi .slt v38 (broadcast S1x128 c128_i32))) shapeCasts_S1x128_S1x128)
            broadcasts_S1x128_S512x128) v6 (broadcast S512x128 (Scalar.ofBits .bf16 0x0000#16)))⟩ ⟨arg4, arg5, arg6, arg7⟩ ⟨arg11, arg12, arg13, arg14⟩ arg8 arg9 v11 >>= closing arg9 arg10 harg10 ⟨arg11, arg12, arg13, arg14⟩) := by
  unfold rest
  simp only [part_loops]
  rfl

/-- The function from its last piece on. -/
theorem last_eq (K : Keys F) (S : Srcs) (A : Accs) : (lastPart i K S A arg8 arg9 trueRows >>= closing arg9 arg10 harg10 A)
    = (column i K S A arg8 >>= fun _ => finish A arg9 arg10 harg10) := by
  unfold lastPart
  rw [Prog.bind_assoc]
  rfl

/-- The function's first reads, and what follows them. -/
theorem prepare_eq : (do
      let ⟨arg1, v6, v7, v8, v11, v19, v27, v37, v38, v40, c128_i32⟩ ← prepare i arg2 arg3
      rest (F := F) i arg2 harg2 arg3 harg3 arg4 harg4 arg5 harg5 arg6 harg6 arg7 harg7 arg8 harg8 arg9 harg9 arg10 harg10 arg11 harg11 arg12 harg12 arg13 harg13 arg14 harg14 arg1 c128_i32 v11 v6 v7 v8 v37 v19 v27 v38 v40 : Prog (TpuEff nD τ sig (Elt F) Λ₀ .tc) PUnit)
     = point i ⟨arg4, arg5, arg6, arg7⟩ ⟨arg11, arg12, arg13, arg14⟩ arg2 arg3 arg8 arg9 arg10 harg10 := by
  unfold point prepare
  refine congrArg (fun p => (Prog.lift (.load arg2 rKb.toLoadRect (View.loadsAt_vmem h_S512x256)) : Prog (TpuEff nD τ sig (Elt F) Λ₀ .tc) _) >>= p) (funext fun kb => ?_)
  refine congrArg (fun p => (Prog.lift (.load arg3 rVb.toLoadRect (View.loadsAt_vmem h_S512x128)) : Prog (TpuEff nD τ sig (Elt F) Λ₀ .tc) _) >>= p) (funext fun vb => ?_)
  refine (rest_any (F := F) i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) 128#32 trueRows
      (shapeCast S512x128 vb shapeCasts_S512x128_S512x128) (keysOf kb vb).k0 (keysOf kb vb).k1 (keysOf kb vb).v0
      (keysOf kb vb).t0 (keysOf kb vb).t1 (iota .tc S1x128 32 [1] iota_S1x128_d1_w32)
      (cmpi .sge (iota .tc S1x128 32 [1] iota_S1x128_d1_w32) (broadcast S1x128 64#32))).trans ?_
  rw [last_eq]
  rfl

/-- The kernel's function at a grid point is that program. -/
theorem cc0_eq : cc0_mla_attn_bwd (F := F) i arg2 harg2 arg3 harg3 arg4 harg4 arg5 harg5 arg6 harg6 arg7 harg7 arg8 harg8 arg9 harg9 arg10 harg10 arg11 harg11 arg12 harg12 arg13 harg13 arg14 harg14
    = (startQ i arg8 >>= fun _ => point i ⟨arg4, arg5, arg6, arg7⟩ ⟨arg11, arg12, arg13, arg14⟩ arg2 arg3 arg8 arg9 arg10 harg10) := by
  unfold startQ cc0_mla_attn_bwd
  by_cases h : isFirst i = 1#1
  · rw [if_pos h, part_pos _ _ _ _ _ _ _ _ _ _ _ _ _ _ _ _ _ _ _ _ _ _ _ _ _ _ _ h]
    exact congrArg (fun p => clearQ arg8 >>= fun _ => p) (prepare_eq ..)
  · rw [if_neg h, part_neg _ _ _ _ _ _ _ _ _ _ _ _ _ _ _ _ _ _ _ _ _ _ _ _ _ _ _ h]
    exact prepare_eq ..

end

end Cert.Kernel2Ideal.Hand
-- ==== Proof.Mla.Run.lean ====
/-
  Hand-written. Running the pieces of a grid point: each piece takes what the buffers hold to a plain function of it.
-/
module

public import proofs.«01_k».proof.Proof.Mla.Body

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a grid point's sources hold: queries, output cotangents, log-sum-exps and row dots, of a head pair. -/
structure Arr (F : FTy → Type) where
  x4 : Vec F S2x16x128x512 .bf16
  x5 : Vec F S1x16x128x512 .bf16
  x6 : Vec F S2x16x1x512 .f32
  x7 : Vec F S2x16x1x512 .f32

/-- What a grid point changes: the queries' gradient and the four accumulators. -/
structure St (F : FTy → Type) where
  q : Vec F S2x16x128x512 .f32
  k0 : Vec F S128x512 .f32
  k1 : Vec F S128x512 .f32
  v0 : Vec F S64x512 .f32
  v1 : Vec F S64x512 .f32

/-- The query tile read at given offsets. -/
def rowOf (X : Arr F) (o : Offs) : Row F :=
  mkRow (pick o.ra X.x5) (pick o.rb0 X.x4) (pick o.rb1 X.x4) (pick o.rc0 X.x6) (pick o.rc1 X.x6) (pick o.rc0 X.x7) (pick o.rc1 X.x7)

/-- A rectangle of an array updated. -/
def bumped {s : Shape} {e : EltTy} (r : Rect s) (u : (r.shape.Idx → Elt F e) → (r.shape.Idx → Elt F e)) (X : Vec F s e) : Vec F s e :=
  patch r X (u (pick r X))

/-- The queries' gradient after a step. -/
def qStep (o : Offs) (x y : FVec F S128x512 .f32) (q : Vec F S2x16x128x512 .f32) : Vec F S2x16x128x512 .f32 :=
  bumped o.rb1 (upQ y) (bumped o.rb0 (upQ x) q)

/-- What an unmasked step leaves. -/
def tileF (K : Keys F) (X : Arr F) (o : Offs) (s : St F) : St F :=
  let P := tileParts K (rowOf X o)
  { q := qStep o P.w0 P.w1 s.q
    k0 := bumped r128 (up128 P.y01) (bumped r128 (up128 P.y00) s.k0)
    k1 := bumped r128 (up128 P.y11) (bumped r128 (up128 P.y10) s.k1)
    v0 := bumped r64 (up64 P.x01) (bumped r64 (up64 P.x00) s.v0)
    v1 := bumped r64 (up64 P.x11) (bumped r64 (up64 P.x10) s.v1) }

/-- What the diagonal step leaves. -/
def diagF (K : Keys F) (X : Arr F) (o : Offs) (s : St F) : St F :=
  let P := diagParts K (rowOf X o)
  { q := qStep o P.w0 P.w1 s.q
    k0 := bumped r128 (up128 P.y01) (bumped r128D (up128D P.y00) s.k0)
    k1 := bumped r128 (up128 P.y11) (bumped r128D (up128D P.y10) s.k1)
    v0 := bumped r64 (up64 P.x01) (bumped r64D (up64D P.x00) s.v0)
    v1 := bumped r64 (up64 P.x11) (bumped r64D (up64D P.x10) s.v1) }

/-- What four unmasked steps leave. -/
def tiles4F (K : Keys F) (X : Arr F) (o : Fin 4 → Offs) (s : St F) : St F :=
  tileF K X (o 3) (tileF K X (o 2) (tileF K X (o 1) (tileF K X (o 0) s)))

variable (𝒱 : Variants) (c : Dev nD) {β : Type} {Q : β → sProp (MT nD τ sig Unit (Elt F) ℕ (UR sig nD τ) ℕ)}

/-- The sources, held with their contents. -/
def heldS (S : Srcs) (X : Arr F) : sProp 𝕄 :=
  iprop(owns (c.tc : Thread nD τ) S.m4 fullShare X.x4 ∗ owns (c.tc : Thread nD τ) S.m5 fullShare X.x5
    ∗ owns (c.tc : Thread nD τ) S.m6 fullShare X.x6 ∗ owns (c.tc : Thread nD τ) S.m7 fullShare X.x7)

/-- The queries' gradient and the accumulators, held with their contents. -/
def heldA (A : Accs) (m8 : Memref sig .tc .vmem S2x16x128x512 .f32) (s : St F) : sProp 𝕄 :=
  iprop(owns (c.tc : Thread nD τ) m8 fullShare s.q ∗ owns (c.tc : Thread nD τ) A.m11 fullShare s.k0
    ∗ owns (c.tc : Thread nD τ) A.m12 fullShare s.k1 ∗ owns (c.tc : Thread nD τ) A.m13 fullShare s.v0
    ∗ owns (c.tc : Thread nD τ) A.m14 fullShare s.v1)

section Pieces
variable {s : Shape} {e : EltTy}

/-- Running a load. -/
theorem load_k {m : Memref sig .tc .vmem s e} {r : Rect s} {hl : m.view.LoadsAt r.toLoadRect} {X : Vec F s e}
    {k : (r.shape.Idx → Elt F e) → Prog (TpuEff nD τ sig (Elt F) Λ₀ .tc) β} :
    (owns (c.tc : Thread nD τ) m fullShare X : sProp 𝕄)
      ⊢ iprop((owns (c.tc : Thread nD τ) m fullShare X -∗ wp frame (wpE defs₀ 𝒱 (c.tc : Thread nD τ) none) Set.univ (k (pick r X)) Q)
        -∗ wp frame (wpE defs₀ 𝒱 (c.tc : Thread nD τ) none) Set.univ (Prog.lift (.load m r.toLoadRect hl) >>= k) Q) :=
  Held.load (defs := defs₀) 𝒱 (c.tc : Thread nD τ) none Set.univ

/-- Running a store. -/
theorem store_k {m : Memref sig .tc .vmem s e} {r : Rect s} {w : r.shape.Idx → Elt F e} {hx : (m.access r).Stores Finset.univ}
    {hm : (Finset.univ : Finset r.shape.Idx) = Finset.univ ∨ ∀ a, r.stride a = 1} {X : Vec F s e}
    {k : PUnit → Prog (TpuEff nD τ sig (Elt F) Λ₀ .tc) β} :
    (owns (c.tc : Thread nD τ) m fullShare X : sProp 𝕄)
      ⊢ iprop((owns (c.tc : Thread nD τ) m fullShare (patch r X w) -∗ wp frame (wpE defs₀ 𝒱 (c.tc : Thread nD τ) none) Set.univ (k ⟨⟩) Q)
        -∗ wp frame (wpE defs₀ 𝒱 (c.tc : Thread nD τ) none) Set.univ (Prog.lift (.store m r w Finset.univ hx hm) >>= k) Q) :=
  Held.store (defs := defs₀) 𝒱 (c.tc : Thread nD τ) none Set.univ

/-- Running an update of a rectangle. -/
theorem bump_k {m : Memref sig .tc .vmem s e} {r : Rect s} {hl : m.view.LoadsAt r.toLoadRect} {hx : (m.access r).Stores Finset.univ}
    {hm : (Finset.univ : Finset r.shape.Idx) = Finset.univ ∨ ∀ a, r.stride a = 1} {u : (r.shape.Idx → Elt F e) → (r.shape.Idx → Elt F e)}
    {X : Vec F s e} {k : Unit → Prog (TpuEff nD τ sig (Elt F) Λ₀ .tc) β} :
    (owns (c.tc : Thread nD τ) m fullShare X : sProp 𝕄)
      ⊢ iprop((owns (c.tc : Thread nD τ) m fullShare (bumped r u X) -∗ wp frame (wpE defs₀ 𝒱 (c.tc : Thread nD τ) none) Set.univ (k ()) Q)
        -∗ wp frame (wpE defs₀ 𝒱 (c.tc : Thread nD τ) none) Set.univ (bump m r hl hx hm u >>= k) Q) := by
  have e : (bump m r hl hx hm u >>= k)
      = (Prog.lift (.load m r.toLoadRect hl) >>= fun a => Prog.lift (.load m r.toLoadRect hl) >>= fun _ =>
          Prog.lift (.store m r (u a) Finset.univ hx hm) >>= k) := rfl
  rw [e]
  unfold bumped
  iintro H Hk
  iapply (load_k 𝒱 c) $$ H
  iintro H
  iapply (load_k 𝒱 c) $$ H
  iintro H
  iapply (store_k 𝒱 c) $$ H
  iintro H
  iapply Hk $$ H

end Pieces

/-- Running the read of a query tile. -/
theorem readRow_k {S : Srcs} {o : Offs} {X : Arr F} {k : Row F → Prog (TpuEff nD τ sig (Elt F) Λ₀ .tc) β} :
    (heldS c S X : sProp 𝕄)
      ⊢ iprop((heldS c S X -∗ wp frame (wpE defs₀ 𝒱 (c.tc : Thread nD τ) none) Set.univ (k (rowOf X o)) Q)
        -∗ wp frame (wpE defs₀ 𝒱 (c.tc : Thread nD τ) none) Set.univ (readRow S o >>= k) Q) := by
  have e : (readRow S o >>= k)
      = (Prog.lift (.load S.m5 o.ra.toLoadRect (View.loadsAt_vmem h_S1x1x128x512)) >>= fun g =>
         Prog.lift (.load S.m4 o.rb0.toLoadRect (View.loadsAt_vmem h_S1x1x128x512)) >>= fun q0 =>
         Prog.lift (.load S.m4 o.rb1.toLoadRect (View.loadsAt_vmem h_S1x1x128x512)) >>= fun q1 =>
         Prog.lift (.load S.m6 o.rc0.toLoadRect (View.loadsAt_vmem h_S1x1x1x512)) >>= fun l0 =>
         Prog.lift (.load S.m6 o.rc1.toLoadRect (View.loadsAt_vmem h_S1x1x1x512)) >>= fun l1 =>
         Prog.lift (.load S.m7 o.rc0.toLoadRect (View.loadsAt_vmem h_S1x1x1x512)) >>= fun d0 =>
         Prog.lift (.load S.m7 o.rc1.toLoadRect (View.loadsAt_vmem h_S1x1x1x512)) >>= fun d1 =>
         k (mkRow g q0 q1 l0 l1 d0 d1)) := rfl
  rw [e]
  unfold heldS
  iintro ⟨H4, H5, H6, H7⟩ Hk
  iapply (load_k 𝒱 c) $$ H5
  iintro H5
  iapply (load_k 𝒱 c) $$ H4
  iintro H4
  iapply (load_k 𝒱 c) $$ H4
  iintro H4
  iapply (load_k 𝒱 c) $$ H6
  iintro H6
  iapply (load_k 𝒱 c) $$ H6
  iintro H6
  iapply (load_k 𝒱 c) $$ H7
  iintro H7
  iapply (load_k 𝒱 c) $$ H7
  iintro H7
  iapply Hk
  iframe

/-- Running the unmasked step. -/
theorem tile_k {K : Keys F} {S : Srcs} {A : Accs} {m8 : Memref sig .tc .vmem S2x16x128x512 .f32} {o : Offs} {X : Arr F} {s : St F}
    {k : Unit → Prog (TpuEff nD τ sig (Elt F) Λ₀ .tc) β} :
    (iprop(heldS c S X ∗ heldA c A m8 s) : sProp 𝕄)
      ⊢ iprop(((heldS c S X ∗ heldA c A m8 (tileF K X o s)) -∗ wp frame (wpE defs₀ 𝒱 (c.tc : Thread nD τ) none) Set.univ (k ()) Q)
        -∗ wp frame (wpE defs₀ 𝒱 (c.tc : Thread nD τ) none) Set.univ (tile K S A m8 o >>= k) Q) := by
  unfold tile add addQ
  simp only [Prog.bind_assoc]
  iintro ⟨HS, HA⟩ Hk
  iapply (readRow_k 𝒱 c) $$ HS
  iintro HS
  unfold heldA
  icases HA with ⟨H8, H11, H12, H13, H14⟩
  iapply (bump_k 𝒱 c) $$ H13
  iintro H13
  iapply (bump_k 𝒱 c) $$ H11
  iintro H11
  iapply (bump_k 𝒱 c) $$ H13
  iintro H13
  iapply (bump_k 𝒱 c) $$ H11
  iintro H11
  iapply (bump_k 𝒱 c) $$ H14
  iintro H14
  iapply (bump_k 𝒱 c) $$ H12
  iintro H12
  iapply (bump_k 𝒱 c) $$ H14
  iintro H14
  iapply (bump_k 𝒱 c) $$ H12
  iintro H12
  iapply (bump_k 𝒱 c) $$ H8
  iintro H8
  iapply (bump_k 𝒱 c) $$ H8
  iintro H8
  iapply Hk
  unfold tileF qStep
  dsimp only
  iframe

/-- Running the diagonal step. -/
theorem diag_k {K : Keys F} {S : Srcs} {A : Accs} {m8 : Memref sig .tc .vmem S2x16x128x512 .f32} {o : Offs} {X : Arr F} {s : St F}
    {k : Unit → Prog (TpuEff nD τ sig (Elt F) Λ₀ .tc) β} :
    (iprop(heldS c S X ∗ heldA c A m8 s) : sProp 𝕄)
      ⊢ iprop(((heldS c S X ∗ heldA c A m8 (diagF K X o s)) -∗ wp frame (wpE defs₀ 𝒱 (c.tc : Thread nD τ) none) Set.univ (k ()) Q)
        -∗ wp frame (wpE defs₀ 𝒱 (c.tc : Thread nD τ) none) Set.univ (diag K S A m8 o >>= k) Q) := by
  unfold diag add addD addQ
  simp only [Prog.bind_assoc]
  iintro ⟨HS, HA⟩ Hk
  iapply (readRow_k 𝒱 c) $$ HS
  iintro HS
  unfold heldA
  icases HA with ⟨H8, H11, H12, H13, H14⟩
  iapply (bump_k 𝒱 c) $$ H13
  iintro H13
  iapply (bump_k 𝒱 c) $$ H11
  iintro H11
  iapply (bump_k 𝒱 c) $$ H13
  iintro H13
  iapply (bump_k 𝒱 c) $$ H11
  iintro H11
  iapply (bump_k 𝒱 c) $$ H14
  iintro H14
  iapply (bump_k 𝒱 c) $$ H12
  iintro H12
  iapply (bump_k 𝒱 c) $$ H14
  iintro H14
  iapply (bump_k 𝒱 c) $$ H12
  iintro H12
  iapply (bump_k 𝒱 c) $$ H8
  iintro H8
  iapply (bump_k 𝒱 c) $$ H8
  iintro H8
  iapply Hk
  unfold diagF qStep
  dsimp only
  iframe

/-- Running four unmasked steps. -/
theorem tiles4_k {K : Keys F} {S : Srcs} {A : Accs} {m8 : Memref sig .tc .vmem S2x16x128x512 .f32} {o : Fin 4 → Offs} {X : Arr F} {s : St F}
    {k : Unit → Prog (TpuEff nD τ sig (Elt F) Λ₀ .tc) β} :
    (iprop(heldS c S X ∗ heldA c A m8 s) : sProp 𝕄)
      ⊢ iprop(((heldS c S X ∗ heldA c A m8 (tiles4F K X o s)) -∗ wp frame (wpE defs₀ 𝒱 (c.tc : Thread nD τ) none) Set.univ (k ()) Q)
        -∗ wp frame (wpE defs₀ 𝒱 (c.tc : Thread nD τ) none) Set.univ (tiles4 K S A m8 o >>= k) Q) := by
  unfold tiles4 tiles4F
  simp only [Prog.bind_assoc]
  iintro H Hk
  iapply (tile_k 𝒱 c) $$ H
  iintro H
  iapply (tile_k 𝒱 c) $$ H
  iintro H
  iapply (tile_k 𝒱 c) $$ H
  iintro H
  iapply (tile_k 𝒱 c) $$ H
  iintro H
  iapply Hk $$ H

/-- A step repeated: the state after `k` trips. -/
def trips {n : ℕ} (f : Fin n → St F → St F) : ℕ → St F → St F
  | 0, s => s
  | k + 1, s => if h : k < n then f ⟨k, h⟩ (trips f k s) else trips f k s

/-- Running a loop whose trip is a step. -/
theorem loop_k {S : Srcs} {A : Accs} {m8 : Memref sig .tc .vmem S2x16x128x512 .f32} {X : Arr F} {s : St F} (l : Scf.Loop 32) (hok : l.OK)
    (p : Fin l.trips → Prog (TpuEff nD τ sig (Elt F) Λ₀ .tc) PUnit) (f : Fin l.trips → St F → St F)
    (hp : ∀ (j : Fin l.trips) (s : St F) (R : PUnit → sProp 𝕄), (iprop(heldS c S X ∗ heldA c A m8 s) : sProp 𝕄)
      ⊢ iprop(((heldS c S X ∗ heldA c A m8 (f j s)) -∗ wp frame (wpE defs₀ 𝒱 (c.tc : Thread nD τ) none) Set.univ (.ret ⟨⟩) R)
        -∗ wp frame (wpE defs₀ 𝒱 (c.tc : Thread nD τ) none) Set.univ (p j) R))
    {k : PUnit → Prog (TpuEff nD τ sig (Elt F) Λ₀ .tc) β} :
    (iprop(heldS c S X ∗ heldA c A m8 s) : sProp 𝕄)
      ⊢ iprop(((heldS c S X ∗ heldA c A m8 (trips f l.trips s)) -∗ wp frame (wpE defs₀ 𝒱 (c.tc : Thread nD τ) none) Set.univ (k ⟨⟩) Q)
        -∗ wp frame (wpE defs₀ 𝒱 (c.tc : Thread nD τ) none) Set.univ (Scf.Loop.for l hok ⟨⟩ (fun j _ => p j) >>= k) Q) := by
  refine (Scf.wp_for_bind (M := 𝕄) frame (wpE defs₀ 𝒱 (c.tc : Thread nD τ) none) Set.univ l.lb l.ub l.st hok PUnit.unit (fun j _ => p j)
    (fun n _ => iprop(heldS c S X ∗ heldA c A m8 (trips f n s))) ?_ (kk := k) (Q := Q)).trans ?_
  · intro j acc
    have e : trips f (j.val + 1) s = f j (trips f j.val s) := by
      show (if h : j.val < _ then _ else _) = _
      rw [dif_pos j.isLt]
    rw [e]
    iintro H
    iapply (hp j (trips f j.val s)) $$ H
    iintro H
    rw [wp_ret]
    imodintro
    iexact H
  · iintro H Hk
    iapply H
    iintro %acc H
    iapply Hk $$ H

/-- What the steps below the diagonal leave. -/
def columnF (i : grid0.Coords) (K : Keys F) (X : Arr F) (s : St F) : St F :=
  trips (fun k => tileF K X (offs4 i k)) (k0_t4_loop i).trips
    (trips (fun k => tileF K X (offs3 i k)) (k0_t3_loop i).trips
      (trips (fun k => tiles4F K X (offs2 i k)) (k0_t2_loop i).trips
        (trips (fun k => tiles4F K X (offs1 i k)) (k0_t1_loop i).trips s)))

/-- Running the steps below the diagonal. -/
theorem column_k {K : Keys F} {S : Srcs} {A : Accs} {m8 : Memref sig .tc .vmem S2x16x128x512 .f32} {i : grid0.Coords} {X : Arr F} {s : St F}
    {k : PUnit → Prog (TpuEff nD τ sig (Elt F) Λ₀ .tc) β} :
    (iprop(heldS c S X ∗ heldA c A m8 s) : sProp 𝕄)
      ⊢ iprop(((heldS c S X ∗ heldA c A m8 (columnF i K X s)) -∗ wp frame (wpE defs₀ 𝒱 (c.tc : Thread nD τ) none) Set.univ (k ⟨⟩) Q)
        -∗ wp frame (wpE defs₀ 𝒱 (c.tc : Thread nD τ) none) Set.univ (column i K S A m8 >>= k) Q) := by
  unfold column columnF
  simp only [Prog.bind_assoc]
  iintro H Hk
  iapply (loop_k 𝒱 c (k0_t1_loop i) (k0_t1_ok i) _ (fun k => tiles4F K X (offs1 i k)) (fun j s R => by
    rw [← Prog.bind_pure (tiles4 K S A m8 (offs1 i j))]; exact tiles4_k 𝒱 c)) $$ H
  iintro H
  iapply (loop_k 𝒱 c (k0_t2_loop i) (k0_t2_ok i) _ (fun k => tiles4F K X (offs2 i k)) (fun j s R => by
    rw [← Prog.bind_pure (tiles4 K S A m8 (offs2 i j))]; exact tiles4_k 𝒱 c)) $$ H
  iintro H
  iapply (loop_k 𝒱 c (k0_t3_loop i) (k0_t3_ok i) _ (fun k => tileF K X (offs3 i k)) (fun j s R => by
    rw [← Prog.bind_pure (tile K S A m8 (offs3 i j))]; exact tile_k 𝒱 c)) $$ H
  iintro H
  iapply (loop_k 𝒱 c (k0_t4_loop i) (k0_t4_ok i) _ (fun k => tileF K X (offs4 i k)) (fun j s R => by
    rw [← Prog.bind_pure (tile K S A m8 (offs4 i j))]; exact tile_k 𝒱 c)) $$ H
  iintro H
  iapply Hk $$ H

/-- The accumulators zeroed. -/
def cleared (s : St F) : St F :=
  { q := s.q, k0 := patch r128 s.k0 zero128, k1 := patch r128 s.k1 zero128, v0 := patch r64 s.v0 zero64, v1 := patch r64 s.v1 zero64 }

/-- Running the accumulators' zeroing. -/
theorem clearAccs_k {A : Accs} {m8 : Memref sig .tc .vmem S2x16x128x512 .f32} {s : St F}
    {k : PUnit → Prog (TpuEff nD τ sig (Elt F) Λ₀ .tc) β} :
    (heldA c A m8 s : sProp 𝕄)
      ⊢ iprop((heldA c A m8 (cleared s) -∗ wp frame (wpE defs₀ 𝒱 (c.tc : Thread nD τ) none) Set.univ (k ⟨⟩) Q)
        -∗ wp frame (wpE defs₀ 𝒱 (c.tc : Thread nD τ) none) Set.univ (clearAccs A >>= k) Q) := by
  unfold clearAccs clear128 clear64 heldA
  simp only [Prog.bind_assoc]
  iintro ⟨H8, H11, H12, H13, H14⟩ Hk
  iapply (load_k 𝒱 c) $$ H11
  iintro H11
  iapply (store_k 𝒱 c) $$ H11
  iintro H11
  iapply (load_k 𝒱 c) $$ H13
  iintro H13
  iapply (store_k 𝒱 c) $$ H13
  iintro H13
  iapply (load_k 𝒱 c) $$ H12
  iintro H12
  iapply (store_k 𝒱 c) $$ H12
  iintro H12
  iapply (load_k 𝒱 c) $$ H14
  iintro H14
  iapply (store_k 𝒱 c) $$ H14
  iintro H14
  iapply Hk
  unfold cleared
  dsimp only
  iframe

/-- What a grid point writes out of the key gradients' accumulators, over what the buffer held. -/
def outKs (a b : Vec F S128x512 .f32) (X : Vec F S2x1x128x512 .f32) : Vec F S2x1x128x512 .f32 :=
  patch (α := F .f32) rH1 (patch (α := F .f32) rH0 X (outK (F := F) (pick (α := F .f32) r128 a))) (outK (F := F) (pick (α := F .f32) r128 b))

/-- What a grid point writes out of the value gradients' accumulators, over what the buffer held. -/
def outVs (a b : Vec F S64x512 .f32) (X : Vec F S512x128 .bf16) : Vec F S512x128 .bf16 :=
  patch rVb X (outV (F := F) (pick r64 a) (pick r64 b))

/-- Running the writing out. -/
theorem finish_k {A : Accs} {m8 : Memref sig .tc .vmem S2x16x128x512 .f32} {s : St F} {m9 : Memref sig .tc .vmem S2x1x128x512 .f32}
    {m10 : Memref sig .tc .vmem S512x128 .bf16} {h10 : m10.IsWhole} {X9 : Vec F S2x1x128x512 .f32} {X10 : Vec F S512x128 .bf16}
    {R : PUnit → sProp 𝕄} :
    (iprop(heldA c A m8 s ∗ owns (c.tc : Thread nD τ) m9 fullShare X9 ∗ owns (c.tc : Thread nD τ) m10 fullShare X10) : sProp 𝕄)
      ⊢ iprop(((heldA c A m8 s ∗ owns (c.tc : Thread nD τ) m9 fullShare (outKs s.k0 s.k1 X9)
          ∗ owns (c.tc : Thread nD τ) m10 fullShare (outVs s.v0 s.v1 X10)) -∗ R ⟨⟩)
        -∗ wp frame (wpE defs₀ 𝒱 (c.tc : Thread nD τ) none) Set.univ (finish A m9 m10 h10) R) := by
  unfold finish heldA
  iintro ⟨⟨H8, H11, H12, H13, H14⟩, H9, H10⟩ Hk
  iapply (load_k 𝒱 c) $$ H11
  iintro H11
  iapply (load_k 𝒱 c) $$ H9
  iintro H9
  iapply (store_k 𝒱 c) $$ H9
  iintro H9
  iapply (load_k 𝒱 c) $$ H12
  iintro H12
  iapply (load_k 𝒱 c) $$ H9
  iintro H9
  iapply (store_k 𝒱 c) $$ H9
  iintro H9
  iapply (load_k 𝒱 c) $$ H13
  iintro H13
  iapply (load_k 𝒱 c) $$ H14
  iintro H14
  iapply (load_k 𝒱 c) $$ H10
  iintro H10
  iapply (store_k 𝒱 c) $$ H10
  iintro H10
  rw [show (pure PUnit.unit : Prog (TpuEff nD τ sig (Elt F) Λ₀ .tc) PUnit) = .ret ⟨⟩ from rfl, wp_ret]
  imodintro
  iapply Hk
  unfold outKs outVs
  iframe

/-- The queries' gradient a grid point begins from. -/
def startF (i : grid0.Coords) (q : Vec F S2x16x128x512 .f32) : Vec F S2x16x128x512 .f32 :=
  if isFirst i = 1#1 then patch rQ q zeroQ else q

/-- Running the queries' gradient's zeroing. -/
theorem startQ_k {i : grid0.Coords} {m8 : Memref sig .tc .vmem S2x16x128x512 .f32} {q : Vec F S2x16x128x512 .f32}
    {k : PUnit → Prog (TpuEff nD τ sig (Elt F) Λ₀ .tc) β} :
    (owns (c.tc : Thread nD τ) m8 fullShare q : sProp 𝕄)
      ⊢ iprop((owns (c.tc : Thread nD τ) m8 fullShare (startF i q) -∗ wp frame (wpE defs₀ 𝒱 (c.tc : Thread nD τ) none) Set.univ (k ⟨⟩) Q)
        -∗ wp frame (wpE defs₀ 𝒱 (c.tc : Thread nD τ) none) Set.univ (startQ i m8 >>= k) Q) := by
  unfold startQ startF
  by_cases h : isFirst i = 1#1
  · rw [if_pos h, if_pos h]
    unfold clearQ
    rw [Prog.bind_assoc]
    iintro H Hk
    iapply (load_k 𝒱 c) $$ H
    iintro H
    iapply (store_k 𝒱 c) $$ H
    iintro H
    iapply Hk $$ H
  · rw [if_neg h, if_neg h]
    iintro H Hk
    iapply Hk $$ H

/-- What a grid point leaves in the queries' gradient and the accumulators. -/
def pointF (i : grid0.Coords) (X2 : Vec F S512x256 .bf16) (X3 : Vec F S512x128 .bf16) (X : Arr F) (s : St F) : St F :=
  columnF i (keysOf (pick rKb X2) (pick rVb X3)) X
    (diagF (keysOf (pick rKb X2) (pick rVb X3)) X (offsD i) (cleared { s with q := startF i s.q }))

/-- Running a grid point. -/
theorem point_k {i : grid0.Coords} {S : Srcs} {A : Accs} {m2 : Memref sig .tc .vmem S512x256 .bf16} {m3 : Memref sig .tc .vmem S512x128 .bf16}
    {m8 : Memref sig .tc .vmem S2x16x128x512 .f32} {s : St F} {m9 : Memref sig .tc .vmem S2x1x128x512 .f32}
    {m10 : Memref sig .tc .vmem S512x128 .bf16} {h10 : m10.IsWhole} {X2 : Vec F S512x256 .bf16} {X3 : Vec F S512x128 .bf16} {X : Arr F}
    {X9 : Vec F S2x1x128x512 .f32} {X10 : Vec F S512x128 .bf16} {R : PUnit → sProp 𝕄} :
    (iprop(owns (c.tc : Thread nD τ) m2 fullShare X2 ∗ owns (c.tc : Thread nD τ) m3 fullShare X3 ∗ heldS c S X ∗ heldA c A m8 s
        ∗ owns (c.tc : Thread nD τ) m9 fullShare X9 ∗ owns (c.tc : Thread nD τ) m10 fullShare X10) : sProp 𝕄)
      ⊢ iprop(((owns (c.tc : Thread nD τ) m2 fullShare X2 ∗ owns (c.tc : Thread nD τ) m3 fullShare X3 ∗ heldS c S X
          ∗ heldA c A m8 (pointF i X2 X3 X s)
          ∗ owns (c.tc : Thread nD τ) m9 fullShare (outKs (pointF i X2 X3 X s).k0 (pointF i X2 X3 X s).k1 X9)
          ∗ owns (c.tc : Thread nD τ) m10 fullShare (outVs (pointF i X2 X3 X s).v0 (pointF i X2 X3 X s).v1 X10)) -∗ R ⟨⟩)
        -∗ wp frame (wpE defs₀ 𝒱 (c.tc : Thread nD τ) none) Set.univ (startQ i m8 >>= fun _ => point i S A m2 m3 m8 m9 m10 h10) R) := by
  unfold point
  iintro ⟨H2, H3, HS, HA, H9, H10⟩ Hk
  unfold heldA
  icases HA with ⟨H8, HA⟩
  iapply (startQ_k 𝒱 c) $$ H8
  iintro H8
  iapply (load_k 𝒱 c) $$ H2
  iintro H2
  iapply (load_k 𝒱 c) $$ H3
  iintro H3
  have e : (iprop(owns (c.tc : Thread nD τ) m8 fullShare (startF i s.q) ∗ owns (c.tc : Thread nD τ) A.m11 fullShare s.k0
      ∗ owns (c.tc : Thread nD τ) A.m12 fullShare s.k1 ∗ owns (c.tc : Thread nD τ) A.m13 fullShare s.v0
      ∗ owns (c.tc : Thread nD τ) A.m14 fullShare s.v1) : sProp 𝕄) = heldA c A m8 { s with q := startF i s.q } := rfl
  ihave HA : (heldA c A m8 { s with q := startF i s.q } : sProp 𝕄) $$ [H8 HA]
  · rw [← e]
    iframe
  iapply (clearAccs_k 𝒱 c) $$ HA
  iintro HA
  ihave H : (iprop(heldS c S X ∗ heldA c A m8 (cleared { s with q := startF i s.q })) : sProp 𝕄) $$ [HS HA]
  · iframe
  iapply (diag_k 𝒱 c) $$ H
  iintro H
  iapply (column_k 𝒱 c) $$ H
  iintro ⟨HS, HA⟩
  iapply (finish_k 𝒱 c) $$ [HA H9 H10]
  · iframe
  iintro ⟨HA, H9, H10⟩
  iapply Hk
  have e : heldA c A m8 (pointF i X2 X3 X s) = (iprop(owns (c.tc : Thread nD τ) m8 fullShare (pointF i X2 X3 X s).q ∗ owns (c.tc : Thread nD τ) A.m11 fullShare (pointF i X2 X3 X s).k0
      ∗ owns (c.tc : Thread nD τ) A.m12 fullShare (pointF i X2 X3 X s).k1 ∗ owns (c.tc : Thread nD τ) A.m13 fullShare (pointF i X2 X3 X s).v0
      ∗ owns (c.tc : Thread nD τ) A.m14 fullShare (pointF i X2 X3 X s).v1) : sProp 𝕄) := rfl
  rw [← e]
  unfold pointF
  iframe

end Cert.Kernel2Ideal.Hand
-- ==== Proof.Mla.Model.lean ====
/-
  Hand-written. What a grid point leaves, as a function of its blocks and of the queries' gradient it finds: nothing else
  the buffers held before matters, since the point overwrites it.
-/
module

public import proofs.«01_k».proof.Proof.Mla.Run
public import Idealize.ShloMosaic.Lib.VecWindow

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic

variable {F : FTy → Type} [FloatOps F] [Named F]

/-- A whole rectangle replaced leaves the replacement. -/
theorem patch_full {α : Type} {s : Shape} {off : Fin s.rank → ℕ} (inb : ∀ a, off a + s.size a ≤ s.size a) (X w : s.Idx → α) :
    patch (Rect.unit off s.size inb) X w = w := by
  funext y
  have h := patch_emb (Rect.unit off s.size inb) X w y
  rwa [Rect.emb_unit_full inb y] at h

/-- A whole rectangle read is the array. -/
theorem pick_full {α : Type} {s : Shape} {off : Fin s.rank → ℕ} (inb : ∀ a, off a + s.size a ≤ s.size a) (X : s.Idx → α) :
    pick (Rect.unit off s.size inb) X = X := by
  funext y
  exact congrArg X (Rect.emb_unit_full inb y)

/-- The state a grid point begins its steps from. -/
def begun (i : grid0.Coords) (q : Vec F S2x16x128x512 .f32) : St F :=
  { q := if isFirst i = 1#1 then zeroQ else q, k0 := zero128, k1 := zero128, v0 := zero64, v1 := zero64 }

/-- A grid point, from its blocks and the queries' gradient it finds. -/
def pt (i : grid0.Coords) (X2 : Vec F S512x256 .bf16) (X3 : Vec F S512x128 .bf16) (X : Arr F) (q : Vec F S2x16x128x512 .f32) : St F :=
  columnF i (keysOf X2 X3) X (diagF (keysOf X2 X3) X (offsD i) (begun i q))

/-- What is in the accumulators before a grid point does not matter to it. -/
theorem pointF_eq (i : grid0.Coords) (X2 : Vec F S512x256 .bf16) (X3 : Vec F S512x128 .bf16) (X : Arr F) (s : St F) :
    pointF i X2 X3 X s = pt i X2 X3 X s.q := by
  unfold pointF pt
  rw [show pick rKb X2 = X2 from pick_full _ X2, show pick rVb X3 = X3 from pick_full _ X3]
  congr 2
  unfold cleared begun startF
  dsimp only
  rw [show patch r128 s.k0 zero128 = zero128 from patch_full _ _ _, show patch r128 s.k1 zero128 = zero128 from patch_full _ _ _,
    show patch r64 s.v0 zero64 = zero64 from patch_full _ _ _, show patch r64 s.v1 zero64 = zero64 from patch_full _ _ _,
    show patch rQ s.q zeroQ = zeroQ from patch_full _ _ _]

/-- Every index of the key gradients' block is in one head's half. -/
theorem halves (y : S2x1x128x512.Idx) : (∃ x, rH0.emb x = y) ∨ (∃ x, rH1.emb x = y) := by
  have h0 : (y 0).val < 2 := (y 0).isLt
  have h1 : (y 1).val < 1 := (y 1).isLt
  have h2 : (y 2).val < 128 := (y 2).isLt
  have h3 : (y 3).val < 512 := (y 3).isLt
  by_cases h : (y 0).val = 0
  · left
    refine ⟨fun a => ⟨![0, 0, (y 2).val, (y 3).val] a, by fin_cases a <;> first | exact Nat.one_pos | exact h2 | exact h3⟩, ?_⟩
    funext a
    refine Fin.ext ?_
    rw [Rect.emb_apply]
    fin_cases a
    · show 0 + 1 * 0 = (y 0).val; omega
    · show 0 + 1 * 0 = (y 1).val; omega
    · show 0 + 1 * (y 2).val = (y 2).val; omega
    · show 0 + 1 * (y 3).val = (y 3).val; omega
  · right
    refine ⟨fun a => ⟨![0, 0, (y 2).val, (y 3).val] a, by fin_cases a <;> first | exact Nat.one_pos | exact h2 | exact h3⟩, ?_⟩
    funext a
    refine Fin.ext ?_
    rw [Rect.emb_apply]
    fin_cases a
    · show 1 + 1 * 0 = (y 0).val; omega
    · show 0 + 1 * 0 = (y 1).val; omega
    · show 0 + 1 * (y 2).val = (y 2).val; omega
    · show 0 + 1 * (y 3).val = (y 3).val; omega

/-- The key gradients written out do not depend on what the buffer held. -/
theorem outKs_any (a b : Vec F S128x512 .f32) (X Y : Vec F S2x1x128x512 .f32) : outKs a b X = outKs a b Y := by
  funext y
  unfold outKs
  by_cases h1 : ∃ x, rH1.emb x = y
  · obtain ⟨x, rfl⟩ := h1
    rw [patch_emb, patch_emb]
  · rw [patch_miss _ _ _ _ fun x hx => h1 ⟨x, hx⟩, patch_miss _ _ _ _ fun x hx => h1 ⟨x, hx⟩]
    obtain ⟨x, rfl⟩ := (halves y).resolve_right h1
    rw [patch_emb, patch_emb]

/-- The value gradients written out. -/
theorem outVs_eq (a b : Vec F S64x512 .f32) (X : Vec F S512x128 .bf16) : outVs a b X = outV a b := by
  unfold outVs
  rw [show pick r64 a = a from pick_full _ a, show pick r64 b = b from pick_full _ b]
  exact patch_full _ _ _

end Cert.Kernel2Ideal.Hand
-- ==== Proof.Mla.Launched.lean ====
/-
  Hand-written. The kernel launched: what every grid point finds and leaves, and the run of the whole program.
-/
module

public import proofs.«01_k».proof.Proof.Mla.Model
public import Idealize.ShloMosaic.Lib.Pipeline.FrameBody
public import Idealize.ShloMosaic.Lib.Pipeline.FrameSuffix
public import Idealize.ShloMosaic.Lib.Pipeline.TableIdle
public import proofs.«01_k».proof.Proof.Gen.Kernel2Ideal.Frame
public import proofs.«01_k».proof.Proof.Gen.Kernel2Ideal.Points

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- The key block of a grid point. -/
def keyBlk (t : Fin cfg0.N) : Vec F S512x256 .bf16 := iblk m c 0 t
/-- The value block of a grid point. -/
def valBlk (t : Fin cfg0.N) : Vec F S512x128 .bf16 := iblk m c 1 t
/-- The head pair's queries, cotangents, log-sum-exps and row dots at a grid point. -/
def arrBlk (t : Fin cfg0.N) : Arr F := ⟨iblk m c 2 t, iblk m c 3 t, iblk m c 4 t, iblk m c 5 t⟩

/-- A grid point from the queries' gradient it finds. -/
def ptAt (t : Fin cfg0.N) (q : Vec F S2x16x128x512 .f32) : St F :=
  pt (grid0.coords t) (keyBlk m c t) (valBlk m c t) (arrBlk m c t) q

/-- The state after the `n`-th grid point. -/
def stAt : (n : ℕ) → n < cfg0.N → St F
  | 0, h => ptAt m c ⟨0, h⟩ zeroQ
  | n + 1, h => ptAt m c ⟨n + 1, h⟩ (stAt n (Nat.lt_of_succ_lt h)).q

/-- A key gradient buffer before anything is written to it. -/
def someKs : Vec F S2x1x128x512 .f32 := fun _ => FloatOps.ofBits .f32 0#32

/-- What the key gradients' buffer holds after a grid point. -/
def outKAt (t : Fin cfg0.N) : Vec F S2x1x128x512 .f32 := outKs (stAt m c t.val t.isLt).k0 (stAt m c t.val t.isLt).k1 someKs
/-- What the value gradients' buffer holds after a grid point. -/
def outVAt (t : Fin cfg0.N) : Vec F S512x128 .bf16 := outV (stAt m c t.val t.isLt).v0 (stAt m c t.val t.isLt).v1

/-- What a grid point leaves in each block. -/
def afterW (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => (stAt m c t.val t.isLt).q
  | ⟨7, _⟩ => outKAt m c t
  | ⟨8, _⟩ => outVAt m c t
  | ⟨n + 9, h⟩ => absurd h (by show ¬ n + 9 < 9; omega)

/-- The proof data of the launch. -/
def dats (_ : Fin 1) (c : Dev nD) : Dat τ (Elt F) Unit ℕ (UR sig nD τ) ℕ cfg0 c where
  A w := V m c (Pipeline.arrRef spec0 w)
  after w t := afterW m c w t
  Φ _ := Pipeline.ΦA spec0 c
  q _ := fullShare
  owed _ := 0

/-- The arrays are those the region finds. -/
theorem A_eq (w : Fin cfg0.W) : (dats m 0 c).A w = V m c (Pipeline.arrRef spec0 w) := by dsimp only [dats]

/-- The first grid point of a head pair, told by its coordinates. -/
theorem isFirst_iff : ∀ t : Fin grid0.N, isFirst (grid0.coords t) = 1#1 ↔ t.val % 16 = 0 := by decide +kernel

/-- A point's result from what it finds, whatever the first point of a head pair finds. -/
theorem ptAt_before (t : Fin cfg0.N) (d : Vec F S2x16x128x512 .f32) :
    ptAt m c t ((dats m 0 c).before 6 t d) = stAt m c t.val t.isLt := by
  by_cases h : isFirst (grid0.coords t) = 1#1
  · have key : ∀ q q' : Vec F S2x16x128x512 .f32, ptAt m c t q = ptAt m c t q' := by
      intro q q'
      unfold ptAt pt begun
      simp only [if_pos h]
    obtain ⟨n, hn⟩ := t
    cases n with
    | zero => exact key _ _
    | succ n => exact key _ _
  · have hm : t.val % 16 ≠ 0 := fun e => h ((isFirst_iff t).mpr e)
    have h0 : t.val ≠ 0 := fun e => hm (by rw [e])
    rw [(dats m 0 c).before_of_pos 6 t h0 ((cfg0.win 6).fetch_out rfl t)]
    rw [if_neg (fun e => by
      have := (flush0_6 ⟨t.val - 1, Nat.lt_of_le_of_lt (Nat.sub_le _ _) t.isLt⟩).mp e
      simp only at this
      omega)]
    obtain ⟨n, hn⟩ := t
    cases n with
    | zero => exact absurd rfl h0
    | succ n => rfl

/-- Input 0's block is left in place. -/
theorem after_0 (t : Fin cfg0.N) : (dats m 0 c).after 0 t = iblk m c 0 t := by dsimp only [dats, afterW]
/-- Input 0's block is found at every point. -/
theorem before_0 (t : Fin cfg0.N) (d) : (dats m 0 c).before 0 t d = iblk m c 0 t :=
  before0_0_of m (dats m 0 c) (A_eq m c 0) (after_0 m c) t d
/-- Input 1's block is left in place. -/
theorem after_1 (t : Fin cfg0.N) : (dats m 0 c).after 1 t = iblk m c 1 t := by dsimp only [dats, afterW]
/-- Input 1's block is found at every point. -/
theorem before_1 (t : Fin cfg0.N) (d) : (dats m 0 c).before 1 t d = iblk m c 1 t :=
  before0_1_of m (dats m 0 c) (A_eq m c 1) (after_1 m c) t d
/-- Input 2's block is left in place. -/
theorem after_2 (t : Fin cfg0.N) : (dats m 0 c).after 2 t = iblk m c 2 t := by dsimp only [dats, afterW]
/-- Input 2's block is found at every point. -/
theorem before_2 (t : Fin cfg0.N) (d) : (dats m 0 c).before 2 t d = iblk m c 2 t :=
  before0_2_of m (dats m 0 c) (A_eq m c 2) (after_2 m c) t d
/-- Input 3's block is left in place. -/
theorem after_3 (t : Fin cfg0.N) : (dats m 0 c).after 3 t = iblk m c 3 t := by dsimp only [dats, afterW]
/-- Input 3's block is found at every point. -/
theorem before_3 (t : Fin cfg0.N) (d) : (dats m 0 c).before 3 t d = iblk m c 3 t :=
  before0_3_of m (dats m 0 c) (A_eq m c 3) (after_3 m c) t d
/-- Input 4's block is left in place. -/
theorem after_4 (t : Fin cfg0.N) : (dats m 0 c).after 4 t = iblk m c 4 t := by dsimp only [dats, afterW]
/-- Input 4's block is found at every point. -/
theorem before_4 (t : Fin cfg0.N) (d) : (dats m 0 c).before 4 t d = iblk m c 4 t :=
  before0_4_of m (dats m 0 c) (A_eq m c 4) (after_4 m c) t d
/-- Input 5's block is left in place. -/
theorem after_5 (t : Fin cfg0.N) : (dats m 0 c).after 5 t = iblk m c 5 t := by dsimp only [dats, afterW]
/-- Input 5's block is found at every point. -/
theorem before_5 (t : Fin cfg0.N) (d) : (dats m 0 c).before 5 t d = iblk m c 5 t :=
  before0_5_of m (dats m 0 c) (A_eq m c 5) (after_5 m c) t d

/-- What the body is called with at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at a point. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The blocks of a point as it is called with them. -/
abbrev srcsAt (t : Fin cfg0.N) : Srcs := ⟨st0_2 t, st0_3 t, st0_4 t, st0_5 t⟩
/-- The four accumulators. -/
abbrev accs : Accs := ⟨Memref.whole cc0_scratch0, Memref.whole cc0_scratch1, Memref.whole cc0_scratch2, Memref.whole cc0_scratch3⟩

/-- The body at a point is the program the steps are proved of. -/
theorem bodyAt0_eq (t : Fin cfg0.N) : bodyAt0 (F := F) t = (startQ (grid0.coords t) (st0_6 t) >>= fun _ =>
    point (grid0.coords t) (srcsAt t) accs (st0_0 t) (st0_1 t) (st0_6 t) (st0_7 t) (st0_8 t) (hstage0_8 ((cfg0.slots t 8).cast nbuf0_8))) :=
  cc0_eq ..

/-- The body at a point, from what it finds to what it leaves. -/
theorem sound_body (t : Fin cfg0.N) :
    bodyPre m c t ⊢ wp frame (wpE (defs₀ (F := F)) Variants.none (c.tc : Thread nD τ) none) Set.univ (bodyAt0 t) (fun _ => bodyPost m c t) := by
  rw [bodyAt0_eq]
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0, before_1, before_2, before_3, before_4, before_5]
  have hs : ∀ (f0 f1 : Vec F S128x512 .f32) (f2 f3 : Vec F S64x512 .f32),
      (iprop(((c : Thread nD τ).loc cc0_scratch0 ↦{fullShare} f0) ∗ ((c : Thread nD τ).loc cc0_scratch1 ↦{fullShare} f1)
        ∗ ((c : Thread nD τ).loc cc0_scratch2 ↦{fullShare} f2) ∗ ((c : Thread nD τ).loc cc0_scratch3 ↦{fullShare} f3)) : sProp 𝕄)
      = iprop(owns (c.tc : Thread nD τ) (accs).m11 fullShare f0 ∗ owns (c.tc : Thread nD τ) (accs).m12 fullShare f1
        ∗ owns (c.tc : Thread nD τ) (accs).m13 fullShare f2 ∗ owns (c.tc : Thread nD τ) (accs).m14 fullShare f3) := by
    intro f0 f1 f2 f3
    simp only [owns_whole]
  ihave HA : (heldA c accs (st0_6 t) ⟨(dats m 0 c).before 6 t d6, f0, f1, f2, f3⟩ : sProp 𝕄) $$ [H6 S0 S1 S2 S3]
  · unfold heldA
    isplitl [H6]; · iexact H6
    rw [← hs]
    iframe
  ihave HS : (heldS c (srcsAt t) (arrBlk m c t) : sProp 𝕄) $$ [H2 H3 H4 H5]
  · unfold heldS arrBlk
    iframe
  ihave H : (iprop(owns (c.tc : Thread nD τ) (st0_0 t) fullShare (keyBlk m c t) ∗ owns (c.tc : Thread nD τ) (st0_1 t) fullShare (valBlk m c t)
      ∗ heldS c (srcsAt t) (arrBlk m c t) ∗ heldA c accs (st0_6 t) ⟨(dats m 0 c).before 6 t d6, f0, f1, f2, f3⟩
      ∗ owns (c.tc : Thread nD τ) (st0_7 t) fullShare ((dats m 0 c).before 7 t d7)
      ∗ owns (c.tc : Thread nD τ) (st0_8 t) fullShare ((dats m 0 c).before 8 t d8)) : sProp 𝕄) $$ [H0 H1 HS HA H7 H8]
  · unfold keyBlk valBlk
    iframe
  iapply (point_k Variants.none c) $$ H
  rw [pointF_eq, show pt (grid0.coords t) (keyBlk m c t) (valBlk m c t) (arrBlk m c t) ((dats m 0 c).before 6 t d6) = stAt m c t.val t.isLt from ptAt_before m c t d6,
    outVs_eq, outKs_any _ _ _ someKs]
  iintro ⟨H0, H1, HS, HA, H7, H8⟩
  unfold heldS heldA
  icases HS with ⟨H2, H3, H4, H5⟩
  icases HA with ⟨H6, HA⟩
  ihave HA : (iprop(((c : Thread nD τ).loc cc0_scratch0 ↦{fullShare} (stAt m c t.val t.isLt).k0) ∗ ((c : Thread nD τ).loc cc0_scratch1 ↦{fullShare} (stAt m c t.val t.isLt).k1)
        ∗ ((c : Thread nD τ).loc cc0_scratch2 ↦{fullShare} (stAt m c t.val t.isLt).v0) ∗ ((c : Thread nD τ).loc cc0_scratch3 ↦{fullShare} (stAt m c t.val t.isLt).v1)) : sProp 𝕄) $$ [HA]
  · rw [hs]
    iexact HA
  icases HA with ⟨S0, S1, S2, S3⟩
  isplitl [S0 S1 S2 S3 Hr]
  · isplitr [Hr]
    · isplitl [S0]; · iexists _; iexact S0
      isplitl [S1]; · iexists _; iexact S1
      isplitl [S2]; · iexists _; iexact S2
      iexists _; iexact S3
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- Every grid point meets what the launch asks of it. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters the program terminates without fault, its arrays end as the points leave them and
    the host lines after the launch compute, and every counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := fun r => Pipeline.FramePost cfgs (dats m) 0 (Pipeline.afterTail₀ cfgs (dats m) 0 (V0 m) [hostOps1]) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

end Cert.Kernel2Ideal.Hand
-- ==== Proof.Mla.Frames.lean ====
/-
  Hand-written. The frames of the kernel, as printed and idealized: one run, read at the two instances.
-/
module

public import proofs.«01_k».proof.Defs
public import proofs.«01_k».proof.Proof.Mla.Launched
public import proofs.«01_k».proof.Proof.Gen.Kernel2
public import proofs.«01_k».proof.Proof.Gen.Kernel2Ideal
public import proofs.«01_k».proof.Proof.Gen.Reference2Ideal.Run

@[expose] public section

set_option maxRecDepth 16384

noncomputable section

namespace Cert.Frames2

open Idealize.ShloMosaic Idealize.ShloMosaic.TcCoe Idealize.SL.Sem

section Ideal
open Kernel2Ideal Kernel2Ideal.Gen Kernel2Ideal.Hand

variable {F : FTy → Type} [FloatOps F] [Named F] (m : (ℓ : Loc nD τ sig) → Buf (Elt F) ℓ) (ρ : Dev nD → PrngReg)

/-- After the run every argument holds what it held and every counter is zero. -/
theorem kept {r : PUnit × MemSt nD τ sig (Elt F)}
    (h : Pipeline.FramePost cfgs (dats m) 0 (Pipeline.afterTail₀ cfgs (dats m) 0 (V0 m) [hostOps1]) r ∧ r.2.sem = fun _ => 0) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  refine ⟨fun c => ?_, h.2⟩
  have h := h.1 c
  exact ⟨(h.2 main_arg0 (Pipeline.mem_restRefs_of main_arg0 (by decide) (by decide))).trans (W_main_arg0 m (dats m) c),
    (h.2 main_arg1 (Pipeline.mem_restRefs_of main_arg1 (by decide) (by decide))).trans (W_main_arg1 m (dats m) c),
    (h.2 main_arg2 (Pipeline.mem_restRefs_of main_arg2 (by decide) (by decide))).trans (W_main_arg2 m (dats m) c),
    (h.2 main_arg3 (Pipeline.mem_restRefs_of main_arg3 (by decide) (by decide))).trans (W_main_arg3 m (dats m) c)⟩

/-- The program's run, at any instance of the floats. -/
theorem run_kept : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => kept m h) (run_main m ρ)

/-- The frame of the idealized kernel. -/
theorem frame_kernel2Ideal : quiescent_Kernel2Ideal := fun m ρ _ => run_kept m ρ

end Ideal

/-- At the bit-exact instance a named constant is its own word. -/
instance namedBits : Named Bits where
  named _ _ {φ} bits := Scalar.ofBits φ bits

/-- The two printings of the kernel's function are one. -/
theorem cc0_same : Kernel2.cc0_mla_attn_bwd (F := Bits) = Kernel2Ideal.cc0_mla_attn_bwd (F := Bits) := rfl

set_option maxHeartbeats 1000000 in
/-- The two printings' body tables are one. -/
theorem defs₀_same : Kernel2.defs₀ (F := Bits) = Kernel2Ideal.defs₀ (F := Bits) := by
  unfold Kernel2.defs₀ Kernel2Ideal.defs₀
  refine congrArg Defs.onTc (funext fun l => funext fun a => ?_)
  match l, a with
  | ⟨0, _⟩, (t, s) =>
    dsimp only
    rw [cc0_same]
    rfl
  | ⟨n + 1, h⟩, _ => exact absurd h (Nat.not_lt.2 (Nat.le_add_left _ _))

/-- The two printings' launches are one. -/
theorem pcfgs_same : Kernel2.pcfgs (F := Bits) = Kernel2Ideal.pcfgs (F := Bits) := rfl

/-- The two printings' definitions are one. -/
theorem defs_same : Kernel2.defs (F := Bits) = Kernel2Ideal.defs (F := Bits) :=
  congrArg (Pipeline.defs (Kernel2Ideal.pcfgs (F := Bits))) defs₀_same

set_option maxHeartbeats 4000000 in
/-- The first lines of the two printings are one. -/
theorem part0_same : Kernel2.main_part0 (F := Bits) = Kernel2Ideal.main_part0 (F := Bits) := rfl

set_option maxHeartbeats 4000000 in
/-- The last lines of the two printings are one. -/
theorem part1_same : Kernel2.main_part1 (F := Bits) = Kernel2Ideal.main_part1 (F := Bits) := rfl

set_option maxHeartbeats 4000000 in
/-- The two printed programs are one. -/
theorem main_same : Kernel2.main (F := Bits) = Kernel2Ideal.main (F := Bits) := by
  funext d
  have h := congr (congrArg Bind.bind (congrFun part0_same d)) (funext fun _ : PUnit => congrFun part1_same d)
  exact h

section
open Kernel2Ideal

/-- A run of a program is a run of any equal one. -/
theorem run_same {D D' : Defs nD τ sig (Elt Bits) (Pipeline.Sig Λ₀ (Fin 1) fun p => (pcfgs (F := Bits) p).Adm)}
    {M M' : Dev nD → Prog (TpuEff nD τ sig (Elt Bits) (Pipeline.Sig Λ₀ (Fin 1) fun p => (pcfgs (F := Bits) p).Adm) .tc) PUnit}
    (hD : D = D') (hM : M = M') {s : MemSt nD τ sig (Elt Bits)} {Q : PUnit × MemSt nD τ sig (Elt Bits) → Prop}
    (h : θ_run D' (onTc (τ := τ) M') s Q) : θ_run D (onTc (τ := τ) M) s Q := by
  subst hD hM
  exact h

end

/-- The frame of the kernel as printed. -/
theorem frame_kernel2 : quiescent_Kernel2 := fun m ρ _ =>
  run_same defs_same main_same (run_kept (F := Bits) m ρ)

/-- The frame of the idealized reference. -/
theorem frame_reference2Ideal : quiescent_Reference2Ideal := fun m ρ _ =>
  (θ_run Reference2Ideal.defs _ _).mono (fun r h => ⟨fun c => (h c).2.2.2, sem_eq_zero_of_no_sems (by decide) r.2⟩)
    (Reference2Ideal.Value.run m ρ)

/-- The one rewrite of the idealization: ln 2 is named. -/
theorem preserves_kernel2 : preserves_Kernel2_Kernel2Ideal :=
  IdealRules.named_const.statement Kernel2Ideal.κ "ln2" .f32 0x3F317218#32 ((Real.log 2 : ℝ) : EReal) rfl

end Cert.Frames2
-- ==== Proof.Consts.lean ====
/-
  Hand-written. The float constants of the programs as extended reals.
-/
module

public import Idealize.ShloMosaic.PureOps.Ideal

@[expose] public section

noncomputable section

namespace Cert.Consts

open Idealize.ShloMosaic

/-- The scores' scale, one eighth. -/
theorem ofBits_eighth : Ideal.ofBits .f32 0x3E000000#32 = ((1 / 8 : ℝ) : EReal) := by
  simp [Ideal.ofBits, Ideal.ieee, -EReal.coe_mul]
  norm_num

/-- Two. -/
theorem ofBits_two : Ideal.ofBits .f32 0x40000000#32 = ((2 : ℝ) : EReal) := by
  simp [Ideal.ofBits, Ideal.ieee, -EReal.coe_mul]
  norm_num

/-- Minus infinity. -/
theorem ofBits_ninf : Ideal.ofBits .f32 0xFF800000#32 = (⊥ : EReal) := by
  simp [Ideal.ofBits, Ideal.ieee]

/-- Infinity. -/
theorem ofBits_inf : Ideal.ofBits .f32 0x7F800000#32 = (⊤ : EReal) := by
  simp [Ideal.ofBits, Ideal.ieee]

end Cert.Consts
-- ==== Proof.Steps.lean ====
/-
  Hand-written. Over the real numbers: what one step of the kernel adds. Where the blocks hold real numbers, the
  probabilities, the score gradients and the shares of a step are sums of products of real numbers.
-/
module

public import proofs.«01_k».proof.Proof.Model
public import Idealize.ShloMosaic.Lib.Pointwise
public import proofs.«01_k».proof.Proof.Consts

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic

/-- A matrix of real numbers. -/
abbrev Mat (a b : ℕ) := Fin a → Fin b → ℝ

/-- A matrix of real numbers as a vector of ideal values. -/
def up2 {a b : ℕ} (f : Mat a b) : (⟨2, ![a, b]⟩ : Shape).Idx → EReal := fun j => ((f (j 0) (j 1) : ℝ) : EReal)

/-- A row of real numbers as a vector of ideal values. -/
def upR {b : ℕ} (f : Fin b → ℝ) : (⟨2, ![1, b]⟩ : Shape).Idx → EReal := fun j => ((f (j 1) : ℝ) : EReal)

@[simp] theorem up2_ix {a b : ℕ} (f : Mat a b) (r : Fin a) (c : Fin b) : up2 f (ix2 r c) = ((f r c : ℝ) : EReal) := rfl
@[simp] theorem upR_ix {b : ℕ} (f : Fin b → ℝ) (r : Fin 1) (c : Fin b) : upR f (ix2 r c) = ((f c : ℝ) : EReal) := rfl

/-- A sum of real numbers is the same among the extended reals. -/
theorem coeSum {ι : Type} [Fintype ι] (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) Finset.univ ?_ ?_
  · simp
  · intro a s ha ih
    rw [Finset.sum_insert ha, Finset.sum_insert ha, ih, EReal.coe_add]

/-- The two halves of a tile's queries. -/
def lo (c : Fin 256) : Fin 512 := ⟨c.val, by omega⟩
def hi (c : Fin 256) : Fin 512 := ⟨256 + c.val, by omega⟩

/-- A sum over a tile's queries is the sum over its halves. -/
theorem sum_halves (f : Fin 512 → ℝ) : ∑ t, f t = ∑ c, f (lo c) + ∑ c, f (hi c) :=
  Fin.sum_univ_add (a := 256) (b := 256) f

/-- The scores' products, the probabilities and the score gradients of a tile, over the reals. A masked tile is the
    diagonal one: its probability is zero where the key comes after the query. -/
def dotR (k : Mat 512 128) (q : Mat 128 512) (s t : Fin 512) : ℝ := ∑ x, k s x * q x t
def pR (m : Bool) (k : Mat 512 128) (q : Mat 128 512) (l : Fin 512 → ℝ) (s t : Fin 512) : ℝ :=
  if m = true ∧ t < s then 0 else Real.rpow 2 (dotR k q s t - l t)
def zR (p : Mat 512 512) (v : Mat 512 128) (g : Mat 128 512) (d : Fin 512 → ℝ) (s t : Fin 512) : ℝ :=
  p s t * (dotR v g s t - d t)

section Values

variable (k v : Mat 512 128) (q g : Mat 128 512) (l d : Fin 512 → ℝ)

/-- Half an unmasked tile's probabilities. -/
theorem pOf_lo : pOf (F := Ideal) (up2 k) (up2 q) (upR l) ![0, 0] slices_S128x512_o0_0_S128x256 slices_S1x512_o0_0_S1x256
    = up2 (fun s c => pR false k q l s (lo c)) := by
  funext j
  idx_vars j
  pointwise [pOf, pr, sc, rep]
  simp only [up2_ix, upR_ix, ← EReal.coe_mul, coeSum, ← EReal.coe_sub]
  rfl
theorem pOf_hi : pOf (F := Ideal) (up2 k) (up2 q) (upR l) ![0, 256] slices_S128x512_o0_256_S128x256 slices_S1x512_o0_256_S1x256
    = up2 (fun s c => pR false k q l s (hi c)) := by
  funext j
  idx_vars j
  pointwise [pOf, pr, sc, rep]
  simp only [up2_ix, upR_ix, ← EReal.coe_mul, coeSum, ← EReal.coe_sub]
  rfl

/-- Half a tile's score gradients. -/
theorem zOf_lo (p : Mat 512 256) : zOf (F := Ideal) (up2 v) (up2 g) (upR d) ![0, 0] slices_S128x512_o0_0_S128x256 slices_S1x512_o0_0_S1x256 (up2 p)
    = up2 (fun s c => p s c * (dotR v g s (lo c) - d (lo c))) := by
  funext j
  idx_vars j
  pointwise [zOf, ds, sc, rep]
  simp only [up2_ix, upR_ix, ← EReal.coe_mul, coeSum, ← EReal.coe_sub]
  rfl
theorem zOf_hi (p : Mat 512 256) : zOf (F := Ideal) (up2 v) (up2 g) (upR d) ![0, 256] slices_S128x512_o0_256_S128x256 slices_S1x512_o0_256_S1x256 (up2 p)
    = up2 (fun s c => p s c * (dotR v g s (hi c) - d (hi c))) := by
  funext j
  idx_vars j
  pointwise [zOf, ds, sc, rep]
  simp only [up2_ix, upR_ix, ← EReal.coe_mul, coeSum, ← EReal.coe_sub]
  rfl

/-- The masked scores' exponential: zero where the key comes after the query. -/
theorem exp2_masked (b : BitVec 1) (x y : ℝ) :
    FloatOps.exp2 (F := Ideal) (φ := .f32) (Scalar.select b ((x : ℝ) : EReal) (Ideal.ofBits .f32 0xFF800000#32) - ((y : ℝ) : EReal))
      = (((if b = 1#1 then Real.rpow 2 (x - y) else 0 : ℝ)) : EReal) := by
  by_cases h : b = 1#1
  · subst h
    rfl
  · rw [if_neg h]
    have hb : b = 0#1 := by revert h b; decide
    subst hb
    have e := Cert.Consts.ofBits_ninf
    show Ideal.exp2 (Ideal.ofBits .f32 0xFF800000#32 - ((y : ℝ) : EReal)) = _
    rw [e]
    simp

/-- The mask's bit on the diagonal tile's two halves. -/
theorem bit_lo (s c : Fin 256) :
    IntOp.cmpi .sge (IntOp.addi (BitVec.ofNat 32 c.val) 0#32) (BitVec.ofNat 32 s.val) = 1#1 ↔ ¬ lo c < lo s := by
  have hs := s.isLt
  have hc := c.isLt
  have e : IntOp.cmpi .sge (IntOp.addi (BitVec.ofNat 32 c.val) 0#32) (BitVec.ofNat 32 s.val) = BitVec.ofBool (decide (s.val ≤ c.val)) := by
    show BitVec.ofBool (BitVec.sle (BitVec.ofNat 32 s.val) (BitVec.ofNat 32 c.val + 0#32)) = _
    congr 1
    rw [BitVec.sle, BitVec.add_zero, BitVec.toInt_ofNat', BitVec.toInt_ofNat', decide_eq_decide]
    rw [Int.bmod_def, Int.bmod_def]
    omega
  rw [e]
  show _ ↔ ¬ (c.val < s.val)
  by_cases h : s.val ≤ c.val
  · simp only [h, decide_true, BitVec.ofBool_true, true_iff]; exact ⟨fun _ => Nat.not_lt.2 h, fun _ => rfl⟩
  · simp only [h, decide_false, BitVec.ofBool_false]
    exact ⟨fun e => absurd e (by decide), fun e => absurd (by omega) e⟩
theorem bit_hi (s : Fin 512) (c : Fin 256) :
    IntOp.cmpi .sge (IntOp.addi (BitVec.ofNat 32 c.val) 256#32) (BitVec.ofNat 32 s.val) = 1#1 ↔ ¬ hi c < s := by
  have hs := s.isLt
  have hc := c.isLt
  have e : IntOp.cmpi .sge (IntOp.addi (BitVec.ofNat 32 c.val) 256#32) (BitVec.ofNat 32 s.val) = BitVec.ofBool (decide (s.val ≤ 256 + c.val)) := by
    show BitVec.ofBool (BitVec.sle (BitVec.ofNat 32 s.val) (BitVec.ofNat 32 c.val + BitVec.ofNat 32 256)) = _
    congr 1
    rw [BitVec.sle, ← BitVec.ofNat_add, BitVec.toInt_ofNat', BitVec.toInt_ofNat', decide_eq_decide]
    rw [Int.bmod_def, Int.bmod_def]
    omega
  rw [e]
  show _ ↔ ¬ (256 + c.val < s.val)
  by_cases h : s.val ≤ 256 + c.val
  · simp [h]
  · simp [h]

/-- The diagonal tile's probabilities. -/
theorem pOfD_eq : pOfD (F := Ideal) (up2 k) (up2 q) (upR l) = up2 (fun s c => pR true k q l (lo s) (lo c)) := by
  funext j
  idx_vars j
  pointwise [pOfD, prD, maskD, scD, repD]
  simp only [up2_ix, upR_ix, ← EReal.coe_mul, coeSum]
  rw [exp2_masked]
  congr 1
  unfold pR
  by_cases h : lo j1 < lo j0
  · rw [if_neg (fun e => (bit_lo j0 j1).1 e h), if_pos ⟨rfl, h⟩]
  · rw [if_pos ((bit_lo j0 j1).2 h), if_neg (fun e => h e.2)]
    rfl
theorem pOf1_eq : pOf1 (F := Ideal) (up2 k) (up2 q) (upR l) = up2 (fun s c => pR true k q l s (hi c)) := by
  funext j
  idx_vars j
  pointwise [pOf1, pr, mask1, sc, rep]
  simp only [up2_ix, upR_ix, ← EReal.coe_mul, coeSum]
  rw [exp2_masked]
  congr 1
  unfold pR
  by_cases h : hi j1 < j0
  · rw [if_neg (fun e => (bit_hi j0 j1).1 e h), if_pos ⟨rfl, h⟩]
  · rw [if_pos ((bit_hi j0 j1).2 h), if_neg (fun e => h e.2)]
    rfl
theorem zOfD_eq (p : Mat 256 256) : zOfD (F := Ideal) (up2 v) (up2 g) (upR d) (up2 p)
    = up2 (fun s c => p s c * (dotR v g (lo s) (lo c) - d (lo c))) := by
  funext j
  idx_vars j
  pointwise [zOfD, dsD, scD, repD]
  simp only [up2_ix, upR_ix, ← EReal.coe_mul, coeSum, ← EReal.coe_sub]
  rfl

/-- The score gradients of the two halves as those of a tile. -/
theorem zOf_lo' (m : Bool) : zOf (F := Ideal) (up2 v) (up2 g) (upR d) ![0, 0] slices_S128x512_o0_0_S128x256 slices_S1x512_o0_0_S1x256
      (up2 fun s c => pR m k q l s (lo c)) = up2 (fun s c => zR (pR m k q l) v g d s (lo c)) := zOf_lo v g d _
theorem zOf_hi' (m : Bool) : zOf (F := Ideal) (up2 v) (up2 g) (upR d) ![0, 256] slices_S128x512_o0_256_S128x256 slices_S1x512_o0_256_S1x256
      (up2 fun s c => pR m k q l s (hi c)) = up2 (fun s c => zR (pR m k q l) v g d s (hi c)) := zOf_hi v g d _
theorem zOfD_eq' (m : Bool) : zOfD (F := Ideal) (up2 v) (up2 g) (upR d) (up2 fun s c => pR m k q l (lo s) (lo c))
    = up2 (fun s c => zR (pR m k q l) v g d (lo s) (lo c)) := zOfD_eq v g d _

/-! The shares. -/

/-- Rows `64 e` to `64 e + 63` of a matrix of 128 rows. -/
def row64 (e : Fin 2) (a : Fin 64) : Fin 128 := ⟨64 * e.val + a.val, by omega⟩

/-- The first 64 rows keep their numbers. -/
theorem row64_zero (a : Fin 64) : row64 0 a = ⟨a.val, by omega⟩ := Fin.ext (by simp [row64])

theorem dvAdd_0lo (p : Mat 512 256) : dvAdd (F := Ideal) (up2 g) ![0, 0] slices_S128x512_o0_0_S64x256 (up2 p)
    = up2 (fun a s => ∑ c, g (row64 0 a) (lo c) * p s c) := by
  funext j
  idx_vars j
  pointwise [dvAdd]
  simp only [up2_ix, ← EReal.coe_mul, coeSum]
  refine Eq.trans ?_ (congrArg (fun r => ((∑ c, g r (lo c) * p j1 c : ℝ) : EReal)) (row64_zero j0).symm)
  rfl
theorem dvAdd_0hi (p : Mat 512 256) : dvAdd (F := Ideal) (up2 g) ![0, 256] slices_S128x512_o0_256_S64x256 (up2 p)
    = up2 (fun a s => ∑ c, g (row64 0 a) (hi c) * p s c) := by
  funext j
  idx_vars j
  pointwise [dvAdd]
  simp only [up2_ix, ← EReal.coe_mul, coeSum]
  refine Eq.trans ?_ (congrArg (fun r => ((∑ c, g r (hi c) * p j1 c : ℝ) : EReal)) (row64_zero j0).symm)
  rfl
theorem dvAdd_1lo (p : Mat 512 256) : dvAdd (F := Ideal) (up2 g) ![64, 0] slices_S128x512_o64_0_S64x256 (up2 p)
    = up2 (fun a s => ∑ c, g (row64 1 a) (lo c) * p s c) := by
  funext j
  idx_vars j
  pointwise [dvAdd]
  simp only [up2_ix, ← EReal.coe_mul, coeSum]
  rfl
theorem dvAdd_1hi (p : Mat 512 256) : dvAdd (F := Ideal) (up2 g) ![64, 256] slices_S128x512_o64_256_S64x256 (up2 p)
    = up2 (fun a s => ∑ c, g (row64 1 a) (hi c) * p s c) := by
  funext j
  idx_vars j
  pointwise [dvAdd]
  simp only [up2_ix, ← EReal.coe_mul, coeSum]
  rfl
theorem dvAddD_0 (p : Mat 256 256) : dvAddD (F := Ideal) (up2 g) ![0, 0] slices_S128x512_o0_0_S64x256 (up2 p)
    = up2 (fun a s => ∑ c, g (row64 0 a) (lo c) * p s c) := by
  funext j
  idx_vars j
  pointwise [dvAddD]
  simp only [up2_ix, ← EReal.coe_mul, coeSum]
  refine Eq.trans ?_ (congrArg (fun r => ((∑ c, g r (lo c) * p j1 c : ℝ) : EReal)) (row64_zero j0).symm)
  rfl
theorem dvAddD_1 (p : Mat 256 256) : dvAddD (F := Ideal) (up2 g) ![64, 0] slices_S128x512_o64_0_S64x256 (up2 p)
    = up2 (fun a s => ∑ c, g (row64 1 a) (lo c) * p s c) := by
  funext j
  idx_vars j
  pointwise [dvAddD]
  simp only [up2_ix, ← EReal.coe_mul, coeSum]
  rfl
theorem dkAdd_lo (z : Mat 512 256) : dkAdd (F := Ideal) (up2 q) ![0, 0] slices_S128x512_o0_0_S128x256 (up2 z)
    = up2 (fun a s => ∑ c, q a (lo c) * z s c) := by
  funext j
  idx_vars j
  pointwise [dkAdd]
  simp only [up2_ix, ← EReal.coe_mul, coeSum]
  rfl
theorem dkAdd_hi (z : Mat 512 256) : dkAdd (F := Ideal) (up2 q) ![0, 256] slices_S128x512_o0_256_S128x256 (up2 z)
    = up2 (fun a s => ∑ c, q a (hi c) * z s c) := by
  funext j
  idx_vars j
  pointwise [dkAdd]
  simp only [up2_ix, ← EReal.coe_mul, coeSum]
  rfl
theorem dkAddD_eq (z : Mat 256 256) : dkAddD (F := Ideal) (up2 q) (up2 z) = up2 (fun a s => ∑ c, q a (lo c) * z s c) := by
  funext j
  idx_vars j
  pointwise [dkAddD]
  simp only [up2_ix, ← EReal.coe_mul, coeSum]
  rfl
theorem dqAdd_eq (t : Mat 128 512) (z : Mat 512 256) : dqAdd (F := Ideal) (up2 t) (up2 z) = up2 (fun a c => ∑ s, t a s * z s c) := by
  funext j
  idx_vars j
  pointwise [dqAdd]
  simp only [up2_ix, ← EReal.coe_mul, coeSum]
theorem dqAddD_eq (t : Mat 128 512) (z : Mat 256 256) : dqAddD (F := Ideal) (up2 t) (up2 z) = up2 (fun a c => ∑ s, t a (lo s) * z s c) := by
  funext j
  idx_vars j
  pointwise [dqAddD]
  simp only [up2_ix, ← EReal.coe_mul, coeSum]
  rfl
/-- Two halves side by side are the matrix whose halves they are. -/
theorem both_eq (x y : Mat 128 256) (f : Mat 128 512) (hx : ∀ a c, f a (lo c) = x a c) (hy : ∀ a c, f a (hi c) = y a c) :
    both (F := Ideal) (up2 x) (up2 y) = up2 f := by
  funext j
  idx_vars j
  pointwise [both]
  split
  · rename_i h
    exact congrArg _ (hx j0 ⟨j1.val, h⟩).symm
  · rename_i h
    have e : hi ⟨j1.val - 256, by omega⟩ = j1 := Fin.ext (by show 256 + (j1.val - 256) = j1.val; omega)
    have := hy j0 ⟨j1.val - 256, by omega⟩
    rw [e] at this
    exact congrArg _ this.symm

/-! The updates. -/

theorem up64_eq (x a : Mat 64 512) : bumped (e := .f32) r64 (up64 (F := Ideal) (up2 x)) (up2 a) = up2 (fun r s => a r s + x r s) := by
  unfold bumped
  rw [show pick r64 (up2 a) = up2 a from pick_full _ _]
  refine (patch_full _ _ _).trans ?_
  funext j
  idx_vars j
  pointwise [up64]
  rfl
theorem up128_eq (x a : Mat 128 512) : bumped (e := .f32) r128 (up128 (F := Ideal) (up2 x)) (up2 a) = up2 (fun r s => a r s + x r s) := by
  unfold bumped
  rw [show pick r128 (up2 a) = up2 a from pick_full _ _]
  refine (patch_full _ _ _).trans ?_
  funext j
  idx_vars j
  pointwise [up128]
  rfl

/-- An update of the first 256 keys. -/
theorem up64D_eq (x : Mat 64 256) (a f : Mat 64 512) (hl : ∀ r s, f r (lo s) = a r (lo s) + x r s) (hh : ∀ r s, f r (hi s) = a r (hi s)) :
    bumped (e := .f32) r64D (up64D (F := Ideal) (up2 x)) (up2 a) = up2 f := by
  funext j
  idx_vars j
  unfold bumped
  by_cases h : j1.val < 256
  · have e : r64D.emb (ix2 j0 ⟨j1.val, h⟩) = ix2 j0 j1 := by
      funext b
      refine Fin.ext ?_
      rw [Rect.emb_apply]
      fin_cases b
      · show 0 + 1 * j0.val = j0.val; omega
      · show 0 + 1 * j1.val = j1.val; omega
    rw [← e, patch_emb]
    refine Eq.trans ?_ (congrArg (up2 f) e).symm
    have h2 : up64D (F := Ideal) (up2 x) (pick r64D (up2 a)) (ix2 j0 ⟨j1.val, h⟩)
        = pick r64D (up2 a) (ix2 j0 ⟨j1.val, h⟩) + up2 x (ix2 j0 ⟨j1.val, h⟩) := by
      pointwise [up64D]
    refine h2.trans ?_
    rw [show pick r64D (up2 a) (ix2 j0 ⟨j1.val, h⟩) = up2 a (ix2 j0 j1) from congrArg (up2 a) e]
    exact congrArg (fun r : ℝ => (r : EReal)) (hl j0 ⟨j1.val, h⟩).symm
  · rw [patch_miss _ _ _ _ fun y hy => h ?_]
    · have := hh j0 ⟨j1.val - 256, by omega⟩
      rw [show hi ⟨j1.val - 256, by omega⟩ = j1 from Fin.ext (by show 256 + (j1.val - 256) = j1.val; omega)] at this
      exact congrArg _ this.symm
    · have h1 := congrArg (fun z => (z 1).val) hy
      dsimp only at h1
      rw [Rect.emb_apply] at h1
      have h2 : 0 + 1 * (y 1).val = j1.val := h1
      have h3 : (y 1).val < 256 := (y 1).isLt
      omega
theorem up128D_eq (x : Mat 128 256) (a f : Mat 128 512) (hl : ∀ r s, f r (lo s) = a r (lo s) + x r s) (hh : ∀ r s, f r (hi s) = a r (hi s)) :
    bumped (e := .f32) r128D (up128D (F := Ideal) (up2 x)) (up2 a) = up2 f := by
  funext j
  idx_vars j
  unfold bumped
  by_cases h : j1.val < 256
  · have e : r128D.emb (ix2 j0 ⟨j1.val, h⟩) = ix2 j0 j1 := by
      funext b
      refine Fin.ext ?_
      rw [Rect.emb_apply]
      fin_cases b
      · show 0 + 1 * j0.val = j0.val; omega
      · show 0 + 1 * j1.val = j1.val; omega
    rw [← e, patch_emb]
    refine Eq.trans ?_ (congrArg (up2 f) e).symm
    have h2 : up128D (F := Ideal) (up2 x) (pick r128D (up2 a)) (ix2 j0 ⟨j1.val, h⟩)
        = pick r128D (up2 a) (ix2 j0 ⟨j1.val, h⟩) + up2 x (ix2 j0 ⟨j1.val, h⟩) := by
      pointwise [up128D]
    refine h2.trans ?_
    rw [show pick r128D (up2 a) (ix2 j0 ⟨j1.val, h⟩) = up2 a (ix2 j0 j1) from congrArg (up2 a) e]
    exact congrArg (fun r : ℝ => (r : EReal)) (hl j0 ⟨j1.val, h⟩).symm
  · rw [patch_miss _ _ _ _ fun y hy => h ?_]
    · have := hh j0 ⟨j1.val - 256, by omega⟩
      rw [show hi ⟨j1.val - 256, by omega⟩ = j1 from Fin.ext (by show 256 + (j1.val - 256) = j1.val; omega)] at this
      exact congrArg _ this.symm
    · have h1 := congrArg (fun z => (z 1).val) hy
      dsimp only at h1
      rw [Rect.emb_apply] at h1
      have h2 : 0 + 1 * (y 1).val = j1.val := h1
      have h3 : (y 1).val < 256 := (y 1).isLt
      omega

/-! ## Tiles of the head pair's arrays -/

/-- The head pair's tiles of real numbers as a vector of ideal values. -/
def up4 {a n b c : ℕ} (f : Fin a → Fin n → Mat b c) : (⟨4, ![a, n, b, c]⟩ : Shape).Idx → EReal :=
  fun j => ((f (j 0) (j 1) (j 2) (j 3) : ℝ) : EReal)

/-- One tile read. -/
theorem pick_tile {A : ℕ} {B C : ℕ} {α : Type} (o : Fin 4 → ℕ) (e : Fin A) (n : Fin 16) (ho : o = ![e.val, n.val, 0, 0])
    (inb : ∀ x, o x + (⟨4, ![1, 1, B, C]⟩ : Shape).size x ≤ (⟨4, ![A, 16, B, C]⟩ : Shape).size x)
    (X : (⟨4, ![A, 16, B, C]⟩ : Shape).Idx → α) (a : Fin B) (b : Fin C) :
    pick (Rect.unit (s := ⟨4, ![A, 16, B, C]⟩) o (⟨4, ![1, 1, B, C]⟩ : Shape).size inb) X (ix4 0 0 a b) = X (ix4 e n a b) := by
  subst ho
  refine congrArg X ?_
  funext x
  refine Fin.ext ?_
  rw [Rect.emb_apply]
  fin_cases x
  · show e.val + 1 * 0 = e.val; omega
  · show n.val + 1 * 0 = n.val; omega
  · show 0 + 1 * a.val = a.val; omega
  · show 0 + 1 * b.val = b.val; omega

/-- One tile replaced: the replacement at the tile's indices, the array elsewhere. -/
theorem patch_tile {A : ℕ} {B C : ℕ} {α : Type} (o : Fin 4 → ℕ) (e : Fin A) (n : Fin 16) (ho : o = ![e.val, n.val, 0, 0])
    (inb : ∀ x, o x + (⟨4, ![1, 1, B, C]⟩ : Shape).size x ≤ (⟨4, ![A, 16, B, C]⟩ : Shape).size x)
    (X : (⟨4, ![A, 16, B, C]⟩ : Shape).Idx → α) (w : (⟨4, ![1, 1, B, C]⟩ : Shape).Idx → α) (e' : Fin A) (n' : Fin 16) (a : Fin B) (b : Fin C) :
    patch (Rect.unit (s := ⟨4, ![A, 16, B, C]⟩) o (⟨4, ![1, 1, B, C]⟩ : Shape).size inb) X w (ix4 e' n' a b)
      = if e' = e ∧ n' = n then w (ix4 0 0 a b) else X (ix4 e' n' a b) := by
  subst ho
  by_cases h : e' = e ∧ n' = n
  · rw [if_pos h]
    obtain ⟨rfl, rfl⟩ := h
    have e : (Rect.unit (s := ⟨4, ![A, 16, B, C]⟩) ![e'.val, n'.val, 0, 0] (⟨4, ![1, 1, B, C]⟩ : Shape).size inb).emb (ix4 0 0 a b) = ix4 e' n' a b := by
      funext x
      refine Fin.ext ?_
      rw [Rect.emb_apply]
      fin_cases x
      · show e'.val + 1 * 0 = e'.val; omega
      · show n'.val + 1 * 0 = n'.val; omega
      · show 0 + 1 * a.val = a.val; omega
      · show 0 + 1 * b.val = b.val; omega
    rw [← e]
    exact patch_emb _ _ _ _
  · rw [if_neg h]
    refine patch_miss _ _ _ _ fun y hy => h ?_
    have h0 := congrArg (fun z => (z 0).val) hy
    have h1 := congrArg (fun z => (z 1).val) hy
    dsimp only at h0 h1
    rw [Rect.emb_apply] at h0 h1
    have g0 : e.val + 1 * (y 0).val = e'.val := h0
    have g1 : n.val + 1 * (y 1).val = n'.val := h1
    have f0 : (y 0).val < 1 := (y 0).isLt
    have f1 : (y 1).val < 1 := (y 1).isLt
    exact ⟨Fin.ext (by omega), Fin.ext (by omega)⟩

/-- The queries' gradient after a step at tile `n`. -/
theorem qStep_eq (o : Offs) (n : Fin 16) (h0 : o.b0 = ![0, n.val, 0, 0]) (h1 : o.b1 = ![1, n.val, 0, 0]) (w : Fin 2 → Mat 128 512)
    (f : Fin 2 → Fin 16 → Mat 128 512) :
    qStep (F := Ideal) o (up2 (w 0)) (up2 (w 1)) (up4 f) = up4 (fun e i a t => if i = n then f e i a t + w e a t else f e i a t) := by
  funext j
  idx_vars j
  have u : ∀ (x : Mat 128 512) (y : Vec Ideal S1x1x128x512 .f32) (a : Fin 128) (t : Fin 512),
      upQ (F := Ideal) (up2 x) y (ix4 0 0 a t) = y (ix4 0 0 a t) + ((x a t : ℝ) : EReal) := by
    intro x y a t
    pointwise [upQ]
    rfl
  unfold qStep bumped
  refine (patch_tile (α := EReal) o.b1 (1 : Fin 2) n h1 _ _ _ j0 j1 j2 j3).trans ?_
  have e0 := fun (e' : Fin 2) (n' : Fin 16) => patch_tile (α := EReal) o.b0 (0 : Fin 2) n h0 o.hb0 (up4 f)
    (upQ (F := Ideal) (up2 (w 0)) (pick o.rb0 (up4 f))) e' n' j2 j3
  have p0 : pick o.rb0 (up4 f) (ix4 0 0 j2 j3) = up4 f (ix4 0 n j2 j3) := pick_tile o.b0 (0 : Fin 2) n h0 o.hb0 (up4 f) j2 j3
  by_cases hj : j0 = 1 ∧ j1 = n
  · rw [if_pos hj]
    obtain ⟨rfl, rfl⟩ := hj
    refine (u _ _ _ _).trans ?_
    rw [show pick o.rb1 (patch o.rb0 (up4 f) (upQ (F := Ideal) (up2 (w 0)) (pick o.rb0 (up4 f)))) (ix4 0 0 j2 j3)
      = patch o.rb0 (up4 f) (upQ (F := Ideal) (up2 (w 0)) (pick o.rb0 (up4 f))) (ix4 1 j1 j2 j3) from pick_tile o.b1 (1 : Fin 2) j1 h1 o.hb1 _ j2 j3]
    rw [show patch o.rb0 (up4 f) (upQ (F := Ideal) (up2 (w 0)) (pick o.rb0 (up4 f))) (ix4 1 j1 j2 j3) = up4 f (ix4 1 j1 j2 j3) from
      (e0 1 j1).trans (if_neg (by rintro ⟨h, _⟩; exact absurd h (by decide)))]
    show ((f 1 j1 j2 j3 : ℝ) : EReal) + ((w 1 j2 j3 : ℝ) : EReal) = (((if j1 = j1 then f 1 j1 j2 j3 + w 1 j2 j3 else f 1 j1 j2 j3 : ℝ)) : EReal)
    rw [if_pos rfl, EReal.coe_add]
  · rw [if_neg hj]
    refine (e0 j0 j1).trans ?_
    by_cases h : j0 = 0 ∧ j1 = n
    · rw [if_pos h]
      obtain ⟨rfl, rfl⟩ := h
      refine (u _ _ _ _).trans ?_
      rw [p0]
      show ((f 0 j1 j2 j3 : ℝ) : EReal) + ((w 0 j2 j3 : ℝ) : EReal) = (((if j1 = j1 then f 0 j1 j2 j3 + w 0 j2 j3 else f 0 j1 j2 j3 : ℝ)) : EReal)
      rw [if_pos rfl, EReal.coe_add]
    · rw [if_neg h]
      have hn : j1 ≠ n := by
        intro e
        have : j0 = 0 ∨ j0 = 1 := by omega
        rcases this with e' | e'
        · exact h ⟨e', e⟩
        · exact hj ⟨e', e⟩
      show ((f j0 j1 j2 j3 : ℝ) : EReal) = (((if j1 = n then f j0 j1 j2 j3 + w j0 j2 j3 else f j0 j1 j2 j3 : ℝ)) : EReal)
      rw [if_neg hn]

end Values

end Cert.KernelIdeal.Hand
-- ==== Proof.Offsets.lean ====
/-
  Hand-written. Which tiles a grid point's steps meet: the diagonal tile, then every later tile in order.
-/
module

public import proofs.«01_k».proof.Proof.Model

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic

/-- The offsets read tile `n` of both heads. -/
structure Offs.At (o : Offs) (n : ℕ) : Prop where
  a : o.a = ![0, n, 0, 0]
  b0 : o.b0 = ![0, n, 0, 0]
  b1 : o.b1 = ![1, n, 0, 0]
  c0 : o.c0 = ![0, n, 0, 0]
  c1 : o.c1 = ![1, n, 0, 0]

/-- The same, as a test. -/
def Offs.isAt (o : Offs) (n : ℕ) : Bool :=
  decide (o.a = ![0, n, 0, 0]) && (decide (o.b0 = ![0, n, 0, 0]) && (decide (o.b1 = ![1, n, 0, 0]) &&
    (decide (o.c0 = ![0, n, 0, 0]) && decide (o.c1 = ![1, n, 0, 0]))))

theorem Offs.at_of {o : Offs} {n : ℕ} (h : o.isAt n = true) : o.At n := by
  unfold Offs.isAt at h
  simp only [Bool.and_eq_true, decide_eq_true_eq] at h
  exact ⟨h.1, h.2.1, h.2.2.1, h.2.2.2.1, h.2.2.2.2⟩

theorem offsD_at : ∀ i : grid0.Coords, (offsD i).isAt (i 1).val = true := by decide +kernel
theorem offs1_at : ∀ (i : grid0.Coords) (k : Fin (k0_t1_loop i).trips) (w : Fin 4),
    (offs1 i k w).isAt ((i 1).val + 1 + 4 * k.val + w.val) = true := by decide +kernel
theorem offs2_at : ∀ (i : grid0.Coords) (k : Fin (k0_t2_loop i).trips) (w : Fin 4),
    (offs2 i k w).isAt ((i 1).val + 1 + 4 * (k0_t1_loop i).trips + 4 * k.val + w.val) = true := by decide +kernel
theorem offs3_at : ∀ (i : grid0.Coords) (k : Fin (k0_t3_loop i).trips),
    (offs3 i k).isAt ((i 1).val + 1 + 4 * (k0_t1_loop i).trips + 4 * (k0_t2_loop i).trips + k.val) = true := by decide +kernel
theorem offs4_at : ∀ (i : grid0.Coords) (k : Fin (k0_t4_loop i).trips),
    (offs4 i k).isAt ((i 1).val + 1 + 4 * (k0_t1_loop i).trips + 4 * (k0_t2_loop i).trips + (k0_t3_loop i).trips + k.val) = true := by decide +kernel
/-- Together the loops meet every tile after the diagonal one. -/
theorem trips_all : ∀ i : grid0.Coords, (i 1).val + 1 + 4 * (k0_t1_loop i).trips + 4 * (k0_t2_loop i).trips + (k0_t3_loop i).trips
    + (k0_t4_loop i).trips = 16 := by decide +kernel

end Cert.KernelIdeal.Hand
-- ==== Proof.Blocks.lean ====
/-
  Hand-written. Over the real numbers: what a grid point takes from its key and value blocks, and what it writes of its
  accumulators.
-/
module

public import proofs.«01_k».proof.Proof.Column

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic

open Cert.Consts

/-- The constant that turns gradients by base-2 scores into gradients by scores. -/
theorem named_ln2 : (Named.named κ "ln2" 0x3F317218#32 : Ideal .f32) = ((Real.log 2 : ℝ) : EReal) := rfl

/-- A lane's number tested against 64 and 128. -/
theorem bit_lane : ∀ n : Fin 128, IntOp.cmpi .slt (BitVec.ofNat 32 n.val) 64#32 = BitVec.ofBool (decide (n.val < 64)) := by decide
theorem bits_first : ∀ n : Fin 128, IntOp.andi (IntOp.cmpi .sge (BitVec.ofNat 32 n.val) 0#32) (IntOp.cmpi .slt (BitVec.ofNat 32 n.val) 64#32)
    = BitVec.ofBool (decide (n.val < 64)) := by decide
theorem bits_second : ∀ n : Fin 128, IntOp.andi (IntOp.cmpi .sge (BitVec.ofNat 32 n.val) 64#32) (IntOp.cmpi .slt (BitVec.ofNat 32 n.val) 128#32)
    = BitVec.ofBool (decide (¬ n.val < 64)) := by decide

/-- A choice by a decided bit. -/
theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

/-- Lane `x` of head `e` in a row of two heads' lanes. -/
def lane (e : Fin 2) (x : Fin 128) : Fin 256 := ⟨128 * e.val + x.val, by omega⟩

/-- The factor of a lane: `c` on the 64 true lanes, one on the others. -/
def onTrue (c : ℝ) (x : Fin 128) : ℝ := if x.val < 64 then c else 1

/-- What a key block and a value block give the two heads. -/
def keysR (kb : Mat 512 256) (vb : Mat 512 128) : RKeys where
  k := fun e s x => kb s (lane e x)
  t := fun e x s => kb s (lane e x) * onTrue (1 / 8) x
  v := fun e s x => if (x.val < 64 ↔ e = 0) then vb s x else 0

theorem scaled_up (k : Mat 512 128) : scaled (F := Ideal) (up2 k) = up2 (fun x s => k s x * onTrue (1 / 8) x) := by
  funext j
  idx_vars j
  pointwise [scaled, trueRows]
  rw [bit_lane, select_ofBool, ofBits_eighth]
  show ((k j1 j0 : ℝ) : EReal) * _ = ((k j1 j0 * (if j0.val < 64 then 1 / 8 else 1) : ℝ) : EReal)
  by_cases h : j0.val < 64
  · rw [if_pos h, if_pos h, EReal.coe_mul]
  · rw [if_neg h, if_neg h, EReal.coe_mul, EReal.coe_one]

theorem columns0_up (v : Mat 512 128) : columns (F := Ideal) 0#32 64#32 (up2 v) = up2 (fun s x => if x.val < 64 then v s x else 0) := by
  funext j
  idx_vars j
  pointwise [columns]
  rw [bits_first, select_ofBool]
  show _ = (((if j1.val < 64 then v j0 j1 else 0 : ℝ)) : EReal)
  by_cases h : j1.val < 64
  · rw [if_pos h, if_pos h]; rfl
  · rw [if_neg h, if_neg h]; rfl
theorem columns1_up (v : Mat 512 128) : columns (F := Ideal) 64#32 128#32 (up2 v) = up2 (fun s x => if x.val < 64 then 0 else v s x) := by
  funext j
  idx_vars j
  pointwise [columns]
  rw [bits_second, select_ofBool]
  show _ = (((if j1.val < 64 then 0 else v j0 j1 : ℝ)) : EReal)
  by_cases h : j1.val < 64
  · rw [if_neg (fun e => e h), if_pos h]; rfl
  · rw [if_pos h, if_neg h]; rfl

/-- Head 0 keeps the first 64 columns, head 1 the others. -/
theorem kept_first (v : Mat 512 128) : (fun s x => if x.val < 64 then v s x else 0) = fun s x => if (x.val < 64 ↔ (0 : Fin 2) = 0) then v s x else 0 := by
  simp
theorem kept_second (v : Mat 512 128) : (fun s x => if x.val < 64 then 0 else v s x) = fun s x => if (x.val < 64 ↔ (1 : Fin 2) = 0) then v s x else 0 := by
  funext s x
  by_cases h : x.val < 64 <;> simp [h]

/-- Keys with equal parts are equal. -/
theorem keysEq {R R' : Keys Ideal} (h1 : R.k0 = R'.k0) (h2 : R.k1 = R'.k1) (h3 : R.t0 = R'.t0) (h4 : R.t1 = R'.t1) (h5 : R.v0 = R'.v0)
    (h6 : R.v1 = R'.v1) : R = R' := by
  cases R
  cases R'
  dsimp only at *
  subst h1 h2 h3 h4 h5 h6
  rfl

/-- A grid point's keys from blocks of real numbers. -/
theorem keysOf_up (kb : Mat 512 256) (vb : Mat 512 128) : keysOf (F := Ideal) (up2 kb) (up2 vb) = (keysR kb vb).up := by
  have e0 : extractStridedSlice S512x128 ![0, 0] (shapeCast (α := EReal) S512x256 (up2 kb) shapeCasts_S512x256_S512x256) slices_S512x256_o0_0_S512x128
      = up2 (fun s x => kb s (lane 0 x)) := by
    funext j
    idx_vars j
    pointwise
    show ((kb j0 ⟨j1.val, _⟩ : ℝ) : EReal) = ((kb j0 (lane 0 j1) : ℝ) : EReal)
    congr 3
    simp [lane]
  have e1 : extractStridedSlice S512x128 ![0, 128] (shapeCast (α := EReal) S512x256 (up2 kb) shapeCasts_S512x256_S512x256) slices_S512x256_o0_128_S512x128
      = up2 (fun s x => kb s (lane 1 x)) := by
    funext j
    idx_vars j
    pointwise
    rfl
  have ev : shapeCast (α := EReal) S512x128 (up2 vb) shapeCasts_S512x128_S512x128 = up2 vb := by
    funext j
    idx_vars j
    pointwise
  unfold keysOf
  refine keysEq e0 e1 ?_ ?_ ?_ ?_
  · exact (congrArg (scaled (F := Ideal)) e0).trans (scaled_up _)
  · exact (congrArg (scaled (F := Ideal)) e1).trans (scaled_up _)
  · exact (congrArg (columns (F := Ideal) _ _) ev).trans ((columns0_up _).trans (congrArg up2 (kept_first vb)))
  · exact (congrArg (columns (F := Ideal) _ _) ev).trans ((columns1_up _).trans (congrArg up2 (kept_second vb)))

/-- The key gradients as written: the true lanes' times the natural logarithm of two. -/
theorem outK_up (a : Mat 128 512) (x : Fin 128) (s : Fin 512) :
    outK (F := Ideal) (up2 a) (ix4 0 0 x s) = ((a x s * onTrue (Real.log 2) x : ℝ) : EReal) := by
  pointwise [outK, lnRows, trueRows]
  rw [bit_lane, select_ofBool, named_ln2]
  show ((a x s : ℝ) : EReal) * _ = ((a x s * (if x.val < 64 then Real.log 2 else 1) : ℝ) : EReal)
  by_cases h : x.val < 64
  · rw [if_pos h, if_pos h, EReal.coe_mul]
  · rw [if_neg h, if_neg h, EReal.coe_mul, EReal.coe_one]

/-- The key gradients' buffer: both heads'. -/
theorem outKs_up (k : Fin 2 → Mat 128 512) (X : Vec Ideal S2x1x128x512 .f32) :
    outKs (F := Ideal) (up2 (k 0)) (up2 (k 1)) X = up4 (fun e (_ : Fin 1) x s => k e x s * onTrue (Real.log 2) x) := by
  funext j
  idx_vars j
  unfold outKs
  rw [show pick (α := Ideal .f32) r128 (up2 (k 0)) = up2 (k 0) from pick_full _ _, show pick (α := Ideal .f32) r128 (up2 (k 1)) = up2 (k 1) from pick_full _ _]
  obtain rfl : j1 = 0 := Subsingleton.elim _ _
  have h0 : rH0.emb (ix4 0 0 j2 j3) = ix4 (0 : Fin 2) (0 : Fin 1) j2 j3 := by
    funext b
    refine Fin.ext ?_
    rw [Rect.emb_apply]
    fin_cases b
    · rfl
    · rfl
    · show 0 + 1 * j2.val = j2.val; omega
    · show 0 + 1 * j3.val = j3.val; omega
  have h1 : rH1.emb (ix4 0 0 j2 j3) = ix4 (1 : Fin 2) (0 : Fin 1) j2 j3 := by
    funext b
    refine Fin.ext ?_
    rw [Rect.emb_apply]
    fin_cases b
    · rfl
    · rfl
    · show 0 + 1 * j2.val = j2.val; omega
    · show 0 + 1 * j3.val = j3.val; omega
  have hj : j0 = 0 ∨ j0 = 1 := by omega
  rcases hj with rfl | rfl
  · rw [patch_miss _ _ _ _ fun y hy => ?_]
    · rw [← h0, patch_emb]
      refine (outK_up (k 0) j2 j3).trans ?_
      rw [h0]
      rfl
    · have g := congrArg (fun z => (z 0).val) hy
      dsimp only at g
      rw [Rect.emb_apply] at g
      have g' : 1 + 1 * (y 0).val = 0 := g
      omega
  · rw [← h1, patch_emb]
    refine (outK_up (k 1) j2 j3).trans ?_
    rw [h1]
    rfl

/-- The value gradients as written: a row of both heads' columns. -/
theorem outV_up (v : Fin 2 → Mat 64 512) (f : Mat 512 128) (hf : ∀ e a s, f s (row64 e a) = v e a s) :
    outV (F := Ideal) (up2 (v 0)) (up2 (v 1)) = up2 f := by
  funext j
  idx_vars j
  pointwise [outV]
  split
  · rename_i h
    have := hf 0 ⟨j1.val, h⟩ j0
    rw [row64_zero] at this
    exact congrArg (fun r : ℝ => (r : EReal)) this.symm
  · rename_i h
    have := hf 1 ⟨j1.val - 64, by omega⟩ j0
    rw [show row64 1 ⟨j1.val - 64, by omega⟩ = j1 from Fin.ext (by show 64 * 1 + (j1.val - 64) = j1.val; omega)] at this
    exact congrArg (fun r : ℝ => (r : EReal)) this.symm

/-! ## A grid point -/

/-- Nothing added yet. -/
def zeroSt (q : Fin 2 → Fin 16 → Mat 128 512) : RSt := ⟨q, fun _ _ _ => 0, fun _ _ _ => 0⟩

theorem begun_up (i : grid0.Coords) (q : Fin 2 → Fin 16 → Mat 128 512) (X : Vec Ideal S2x16x128x512 .f32)
    (h : isFirst i = 1#1 ∧ q = (fun _ _ _ _ => 0) ∨ ¬ isFirst i = 1#1 ∧ X = up4 q) : begun (F := Ideal) i X = (zeroSt q).up := by
  have z : zero128 (F := Ideal) = up2 (fun _ _ => (0 : ℝ)) := by
    funext j
    idx_vars j
    pointwise [zero128]
    rfl
  have z' : zero64 (F := Ideal) = up2 (fun _ _ => (0 : ℝ)) := by
    funext j
    idx_vars j
    pointwise [zero64]
    rfl
  have zq : zeroQ (F := Ideal) = up4 (fun _ _ _ _ => (0 : ℝ)) := by
    funext j
    idx_vars j
    pointwise [zeroQ]
    rfl
  unfold begun
  rw [z, z', zq]
  rcases h with ⟨h, rfl⟩ | ⟨h, rfl⟩
  · rw [if_pos h]
    rfl
  · rw [if_neg h]
    rfl

/-- A grid point over the reals. -/
theorem pt_up (i : grid0.Coords) (kb : Mat 512 256) (vb : Mat 512 128) (χ : RArr) (q : Fin 2 → Fin 16 → Mat 128 512)
    (X : Vec Ideal S2x16x128x512 .f32) (h : isFirst i = 1#1 ∧ q = (fun _ _ _ _ => 0) ∨ ¬ isFirst i = 1#1 ∧ X = up4 q) :
    pt (F := Ideal) i (up2 kb) (up2 vb) χ.up X = (upto (keysR kb vb) χ (i 1) 16 (zeroSt q)).up := by
  unfold pt
  rw [keysOf_up, begun_up i q X h]
  exact column_up (keysR kb vb) χ i (zeroSt q)

end Cert.KernelIdeal.Hand
-- ==== Proof.Windows.lean ====
/-
  Hand-written. Where a grid point's blocks lie in their arrays.
-/
module

public import proofs.«01_k».proof.Proof.Launched
public import proofs.«01_k».proof.Proof.Blocks

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.ShloMosaic.Pipeline (Dat Cfg Window)

/-- The head pair and the key block of a grid point. -/
def hpOf (t : Fin grid0.N) : Fin 4 := ⟨t.val / 16, by have h := t.isLt; have e : grid0.N = 64 := rfl; omega⟩
def jOf (t : Fin grid0.N) : Fin 16 := ⟨t.val % 16, by omega⟩

/-- The grid point of a head pair and a key block. -/
def tOf (hp : Fin 4) (j : Fin 16) : Fin grid0.N := ⟨16 * hp.val + j.val, by have e : grid0.N = 64 := rfl; omega⟩

theorem hpOf_tOf (hp : Fin 4) (j : Fin 16) : hpOf (tOf hp j) = hp := Fin.ext (by show (16 * hp.val + j.val) / 16 = hp.val; omega)
theorem jOf_tOf (hp : Fin 4) (j : Fin 16) : jOf (tOf hp j) = j := Fin.ext (by show (16 * hp.val + j.val) % 16 = j.val; omega)
theorem tOf_of (t : Fin grid0.N) : tOf (hpOf t) (jOf t) = t := Fin.ext (by show 16 * (t.val / 16) + t.val % 16 = t.val; omega)

/-- A grid point's second coordinate is its key block. -/
theorem coord1 : ∀ t : Fin grid0.N, (grid0.coords t 1).val = t.val % 16 := by decide +kernel

theorem coord1_eq (t : Fin grid0.N) : (grid0.coords t 1 : Fin 16) = jOf t := Fin.ext (coord1 t)

/-- The block indices of the nine windows. -/
theorem index_0 : ∀ t : Fin grid0.N, (cfg0.win 0).index t 0 = t.val % 16 ∧ (cfg0.win 0).index t 1 = t.val / 16 := by decide +kernel
theorem index_1 : ∀ t : Fin grid0.N, (cfg0.win 1).index t 0 = t.val % 16 ∧ (cfg0.win 1).index t 1 = t.val / 16 := by decide +kernel
theorem index_2 : ∀ t : Fin grid0.N, (cfg0.win 2).index t 0 = t.val / 16 ∧ (cfg0.win 2).index t 1 = 0 ∧ (cfg0.win 2).index t 2 = 0 ∧ (cfg0.win 2).index t 3 = 0 := by
  decide +kernel
theorem index_3 : ∀ t : Fin grid0.N, (cfg0.win 3).index t 0 = t.val / 16 ∧ (cfg0.win 3).index t 1 = 0 ∧ (cfg0.win 3).index t 2 = 0 ∧ (cfg0.win 3).index t 3 = 0 := by
  decide +kernel
theorem index_4 : ∀ t : Fin grid0.N, (cfg0.win 4).index t 0 = t.val / 16 ∧ (cfg0.win 4).index t 1 = 0 ∧ (cfg0.win 4).index t 2 = 0 ∧ (cfg0.win 4).index t 3 = 0 := by
  decide +kernel
theorem index_5 : ∀ t : Fin grid0.N, (cfg0.win 5).index t 0 = t.val / 16 ∧ (cfg0.win 5).index t 1 = 0 ∧ (cfg0.win 5).index t 2 = 0 ∧ (cfg0.win 5).index t 3 = 0 := by
  decide +kernel
theorem index_6 : ∀ t : Fin grid0.N, (cfg0.win 6).index t 0 = t.val / 16 ∧ (cfg0.win 6).index t 1 = 0 ∧ (cfg0.win 6).index t 2 = 0 ∧ (cfg0.win 6).index t 3 = 0 := by
  decide +kernel
theorem index_7 : ∀ t : Fin grid0.N, (cfg0.win 7).index t 0 = t.val / 16 ∧ (cfg0.win 7).index t 1 = t.val % 16 ∧ (cfg0.win 7).index t 2 = 0 ∧ (cfg0.win 7).index t 3 = 0 := by
  decide +kernel
theorem index_8 : ∀ t : Fin grid0.N, (cfg0.win 8).index t 0 = t.val % 16 ∧ (cfg0.win 8).index t 1 = t.val / 16 := by decide +kernel

/-- Row `s` of key block `j`; column `x` of head pair `hp`'s keys and of its values; head `e` of head pair `hp`. -/
def row (j : Fin 16) (s : Fin 512) : Fin 8192 := ⟨512 * j.val + s.val, by omega⟩
def kcol (hp : Fin 4) (x : Fin 256) : Fin 1024 := ⟨256 * hp.val + x.val, by omega⟩
def vcol (hp : Fin 4) (x : Fin 128) : Fin 512 := ⟨128 * hp.val + x.val, by omega⟩
def head (hp : Fin 4) (e : Fin 2) : Fin 8 := ⟨2 * hp.val + e.val, by omega⟩

variable {F : FTy → Type} [FloatOps F] [Named F]
variable (m : (ℓ : Loc nD τ sig) → Buf (Elt F) ℓ) (c : Dev nD)

/-- Window 0's block in its array. -/
theorem emb_0 (t : Fin grid0.N) (s : Fin 512) (x : Fin 256) :
    ((cfg0.win 0).blk t).view.emb (ix2 s x : S512x256.Idx) = (ix2 (row (jOf t) s) (kcol (hpOf t) x) : S8192x1024.Idx) := by
  obtain ⟨h0, h1⟩ := index_0 t
  funext b
  refine Fin.ext ?_
  fin_cases b
  · refine ((cfg0.win 0).rect_emb_val t (ix2 s x : S512x256.Idx) 0).trans ?_
    rw [h0]
    show t.val % 16 * 512 + s.val = 512 * (t.val % 16) + s.val
    omega
  · refine ((cfg0.win 0).rect_emb_val t (ix2 s x : S512x256.Idx) 1).trans ?_
    rw [h1]
    show t.val / 16 * 256 + x.val = 256 * (t.val / 16) + x.val
    omega
theorem blk_0 (t : Fin grid0.N) (s : Fin 512) (x : Fin 256) :
    iblk m c 0 t (ix2 s x : S512x256.Idx) = V m c main_v62 (ix2 (row (jOf t) s) (kcol (hpOf t) x) : S8192x1024.Idx) := by
  unfold iblk
  rw [View.read_apply]
  exact congrArg (V m c main_v62) (emb_0 t s x)

/-- Window 1's block in its array. -/
theorem emb_1 (t : Fin grid0.N) (s : Fin 512) (x : Fin 128) :
    ((cfg0.win 1).blk t).view.emb (ix2 s x : S512x128.Idx) = (ix2 (row (jOf t) s) (vcol (hpOf t) x) : S8192x512.Idx) := by
  obtain ⟨h0, h1⟩ := index_1 t
  funext b
  refine Fin.ext ?_
  fin_cases b
  · refine ((cfg0.win 1).rect_emb_val t (ix2 s x : S512x128.Idx) 0).trans ?_
    rw [h0]
    show t.val % 16 * 512 + s.val = 512 * (t.val % 16) + s.val
    omega
  · refine ((cfg0.win 1).rect_emb_val t (ix2 s x : S512x128.Idx) 1).trans ?_
    rw [h1]
    show t.val / 16 * 128 + x.val = 128 * (t.val / 16) + x.val
    omega
theorem blk_1 (t : Fin grid0.N) (s : Fin 512) (x : Fin 128) :
    iblk m c 1 t (ix2 s x : S512x128.Idx) = V m c main_v65 (ix2 (row (jOf t) s) (vcol (hpOf t) x) : S8192x512.Idx) := by
  unfold iblk
  rw [View.read_apply]
  exact congrArg (V m c main_v65) (emb_1 t s x)

/-- Window 2's block in its array. -/
theorem emb_2 (t : Fin grid0.N) (e : Fin 2) (n : Fin 16) (a : Fin 128) (s : Fin 512) :
    ((cfg0.win 2).blk t).view.emb (ix4 e n a s : S2x16x128x512.Idx) = (ix4 (head (hpOf t) e) n a s : S8x16x128x512.Idx) := by
  obtain ⟨h0, h1, h2, h3⟩ := index_2 t
  funext b
  refine Fin.ext ?_
  fin_cases b
  · refine ((cfg0.win 2).rect_emb_val t (ix4 e n a s : S2x16x128x512.Idx) 0).trans ?_
    rw [h0]
    show t.val / 16 * 2 + e.val = 2 * (t.val / 16) + e.val
    omega
  · refine ((cfg0.win 2).rect_emb_val t (ix4 e n a s : S2x16x128x512.Idx) 1).trans ?_
    rw [h1]
    show 0 * 16 + n.val = n.val
    omega
  · refine ((cfg0.win 2).rect_emb_val t (ix4 e n a s : S2x16x128x512.Idx) 2).trans ?_
    rw [h2]
    show 0 * 128 + a.val = a.val
    omega
  · refine ((cfg0.win 2).rect_emb_val t (ix4 e n a s : S2x16x128x512.Idx) 3).trans ?_
    rw [h3]
    show 0 * 512 + s.val = s.val
    omega
theorem blk_2 (t : Fin grid0.N) (e : Fin 2) (n : Fin 16) (a : Fin 128) (s : Fin 512) :
    iblk m c 2 t (ix4 e n a s : S2x16x128x512.Idx) = V m c main_v55 (ix4 (head (hpOf t) e) n a s : S8x16x128x512.Idx) := by
  unfold iblk
  rw [View.read_apply]
  exact congrArg (V m c main_v55) (emb_2 t e n a s)

/-- Window 3's block in its array. -/
theorem emb_3 (t : Fin grid0.N) (e : Fin 1) (n : Fin 16) (a : Fin 128) (s : Fin 512) :
    ((cfg0.win 3).blk t).view.emb (ix4 e n a s : S1x16x128x512.Idx) = (ix4 (hpOf t) n a s : S4x16x128x512.Idx) := by
  obtain ⟨h0, h1, h2, h3⟩ := index_3 t
  funext b
  refine Fin.ext ?_
  fin_cases b
  · refine ((cfg0.win 3).rect_emb_val t (ix4 e n a s : S1x16x128x512.Idx) 0).trans ?_
    rw [h0]
    show t.val / 16 * 1 + e.val = t.val / 16
    omega
  · refine ((cfg0.win 3).rect_emb_val t (ix4 e n a s : S1x16x128x512.Idx) 1).trans ?_
    rw [h1]
    show 0 * 16 + n.val = n.val
    omega
  · refine ((cfg0.win 3).rect_emb_val t (ix4 e n a s : S1x16x128x512.Idx) 2).trans ?_
    rw [h2]
    show 0 * 128 + a.val = a.val
    omega
  · refine ((cfg0.win 3).rect_emb_val t (ix4 e n a s : S1x16x128x512.Idx) 3).trans ?_
    rw [h3]
    show 0 * 512 + s.val = s.val
    omega
theorem blk_3 (t : Fin grid0.N) (e : Fin 1) (n : Fin 16) (a : Fin 128) (s : Fin 512) :
    iblk m c 3 t (ix4 e n a s : S1x16x128x512.Idx) = V m c main_v60 (ix4 (hpOf t) n a s : S4x16x128x512.Idx) := by
  unfold iblk
  rw [View.read_apply]
  exact congrArg (V m c main_v60) (emb_3 t e n a s)

/-- Window 4's block in its array. -/
theorem emb_4 (t : Fin grid0.N) (e : Fin 2) (n : Fin 16) (a : Fin 1) (s : Fin 512) :
    ((cfg0.win 4).blk t).view.emb (ix4 e n a s : S2x16x1x512.Idx) = (ix4 (head (hpOf t) e) n a s : S8x16x1x512.Idx) := by
  obtain ⟨h0, h1, h2, h3⟩ := index_4 t
  funext b
  refine Fin.ext ?_
  fin_cases b
  · refine ((cfg0.win 4).rect_emb_val t (ix4 e n a s : S2x16x1x512.Idx) 0).trans ?_
    rw [h0]
    show t.val / 16 * 2 + e.val = 2 * (t.val / 16) + e.val
    omega
  · refine ((cfg0.win 4).rect_emb_val t (ix4 e n a s : S2x16x1x512.Idx) 1).trans ?_
    rw [h1]
    show 0 * 16 + n.val = n.val
    omega
  · refine ((cfg0.win 4).rect_emb_val t (ix4 e n a s : S2x16x1x512.Idx) 2).trans ?_
    rw [h2]
    show 0 * 1 + a.val = a.val
    omega
  · refine ((cfg0.win 4).rect_emb_val t (ix4 e n a s : S2x16x1x512.Idx) 3).trans ?_
    rw [h3]
    show 0 * 512 + s.val = s.val
    omega
theorem blk_4 (t : Fin grid0.N) (e : Fin 2) (n : Fin 16) (a : Fin 1) (s : Fin 512) :
    iblk m c 4 t (ix4 e n a s : S2x16x1x512.Idx) = V m c main_v28 (ix4 (head (hpOf t) e) n a s : S8x16x1x512.Idx) := by
  unfold iblk
  rw [View.read_apply]
  exact congrArg (V m c main_v28) (emb_4 t e n a s)

/-- Window 5's block in its array. -/
theorem emb_5 (t : Fin grid0.N) (e : Fin 2) (n : Fin 16) (a : Fin 1) (s : Fin 512) :
    ((cfg0.win 5).blk t).view.emb (ix4 e n a s : S2x16x1x512.Idx) = (ix4 (head (hpOf t) e) n a s : S8x16x1x512.Idx) := by
  obtain ⟨h0, h1, h2, h3⟩ := index_5 t
  funext b
  refine Fin.ext ?_
  fin_cases b
  · refine ((cfg0.win 5).rect_emb_val t (ix4 e n a s : S2x16x1x512.Idx) 0).trans ?_
    rw [h0]
    show t.val / 16 * 2 + e.val = 2 * (t.val / 16) + e.val
    omega
  · refine ((cfg0.win 5).rect_emb_val t (ix4 e n a s : S2x16x1x512.Idx) 1).trans ?_
    rw [h1]
    show 0 * 16 + n.val = n.val
    omega
  · refine ((cfg0.win 5).rect_emb_val t (ix4 e n a s : S2x16x1x512.Idx) 2).trans ?_
    rw [h2]
    show 0 * 1 + a.val = a.val
    omega
  · refine ((cfg0.win 5).rect_emb_val t (ix4 e n a s : S2x16x1x512.Idx) 3).trans ?_
    rw [h3]
    show 0 * 512 + s.val = s.val
    omega
theorem blk_5 (t : Fin grid0.N) (e : Fin 2) (n : Fin 16) (a : Fin 1) (s : Fin 512) :
    iblk m c 5 t (ix4 e n a s : S2x16x1x512.Idx) = V m c main_v31 (ix4 (head (hpOf t) e) n a s : S8x16x1x512.Idx) := by
  unfold iblk
  rw [View.read_apply]
  exact congrArg (V m c main_v31) (emb_5 t e n a s)

/-- Window 6's block in its array. -/
theorem emb_6 (t : Fin grid0.N) (e : Fin 2) (n : Fin 16) (a : Fin 128) (s : Fin 512) :
    ((cfg0.win 6).blk t).view.emb (ix4 e n a s : S2x16x128x512.Idx) = (ix4 (head (hpOf t) e) n a s : S8x16x128x512.Idx) := by
  obtain ⟨h0, h1, h2, h3⟩ := index_6 t
  funext b
  refine Fin.ext ?_
  fin_cases b
  · refine ((cfg0.win 6).rect_emb_val t (ix4 e n a s : S2x16x128x512.Idx) 0).trans ?_
    rw [h0]
    show t.val / 16 * 2 + e.val = 2 * (t.val / 16) + e.val
    omega
  · refine ((cfg0.win 6).rect_emb_val t (ix4 e n a s : S2x16x128x512.Idx) 1).trans ?_
    rw [h1]
    show 0 * 16 + n.val = n.val
    omega
  · refine ((cfg0.win 6).rect_emb_val t (ix4 e n a s : S2x16x128x512.Idx) 2).trans ?_
    rw [h2]
    show 0 * 128 + a.val = a.val
    omega
  · refine ((cfg0.win 6).rect_emb_val t (ix4 e n a s : S2x16x128x512.Idx) 3).trans ?_
    rw [h3]
    show 0 * 512 + s.val = s.val
    omega

/-- Window 7's block in its array. -/
theorem emb_7 (t : Fin grid0.N) (e : Fin 2) (n : Fin 1) (a : Fin 128) (s : Fin 512) :
    ((cfg0.win 7).blk t).view.emb (ix4 e n a s : S2x1x128x512.Idx) = (ix4 (head (hpOf t) e) (jOf t) a s : S8x16x128x512.Idx) := by
  obtain ⟨h0, h1, h2, h3⟩ := index_7 t
  funext b
  refine Fin.ext ?_
  fin_cases b
  · refine ((cfg0.win 7).rect_emb_val t (ix4 e n a s : S2x1x128x512.Idx) 0).trans ?_
    rw [h0]
    show t.val / 16 * 2 + e.val = 2 * (t.val / 16) + e.val
    omega
  · refine ((cfg0.win 7).rect_emb_val t (ix4 e n a s : S2x1x128x512.Idx) 1).trans ?_
    rw [h1]
    show t.val % 16 * 1 + n.val = t.val % 16
    omega
  · refine ((cfg0.win 7).rect_emb_val t (ix4 e n a s : S2x1x128x512.Idx) 2).trans ?_
    rw [h2]
    show 0 * 128 + a.val = a.val
    omega
  · refine ((cfg0.win 7).rect_emb_val t (ix4 e n a s : S2x1x128x512.Idx) 3).trans ?_
    rw [h3]
    show 0 * 512 + s.val = s.val
    omega

/-- Window 8's block in its array. -/
theorem emb_8 (t : Fin grid0.N) (s : Fin 512) (x : Fin 128) :
    ((cfg0.win 8).blk t).view.emb (ix2 s x : S512x128.Idx) = (ix2 (row (jOf t) s) (vcol (hpOf t) x) : S8192x512.Idx) := by
  obtain ⟨h0, h1⟩ := index_8 t
  funext b
  refine Fin.ext ?_
  fin_cases b
  · refine ((cfg0.win 8).rect_emb_val t (ix2 s x : S512x128.Idx) 0).trans ?_
    rw [h0]
    show t.val % 16 * 512 + s.val = 512 * (t.val % 16) + s.val
    omega
  · refine ((cfg0.win 8).rect_emb_val t (ix2 s x : S512x128.Idx) 1).trans ?_
    rw [h1]
    show t.val / 16 * 128 + x.val = 128 * (t.val / 16) + x.val
    omega

end Cert.KernelIdeal.Hand
-- ==== Proof.Prefix.lean ====
/-
  Hand-written. What the host lines before the launch give it, as terms of the arguments.
-/
module

public import proofs.«01_k».proof.Proof.States
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic

/-- The masked scores. -/
def scoresT (q k : FVec Ideal S8x8192x64 .f32) (g : FVec Ideal S8x8192 .f32) : FVec Ideal S8x8192x8192 .f32 :=
  select
    (broadcastInDim S8x8192x8192 ![0, 1, 2] bcast_S1x8192x8192_S8x8192x8192_0_1_2
      (cmpi .sle
        (broadcastInDim S1x8192x8192 ![0, 1, 2] bcast_S1x1x8192_S1x8192x8192_0_1_2
          (broadcastInDim S1x1x8192 ![2] bcast_S8192_S1x1x8192_2 (iotaInDim S8192 32 0)))
        (broadcastInDim S1x8192x8192 ![0, 1, 2] bcast_S1x8192x1_S1x8192x8192_0_1_2
          (broadcastInDim S1x8192x1 ![1] bcast_S8192_S1x8192x1_1 (iotaInDim S8192 32 0)))))
    (subf
      (mulf (Host.dotGeneral dot_S8x8192x64_S8x8192x64_S8x8192x8192_2_2_1_1_0_0 none q k)
        (broadcastInDim S8x8192x8192 ![] bcast_S_S8x8192x8192 (constant S_ .f32 0x3E000000#32)))
      (broadcastInDim S8x8192x8192 ![0, 1, 2] bcast_S8x1x8192_S8x8192x8192_0_1_2
        (broadcastInDim S8x1x8192 ![0, 2] bcast_S8x8192_S8x1x8192_0_2 g)))
    (broadcastInDim S8x8192x8192 ![] bcast_S_S8x8192x8192 (constant S_ .f32 0xFF800000#32))

/-- Each row's greatest score, the exponentials, each row's sum, the probabilities. -/
def maxT (s : FVec Ideal S8x8192x8192 .f32) : FVec Ideal S8x8192x1 .f32 :=
  broadcastInDim S8x8192x1 ![0, 1] bcast_S8x8192_S8x8192x1_0_1
    (Host.reduce FloatOps.maximumf s (constant S_ .f32 0xFF800000#32) reducesTo_S8x8192x8192_S8x8192_d2 h_S_)
def expT (s : FVec Ideal S8x8192x8192 .f32) (μ : FVec Ideal S8x8192x1 .f32) : FVec Ideal S8x8192x8192 .f32 :=
  Host.exp (subf s (broadcastInDim S8x8192x8192 ![0, 1, 2] bcast_S8x8192x1_S8x8192x8192_0_1_2 μ))
def sumT (e : FVec Ideal S8x8192x8192 .f32) : FVec Ideal S8x8192x1 .f32 :=
  broadcastInDim S8x8192x1 ![0, 1] bcast_S8x8192_S8x8192x1_0_1
    (Host.reduceAdd e (constant S_ .f32 0x00000000#32) reducesTo_S8x8192x8192_S8x8192_d2 h_S_)
def probT (e : FVec Ideal S8x8192x8192 .f32) (l : FVec Ideal S8x8192x1 .f32) : FVec Ideal S8x8192x8192 .f32 :=
  Host.divf e (broadcastInDim S8x8192x8192 ![0, 1, 2] bcast_S8x8192x1_S8x8192x8192_0_1_2 l)

/-- The logarithm of two. -/
def ln2T : FVec Ideal S_ .f32 := Host.log (constant S_ .f32 0x40000000#32)

/-- The log-sums in base two, and the row dots. -/
def lseT (μ l : FVec Ideal S8x8192x1 .f32) : FVec Ideal S8x16x1x512 .f32 :=
  shapeCast S8x16x1x512 (Host.divf (addf μ (Host.log l)) (broadcastInDim S8x8192x1 ![] bcast_S_S8x8192x1 ln2T))
    shapeCasts_S8x8192x1_S8x16x1x512
def dlT (p : FVec Ideal S8x8192x8192 .f32) (v ct : FVec Ideal S8x8192x64 .f32) : FVec Ideal S8x16x1x512 .f32 :=
  shapeCast S8x16x1x512
    (Host.reduceAdd (mulf (Host.dotGeneral dot_S8x8192x8192_S8x8192x64_S8x8192x64_2_1_1_2_0_0 none p v) ct)
      (constant S_ .f32 0x00000000#32) reducesTo_S8x8192x64_S8x8192_d2 h_S_)
    shapeCasts_S8x8192_S8x16x1x512

/-- The gate's part of the scores in base two, its rounded parts, and a lane of ones. -/
def gateT (g : FVec Ideal S8x8192 .f32) : FVec Ideal S8x8192x1 .f32 :=
  broadcastInDim S8x8192x1 ![0, 1] bcast_S8x8192_S8x8192x1_0_1
    (Host.divf (Host.negf g) (broadcastInDim S8x8192 ![] bcast_S_S8x8192 ln2T))
def roundT (x : FVec Ideal S8x8192x1 .f32) : FVec Ideal S8x8192x1 .f32 := extf .f32 (truncf .bf16 x bitsLt_bf16_f32) bitsLt_bf16_f32
def oneT : FVec Ideal S8x8192x1 .f32 := broadcastInDim S8x8192x1 ![] bcast_S_S8x8192x1 (constant S_ .f32 0x3F800000#32)

/-- Lanes of zeros. -/
def zero61T : FVec Ideal S8x8192x61 .f32 := broadcastInDim S8x8192x61 ![] bcast_S_S8x8192x61 (constant S_ .f32 0x00000000#32)
def zero60T : FVec Ideal S8x8192x60 .f32 := broadcastInDim S8x8192x60 ![] bcast_S_S8x8192x60 (constant S_ .f32 0x00000000#32)

/-- Lanes joined: a head's own, the gate's, and lanes of zeros. -/
def qCatT (a : FVec Ideal S8x8192x64 .f32) (x y z : FVec Ideal S8x8192x1 .f32) (o : FVec Ideal S8x8192x61 .f32) : FVec Ideal S8x8192x128 .bf16 :=
  truncf .bf16
    (concatenate S8x8192x128 2 [⟨S8x8192x64, a⟩, ⟨S8x8192x1, x⟩, ⟨S8x8192x1, y⟩, ⟨S8x8192x1, z⟩, ⟨S8x8192x61, o⟩]
      concatenates_S8x8192x64_S8x8192x1_S8x8192x1_S8x8192x1_S8x8192x61_S8x8192x128_d2)
    bitsLt_bf16_f32
def kCatT (a : FVec Ideal S8x8192x64 .f32) (x y z w : FVec Ideal S8x8192x1 .f32) (o : FVec Ideal S8x8192x60 .f32) : FVec Ideal S8x8192x128 .bf16 :=
  truncf .bf16
    (concatenate S8x8192x128 2 [⟨S8x8192x64, a⟩, ⟨S8x8192x1, x⟩, ⟨S8x8192x1, y⟩, ⟨S8x8192x1, z⟩, ⟨S8x8192x1, w⟩, ⟨S8x8192x60, o⟩]
      concatenates_S8x8192x64_S8x8192x1_S8x8192x1_S8x8192x1_S8x8192x1_S8x8192x60_S8x8192x128_d2)
    bitsLt_bf16_f32

/-- The queries' and keys' lanes. -/
def scaledT (q : FVec Ideal S8x8192x64 .f32) : FVec Ideal S8x8192x64 .f32 :=
  Host.divf (mulf q (broadcastInDim S8x8192x64 ![] bcast_S_S8x8192x64 (constant S_ .f32 0x3E000000#32)))
    (broadcastInDim S8x8192x64 ![] bcast_S_S8x8192x64 ln2T)
def qLanesT (q : FVec Ideal S8x8192x64 .f32) : FVec Ideal S8x8192x128 .bf16 :=
  qCatT (scaledT q) oneT oneT oneT zero61T
def kLanesT (k : FVec Ideal S8x8192x64 .f32) (b : FVec Ideal S8x8192x1 .f32) : FVec Ideal S8x8192x128 .bf16 :=
  kCatT k (roundT b) (roundT (subf b (roundT b))) (subf (subf b (roundT b)) (roundT (subf b (roundT b)))) oneT
    zero60T

/-- Equal lanes join to equal lanes. -/
theorem qCat_congr {a a' : FVec Ideal S8x8192x64 .f32} {x x' y y' z z' : FVec Ideal S8x8192x1 .f32} {o o' : FVec Ideal S8x8192x61 .f32}
    (h1 : a = a') (h2 : x = x') (h3 : y = y') (h4 : z = z') (h5 : o = o') : qCatT a x y z o = qCatT a' x' y' z' o' := by
  subst h1 h2 h3 h4 h5
  rfl
theorem kCat_congr {a a' : FVec Ideal S8x8192x64 .f32} {x x' y y' z z' w w' : FVec Ideal S8x8192x1 .f32} {o o' : FVec Ideal S8x8192x60 .f32}
    (h1 : a = a') (h2 : x = x') (h3 : y = y') (h4 : z = z') (h5 : w = w') (h6 : o = o') : kCatT a x y z w o = kCatT a' x' y' z' w' o' := by
  subst h1 h2 h3 h4 h5 h6
  rfl

/-- The queries, keys, values and cotangents as the launch takes them. -/
def qTilesT (x : FVec Ideal S8x8192x128 .bf16) : FVec Ideal S8x16x128x512 .bf16 :=
  transpose S8x16x128x512 [0, 1, 3, 2] (shapeCast S8x16x512x128 x shapeCasts_S8x8192x128_S8x16x512x128) transposes_S8x16x512x128_S8x16x128x512_0_1_3_2
def kRowsT (x : FVec Ideal S8x8192x128 .bf16) : FVec Ideal S8192x1024 .bf16 :=
  shapeCast S8192x1024 (transpose S8192x8x128 [1, 0, 2] x transposes_S8x8192x128_S8192x8x128_1_0_2) shapeCasts_S8192x8x128_S8192x1024
def rowsT (x : FVec Ideal S8x8192x64 .f32) : FVec Ideal S8192x512 .bf16 :=
  truncf .bf16 (shapeCast S8192x512 (transpose S8192x8x64 [1, 0, 2] x transposes_S8x8192x64_S8192x8x64_1_0_2) shapeCasts_S8192x8x64_S8192x512) bitsLt_bf16_f32
def gTilesT (x : FVec Ideal S8192x512 .bf16) : FVec Ideal S4x16x128x512 .bf16 :=
  transpose S4x16x128x512 [2, 0, 3, 1] (shapeCast S16x512x4x128 x shapeCasts_S8192x512_S16x512x4x128) transposes_S16x512x4x128_S4x16x128x512_2_0_3_1

variable (m : (ℓ : Loc nD τ sig) → Buf (Elt Ideal) ℓ) (c : Dev nD)

/-- The arguments. -/
abbrev argQ : FVec Ideal S8x8192x64 .f32 := m ((c : Thread nD τ).loc main_arg0)
abbrev argK : FVec Ideal S8x8192x64 .f32 := m ((c : Thread nD τ).loc main_arg1)
abbrev argV : FVec Ideal S8x8192x64 .f32 := m ((c : Thread nD τ).loc main_arg2)
abbrev argG : FVec Ideal S8x8192 .f32 := m ((c : Thread nD τ).loc main_arg3)
abbrev argC : FVec Ideal S8x8192x64 .f32 := m ((c : Thread nD τ).loc main_arg4)

/-- The exponentials and sums of the launch's rows. -/
abbrev sT : FVec Ideal S8x8192x8192 .f32 := scoresT (argQ m c) (argK m c) (argG m c)
abbrev eT : FVec Ideal S8x8192x8192 .f32 := expT (sT m c) (maxT (sT m c))

/-- What the launch reads. -/
theorem V_lse : V m c main_v28 = lseT (maxT (sT m c)) (sumT (eT m c)) := by
  unfold_abbrev_sides
  after_reads_simp
  simp only [StableHlo.TRef.toBuf, StableHlo.TRef.ofBuf, cast_eq]
  rfl
theorem V_dl : V m c main_v31 = dlT (probT (eT m c) (sumT (eT m c))) (argV m c) (argC m c) := by
  unfold_abbrev_sides
  after_reads_simp
  simp only [StableHlo.TRef.toBuf, StableHlo.TRef.ofBuf, cast_eq]
  rfl
theorem V_q : V m c main_v55 = qTilesT (qLanesT (argQ m c)) := by
  unfold_abbrev_sides
  have h0 : (StableHlo.upto [hostOps0, hostOps0_1, hostOps0_2].flatten (fun b => m (c, b)) 61 (Proc.devRef .tc main_v47) : FVec Ideal S8x8192x64 .f32) = scaledT (argQ m c) := by
    after_reads_simp
    rfl
  have h1 : (StableHlo.upto [hostOps0, hostOps0_1, hostOps0_2].flatten (fun b => m (c, b)) 61 (Proc.devRef .tc main_v43) : FVec Ideal S8x8192x1 .f32) = oneT := by
    after_reads_simp
    rfl
  have h2 : (StableHlo.upto [hostOps0, hostOps0_1, hostOps0_2].flatten (fun b => m (c, b)) 61 (Proc.devRef .tc main_v48) : FVec Ideal S8x8192x61 .f32) = zero61T := by
    after_reads_simp
    rfl
  after_reads_simp
  exact congrArg qTilesT (qCat_congr h0 h1 h1 h1 h2)
theorem V_g : V m c main_v60 = gTilesT (rowsT (argC m c)) := by
  unfold_abbrev_sides
  after_reads_simp
  rfl
theorem V_k : V m c main_v62 = kRowsT (kLanesT (argK m c) (gateT (argG m c))) := by
  unfold_abbrev_sides
  have h0 : (StableHlo.upto [hostOps0, hostOps0_1, hostOps0_2].flatten (fun b => m (c, b)) 65 (Proc.devRef .tc main_arg1) : FVec Ideal S8x8192x64 .f32) = argK m c := by
    after_reads_simp
  have h1 : (StableHlo.upto [hostOps0, hostOps0_1, hostOps0_2].flatten (fun b => m (c, b)) 65 (Proc.devRef .tc main_v37) : FVec Ideal S8x8192x1 .f32) = roundT (gateT (argG m c)) := by
    after_reads_simp
    rfl
  have h2 : (StableHlo.upto [hostOps0, hostOps0_1, hostOps0_2].flatten (fun b => m (c, b)) 65 (Proc.devRef .tc main_v40) : FVec Ideal S8x8192x1 .f32) = roundT (subf (gateT (argG m c)) (roundT (gateT (argG m c)))) := by
    after_reads_simp
    rfl
  have h3 : (StableHlo.upto [hostOps0, hostOps0_1, hostOps0_2].flatten (fun b => m (c, b)) 65 (Proc.devRef .tc main_v42) : FVec Ideal S8x8192x1 .f32) = subf (subf (gateT (argG m c)) (roundT (gateT (argG m c)))) (roundT (subf (gateT (argG m c)) (roundT (gateT (argG m c))))) := by
    after_reads_simp
    rfl
  have h4 : (StableHlo.upto [hostOps0, hostOps0_1, hostOps0_2].flatten (fun b => m (c, b)) 65 (Proc.devRef .tc main_v43) : FVec Ideal S8x8192x1 .f32) = oneT := by
    after_reads_simp
    rfl
  have h5 : (StableHlo.upto [hostOps0, hostOps0_1, hostOps0_2].flatten (fun b => m (c, b)) 65 (Proc.devRef .tc main_v51) : FVec Ideal S8x8192x60 .f32) = zero60T := by
    after_reads_simp
    rfl
  after_reads_simp
  exact congrArg kRowsT (kCat_congr h0 h1 h2 h3 h4 h5)
theorem V_v : V m c main_v65 = rowsT (argV m c) := by
  unfold_abbrev_sides
  after_reads_simp
  rfl

end Cert.KernelIdeal.Hand
-- ==== Proof.Values.lean ====
/-
  Hand-written. What the host lines before the launch give it, over the reals: the layouts and the lanes.
-/
module

public import proofs.«01_k».proof.Proof.Prefix

@[expose] public section

set_option maxRecDepth 16384

noncomputable section

namespace Cert.KernelIdeal.Hand

open Cert.KernelIdeal Cert.KernelIdeal.Gen Cert.Held Cert.Consts
open Idealize.ShloMosaic Idealize.ShloMosaic.TcCoe Idealize.ShloMosaic.Tactic

/-- A head's queries and keys with the gate's lanes. -/
def qLane (q : Mat 8192 64) : Mat 8192 128 := fun t a =>
  if h : a.val < 64 then q t ⟨a.val, h⟩ * (1 / 8) * (1 / Real.log 2) else if a.val < 67 then 1 else 0
def kLane (k : Mat 8192 64) (g : Fin 8192 → ℝ) : Mat 8192 128 := fun s a =>
  if h : a.val < 64 then k s ⟨a.val, h⟩ else if a.val = 64 then -g s * (1 / Real.log 2) else if a.val = 67 then 1 else 0

theorem up3_ix {a b d : Nat} (f : Fin a → Mat b d) (x : Fin a) (y : Fin b) (z : Fin d) : up3 f (ix3 x y z) = ((f x y z : ℝ) : EReal) := rfl

/-- The logarithm of two is not zero, and dividing by it over the reals. -/
theorem ln2_ne : Real.log 2 ≠ 0 := (Real.log_pos one_lt_two).ne'
theorem ln2T_eq (j) : ln2T j = ((Real.log 2 : ℝ) : EReal) := by
  pointwise [ln2T]
  rw [ofBits_two, Ideal.log_coe, if_neg (by norm_num)]

/-- The queries' scale. -/
theorem scaled_at (q : Fin 8 → Mat 8192 64) : scaledT (up3 q) = up3 (fun h t a => q h t a * (1 / 8) * (1 / Real.log 2)) := by
  funext j
  idx_vars j
  pointwise [scaledT]
  rw [ln2T_eq, Ideal.div_coe ln2_ne, ofBits_eighth]
  simp only [up3_ix, ← EReal.coe_mul]

/-- A lane of ones. -/
theorem one_at : oneT = up3 (fun (_ : Fin 8) (_ : Fin 8192) (_ : Fin 1) => (1 : ℝ)) := by
  funext j
  idx_vars j
  pointwise [oneT]
  rfl

/-- The gate's lane. -/
theorem gate_at (g : Mat 8 8192) : gateT (up2 g) = up3 (fun h s (_ : Fin 1) => -g h s * (1 / Real.log 2)) := by
  funext j
  idx_vars j
  pointwise [gateT]
  rw [ln2T_eq, Ideal.div_coe ln2_ne]
  simp only [up3_ix, up2_ix, ← EReal.coe_mul, ← EReal.coe_neg]

/-- Over the reals a rounding is the identity. -/
theorem round_at (b : Fin 8 → Mat 8192 1) : roundT (up3 b) = up3 b := by
  funext j
  idx_vars j
  pointwise [roundT]

/-- A difference of lanes. -/
theorem sub_at (b b' : Fin 8 → Mat 8192 1) :
    (subf (up3 b : FVec Ideal S8x8192x1 .f32) (up3 b' : FVec Ideal S8x8192x1 .f32) : FVec Ideal S8x8192x1 .f32) = up3 (fun h s x => b h s x - b' h s x) := by
  funext j
  idx_vars j
  pointwise
  exact (EReal.coe_sub _ _).symm

/-- The queries with their lanes. -/
theorem qLanes_at (q : Fin 8 → Mat 8192 64) : qLanesT (up3 q) = up3 (fun h => qLane (q h)) := by
  unfold qLanesT
  rw [scaled_at, one_at]
  funext j
  idx_vars j
  pointwise [qCatT, zero61T]
  simp only [up3_ix, qLane]
  split_ifs
  all_goals first | rfl | (exfalso; omega)

/-- The keys with their lanes. -/
theorem kLanes_at (k : Fin 8 → Mat 8192 64) (g : Mat 8 8192) : kLanesT (up3 k) (gateT (up2 g)) = up3 (fun h => kLane (k h) (g h)) := by
  unfold kLanesT
  rw [gate_at, one_at, round_at, sub_at, round_at, sub_at]
  funext j
  idx_vars j
  pointwise [kCatT, zero60T]
  simp only [up3_ix, kLane, sub_self]
  split_ifs
  all_goals first | rfl | (exfalso; omega)

/-- The launch's layouts. -/
theorem qTiles_at (f : Fin 8 → Mat 8192 128) : qTilesT (up3 f) = up4 (fun h n a t => f h (row n t) a) := by
  funext j
  idx_vars j
  pointwise [qTilesT]
  exact congrArg (fun r => ((f j0 r j2 : ℝ) : EReal)) (Fin.ext (by show j1.val * 512 + j3.val = 512 * j1.val + j3.val; omega))
theorem kRows_at (f : Fin 8 → Mat 8192 128) : kRowsT (up3 f) = up2 (fun s x => f ⟨x.val / 128, by omega⟩ s ⟨x.val % 128, by omega⟩) := by
  funext j
  idx_vars j
  pointwise [kRowsT]
  rfl
theorem rows_at (f : Fin 8 → Mat 8192 64) : rowsT (up3 f) = up2 (fun s x => f ⟨x.val / 64, by omega⟩ s ⟨x.val % 64, by omega⟩) := by
  funext j
  idx_vars j
  pointwise [rowsT]
  rfl
theorem gTiles_at (f : Mat 8192 512) : gTilesT (up2 f) = up4 (fun hp n a t => f (row n t) (vcol hp a)) := by
  funext j
  idx_vars j
  pointwise [gTilesT]
  exact congrArg₂ (fun r x => ((f r x : ℝ) : EReal)) (Fin.ext (by show j1.val * 512 + j3.val = 512 * j1.val + j3.val; omega))
    (Fin.ext (by show j0.val * 128 + j2.val = 128 * j0.val + j2.val; omega))

end Cert.KernelIdeal.Hand
-- ==== Proof.Softmax.lean ====
/-
  Hand-written. A causal row's softmax over the reals: the masked row's maximum is a real number, and the
  probabilities depend neither on it nor on a number added to the whole row.
-/
module

public import proofs.«01_k».proof.Proof.Steps

@[expose] public section

noncomputable section

namespace Cert.Softmax

variable {n : Nat}

/-- A row's scores, masked above the diagonal. -/
def masked (x : Fin n → ℝ) (t s : Fin n) : EReal := if s ≤ t then (x s : EReal) else ⊥

/-- The exponentials, their sum, and the probabilities, relative to a number m. -/
def eS (x : Fin n → ℝ) (m : ℝ) (t s : Fin n) : ℝ := if s ≤ t then Real.exp (x s - m) else 0
def lS (x : Fin n → ℝ) (m : ℝ) (t : Fin n) : ℝ := ∑ s, eS x m t s
def pS (x : Fin n → ℝ) (t s : Fin n) : ℝ := eS x 0 t s / lS x 0 t

/-- The maximum of a masked row is a real number. -/
theorem max_real (x : Fin n → ℝ) (t : Fin n) : ∃ m : ℝ, Finset.univ.fold max ⊥ (masked x t) = (m : EReal) := by
  have hfold : ∀ a, masked x t a ≤ Finset.univ.fold max ⊥ (masked x t) := fun a =>
    (Finset.le_fold_max _).mpr (Or.inr ⟨a, Finset.mem_univ a, le_rfl⟩)
  have hbot : Finset.univ.fold max ⊥ (masked x t) ≠ ⊥ := by
    intro h
    have := hfold t
    rw [h, masked, if_pos le_rfl] at this
    exact EReal.coe_ne_bot _ (le_bot_iff.mp this)
  have htop : Finset.univ.fold max ⊥ (masked x t) ≠ ⊤ := by
    refine ne_of_lt ((Finset.fold_max_lt _).mpr ⟨bot_lt_top, fun a _ => ?_⟩)
    unfold masked
    split_ifs
    · exact EReal.coe_lt_top _
    · exact bot_lt_top
  exact ⟨_, (EReal.coe_toReal htop hbot).symm⟩

/-- Exponentials are not negative, and a row's sum is positive. -/
theorem eS_nonneg (x : Fin n → ℝ) (m : ℝ) (t s : Fin n) : 0 ≤ eS x m t s := by
  unfold eS
  split_ifs
  · exact (Real.exp_pos _).le
  · exact le_rfl
theorem lS_pos (x : Fin n → ℝ) (m : ℝ) (t : Fin n) : 0 < lS x m t :=
  Finset.sum_pos' (fun s _ => eS_nonneg x m t s) ⟨t, Finset.mem_univ t, by
    unfold eS
    rw [if_pos le_rfl]
    exact Real.exp_pos _⟩

/-- Taking out a number scales every exponential, and the sum, alike. -/
theorem eS_shift (x : Fin n → ℝ) (m : ℝ) (t s : Fin n) : eS x m t s = eS x 0 t s * Real.exp (-m) := by
  unfold eS
  split_ifs
  · rw [← Real.exp_add]
    congr 1
    ring
  · rw [zero_mul]
theorem lS_shift (x : Fin n → ℝ) (m : ℝ) (t : Fin n) : lS x m t = lS x 0 t * Real.exp (-m) := by
  unfold lS
  rw [Finset.sum_mul]
  exact Finset.sum_congr rfl fun s _ => eS_shift x m t s

/-- The probabilities do not depend on the number taken out. -/
theorem div_eq (x : Fin n → ℝ) (m : ℝ) (t s : Fin n) : eS x m t s / lS x m t = pS x t s := by
  rw [eS_shift, lS_shift, pS, mul_div_mul_right _ _ (Real.exp_pos _).ne']

/-- Nor on a number added to the whole row. -/
theorem pS_add (x : Fin n → ℝ) (b : ℝ) (t : Fin n) : pS (fun s => x s + b) t = pS x t := by
  funext s
  have h : ∀ u, eS (fun s => x s + b) 0 t u = eS x (-b) t u := fun u => by
    unfold eS
    split_ifs
    · rw [sub_zero, sub_neg_eq_add]
    · rfl
  rw [← div_eq x (-b), pS, lS, lS, h]
  exact congrArg _ (Finset.sum_congr rfl fun u _ => h u)

/-- The probability as a power of two. -/
theorem pow_eq (x : Fin n → ℝ) (m : ℝ) {t s : Fin n} (h : s ≤ t) :
    Real.rpow 2 (x s * (1 / Real.log 2) - (m + Real.log (lS x m t)) * (1 / Real.log 2)) = pS x t s := by
  have hl : Real.log 2 ≠ 0 := (Real.log_pos one_lt_two).ne'
  rw [Real.rpow_eq_pow]
  rw [Real.rpow_def_of_pos two_pos, ← div_eq x m, eS, if_pos h]
  have e : Real.log 2 * (x s * (1 / Real.log 2) - (m + Real.log (lS x m t)) * (1 / Real.log 2)) = (x s - m) - Real.log (lS x m t) := by
    field_simp
    ring
  rw [e, Real.exp_sub, Real.exp_log (lS_pos x m t)]

/-- Above the diagonal the probability is zero. -/
theorem pS_zero (x : Fin n → ℝ) {t s : Fin n} (h : t < s) : pS x t s = 0 := by
  rw [pS, eS, if_neg (not_le.mpr h), zero_div]

end Cert.Softmax
-- ==== Proof.Reals.lean ====
/-
  Hand-written. The attention's gradients over the reals: what both programs compute.
-/
module

public import proofs.«01_k».proof.Proof.Softmax

@[expose] public section

noncomputable section

namespace Cert.Attention

open Cert.Softmax Cert.KernelIdeal.Hand

/-- The arguments over the reals: queries, keys, values, output cotangents, and the gates' running sums. -/
structure Args where
  q : Fin 8 → Mat 8192 64
  k : Fin 8 → Mat 8192 64
  v : Fin 8 → Mat 8192 64
  c : Fin 8 → Mat 8192 64
  g : Mat 8 8192

variable (A : Args)

/-- A query's score of a key, without the part that is the same for the whole row. -/
def score (h : Fin 8) (t s : Fin 8192) : ℝ := (∑ d, A.q h t d * A.k h s d) * (1 / 8) - A.g h s
/-- The probabilities, their cotangents, the row dots and the scores' cotangents. -/
def soft (h : Fin 8) : Mat 8192 8192 := fun t s => pS (score A h t) t s
def dp (h : Fin 8) : Mat 8192 8192 := fun t s => ∑ d, A.c h t d * A.v h s d
def dot (h : Fin 8) (t : Fin 8192) : ℝ := ∑ s, soft A h t s * dp A h t s
def cot (h : Fin 8) : Mat 8192 8192 := fun t s => soft A h t s * (dp A h t s - dot A h t)
/-- The gradients of the queries, keys, values and gates' running sums. -/
def dq (h : Fin 8) : Mat 8192 64 := fun t d => ∑ s, cot A h t s * (1 / 8) * A.k h s d
def dk (h : Fin 8) : Mat 8192 64 := fun s d => ∑ t, cot A h t s * (1 / 8) * A.q h t d
def dv (h : Fin 8) : Mat 8192 64 := fun s d => ∑ t, A.c h t d * soft A h t s
def dg : Mat 8 8192 := fun h r => (∑ s, cot A h r s) - ∑ t, cot A h t r

end Cert.Attention
-- ==== Proof.Rows.lean ====
/-
  Hand-written. The softmax's rows as the host lines compute them, over the reals.
-/
module

public import proofs.«01_k».proof.Proof.Values
public import proofs.«01_k».proof.Proof.Reals

@[expose] public section

set_option maxRecDepth 16384

noncomputable section

namespace Cert.KernelIdeal.Hand

open Cert.KernelIdeal Cert.KernelIdeal.Gen Cert.Held Cert.Consts Cert.Softmax Cert.Attention
open Idealize.ShloMosaic Idealize.ShloMosaic.TcCoe Idealize.ShloMosaic.Tactic

variable (x : Fin 8 → Mat 8192 8192)

/-- The causal mask's bit. -/
theorem bit_rows (s t : Fin 8192) : IntOp.cmpi .sle (BitVec.ofNat 32 s.val) (BitVec.ofNat 32 t.val) = BitVec.ofBool (decide (s ≤ t)) := by
  have hs := s.isLt
  have ht := t.isLt
  show BitVec.ofBool (BitVec.sle (BitVec.ofNat 32 s.val) (BitVec.ofNat 32 t.val)) = _
  congr 1
  rw [BitVec.sle, BitVec.toInt_ofNat', BitVec.toInt_ofNat', decide_eq_decide, Fin.le_def]
  rw [Int.bmod_def, Int.bmod_def]
  omega

/-- A masked score's exponential. -/
theorem exp_masked (r : Fin 8192 → ℝ) (u : ℝ) (t s : Fin 8192) : Ideal.exp (masked r t s - (u : EReal)) = ((eS r u t s : ℝ) : EReal) := by
  unfold masked eS
  split_ifs
  · rw [← EReal.coe_sub, Ideal.exp_coe]
  · rw [EReal.bot_sub, Ideal.exp_bot, EReal.coe_zero]

/-- Dividing reals. -/
theorem div_real (a : ℝ) {b : ℝ} (h : b ≠ 0) : Ideal.div (a : EReal) (b : EReal) = ((a / b : ℝ) : EReal) := by
  rw [Ideal.div_coe h, ← EReal.coe_mul, mul_one_div]

/-- The masked scores. -/
theorem scores_at (A : Args) (h t s) : scoresT (up3 A.q) (up3 A.k) (up2 A.g) (ix3 h t s) = masked (score A h t) t s := by
  pointwise [scoresT]
  rw [bit_rows, select_ofBool, ofBits_eighth, ofBits_ninf]
  simp only [up3_ix, up2_ix, ← EReal.coe_mul, coeSum, ← EReal.coe_sub]
  rfl

/-- The rows' maxima. -/
theorem max_at (sc : FVec Ideal S8x8192x8192 .f32) (hs : ∀ h t s, sc (ix3 h t s) = masked (x h t) t s) :
    maxT sc = up3 (fun h t (_ : Fin 1) => (max_real (x h t) t).choose) := by
  funext j
  idx_vars j
  pointwise [maxT]
  rw [ofBits_ninf]
  exact (congrArg (fun f => Finset.univ.fold max ⊥ f) (funext fun s => hs j0 j1 s)).trans (max_real (x j0 j1) j1).choose_spec

/-- The exponentials. -/
theorem exp_at (sc : FVec Ideal S8x8192x8192 .f32) (hs : ∀ h t s, sc (ix3 h t s) = masked (x h t) t s) (u : Fin 8 → Mat 8192 1) :
    expT sc (up3 u) = up3 (fun h t s => eS (x h t) (u h t 0) t s) := by
  funext j
  idx_vars j
  pointwise [expT]
  rw [hs]
  exact exp_masked _ _ _ _

/-- The rows' sums. -/
theorem sum_at (f : Fin 8 → Mat 8192 8192) : sumT (up3 f) = up3 (fun h t (_ : Fin 1) => ∑ s, f h t s) := by
  funext j
  idx_vars j
  pointwise [sumT]
  exact coeSum _

/-- The probabilities. -/
theorem prob_at (f : Fin 8 → Mat 8192 8192) (l : Fin 8 → Mat 8192 1) (hl : ∀ h t z, l h t z ≠ 0) :
    probT (up3 f) (up3 l) = up3 (fun h t s => f h t s / l h t 0) := by
  funext j
  idx_vars j
  pointwise [probT]
  exact div_real _ (hl j0 j1 0)

/-- The log-sums in base two. -/
theorem lse_at (u l : Fin 8 → Mat 8192 1) (hl : ∀ h t z, 0 < l h t z) :
    lseT (up3 u) (up3 l) = up4 (fun h n (_ : Fin 1) t => (u h (row n t) 0 + Real.log (l h (row n t) 0)) * (1 / Real.log 2)) := by
  funext j
  idx_vars j
  pointwise [lseT]
  have hr : (⟨j1.val * 512 + j3.val, by omega⟩ : Fin 8192) = row j1 j3 := Fin.ext (by show j1.val * 512 + j3.val = 512 * j1.val + j3.val; omega)
  rw [hr, ln2T_eq, Ideal.div_coe ln2_ne, up3_ix, up3_ix, Ideal.log_coe, if_neg (not_le.mpr (hl _ _ _)), ← EReal.coe_add, ← EReal.coe_mul]
  rfl

/-- The row dots. -/
theorem dl_at (p : Fin 8 → Mat 8192 8192) (v c : Fin 8 → Mat 8192 64) :
    dlT (up3 p) (up3 v) (up3 c) = up4 (fun h n (_ : Fin 1) t => ∑ d, (∑ s, p h (row n t) s * v h s d) * c h (row n t) d) := by
  funext j
  idx_vars j
  pointwise [dlT]
  have hr : (⟨j1.val * 512 + j3.val, by omega⟩ : Fin 8192) = row j1 j3 := Fin.ext (by show j1.val * 512 + j3.val = 512 * j1.val + j3.val; omega)
  rw [hr]
  simp only [up3_ix, ← EReal.coe_mul, coeSum]
  rfl

end Cert.KernelIdeal.Hand
-- ==== Proof.Given.lean ====
/-
  Hand-written. The launch's arrays of real arguments, and what they make of a block of scores.
-/
module

public import proofs.«01_k».proof.Proof.Rows

@[expose] public section

set_option maxRecDepth 16384

noncomputable section

namespace Cert.KernelIdeal.Hand

open Cert.KernelIdeal Cert.KernelIdeal.Gen Cert.Held Cert.Consts Cert.Softmax Cert.Attention
open Idealize.ShloMosaic Idealize.ShloMosaic.TcCoe Idealize.ShloMosaic.Tactic

variable (A : Args)

/-- A row's maximum and its sum of exponentials. -/
def top (h : Fin 8) (t : Fin 8192) : ℝ := (max_real (score A h t) t).choose
def len (h : Fin 8) (t : Fin 8192) : ℝ := lS (score A h t) (top A h t) t

/-- The arrays the launch reads, of the arguments. -/
def given : RIn where
  k := fun s x => kLane (A.k ⟨x.val / 128, by omega⟩) (A.g ⟨x.val / 128, by omega⟩) s ⟨x.val % 128, by omega⟩
  v := fun s x => A.v ⟨x.val / 64, by omega⟩ s ⟨x.val % 64, by omega⟩
  q := fun h n a t => qLane (A.q h) (row n t) a
  g := fun hp n a t => A.c ⟨(vcol hp a).val / 64, by omega⟩ (row n t) ⟨(vcol hp a).val % 64, by omega⟩
  l := fun h n t => (top A h (row n t) + Real.log (len A h (row n t))) * (1 / Real.log 2)
  d := fun h n t => ∑ d, (∑ s, soft A h (row n t) s * A.v h s d) * A.c h (row n t) d

variable {m : (ℓ : Loc nD τ sig) → Buf (Elt Ideal) ℓ} {c : Dev nD}

/-- The memory's arguments are these reals. -/
structure Holds (A : Args) (m : (ℓ : Loc nD τ sig) → Buf (Elt Ideal) ℓ) (c : Dev nD) : Prop where
  q : argQ m c = up3 A.q
  k : argK m c = up3 A.k
  v : argV m c = up3 A.v
  g : argG m c = up2 A.g
  c : argC m c = up3 A.c

variable {A}

/-- The scores, maxima, exponentials and sums of real arguments. -/
theorem sT_at (H : Holds A m c) (h t s) : sT m c (ix3 h t s) = masked (score A h t) t s := by
  unfold sT
  rw [H.q, H.k, H.g]
  exact scores_at A h t s
theorem top_at (H : Holds A m c) : maxT (sT m c) = up3 (fun h t (_ : Fin 1) => top A h t) := max_at (score A) _ (sT_at H)
theorem eT_at (H : Holds A m c) : eT m c = up3 (fun h t s => eS (score A h t) (top A h t) t s) := by
  unfold eT
  rw [top_at H]
  exact exp_at (score A) _ (sT_at H) _
theorem len_at (H : Holds A m c) : sumT (eT m c) = up3 (fun h t (_ : Fin 1) => len A h t) := by
  rw [eT_at H]
  exact sum_at _
theorem pr_at (H : Holds A m c) : probT (eT m c) (sumT (eT m c)) = up3 (soft A) := by
  rw [len_at H, eT_at H]
  refine (prob_at _ _ fun h t _ => (lS_pos (score A h t) (top A h t) t).ne').trans ?_
  exact congrArg up3 (funext fun h => funext fun t => funext fun s => div_eq (score A h t) (top A h t) t s)

/-- The launch reads the arrays of the arguments. -/
theorem given_reads (H : Holds A m c) : Reads (given A) m c where
  k := by
    rw [V_k, H.k, H.g, kLanes_at, kRows_at]
    rfl
  v := by
    rw [V_v, H.v, rows_at]
    rfl
  q := by
    rw [V_q, H.q, qLanes_at, qTiles_at]
    rfl
  g := by
    rw [V_g, H.c, rows_at, gTiles_at]
    rfl
  l := by
    rw [V_lse, len_at H, top_at H]
    refine (lse_at _ _ fun h t _ => lS_pos (score A h t) (top A h t) t).trans ?_
    rfl
  d := by
    rw [V_dl, pr_at H, H.v, H.c, dl_at]
    rfl

end Cert.KernelIdeal.Hand
-- ==== Proof.Finite.lean ====
/-
  Hand-written. Arguments that are finite hold real numbers.
-/
module

public import proofs.«01_k».proof.Defs
public import proofs.«01_k».proof.Proof.Given

@[expose] public section

set_option maxRecDepth 16384

noncomputable section

namespace Cert.Finite

open Cert.Consts Cert.Attention
open Cert.KernelIdeal.Hand (Mat up2 up3 argQ argK argV argG argC Holds)
open Idealize.ShloMosaic Idealize.ShloMosaic.TcCoe

/-- The side conditions the precondition states. -/
theorem facts : Cert.Pre_finite.Facts where
  bcast_S_S8x8192x64 := by decide
  bcast_S_S8x8192 := by decide

/-- A number whose magnitude is below infinity is real. -/
theorem real_of {x : EReal} (h : Ideal.cmp .olt (max x (-x)) (Ideal.ofBits .f32 0x7F800000#32) = 1#1) : x = ((x.toReal : ℝ) : EReal) := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  have h1 := max_lt_iff.mp hlt
  refine (EReal.coe_toReal h1.1.ne fun hb => ?_).symm
  have h2 := h1.2
  rw [hb, EReal.neg_bot] at h2
  exact lt_irrefl _ h2

/-- Arrays of real numbers. -/
theorem array3 {x : (⟨3, ![8, 8192, 64]⟩ : Shape).Idx → EReal}
    (h : ∀ j, Ideal.cmp .olt (max (x j) (-x j)) (Ideal.ofBits .f32 0x7F800000#32) = 1#1) :
    x = up3 (fun a b c => (x (ix3 a b c)).toReal) := by
  funext j
  obtain ⟨a, b, c, rfl⟩ : ∃ a b c, j = ix3 a b c := ⟨j 0, j 1, j 2, by funext i; fin_cases i <;> rfl⟩
  exact real_of (h (ix3 a b c))
theorem array2 {x : (⟨2, ![8, 8192]⟩ : Shape).Idx → EReal}
    (h : ∀ j, Ideal.cmp .olt (max (x j) (-x j)) (Ideal.ofBits .f32 0x7F800000#32) = 1#1) :
    x = up2 (fun a b => (x (ix2 a b)).toReal) := by
  funext j
  obtain ⟨a, b, rfl⟩ : ∃ a b, j = ix2 a b := ⟨j 0, j 1, by funext i; fin_cases i <;> rfl⟩
  exact real_of (h (ix2 a b))

variable (m : (ℓ : Loc Cert.KernelIdeal.nD Cert.KernelIdeal.τ Cert.KernelIdeal.sig) → Buf (Elt Ideal) ℓ)

/-- The real numbers the arguments hold. -/
def argsOf (c : Dev Cert.KernelIdeal.nD) : Args where
  q := fun x y z => (argQ m c (ix3 x y z)).toReal
  k := fun x y z => (argK m c (ix3 x y z)).toReal
  v := fun x y z => (argV m c (ix3 x y z)).toReal
  c := fun x y z => (argC m c (ix3 x y z)).toReal
  g := fun x y => (argG m c (ix2 x y)).toReal

/-- Finite arguments hold them. -/
theorem holds (h : Cert.Pre_KernelIdeal_finite (hPre_finite := facts) m) (c : Dev Cert.KernelIdeal.nD) : Holds (argsOf m c) m c where
  q := array3 fun j => congrFun (h c).1 j
  k := array3 fun j => congrFun (h c).2.1 j
  v := array3 fun j => congrFun (h c).2.2.1 j
  g := array2 fun j => congrFun (h c).2.2.2.1 j
  c := array3 fun j => congrFun (h c).2.2.2.2 j

end Cert.Finite
-- ==== Proof.Sums.lean ====
/-
  Hand-written. Sums over rows by tiles, over lanes by heads, and a block's scores from its lanes.
-/
module

public import proofs.«01_k».proof.Proof.Values
public import proofs.«01_k».proof.Proof.Reals

@[expose] public section

set_option maxRecDepth 16384

noncomputable section

namespace Cert.KernelIdeal.Hand

open Cert.KernelIdeal Cert.KernelIdeal.Gen Cert.Held Cert.Softmax Cert.Attention
open Idealize.ShloMosaic

/-- A row as its tile and its place there. -/
def rowEquiv : Fin 16 × Fin 512 ≃ Fin 8192 where
  toFun p := row p.1 p.2
  invFun r := (tileOf r, inTile r)
  left_inv p := Prod.ext (tileOf_row p.1 p.2) (inTile_row p.1 p.2)
  right_inv r := row_of r

/-- A lane of two heads' values as its head and its place there. -/
def laneEquiv : Fin 2 × Fin 64 ≃ Fin 128 where
  toFun p := row64 p.1 p.2
  invFun x := (eL x, inL x)
  left_inv p := Prod.ext (Fin.ext (by show (64 * p.1.val + p.2.val) / 64 = p.1.val; omega))
    (Fin.ext (by show (64 * p.1.val + p.2.val) % 64 = p.2.val; omega))
  right_inv x := Fin.ext (by show 64 * (x.val / 64) + x.val % 64 = x.val; omega)

/-- A sum over rows, tile by tile, and over lanes, head by head. -/
theorem sum_rows (f : Fin 8192 → ℝ) : ∑ j, ∑ s, f (row j s) = ∑ r, f r := by
  rw [← Fintype.sum_prod_type']
  exact rowEquiv.sum_comp f
theorem sum_lanes (f : Fin 128 → ℝ) : ∑ e, ∑ a, f (row64 e a) = ∑ x, f x := by
  rw [← Fintype.sum_prod_type']
  exact laneEquiv.sum_comp f

/-- A head's lanes alone. -/
theorem sum_kept (e : Fin 2) (f : Fin 128 → ℝ) : (∑ x, if (x.val < 64 ↔ e = 0) then f x else 0) = ∑ a, f (row64 e a) := by
  rw [← sum_lanes, Fin.sum_univ_two]
  have h : ∀ (e' : Fin 2) (a : Fin 64), ((row64 e' a).val < 64 ↔ e = 0) ↔ e' = e := fun e' a => by
    have ha := a.isLt
    have hv : (row64 e' a).val = 64 * e'.val + a.val := rfl
    rw [hv]
    fin_cases e' <;> fin_cases e <;> simp <;> omega
  simp only [h]
  fin_cases e <;> simp

/-- The lanes of a key and a query make their score in base two. -/
theorem lane_score (q k : Mat 8192 64) (g : Fin 8192 → ℝ) (t s : Fin 8192) :
    ∑ x, kLane k g s x * qLane q t x = ((∑ d, q t d * k s d) * (1 / 8) - g s) * (1 / Real.log 2) := by
  rw [← sum_lanes, Fin.sum_univ_two]
  have h0 : ∀ a : Fin 64, kLane k g s (row64 0 a) * qLane q t (row64 0 a) = q t a * k s a * (1 / 8 * (1 / Real.log 2)) := fun a => by
    rw [row64_zero, kLane, qLane, dif_pos a.isLt, dif_pos a.isLt]
    ring
  have h1 : ∀ a : Fin 64, kLane k g s (row64 1 a) * qLane q t (row64 1 a) = if a = 0 then -g s * (1 / Real.log 2) else 0 := fun a => by
    have hv : (row64 1 a).val = 64 + a.val := rfl
    rw [kLane, qLane, dif_neg (by omega), dif_neg (by omega), hv]
    by_cases ha : a = 0
    · subst ha
      simp
    · have hn : a.val ≠ 0 := fun e => ha (Fin.ext e)
      rw [if_neg (by omega), if_neg ha]
      by_cases h3 : a.val = 3
      · rw [if_neg (by omega : ¬ 64 + a.val < 67), mul_zero]
      · rw [if_neg (by omega), zero_mul]
  simp only [h0, h1]
  rw [← Finset.sum_mul, Finset.sum_ite_eq' Finset.univ (0 : Fin 64), if_pos (Finset.mem_univ _)]
  ring

end Cert.KernelIdeal.Hand
-- ==== Proof.Suffix.lean ====
/-
  Hand-written. What the host lines after the launch make of the gradients' arrays.
-/
module

public import proofs.«01_k».proof.Proof.States
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.ShloMosaic.Pipeline (Dat Cfg Window)

/-- A gradient's own lanes by head, row and lane. -/
def ownT (x : FVec Ideal S8x16x128x512 .f32) : FVec Ideal S8x8192x64 .f32 :=
  shapeCast S8x8192x64
    (transpose S8x16x512x64 [0, 1, 3, 2] (extractStridedSlice S8x16x64x512 ![0, 0, 0, 0] x slices_S8x16x128x512_S8x16x64x512_0_0_0_0)
      transposes_S8x16x64x512_S8x16x512x64_0_1_3_2)
    shapeCasts_S8x16x512x64_S8x8192x64
/-- The gate's gradient: the queries' lane of row sums less the keys' lane of column sums. -/
def gateGradT (x y : FVec Ideal S8x16x128x512 .f32) : FVec Ideal S8x8192 .f32 :=
  shapeCast S8x8192
    (subf
      (shapeCast S8x16x512 (extractStridedSlice S8x16x1x512 ![0, 0, 67, 0] x slices_S8x16x128x512_S8x16x1x512_0_0_67_0) shapeCasts_S8x16x1x512_S8x16x512)
      (shapeCast S8x16x512 (extractStridedSlice S8x16x1x512 ![0, 0, 64, 0] y slices_S8x16x128x512_S8x16x1x512_0_0_64_0) shapeCasts_S8x16x1x512_S8x16x512))
    shapeCasts_S8x16x512_S8x8192
/-- The values' gradient by head, row and lane. -/
def valT (x : FVec Ideal S8192x512 .bf16) : FVec Ideal S8x8192x64 .f32 :=
  extf .f32 (transpose S8x8192x64 [1, 0, 2] (shapeCast S8192x8x64 x shapeCasts_S8192x512_S8192x8x64) transposes_S8192x8x64_S8x8192x64_1_0_2) bitsLt_bf16_f32

variable (m : (ℓ : Loc nD τ sig) → Buf (Elt Ideal) ℓ) (c : Dev nD)

/-- The buffers as the launch leaves them. -/
abbrev leftV : Valuation τ sig (Elt Ideal) := Pipeline.withArrays spec0 c (V0 m c) fun w => (dats m 0 c).arrAt w cfg0.N

theorem leftV_6 : leftV m c (Proc.devRef .tc main_v66_0) = (dats m 0 c).arrAt 6 cfg0.N :=
  Pipeline.withArrays_arr spec0 (by decide) c (V0 m c) _ 6
theorem leftV_7 : leftV m c (Proc.devRef .tc main_v66_1) = (dats m 0 c).arrAt 7 cfg0.N :=
  Pipeline.withArrays_arr spec0 (by decide) c (V0 m c) _ 7
theorem leftV_8 : leftV m c (Proc.devRef .tc main_v66_2) = (dats m 0 c).arrAt 8 cfg0.N :=
  Pipeline.withArrays_arr spec0 (by decide) c (V0 m c) _ 8

theorem W_q (X : FVec Ideal S8x16x128x512 .f32) (h : (dats m 0 c).arrAt 6 cfg0.N = X) :
    Pipeline.afterTail₀ cfgs (dats m) 0 (V0 m) [hostOps1] c main_v69 = ownT X := by
  have e := (leftV_6 m c).trans h
  unfold Pipeline.afterTail₀
  show StableHlo.after [hostOps1].flatten (leftV m c) (Proc.devRef .tc main_v69) = _
  generalize leftV m c = L at *
  after_reads_simp
  exact congrArg ownT e
theorem W_k (X : FVec Ideal S8x16x128x512 .f32) (h : (dats m 0 c).arrAt 7 cfg0.N = X) :
    Pipeline.afterTail₀ cfgs (dats m) 0 (V0 m) [hostOps1] c main_v72 = ownT X := by
  have e := (leftV_7 m c).trans h
  unfold Pipeline.afterTail₀
  show StableHlo.after [hostOps1].flatten (leftV m c) (Proc.devRef .tc main_v72) = _
  generalize leftV m c = L at *
  after_reads_simp
  exact congrArg ownT e
theorem W_v (X : FVec Ideal S8192x512 .bf16) (h : (dats m 0 c).arrAt 8 cfg0.N = X) :
    Pipeline.afterTail₀ cfgs (dats m) 0 (V0 m) [hostOps1] c main_v81 = valT X := by
  have e := (leftV_8 m c).trans h
  unfold Pipeline.afterTail₀
  show StableHlo.after [hostOps1].flatten (leftV m c) (Proc.devRef .tc main_v81) = _
  generalize leftV m c = L at *
  after_reads_simp
  exact congrArg valT e
theorem W_g (X Y : FVec Ideal S8x16x128x512 .f32) (h : (dats m 0 c).arrAt 6 cfg0.N = X) (h' : (dats m 0 c).arrAt 7 cfg0.N = Y) :
    Pipeline.afterTail₀ cfgs (dats m) 0 (V0 m) [hostOps1] c main_v78 = gateGradT X Y := by
  have e := (leftV_6 m c).trans h
  have e' := (leftV_7 m c).trans h'
  unfold Pipeline.afterTail₀
  show StableHlo.after [hostOps1].flatten (leftV m c) (Proc.devRef .tc main_v78) = _
  generalize leftV m c = L at *
  after_reads_simp
  exact congrArg₂ gateGradT e e'

/-! ## Over the reals -/

theorem own_up (f : Fin 8 → Fin 16 → Mat 128 512) :
    ownT (up4 f) = up3 (fun h r (x : Fin 64) => f h (tileOf r) (row64 0 x) (inTile r)) := by
  funext j
  idx_vars j
  pointwise [ownT]
  exact congrArg (fun x => ((f j0 (tileOf j1) x (inTile j1) : ℝ) : EReal)) (Fin.ext (by show j2.val = 64 * 0 + j2.val; omega))
theorem gateGrad_up (f g : Fin 8 → Fin 16 → Mat 128 512) :
    gateGradT (up4 f) (up4 g) = up2 (fun h r => f h (tileOf r) 67 (inTile r) - g h (tileOf r) 64 (inTile r)) := by
  funext j
  idx_vars j
  pointwise [gateGradT]
  exact (EReal.coe_sub _ _).symm
theorem val_up (f : Mat 8192 512) :
    valT (up2 f) = up3 (fun (h : Fin 8) r (x : Fin 64) => f r ⟨64 * h.val + x.val, by omega⟩) := by
  funext j
  idx_vars j
  pointwise [valT]
  exact congrArg (fun x => ((f j1 x : ℝ) : EReal)) (Fin.ext (by show j0.val * 64 + j2.val = 64 * j0.val + j2.val; omega))

end Cert.KernelIdeal.Hand
-- ==== Proof.Grads.lean ====
/-
  Hand-written. What the launch leaves for the arrays of real arguments: the attention's gradients.
-/
module

public import proofs.«01_k».proof.Proof.Given
public import proofs.«01_k».proof.Proof.Sums
public import proofs.«01_k».proof.Proof.Suffix

@[expose] public section

set_option maxRecDepth 16384

noncomputable section

namespace Cert.KernelIdeal.Hand

open Cert.KernelIdeal Cert.KernelIdeal.Gen Cert.Held Cert.Consts Cert.Softmax Cert.Attention
open Idealize.ShloMosaic Idealize.ShloMosaic.TcCoe Idealize.ShloMosaic.Tactic

variable (A : Args)

/-- A key block's lanes and values. -/
theorem given_k (hp : Fin 4) (j : Fin 16) (e : Fin 2) (s : Fin 512) (x : Fin 128) :
    (keysAt (given A) hp j).k e s x = kLane (A.k (head hp e)) (A.g (head hp e)) (row j s) x := by
  have h1 : (⟨(kcol hp (lane e x)).val / 128, by omega⟩ : Fin 8) = head hp e :=
    Fin.ext (by show (256 * hp.val + (128 * e.val + x.val)) / 128 = 2 * hp.val + e.val; omega)
  have h2 : (⟨(kcol hp (lane e x)).val % 128, by omega⟩ : Fin 128) = x :=
    Fin.ext (by show (256 * hp.val + (128 * e.val + x.val)) % 128 = x.val; omega)
  exact congrArg₂ (fun h y => kLane (A.k h) (A.g h) (row j s) y) h1 h2
theorem given_t (hp : Fin 4) (j : Fin 16) (e : Fin 2) (s : Fin 512) (x : Fin 128) :
    (keysAt (given A) hp j).t e x s = kLane (A.k (head hp e)) (A.g (head hp e)) (row j s) x * onTrue (1 / 8) x :=
  congrArg (· * onTrue (1 / 8) x) (given_k A hp j e s x)

/-- A column of values and cotangents, by head. -/
theorem vcol_head (hp : Fin 4) (e : Fin 2) (a : Fin 64) : (⟨(vcol hp (row64 e a)).val / 64, by omega⟩ : Fin 8) = head hp e :=
  Fin.ext (by show (128 * hp.val + (64 * e.val + a.val)) / 64 = 2 * hp.val + e.val; omega)
theorem vcol_lane (hp : Fin 4) (e : Fin 2) (a : Fin 64) : (⟨(vcol hp (row64 e a)).val % 64, by omega⟩ : Fin 64) = a :=
  Fin.ext (by show (128 * hp.val + (64 * e.val + a.val)) % 64 = a.val; omega)
theorem given_g (hp : Fin 4) (i : Fin 16) (e : Fin 2) (a : Fin 64) (t : Fin 512) :
    (given A).g hp i (row64 e a) t = A.c (head hp e) (row i t) a :=
  congrArg₂ (fun h y => A.c h (row i t) y) (vcol_head hp e a) (vcol_lane hp e a)

/-- A block's probabilities on and under the diagonal. -/
theorem given_prob (hp : Fin 4) {j i : Fin 16} (hji : j ≤ i) (e : Fin 2) (s t : Fin 512) :
    probAt (given A) hp j i e s t = soft A (head hp e) (row i t) (row j s) := by
  have hd : dotR ((keysAt (given A) hp j).k e) ((arrAt (given A) hp).q e i) s t = score A (head hp e) (row i t) (row j s) * (1 / Real.log 2) := by
    unfold dotR
    refine (Finset.sum_congr rfl fun x _ => congrArg (· * (arrAt (given A) hp).q e i x t) (given_k A hp j e s x)).trans ?_
    exact lane_score _ _ _ _ _
  have hi : j.val ≤ i.val := hji
  have hs := s.isLt
  have ht := t.isLt
  show (if decide (i = j) = true ∧ t < s then 0 else Real.rpow 2 (dotR ((keysAt (given A) hp j).k e) ((arrAt (given A) hp).q e i) s t - (given A).l (head hp e) i t)) = _
  split_ifs with h
  · have hij : i = j := of_decide_eq_true h.1
    have hts : t.val < s.val := h.2
    exact (pS_zero _ (by rw [hij]; show 512 * j.val + t.val < 512 * j.val + s.val; omega)).symm
  · rw [hd]
    refine pow_eq (score A (head hp e) (row i t)) (top A (head hp e) (row i t)) ?_
    show 512 * j.val + s.val ≤ 512 * i.val + t.val
    by_cases hij : i = j
    · have : ¬ t.val < s.val := fun hlt => h ⟨decide_eq_true hij, hlt⟩
      rw [hij]
      omega
    · have : i.val ≠ j.val := fun hv => hij (Fin.ext hv)
      omega

/-- A row's dot of its output with the output's cotangent. -/
theorem given_d (h : Fin 8) (i : Fin 16) (t : Fin 512) : (given A).d h i t = Attention.dot A h (row i t) := by
  show ∑ d, (∑ s, soft A h (row i t) s * A.v h s d) * A.c h (row i t) d = ∑ s, soft A h (row i t) s * ∑ d, A.c h (row i t) d * A.v h s d
  simp only [Finset.sum_mul, Finset.mul_sum]
  rw [Finset.sum_comm]
  exact Finset.sum_congr rfl fun s _ => Finset.sum_congr rfl fun d _ => by ring

/-- A block's score cotangents on and under the diagonal. -/
theorem given_grad (hp : Fin 4) {j i : Fin 16} (hji : j ≤ i) (e : Fin 2) (s t : Fin 512) :
    gradAt (given A) hp j i e s t = cot A (head hp e) (row i t) (row j s) := by
  have hd : dotR ((keysAt (given A) hp j).v e) ((arrAt (given A) hp).g i) s t = dp A (head hp e) (row i t) (row j s) := by
    unfold dotR
    show ∑ x : Fin 128, (if (x.val < 64 ↔ e = 0) then (given A).v (row j s) (vcol hp x) else 0) * (given A).g hp i x t = _
    simp only [ite_mul, zero_mul]
    rw [sum_kept e (fun x => (given A).v (row j s) (vcol hp x) * (given A).g hp i x t)]
    refine Finset.sum_congr rfl fun a _ => ?_
    rw [given_g, mul_comm]
    exact congrArg (A.c (head hp e) (row i t) a * ·) (congrArg₂ (fun h y => A.v h (row j s) y) (vcol_head hp e a) (vcol_lane hp e a))
  show probAt (given A) hp j i e s t * (dotR ((keysAt (given A) hp j).v e) ((arrAt (given A) hp).g i) s t - (given A).d (head hp e) i t) = _
  rw [given_prob A hp hji, hd, given_d]
  rfl

/-- Above the diagonal nothing. -/
theorem row_lt {j i : Fin 16} (h : ¬ j ≤ i) (s t : Fin 512) : row i t < row j s := by
  have h1 : i.val < j.val := not_le.mp h
  have ht := t.isLt
  show 512 * i.val + t.val < 512 * j.val + s.val
  omega
theorem soft_zero (h : Fin 8) {j i : Fin 16} (hji : ¬ j ≤ i) (s t : Fin 512) : soft A h (row i t) (row j s) = 0 := pS_zero _ (row_lt hji s t)
theorem cot_zero (h : Fin 8) {j i : Fin 16} (hji : ¬ j ≤ i) (s t : Fin 512) : cot A h (row i t) (row j s) = 0 := by
  rw [cot, soft_zero A h hji, zero_mul]

/-- The queries' gradient, by lanes. -/
theorem gotQ_at (h : Fin 8) (i : Fin 16) (a : Fin 128) (t : Fin 512) :
    gotQ (given A) h i a t = ∑ s, kLane (A.k h) (A.g h) s a * onTrue (1 / 8) a * cot A h (row i t) s := by
  rw [← sum_rows]
  unfold gotQ qSum
  refine Finset.sum_congr rfl fun j _ => ?_
  by_cases hji : j ≤ i
  · rw [if_pos ⟨j.isLt, hji⟩]
    refine Finset.sum_congr rfl fun s _ => ?_
    rw [given_t, given_grad A _ hji, head_of]
  · rw [if_neg (fun hh => hji hh.2)]
    refine (Finset.sum_eq_zero fun s _ => ?_).symm
    rw [cot_zero A h hji, mul_zero]

/-- The keys' gradient, by lanes. -/
theorem gotK_at (h : Fin 8) (j : Fin 16) (a : Fin 128) (s : Fin 512) :
    gotK (given A) h j a s = (∑ t, qLane (A.q h) t a * cot A h t (row j s)) * onTrue (Real.log 2) a := by
  rw [← sum_rows]
  unfold gotK kSum
  refine congrArg (· * onTrue (Real.log 2) a) (Finset.sum_congr rfl fun i _ => ?_)
  by_cases hji : j ≤ i
  · rw [if_pos hji]
    refine Finset.sum_congr rfl fun t _ => ?_
    rw [given_grad A _ hji, head_of]
    rfl
  · rw [if_neg hji]
    refine (Finset.sum_eq_zero fun t _ => ?_).symm
    rw [cot_zero A h hji, mul_zero]

/-- The values' gradient. -/
theorem vSum_at (hp : Fin 4) (j : Fin 16) (e : Fin 2) (a : Fin 64) (s : Fin 512) :
    vSum (given A) hp j e a s = dv A (head hp e) (row j s) a := by
  unfold dv
  rw [← sum_rows]
  unfold vSum
  refine Finset.sum_congr rfl fun i _ => ?_
  by_cases hji : j ≤ i
  · rw [if_pos hji]
    refine Finset.sum_congr rfl fun t _ => ?_
    rw [given_prob A _ hji, given_g]
  · rw [if_neg hji]
    refine (Finset.sum_eq_zero fun t _ => ?_).symm
    rw [soft_zero A _ hji, mul_zero]

/-- The results' lanes are the gradients. -/
theorem own_q : ownT (up4 (gotQ (given A))) = up3 (dq A) := by
  rw [own_up]
  refine congrArg up3 (funext fun h => funext fun r => funext fun x => ?_)
  rw [gotQ_at, row_of, row64_zero]
  refine Finset.sum_congr rfl fun s _ => ?_
  rw [kLane, dif_pos x.isLt, onTrue, if_pos x.isLt]
  ring
theorem own_k : ownT (up4 (gotK (given A))) = up3 (dk A) := by
  rw [own_up]
  refine congrArg up3 (funext fun h => funext fun r => funext fun x => ?_)
  rw [gotK_at, row_of, row64_zero, Finset.sum_mul]
  refine Finset.sum_congr rfl fun t _ => ?_
  rw [qLane, dif_pos x.isLt, onTrue, if_pos x.isLt]
  have hl := ln2_ne
  field_simp
theorem own_v : valT (up2 (gotV (given A))) = up3 (dv A) := by
  rw [val_up]
  refine congrArg up3 (funext fun h => funext fun r => funext fun x => ?_)
  unfold gotV
  rw [vSum_at, row_of]
  have h1 : head (hpC ⟨64 * h.val + x.val, by omega⟩) (eL (inC ⟨64 * h.val + x.val, by omega⟩)) = h :=
    Fin.ext (by show 2 * ((64 * h.val + x.val) / 128) + (64 * h.val + x.val) % 128 / 64 = h.val; omega)
  have h2 : inL (inC ⟨64 * h.val + x.val, by omega⟩) = x :=
    Fin.ext (by show (64 * h.val + x.val) % 128 % 64 = x.val; omega)
  rw [h1, h2]
theorem own_g : gateGradT (up4 (gotQ (given A))) (up4 (gotK (given A))) = up2 (dg A) := by
  rw [gateGrad_up]
  refine congrArg up2 (funext fun h => funext fun r => ?_)
  rw [gotQ_at, gotK_at, row_of]
  have e1 : onTrue (1 / 8) 67 = 1 := if_neg (by decide)
  have e2 : onTrue (Real.log 2) 64 = 1 := if_neg (by decide)
  have e3 : ∀ s, kLane (A.k h) (A.g h) s 67 = 1 := fun s => by
    rw [kLane, dif_neg (by decide), if_neg (by decide), if_pos (by decide)]
  have e4 : ∀ t, qLane (A.q h) t 64 = 1 := fun t => by
    rw [qLane, dif_neg (by decide), if_pos (by decide)]
  simp only [e1, e2, e3, e4, one_mul, mul_one]
  rfl

variable {A} {m : (ℓ : Loc nD τ sig) → Buf (Elt Ideal) ℓ} {c : Dev nD}

/-- What the program leaves for real arguments. -/
theorem out_q (H : Holds A m c) : Pipeline.afterTail₀ cfgs (dats m) 0 (V0 m) [hostOps1] c main_v69 = up3 (dq A) :=
  (W_q m c _ (left_6 (given_reads H))).trans (own_q A)
theorem out_k (H : Holds A m c) : Pipeline.afterTail₀ cfgs (dats m) 0 (V0 m) [hostOps1] c main_v72 = up3 (dk A) :=
  (W_k m c _ (left_7 (given_reads H))).trans (own_k A)
theorem out_v (H : Holds A m c) : Pipeline.afterTail₀ cfgs (dats m) 0 (V0 m) [hostOps1] c main_v81 = up3 (dv A) :=
  (W_v m c _ (left_8 (given_reads H))).trans (own_v A)
theorem out_g (H : Holds A m c) : Pipeline.afterTail₀ cfgs (dats m) 0 (V0 m) [hostOps1] c main_v78 = up2 (dg A) :=
  (W_g m c _ _ (left_6 (given_reads H)) (left_7 (given_reads H))).trans (own_g A)

end Cert.KernelIdeal.Hand
-- ==== Proof.RefTerms.lean ====
/-
  Hand-written. The reference's results as terms of its arguments, stage by stage.
-/
module

public import proofs.«01_k».proof.Proof.Gen.ReferenceIdeal.Run
public import proofs.«01_k».proof.Proof.Rows

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

/-- The causal mask. -/
def maskT : IVec S8x8192x8192 1 :=
  broadcastInDim S8x8192x8192 ![0, 1, 2] bcast_S1x8192x8192_S8x8192x8192_0_1_2
    (cmpi .sle
      (broadcastInDim S1x8192x8192 ![0, 1, 2] bcast_S1x1x8192_S1x8192x8192_0_1_2
        (broadcastInDim S1x1x8192 ![2] bcast_S8192_S1x1x8192_2 (iotaInDim S8192 32 0)))
      (broadcastInDim S1x8192x8192 ![0, 1, 2] bcast_S1x8192x1_S1x8192x8192_0_1_2
        (broadcastInDim S1x8192x1 ![1] bcast_S8192_S1x8192x1_1 (iotaInDim S8192 32 0))))
/-- An array of one number. -/
def allT (w : BitVec 32) : FVec Ideal S8x8192x8192 .f32 := broadcastInDim S8x8192x8192 ![] bcast_S_S8x8192x8192 (constant S_ .f32 w)
/-- A row's number, in every column. -/
def acrossT (x : FVec Ideal S8x8192x1 .f32) : FVec Ideal S8x8192x8192 .f32 :=
  broadcastInDim S8x8192x8192 ![0, 1, 2] bcast_S8x8192x1_S8x8192x8192_0_1_2 x
def tallT (x : FVec Ideal S8x8192 .f32) : FVec Ideal S8x8192x1 .f32 := broadcastInDim S8x8192x1 ![0, 1] bcast_S8x8192_S8x8192x1_0_1 x
/-- Each row's sum. -/
def rowSumT (x : FVec Ideal S8x8192x8192 .f32) : FVec Ideal S8x8192 .f32 :=
  Host.reduceAdd x (constant S_ .f32 0x00000000#32) reducesTo_S8x8192x8192_S8x8192_d2 h_S_

/-- The masked scores, their exponentials, and the rows' sums. -/
def scoreT (q k : FVec Ideal S8x8192x64 .f32) (g : FVec Ideal S8x8192 .f32) : FVec Ideal S8x8192x8192 .f32 :=
  select maskT
    (subf
      (addf
        (mulf (Host.dotGeneral dot_S8x8192x64_S8x8192x64_S8x8192x8192_2_2_1_1_0_0 none q k) (allT 0x3E000000#32))
        (acrossT (tallT g)))
      (broadcastInDim S8x8192x8192 ![0, 1, 2] bcast_S8x1x8192_S8x8192x8192_0_1_2
        (broadcastInDim S8x1x8192 ![0, 2] bcast_S8x8192_S8x1x8192_0_2 g)))
    (allT 0xFF800000#32)
def rowMaxT (s : FVec Ideal S8x8192x8192 .f32) : FVec Ideal S8x8192 .f32 :=
  Host.reduce FloatOps.maximumf s (constant S_ .f32 0xFF800000#32) reducesTo_S8x8192x8192_S8x8192_d2 h_S_
def topT (r : FVec Ideal S8x8192 .f32) : FVec Ideal S8x8192x1 .f32 :=
  tallT (maximumf (broadcastInDim S8x8192 ![] bcast_S_S8x8192 (constant S_ .f32 0xFF800000#32)) r)
def powT (s : FVec Ideal S8x8192x8192 .f32) (μ : FVec Ideal S8x8192x1 .f32) : FVec Ideal S8x8192x8192 .f32 :=
  Host.exp (subf s (acrossT μ))

/-- The probabilities' cotangents. -/
def dpT (v c : FVec Ideal S8x8192x64 .f32) : FVec Ideal S8x8192x8192 .f32 :=
  Host.dotGeneral dot_S8x8192x64_S8x8192x64_S8x8192x8192_2_2_1_1_0_0 none c v
/-- The cotangent of the rows' sums. -/
def dlT (e d : FVec Ideal S8x8192x8192 .f32) (l : FVec Ideal S8x8192x1 .f32) : FVec Ideal S8x8192 .f32 :=
  Host.reduceAdd
    (Host.negf
      (shapeCast S8x8192x1
        (rowSumT
          (mulf
            (mulf d (acrossT (Host.divf (broadcastInDim S8x8192x1 ![] bcast_S_S8x8192x1 (constant S_ .f32 0x3F800000#32)) (mulf l l))))
            e))
        shapeCasts_S8x8192_S8x8192x1))
    (constant S_ .f32 0x00000000#32) reducesTo_S8x8192x1_S8x8192_d2 h_S_
/-- The scores' cotangents. -/
def dsT (e d : FVec Ideal S8x8192x8192 .f32) (l : FVec Ideal S8x8192x1 .f32) (r : FVec Ideal S8x8192 .f32) : FVec Ideal S8x8192x8192 .f32 :=
  select maskT
    (mulf (addf (Host.divf d (acrossT l)) (broadcastInDim S8x8192x8192 ![0, 1] bcast_S8x8192_S8x8192x8192_0_1 r)) e)
    (allT 0x00000000#32)

/-- The gradients of the queries, keys, values and gates' sums. -/
def dqT (z : FVec Ideal S8x8192x8192 .f32) (k : FVec Ideal S8x8192x64 .f32) : FVec Ideal S8x8192x64 .f32 :=
  Host.dotGeneral dot_S8x8192x8192_S8x8192x64_S8x8192x64_2_1_1_2_0_0 none (mulf z (allT 0x3E000000#32)) k
def dkT (z : FVec Ideal S8x8192x8192 .f32) (q : FVec Ideal S8x8192x64 .f32) : FVec Ideal S8x8192x64 .f32 :=
  Host.dotGeneral dot_S8x8192x8192_S8x8192x64_S8x8192x64_1_1_2_2_0_0 none (mulf z (allT 0x3E000000#32)) q
def dvT (e : FVec Ideal S8x8192x8192 .f32) (l : FVec Ideal S8x8192x1 .f32) (c : FVec Ideal S8x8192x64 .f32) : FVec Ideal S8x8192x64 .f32 :=
  transpose S8x8192x64 [0, 2, 1]
    (Host.dotGeneral dot_S8x8192x64_S8x8192x8192_S8x64x8192_1_1_2_2_0_0 none c (Host.divf e (acrossT l)))
    transposes_S8x64x8192_S8x8192x64_0_2_1
def dgT (z : FVec Ideal S8x8192x8192 .f32) : FVec Ideal S8x8192 .f32 :=
  addf
    (Host.reduceAdd
      (shapeCast S8x1x8192
        (Host.reduceAdd (Host.negf z) (constant S_ .f32 0x00000000#32) reducesTo_S8x8192x8192_S8x8192_d1 h_S_)
        shapeCasts_S8x8192_S8x1x8192)
      (constant S_ .f32 0x00000000#32) reducesTo_S8x1x8192_S8x8192_d1 h_S_)
    (Host.reduceAdd (shapeCast S8x8192x1 (rowSumT z) shapeCasts_S8x8192_S8x8192x1)
      (constant S_ .f32 0x00000000#32) reducesTo_S8x8192x1_S8x8192_d2 h_S_)

variable (m : (ℓ : Loc nD τ sig) → Buf (Elt Ideal) ℓ) (c : Dev nD)

/-- The arguments. -/
abbrev argQ : FVec Ideal S8x8192x64 .f32 := m ((c.tc : Thread nD τ).loc main_arg0)
abbrev argK : FVec Ideal S8x8192x64 .f32 := m ((c.tc : Thread nD τ).loc main_arg1)
abbrev argV : FVec Ideal S8x8192x64 .f32 := m ((c.tc : Thread nD τ).loc main_arg2)
abbrev argG : FVec Ideal S8x8192 .f32 := m ((c.tc : Thread nD τ).loc main_arg3)
abbrev argC : FVec Ideal S8x8192x64 .f32 := m ((c.tc : Thread nD τ).loc main_arg4)

/-- The stages of the arguments. -/
def scoreM : FVec Ideal S8x8192x8192 .f32 := scoreT (argQ m c) (argK m c) (argG m c)
def powM : FVec Ideal S8x8192x8192 .f32 := powT (scoreM m c) (topT (rowMaxT (scoreM m c)))
def lenM : FVec Ideal S8x8192x1 .f32 := tallT (rowSumT (powM m c))
def dpM : FVec Ideal S8x8192x8192 .f32 := dpT (argV m c) (argC m c)
def dsM : FVec Ideal S8x8192x8192 .f32 := dsT (powM m c) (dpM m c) (lenM m c) (dlT (powM m c) (dpM m c) (lenM m c))

theorem res_dv : res_out2 m c = dvT (powM m c) (lenM m c) (argC m c) := by
  unfold res_out2 res_main_v46
  rfl
theorem res_dg : res_out3 m c = dgT (dsM m c) := by
  unfold res_out3 res_main_v68
  rfl
theorem res_dq : res_out0 m c = dqT (dsM m c) (argK m c) := by
  unfold res_out0 res_main_v72
  rfl
theorem res_dk : res_out1 m c = dkT (dsM m c) (argQ m c) := by
  unfold res_out1 res_main_v71
  rfl

end Cert.ReferenceIdeal.Hand
-- ==== Proof.RefReal.lean ====
/-
  Hand-written. The reference over the reals, stage by stage.
-/
module

public import proofs.«01_k».proof.Proof.RefTerms

@[expose] public section

set_option maxRecDepth 16384

noncomputable section

namespace Cert.ReferenceIdeal.Hand

open Cert.ReferenceIdeal Cert.ReferenceIdeal.Gen Cert.Consts Cert.Softmax Cert.Attention
open Cert.KernelIdeal.Hand (Mat up2 up3 up4 up2_ix up3_ix coeSum bit_rows exp_masked div_real select_ofBool)
open Idealize.ShloMosaic Idealize.ShloMosaic.TcCoe Idealize.ShloMosaic.Tactic

/-- The reference's score: the whole row's part is in it. -/
def full (A : Args) (h : Fin 8) (t s : Fin 8192) : ℝ := (∑ d, A.q h t d * A.k h s d) * (1 / 8) + A.g h t - A.g h s

variable (x : Fin 8 → Mat 8192 8192)

theorem score_at (A : Args) (h t s) : scoreT (up3 A.q) (up3 A.k) (up2 A.g) (ix3 h t s) = masked (full A h t) t s := by
  pointwise [scoreT, maskT, allT, acrossT, tallT]
  rw [bit_rows, select_ofBool, ofBits_eighth, ofBits_ninf]
  simp only [up3_ix, up2_ix, ← EReal.coe_mul, coeSum, ← EReal.coe_sub, ← EReal.coe_add]
  rfl
theorem rowMax_at (sc : FVec Ideal S8x8192x8192 .f32) (hs : ∀ h t s, sc (ix3 h t s) = masked (x h t) t s) :
    rowMaxT sc = up2 (fun h t => (max_real (x h t) t).choose) := by
  funext j
  idx_vars j
  pointwise [rowMaxT]
  rw [ofBits_ninf]
  exact (congrArg (fun f => Finset.univ.fold max ⊥ f) (funext fun s => hs j0 j1 s)).trans (max_real (x j0 j1) j1).choose_spec
theorem top_at (r : Mat 8 8192) : topT (up2 r) = up3 (fun h t (_ : Fin 1) => r h t) := by
  funext j
  idx_vars j
  pointwise [topT, tallT]
  rw [ofBits_ninf, max_eq_right bot_le]
  rfl
theorem pow_at (sc : FVec Ideal S8x8192x8192 .f32) (hs : ∀ h t s, sc (ix3 h t s) = masked (x h t) t s) (u : Fin 8 → Mat 8192 1) :
    powT sc (up3 u) = up3 (fun h t s => eS (x h t) (u h t 0) t s) := by
  funext j
  idx_vars j
  pointwise [powT, acrossT]
  rw [hs]
  exact exp_masked _ _ _ _
theorem len_at (f : Fin 8 → Mat 8192 8192) : tallT (rowSumT (up3 f)) = up3 (fun h t (_ : Fin 1) => ∑ s, f h t s) := by
  funext j
  idx_vars j
  pointwise [tallT, rowSumT]
  exact coeSum _
theorem dp_at (A : Args) : dpT (up3 A.v) (up3 A.c) = up3 (dp A) := by
  funext j
  idx_vars j
  pointwise [dpT]
  simp only [up3_ix, ← EReal.coe_mul, coeSum]
  rfl
theorem dl_at (e d : Fin 8 → Mat 8192 8192) (l : Fin 8 → Mat 8192 1) (hl : ∀ h t z, l h t z ≠ 0) :
    dlT (up3 e) (up3 d) (up3 l) = up2 (fun h t => -∑ s, d h t s * (1 / (l h t 0 * l h t 0)) * e h t s) := by
  funext j
  idx_vars j
  pointwise [dlT, rowSumT, acrossT]
  have hd : Ideal.div (1 : EReal) (up3 l (ix3 j0 j1 0) * up3 l (ix3 j0 j1 0)) = ((1 / (l j0 j1 0 * l j0 j1 0) : ℝ) : EReal) := by
    rw [up3_ix, ← EReal.coe_mul, ← EReal.coe_one]
    exact div_real _ (mul_ne_zero (hl j0 j1 0) (hl j0 j1 0))
  rw [Fin.sum_univ_one, hd]
  simp only [up3_ix, ← EReal.coe_mul, coeSum, ← EReal.coe_neg]
  rfl
theorem ds_at (e d : Fin 8 → Mat 8192 8192) (l : Fin 8 → Mat 8192 1) (hl : ∀ h t z, l h t z ≠ 0) (r : Mat 8 8192) :
    dsT (up3 e) (up3 d) (up3 l) (up2 r) = up3 (fun h t s => if s ≤ t then (d h t s / l h t 0 + r h t) * e h t s else 0) := by
  funext j
  idx_vars j
  pointwise [dsT, maskT, allT, acrossT]
  rw [bit_rows, select_ofBool, up3_ix, up3_ix, div_real _ (hl j0 j1 0)]
  simp only [up3_ix, up2_ix, ← EReal.coe_mul, ← EReal.coe_add]
  split_ifs <;> rfl
theorem dq_at (z : Fin 8 → Mat 8192 8192) (k : Fin 8 → Mat 8192 64) :
    dqT (up3 z) (up3 k) = up3 (fun h t d => ∑ s, z h t s * (1 / 8) * k h s d) := by
  funext j
  idx_vars j
  pointwise [dqT, allT]
  rw [ofBits_eighth]
  simp only [up3_ix, ← EReal.coe_mul, coeSum]
theorem dk_at (z : Fin 8 → Mat 8192 8192) (q : Fin 8 → Mat 8192 64) :
    dkT (up3 z) (up3 q) = up3 (fun h s d => ∑ t, z h t s * (1 / 8) * q h t d) := by
  funext j
  idx_vars j
  pointwise [dkT, allT]
  rw [ofBits_eighth]
  simp only [up3_ix, ← EReal.coe_mul, coeSum]
theorem dv_at (e : Fin 8 → Mat 8192 8192) (l : Fin 8 → Mat 8192 1) (hl : ∀ h t z, l h t z ≠ 0) (c : Fin 8 → Mat 8192 64) :
    dvT (up3 e) (up3 l) (up3 c) = up3 (fun h s d => ∑ t, c h t d * (e h t s / l h t 0)) := by
  funext j
  idx_vars j
  pointwise [dvT, acrossT]
  have hd : ∀ t, Ideal.div (up3 e (ix3 j0 t j1)) (up3 l (ix3 j0 t 0)) = ((e j0 t j1 / l j0 t 0 : ℝ) : EReal) := fun t => div_real _ (hl j0 t 0)
  simp only [hd]
  simp only [up3_ix, ← EReal.coe_mul, coeSum]
theorem dg_at (z : Fin 8 → Mat 8192 8192) : dgT (up3 z) = up2 (fun h r => (∑ s, z h r s) - ∑ t, z h t r) := by
  funext j
  idx_vars j
  pointwise [dgT, rowSumT]
  rw [Fin.sum_univ_one, Fin.sum_univ_one]
  simp only [up3_ix, coeSum, ← EReal.coe_neg, ← EReal.coe_add]
  refine congrArg (fun r : ℝ => (r : EReal)) ?_
  rw [Finset.sum_neg_distrib]
  exact (add_comm _ _).trans (sub_eq_add_neg _ _).symm

end Cert.ReferenceIdeal.Hand
-- ==== Proof.RefGrads.lean ====
/-
  Hand-written. What the reference leaves for real arguments: the attention's gradients.
-/
module

public import proofs.«01_k».proof.Proof.RefReal

@[expose] public section

set_option maxRecDepth 16384

noncomputable section

namespace Cert.ReferenceIdeal.Hand

open Cert.ReferenceIdeal Cert.ReferenceIdeal.Gen Cert.ReferenceIdeal.Value Cert.Softmax Cert.Attention
open Cert.KernelIdeal.Hand (Mat up2 up3)
open Idealize.ShloMosaic Idealize.ShloMosaic.TcCoe

/-- The memory's arguments are these reals. -/
structure Holds (A : Args) (m : (ℓ : Loc nD τ sig) → Buf (Elt Ideal) ℓ) (c : Dev nD) : Prop where
  q : argQ m c = up3 A.q
  k : argK m c = up3 A.k
  v : argV m c = up3 A.v
  g : argG m c = up2 A.g
  c : argC m c = up3 A.c

variable (A : Args)

/-- A row's maximum, exponentials and their sum. -/
def top (h : Fin 8) (t : Fin 8192) : ℝ := (max_real (full A h t) t).choose
def pow (h : Fin 8) : Mat 8192 8192 := fun t s => eS (full A h t) (top A h t) t s
def len (h : Fin 8) : Mat 8192 1 := fun t _ => lS (full A h t) (top A h t) t

/-- The sums are not zero, and the quotients are the probabilities. -/
theorem len_ne (h t z) : len A h t z ≠ 0 := (lS_pos (full A h t) (top A h t) t).ne'
theorem soft_eq (h : Fin 8) (t s : Fin 8192) : pow A h t s / len A h t 0 = soft A h t s := by
  refine (div_eq (full A h t) (top A h t) t s).trans ?_
  have e : full A h t = fun s => score A h t s + A.g h t := funext fun s => by
    unfold full score
    ring
  rw [e, pS_add]
  rfl

/-- The row dots, as the reference sums them. -/
theorem dot_eq (h : Fin 8) (t : Fin 8192) :
    -∑ s, dp A h t s * (1 / (len A h t 0 * len A h t 0)) * pow A h t s = -(dot A h t / len A h t 0) := by
  rw [dot, Finset.sum_div]
  refine congrArg Neg.neg (Finset.sum_congr rfl fun s _ => ?_)
  rw [← soft_eq]
  have hl := len_ne A h t 0
  field_simp

/-- The scores' cotangents, as the reference computes them. -/
theorem cot_eq (h : Fin 8) (t s : Fin 8192) :
    (if s ≤ t then (dp A h t s / len A h t 0 + -(dot A h t / len A h t 0)) * pow A h t s else 0) = cot A h t s := by
  split_ifs with hst
  · rw [cot, ← soft_eq]
    ring
  · have hz : soft A h t s = 0 := pS_zero _ (not_le.mp hst)
    rw [cot, hz, zero_mul]

variable {A} {m : (ℓ : Loc nD τ sig) → Buf (Elt Ideal) ℓ} {c : Dev nD}

/-- The stages of real arguments. -/
theorem scoreM_at (H : Holds A m c) (h t s) : scoreM m c (ix3 h t s) = masked (full A h t) t s := by
  unfold scoreM
  rw [H.q, H.k, H.g]
  exact score_at A h t s
theorem powM_at (H : Holds A m c) : powM m c = up3 (pow A) := by
  unfold powM
  rw [rowMax_at (full A) _ (scoreM_at H), top_at]
  exact pow_at (full A) _ (scoreM_at H) _
theorem lenM_at (H : Holds A m c) : lenM m c = up3 (len A) := by
  unfold lenM
  rw [powM_at H]
  exact len_at _
theorem dpM_at (H : Holds A m c) : dpM m c = up3 (dp A) := by
  unfold dpM
  rw [H.v, H.c]
  exact dp_at A
theorem dsM_at (H : Holds A m c) : dsM m c = up3 (cot A) := by
  unfold dsM
  rw [powM_at H, lenM_at H, dpM_at H, dl_at _ _ _ (len_ne A)]
  refine (ds_at _ _ _ (len_ne A) _).trans ?_
  refine congrArg up3 (funext fun h => funext fun t => funext fun s => ?_)
  rw [← cot_eq, dot_eq]

/-- The results of real arguments. -/
theorem out_q (H : Holds A m c) : res_out0 m c = up3 (dq A) := by
  rw [res_dq, dsM_at H, H.k]
  exact dq_at _ _
theorem out_k (H : Holds A m c) : res_out1 m c = up3 (dk A) := by
  rw [res_dk, dsM_at H, H.q]
  exact dk_at _ _
theorem out_v (H : Holds A m c) : res_out2 m c = up3 (dv A) := by
  rw [res_dv, powM_at H, lenM_at H, H.c]
  refine (dv_at _ _ (len_ne A) _).trans ?_
  refine congrArg up3 (funext fun h => funext fun s => funext fun d => Finset.sum_congr rfl fun t _ => ?_)
  rw [soft_eq]
theorem out_g (H : Holds A m c) : res_out3 m c = up2 (dg A) := by
  rw [res_dg, dsM_at H]
  exact dg_at _

end Cert.ReferenceIdeal.Hand
-- ==== Proof.Equal.lean ====
/-
  Hand-written. The kernel and the reference leave the same gradients of finite arguments.
-/
module

public import proofs.«01_k».proof.Proof.Finite
public import proofs.«01_k».proof.Proof.Grads
public import proofs.«01_k».proof.Proof.RefGrads
public import proofs.«01_k».proof.Proof.Frames

@[expose] public section

set_option maxRecDepth 16384

noncomputable section

namespace Cert.Finite

open Cert.Attention
open Cert.KernelIdeal.Hand (up2 up3)
open Idealize.ShloMosaic Idealize.ShloMosaic.TcCoe Idealize.SL.Sem

section Kernel
open Cert.KernelIdeal Cert.KernelIdeal.Gen Cert.KernelIdeal.Hand

/-- What the kernel's run leaves in its results. -/
theorem kernel_out {m : (ℓ : Loc nD τ sig) → Buf (Elt Ideal) ℓ} {r : PUnit × MemSt nD τ sig (Elt Ideal)}
    (h : Pipeline.FramePost cfgs (dats m) 0 (Pipeline.afterTail₀ cfgs (dats m) 0 (V0 m) [hostOps1]) r ∧ r.2.sem = fun _ => 0)
    {A : Args} (c : Dev nD) (H : Holds A m c) :
    r.2.mem ((c.tc : Thread nD τ).loc main_v69) = up3 (dq A)
      ∧ r.2.mem ((c.tc : Thread nD τ).loc main_v72) = up3 (dk A)
      ∧ r.2.mem ((c.tc : Thread nD τ).loc main_v81) = up3 (dv A)
      ∧ r.2.mem ((c.tc : Thread nD τ).loc main_v78) = up2 (dg A) := by
  have h := h.1 c
  exact ⟨(h.2 main_v69 (Pipeline.mem_restRefs_of main_v69 (by decide) (by decide))).trans (out_q H),
    (h.2 main_v72 (Pipeline.mem_restRefs_of main_v72 (by decide) (by decide))).trans (out_k H),
    (h.2 main_v81 (Pipeline.mem_restRefs_of main_v81 (by decide) (by decide))).trans (out_v H),
    (h.2 main_v78 (Pipeline.mem_restRefs_of main_v78 (by decide) (by decide))).trans (out_g H)⟩

end Kernel

/-- The value claim. -/
theorem algebraic : Cert.algebraic_KernelIdeal_ReferenceIdeal_pre_finite (hKernelIdeal := Cert.KernelIdeal.Gen.facts)
    (hReferenceIdeal := Cert.ReferenceIdeal.Gen.facts) (hPre_finite := facts) := by
  intro m g m' g' hpre hsame
  have H := holds m hpre
  have H' : ∀ c, Cert.ReferenceIdeal.Hand.Holds (argsOf m c) m' c := fun c =>
    ⟨(hsame c).1.trans (H c).q, (hsame c).2.1.trans (H c).k, (hsame c).2.2.1.trans (H c).v, (hsame c).2.2.2.1.trans (H c).g,
      (hsame c).2.2.2.2.trans (H c).c⟩
  refine ⟨fun c => up3 (dq (argsOf m c)), fun c => up3 (dk (argsOf m c)), fun c => up3 (dv (argsOf m c)), fun c => up2 (dg (argsOf m c)), ?_, ?_⟩
  · refine (θ_run _ _ _).mono (fun r h c => ?_) (Cert.KernelIdeal.Hand.run_main m g)
    obtain ⟨h1, h2, h3, h4⟩ := kernel_out h c (H c)
    exact ⟨h1, h2, h3, h4, (Cert.Frames.kept m h).1 c⟩
  · refine (θ_run _ _ _).mono (fun r h c => ?_) (Cert.ReferenceIdeal.Value.run m' g')
    obtain ⟨h1, h2, h3, h4, hk⟩ := h c
    exact ⟨h1.trans (Cert.ReferenceIdeal.Hand.out_q (H' c)), h2.trans (Cert.ReferenceIdeal.Hand.out_k (H' c)),
      h3.trans (Cert.ReferenceIdeal.Hand.out_v (H' c)), h4.trans (Cert.ReferenceIdeal.Hand.out_g (H' c)), hk⟩

end Cert.Finite
-- ==== Proof.Mla.Consts.lean ====
/-
  Hand-written. The scores' scale of heads of 96 lanes as a real number.
-/
module

public import proofs.«01_k».proof.Proof.Consts

@[expose] public section

noncomputable section

namespace Cert.Consts

open Idealize.ShloMosaic

/-- The scores' scale: the 32-bit float nearest to one over the square root of 96. -/
def scaleR : ℝ := 3424635 / 33554432

/-- The scale's word is that number. -/
theorem ofBits_scale : Ideal.ofBits .f32 0x3DD105EC#32 = ((scaleR : ℝ) : EReal) := by
  simp [Ideal.ofBits, Ideal.ieee, scaleR, -EReal.coe_mul]
  norm_num

end Cert.Consts
-- ==== Proof.Mla.Steps.lean ====
/-
  Hand-written. Over the real numbers: what one step of the kernel adds. Where the blocks hold real numbers, the
  probabilities, the score gradients and the shares of a step are sums of products of real numbers.
-/
module

public import proofs.«01_k».proof.Proof.Mla.Model
public import Idealize.ShloMosaic.Lib.Pointwise
public import proofs.«01_k».proof.Proof.Mla.Consts
public import proofs.«01_k».proof.Proof.Rows
public import proofs.«01_k».proof.Proof.Sums

@[expose] public section

set_option maxRecDepth 16384

noncomputable section

namespace Cert.Kernel2Ideal.Hand

open Cert.Kernel2Ideal Cert.Kernel2Ideal.Gen Cert.Held
open Cert.KernelIdeal.Hand (Mat up2 upR up4 up2_ix upR_ix coeSum lo hi dotR pR zR exp2_masked bit_lo bit_hi row64 row64_zero
  head)
open Idealize.ShloMosaic Idealize.ShloMosaic.TcCoe Idealize.ShloMosaic.Tactic

section Values

variable (k v : Mat 512 128) (q g : Mat 128 512) (l d : Fin 512 → ℝ)

/-- Half an unmasked tile's probabilities. -/
theorem pOf_lo : pOf (F := Ideal) (up2 k) (up2 q) (upR l) ![0, 0] slices_S128x512_o0_0_S128x256 slices_S1x512_o0_0_S1x256
    = up2 (fun s c => pR false k q l s (lo c)) := by
  funext j
  idx_vars j
  pointwise [pOf, pr, sc, rep]
  simp only [up2_ix, upR_ix, ← EReal.coe_mul, coeSum, ← EReal.coe_sub]
  rfl
theorem pOf_hi : pOf (F := Ideal) (up2 k) (up2 q) (upR l) ![0, 256] slices_S128x512_o0_256_S128x256 slices_S1x512_o0_256_S1x256
    = up2 (fun s c => pR false k q l s (hi c)) := by
  funext j
  idx_vars j
  pointwise [pOf, pr, sc, rep]
  simp only [up2_ix, upR_ix, ← EReal.coe_mul, coeSum, ← EReal.coe_sub]
  rfl

/-- Half a tile's score gradients. -/
theorem zOf_lo (p : Mat 512 256) : zOf (F := Ideal) (up2 v) (up2 g) (upR d) ![0, 0] slices_S128x512_o0_0_S128x256 slices_S1x512_o0_0_S1x256 (up2 p)
    = up2 (fun s c => p s c * (dotR v g s (lo c) - d (lo c))) := by
  funext j
  idx_vars j
  pointwise [zOf, ds, sc, rep]
  simp only [up2_ix, upR_ix, ← EReal.coe_mul, coeSum, ← EReal.coe_sub]
  rfl
theorem zOf_hi (p : Mat 512 256) : zOf (F := Ideal) (up2 v) (up2 g) (upR d) ![0, 256] slices_S128x512_o0_256_S128x256 slices_S1x512_o0_256_S1x256 (up2 p)
    = up2 (fun s c => p s c * (dotR v g s (hi c) - d (hi c))) := by
  funext j
  idx_vars j
  pointwise [zOf, ds, sc, rep]
  simp only [up2_ix, upR_ix, ← EReal.coe_mul, coeSum, ← EReal.coe_sub]
  rfl

/-- The diagonal tile's probabilities. -/
theorem pOfD_eq : pOfD (F := Ideal) (up2 k) (up2 q) (upR l) = up2 (fun s c => pR true k q l (lo s) (lo c)) := by
  funext j
  idx_vars j
  pointwise [pOfD, prD, maskD, scD, repD]
  simp only [up2_ix, upR_ix, ← EReal.coe_mul, coeSum]
  rw [exp2_masked]
  congr 1
  unfold pR
  by_cases h : lo j1 < lo j0
  · rw [if_neg (fun e => (bit_lo j0 j1).1 e h), if_pos ⟨rfl, h⟩]
  · rw [if_pos ((bit_lo j0 j1).2 h), if_neg (fun e => h e.2)]
    rfl
theorem pOf1_eq : pOf1 (F := Ideal) (up2 k) (up2 q) (upR l) = up2 (fun s c => pR true k q l s (hi c)) := by
  funext j
  idx_vars j
  pointwise [pOf1, pr, mask1, sc, rep]
  simp only [up2_ix, upR_ix, ← EReal.coe_mul, coeSum]
  rw [exp2_masked]
  congr 1
  unfold pR
  by_cases h : hi j1 < j0
  · rw [if_neg (fun e => (bit_hi j0 j1).1 e h), if_pos ⟨rfl, h⟩]
  · rw [if_pos ((bit_hi j0 j1).2 h), if_neg (fun e => h e.2)]
    rfl
theorem zOfD_eq (p : Mat 256 256) : zOfD (F := Ideal) (up2 v) (up2 g) (upR d) (up2 p)
    = up2 (fun s c => p s c * (dotR v g (lo s) (lo c) - d (lo c))) := by
  funext j
  idx_vars j
  pointwise [zOfD, dsD, scD, repD]
  simp only [up2_ix, upR_ix, ← EReal.coe_mul, coeSum, ← EReal.coe_sub]
  rfl

/-- The score gradients of the two halves as those of a tile. -/
theorem zOf_lo' (m : Bool) : zOf (F := Ideal) (up2 v) (up2 g) (upR d) ![0, 0] slices_S128x512_o0_0_S128x256 slices_S1x512_o0_0_S1x256
      (up2 fun s c => pR m k q l s (lo c)) = up2 (fun s c => zR (pR m k q l) v g d s (lo c)) := zOf_lo v g d _
theorem zOf_hi' (m : Bool) : zOf (F := Ideal) (up2 v) (up2 g) (upR d) ![0, 256] slices_S128x512_o0_256_S128x256 slices_S1x512_o0_256_S1x256
      (up2 fun s c => pR m k q l s (hi c)) = up2 (fun s c => zR (pR m k q l) v g d s (hi c)) := zOf_hi v g d _
theorem zOfD_eq' (m : Bool) : zOfD (F := Ideal) (up2 v) (up2 g) (upR d) (up2 fun s c => pR m k q l (lo s) (lo c))
    = up2 (fun s c => zR (pR m k q l) v g d (lo s) (lo c)) := zOfD_eq v g d _

/-! The shares. -/

theorem dvAdd_0lo (p : Mat 512 256) : dvAdd (F := Ideal) (up2 g) ![0, 0] slices_S128x512_o0_0_S64x256 (up2 p)
    = up2 (fun a s => ∑ c, g (row64 0 a) (lo c) * p s c) := by
  funext j
  idx_vars j
  pointwise [dvAdd]
  simp only [up2_ix, ← EReal.coe_mul, coeSum]
  refine Eq.trans ?_ (congrArg (fun r => ((∑ c, g r (lo c) * p j1 c : ℝ) : EReal)) (row64_zero j0).symm)
  rfl
theorem dvAdd_0hi (p : Mat 512 256) : dvAdd (F := Ideal) (up2 g) ![0, 256] slices_S128x512_o0_256_S64x256 (up2 p)
    = up2 (fun a s => ∑ c, g (row64 0 a) (hi c) * p s c) := by
  funext j
  idx_vars j
  pointwise [dvAdd]
  simp only [up2_ix, ← EReal.coe_mul, coeSum]
  refine Eq.trans ?_ (congrArg (fun r => ((∑ c, g r (hi c) * p j1 c : ℝ) : EReal)) (row64_zero j0).symm)
  rfl
theorem dvAdd_1lo (p : Mat 512 256) : dvAdd (F := Ideal) (up2 g) ![64, 0] slices_S128x512_o64_0_S64x256 (up2 p)
    = up2 (fun a s => ∑ c, g (row64 1 a) (lo c) * p s c) := by
  funext j
  idx_vars j
  pointwise [dvAdd]
  simp only [up2_ix, ← EReal.coe_mul, coeSum]
  rfl
theorem dvAdd_1hi (p : Mat 512 256) : dvAdd (F := Ideal) (up2 g) ![64, 256] slices_S128x512_o64_256_S64x256 (up2 p)
    = up2 (fun a s => ∑ c, g (row64 1 a) (hi c) * p s c) := by
  funext j
  idx_vars j
  pointwise [dvAdd]
  simp only [up2_ix, ← EReal.coe_mul, coeSum]
  rfl
theorem dvAddD_0 (p : Mat 256 256) : dvAddD (F := Ideal) (up2 g) ![0, 0] slices_S128x512_o0_0_S64x256 (up2 p)
    = up2 (fun a s => ∑ c, g (row64 0 a) (lo c) * p s c) := by
  funext j
  idx_vars j
  pointwise [dvAddD]
  simp only [up2_ix, ← EReal.coe_mul, coeSum]
  refine Eq.trans ?_ (congrArg (fun r => ((∑ c, g r (lo c) * p j1 c : ℝ) : EReal)) (row64_zero j0).symm)
  rfl
theorem dvAddD_1 (p : Mat 256 256) : dvAddD (F := Ideal) (up2 g) ![64, 0] slices_S128x512_o64_0_S64x256 (up2 p)
    = up2 (fun a s => ∑ c, g (row64 1 a) (lo c) * p s c) := by
  funext j
  idx_vars j
  pointwise [dvAddD]
  simp only [up2_ix, ← EReal.coe_mul, coeSum]
  rfl
theorem dkAdd_lo (z : Mat 512 256) : dkAdd (F := Ideal) (up2 q) ![0, 0] slices_S128x512_o0_0_S128x256 (up2 z)
    = up2 (fun a s => ∑ c, q a (lo c) * z s c) := by
  funext j
  idx_vars j
  pointwise [dkAdd]
  simp only [up2_ix, ← EReal.coe_mul, coeSum]
  rfl
theorem dkAdd_hi (z : Mat 512 256) : dkAdd (F := Ideal) (up2 q) ![0, 256] slices_S128x512_o0_256_S128x256 (up2 z)
    = up2 (fun a s => ∑ c, q a (hi c) * z s c) := by
  funext j
  idx_vars j
  pointwise [dkAdd]
  simp only [up2_ix, ← EReal.coe_mul, coeSum]
  rfl
theorem dkAddD_eq (z : Mat 256 256) : dkAddD (F := Ideal) (up2 q) (up2 z) = up2 (fun a s => ∑ c, q a (lo c) * z s c) := by
  funext j
  idx_vars j
  pointwise [dkAddD]
  simp only [up2_ix, ← EReal.coe_mul, coeSum]
  rfl
theorem dqAdd_eq (t : Mat 128 512) (z : Mat 512 256) : dqAdd (F := Ideal) (up2 t) (up2 z) = up2 (fun a c => ∑ s, t a s * z s c) := by
  funext j
  idx_vars j
  pointwise [dqAdd]
  simp only [up2_ix, ← EReal.coe_mul, coeSum]
theorem dqAddD_eq (t : Mat 128 512) (z : Mat 256 256) : dqAddD (F := Ideal) (up2 t) (up2 z) = up2 (fun a c => ∑ s, t a (lo s) * z s c) := by
  funext j
  idx_vars j
  pointwise [dqAddD]
  simp only [up2_ix, ← EReal.coe_mul, coeSum]
  rfl
/-- Two halves side by side are the matrix whose halves they are. -/
theorem both_eq (x y : Mat 128 256) (f : Mat 128 512) (hx : ∀ a c, f a (lo c) = x a c) (hy : ∀ a c, f a (hi c) = y a c) :
    both (F := Ideal) (up2 x) (up2 y) = up2 f := by
  funext j
  idx_vars j
  pointwise [both]
  split
  · rename_i h
    exact congrArg _ (hx j0 ⟨j1.val, h⟩).symm
  · rename_i h
    have e : hi ⟨j1.val - 256, by omega⟩ = j1 := Fin.ext (by show 256 + (j1.val - 256) = j1.val; omega)
    have := hy j0 ⟨j1.val - 256, by omega⟩
    rw [e] at this
    exact congrArg _ this.symm

/-! The updates. -/

theorem up64_eq (x a : Mat 64 512) : bumped (e := .f32) r64 (up64 (F := Ideal) (up2 x)) (up2 a) = up2 (fun r s => a r s + x r s) := by
  unfold bumped
  rw [show pick r64 (up2 a) = up2 a from pick_full _ _]
  refine (patch_full _ _ _).trans ?_
  funext j
  idx_vars j
  pointwise [up64]
  rfl
theorem up128_eq (x a : Mat 128 512) : bumped (e := .f32) r128 (up128 (F := Ideal) (up2 x)) (up2 a) = up2 (fun r s => a r s + x r s) := by
  unfold bumped
  rw [show pick r128 (up2 a) = up2 a from pick_full _ _]
  refine (patch_full _ _ _).trans ?_
  funext j
  idx_vars j
  pointwise [up128]
  rfl

/-- An update of the first 256 keys. -/
theorem up64D_eq (x : Mat 64 256) (a f : Mat 64 512) (hl : ∀ r s, f r (lo s) = a r (lo s) + x r s) (hh : ∀ r s, f r (hi s) = a r (hi s)) :
    bumped (e := .f32) r64D (up64D (F := Ideal) (up2 x)) (up2 a) = up2 f := by
  funext j
  idx_vars j
  unfold bumped
  by_cases h : j1.val < 256
  · have e : r64D.emb (ix2 j0 ⟨j1.val, h⟩) = ix2 j0 j1 := by
      funext b
      refine Fin.ext ?_
      rw [Rect.emb_apply]
      fin_cases b
      · show 0 + 1 * j0.val = j0.val; omega
      · show 0 + 1 * j1.val = j1.val; omega
    rw [← e, patch_emb]
    refine Eq.trans ?_ (congrArg (up2 f) e).symm
    have h2 : up64D (F := Ideal) (up2 x) (pick r64D (up2 a)) (ix2 j0 ⟨j1.val, h⟩)
        = pick r64D (up2 a) (ix2 j0 ⟨j1.val, h⟩) + up2 x (ix2 j0 ⟨j1.val, h⟩) := by
      pointwise [up64D]
    refine h2.trans ?_
    rw [show pick r64D (up2 a) (ix2 j0 ⟨j1.val, h⟩) = up2 a (ix2 j0 j1) from congrArg (up2 a) e]
    exact congrArg (fun r : ℝ => (r : EReal)) (hl j0 ⟨j1.val, h⟩).symm
  · rw [patch_miss _ _ _ _ fun y hy => h ?_]
    · have := hh j0 ⟨j1.val - 256, by omega⟩
      rw [show hi ⟨j1.val - 256, by omega⟩ = j1 from Fin.ext (by show 256 + (j1.val - 256) = j1.val; omega)] at this
      exact congrArg _ this.symm
    · have h1 := congrArg (fun z => (z 1).val) hy
      dsimp only at h1
      rw [Rect.emb_apply] at h1
      have h2 : 0 + 1 * (y 1).val = j1.val := h1
      have h3 : (y 1).val < 256 := (y 1).isLt
      omega
theorem up128D_eq (x : Mat 128 256) (a f : Mat 128 512) (hl : ∀ r s, f r (lo s) = a r (lo s) + x r s) (hh : ∀ r s, f r (hi s) = a r (hi s)) :
    bumped (e := .f32) r128D (up128D (F := Ideal) (up2 x)) (up2 a) = up2 f := by
  funext j
  idx_vars j
  unfold bumped
  by_cases h : j1.val < 256
  · have e : r128D.emb (ix2 j0 ⟨j1.val, h⟩) = ix2 j0 j1 := by
      funext b
      refine Fin.ext ?_
      rw [Rect.emb_apply]
      fin_cases b
      · show 0 + 1 * j0.val = j0.val; omega
      · show 0 + 1 * j1.val = j1.val; omega
    rw [← e, patch_emb]
    refine Eq.trans ?_ (congrArg (up2 f) e).symm
    have h2 : up128D (F := Ideal) (up2 x) (pick r128D (up2 a)) (ix2 j0 ⟨j1.val, h⟩)
        = pick r128D (up2 a) (ix2 j0 ⟨j1.val, h⟩) + up2 x (ix2 j0 ⟨j1.val, h⟩) := by
      pointwise [up128D]
    refine h2.trans ?_
    rw [show pick r128D (up2 a) (ix2 j0 ⟨j1.val, h⟩) = up2 a (ix2 j0 j1) from congrArg (up2 a) e]
    exact congrArg (fun r : ℝ => (r : EReal)) (hl j0 ⟨j1.val, h⟩).symm
  · rw [patch_miss _ _ _ _ fun y hy => h ?_]
    · have := hh j0 ⟨j1.val - 256, by omega⟩
      rw [show hi ⟨j1.val - 256, by omega⟩ = j1 from Fin.ext (by show 256 + (j1.val - 256) = j1.val; omega)] at this
      exact congrArg _ this.symm
    · have h1 := congrArg (fun z => (z 1).val) hy
      dsimp only at h1
      rw [Rect.emb_apply] at h1
      have h2 : 0 + 1 * (y 1).val = j1.val := h1
      have h3 : (y 1).val < 256 := (y 1).isLt
      omega

/-! ## Tiles of the head pair's arrays -/

/-- One tile read. -/
theorem pick_tile {A : ℕ} {B C : ℕ} {α : Type} (o : Fin 4 → ℕ) (e : Fin A) (n : Fin 16) (ho : o = ![e.val, n.val, 0, 0])
    (inb : ∀ x, o x + (⟨4, ![1, 1, B, C]⟩ : Shape).size x ≤ (⟨4, ![A, 16, B, C]⟩ : Shape).size x)
    (X : (⟨4, ![A, 16, B, C]⟩ : Shape).Idx → α) (a : Fin B) (b : Fin C) :
    pick (Rect.unit (s := ⟨4, ![A, 16, B, C]⟩) o (⟨4, ![1, 1, B, C]⟩ : Shape).size inb) X (ix4 0 0 a b) = X (ix4 e n a b) := by
  subst ho
  refine congrArg X ?_
  funext x
  refine Fin.ext ?_
  rw [Rect.emb_apply]
  fin_cases x
  · show e.val + 1 * 0 = e.val; omega
  · show n.val + 1 * 0 = n.val; omega
  · show 0 + 1 * a.val = a.val; omega
  · show 0 + 1 * b.val = b.val; omega

/-- One tile replaced: the replacement at the tile's indices, the array elsewhere. -/
theorem patch_tile {A : ℕ} {B C : ℕ} {α : Type} (o : Fin 4 → ℕ) (e : Fin A) (n : Fin 16) (ho : o = ![e.val, n.val, 0, 0])
    (inb : ∀ x, o x + (⟨4, ![1, 1, B, C]⟩ : Shape).size x ≤ (⟨4, ![A, 16, B, C]⟩ : Shape).size x)
    (X : (⟨4, ![A, 16, B, C]⟩ : Shape).Idx → α) (w : (⟨4, ![1, 1, B, C]⟩ : Shape).Idx → α) (e' : Fin A) (n' : Fin 16) (a : Fin B) (b : Fin C) :
    patch (Rect.unit (s := ⟨4, ![A, 16, B, C]⟩) o (⟨4, ![1, 1, B, C]⟩ : Shape).size inb) X w (ix4 e' n' a b)
      = if e' = e ∧ n' = n then w (ix4 0 0 a b) else X (ix4 e' n' a b) := by
  subst ho
  by_cases h : e' = e ∧ n' = n
  · rw [if_pos h]
    obtain ⟨rfl, rfl⟩ := h
    have e : (Rect.unit (s := ⟨4, ![A, 16, B, C]⟩) ![e'.val, n'.val, 0, 0] (⟨4, ![1, 1, B, C]⟩ : Shape).size inb).emb (ix4 0 0 a b) = ix4 e' n' a b := by
      funext x
      refine Fin.ext ?_
      rw [Rect.emb_apply]
      fin_cases x
      · show e'.val + 1 * 0 = e'.val; omega
      · show n'.val + 1 * 0 = n'.val; omega
      · show 0 + 1 * a.val = a.val; omega
      · show 0 + 1 * b.val = b.val; omega
    rw [← e]
    exact patch_emb _ _ _ _
  · rw [if_neg h]
    refine patch_miss _ _ _ _ fun y hy => h ?_
    have h0 := congrArg (fun z => (z 0).val) hy
    have h1 := congrArg (fun z => (z 1).val) hy
    dsimp only at h0 h1
    rw [Rect.emb_apply] at h0 h1
    have g0 : e.val + 1 * (y 0).val = e'.val := h0
    have g1 : n.val + 1 * (y 1).val = n'.val := h1
    have f0 : (y 0).val < 1 := (y 0).isLt
    have f1 : (y 1).val < 1 := (y 1).isLt
    exact ⟨Fin.ext (by omega), Fin.ext (by omega)⟩

/-- The queries' gradient after a step at tile `n`. -/
theorem qStep_eq (o : Offs) (n : Fin 16) (h0 : o.b0 = ![0, n.val, 0, 0]) (h1 : o.b1 = ![1, n.val, 0, 0]) (w : Fin 2 → Mat 128 512)
    (f : Fin 2 → Fin 16 → Mat 128 512) :
    qStep (F := Ideal) o (up2 (w 0)) (up2 (w 1)) (up4 f) = up4 (fun e i a t => if i = n then f e i a t + w e a t else f e i a t) := by
  funext j
  idx_vars j
  have u : ∀ (x : Mat 128 512) (y : Vec Ideal S1x1x128x512 .f32) (a : Fin 128) (t : Fin 512),
      upQ (F := Ideal) (up2 x) y (ix4 0 0 a t) = y (ix4 0 0 a t) + ((x a t : ℝ) : EReal) := by
    intro x y a t
    pointwise [upQ]
    rfl
  unfold qStep bumped
  refine (patch_tile (α := EReal) o.b1 (1 : Fin 2) n h1 _ _ _ j0 j1 j2 j3).trans ?_
  have e0 := fun (e' : Fin 2) (n' : Fin 16) => patch_tile (α := EReal) o.b0 (0 : Fin 2) n h0 o.hb0 (up4 f)
    (upQ (F := Ideal) (up2 (w 0)) (pick o.rb0 (up4 f))) e' n' j2 j3
  have p0 : pick o.rb0 (up4 f) (ix4 0 0 j2 j3) = up4 f (ix4 0 n j2 j3) := pick_tile o.b0 (0 : Fin 2) n h0 o.hb0 (up4 f) j2 j3
  by_cases hj : j0 = 1 ∧ j1 = n
  · rw [if_pos hj]
    obtain ⟨rfl, rfl⟩ := hj
    refine (u _ _ _ _).trans ?_
    rw [show pick o.rb1 (patch o.rb0 (up4 f) (upQ (F := Ideal) (up2 (w 0)) (pick o.rb0 (up4 f)))) (ix4 0 0 j2 j3)
      = patch o.rb0 (up4 f) (upQ (F := Ideal) (up2 (w 0)) (pick o.rb0 (up4 f))) (ix4 1 j1 j2 j3) from pick_tile o.b1 (1 : Fin 2) j1 h1 o.hb1 _ j2 j3]
    rw [show patch o.rb0 (up4 f) (upQ (F := Ideal) (up2 (w 0)) (pick o.rb0 (up4 f))) (ix4 1 j1 j2 j3) = up4 f (ix4 1 j1 j2 j3) from
      (e0 1 j1).trans (if_neg (by rintro ⟨h, _⟩; exact absurd h (by decide)))]
    show ((f 1 j1 j2 j3 : ℝ) : EReal) + ((w 1 j2 j3 : ℝ) : EReal) = (((if j1 = j1 then f 1 j1 j2 j3 + w 1 j2 j3 else f 1 j1 j2 j3 : ℝ)) : EReal)
    rw [if_pos rfl, EReal.coe_add]
  · rw [if_neg hj]
    refine (e0 j0 j1).trans ?_
    by_cases h : j0 = 0 ∧ j1 = n
    · rw [if_pos h]
      obtain ⟨rfl, rfl⟩ := h
      refine (u _ _ _ _).trans ?_
      rw [p0]
      show ((f 0 j1 j2 j3 : ℝ) : EReal) + ((w 0 j2 j3 : ℝ) : EReal) = (((if j1 = j1 then f 0 j1 j2 j3 + w 0 j2 j3 else f 0 j1 j2 j3 : ℝ)) : EReal)
      rw [if_pos rfl, EReal.coe_add]
    · rw [if_neg h]
      have hn : j1 ≠ n := by
        intro e
        have : j0 = 0 ∨ j0 = 1 := by omega
        rcases this with e' | e'
        · exact h ⟨e', e⟩
        · exact hj ⟨e', e⟩
      show ((f j0 j1 j2 j3 : ℝ) : EReal) = (((if j1 = n then f j0 j1 j2 j3 + w j0 j2 j3 else f j0 j1 j2 j3 : ℝ)) : EReal)
      rw [if_neg hn]

end Values

end Cert.Kernel2Ideal.Hand
-- ==== Proof.Mla.Offsets.lean ====
/-
  Hand-written. Which tiles a grid point's steps meet: the diagonal tile, then every later tile in order.
-/
module

public import proofs.«01_k».proof.Proof.Mla.Model

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic

/-- The offsets read tile `n` of both heads. -/
structure Offs.At (o : Offs) (n : ℕ) : Prop where
  a : o.a = ![0, n, 0, 0]
  b0 : o.b0 = ![0, n, 0, 0]
  b1 : o.b1 = ![1, n, 0, 0]
  c0 : o.c0 = ![0, n, 0, 0]
  c1 : o.c1 = ![1, n, 0, 0]

/-- The same, as a test. -/
def Offs.isAt (o : Offs) (n : ℕ) : Bool :=
  decide (o.a = ![0, n, 0, 0]) && (decide (o.b0 = ![0, n, 0, 0]) && (decide (o.b1 = ![1, n, 0, 0]) &&
    (decide (o.c0 = ![0, n, 0, 0]) && decide (o.c1 = ![1, n, 0, 0]))))

theorem Offs.at_of {o : Offs} {n : ℕ} (h : o.isAt n = true) : o.At n := by
  unfold Offs.isAt at h
  simp only [Bool.and_eq_true, decide_eq_true_eq] at h
  exact ⟨h.1, h.2.1, h.2.2.1, h.2.2.2.1, h.2.2.2.2⟩

theorem offsD_at : ∀ i : grid0.Coords, (offsD i).isAt (i 1).val = true := by decide +kernel
theorem offs1_at : ∀ (i : grid0.Coords) (k : Fin (k0_t1_loop i).trips) (w : Fin 4),
    (offs1 i k w).isAt ((i 1).val + 1 + 4 * k.val + w.val) = true := by decide +kernel
theorem offs2_at : ∀ (i : grid0.Coords) (k : Fin (k0_t2_loop i).trips) (w : Fin 4),
    (offs2 i k w).isAt ((i 1).val + 1 + 4 * (k0_t1_loop i).trips + 4 * k.val + w.val) = true := by decide +kernel
theorem offs3_at : ∀ (i : grid0.Coords) (k : Fin (k0_t3_loop i).trips),
    (offs3 i k).isAt ((i 1).val + 1 + 4 * (k0_t1_loop i).trips + 4 * (k0_t2_loop i).trips + k.val) = true := by decide +kernel
theorem offs4_at : ∀ (i : grid0.Coords) (k : Fin (k0_t4_loop i).trips),
    (offs4 i k).isAt ((i 1).val + 1 + 4 * (k0_t1_loop i).trips + 4 * (k0_t2_loop i).trips + (k0_t3_loop i).trips + k.val) = true := by decide +kernel
/-- Together the loops meet every tile after the diagonal one. -/
theorem trips_all : ∀ i : grid0.Coords, (i 1).val + 1 + 4 * (k0_t1_loop i).trips + 4 * (k0_t2_loop i).trips + (k0_t3_loop i).trips
    + (k0_t4_loop i).trips = 16 := by decide +kernel

end Cert.Kernel2Ideal.Hand
-- ==== Proof.Mla.Column.lean ====
/-
  Hand-written. Over the real numbers: what a grid point adds to the gradients. Its steps meet the tiles from the
  diagonal one on, and each adds its share; together they add the sums over those tiles.
-/
module

public import proofs.«01_k».proof.Proof.Mla.Steps
public import proofs.«01_k».proof.Proof.Mla.Offsets

@[expose] public section

set_option maxRecDepth 16384

noncomputable section

namespace Cert.Kernel2Ideal.Hand

open Cert.Kernel2Ideal Cert.Kernel2Ideal.Gen Cert.Held
open Cert.KernelIdeal.Hand (Mat up2 upR up4 lo hi sum_halves pR zR row64 half_add sum_succ)
open Idealize.ShloMosaic Idealize.ShloMosaic.TcCoe Idealize.ShloMosaic.Tactic

/-- A grid point's keys, over the reals, by head: the keys, their scaled transposes and the values. -/
structure RKeys where
  k : Fin 2 → Mat 512 128
  t : Fin 2 → Mat 128 512
  v : Fin 2 → Mat 512 128

/-- A head pair's queries, output cotangents, log-sums and row dots, over the reals, by tile. -/
structure RArr where
  q : Fin 2 → Fin 16 → Mat 128 512
  g : Fin 16 → Mat 128 512
  l : Fin 2 → Fin 16 → Fin 512 → ℝ
  d : Fin 2 → Fin 16 → Fin 512 → ℝ

/-- The gradients' accumulators, over the reals. -/
@[ext] structure RSt where
  q : Fin 2 → Fin 16 → Mat 128 512
  k : Fin 2 → Mat 128 512
  v : Fin 2 → Mat 64 512

/-- The same as vectors of ideal values. -/
def RKeys.up (κ : RKeys) : Keys Ideal := ⟨up2 (κ.k 0), up2 (κ.k 1), up2 (κ.t 0), up2 (κ.t 1), up2 (κ.v 0), up2 (κ.v 1)⟩
def RArr.up (χ : RArr) : Arr Ideal :=
  ⟨up4 χ.q, up4 (fun _ : Fin 1 => χ.g), up4 (fun e n (_ : Fin 1) => χ.l e n), up4 (fun e n (_ : Fin 1) => χ.d e n)⟩
def RSt.up (σ : RSt) : St Ideal := ⟨up4 σ.q, up2 (σ.k 0), up2 (σ.k 1), up2 (σ.v 0), up2 (σ.v 1)⟩

variable (κ : RKeys) (χ : RArr)

/-- The probabilities and score gradients of tile `n`. -/
abbrev prob (m : Bool) (e : Fin 2) (n : Fin 16) : Mat 512 512 := pR m (κ.k e) (χ.q e n) (χ.l e n)
abbrev grad (m : Bool) (e : Fin 2) (n : Fin 16) : Mat 512 512 := zR (prob κ χ m e n) (κ.v e) (χ.g n) (χ.d e n)

/-- What the step at tile `n` leaves. -/
def rstep (m : Bool) (n : Fin 16) (σ : RSt) : RSt where
  q := fun e i a t => if i = n then σ.q e i a t + ∑ s, κ.t e a s * grad κ χ m e n s t else σ.q e i a t
  k := fun e a s => σ.k e a s + ∑ t, χ.q e n a t * grad κ χ m e n s t
  v := fun e a s => σ.v e a s + ∑ t, χ.g n (row64 e a) t * prob κ χ m e n s t

/-- Rows with equal parts are equal. -/
theorem rowEq {R R' : Row Ideal} (h1 : R.g = R'.g) (h2 : R.q0 = R'.q0) (h3 : R.q1 = R'.q1) (h4 : R.l0 = R'.l0) (h5 : R.l1 = R'.l1)
    (h6 : R.d0 = R'.d0) (h7 : R.d1 = R'.d1) : R = R' := by
  cases R
  cases R'
  dsimp only at *
  subst h1 h2 h3 h4 h5 h6 h7
  rfl

/-- The query tile read. -/
theorem row_up (o : Offs) (n : Fin 16) (h : o.At n.val) :
    rowOf χ.up o = ⟨up2 (χ.g n), up2 (χ.q 0 n), up2 (χ.q 1 n), upR (χ.l 0 n), upR (χ.l 1 n), upR (χ.d 0 n), upR (χ.d 1 n)⟩ := by
  have hg : ∀ (o4 : Fin 4 → ℕ) (A : ℕ) (e : Fin A) (f : Fin A → Fin 16 → Mat 128 512) (ho : o4 = ![e.val, n.val, 0, 0])
      (inb : ∀ x, o4 x + (⟨4, ![1, 1, 128, 512]⟩ : Shape).size x ≤ (⟨4, ![A, 16, 128, 512]⟩ : Shape).size x),
      shapeCast S128x512 (pick (Rect.unit (s := ⟨4, ![A, 16, 128, 512]⟩) o4 (⟨4, ![1, 1, 128, 512]⟩ : Shape).size inb) (up4 f))
        shapeCasts_S1x1x128x512_S128x512 = up2 (f e n) := by
    intro o4 A e f ho inb
    funext j
    idx_vars j
    refine Eq.trans ?_ (pick_tile o4 e n ho inb (up4 f) j0 j1)
    generalize pick (Rect.unit (s := ⟨4, ![A, 16, 128, 512]⟩) o4 (⟨4, ![1, 1, 128, 512]⟩ : Shape).size inb) (up4 f) = w
    revert w
    show ∀ w : S1x1x128x512.Idx → EReal, shapeCast S128x512 w shapeCasts_S1x1x128x512_S128x512 (ix2 j0 j1) = w (ix4 0 0 j0 j1)
    intro w
    pointwise
  have hl : ∀ (o4 : Fin 4 → ℕ) (e : Fin 2) (f : Fin 2 → Fin 16 → Fin 512 → ℝ) (ho : o4 = ![e.val, n.val, 0, 0])
      (inb : ∀ x, o4 x + (⟨4, ![1, 1, 1, 512]⟩ : Shape).size x ≤ (⟨4, ![2, 16, 1, 512]⟩ : Shape).size x),
      shapeCast S1x512 (pick (Rect.unit (s := ⟨4, ![2, 16, 1, 512]⟩) o4 (⟨4, ![1, 1, 1, 512]⟩ : Shape).size inb) (up4 (fun e n (_ : Fin 1) => f e n)))
        shapeCasts_S1x1x1x512_S1x512 = upR (f e n) := by
    intro o4 e f ho inb
    funext j
    idx_vars j
    refine Eq.trans ?_ (pick_tile o4 e n ho inb (up4 (fun e n (_ : Fin 1) => f e n)) 0 j1)
    generalize pick (Rect.unit (s := ⟨4, ![2, 16, 1, 512]⟩) o4 (⟨4, ![1, 1, 1, 512]⟩ : Shape).size inb) (up4 (fun e n (_ : Fin 1) => f e n)) = w
    revert w
    show ∀ w : S1x1x1x512.Idx → EReal, shapeCast S1x512 w shapeCasts_S1x1x1x512_S1x512 (ix2 j0 j1) = w (ix4 0 0 0 j1)
    intro w
    pointwise
  exact rowEq (hg o.a 1 0 (fun _ => χ.g) h.a o.ha) (hg o.b0 2 0 χ.q h.b0 o.hb0) (hg o.b1 2 1 χ.q h.b1 o.hb1)
    (hl o.c0 0 χ.l h.c0 o.hc0) (hl o.c1 1 χ.l h.c1 o.hc1) (hl o.c0 0 χ.d h.c0 o.hc0) (hl o.c1 1 χ.d h.c1 o.hc1)

/-- The unmasked step over the reals. -/
theorem tile_up (o : Offs) (n : Fin 16) (h : o.At n.val) (σ : RSt) : tileF κ.up χ.up o σ.up = (rstep κ χ false n σ).up := by
  unfold tileF
  rw [row_up χ o n h]
  unfold tileParts RKeys.up
  dsimp only
  simp only [pOf_lo, pOf_hi, zOf_lo', zOf_hi', dvAdd_0lo, dvAdd_0hi, dvAdd_1lo, dvAdd_1hi, dkAdd_lo, dkAdd_hi, dqAdd_eq]
  rw [both_eq (fun a c => ∑ s, κ.t 0 a s * grad κ χ false 0 n s (lo c)) (fun a c => ∑ s, κ.t 0 a s * grad κ χ false 0 n s (hi c)) (fun a t => ∑ s, κ.t 0 a s * grad κ χ false 0 n s t) (fun _ _ => rfl) (fun _ _ => rfl),
    both_eq (fun a c => ∑ s, κ.t 1 a s * grad κ χ false 1 n s (lo c)) (fun a c => ∑ s, κ.t 1 a s * grad κ χ false 1 n s (hi c)) (fun a t => ∑ s, κ.t 1 a s * grad κ χ false 1 n s t) (fun _ _ => rfl) (fun _ _ => rfl)]
  unfold RSt.up
  dsimp only
  rw [qStep_eq o n h.b0 h.b1 (fun e a t => ∑ s, κ.t e a s * grad κ χ false e n s t) σ.q]
  simp only [up64_eq, up128_eq]
  have hk : ∀ e, (fun a s => σ.k e a s + ∑ c, χ.q e n a (lo c) * grad κ χ false e n s (lo c)
      + ∑ c, χ.q e n a (hi c) * grad κ χ false e n s (hi c))
      = (rstep κ χ false n σ).k e := fun e => funext fun a => funext fun s => half_add _ (fun t => χ.q e n a t * grad κ χ false e n s t)
  have hv : ∀ e, (fun a s => σ.v e a s + ∑ c, χ.g n (row64 e a) (lo c) * prob κ χ false e n s (lo c)
      + ∑ c, χ.g n (row64 e a) (hi c) * prob κ χ false e n s (hi c))
      = (rstep κ χ false n σ).v e := fun e => funext fun a => funext fun s => half_add _ (fun t => χ.g n (row64 e a) t * prob κ χ false e n s t)
  rw [hk 0, hk 1, hv 0, hv 1]
  rfl

/-- On the diagonal tile a key of the second half has no share in the first half's queries. -/
theorem prob_hi_lo (e : Fin 2) (n : Fin 16) (s c : Fin 256) : prob κ χ true e n (hi s) (lo c) = 0 := by
  unfold prob pR
  exact if_pos ⟨rfl, by show c.val < 256 + s.val; omega⟩
theorem grad_hi_lo (e : Fin 2) (n : Fin 16) (s c : Fin 256) : grad κ χ true e n (hi s) (lo c) = 0 := by
  unfold grad zR
  rw [prob_hi_lo, zero_mul]

/-- The diagonal step over the reals. -/
theorem diag_up (o : Offs) (n : Fin 16) (h : o.At n.val) (σ : RSt) : diagF κ.up χ.up o σ.up = (rstep κ χ true n σ).up := by
  unfold diagF
  rw [row_up χ o n h]
  unfold diagParts RKeys.up
  dsimp only
  simp only [pOfD_eq, pOf1_eq, zOfD_eq', zOf_hi', dvAddD_0, dvAddD_1, dvAdd_0hi, dvAdd_1hi, dkAddD_eq, dkAdd_hi, dqAdd_eq, dqAddD_eq]
  have hq : ∀ (e : Fin 2) (a : Fin 128) (c : Fin 256), ∑ s, κ.t e a s * grad κ χ true e n s (lo c) = ∑ s, κ.t e a (lo s) * grad κ χ true e n (lo s) (lo c) := by
    intro e a c
    rw [sum_halves]
    simp only [grad_hi_lo, mul_zero, Finset.sum_const_zero, add_zero]
  rw [both_eq (fun a c => ∑ s, κ.t 0 a (lo s) * grad κ χ true 0 n (lo s) (lo c)) (fun a c => ∑ s, κ.t 0 a s * grad κ χ true 0 n s (hi c)) (fun a t => ∑ s, κ.t 0 a s * grad κ χ true 0 n s t) (fun a c => hq 0 a c) (fun _ _ => rfl),
    both_eq (fun a c => ∑ s, κ.t 1 a (lo s) * grad κ χ true 1 n (lo s) (lo c)) (fun a c => ∑ s, κ.t 1 a s * grad κ χ true 1 n s (hi c)) (fun a t => ∑ s, κ.t 1 a s * grad κ χ true 1 n s t) (fun a c => hq 1 a c) (fun _ _ => rfl)]
  unfold RSt.up
  dsimp only
  rw [qStep_eq o n h.b0 h.b1 (fun e a t => ∑ s, κ.t e a s * grad κ χ true e n s t) σ.q]
  have hk1 : ∀ (e : Fin 2) (a : Fin 128) (s : Fin 256), σ.k e a (hi s) + ∑ c, χ.q e n a (lo c) * grad κ χ true e n (hi s) (lo c) = σ.k e a (hi s) := by
    intro e a s
    simp only [grad_hi_lo, mul_zero, Finset.sum_const_zero, add_zero]
  have hv1 : ∀ (e : Fin 2) (a : Fin 64) (s : Fin 256), σ.v e a (hi s) + ∑ c, χ.g n (row64 e a) (lo c) * prob κ χ true e n (hi s) (lo c) = σ.v e a (hi s) := by
    intro e a s
    simp only [prob_hi_lo, mul_zero, Finset.sum_const_zero, add_zero]
  rw [up128D_eq (fun a s => ∑ c, χ.q 0 n a (lo c) * grad κ χ true 0 n (lo s) (lo c)) (σ.k 0) (fun a s => σ.k 0 a s + ∑ c, χ.q 0 n a (lo c) * grad κ χ true 0 n s (lo c)) (fun _ _ => rfl) (hk1 0),
    up128D_eq (fun a s => ∑ c, χ.q 1 n a (lo c) * grad κ χ true 1 n (lo s) (lo c)) (σ.k 1) (fun a s => σ.k 1 a s + ∑ c, χ.q 1 n a (lo c) * grad κ χ true 1 n s (lo c)) (fun _ _ => rfl) (hk1 1),
    up64D_eq (fun a s => ∑ c, χ.g n (row64 0 a) (lo c) * prob κ χ true 0 n (lo s) (lo c)) (σ.v 0) (fun a s => σ.v 0 a s + ∑ c, χ.g n (row64 0 a) (lo c) * prob κ χ true 0 n s (lo c)) (fun _ _ => rfl) (hv1 0),
    up64D_eq (fun a s => ∑ c, χ.g n (row64 1 a) (lo c) * prob κ χ true 1 n (lo s) (lo c)) (σ.v 1) (fun a s => σ.v 1 a s + ∑ c, χ.g n (row64 1 a) (lo c) * prob κ χ true 1 n s (lo c)) (fun _ _ => rfl) (hv1 1)]
  simp only [up64_eq, up128_eq]
  have hk : ∀ e, (fun a s => σ.k e a s + ∑ c, χ.q e n a (lo c) * grad κ χ true e n s (lo c)
      + ∑ c, χ.q e n a (hi c) * grad κ χ true e n s (hi c))
      = (rstep κ χ true n σ).k e := fun e => funext fun a => funext fun s => half_add _ (fun t => χ.q e n a t * grad κ χ true e n s t)
  have hv : ∀ e, (fun a s => σ.v e a s + ∑ c, χ.g n (row64 e a) (lo c) * prob κ χ true e n s (lo c)
      + ∑ c, χ.g n (row64 e a) (hi c) * prob κ χ true e n s (hi c))
      = (rstep κ χ true n σ).v e := fun e => funext fun a => funext fun s => half_add _ (fun t => χ.g n (row64 e a) t * prob κ χ true e n s t)
  rw [hk 0, hk 1, hv 0, hv 1]
  rfl

/-! ## All the steps of a point -/

/-- What a grid point with diagonal tile `j` has added once its steps have met the tiles before `n`. -/
def upto (j : Fin 16) (n : ℕ) (σ : RSt) : RSt where
  q := fun e i a t => σ.q e i a t + if j ≤ i ∧ i.val < n then ∑ s, κ.t e a s * grad κ χ (decide (i = j)) e i s t else 0
  k := fun e a s => σ.k e a s + ∑ i : Fin 16, if j ≤ i ∧ i.val < n then ∑ t, χ.q e i a t * grad κ χ (decide (i = j)) e i s t else 0
  v := fun e a s => σ.v e a s + ∑ i : Fin 16, if j ≤ i ∧ i.val < n then ∑ t, χ.g i (row64 e a) t * prob κ χ (decide (i = j)) e i s t else 0

/-- The step at tile `n`. -/
theorem upto_succ (j n : Fin 16) (hj : j ≤ n) (σ : RSt) : rstep κ χ (decide (n = j)) n (upto κ χ j n.val σ) = upto κ χ j (n.val + 1) σ := by
  unfold rstep upto
  refine RSt.ext ?_ ?_ ?_
  · funext e i a t
    dsimp only
    by_cases h : i = n
    · subst h
      rw [if_pos rfl, if_neg (by rintro ⟨_, h⟩; exact lt_irrefl _ h), if_pos ⟨hj, Nat.lt_succ_self _⟩, add_zero]
    · rw [if_neg h]
      have : i.val ≠ n.val := fun e => h (Fin.ext e)
      congr 1
      by_cases h2 : j ≤ i ∧ i.val < n.val
      · rw [if_pos h2, if_pos ⟨h2.1, by omega⟩]
      · rw [if_neg h2, if_neg (fun e => h2 ⟨e.1, by have := e.2; omega⟩)]
  · funext e a s
    dsimp only
    rw [sum_succ j n hj (fun i => ∑ t, χ.q e i a t * grad κ χ (decide (i = j)) e i s t), add_assoc]
  · funext e a s
    dsimp only
    rw [sum_succ j n hj (fun i => ∑ t, χ.g i (row64 e a) t * prob κ χ (decide (i = j)) e i s t), add_assoc]

/-- Nothing yet. -/
theorem upto_self (j : Fin 16) (σ : RSt) : upto κ χ j j.val σ = σ := by
  have h : ∀ i : Fin 16, ¬ (j ≤ i ∧ i.val < j.val) := fun i hi => by have := hi.1; have h2 := hi.2; exact absurd (show j.val ≤ i.val from this) (by omega)
  unfold upto
  refine RSt.ext ?_ ?_ ?_
  · funext e i a t
    dsimp only
    rw [if_neg (h i), add_zero]
  · funext e a s
    dsimp only
    simp only [if_neg (h _), Finset.sum_const_zero, add_zero]
  · funext e a s
    dsimp only
    simp only [if_neg (h _), Finset.sum_const_zero, add_zero]

/-- An unmasked step at a tile after the diagonal. -/
theorem tile_upto (j : Fin 16) (n : ℕ) (hn : n < 16) (hj : j.val < n) (o : Offs) (h : o.At n) (σ : RSt) :
    tileF κ.up χ.up o (upto κ χ j n σ).up = (upto κ χ j (n + 1) σ).up := by
  rw [tile_up κ χ o ⟨n, hn⟩ h]
  have := upto_succ κ χ j ⟨n, hn⟩ (show j.val ≤ n from hj.le) σ
  rw [show decide ((⟨n, hn⟩ : Fin 16) = j) = false from decide_eq_false fun e => by rw [← e] at hj; exact lt_irrefl _ hj] at this
  rw [this]

/-- The diagonal step. -/
theorem diag_upto (j : Fin 16) (o : Offs) (h : o.At j.val) (σ : RSt) : diagF κ.up χ.up o σ.up = (upto κ χ j (j.val + 1) σ).up := by
  rw [diag_up κ χ o j h, ← upto_succ κ χ j j (le_refl _), upto_self, decide_eq_true rfl]

/-- Repeated steps. -/
theorem trips_upto (j : Fin 16) (σ : RSt) {N : ℕ} (f : Fin N → St Ideal → St Ideal) (b c : ℕ)
    (hf : ∀ k : Fin N, f k (upto κ χ j (b + c * k.val) σ).up = (upto κ χ j (b + c * k.val + c) σ).up) :
    ∀ k, k ≤ N → trips f k (upto κ χ j b σ).up = (upto κ χ j (b + c * k) σ).up
  | 0, _ => rfl
  | k + 1, h => by
    show (if h : k < N then f ⟨k, h⟩ (trips f k _) else trips f k _) = _
    rw [dif_pos (show k < N from h), trips_upto j σ f b c hf k (by omega), hf ⟨k, h⟩]
    exact congrArg (fun n => (upto κ χ j n σ).up) (by show b + c * k + c = b + c * (k + 1); ring)

/-- A grid point's steps over the reals. -/
theorem column_up (i : grid0.Coords) (σ : RSt) :
    columnF i κ.up χ.up (diagF κ.up χ.up (offsD i) σ.up) = (upto κ χ (i 1) 16 σ).up := by
  have hall := trips_all i
  have hd : diagF κ.up χ.up (offsD i) σ.up = (upto κ χ (i 1) ((i 1).val + 1) σ).up :=
    diag_upto κ χ (i 1) (offsD i) (Offs.at_of (offsD_at i)) σ
  have four : ∀ (o : Fin 4 → Offs) (n : ℕ), n + 4 ≤ 16 → (i 1).val < n → (∀ w : Fin 4, (o w).isAt (n + w.val) = true) →
      tiles4F κ.up χ.up o (upto κ χ (i 1) n σ).up = (upto κ χ (i 1) (n + 4) σ).up := by
    intro o n hn hj ho
    unfold tiles4F
    rw [tile_upto κ χ (i 1) n (by omega) hj (o 0) (Offs.at_of (ho 0)),
      tile_upto κ χ (i 1) (n + 1) (by omega) (by omega) (o 1) (Offs.at_of (ho 1)),
      tile_upto κ χ (i 1) (n + 2) (by omega) (by omega) (o 2) (Offs.at_of (ho 2)),
      tile_upto κ χ (i 1) (n + 3) (by omega) (by omega) (o 3) (Offs.at_of (ho 3))]
  rw [hd]
  unfold columnF
  rw [trips_upto κ χ (i 1) σ (fun k => tiles4F κ.up χ.up (offs1 i k)) ((i 1).val + 1) 4
      (fun k => four _ _ (by have := k.isLt; omega) (by omega) (fun w => offs1_at i k w)) _ le_rfl,
    trips_upto κ χ (i 1) σ (fun k => tiles4F κ.up χ.up (offs2 i k)) _ 4
      (fun k => four _ _ (by have := k.isLt; omega) (by omega) (fun w => offs2_at i k w)) _ le_rfl,
    trips_upto κ χ (i 1) σ (fun k => tileF κ.up χ.up (offs3 i k)) _ 1
      (fun k => tile_upto κ χ (i 1) _ (by have := k.isLt; omega) (by omega) _ (Offs.at_of (by rw [one_mul]; exact offs3_at i k)) σ) _ le_rfl,
    trips_upto κ χ (i 1) σ (fun k => tileF κ.up χ.up (offs4 i k)) _ 1
      (fun k => tile_upto κ χ (i 1) _ (by have := k.isLt; omega) (by omega) _ (Offs.at_of (by rw [one_mul, one_mul]; exact offs4_at i k)) σ) _ le_rfl]
  rw [one_mul, one_mul, hall]

end Cert.Kernel2Ideal.Hand
-- ==== Proof.Mla.Blocks.lean ====
/-
  Hand-written. Over the real numbers: what a grid point takes from its key and value blocks, and what it writes of its
  accumulators.
-/
module

public import proofs.«01_k».proof.Proof.Mla.Column

@[expose] public section

set_option maxRecDepth 16384

noncomputable section

namespace Cert.Kernel2Ideal.Hand

open Cert.Kernel2Ideal Cert.Kernel2Ideal.Gen Cert.Held
open Cert.KernelIdeal.Hand (Mat up2 up4 row64 row64_zero select_ofBool lane bits_first bits_second kept_first kept_second)
open Idealize.ShloMosaic Idealize.ShloMosaic.TcCoe Idealize.ShloMosaic.Tactic

open Cert.Consts

/-- The constant that turns gradients by base-2 scores into gradients by scores. -/
theorem named_ln2 : (Named.named κ "ln2" 0x3F317218#32 : Ideal .f32) = ((Real.log 2 : ℝ) : EReal) := rfl

/-- A lane's number tested against 96. -/
theorem bit_lane : ∀ n : Fin 128, IntOp.cmpi .slt (BitVec.ofNat 32 n.val) 96#32 = BitVec.ofBool (decide (n.val < 96)) := by decide

/-- The factor of a lane: `c` on the 96 true lanes, one on the others. -/
def onTrue (c : ℝ) (x : Fin 128) : ℝ := if x.val < 96 then c else 1

/-- What a key block and a value block give the two heads. -/
def keysR (kb : Mat 512 256) (vb : Mat 512 128) : RKeys where
  k := fun e s x => kb s (lane e x)
  t := fun e x s => kb s (lane e x) * onTrue scaleR x
  v := fun e s x => if (x.val < 64 ↔ e = 0) then vb s x else 0

theorem scaled_up (k : Mat 512 128) : scaled (F := Ideal) (up2 k) = up2 (fun x s => k s x * onTrue scaleR x) := by
  funext j
  idx_vars j
  pointwise [scaled, trueRows]
  rw [bit_lane, select_ofBool, ofBits_scale]
  show ((k j1 j0 : ℝ) : EReal) * _ = ((k j1 j0 * (if j0.val < 96 then scaleR else 1) : ℝ) : EReal)
  by_cases h : j0.val < 96
  · rw [if_pos h, if_pos h, EReal.coe_mul]
  · rw [if_neg h, if_neg h, EReal.coe_mul, EReal.coe_one]

theorem columns0_up (v : Mat 512 128) : columns (F := Ideal) 0#32 64#32 (up2 v) = up2 (fun s x => if x.val < 64 then v s x else 0) := by
  funext j
  idx_vars j
  pointwise [columns]
  rw [bits_first, select_ofBool]
  show _ = (((if j1.val < 64 then v j0 j1 else 0 : ℝ)) : EReal)
  by_cases h : j1.val < 64
  · rw [if_pos h, if_pos h]; rfl
  · rw [if_neg h, if_neg h]; rfl
theorem columns1_up (v : Mat 512 128) : columns (F := Ideal) 64#32 128#32 (up2 v) = up2 (fun s x => if x.val < 64 then 0 else v s x) := by
  funext j
  idx_vars j
  pointwise [columns]
  rw [bits_second, select_ofBool]
  show _ = (((if j1.val < 64 then 0 else v j0 j1 : ℝ)) : EReal)
  by_cases h : j1.val < 64
  · rw [if_neg (fun e => e h), if_pos h]; rfl
  · rw [if_pos h, if_neg h]; rfl

/-- Keys with equal parts are equal. -/
theorem keysEq {R R' : Keys Ideal} (h1 : R.k0 = R'.k0) (h2 : R.k1 = R'.k1) (h3 : R.t0 = R'.t0) (h4 : R.t1 = R'.t1) (h5 : R.v0 = R'.v0)
    (h6 : R.v1 = R'.v1) : R = R' := by
  cases R
  cases R'
  dsimp only at *
  subst h1 h2 h3 h4 h5 h6
  rfl

/-- A grid point's keys from blocks of real numbers. -/
theorem keysOf_up (kb : Mat 512 256) (vb : Mat 512 128) : keysOf (F := Ideal) (up2 kb) (up2 vb) = (keysR kb vb).up := by
  have e0 : extractStridedSlice S512x128 ![0, 0] (shapeCast (α := EReal) S512x256 (up2 kb) shapeCasts_S512x256_S512x256) slices_S512x256_o0_0_S512x128
      = up2 (fun s x => kb s (lane 0 x)) := by
    funext j
    idx_vars j
    pointwise
    show ((kb j0 ⟨j1.val, _⟩ : ℝ) : EReal) = ((kb j0 (lane 0 j1) : ℝ) : EReal)
    congr 3
    simp [lane]
  have e1 : extractStridedSlice S512x128 ![0, 128] (shapeCast (α := EReal) S512x256 (up2 kb) shapeCasts_S512x256_S512x256) slices_S512x256_o0_128_S512x128
      = up2 (fun s x => kb s (lane 1 x)) := by
    funext j
    idx_vars j
    pointwise
    rfl
  have ev : shapeCast (α := EReal) S512x128 (up2 vb) shapeCasts_S512x128_S512x128 = up2 vb := by
    funext j
    idx_vars j
    pointwise
  unfold keysOf
  refine keysEq e0 e1 ?_ ?_ ?_ ?_
  · exact (congrArg (scaled (F := Ideal)) e0).trans (scaled_up _)
  · exact (congrArg (scaled (F := Ideal)) e1).trans (scaled_up _)
  · exact (congrArg (columns (F := Ideal) _ _) ev).trans ((columns0_up _).trans (congrArg up2 (kept_first vb)))
  · exact (congrArg (columns (F := Ideal) _ _) ev).trans ((columns1_up _).trans (congrArg up2 (kept_second vb)))

/-- The key gradients as written: the true lanes' times the natural logarithm of two. -/
theorem outK_up (a : Mat 128 512) (x : Fin 128) (s : Fin 512) :
    outK (F := Ideal) (up2 a) (ix4 0 0 x s) = ((a x s * onTrue (Real.log 2) x : ℝ) : EReal) := by
  pointwise [outK, lnRows, trueRows]
  rw [bit_lane, select_ofBool, named_ln2]
  show ((a x s : ℝ) : EReal) * _ = ((a x s * (if x.val < 96 then Real.log 2 else 1) : ℝ) : EReal)
  by_cases h : x.val < 96
  · rw [if_pos h, if_pos h, EReal.coe_mul]
  · rw [if_neg h, if_neg h, EReal.coe_mul, EReal.coe_one]

/-- The key gradients' buffer: both heads'. -/
theorem outKs_up (k : Fin 2 → Mat 128 512) (X : Vec Ideal S2x1x128x512 .f32) :
    outKs (F := Ideal) (up2 (k 0)) (up2 (k 1)) X = up4 (fun e (_ : Fin 1) x s => k e x s * onTrue (Real.log 2) x) := by
  funext j
  idx_vars j
  unfold outKs
  rw [show pick (α := Ideal .f32) r128 (up2 (k 0)) = up2 (k 0) from pick_full _ _, show pick (α := Ideal .f32) r128 (up2 (k 1)) = up2 (k 1) from pick_full _ _]
  obtain rfl : j1 = 0 := Subsingleton.elim _ _
  have h0 : rH0.emb (ix4 0 0 j2 j3) = ix4 (0 : Fin 2) (0 : Fin 1) j2 j3 := by
    funext b
    refine Fin.ext ?_
    rw [Rect.emb_apply]
    fin_cases b
    · rfl
    · rfl
    · show 0 + 1 * j2.val = j2.val; omega
    · show 0 + 1 * j3.val = j3.val; omega
  have h1 : rH1.emb (ix4 0 0 j2 j3) = ix4 (1 : Fin 2) (0 : Fin 1) j2 j3 := by
    funext b
    refine Fin.ext ?_
    rw [Rect.emb_apply]
    fin_cases b
    · rfl
    · rfl
    · show 0 + 1 * j2.val = j2.val; omega
    · show 0 + 1 * j3.val = j3.val; omega
  have hj : j0 = 0 ∨ j0 = 1 := by omega
  rcases hj with rfl | rfl
  · rw [patch_miss _ _ _ _ fun y hy => ?_]
    · rw [← h0, patch_emb]
      refine (outK_up (k 0) j2 j3).trans ?_
      rw [h0]
      rfl
    · have g := congrArg (fun z => (z 0).val) hy
      dsimp only at g
      rw [Rect.emb_apply] at g
      have g' : 1 + 1 * (y 0).val = 0 := g
      omega
  · rw [← h1, patch_emb]
    refine (outK_up (k 1) j2 j3).trans ?_
    rw [h1]
    rfl

/-- The value gradients as written: a row of both heads' columns. -/
theorem outV_up (v : Fin 2 → Mat 64 512) (f : Mat 512 128) (hf : ∀ e a s, f s (row64 e a) = v e a s) :
    outV (F := Ideal) (up2 (v 0)) (up2 (v 1)) = up2 f := by
  funext j
  idx_vars j
  pointwise [outV]
  split
  · rename_i h
    have := hf 0 ⟨j1.val, h⟩ j0
    rw [row64_zero] at this
    exact congrArg (fun r : ℝ => (r : EReal)) this.symm
  · rename_i h
    have := hf 1 ⟨j1.val - 64, by omega⟩ j0
    rw [show row64 1 ⟨j1.val - 64, by omega⟩ = j1 from Fin.ext (by show 64 * 1 + (j1.val - 64) = j1.val; omega)] at this
    exact congrArg (fun r : ℝ => (r : EReal)) this.symm

/-! ## A grid point -/

/-- Nothing added yet. -/
def zeroSt (q : Fin 2 → Fin 16 → Mat 128 512) : RSt := ⟨q, fun _ _ _ => 0, fun _ _ _ => 0⟩

theorem begun_up (i : grid0.Coords) (q : Fin 2 → Fin 16 → Mat 128 512) (X : Vec Ideal S2x16x128x512 .f32)
    (h : isFirst i = 1#1 ∧ q = (fun _ _ _ _ => 0) ∨ ¬ isFirst i = 1#1 ∧ X = up4 q) : begun (F := Ideal) i X = (zeroSt q).up := by
  have z : zero128 (F := Ideal) = up2 (fun _ _ => (0 : ℝ)) := by
    funext j
    idx_vars j
    pointwise [zero128]
    rfl
  have z' : zero64 (F := Ideal) = up2 (fun _ _ => (0 : ℝ)) := by
    funext j
    idx_vars j
    pointwise [zero64]
    rfl
  have zq : zeroQ (F := Ideal) = up4 (fun _ _ _ _ => (0 : ℝ)) := by
    funext j
    idx_vars j
    pointwise [zeroQ]
    rfl
  unfold begun
  rw [z, z', zq]
  rcases h with ⟨h, rfl⟩ | ⟨h, rfl⟩
  · rw [if_pos h]
    rfl
  · rw [if_neg h]
    rfl

/-- A grid point over the reals. -/
theorem pt_up (i : grid0.Coords) (kb : Mat 512 256) (vb : Mat 512 128) (χ : RArr) (q : Fin 2 → Fin 16 → Mat 128 512)
    (X : Vec Ideal S2x16x128x512 .f32) (h : isFirst i = 1#1 ∧ q = (fun _ _ _ _ => 0) ∨ ¬ isFirst i = 1#1 ∧ X = up4 q) :
    pt (F := Ideal) i (up2 kb) (up2 vb) χ.up X = (upto (keysR kb vb) χ (i 1) 16 (zeroSt q)).up := by
  unfold pt
  rw [keysOf_up, begun_up i q X h]
  exact column_up (keysR kb vb) χ i (zeroSt q)

end Cert.Kernel2Ideal.Hand
-- ==== Proof.Mla.Windows.lean ====
/-
  Hand-written. Where a grid point's blocks lie in their arrays.
-/
module

public import proofs.«01_k».proof.Proof.Mla.Launched
public import proofs.«01_k».proof.Proof.Mla.Blocks

@[expose] public section

set_option maxRecDepth 16384

noncomputable section

namespace Cert.Kernel2Ideal.Hand

open Cert.Kernel2Ideal Cert.Kernel2Ideal.Gen Cert.Held
open Cert.KernelIdeal.Hand (row kcol vcol head)
open Idealize.ShloMosaic Idealize.ShloMosaic.TcCoe Idealize.ShloMosaic.Tactic
open Idealize.ShloMosaic.Pipeline (Dat Cfg Window)

/-- The head pair and the key block of a grid point. -/
def hpOf (t : Fin grid0.N) : Fin 4 := ⟨t.val / 16, by have h := t.isLt; have e : grid0.N = 64 := rfl; omega⟩
def jOf (t : Fin grid0.N) : Fin 16 := ⟨t.val % 16, by omega⟩

/-- The grid point of a head pair and a key block. -/
def tOf (hp : Fin 4) (j : Fin 16) : Fin grid0.N := ⟨16 * hp.val + j.val, by have e : grid0.N = 64 := rfl; omega⟩

theorem hpOf_tOf (hp : Fin 4) (j : Fin 16) : hpOf (tOf hp j) = hp := Fin.ext (by show (16 * hp.val + j.val) / 16 = hp.val; omega)
theorem jOf_tOf (hp : Fin 4) (j : Fin 16) : jOf (tOf hp j) = j := Fin.ext (by show (16 * hp.val + j.val) % 16 = j.val; omega)
theorem tOf_of (t : Fin grid0.N) : tOf (hpOf t) (jOf t) = t := Fin.ext (by show 16 * (t.val / 16) + t.val % 16 = t.val; omega)

/-- A grid point's second coordinate is its key block. -/
theorem coord1 : ∀ t : Fin grid0.N, (grid0.coords t 1).val = t.val % 16 := by decide +kernel

theorem coord1_eq (t : Fin grid0.N) : (grid0.coords t 1 : Fin 16) = jOf t := Fin.ext (coord1 t)

/-- The block indices of the nine windows. -/
theorem index_0 : ∀ t : Fin grid0.N, (cfg0.win 0).index t 0 = t.val % 16 ∧ (cfg0.win 0).index t 1 = t.val / 16 := by decide +kernel
theorem index_1 : ∀ t : Fin grid0.N, (cfg0.win 1).index t 0 = t.val % 16 ∧ (cfg0.win 1).index t 1 = t.val / 16 := by decide +kernel
theorem index_2 : ∀ t : Fin grid0.N, (cfg0.win 2).index t 0 = t.val / 16 ∧ (cfg0.win 2).index t 1 = 0 ∧ (cfg0.win 2).index t 2 = 0 ∧ (cfg0.win 2).index t 3 = 0 := by
  decide +kernel
theorem index_3 : ∀ t : Fin grid0.N, (cfg0.win 3).index t 0 = t.val / 16 ∧ (cfg0.win 3).index t 1 = 0 ∧ (cfg0.win 3).index t 2 = 0 ∧ (cfg0.win 3).index t 3 = 0 := by
  decide +kernel
theorem index_4 : ∀ t : Fin grid0.N, (cfg0.win 4).index t 0 = t.val / 16 ∧ (cfg0.win 4).index t 1 = 0 ∧ (cfg0.win 4).index t 2 = 0 ∧ (cfg0.win 4).index t 3 = 0 := by
  decide +kernel
theorem index_5 : ∀ t : Fin grid0.N, (cfg0.win 5).index t 0 = t.val / 16 ∧ (cfg0.win 5).index t 1 = 0 ∧ (cfg0.win 5).index t 2 = 0 ∧ (cfg0.win 5).index t 3 = 0 := by
  decide +kernel
theorem index_6 : ∀ t : Fin grid0.N, (cfg0.win 6).index t 0 = t.val / 16 ∧ (cfg0.win 6).index t 1 = 0 ∧ (cfg0.win 6).index t 2 = 0 ∧ (cfg0.win 6).index t 3 = 0 := by
  decide +kernel
theorem index_7 : ∀ t : Fin grid0.N, (cfg0.win 7).index t 0 = t.val / 16 ∧ (cfg0.win 7).index t 1 = t.val % 16 ∧ (cfg0.win 7).index t 2 = 0 ∧ (cfg0.win 7).index t 3 = 0 := by
  decide +kernel
theorem index_8 : ∀ t : Fin grid0.N, (cfg0.win 8).index t 0 = t.val % 16 ∧ (cfg0.win 8).index t 1 = t.val / 16 := by decide +kernel

variable {F : FTy → Type} [FloatOps F] [Named F]
variable (m : (ℓ : Loc nD τ sig) → Buf (Elt F) ℓ) (c : Dev nD)

/-- Window 0's block in its array. -/
theorem emb_0 (t : Fin grid0.N) (s : Fin 512) (x : Fin 256) :
    ((cfg0.win 0).blk t).view.emb (ix2 s x : S512x256.Idx) = (ix2 (row (jOf t) s) (kcol (hpOf t) x) : S8192x1024.Idx) := by
  obtain ⟨h0, h1⟩ := index_0 t
  funext b
  refine Fin.ext ?_
  fin_cases b
  · refine ((cfg0.win 0).rect_emb_val t (ix2 s x : S512x256.Idx) 0).trans ?_
    rw [h0]
    show t.val % 16 * 512 + s.val = 512 * (t.val % 16) + s.val
    omega
  · refine ((cfg0.win 0).rect_emb_val t (ix2 s x : S512x256.Idx) 1).trans ?_
    rw [h1]
    show t.val / 16 * 256 + x.val = 256 * (t.val / 16) + x.val
    omega
theorem blk_0 (t : Fin grid0.N) (s : Fin 512) (x : Fin 256) :
    iblk m c 0 t (ix2 s x : S512x256.Idx) = V m c main_v46 (ix2 (row (jOf t) s) (kcol (hpOf t) x) : S8192x1024.Idx) := by
  unfold iblk
  rw [View.read_apply]
  exact congrArg (V m c main_v46) (emb_0 t s x)

/-- Window 1's block in its array. -/
theorem emb_1 (t : Fin grid0.N) (s : Fin 512) (x : Fin 128) :
    ((cfg0.win 1).blk t).view.emb (ix2 s x : S512x128.Idx) = (ix2 (row (jOf t) s) (vcol (hpOf t) x) : S8192x512.Idx) := by
  obtain ⟨h0, h1⟩ := index_1 t
  funext b
  refine Fin.ext ?_
  fin_cases b
  · refine ((cfg0.win 1).rect_emb_val t (ix2 s x : S512x128.Idx) 0).trans ?_
    rw [h0]
    show t.val % 16 * 512 + s.val = 512 * (t.val % 16) + s.val
    omega
  · refine ((cfg0.win 1).rect_emb_val t (ix2 s x : S512x128.Idx) 1).trans ?_
    rw [h1]
    show t.val / 16 * 128 + x.val = 128 * (t.val / 16) + x.val
    omega
theorem blk_1 (t : Fin grid0.N) (s : Fin 512) (x : Fin 128) :
    iblk m c 1 t (ix2 s x : S512x128.Idx) = V m c main_v49 (ix2 (row (jOf t) s) (vcol (hpOf t) x) : S8192x512.Idx) := by
  unfold iblk
  rw [View.read_apply]
  exact congrArg (V m c main_v49) (emb_1 t s x)

/-- Window 2's block in its array. -/
theorem emb_2 (t : Fin grid0.N) (e : Fin 2) (n : Fin 16) (a : Fin 128) (s : Fin 512) :
    ((cfg0.win 2).blk t).view.emb (ix4 e n a s : S2x16x128x512.Idx) = (ix4 (head (hpOf t) e) n a s : S8x16x128x512.Idx) := by
  obtain ⟨h0, h1, h2, h3⟩ := index_2 t
  funext b
  refine Fin.ext ?_
  fin_cases b
  · refine ((cfg0.win 2).rect_emb_val t (ix4 e n a s : S2x16x128x512.Idx) 0).trans ?_
    rw [h0]
    show t.val / 16 * 2 + e.val = 2 * (t.val / 16) + e.val
    omega
  · refine ((cfg0.win 2).rect_emb_val t (ix4 e n a s : S2x16x128x512.Idx) 1).trans ?_
    rw [h1]
    show 0 * 16 + n.val = n.val
    omega
  · refine ((cfg0.win 2).rect_emb_val t (ix4 e n a s : S2x16x128x512.Idx) 2).trans ?_
    rw [h2]
    show 0 * 128 + a.val = a.val
    omega
  · refine ((cfg0.win 2).rect_emb_val t (ix4 e n a s : S2x16x128x512.Idx) 3).trans ?_
    rw [h3]
    show 0 * 512 + s.val = s.val
    omega
theorem blk_2 (t : Fin grid0.N) (e : Fin 2) (n : Fin 16) (a : Fin 128) (s : Fin 512) :
    iblk m c 2 t (ix4 e n a s : S2x16x128x512.Idx) = V m c main_v39 (ix4 (head (hpOf t) e) n a s : S8x16x128x512.Idx) := by
  unfold iblk
  rw [View.read_apply]
  exact congrArg (V m c main_v39) (emb_2 t e n a s)

/-- Window 3's block in its array. -/
theorem emb_3 (t : Fin grid0.N) (e : Fin 1) (n : Fin 16) (a : Fin 128) (s : Fin 512) :
    ((cfg0.win 3).blk t).view.emb (ix4 e n a s : S1x16x128x512.Idx) = (ix4 (hpOf t) n a s : S4x16x128x512.Idx) := by
  obtain ⟨h0, h1, h2, h3⟩ := index_3 t
  funext b
  refine Fin.ext ?_
  fin_cases b
  · refine ((cfg0.win 3).rect_emb_val t (ix4 e n a s : S1x16x128x512.Idx) 0).trans ?_
    rw [h0]
    show t.val / 16 * 1 + e.val = t.val / 16
    omega
  · refine ((cfg0.win 3).rect_emb_val t (ix4 e n a s : S1x16x128x512.Idx) 1).trans ?_
    rw [h1]
    show 0 * 16 + n.val = n.val
    omega
  · refine ((cfg0.win 3).rect_emb_val t (ix4 e n a s : S1x16x128x512.Idx) 2).trans ?_
    rw [h2]
    show 0 * 128 + a.val = a.val
    omega
  · refine ((cfg0.win 3).rect_emb_val t (ix4 e n a s : S1x16x128x512.Idx) 3).trans ?_
    rw [h3]
    show 0 * 512 + s.val = s.val
    omega
theorem blk_3 (t : Fin grid0.N) (e : Fin 1) (n : Fin 16) (a : Fin 128) (s : Fin 512) :
    iblk m c 3 t (ix4 e n a s : S1x16x128x512.Idx) = V m c main_v44 (ix4 (hpOf t) n a s : S4x16x128x512.Idx) := by
  unfold iblk
  rw [View.read_apply]
  exact congrArg (V m c main_v44) (emb_3 t e n a s)

/-- Window 4's block in its array. -/
theorem emb_4 (t : Fin grid0.N) (e : Fin 2) (n : Fin 16) (a : Fin 1) (s : Fin 512) :
    ((cfg0.win 4).blk t).view.emb (ix4 e n a s : S2x16x1x512.Idx) = (ix4 (head (hpOf t) e) n a s : S8x16x1x512.Idx) := by
  obtain ⟨h0, h1, h2, h3⟩ := index_4 t
  funext b
  refine Fin.ext ?_
  fin_cases b
  · refine ((cfg0.win 4).rect_emb_val t (ix4 e n a s : S2x16x1x512.Idx) 0).trans ?_
    rw [h0]
    show t.val / 16 * 2 + e.val = 2 * (t.val / 16) + e.val
    omega
  · refine ((cfg0.win 4).rect_emb_val t (ix4 e n a s : S2x16x1x512.Idx) 1).trans ?_
    rw [h1]
    show 0 * 16 + n.val = n.val
    omega
  · refine ((cfg0.win 4).rect_emb_val t (ix4 e n a s : S2x16x1x512.Idx) 2).trans ?_
    rw [h2]
    show 0 * 1 + a.val = a.val
    omega
  · refine ((cfg0.win 4).rect_emb_val t (ix4 e n a s : S2x16x1x512.Idx) 3).trans ?_
    rw [h3]
    show 0 * 512 + s.val = s.val
    omega
theorem blk_4 (t : Fin grid0.N) (e : Fin 2) (n : Fin 16) (a : Fin 1) (s : Fin 512) :
    iblk m c 4 t (ix4 e n a s : S2x16x1x512.Idx) = V m c main_v25 (ix4 (head (hpOf t) e) n a s : S8x16x1x512.Idx) := by
  unfold iblk
  rw [View.read_apply]
  exact congrArg (V m c main_v25) (emb_4 t e n a s)

/-- Window 5's block in its array. -/
theorem emb_5 (t : Fin grid0.N) (e : Fin 2) (n : Fin 16) (a : Fin 1) (s : Fin 512) :
    ((cfg0.win 5).blk t).view.emb (ix4 e n a s : S2x16x1x512.Idx) = (ix4 (head (hpOf t) e) n a s : S8x16x1x512.Idx) := by
  obtain ⟨h0, h1, h2, h3⟩ := index_5 t
  funext b
  refine Fin.ext ?_
  fin_cases b
  · refine ((cfg0.win 5).rect_emb_val t (ix4 e n a s : S2x16x1x512.Idx) 0).trans ?_
    rw [h0]
    show t.val / 16 * 2 + e.val = 2 * (t.val / 16) + e.val
    omega
  · refine ((cfg0.win 5).rect_emb_val t (ix4 e n a s : S2x16x1x512.Idx) 1).trans ?_
    rw [h1]
    show 0 * 16 + n.val = n.val
    omega
  · refine ((cfg0.win 5).rect_emb_val t (ix4 e n a s : S2x16x1x512.Idx) 2).trans ?_
    rw [h2]
    show 0 * 1 + a.val = a.val
    omega
  · refine ((cfg0.win 5).rect_emb_val t (ix4 e n a s : S2x16x1x512.Idx) 3).trans ?_
    rw [h3]
    show 0 * 512 + s.val = s.val
    omega
theorem blk_5 (t : Fin grid0.N) (e : Fin 2) (n : Fin 16) (a : Fin 1) (s : Fin 512) :
    iblk m c 5 t (ix4 e n a s : S2x16x1x512.Idx) = V m c main_v28 (ix4 (head (hpOf t) e) n a s : S8x16x1x512.Idx) := by
  unfold iblk
  rw [View.read_apply]
  exact congrArg (V m c main_v28) (emb_5 t e n a s)

/-- Window 6's block in its array. -/
theorem emb_6 (t : Fin grid0.N) (e : Fin 2) (n : Fin 16) (a : Fin 128) (s : Fin 512) :
    ((cfg0.win 6).blk t).view.emb (ix4 e n a s : S2x16x128x512.Idx) = (ix4 (head (hpOf t) e) n a s : S8x16x128x512.Idx) := by
  obtain ⟨h0, h1, h2, h3⟩ := index_6 t
  funext b
  refine Fin.ext ?_
  fin_cases b
  · refine ((cfg0.win 6).rect_emb_val t (ix4 e n a s : S2x16x128x512.Idx) 0).trans ?_
    rw [h0]
    show t.val / 16 * 2 + e.val = 2 * (t.val / 16) + e.val
    omega
  · refine ((cfg0.win 6).rect_emb_val t (ix4 e n a s : S2x16x128x512.Idx) 1).trans ?_
    rw [h1]
    show 0 * 16 + n.val = n.val
    omega
  · refine ((cfg0.win 6).rect_emb_val t (ix4 e n a s : S2x16x128x512.Idx) 2).trans ?_
    rw [h2]
    show 0 * 128 + a.val = a.val
    omega
  · refine ((cfg0.win 6).rect_emb_val t (ix4 e n a s : S2x16x128x512.Idx) 3).trans ?_
    rw [h3]
    show 0 * 512 + s.val = s.val
    omega

/-- Window 7's block in its array. -/
theorem emb_7 (t : Fin grid0.N) (e : Fin 2) (n : Fin 1) (a : Fin 128) (s : Fin 512) :
    ((cfg0.win 7).blk t).view.emb (ix4 e n a s : S2x1x128x512.Idx) = (ix4 (head (hpOf t) e) (jOf t) a s : S8x16x128x512.Idx) := by
  obtain ⟨h0, h1, h2, h3⟩ := index_7 t
  funext b
  refine Fin.ext ?_
  fin_cases b
  · refine ((cfg0.win 7).rect_emb_val t (ix4 e n a s : S2x1x128x512.Idx) 0).trans ?_
    rw [h0]
    show t.val / 16 * 2 + e.val = 2 * (t.val / 16) + e.val
    omega
  · refine ((cfg0.win 7).rect_emb_val t (ix4 e n a s : S2x1x128x512.Idx) 1).trans ?_
    rw [h1]
    show t.val % 16 * 1 + n.val = t.val % 16
    omega
  · refine ((cfg0.win 7).rect_emb_val t (ix4 e n a s : S2x1x128x512.Idx) 2).trans ?_
    rw [h2]
    show 0 * 128 + a.val = a.val
    omega
  · refine ((cfg0.win 7).rect_emb_val t (ix4 e n a s : S2x1x128x512.Idx) 3).trans ?_
    rw [h3]
    show 0 * 512 + s.val = s.val
    omega

/-- Window 8's block in its array. -/
theorem emb_8 (t : Fin grid0.N) (s : Fin 512) (x : Fin 128) :
    ((cfg0.win 8).blk t).view.emb (ix2 s x : S512x128.Idx) = (ix2 (row (jOf t) s) (vcol (hpOf t) x) : S8192x512.Idx) := by
  obtain ⟨h0, h1⟩ := index_8 t
  funext b
  refine Fin.ext ?_
  fin_cases b
  · refine ((cfg0.win 8).rect_emb_val t (ix2 s x : S512x128.Idx) 0).trans ?_
    rw [h0]
    show t.val % 16 * 512 + s.val = 512 * (t.val % 16) + s.val
    omega
  · refine ((cfg0.win 8).rect_emb_val t (ix2 s x : S512x128.Idx) 1).trans ?_
    rw [h1]
    show t.val / 16 * 128 + x.val = 128 * (t.val / 16) + x.val
    omega

end Cert.Kernel2Ideal.Hand
-- ==== Proof.Mla.States.lean ====
/-
  Hand-written. Over the reals: the gradients after every grid point, and the arrays the launch leaves.
-/
module

public import proofs.«01_k».proof.Proof.Mla.Windows

@[expose] public section

set_option maxRecDepth 16384

noncomputable section

namespace Cert.Kernel2Ideal.Hand

open Cert.Kernel2Ideal Cert.Kernel2Ideal.Gen Cert.Held
open Cert.KernelIdeal.Hand (Mat up2 up4 hi row64 row kcol vcol head hpH eH hpH_head eH_head head_of tileOf inTile tileOf_row
  inTile_row row_of hpC inC hpC_vcol inC_vcol vcol_of eL inL exists_ix4)
open Idealize.ShloMosaic Idealize.ShloMosaic.TcCoe Idealize.ShloMosaic.Tactic
open Idealize.ShloMosaic.Pipeline (Dat Cfg Window)

/-- The arrays the launch reads, over the reals. -/
structure RIn where
  k : Mat 8192 1024
  v : Mat 8192 512
  q : Fin 8 → Fin 16 → Mat 128 512
  g : Fin 4 → Fin 16 → Mat 128 512
  l : Fin 8 → Fin 16 → Fin 512 → ℝ
  d : Fin 8 → Fin 16 → Fin 512 → ℝ

variable (A : RIn)

/-- What a grid point reads. -/
def keysAt (hp : Fin 4) (j : Fin 16) : RKeys :=
  keysR (fun s x => A.k (row j s) (kcol hp x)) (fun s x => A.v (row j s) (vcol hp x))
def arrAt (hp : Fin 4) : RArr := ⟨fun e => A.q (head hp e), A.g hp, fun e => A.l (head hp e), fun e => A.d (head hp e)⟩

/-- The score gradients of key block `j` and query tile `i`. -/
abbrev gradAt (hp : Fin 4) (j i : Fin 16) (e : Fin 2) : Mat 512 512 := grad (keysAt A hp j) (arrAt A hp) (decide (i = j)) e i
/-- The probabilities of key block `j` and query tile `i`. -/
abbrev probAt (hp : Fin 4) (j i : Fin 16) (e : Fin 2) : Mat 512 512 := prob (keysAt A hp j) (arrAt A hp) (decide (i = j)) e i

/-- The queries' gradient from the key blocks before `n`. -/
def qSum (hp : Fin 4) (n : ℕ) (e : Fin 2) (i : Fin 16) (a : Fin 128) (t : Fin 512) : ℝ :=
  ∑ j : Fin 16, if j.val < n ∧ j ≤ i then ∑ s, (keysAt A hp j).t e a s * gradAt A hp j i e s t else 0
/-- The keys' gradient of a key block, by lanes. -/
def kSum (hp : Fin 4) (j : Fin 16) (e : Fin 2) (a : Fin 128) (s : Fin 512) : ℝ :=
  ∑ i : Fin 16, if j ≤ i then ∑ t, A.q (head hp e) i a t * gradAt A hp j i e s t else 0
/-- The values' gradient of a key block, by lanes. -/
def vSum (hp : Fin 4) (j : Fin 16) (e : Fin 2) (a : Fin 64) (s : Fin 512) : ℝ :=
  ∑ i : Fin 16, if j ≤ i then ∑ t, A.g hp i (row64 e a) t * probAt A hp j i e s t else 0

/-- The gradients after a grid point. -/
def stR (hp : Fin 4) (j : Fin 16) : RSt := ⟨qSum A hp (j.val + 1), kSum A hp j, vSum A hp j⟩

/-- One more key block. -/
theorem qSum_succ (hp : Fin 4) (j : Fin 16) (e : Fin 2) (i : Fin 16) (a : Fin 128) (t : Fin 512) :
    qSum A hp (j.val + 1) e i a t
      = qSum A hp j.val e i a t + if j ≤ i then ∑ s, (keysAt A hp j).t e a s * gradAt A hp j i e s t else 0 := by
  unfold qSum
  have h : ∀ x : Fin 16, (if x.val < j.val + 1 ∧ x ≤ i then ∑ s, (keysAt A hp x).t e a s * gradAt A hp x i e s t else 0)
      = (if x.val < j.val ∧ x ≤ i then ∑ s, (keysAt A hp x).t e a s * gradAt A hp x i e s t else 0)
        + if x = j then (if j ≤ i then ∑ s, (keysAt A hp j).t e a s * gradAt A hp j i e s t else 0) else 0 := by
    intro x
    by_cases hx : x = j
    · subst hx
      by_cases hi : x ≤ i <;> simp [hi]
    · have hv : x.val ≠ j.val := fun e => hx (Fin.ext e)
      rw [if_neg hx, add_zero]
      by_cases hl : x.val < j.val
      · simp [hl, Nat.lt_succ_of_lt hl]
      · rw [if_neg (fun h => by omega), if_neg (fun h => hl h.1)]
  rw [Finset.sum_congr rfl fun x _ => h x, Finset.sum_add_distrib, Finset.sum_ite_eq' Finset.univ j]
  simp

/-- No key block yet. -/
theorem qSum_zero (hp : Fin 4) : qSum A hp 0 = fun _ _ _ _ => 0 := by
  funext e i a t
  unfold qSum
  exact Finset.sum_eq_zero fun x _ => if_neg fun h => Nat.not_lt_zero _ h.1

/-- A grid point's gradients from those before it. -/
theorem stR_eq (hp : Fin 4) (j : Fin 16) :
    upto (keysAt A hp j) (arrAt A hp) j 16 (zeroSt (qSum A hp j.val)) = stR A hp j := by
  have hk : ∀ (P : Prop) (i : Fin 16), (P ∧ i.val < 16) = P := fun P i => by simp
  refine RSt.ext ?_ ?_ ?_
  · funext e i a t
    show qSum A hp j.val e i a t + (if j ≤ i ∧ i.val < 16 then _ else 0) = qSum A hp (j.val + 1) e i a t
    rw [qSum_succ]
    simp only [hk]
  · funext e a s
    show 0 + (∑ i : Fin 16, if j ≤ i ∧ i.val < 16 then _ else 0) = kSum A hp j e a s
    rw [zero_add]
    simp only [hk]
    rfl
  · funext e a s
    show 0 + (∑ i : Fin 16, if j ≤ i ∧ i.val < 16 then _ else 0) = vSum A hp j e a s
    rw [zero_add]
    simp only [hk]
    rfl

variable (m : (ℓ : Loc nD τ sig) → Buf (Elt Ideal) ℓ) (c : Dev nD)

/-- The arrays the launch reads hold real numbers. -/
structure Reads : Prop where
  k : V m c main_v46 = up2 A.k
  v : V m c main_v49 = up2 A.v
  q : V m c main_v39 = up4 A.q
  g : V m c main_v44 = up4 A.g
  l : V m c main_v25 = up4 (fun h n (_ : Fin 1) => A.l h n)
  d : V m c main_v28 = up4 (fun h n (_ : Fin 1) => A.d h n)

variable {A m c}

theorem keyBlk_up (R : Reads A m c) (t : Fin grid0.N) :
    keyBlk m c t = up2 (fun s x => A.k (row (jOf t) s) (kcol (hpOf t) x)) := by
  funext y
  idx_vars y
  exact (blk_0 m c t y0 y1).trans (congrFun R.k _)
theorem valBlk_up (R : Reads A m c) (t : Fin grid0.N) :
    valBlk m c t = up2 (fun s x => A.v (row (jOf t) s) (vcol (hpOf t) x)) := by
  funext y
  idx_vars y
  exact (blk_1 m c t y0 y1).trans (congrFun R.v _)

/-- Equal blocks. -/
theorem arrEq {X X' : Arr Ideal} (h1 : X.x4 = X'.x4) (h2 : X.x5 = X'.x5) (h3 : X.x6 = X'.x6) (h4 : X.x7 = X'.x7) : X = X' := by
  cases X
  cases X'
  dsimp only at *
  subst h1 h2 h3 h4
  rfl

theorem blkUp_2 (R : Reads A m c) (t : Fin grid0.N) : (arrBlk m c t).x4 = up4 (fun e => A.q (head (hpOf t) e)) := by
  funext y
  obtain ⟨y0, y1, y2, y3, rfl⟩ : ∃ y0 y1 y2 y3, y = (ix4 y0 y1 y2 y3 : S2x16x128x512.Idx) := exists_ix4 y
  exact (blk_2 m c t y0 y1 y2 y3).trans (congrFun R.q _)
theorem blkUp_3 (R : Reads A m c) (t : Fin grid0.N) : (arrBlk m c t).x5 = up4 (fun _ : Fin 1 => A.g (hpOf t)) := by
  funext y
  obtain ⟨y0, y1, y2, y3, rfl⟩ : ∃ y0 y1 y2 y3, y = (ix4 y0 y1 y2 y3 : S1x16x128x512.Idx) := exists_ix4 y
  exact (blk_3 m c t y0 y1 y2 y3).trans (congrFun R.g _)
theorem blkUp_4 (R : Reads A m c) (t : Fin grid0.N) : (arrBlk m c t).x6 = up4 (fun e n (_ : Fin 1) => A.l (head (hpOf t) e) n) := by
  funext y
  obtain ⟨y0, y1, y2, y3, rfl⟩ : ∃ y0 y1 y2 y3, y = (ix4 y0 y1 y2 y3 : S2x16x1x512.Idx) := exists_ix4 y
  exact (blk_4 m c t y0 y1 y2 y3).trans (congrFun R.l _)
theorem blkUp_5 (R : Reads A m c) (t : Fin grid0.N) : (arrBlk m c t).x7 = up4 (fun e n (_ : Fin 1) => A.d (head (hpOf t) e) n) := by
  funext y
  obtain ⟨y0, y1, y2, y3, rfl⟩ : ∃ y0 y1 y2 y3, y = (ix4 y0 y1 y2 y3 : S2x16x1x512.Idx) := exists_ix4 y
  exact (blk_5 m c t y0 y1 y2 y3).trans (congrFun R.d _)
theorem arrBlk_up (R : Reads A m c) (t : Fin grid0.N) : arrBlk m c t = (arrAt A (hpOf t)).up :=
  arrEq (blkUp_2 R t) (blkUp_3 R t) (blkUp_4 R t) (blkUp_5 R t)

/-- Equal blocks give equal gradients. -/
theorem ptCongr (i : grid0.Coords) {kb kb' : Vec Ideal S512x256 .bf16} {vb vb' : Vec Ideal S512x128 .bf16} {X X' : Arr Ideal}
    (q : Vec Ideal S2x16x128x512 .f32) (h1 : kb = kb') (h2 : vb = vb') (h3 : X = X') : pt i kb vb X q = pt i kb' vb' X' q := by
  subst h1 h2 h3
  rfl

/-- The two ways a grid point finds the queries' gradient. -/
theorem found_q (t : Fin grid0.N) (X : Vec Ideal S2x16x128x512 .f32)
    (h : (jOf t).val = 0 ∨ X = up4 (qSum A (hpOf t) (jOf t).val)) :
    isFirst (grid0.coords t) = 1#1 ∧ qSum A (hpOf t) (jOf t).val = (fun _ _ _ _ => 0)
      ∨ ¬ isFirst (grid0.coords t) = 1#1 ∧ X = up4 (qSum A (hpOf t) (jOf t).val) := by
  by_cases h0 : (jOf t).val = 0
  · refine Or.inl ⟨(isFirst_iff t).mpr h0, ?_⟩
    rw [h0]
    exact qSum_zero A _
  · exact Or.inr ⟨fun e => h0 ((isFirst_iff t).mp e), h.resolve_left h0⟩

/-- A grid point's gradients, its key block told by its number. -/
theorem stR_coord (t : Fin grid0.N) (j : Fin 16) (h : j = jOf t) :
    upto (keysAt A (hpOf t) (jOf t)) (arrAt A (hpOf t)) j 16 (zeroSt (qSum A (hpOf t) (jOf t).val)) = stR A (hpOf t) (jOf t) := by
  subst h
  exact stR_eq A (hpOf t) (jOf t)

/-- A grid point that finds the queries' gradient from the key blocks before its own. -/
theorem ptAt_up (R : Reads A m c) (t : Fin grid0.N) (X : Vec Ideal S2x16x128x512 .f32)
    (h : (jOf t).val = 0 ∨ X = up4 (qSum A (hpOf t) (jOf t).val)) : ptAt m c t X = (stR A (hpOf t) (jOf t)).up :=
  (ptCongr (grid0.coords t) X (keyBlk_up R t) (valBlk_up R t) (arrBlk_up R t)).trans
    ((pt_up (grid0.coords t) _ _ (arrAt A (hpOf t)) (qSum A (hpOf t) (jOf t).val) X (found_q t X h)).trans
      (congrArg RSt.up (stR_coord t _ (coord1_eq t))))

/-- The first grid point, and each from the one before it. -/
theorem stAt_zero (h : 0 < grid0.N) : stAt m c 0 h = ptAt m c ⟨0, h⟩ (zeroQ (F := Ideal)) := rfl
theorem stAt_succ (n : ℕ) (h : n + 1 < grid0.N) : stAt m c (n + 1) h = ptAt m c ⟨n + 1, h⟩ (stAt m c n (Nat.lt_of_succ_lt h)).q := rfl

/-- The queries' gradient a grid point leaves is what the next one of its head pair finds. -/
theorem next_q (t t' : Fin grid0.N) (ht : t'.val = t.val + 1) (h0 : t'.val % 16 ≠ 0) :
    (stR A (hpOf t) (jOf t)).up.q = up4 (qSum A (hpOf t') (jOf t').val) := by
  have e1 : hpOf t = hpOf t' := Fin.ext (by show t.val / 16 = t'.val / 16; omega)
  have e2 : (jOf t).val + 1 = (jOf t').val := by show t.val % 16 + 1 = t'.val % 16; omega
  show up4 (qSum A (hpOf t) ((jOf t).val + 1)) = _
  rw [e1, e2]

/-- The gradients after every grid point. -/
theorem stAt_up (R : Reads A m c) (n : ℕ) : ∀ h : n < grid0.N, stAt m c n h = (stR A (hpOf ⟨n, h⟩) (jOf ⟨n, h⟩)).up := by
  induction n with
  | zero => exact fun h => (stAt_zero h).trans (ptAt_up R ⟨0, h⟩ (zeroQ (F := Ideal)) (Or.inl rfl))
  | succ n ih =>
    intro h
    refine (stAt_succ n h).trans (ptAt_up R ⟨n + 1, h⟩ _ ?_)
    by_cases h0 : (n + 1) % 16 = 0
    · exact Or.inl h0
    · refine Or.inr ((congrArg St.q (ih (Nat.lt_of_succ_lt h))).trans ?_)
      exact next_q ⟨n, Nat.lt_of_succ_lt h⟩ ⟨n + 1, h⟩ rfl h0

/-! ## What the launch leaves -/

variable (A)

/-- The queries' gradient by head, tile and lane. -/
def gotQ (h : Fin 8) (i : Fin 16) : Mat 128 512 := qSum A (hpH h) 16 (eH h) i
/-- The keys' gradient by head, block and lane. -/
def gotK (h : Fin 8) (j : Fin 16) : Mat 128 512 := fun a s => kSum A (hpH h) j (eH h) a s * onTrue (Real.log 2) a
/-- The values' gradient by row and column. -/
def gotV : Mat 8192 512 := fun r x => vSum A (hpC x) (tileOf r) (eL (inC x)) (inL (inC x)) (inTile r)

variable {A}

/-- The queries' gradient array after the launch. -/
theorem left_6 (R : Reads A m c) : (dats m 0 c).arrAt 6 cfg0.N = up4 (gotQ A) := by
  refine (dats m 0 c).arrAt_eq_of_cover 6 (up4 (gotQ A)) (fun t ht => ?_) (fun i => ?_)
  · have h15 : t.val % 16 = 15 := (flush0_6 t).mp ht
    show (stAt m c t.val t.isLt).q = _
    rw [stAt_up R]
    funext y
    rw [View.read_apply]
    idx_vars y
    refine Eq.trans ?_ (congrArg (up4 (gotQ A)) (emb_6 t y0 y1 y2 y3)).symm
    show ((qSum A (hpOf t) (t.val % 16 + 1) y0 y1 y2 y3 : ℝ) : EReal) = ((qSum A (hpH (head (hpOf t) y0)) 16 (eH (head (hpOf t) y0)) y1 y2 y3 : ℝ) : EReal)
    rw [hpH_head, eH_head, h15]
  · have hi : ∃ (a : Fin 8) (b : Fin 16) (x : Fin 128) (s : Fin 512), i = (ix4 a b x s : S8x16x128x512.Idx) := by
      revert i
      intro (i : S8x16x128x512.Idx)
      idx_vars i
      exact ⟨_, _, _, _, rfl⟩
    obtain ⟨a, b, x, s, rfl⟩ := hi
    refine ⟨tOf (hpH a) 15, (flush0_6 _).mpr (congrArg Fin.val (jOf_tOf (hpH a) 15)), ?_⟩
    have := ((cfg0.win 6).blk (tOf (hpH a) 15)).view.emb_mem_set (ix4 (eH a) b x s : S2x16x128x512.Idx)
    rw [emb_6, hpOf_tOf, head_of] at this
    exact this

/-- The keys' gradient array after the launch. -/
theorem left_7 (R : Reads A m c) : (dats m 0 c).arrAt 7 cfg0.N = up4 (gotK A) := by
  refine (dats m 0 c).arrAt_eq_of_cover 7 (up4 (gotK A)) (fun t ht => ?_) (fun i => ?_)
  · show outKAt m c t = _
    unfold outKAt
    rw [stAt_up R]
    refine (outKs_up (kSum A (hpOf t) (jOf t)) someKs).trans ?_
    funext y
    rw [View.read_apply]
    idx_vars y
    refine Eq.trans ?_ (congrArg (up4 (gotK A)) (emb_7 t y0 y1 y2 y3)).symm
    show ((kSum A (hpOf t) (jOf t) y0 y2 y3 * onTrue (Real.log 2) y2 : ℝ) : EReal)
      = ((kSum A (hpH (head (hpOf t) y0)) (jOf t) (eH (head (hpOf t) y0)) y2 y3 * onTrue (Real.log 2) y2 : ℝ) : EReal)
    rw [hpH_head, eH_head]
  · have hi : ∃ (a : Fin 8) (b : Fin 16) (x : Fin 128) (s : Fin 512), i = (ix4 a b x s : S8x16x128x512.Idx) := by
      revert i
      intro (i : S8x16x128x512.Idx)
      idx_vars i
      exact ⟨_, _, _, _, rfl⟩
    obtain ⟨a, b, x, s, rfl⟩ := hi
    refine ⟨tOf (hpH a) b, flush0_7 _, ?_⟩
    have := ((cfg0.win 7).blk (tOf (hpH a) b)).view.emb_mem_set (ix4 (eH a) 0 x s : S2x1x128x512.Idx)
    rw [emb_7, hpOf_tOf, jOf_tOf, head_of] at this
    exact this

/-- The values' gradient array after the launch. -/
theorem left_8 (R : Reads A m c) : (dats m 0 c).arrAt 8 cfg0.N = up2 (gotV A) := by
  refine (dats m 0 c).arrAt_eq_of_cover 8 (up2 (gotV A)) (fun t ht => ?_) (fun i => ?_)
  · show outVAt m c t = _
    unfold outVAt
    rw [stAt_up R]
    refine (outV_up (vSum A (hpOf t) (jOf t)) (fun s x => vSum A (hpOf t) (jOf t) (eL x) (inL x) s) fun e a s => ?_).trans ?_
    · have e1 : eL (row64 e a) = e := Fin.ext (by show (64 * e.val + a.val) / 64 = e.val; omega)
      have e2 : inL (row64 e a) = a := Fin.ext (by show (64 * e.val + a.val) % 64 = a.val; omega)
      rw [e1, e2]
    funext y
    rw [View.read_apply]
    idx_vars y
    refine Eq.trans ?_ (congrArg (up2 (gotV A)) (emb_8 t y0 y1)).symm
    show ((vSum A (hpOf t) (jOf t) (eL y1) (inL y1) y0 : ℝ) : EReal)
      = ((vSum A (hpC (vcol (hpOf t) y1)) (tileOf (row (jOf t) y0)) (eL (inC (vcol (hpOf t) y1))) (inL (inC (vcol (hpOf t) y1))) (inTile (row (jOf t) y0)) : ℝ) : EReal)
    rw [hpC_vcol, inC_vcol, tileOf_row, inTile_row]
  · have hi : ∃ (a : Fin 8192) (b : Fin 512), i = (ix2 a b : S8192x512.Idx) := by
      revert i
      intro (i : S8192x512.Idx)
      idx_vars i
      exact ⟨_, _, rfl⟩
    obtain ⟨a, b, rfl⟩ := hi
    refine ⟨tOf (hpC b) (tileOf a), flush0_8 _, ?_⟩
    have := ((cfg0.win 8).blk (tOf (hpC b) (tileOf a))).view.emb_mem_set (ix2 (inTile a) (inC b) : S512x128.Idx)
    rw [emb_8, hpOf_tOf, jOf_tOf, row_of, vcol_of] at this
    exact this

end Cert.Kernel2Ideal.Hand
-- ==== Proof.Mla.Prefix.lean ====
/-
  Hand-written. What the host lines before the launch give it, as terms of the arguments.
-/
module

public import proofs.«01_k».proof.Proof.Mla.States
public import Idealize.ShloMosaic.Lib.StableHlo.RunRead
public import Idealize.ShloMosaic.Lib.Claim

@[expose] public section

set_option maxRecDepth 16384

noncomputable section

namespace Cert.Kernel2Ideal.Hand

open Cert.Kernel2Ideal Cert.Kernel2Ideal.Gen Cert.Held
open Idealize.ShloMosaic Idealize.ShloMosaic.TcCoe Idealize.ShloMosaic.Tactic

/-- The masked scores. -/
def scoresT (q k : FVec Ideal S8x8192x96 .f32) : FVec Ideal S8x8192x8192 .f32 :=
  select
    (broadcastInDim S8x8192x8192 ![0, 1, 2] bcast_S1x8192x8192_S8x8192x8192_0_1_2
      (cmpi .sle
        (broadcastInDim S1x8192x8192 ![0, 1, 2] bcast_S1x1x8192_S1x8192x8192_0_1_2
          (broadcastInDim S1x1x8192 ![2] bcast_S8192_S1x1x8192_2 (iotaInDim S8192 32 0)))
        (broadcastInDim S1x8192x8192 ![0, 1, 2] bcast_S1x8192x1_S1x8192x8192_0_1_2
          (broadcastInDim S1x8192x1 ![1] bcast_S8192_S1x8192x1_1 (iotaInDim S8192 32 0)))))
    (mulf (Host.dotGeneral dot_S8x8192x96_S8x8192x96_S8x8192x8192_2_2_1_1_0_0 none q k)
      (broadcastInDim S8x8192x8192 ![] bcast_S_S8x8192x8192 (constant S_ .f32 0x3DD105EC#32)))
    (broadcastInDim S8x8192x8192 ![] bcast_S_S8x8192x8192 (constant S_ .f32 0xFF800000#32))

/-- Each row's greatest score, the exponentials, each row's sum, the probabilities. -/
def maxT (s : FVec Ideal S8x8192x8192 .f32) : FVec Ideal S8x8192x1 .f32 :=
  broadcastInDim S8x8192x1 ![0, 1] bcast_S8x8192_S8x8192x1_0_1
    (Host.reduce FloatOps.maximumf s (constant S_ .f32 0xFF800000#32) reducesTo_S8x8192x8192_S8x8192_d2 h_S_)
def expT (s : FVec Ideal S8x8192x8192 .f32) (μ : FVec Ideal S8x8192x1 .f32) : FVec Ideal S8x8192x8192 .f32 :=
  Host.exp (subf s (broadcastInDim S8x8192x8192 ![0, 1, 2] bcast_S8x8192x1_S8x8192x8192_0_1_2 μ))
def sumT (e : FVec Ideal S8x8192x8192 .f32) : FVec Ideal S8x8192x1 .f32 :=
  broadcastInDim S8x8192x1 ![0, 1] bcast_S8x8192_S8x8192x1_0_1
    (Host.reduceAdd e (constant S_ .f32 0x00000000#32) reducesTo_S8x8192x8192_S8x8192_d2 h_S_)
def probT (e : FVec Ideal S8x8192x8192 .f32) (l : FVec Ideal S8x8192x1 .f32) : FVec Ideal S8x8192x8192 .f32 :=
  Host.divf e (broadcastInDim S8x8192x8192 ![0, 1, 2] bcast_S8x8192x1_S8x8192x8192_0_1_2 l)

/-- The logarithm of two. -/
def ln2T : FVec Ideal S_ .f32 := Host.log (constant S_ .f32 0x40000000#32)

/-- The log-sums in base two, and the row dots. -/
def lseT (μ l : FVec Ideal S8x8192x1 .f32) : FVec Ideal S8x16x1x512 .f32 :=
  shapeCast S8x16x1x512 (Host.divf (addf μ (Host.log l)) (broadcastInDim S8x8192x1 ![] bcast_S_S8x8192x1 ln2T))
    shapeCasts_S8x8192x1_S8x16x1x512
def dlT (p : FVec Ideal S8x8192x8192 .f32) (v ct : FVec Ideal S8x8192x64 .f32) : FVec Ideal S8x16x1x512 .f32 :=
  shapeCast S8x16x1x512
    (Host.reduceAdd (mulf (Host.dotGeneral dot_S8x8192x8192_S8x8192x64_S8x8192x64_2_1_1_2_0_0 none p v) ct)
      (constant S_ .f32 0x00000000#32) reducesTo_S8x8192x64_S8x8192_d2 h_S_)
    shapeCasts_S8x8192_S8x16x1x512

/-- Lanes of zeros. -/
def zero32T : FVec Ideal S8x8192x32 .f32 := broadcastInDim S8x8192x32 ![] bcast_S_S8x8192x32 (constant S_ .f32 0x00000000#32)

/-- A head's own lanes and lanes of zeros. -/
def catT (a : FVec Ideal S8x8192x96 .f32) : FVec Ideal S8x8192x128 .bf16 :=
  truncf .bf16
    (concatenate S8x8192x128 2 [⟨S8x8192x96, a⟩, ⟨S8x8192x32, zero32T⟩] concatenates_S8x8192x96_S8x8192x32_S8x8192x128_d2)
    bitsLt_bf16_f32

/-- The scaled queries. -/
def scaledT (q : FVec Ideal S8x8192x96 .f32) : FVec Ideal S8x8192x96 .f32 :=
  Host.divf (mulf q (broadcastInDim S8x8192x96 ![] bcast_S_S8x8192x96 (constant S_ .f32 0x3DD105EC#32)))
    (broadcastInDim S8x8192x96 ![] bcast_S_S8x8192x96 ln2T)

/-- The queries, keys, values and cotangents as the launch takes them. -/
def qTilesT (x : FVec Ideal S8x8192x128 .bf16) : FVec Ideal S8x16x128x512 .bf16 :=
  transpose S8x16x128x512 [0, 1, 3, 2] (shapeCast S8x16x512x128 x shapeCasts_S8x8192x128_S8x16x512x128) transposes_S8x16x512x128_S8x16x128x512_0_1_3_2
def kRowsT (x : FVec Ideal S8x8192x128 .bf16) : FVec Ideal S8192x1024 .bf16 :=
  shapeCast S8192x1024 (transpose S8192x8x128 [1, 0, 2] x transposes_S8x8192x128_S8192x8x128_1_0_2) shapeCasts_S8192x8x128_S8192x1024
def rowsT (x : FVec Ideal S8x8192x64 .f32) : FVec Ideal S8192x512 .bf16 :=
  truncf .bf16 (shapeCast S8192x512 (transpose S8192x8x64 [1, 0, 2] x transposes_S8x8192x64_S8192x8x64_1_0_2) shapeCasts_S8192x8x64_S8192x512) bitsLt_bf16_f32
def gTilesT (x : FVec Ideal S8192x512 .bf16) : FVec Ideal S4x16x128x512 .bf16 :=
  transpose S4x16x128x512 [2, 0, 3, 1] (shapeCast S16x512x4x128 x shapeCasts_S8192x512_S16x512x4x128) transposes_S16x512x4x128_S4x16x128x512_2_0_3_1

variable (m : (ℓ : Loc nD τ sig) → Buf (Elt Ideal) ℓ) (c : Dev nD)

/-- The arguments. -/
abbrev argQ : FVec Ideal S8x8192x96 .f32 := m ((c : Thread nD τ).loc main_arg0)
abbrev argK : FVec Ideal S8x8192x96 .f32 := m ((c : Thread nD τ).loc main_arg1)
abbrev argV : FVec Ideal S8x8192x64 .f32 := m ((c : Thread nD τ).loc main_arg2)
abbrev argC : FVec Ideal S8x8192x64 .f32 := m ((c : Thread nD τ).loc main_arg3)

/-- The exponentials and sums of the launch's rows. -/
abbrev sT : FVec Ideal S8x8192x8192 .f32 := scoresT (argQ m c) (argK m c)
abbrev eT : FVec Ideal S8x8192x8192 .f32 := expT (sT m c) (maxT (sT m c))

/-- What the launch reads. -/
theorem V_lse : V m c main_v25 = lseT (maxT (sT m c)) (sumT (eT m c)) := by
  unfold_abbrev_sides
  after_reads_simp
  simp only [StableHlo.TRef.toBuf, StableHlo.TRef.ofBuf, cast_eq]
  rfl
theorem V_dl : V m c main_v28 = dlT (probT (eT m c) (sumT (eT m c))) (argV m c) (argC m c) := by
  unfold_abbrev_sides
  after_reads_simp
  simp only [StableHlo.TRef.toBuf, StableHlo.TRef.ofBuf, cast_eq]
  rfl
theorem V_q : V m c main_v39 = qTilesT (catT (scaledT (argQ m c))) := by
  unfold_abbrev_sides
  after_reads_simp
  rfl
theorem V_g : V m c main_v44 = gTilesT (rowsT (argC m c)) := by
  unfold_abbrev_sides
  after_reads_simp
  rfl
theorem V_k : V m c main_v46 = kRowsT (catT (argK m c)) := by
  unfold_abbrev_sides
  after_reads_simp
  rfl
theorem V_v : V m c main_v49 = rowsT (argV m c) := by
  unfold_abbrev_sides
  after_reads_simp
  rfl

end Cert.Kernel2Ideal.Hand
-- ==== Proof.Mla.Values.lean ====
/-
  Hand-written. What the host lines before the launch give it, over the reals: the layouts and the lanes.
-/
module

public import proofs.«01_k».proof.Proof.Mla.Prefix

@[expose] public section

set_option maxRecDepth 16384

noncomputable section

namespace Cert.Kernel2Ideal.Hand

open Cert.Kernel2Ideal Cert.Kernel2Ideal.Gen Cert.Held Cert.Consts
open Cert.KernelIdeal.Hand (Mat up2 up3 up4 up2_ix up3_ix row vcol ln2_ne)
open Idealize.ShloMosaic Idealize.ShloMosaic.TcCoe Idealize.ShloMosaic.Tactic

/-- A head's queries and keys: 96 true lanes, then zeros. -/
def qLane (q : Mat 8192 96) : Mat 8192 128 := fun t a =>
  if h : a.val < 96 then q t ⟨a.val, h⟩ * scaleR * (1 / Real.log 2) else 0
def kLane (k : Mat 8192 96) : Mat 8192 128 := fun s a => if h : a.val < 96 then k s ⟨a.val, h⟩ else 0

/-- The logarithm of two. -/
theorem ln2T_eq (j) : ln2T j = ((Real.log 2 : ℝ) : EReal) := by
  pointwise [ln2T]
  rw [ofBits_two, Ideal.log_coe, if_neg (by norm_num)]

/-- The queries' scale. -/
theorem scaled_at (q : Fin 8 → Mat 8192 96) : scaledT (up3 q) = up3 (fun h t a => q h t a * scaleR * (1 / Real.log 2)) := by
  funext j
  idx_vars j
  pointwise [scaledT]
  rw [ln2T_eq, Ideal.div_coe ln2_ne, ofBits_scale]
  simp only [up3_ix, ← EReal.coe_mul]

/-- The queries with their lanes. -/
theorem qLanes_at (q : Fin 8 → Mat 8192 96) : catT (scaledT (up3 q)) = up3 (fun h => qLane (q h)) := by
  rw [scaled_at]
  funext j
  idx_vars j
  pointwise [catT, zero32T]
  simp only [up3_ix, qLane]
  split_ifs
  all_goals first | rfl | (exfalso; omega)

/-- The keys with their lanes. -/
theorem kLanes_at (k : Fin 8 → Mat 8192 96) : catT (up3 k) = up3 (fun h => kLane (k h)) := by
  funext j
  idx_vars j
  pointwise [catT, zero32T]
  simp only [up3_ix, kLane]
  split_ifs
  all_goals first | rfl | (exfalso; omega)

/-- The launch's layouts. -/
theorem qTiles_at (f : Fin 8 → Mat 8192 128) : qTilesT (up3 f) = up4 (fun h n a t => f h (row n t) a) := by
  funext j
  idx_vars j
  pointwise [qTilesT]
  exact congrArg (fun r => ((f j0 r j2 : ℝ) : EReal)) (Fin.ext (by show j1.val * 512 + j3.val = 512 * j1.val + j3.val; omega))
theorem kRows_at (f : Fin 8 → Mat 8192 128) : kRowsT (up3 f) = up2 (fun s x => f ⟨x.val / 128, by omega⟩ s ⟨x.val % 128, by omega⟩) := by
  funext j
  idx_vars j
  pointwise [kRowsT]
  rfl
theorem rows_at (f : Fin 8 → Mat 8192 64) : rowsT (up3 f) = up2 (fun s x => f ⟨x.val / 64, by omega⟩ s ⟨x.val % 64, by omega⟩) := by
  funext j
  idx_vars j
  pointwise [rowsT]
  rfl
theorem gTiles_at (f : Mat 8192 512) : gTilesT (up2 f) = up4 (fun hp n a t => f (row n t) (vcol hp a)) := by
  funext j
  idx_vars j
  pointwise [gTilesT]
  exact congrArg₂ (fun r x => ((f r x : ℝ) : EReal)) (Fin.ext (by show j1.val * 512 + j3.val = 512 * j1.val + j3.val; omega))
    (Fin.ext (by show j0.val * 128 + j2.val = 128 * j0.val + j2.val; omega))

end Cert.Kernel2Ideal.Hand
-- ==== Proof.Mla.Reals.lean ====
/-
  Hand-written. The gradients of the attention with heads of 96 lanes over the reals: what both programs compute.
-/
module

public import proofs.«01_k».proof.Proof.Softmax
public import proofs.«01_k».proof.Proof.Mla.Consts

@[expose] public section

noncomputable section

namespace Cert.Attention2

open Cert.Softmax Cert.Consts
open Cert.KernelIdeal.Hand (Mat)

/-- The arguments over the reals: queries, keys, values and output cotangents. -/
structure Args where
  q : Fin 8 → Mat 8192 96
  k : Fin 8 → Mat 8192 96
  v : Fin 8 → Mat 8192 64
  c : Fin 8 → Mat 8192 64

variable (A : Args)

/-- A query's score of a key. -/
def score (h : Fin 8) (t s : Fin 8192) : ℝ := (∑ d, A.q h t d * A.k h s d) * scaleR
/-- The probabilities, their cotangents, the row dots and the scores' cotangents. -/
def soft (h : Fin 8) : Mat 8192 8192 := fun t s => pS (score A h t) t s
def dp (h : Fin 8) : Mat 8192 8192 := fun t s => ∑ d, A.c h t d * A.v h s d
def dot (h : Fin 8) (t : Fin 8192) : ℝ := ∑ s, soft A h t s * dp A h t s
def cot (h : Fin 8) : Mat 8192 8192 := fun t s => soft A h t s * (dp A h t s - dot A h t)
/-- The gradients of the queries, keys and values. -/
def dq (h : Fin 8) : Mat 8192 96 := fun t d => ∑ s, cot A h t s * scaleR * A.k h s d
def dk (h : Fin 8) : Mat 8192 96 := fun s d => ∑ t, cot A h t s * scaleR * A.q h t d
def dv (h : Fin 8) : Mat 8192 64 := fun s d => ∑ t, A.c h t d * soft A h t s

end Cert.Attention2
-- ==== Proof.Mla.Rows.lean ====
/-
  Hand-written. The softmax's rows as the host lines compute them, over the reals.
-/
module

public import proofs.«01_k».proof.Proof.Mla.Values
public import proofs.«01_k».proof.Proof.Mla.Reals

@[expose] public section

set_option maxRecDepth 16384

noncomputable section

namespace Cert.Kernel2Ideal.Hand

open Cert.Kernel2Ideal Cert.Kernel2Ideal.Gen Cert.Held Cert.Consts Cert.Softmax Cert.Attention2
open Cert.KernelIdeal.Hand (Mat up2 up3 up4 up2_ix up3_ix coeSum select_ofBool row ln2_ne bit_rows exp_masked div_real)
open Idealize.ShloMosaic Idealize.ShloMosaic.TcCoe Idealize.ShloMosaic.Tactic

variable (x : Fin 8 → Mat 8192 8192)

/-- The masked scores. -/
theorem scores_at (A : Args) (h t s) : scoresT (up3 A.q) (up3 A.k) (ix3 h t s) = masked (score A h t) t s := by
  pointwise [scoresT]
  rw [bit_rows, select_ofBool, ofBits_scale, ofBits_ninf]
  simp only [up3_ix, up2_ix, ← EReal.coe_mul, coeSum]
  rfl

/-- The rows' maxima. -/
theorem max_at (sc : FVec Ideal S8x8192x8192 .f32) (hs : ∀ h t s, sc (ix3 h t s) = masked (x h t) t s) :
    maxT sc = up3 (fun h t (_ : Fin 1) => (max_real (x h t) t).choose) := by
  funext j
  idx_vars j
  pointwise [maxT]
  rw [ofBits_ninf]
  exact (congrArg (fun f => Finset.univ.fold max ⊥ f) (funext fun s => hs j0 j1 s)).trans (max_real (x j0 j1) j1).choose_spec

/-- The exponentials. -/
theorem exp_at (sc : FVec Ideal S8x8192x8192 .f32) (hs : ∀ h t s, sc (ix3 h t s) = masked (x h t) t s) (u : Fin 8 → Mat 8192 1) :
    expT sc (up3 u) = up3 (fun h t s => eS (x h t) (u h t 0) t s) := by
  funext j
  idx_vars j
  pointwise [expT]
  rw [hs]
  exact exp_masked _ _ _ _

/-- The rows' sums. -/
theorem sum_at (f : Fin 8 → Mat 8192 8192) : sumT (up3 f) = up3 (fun h t (_ : Fin 1) => ∑ s, f h t s) := by
  funext j
  idx_vars j
  pointwise [sumT]
  exact coeSum _

/-- The probabilities. -/
theorem prob_at (f : Fin 8 → Mat 8192 8192) (l : Fin 8 → Mat 8192 1) (hl : ∀ h t z, l h t z ≠ 0) :
    probT (up3 f) (up3 l) = up3 (fun h t s => f h t s / l h t 0) := by
  funext j
  idx_vars j
  pointwise [probT]
  exact div_real _ (hl j0 j1 0)

/-- The log-sums in base two. -/
theorem lse_at (u l : Fin 8 → Mat 8192 1) (hl : ∀ h t z, 0 < l h t z) :
    lseT (up3 u) (up3 l) = up4 (fun h n (_ : Fin 1) t => (u h (row n t) 0 + Real.log (l h (row n t) 0)) * (1 / Real.log 2)) := by
  funext j
  idx_vars j
  pointwise [lseT]
  have hr : (⟨j1.val * 512 + j3.val, by omega⟩ : Fin 8192) = row j1 j3 := Fin.ext (by show j1.val * 512 + j3.val = 512 * j1.val + j3.val; omega)
  rw [hr, ln2T_eq, Ideal.div_coe ln2_ne, up3_ix, up3_ix, Ideal.log_coe, if_neg (not_le.mpr (hl _ _ _)), ← EReal.coe_add, ← EReal.coe_mul]
  rfl

/-- The row dots. -/
theorem dl_at (p : Fin 8 → Mat 8192 8192) (v c : Fin 8 → Mat 8192 64) :
    dlT (up3 p) (up3 v) (up3 c) = up4 (fun h n (_ : Fin 1) t => ∑ d, (∑ s, p h (row n t) s * v h s d) * c h (row n t) d) := by
  funext j
  idx_vars j
  pointwise [dlT]
  have hr : (⟨j1.val * 512 + j3.val, by omega⟩ : Fin 8192) = row j1 j3 := Fin.ext (by show j1.val * 512 + j3.val = 512 * j1.val + j3.val; omega)
  rw [hr]
  simp only [up3_ix, ← EReal.coe_mul, coeSum]
  rfl

end Cert.Kernel2Ideal.Hand
-- ==== Proof.Mla.Given.lean ====
/-
  Hand-written. The launch's arrays of real arguments, and what they make of a block of scores.
-/
module

public import proofs.«01_k».proof.Proof.Mla.Rows

@[expose] public section

set_option maxRecDepth 16384

noncomputable section

namespace Cert.Kernel2Ideal.Hand

open Cert.Kernel2Ideal Cert.Kernel2Ideal.Gen Cert.Held Cert.Consts Cert.Softmax Cert.Attention2
open Cert.KernelIdeal.Hand (up2 up3 row vcol)
open Idealize.ShloMosaic Idealize.ShloMosaic.TcCoe Idealize.ShloMosaic.Tactic

variable (A : Args)

/-- A row's maximum and its sum of exponentials. -/
def top (h : Fin 8) (t : Fin 8192) : ℝ := (max_real (score A h t) t).choose
def len (h : Fin 8) (t : Fin 8192) : ℝ := lS (score A h t) (top A h t) t

/-- The arrays the launch reads, of the arguments. -/
def given : RIn where
  k := fun s x => kLane (A.k ⟨x.val / 128, by omega⟩) s ⟨x.val % 128, by omega⟩
  v := fun s x => A.v ⟨x.val / 64, by omega⟩ s ⟨x.val % 64, by omega⟩
  q := fun h n a t => qLane (A.q h) (row n t) a
  g := fun hp n a t => A.c ⟨(vcol hp a).val / 64, by omega⟩ (row n t) ⟨(vcol hp a).val % 64, by omega⟩
  l := fun h n t => (top A h (row n t) + Real.log (len A h (row n t))) * (1 / Real.log 2)
  d := fun h n t => ∑ d, (∑ s, soft A h (row n t) s * A.v h s d) * A.c h (row n t) d

variable {m : (ℓ : Loc nD τ sig) → Buf (Elt Ideal) ℓ} {c : Dev nD}

/-- The memory's arguments are these reals. -/
structure Holds (A : Args) (m : (ℓ : Loc nD τ sig) → Buf (Elt Ideal) ℓ) (c : Dev nD) : Prop where
  q : argQ m c = up3 A.q
  k : argK m c = up3 A.k
  v : argV m c = up3 A.v
  c : argC m c = up3 A.c

variable {A}

/-- The scores, maxima, exponentials and sums of real arguments. -/
theorem sT_at (H : Holds A m c) (h t s) : sT m c (ix3 h t s) = masked (score A h t) t s := by
  unfold sT
  rw [H.q, H.k]
  exact scores_at A h t s
theorem top_at (H : Holds A m c) : maxT (sT m c) = up3 (fun h t (_ : Fin 1) => top A h t) := max_at (score A) _ (sT_at H)
theorem eT_at (H : Holds A m c) : eT m c = up3 (fun h t s => eS (score A h t) (top A h t) t s) := by
  unfold eT
  rw [top_at H]
  exact exp_at (score A) _ (sT_at H) _
theorem len_at (H : Holds A m c) : sumT (eT m c) = up3 (fun h t (_ : Fin 1) => len A h t) := by
  rw [eT_at H]
  exact sum_at _
theorem pr_at (H : Holds A m c) : probT (eT m c) (sumT (eT m c)) = up3 (soft A) := by
  rw [len_at H, eT_at H]
  refine (prob_at _ _ fun h t _ => (lS_pos (score A h t) (top A h t) t).ne').trans ?_
  exact congrArg up3 (funext fun h => funext fun t => funext fun s => div_eq (score A h t) (top A h t) t s)

/-- The launch reads the arrays of the arguments. -/
theorem given_reads (H : Holds A m c) : Reads (given A) m c where
  k := by
    rw [V_k, H.k, kLanes_at, kRows_at]
    rfl
  v := by
    rw [V_v, H.v, rows_at]
    rfl
  q := by
    rw [V_q, H.q, qLanes_at, qTiles_at]
    rfl
  g := by
    rw [V_g, H.c, rows_at, gTiles_at]
    rfl
  l := by
    rw [V_lse, len_at H, top_at H]
    refine (lse_at _ _ fun h t _ => lS_pos (score A h t) (top A h t) t).trans ?_
    rfl
  d := by
    rw [V_dl, pr_at H, H.v, H.c, dl_at]
    rfl

end Cert.Kernel2Ideal.Hand
-- ==== Proof.Mla.Finite.lean ====
/-
  Hand-written. Arguments that are finite hold real numbers.
-/
module

public import proofs.«01_k».proof.Defs
public import proofs.«01_k».proof.Proof.Finite
public import proofs.«01_k».proof.Proof.Mla.Given

@[expose] public section

set_option maxRecDepth 16384

noncomputable section

namespace Cert.Finite2

open Cert.Consts Cert.Attention2
open Cert.Finite (real_of)
open Cert.KernelIdeal.Hand (up3)
open Cert.Kernel2Ideal.Hand (argQ argK argV argC Holds)
open Idealize.ShloMosaic Idealize.ShloMosaic.TcCoe

/-- The side conditions the precondition states. -/
theorem facts : Cert.Pre_finite2.Facts where
  bcast_S_S8x8192x96 := by decide
  bcast_S_S8x8192x64 := by decide

/-- Arrays of real numbers. -/
theorem array3 {n : ℕ} {x : (⟨3, ![8, 8192, n]⟩ : Shape).Idx → EReal}
    (h : ∀ j, Ideal.cmp .olt (max (x j) (-x j)) (Ideal.ofBits .f32 0x7F800000#32) = 1#1) :
    x = up3 (fun a b c => (x (ix3 a b c)).toReal) := by
  funext j
  obtain ⟨a, b, c, rfl⟩ : ∃ a b c, j = ix3 a b c := ⟨j 0, j 1, j 2, by funext i; fin_cases i <;> rfl⟩
  exact real_of (h (ix3 a b c))

variable (m : (ℓ : Loc Cert.Kernel2Ideal.nD Cert.Kernel2Ideal.τ Cert.Kernel2Ideal.sig) → Buf (Elt Ideal) ℓ)

/-- The real numbers the arguments hold. -/
def argsOf (c : Dev Cert.Kernel2Ideal.nD) : Args where
  q := fun x y z => (argQ m c (ix3 x y z)).toReal
  k := fun x y z => (argK m c (ix3 x y z)).toReal
  v := fun x y z => (argV m c (ix3 x y z)).toReal
  c := fun x y z => (argC m c (ix3 x y z)).toReal

/-- Finite arguments hold them. -/
theorem holds (h : Cert.Pre_Kernel2Ideal_finite2 (hPre_finite2 := facts) m) (c : Dev Cert.Kernel2Ideal.nD) : Holds (argsOf m c) m c where
  q := array3 fun j => congrFun (h c).1 j
  k := array3 fun j => congrFun (h c).2.1 j
  v := array3 fun j => congrFun (h c).2.2.1 j
  c := array3 fun j => congrFun (h c).2.2.2 j

end Cert.Finite2
-- ==== Proof.Mla.Suffix.lean ====
/-
  Hand-written. What the host lines after the launch make of the gradients' arrays.
-/
module

public import proofs.«01_k».proof.Proof.Mla.States
public import Idealize.ShloMosaic.Lib.StableHlo.RunRead
public import Idealize.ShloMosaic.Lib.Claim

@[expose] public section

set_option maxRecDepth 16384

noncomputable section

namespace Cert.Kernel2Ideal.Hand

open Cert.Kernel2Ideal Cert.Kernel2Ideal.Gen Cert.Held
open Cert.KernelIdeal.Hand (Mat up2 up3 up4 row64 tileOf inTile)
open Idealize.ShloMosaic Idealize.ShloMosaic.TcCoe Idealize.ShloMosaic.Tactic
open Idealize.ShloMosaic.Pipeline (Dat Cfg Window)

/-- A gradient's own lanes by head, row and lane. -/
def ownT (x : FVec Ideal S8x16x128x512 .f32) : FVec Ideal S8x8192x96 .f32 :=
  shapeCast S8x8192x96
    (transpose S8x16x512x96 [0, 1, 3, 2] (extractStridedSlice S8x16x96x512 ![0, 0, 0, 0] x slices_S8x16x128x512_S8x16x96x512_0_0_0_0)
      transposes_S8x16x96x512_S8x16x512x96_0_1_3_2)
    shapeCasts_S8x16x512x96_S8x8192x96
/-- The values' gradient by head, row and lane. -/
def valT (x : FVec Ideal S8192x512 .bf16) : FVec Ideal S8x8192x64 .f32 :=
  extf .f32 (transpose S8x8192x64 [1, 0, 2] (shapeCast S8192x8x64 x shapeCasts_S8192x512_S8192x8x64) transposes_S8192x8x64_S8x8192x64_1_0_2) bitsLt_bf16_f32

variable (m : (ℓ : Loc nD τ sig) → Buf (Elt Ideal) ℓ) (c : Dev nD)

/-- The buffers as the launch leaves them. -/
abbrev leftV : Valuation τ sig (Elt Ideal) := Pipeline.withArrays spec0 c (V0 m c) fun w => (dats m 0 c).arrAt w cfg0.N

theorem leftV_6 : leftV m c (Proc.devRef .tc main_v50_0) = (dats m 0 c).arrAt 6 cfg0.N :=
  Pipeline.withArrays_arr spec0 (by decide) c (V0 m c) _ 6
theorem leftV_7 : leftV m c (Proc.devRef .tc main_v50_1) = (dats m 0 c).arrAt 7 cfg0.N :=
  Pipeline.withArrays_arr spec0 (by decide) c (V0 m c) _ 7
theorem leftV_8 : leftV m c (Proc.devRef .tc main_v50_2) = (dats m 0 c).arrAt 8 cfg0.N :=
  Pipeline.withArrays_arr spec0 (by decide) c (V0 m c) _ 8

theorem W_q (X : FVec Ideal S8x16x128x512 .f32) (h : (dats m 0 c).arrAt 6 cfg0.N = X) :
    Pipeline.afterTail₀ cfgs (dats m) 0 (V0 m) [hostOps1] c main_v53 = ownT X := by
  have e := (leftV_6 m c).trans h
  unfold Pipeline.afterTail₀
  show StableHlo.after [hostOps1].flatten (leftV m c) (Proc.devRef .tc main_v53) = _
  generalize leftV m c = L at *
  after_reads_simp
  exact congrArg ownT e
theorem W_k (X : FVec Ideal S8x16x128x512 .f32) (h : (dats m 0 c).arrAt 7 cfg0.N = X) :
    Pipeline.afterTail₀ cfgs (dats m) 0 (V0 m) [hostOps1] c main_v56 = ownT X := by
  have e := (leftV_7 m c).trans h
  unfold Pipeline.afterTail₀
  show StableHlo.after [hostOps1].flatten (leftV m c) (Proc.devRef .tc main_v56) = _
  generalize leftV m c = L at *
  after_reads_simp
  exact congrArg ownT e
theorem W_v (X : FVec Ideal S8192x512 .bf16) (h : (dats m 0 c).arrAt 8 cfg0.N = X) :
    Pipeline.afterTail₀ cfgs (dats m) 0 (V0 m) [hostOps1] c main_v59 = valT X := by
  have e := (leftV_8 m c).trans h
  unfold Pipeline.afterTail₀
  show StableHlo.after [hostOps1].flatten (leftV m c) (Proc.devRef .tc main_v59) = _
  generalize leftV m c = L at *
  after_reads_simp
  exact congrArg valT e

/-! ## Over the reals -/

/-- A true lane among a head's lanes. -/
def trueLane (x : Fin 96) : Fin 128 := ⟨x.val, by omega⟩

theorem own_up (f : Fin 8 → Fin 16 → Mat 128 512) :
    ownT (up4 f) = up3 (fun h r (x : Fin 96) => f h (tileOf r) (trueLane x) (inTile r)) := by
  funext j
  idx_vars j
  pointwise [ownT]
  rfl
theorem val_up (f : Mat 8192 512) :
    valT (up2 f) = up3 (fun (h : Fin 8) r (x : Fin 64) => f r ⟨64 * h.val + x.val, by omega⟩) := by
  funext j
  idx_vars j
  pointwise [valT]
  exact congrArg (fun x => ((f j1 x : ℝ) : EReal)) (Fin.ext (by show j0.val * 64 + j2.val = 64 * j0.val + j2.val; omega))

end Cert.Kernel2Ideal.Hand
-- ==== Proof.Mla.Sums.lean ====
/-
  Hand-written. A block's scores from its lanes.
-/
module

public import proofs.«01_k».proof.Proof.Mla.Values
public import proofs.«01_k».proof.Proof.Mla.Suffix

@[expose] public section

set_option maxRecDepth 16384

noncomputable section

namespace Cert.Kernel2Ideal.Hand

open Cert.Kernel2Ideal Cert.Kernel2Ideal.Gen Cert.Held Cert.Consts
open Cert.KernelIdeal.Hand (Mat)
open Idealize.ShloMosaic

/-- Lanes past the 96 true ones: a sum over all of them where they give nothing. -/
theorem sum_true (f : Fin 128 → ℝ) (h : ∀ x : Fin 128, 96 ≤ x.val → f x = 0) : ∑ x, f x = ∑ d, f (trueLane d) := by
  have e : ∑ x, f x = (∑ d : Fin 96, f ⟨d.val, by omega⟩) + ∑ d : Fin 32, f ⟨96 + d.val, by omega⟩ := Fin.sum_univ_add (a := 96) (b := 32) f
  have z : ∑ d : Fin 32, f ⟨96 + d.val, by omega⟩ = 0 :=
    Finset.sum_eq_zero fun d _ => h ⟨96 + d.val, by omega⟩ (by show 96 ≤ 96 + d.val; omega)
  rw [e, z, add_zero]
  rfl

/-- The lanes of a key and a query make their score in base two. -/
theorem lane_score (q k : Mat 8192 96) (t s : Fin 8192) :
    ∑ x, kLane k s x * qLane q t x = ((∑ d, q t d * k s d) * scaleR) * (1 / Real.log 2) := by
  rw [sum_true _ fun x hx => by rw [kLane, dif_neg (by omega), zero_mul], Finset.sum_mul, Finset.sum_mul]
  refine Finset.sum_congr rfl fun d _ => ?_
  have hd : (trueLane d).val < 96 := d.isLt
  rw [kLane, qLane, dif_pos hd, dif_pos hd]
  show k s d * (q t d * scaleR * (1 / Real.log 2)) = q t d * k s d * scaleR * (1 / Real.log 2)
  ring

end Cert.Kernel2Ideal.Hand
-- ==== Proof.Mla.Grads.lean ====
/-
  Hand-written. What the launch leaves for the arrays of real arguments: the attention's gradients.
-/
module

public import proofs.«01_k».proof.Proof.Mla.Given
public import proofs.«01_k».proof.Proof.Mla.Sums
public import proofs.«01_k».proof.Proof.Mla.Suffix

@[expose] public section

set_option maxRecDepth 16384

noncomputable section

namespace Cert.Kernel2Ideal.Hand

open Cert.Kernel2Ideal Cert.Kernel2Ideal.Gen Cert.Held Cert.Consts Cert.Softmax Cert.Attention2
open Cert.KernelIdeal.Hand (up2 up3 up4 hi dotR row64 row64_zero lane row kcol vcol head head_of row_of hpC inC eL inL ln2_ne
  sum_rows sum_kept)
open Idealize.ShloMosaic Idealize.ShloMosaic.TcCoe Idealize.ShloMosaic.Tactic

variable (A : Args)

/-- A key block's lanes and values. -/
theorem given_k (hp : Fin 4) (j : Fin 16) (e : Fin 2) (s : Fin 512) (x : Fin 128) :
    (keysAt (given A) hp j).k e s x = kLane (A.k (head hp e)) (row j s) x := by
  have h1 : (⟨(kcol hp (lane e x)).val / 128, by omega⟩ : Fin 8) = head hp e :=
    Fin.ext (by show (256 * hp.val + (128 * e.val + x.val)) / 128 = 2 * hp.val + e.val; omega)
  have h2 : (⟨(kcol hp (lane e x)).val % 128, by omega⟩ : Fin 128) = x :=
    Fin.ext (by show (256 * hp.val + (128 * e.val + x.val)) % 128 = x.val; omega)
  exact congrArg₂ (fun h y => kLane (A.k h) (row j s) y) h1 h2
theorem given_t (hp : Fin 4) (j : Fin 16) (e : Fin 2) (s : Fin 512) (x : Fin 128) :
    (keysAt (given A) hp j).t e x s = kLane (A.k (head hp e)) (row j s) x * onTrue scaleR x :=
  congrArg (· * onTrue scaleR x) (given_k A hp j e s x)

/-- A column of values and cotangents, by head. -/
theorem vcol_head (hp : Fin 4) (e : Fin 2) (a : Fin 64) : (⟨(vcol hp (row64 e a)).val / 64, by omega⟩ : Fin 8) = head hp e :=
  Fin.ext (by show (128 * hp.val + (64 * e.val + a.val)) / 64 = 2 * hp.val + e.val; omega)
theorem vcol_lane (hp : Fin 4) (e : Fin 2) (a : Fin 64) : (⟨(vcol hp (row64 e a)).val % 64, by omega⟩ : Fin 64) = a :=
  Fin.ext (by show (128 * hp.val + (64 * e.val + a.val)) % 64 = a.val; omega)
theorem given_g (hp : Fin 4) (i : Fin 16) (e : Fin 2) (a : Fin 64) (t : Fin 512) :
    (given A).g hp i (row64 e a) t = A.c (head hp e) (row i t) a :=
  congrArg₂ (fun h y => A.c h (row i t) y) (vcol_head hp e a) (vcol_lane hp e a)

/-- A block's probabilities on and under the diagonal. -/
theorem given_prob (hp : Fin 4) {j i : Fin 16} (hji : j ≤ i) (e : Fin 2) (s t : Fin 512) :
    probAt (given A) hp j i e s t = soft A (head hp e) (row i t) (row j s) := by
  have hd : dotR ((keysAt (given A) hp j).k e) ((arrAt (given A) hp).q e i) s t = score A (head hp e) (row i t) (row j s) * (1 / Real.log 2) := by
    unfold dotR
    refine (Finset.sum_congr rfl fun x _ => congrArg (· * (arrAt (given A) hp).q e i x t) (given_k A hp j e s x)).trans ?_
    exact lane_score _ _ _ _
  have hi : j.val ≤ i.val := hji
  have hs := s.isLt
  have ht := t.isLt
  show (if decide (i = j) = true ∧ t < s then 0 else Real.rpow 2 (dotR ((keysAt (given A) hp j).k e) ((arrAt (given A) hp).q e i) s t - (given A).l (head hp e) i t)) = _
  split_ifs with h
  · have hij : i = j := of_decide_eq_true h.1
    have hts : t.val < s.val := h.2
    exact (pS_zero _ (by rw [hij]; show 512 * j.val + t.val < 512 * j.val + s.val; omega)).symm
  · rw [hd]
    refine pow_eq (score A (head hp e) (row i t)) (top A (head hp e) (row i t)) ?_
    show 512 * j.val + s.val ≤ 512 * i.val + t.val
    by_cases hij : i = j
    · have : ¬ t.val < s.val := fun hlt => h ⟨decide_eq_true hij, hlt⟩
      rw [hij]
      omega
    · have : i.val ≠ j.val := fun hv => hij (Fin.ext hv)
      omega

/-- A row's dot of its output with the output's cotangent. -/
theorem given_d (h : Fin 8) (i : Fin 16) (t : Fin 512) : (given A).d h i t = Attention2.dot A h (row i t) := by
  show ∑ d, (∑ s, soft A h (row i t) s * A.v h s d) * A.c h (row i t) d = ∑ s, soft A h (row i t) s * ∑ d, A.c h (row i t) d * A.v h s d
  simp only [Finset.sum_mul, Finset.mul_sum]
  rw [Finset.sum_comm]
  exact Finset.sum_congr rfl fun s _ => Finset.sum_congr rfl fun d _ => by ring

/-- A block's score cotangents on and under the diagonal. -/
theorem given_grad (hp : Fin 4) {j i : Fin 16} (hji : j ≤ i) (e : Fin 2) (s t : Fin 512) :
    gradAt (given A) hp j i e s t = cot A (head hp e) (row i t) (row j s) := by
  have hd : dotR ((keysAt (given A) hp j).v e) ((arrAt (given A) hp).g i) s t = dp A (head hp e) (row i t) (row j s) := by
    unfold dotR
    show ∑ x : Fin 128, (if (x.val < 64 ↔ e = 0) then (given A).v (row j s) (vcol hp x) else 0) * (given A).g hp i x t = _
    simp only [ite_mul, zero_mul]
    rw [sum_kept e (fun x => (given A).v (row j s) (vcol hp x) * (given A).g hp i x t)]
    refine Finset.sum_congr rfl fun a _ => ?_
    rw [given_g, mul_comm]
    exact congrArg (A.c (head hp e) (row i t) a * ·) (congrArg₂ (fun h y => A.v h (row j s) y) (vcol_head hp e a) (vcol_lane hp e a))
  show probAt (given A) hp j i e s t * (dotR ((keysAt (given A) hp j).v e) ((arrAt (given A) hp).g i) s t - (given A).d (head hp e) i t) = _
  rw [given_prob A hp hji, hd, given_d]
  rfl

/-- Above the diagonal nothing. -/
theorem row_lt {j i : Fin 16} (h : ¬ j ≤ i) (s t : Fin 512) : row i t < row j s := by
  have h1 : i.val < j.val := not_le.mp h
  have ht := t.isLt
  show 512 * i.val + t.val < 512 * j.val + s.val
  omega
theorem soft_zero (h : Fin 8) {j i : Fin 16} (hji : ¬ j ≤ i) (s t : Fin 512) : soft A h (row i t) (row j s) = 0 := pS_zero _ (row_lt hji s t)
theorem cot_zero (h : Fin 8) {j i : Fin 16} (hji : ¬ j ≤ i) (s t : Fin 512) : cot A h (row i t) (row j s) = 0 := by
  rw [cot, soft_zero A h hji, zero_mul]

/-- The queries' gradient, by lanes. -/
theorem gotQ_at (h : Fin 8) (i : Fin 16) (a : Fin 128) (t : Fin 512) :
    gotQ (given A) h i a t = ∑ s, kLane (A.k h) s a * onTrue scaleR a * cot A h (row i t) s := by
  rw [← sum_rows]
  unfold gotQ qSum
  refine Finset.sum_congr rfl fun j _ => ?_
  by_cases hji : j ≤ i
  · rw [if_pos ⟨j.isLt, hji⟩]
    refine Finset.sum_congr rfl fun s _ => ?_
    rw [given_t, given_grad A _ hji, head_of]
  · rw [if_neg (fun hh => hji hh.2)]
    refine (Finset.sum_eq_zero fun s _ => ?_).symm
    rw [cot_zero A h hji, mul_zero]

/-- The keys' gradient, by lanes. -/
theorem gotK_at (h : Fin 8) (j : Fin 16) (a : Fin 128) (s : Fin 512) :
    gotK (given A) h j a s = (∑ t, qLane (A.q h) t a * cot A h t (row j s)) * onTrue (Real.log 2) a := by
  rw [← sum_rows]
  unfold gotK kSum
  refine congrArg (· * onTrue (Real.log 2) a) (Finset.sum_congr rfl fun i _ => ?_)
  by_cases hji : j ≤ i
  · rw [if_pos hji]
    refine Finset.sum_congr rfl fun t _ => ?_
    rw [given_grad A _ hji, head_of]
    rfl
  · rw [if_neg hji]
    refine (Finset.sum_eq_zero fun t _ => ?_).symm
    rw [cot_zero A h hji, mul_zero]

/-- The values' gradient. -/
theorem vSum_at (hp : Fin 4) (j : Fin 16) (e : Fin 2) (a : Fin 64) (s : Fin 512) :
    vSum (given A) hp j e a s = dv A (head hp e) (row j s) a := by
  unfold dv
  rw [← sum_rows]
  unfold vSum
  refine Finset.sum_congr rfl fun i _ => ?_
  by_cases hji : j ≤ i
  · rw [if_pos hji]
    refine Finset.sum_congr rfl fun t _ => ?_
    rw [given_prob A _ hji, given_g]
  · rw [if_neg hji]
    refine (Finset.sum_eq_zero fun t _ => ?_).symm
    rw [soft_zero A _ hji, mul_zero]

/-- The results' lanes are the gradients. -/
theorem own_q : ownT (up4 (gotQ (given A))) = up3 (dq A) := by
  rw [own_up]
  refine congrArg up3 (funext fun h => funext fun r => funext fun x => ?_)
  have hx : (trueLane x).val < 96 := x.isLt
  rw [gotQ_at, row_of]
  refine Finset.sum_congr rfl fun s _ => ?_
  rw [kLane, dif_pos hx, onTrue, if_pos hx]
  show A.k h s x * scaleR * cot A h r s = cot A h r s * scaleR * A.k h s x
  ring
theorem own_k : ownT (up4 (gotK (given A))) = up3 (dk A) := by
  rw [own_up]
  refine congrArg up3 (funext fun h => funext fun r => funext fun x => ?_)
  have hx : (trueLane x).val < 96 := x.isLt
  rw [gotK_at, row_of, Finset.sum_mul]
  refine Finset.sum_congr rfl fun t _ => ?_
  rw [qLane, dif_pos hx, onTrue, if_pos hx]
  show A.q h t x * scaleR * (1 / Real.log 2) * cot A h t r * Real.log 2 = cot A h t r * scaleR * A.q h t x
  have hl := ln2_ne
  field_simp
theorem own_v : valT (up2 (gotV (given A))) = up3 (dv A) := by
  rw [val_up]
  refine congrArg up3 (funext fun h => funext fun r => funext fun x => ?_)
  unfold gotV
  rw [vSum_at, row_of]
  have h1 : head (hpC ⟨64 * h.val + x.val, by omega⟩) (eL (inC ⟨64 * h.val + x.val, by omega⟩)) = h :=
    Fin.ext (by show 2 * ((64 * h.val + x.val) / 128) + (64 * h.val + x.val) % 128 / 64 = h.val; omega)
  have h2 : inL (inC ⟨64 * h.val + x.val, by omega⟩) = x :=
    Fin.ext (by show (64 * h.val + x.val) % 128 % 64 = x.val; omega)
  rw [h1, h2]

variable {A} {m : (ℓ : Loc nD τ sig) → Buf (Elt Ideal) ℓ} {c : Dev nD}

/-- What the program leaves for real arguments. -/
theorem out_q (H : Holds A m c) : Pipeline.afterTail₀ cfgs (dats m) 0 (V0 m) [hostOps1] c main_v53 = up3 (dq A) :=
  (W_q m c _ (left_6 (given_reads H))).trans (own_q A)
theorem out_k (H : Holds A m c) : Pipeline.afterTail₀ cfgs (dats m) 0 (V0 m) [hostOps1] c main_v56 = up3 (dk A) :=
  (W_k m c _ (left_7 (given_reads H))).trans (own_k A)
theorem out_v (H : Holds A m c) : Pipeline.afterTail₀ cfgs (dats m) 0 (V0 m) [hostOps1] c main_v59 = up3 (dv A) :=
  (W_v m c _ (left_8 (given_reads H))).trans (own_v A)

end Cert.Kernel2Ideal.Hand
-- ==== Proof.Mla.RefTerms.lean ====
/-
  Hand-written. The reference's results as terms of its arguments, stage by stage.
-/
module

public import proofs.«01_k».proof.Proof.Gen.Reference2Ideal.Run
public import proofs.«01_k».proof.Proof.Mla.Rows

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe Idealize.ShloMosaic.Tactic

/-- The causal mask. -/
def maskT : IVec S8x8192x8192 1 :=
  broadcastInDim S8x8192x8192 ![0, 1, 2] bcast_S1x8192x8192_S8x8192x8192_0_1_2
    (cmpi .sle
      (broadcastInDim S1x8192x8192 ![0, 1, 2] bcast_S1x1x8192_S1x8192x8192_0_1_2
        (broadcastInDim S1x1x8192 ![2] bcast_S8192_S1x1x8192_2 (iotaInDim S8192 32 0)))
      (broadcastInDim S1x8192x8192 ![0, 1, 2] bcast_S1x8192x1_S1x8192x8192_0_1_2
        (broadcastInDim S1x8192x1 ![1] bcast_S8192_S1x8192x1_1 (iotaInDim S8192 32 0))))
/-- An array of one number. -/
def allT (w : BitVec 32) : FVec Ideal S8x8192x8192 .f32 := broadcastInDim S8x8192x8192 ![] bcast_S_S8x8192x8192 (constant S_ .f32 w)
/-- A row's number, in every column. -/
def acrossT (x : FVec Ideal S8x8192x1 .f32) : FVec Ideal S8x8192x8192 .f32 :=
  broadcastInDim S8x8192x8192 ![0, 1, 2] bcast_S8x8192x1_S8x8192x8192_0_1_2 x
def tallT (x : FVec Ideal S8x8192 .f32) : FVec Ideal S8x8192x1 .f32 := broadcastInDim S8x8192x1 ![0, 1] bcast_S8x8192_S8x8192x1_0_1 x
/-- Each row's sum. -/
def rowSumT (x : FVec Ideal S8x8192x8192 .f32) : FVec Ideal S8x8192 .f32 :=
  Host.reduceAdd x (constant S_ .f32 0x00000000#32) reducesTo_S8x8192x8192_S8x8192_d2 h_S_

/-- The masked scores, their exponentials, and the rows' sums. -/
def scoreT (q k : FVec Ideal S8x8192x96 .f32) : FVec Ideal S8x8192x8192 .f32 :=
  select maskT
    (mulf (Host.dotGeneral dot_S8x8192x96_S8x8192x96_S8x8192x8192_2_2_1_1_0_0 none q k) (allT 0x3DD105EC#32))
    (allT 0xFF800000#32)
def rowMaxT (s : FVec Ideal S8x8192x8192 .f32) : FVec Ideal S8x8192 .f32 :=
  Host.reduce FloatOps.maximumf s (constant S_ .f32 0xFF800000#32) reducesTo_S8x8192x8192_S8x8192_d2 h_S_
def topT (r : FVec Ideal S8x8192 .f32) : FVec Ideal S8x8192x1 .f32 :=
  tallT (maximumf (broadcastInDim S8x8192 ![] bcast_S_S8x8192 (constant S_ .f32 0xFF800000#32)) r)
def powT (s : FVec Ideal S8x8192x8192 .f32) (μ : FVec Ideal S8x8192x1 .f32) : FVec Ideal S8x8192x8192 .f32 :=
  Host.exp (subf s (acrossT μ))

/-- The probabilities' cotangents. -/
def dpT (v c : FVec Ideal S8x8192x64 .f32) : FVec Ideal S8x8192x8192 .f32 :=
  Host.dotGeneral dot_S8x8192x64_S8x8192x64_S8x8192x8192_2_2_1_1_0_0 none c v
/-- The cotangent of the rows' sums. -/
def dlT (e d : FVec Ideal S8x8192x8192 .f32) (l : FVec Ideal S8x8192x1 .f32) : FVec Ideal S8x8192 .f32 :=
  Host.reduceAdd
    (Host.negf
      (shapeCast S8x8192x1
        (rowSumT
          (mulf
            (mulf d (acrossT (Host.divf (broadcastInDim S8x8192x1 ![] bcast_S_S8x8192x1 (constant S_ .f32 0x3F800000#32)) (mulf l l))))
            e))
        shapeCasts_S8x8192_S8x8192x1))
    (constant S_ .f32 0x00000000#32) reducesTo_S8x8192x1_S8x8192_d2 h_S_
/-- The scores' cotangents. -/
def dsT (e d : FVec Ideal S8x8192x8192 .f32) (l : FVec Ideal S8x8192x1 .f32) (r : FVec Ideal S8x8192 .f32) : FVec Ideal S8x8192x8192 .f32 :=
  select maskT
    (mulf (addf (Host.divf d (acrossT l)) (broadcastInDim S8x8192x8192 ![0, 1] bcast_S8x8192_S8x8192x8192_0_1 r)) e)
    (allT 0x00000000#32)

/-- The gradients of the queries, keys, and values. -/
def dqT (z : FVec Ideal S8x8192x8192 .f32) (k : FVec Ideal S8x8192x96 .f32) : FVec Ideal S8x8192x96 .f32 :=
  Host.dotGeneral dot_S8x8192x8192_S8x8192x96_S8x8192x96_2_1_1_2_0_0 none (mulf z (allT 0x3DD105EC#32)) k
def dkT (z : FVec Ideal S8x8192x8192 .f32) (q : FVec Ideal S8x8192x96 .f32) : FVec Ideal S8x8192x96 .f32 :=
  Host.dotGeneral dot_S8x8192x8192_S8x8192x96_S8x8192x96_1_1_2_2_0_0 none (mulf z (allT 0x3DD105EC#32)) q
def dvT (e : FVec Ideal S8x8192x8192 .f32) (l : FVec Ideal S8x8192x1 .f32) (c : FVec Ideal S8x8192x64 .f32) : FVec Ideal S8x8192x64 .f32 :=
  transpose S8x8192x64 [0, 2, 1]
    (Host.dotGeneral dot_S8x8192x64_S8x8192x8192_S8x64x8192_1_1_2_2_0_0 none c (Host.divf e (acrossT l)))
    transposes_S8x64x8192_S8x8192x64_0_2_1

variable (m : (ℓ : Loc nD τ sig) → Buf (Elt Ideal) ℓ) (c : Dev nD)

/-- The arguments. -/
abbrev argQ : FVec Ideal S8x8192x96 .f32 := m ((c.tc : Thread nD τ).loc main_arg0)
abbrev argK : FVec Ideal S8x8192x96 .f32 := m ((c.tc : Thread nD τ).loc main_arg1)
abbrev argV : FVec Ideal S8x8192x64 .f32 := m ((c.tc : Thread nD τ).loc main_arg2)
abbrev argC : FVec Ideal S8x8192x64 .f32 := m ((c.tc : Thread nD τ).loc main_arg3)

/-- The stages of the arguments. -/
def scoreM : FVec Ideal S8x8192x8192 .f32 := scoreT (argQ m c) (argK m c)
def powM : FVec Ideal S8x8192x8192 .f32 := powT (scoreM m c) (topT (rowMaxT (scoreM m c)))
def lenM : FVec Ideal S8x8192x1 .f32 := tallT (rowSumT (powM m c))
def dpM : FVec Ideal S8x8192x8192 .f32 := dpT (argV m c) (argC m c)
def dsM : FVec Ideal S8x8192x8192 .f32 := dsT (powM m c) (dpM m c) (lenM m c) (dlT (powM m c) (dpM m c) (lenM m c))

theorem res_dv : res_out2 m c = dvT (powM m c) (lenM m c) (argC m c) := by
  unfold res_out2 res_main_v40
  rfl
theorem res_dq : res_out0 m c = dqT (dsM m c) (argK m c) := by
  unfold res_out0 res_main_v58
  rfl
theorem res_dk : res_out1 m c = dkT (dsM m c) (argQ m c) := by
  unfold res_out1 res_main_v57
  rfl

end Cert.Reference2Ideal.Hand
-- ==== Proof.Mla.RefReal.lean ====
/-
  Hand-written. The reference over the reals, stage by stage.
-/
module

public import proofs.«01_k».proof.Proof.Mla.RefTerms

@[expose] public section

set_option maxRecDepth 16384

noncomputable section

namespace Cert.Reference2Ideal.Hand

open Cert.Reference2Ideal Cert.Reference2Ideal.Gen Cert.Consts Cert.Softmax Cert.Attention2
open Cert.KernelIdeal.Hand (Mat up2 up3 up4 up2_ix up3_ix coeSum bit_rows exp_masked div_real select_ofBool)
open Idealize.ShloMosaic Idealize.ShloMosaic.TcCoe Idealize.ShloMosaic.Tactic

variable (x : Fin 8 → Mat 8192 8192)

theorem score_at (A : Args) (h t s) : scoreT (up3 A.q) (up3 A.k) (ix3 h t s) = masked (score A h t) t s := by
  pointwise [scoreT, maskT, allT]
  rw [bit_rows, select_ofBool, ofBits_scale, ofBits_ninf]
  simp only [up3_ix, up2_ix, ← EReal.coe_mul, coeSum]
  rfl
theorem rowMax_at (sc : FVec Ideal S8x8192x8192 .f32) (hs : ∀ h t s, sc (ix3 h t s) = masked (x h t) t s) :
    rowMaxT sc = up2 (fun h t => (max_real (x h t) t).choose) := by
  funext j
  idx_vars j
  pointwise [rowMaxT]
  rw [ofBits_ninf]
  exact (congrArg (fun f => Finset.univ.fold max ⊥ f) (funext fun s => hs j0 j1 s)).trans (max_real (x j0 j1) j1).choose_spec
theorem top_at (r : Mat 8 8192) : topT (up2 r) = up3 (fun h t (_ : Fin 1) => r h t) := by
  funext j
  idx_vars j
  pointwise [topT, tallT]
  rw [ofBits_ninf, max_eq_right bot_le]
  rfl
theorem pow_at (sc : FVec Ideal S8x8192x8192 .f32) (hs : ∀ h t s, sc (ix3 h t s) = masked (x h t) t s) (u : Fin 8 → Mat 8192 1) :
    powT sc (up3 u) = up3 (fun h t s => eS (x h t) (u h t 0) t s) := by
  funext j
  idx_vars j
  pointwise [powT, acrossT]
  rw [hs]
  exact exp_masked _ _ _ _
theorem len_at (f : Fin 8 → Mat 8192 8192) : tallT (rowSumT (up3 f)) = up3 (fun h t (_ : Fin 1) => ∑ s, f h t s) := by
  funext j
  idx_vars j
  pointwise [tallT, rowSumT]
  exact coeSum _
theorem dp_at (A : Args) : dpT (up3 A.v) (up3 A.c) = up3 (dp A) := by
  funext j
  idx_vars j
  pointwise [dpT]
  simp only [up3_ix, ← EReal.coe_mul, coeSum]
  rfl
theorem dl_at (e d : Fin 8 → Mat 8192 8192) (l : Fin 8 → Mat 8192 1) (hl : ∀ h t z, l h t z ≠ 0) :
    dlT (up3 e) (up3 d) (up3 l) = up2 (fun h t => -∑ s, d h t s * (1 / (l h t 0 * l h t 0)) * e h t s) := by
  funext j
  idx_vars j
  pointwise [dlT, rowSumT, acrossT]
  have hd : Ideal.div (1 : EReal) (up3 l (ix3 j0 j1 0) * up3 l (ix3 j0 j1 0)) = ((1 / (l j0 j1 0 * l j0 j1 0) : ℝ) : EReal) := by
    rw [up3_ix, ← EReal.coe_mul, ← EReal.coe_one]
    exact div_real _ (mul_ne_zero (hl j0 j1 0) (hl j0 j1 0))
  rw [Fin.sum_univ_one, hd]
  simp only [up3_ix, ← EReal.coe_mul, coeSum, ← EReal.coe_neg]
  rfl
theorem ds_at (e d : Fin 8 → Mat 8192 8192) (l : Fin 8 → Mat 8192 1) (hl : ∀ h t z, l h t z ≠ 0) (r : Mat 8 8192) :
    dsT (up3 e) (up3 d) (up3 l) (up2 r) = up3 (fun h t s => if s ≤ t then (d h t s / l h t 0 + r h t) * e h t s else 0) := by
  funext j
  idx_vars j
  pointwise [dsT, maskT, allT, acrossT]
  rw [bit_rows, select_ofBool, up3_ix, up3_ix, div_real _ (hl j0 j1 0)]
  simp only [up3_ix, up2_ix, ← EReal.coe_mul, ← EReal.coe_add]
  split_ifs <;> rfl
theorem dq_at (z : Fin 8 → Mat 8192 8192) (k : Fin 8 → Mat 8192 96) :
    dqT (up3 z) (up3 k) = up3 (fun h t d => ∑ s, z h t s * scaleR * k h s d) := by
  funext j
  idx_vars j
  pointwise [dqT, allT]
  rw [ofBits_scale]
  simp only [up3_ix, ← EReal.coe_mul, coeSum]
theorem dk_at (z : Fin 8 → Mat 8192 8192) (q : Fin 8 → Mat 8192 96) :
    dkT (up3 z) (up3 q) = up3 (fun h s d => ∑ t, z h t s * scaleR * q h t d) := by
  funext j
  idx_vars j
  pointwise [dkT, allT]
  rw [ofBits_scale]
  simp only [up3_ix, ← EReal.coe_mul, coeSum]
theorem dv_at (e : Fin 8 → Mat 8192 8192) (l : Fin 8 → Mat 8192 1) (hl : ∀ h t z, l h t z ≠ 0) (c : Fin 8 → Mat 8192 64) :
    dvT (up3 e) (up3 l) (up3 c) = up3 (fun h s d => ∑ t, c h t d * (e h t s / l h t 0)) := by
  funext j
  idx_vars j
  pointwise [dvT, acrossT]
  have hd : ∀ t, Ideal.div (up3 e (ix3 j0 t j1)) (up3 l (ix3 j0 t 0)) = ((e j0 t j1 / l j0 t 0 : ℝ) : EReal) := fun t => div_real _ (hl j0 t 0)
  simp only [hd]
  simp only [up3_ix, ← EReal.coe_mul, coeSum]

end Cert.Reference2Ideal.Hand
-- ==== Proof.Mla.RefGrads.lean ====
/-
  Hand-written. What the reference leaves for real arguments: the attention's gradients.
-/
module

public import proofs.«01_k».proof.Proof.Mla.RefReal

@[expose] public section

set_option maxRecDepth 16384

noncomputable section

namespace Cert.Reference2Ideal.Hand

open Cert.Reference2Ideal Cert.Reference2Ideal.Gen Cert.Reference2Ideal.Value Cert.Softmax Cert.Attention2
open Cert.KernelIdeal.Hand (Mat up2 up3)
open Idealize.ShloMosaic Idealize.ShloMosaic.TcCoe

/-- The memory's arguments are these reals. -/
structure Holds (A : Args) (m : (ℓ : Loc nD τ sig) → Buf (Elt Ideal) ℓ) (c : Dev nD) : Prop where
  q : argQ m c = up3 A.q
  k : argK m c = up3 A.k
  v : argV m c = up3 A.v
  c : argC m c = up3 A.c

variable (A : Args)

/-- A row's maximum, exponentials and their sum. -/
def top (h : Fin 8) (t : Fin 8192) : ℝ := (max_real (score A h t) t).choose
def pow (h : Fin 8) : Mat 8192 8192 := fun t s => eS (score A h t) (top A h t) t s
def len (h : Fin 8) : Mat 8192 1 := fun t _ => lS (score A h t) (top A h t) t

/-- The sums are not zero, and the quotients are the probabilities. -/
theorem len_ne (h t z) : len A h t z ≠ 0 := (lS_pos (score A h t) (top A h t) t).ne'
theorem soft_eq (h : Fin 8) (t s : Fin 8192) : pow A h t s / len A h t 0 = soft A h t s := by
  exact div_eq (score A h t) (top A h t) t s

/-- The row dots, as the reference sums them. -/
theorem dot_eq (h : Fin 8) (t : Fin 8192) :
    -∑ s, dp A h t s * (1 / (len A h t 0 * len A h t 0)) * pow A h t s = -(dot A h t / len A h t 0) := by
  rw [dot, Finset.sum_div]
  refine congrArg Neg.neg (Finset.sum_congr rfl fun s _ => ?_)
  rw [← soft_eq]
  have hl := len_ne A h t 0
  field_simp

/-- The scores' cotangents, as the reference computes them. -/
theorem cot_eq (h : Fin 8) (t s : Fin 8192) :
    (if s ≤ t then (dp A h t s / len A h t 0 + -(dot A h t / len A h t 0)) * pow A h t s else 0) = cot A h t s := by
  split_ifs with hst
  · rw [cot, ← soft_eq]
    ring
  · have hz : soft A h t s = 0 := pS_zero _ (not_le.mp hst)
    rw [cot, hz, zero_mul]

variable {A} {m : (ℓ : Loc nD τ sig) → Buf (Elt Ideal) ℓ} {c : Dev nD}

/-- The stages of real arguments. -/
theorem scoreM_at (H : Holds A m c) (h t s) : scoreM m c (ix3 h t s) = masked (score A h t) t s := by
  unfold scoreM
  rw [H.q, H.k]
  exact score_at A h t s
theorem powM_at (H : Holds A m c) : powM m c = up3 (pow A) := by
  unfold powM
  rw [rowMax_at (score A) _ (scoreM_at H), top_at]
  exact pow_at (score A) _ (scoreM_at H) _
theorem lenM_at (H : Holds A m c) : lenM m c = up3 (len A) := by
  unfold lenM
  rw [powM_at H]
  exact len_at _
theorem dpM_at (H : Holds A m c) : dpM m c = up3 (dp A) := by
  unfold dpM
  rw [H.v, H.c]
  exact dp_at A
theorem dsM_at (H : Holds A m c) : dsM m c = up3 (cot A) := by
  unfold dsM
  rw [powM_at H, lenM_at H, dpM_at H, dl_at _ _ _ (len_ne A)]
  refine (ds_at _ _ _ (len_ne A) _).trans ?_
  refine congrArg up3 (funext fun h => funext fun t => funext fun s => ?_)
  rw [← cot_eq, dot_eq]

/-- The results of real arguments. -/
theorem out_q (H : Holds A m c) : res_out0 m c = up3 (dq A) := by
  rw [res_dq, dsM_at H, H.k]
  exact dq_at _ _
theorem out_k (H : Holds A m c) : res_out1 m c = up3 (dk A) := by
  rw [res_dk, dsM_at H, H.q]
  exact dk_at _ _
theorem out_v (H : Holds A m c) : res_out2 m c = up3 (dv A) := by
  rw [res_dv, powM_at H, lenM_at H, H.c]
  refine (dv_at _ _ (len_ne A) _).trans ?_
  refine congrArg up3 (funext fun h => funext fun s => funext fun d => Finset.sum_congr rfl fun t _ => ?_)
  rw [soft_eq]

end Cert.Reference2Ideal.Hand
-- ==== Proof.Mla.Equal.lean ====
/-
  Hand-written. The kernel and the reference leave the same gradients of finite arguments.
-/
module

public import proofs.«01_k».proof.Proof.Mla.Finite
public import proofs.«01_k».proof.Proof.Mla.Grads
public import proofs.«01_k».proof.Proof.Mla.RefGrads
public import proofs.«01_k».proof.Proof.Mla.Frames

@[expose] public section

set_option maxRecDepth 16384

noncomputable section

namespace Cert.Finite2

open Cert.Attention2
open Cert.KernelIdeal.Hand (up3)
open Idealize.ShloMosaic Idealize.ShloMosaic.TcCoe Idealize.SL.Sem

section Kernel2
open Cert.Kernel2Ideal Cert.Kernel2Ideal.Gen Cert.Kernel2Ideal.Hand

/-- What the kernel's run leaves in its results. -/
theorem kernel_out {m : (ℓ : Loc nD τ sig) → Buf (Elt Ideal) ℓ} {r : PUnit × MemSt nD τ sig (Elt Ideal)}
    (h : Pipeline.FramePost cfgs (dats m) 0 (Pipeline.afterTail₀ cfgs (dats m) 0 (V0 m) [hostOps1]) r ∧ r.2.sem = fun _ => 0)
    {A : Args} (c : Dev nD) (H : Holds A m c) :
    r.2.mem ((c.tc : Thread nD τ).loc main_v53) = up3 (dq A)
      ∧ r.2.mem ((c.tc : Thread nD τ).loc main_v56) = up3 (dk A)
      ∧ r.2.mem ((c.tc : Thread nD τ).loc main_v59) = up3 (dv A) := by
  have h := h.1 c
  exact ⟨(h.2 main_v53 (Pipeline.mem_restRefs_of main_v53 (by decide) (by decide))).trans (out_q H),
    (h.2 main_v56 (Pipeline.mem_restRefs_of main_v56 (by decide) (by decide))).trans (out_k H),
    (h.2 main_v59 (Pipeline.mem_restRefs_of main_v59 (by decide) (by decide))).trans (out_v H)⟩

end Kernel2

/-- The value claim. -/
theorem algebraic : Cert.algebraic_Kernel2Ideal_Reference2Ideal_pre_finite2 (hKernel2Ideal := Cert.Kernel2Ideal.Gen.facts)
    (hReference2Ideal := Cert.Reference2Ideal.Gen.facts) (hPre_finite2 := facts) := by
  intro m g m' g' hpre hsame
  have H := holds m hpre
  have H' : ∀ c, Cert.Reference2Ideal.Hand.Holds (argsOf m c) m' c := fun c =>
    ⟨(hsame c).1.trans (H c).q, (hsame c).2.1.trans (H c).k, (hsame c).2.2.1.trans (H c).v, (hsame c).2.2.2.trans (H c).c⟩
  refine ⟨fun c => up3 (dq (argsOf m c)), fun c => up3 (dk (argsOf m c)), fun c => up3 (dv (argsOf m c)), ?_, ?_⟩
  · refine (θ_run _ _ _).mono (fun r h c => ?_) (Cert.Kernel2Ideal.Hand.run_main m g)
    obtain ⟨h1, h2, h3⟩ := kernel_out h c (H c)
    exact ⟨h1, h2, h3, (Cert.Frames2.kept m h).1 c⟩
  · refine (θ_run _ _ _).mono (fun r h c => ?_) (Cert.Reference2Ideal.Value.run m' g')
    obtain ⟨h1, h2, h3, hk⟩ := h c
    exact ⟨h1.trans (Cert.Reference2Ideal.Hand.out_q (H' c)), h2.trans (Cert.Reference2Ideal.Hand.out_k (H' c)),
      h3.trans (Cert.Reference2Ideal.Hand.out_v (H' c)), hk⟩

end Cert.Finite2
-- ==== Proof.Mlp.Products.lean ====
/-
  Hand-written. Matrix products over the extended reals, entry by entry.
-/
module

public import proofs.«01_k».proof.Proof.Consts
public import Idealize.ShloMosaic.Lib.Pointwise
public import Idealize.ShloMosaic.Lib.Pipeline.ValueKit
public import Idealize.ShloMosaic.Lib.Claim

@[expose] public section

noncomputable section

namespace Cert.Products

open Idealize.ShloMosaic Idealize.ShloMosaic.Tactic

/-- Two families of one member are one when their members are. -/
theorem fin_one_ext {β : Fin 1 → Type*} {f g : ∀ l, β l} (h : f 0 = g 0) : f = g :=
  funext fun l => Subsingleton.elim 0 l ▸ h

/-- Every row of `x` times every row of `y`. -/
def rowsMul {M N K : ℕ} (x : (⟨2, ![M, K]⟩ : Shape).Idx → EReal) (y : (⟨2, ![N, K]⟩ : Shape).Idx → EReal) : (⟨2, ![M, N]⟩ : Shape).Idx → EReal :=
  fun i => ∑ k : Fin K, x (ix2 (i 0) k) * y (ix2 (i 1) k)

/-- Every column of `x` times every column of `y`. -/
def colsMul {K M N : ℕ} (x : (⟨2, ![K, M]⟩ : Shape).Idx → EReal) (y : (⟨2, ![K, N]⟩ : Shape).Idx → EReal) : (⟨2, ![M, N]⟩ : Shape).Idx → EReal :=
  fun i => ∑ k : Fin K, x (ix2 k (i 0)) * y (ix2 k (i 1))

/-- Every row of `x` times every column of `y`. -/
def matMul {M N K : ℕ} (x : (⟨2, ![M, K]⟩ : Shape).Idx → EReal) (y : (⟨2, ![K, N]⟩ : Shape).Idx → EReal) : (⟨2, ![M, N]⟩ : Shape).Idx → EReal :=
  fun i => ∑ k : Fin K, x (ix2 (i 0) k) * y (ix2 k (i 1))

end Cert.Products
-- ==== Proof.Mlp.Call3.lean ====
/-
  Hand-written. The backward of the MLP's second product in its first factor, times the derivative of the squared ReLU:
  the kernel's blocks are the blocks of one array.
-/
module

public import proofs.«01_k».proof.Defs
public import proofs.«01_k».proof.Proof.Mlp.Products
public import proofs.«01_k».proof.Proof.Gen.Kernel3
public import proofs.«01_k».proof.Proof.Gen.Kernel3Ideal.Value
public import proofs.«01_k».proof.Proof.Gen.Reference3Ideal.Run

@[expose] public section

set_option maxRecDepth 16384

noncomputable section

namespace Cert.Call3

open Kernel3Ideal Kernel3Ideal.Gen
open Idealize.ShloMosaic Idealize.ShloMosaic.TcCoe Idealize.ShloMosaic.Tactic Idealize.SL.Sem
open Cert.Consts Cert.Products

/-- The cotangent of the pre-activation, entry by entry: the result's cotangent times the weights' rows, times twice the
    positive part. -/
def du (u : S8192x4096.Idx → EReal) (w : S4096x1024.Idx → EReal) (ct : S8192x1024.Idx → EReal) : S8192x4096.Idx → EReal :=
  fun i => rowsMul ct w i * (((2 : ℝ) : EReal) * max (u i) 0)

/-- A block's result at an entry. -/
theorem pay_apply (x0 : Vec Ideal S2048x1024 .bf16) (x1 : Vec Ideal S1024x1024 .bf16) (x2 : Vec Ideal S2048x1024 .bf16) (a : Fin 2048) (b : Fin 1024) :
    k0_pay1 x0 x1 x2 (ix2 a b) = rowsMul x0 x1 (ix2 a b) * (((2 : ℝ) : EReal) * max (x2 (ix2 a b)) 0) := by
  pointwise [k0_pay1]
  exact congrArg (fun z => _ * (z * _)) ofBits_two

/-- The windows' block indices at a point. -/
theorem e0 : ∀ t : Fin grid0.N, win0_0.index t = ![t.val / 4, 0] := by decide +kernel
theorem e1 : ∀ t : Fin grid0.N, win0_1.index t = ![t.val % 4, 0] := by decide +kernel
theorem e2 : ∀ t : Fin grid0.N, win0_2.index t = ![t.val / 4, t.val % 4] := by decide +kernel
theorem e3 : ∀ t : Fin grid0.N, win0_3.index t = ![t.val / 4, t.val % 4] := by decide +kernel

/-- What the kernel leaves in its result array. -/
theorem kernel_du (m : (ℓ : Loc nD τ sig) → Buf (Elt Ideal) ℓ) (c : Dev nD) :
    (dats m 0 c).arrAt 3 cfg0.N = du (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [after0_3]
  frame_out
  blk_simp
  change S2048x1024.Idx at y
  idx_vars y
  rw [pay_apply]
  unfold du rowsMul
  congr 1
  refine Finset.sum_congr rfl fun k _ => ?_
  congr 1 <;> blk_ext [iblk, V, e0, e1, e3]

/-- The two printings' tables are one. -/
theorem defs_same : Kernel3.defs (F := Bits) = Kernel3Ideal.defs := by
  refine congrArg (Pipeline.defs (Kernel3Ideal.pcfgs (F := Bits))) (congrArg Defs.onTc (fin_one_ext (funext fun (_, _) => ?_)))
  dsimp only
  rw [show Kernel3.cc0_ff2_bwd (F := Bits) = Kernel3Ideal.cc0_ff2_bwd from rfl]
  rfl

/-- The frame of the kernel as printed. -/
theorem frame_kernel : quiescent_Kernel3 := fun m ρ _ =>
  defs_same ▸ Kernel3Ideal.Gen.frame (F := Bits) m ρ

/-- The frame of the reference. -/
theorem frame_referenceIdeal : quiescent_Reference3Ideal := fun m ρ _ =>
  (θ_run _ _ _).mono (fun r h => ⟨fun c => (h c).2, sem_eq_zero_of_no_sems (by decide) r.2⟩) (Reference3Ideal.Value.run m ρ)

/-- On arguments of equal value the kernel and the reference hold the same result. -/
theorem algebraic : algebraic_Kernel3Ideal_Reference3Ideal := by
  intro m g m' g' _ hsame
  refine ⟨fun c => du (m ((c : Thread nD τ).loc main_arg0)) (m ((c : Thread nD τ).loc main_arg1)) (m ((c : Thread nD τ).loc main_arg2)), ?_, ?_⟩
  · exact (θ_run _ _ _).mono (fun r h c => ⟨(h c).1.trans (kernel_du m c), (h c).2⟩) (Value.run_blocks m g)
  · refine (θ_run _ _ _).mono (fun r h c => ⟨(h c).1.trans (funext fun j => ?_), (h c).2⟩) (Reference3Ideal.Value.run m' g')
    obtain ⟨h0, h1, h2⟩ := hsame c
    dsimp only
    rw [← h0, ← h1, ← h2]
    change Reference3Ideal.S8192x4096.Idx at j
    idx_vars j
    pointwise
    rw [ofBits_two]
    unfold du
    split
    · rfl
    · next h => exact (by rw [max_eq_right (not_lt.mp h), mul_zero, mul_zero] : _ = _).symm

end Cert.Call3
-- ==== Proof.Mlp.Call4.lean ====
/-
  Hand-written. The weight gradient of the MLP's second product: the sum over the row blocks is the sum over the rows.
-/
module

public import proofs.«01_k».proof.Defs
public import proofs.«01_k».proof.Proof.Mlp.Products
public import proofs.«01_k».proof.Proof.Gen.Kernel4
public import proofs.«01_k».proof.Proof.Gen.Kernel4Ideal.Value
public import proofs.«01_k».proof.Proof.Gen.Reference4Ideal.Run

@[expose] public section

set_option maxRecDepth 16384

noncomputable section

namespace Cert.Call4

open Kernel4Ideal Kernel4Ideal.Gen
open Idealize.ShloMosaic Idealize.ShloMosaic.TcCoe Idealize.ShloMosaic.Tactic Idealize.SL.Sem
open Products

/-- The first row block's store. -/
theorem pay2_apply (x0 : Vec Ideal S2048x1024 .bf16) (x1 : Vec Ideal S2048x1024 .bf16) (i : S1024x1024.Idx) :
    k0_pay2 x0 x1 i = colsMul x0 x1 i := by
  idx_vars i
  pointwise [k0_pay2, k0_pay1]
  rfl

/-- A later row block's store. -/
theorem pay3_apply (x0 : Vec Ideal S2048x1024 .bf16) (x1 : Vec Ideal S2048x1024 .bf16) (v : Vec Ideal S1024x1024 .f32) (i : S1024x1024.Idx) :
    k0_pay3 x0 x1 v i = v i + colsMul x0 x1 i := by
  idx_vars i
  pointwise [k0_pay3, k0_pay1]
  rfl

variable (m : (ℓ : Loc nD τ sig) → Buf (Elt Ideal) ℓ) (c : Dev nD)

/-- The first row block starts the sum. -/
theorem acc_start (t : Fin cfg0.N) (h : t.val % 4 = 0) (i : S1024x1024.Idx) :
    (outsAt0 m c t.val t.isLt).2 i = 0 + colsMul (M := 1024) (N := 1024) (K := 2048) (iblk m c 0 t) (iblk m c 1 t) i := by
  rw [outsAt0_A m c t h (by omega) (by omega)]
  frame_out
  rw [pay2_apply, zero_add]

/-- Every later row block adds its share. -/
theorem acc_step (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + colsMul (M := 1024) (N := 1024) (K := 2048) (iblk m c 0 t) (iblk m c 1 t) i := by
  by_cases h3 : t.val % 4 = 3
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last row block's point stores the sum. -/
theorem out_last (t : Fin cfg0.N) (h : t.val % 4 = 3) (i : S1024x1024.Idx) : (outsAt0 m c t.val t.isLt).1 i = (outsAt0 m c t.val t.isLt).2 i := by
  rw [outsAt0_C m c t (by omega) (by omega) h]
  frame_out
  rfl

/-- The windows' block indices at a point. -/
theorem e0 : ∀ t : Fin grid0.N, win0_0.index t = ![t.val % 4, t.val / 4] := by decide +kernel
theorem e1 : ∀ t : Fin grid0.N, win0_1.index t = ![t.val % 4, 0] := by decide +kernel
theorem e2 : ∀ t : Fin grid0.N, win0_2.index t = ![t.val / 4, 0] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S1024x1024.Idx at y
  rw [out_last m c t h3 y, Pipeline.eq_sum_fin_of_reset_step_apply_of_flush (fun n h => (outsAt0 m c n h).2) 4 (fun _ => 0) (fun t i => colsMul (M := 1024) (N := 1024) (K := 2048) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The two printings' tables are one. -/
theorem defs_same : Kernel4.defs (F := Bits) = Kernel4Ideal.defs := by
  refine congrArg (Pipeline.defs (Kernel4Ideal.pcfgs (F := Bits))) (congrArg Defs.onTc (fin_one_ext (funext fun (_, _) => ?_)))
  dsimp only
  rw [show Kernel4.cc0_ff2_wgrad (F := Bits) = Kernel4Ideal.cc0_ff2_wgrad from rfl]
  rfl

/-- The frame of the kernel as printed. -/
theorem frame_kernel : quiescent_Kernel4 := fun m ρ _ =>
  defs_same ▸ Kernel4Ideal.Gen.frame (F := Bits) m ρ

/-- The frame of the reference. -/
theorem frame_referenceIdeal : quiescent_Reference4Ideal := fun m ρ _ =>
  (θ_run _ _ _).mono (fun r h => ⟨fun c => (h c).2, sem_eq_zero_of_no_sems (by decide) r.2⟩) (Reference4Ideal.Value.run m ρ)

/-- On arguments of equal value the kernel and the reference hold the same result. -/
theorem algebraic : algebraic_Kernel4Ideal_Reference4Ideal := by
  intro m g m' g' _ hsame
  refine ⟨fun c => colsMul (m ((c : Thread nD τ).loc main_arg0)) (m ((c : Thread nD τ).loc main_arg1)), ?_, ?_⟩
  · exact (θ_run _ _ _).mono (fun r h c => ⟨(h c).1.trans (kernel_dw m c), (h c).2⟩) (Value.run_blocks m g)
  · refine (θ_run _ _ _).mono (fun r h c => ⟨(h c).1.trans (funext fun j => ?_), (h c).2⟩) (Reference4Ideal.Value.run m' g')
    obtain ⟨h0, h1⟩ := hsame c
    dsimp only
    rw [← h0, ← h1]
    change Reference4Ideal.S4096x1024.Idx at j
    idx_vars j
    pointwise
    exact Finset.sum_congr rfl fun k _ => mul_comm _ _

end Cert.Call4
-- ==== Proof.Mlp.Call5.lean ====
/-
  Hand-written. The backward of the MLP's first product in its first factor: the sum over the column blocks is the
  sum over the columns.
-/
module

public import proofs.«01_k».proof.Defs
public import proofs.«01_k».proof.Proof.Mlp.Products
public import proofs.«01_k».proof.Proof.Gen.Kernel5
public import proofs.«01_k».proof.Proof.Gen.Kernel5Ideal.Value
public import proofs.«01_k».proof.Proof.Gen.Reference5Ideal.Run

@[expose] public section

set_option maxRecDepth 16384

noncomputable section

namespace Cert.Call5

open Kernel5Ideal Kernel5Ideal.Gen
open Idealize.ShloMosaic Idealize.ShloMosaic.TcCoe Idealize.ShloMosaic.Tactic Idealize.SL.Sem
open Products

/-- The first column block's store. -/
theorem pay2_apply (x0 : Vec Ideal S1024x2048 .bf16) (x1 : Vec Ideal S1024x2048 .bf16) (i : S1024x1024.Idx) :
    k0_pay2 x0 x1 i = rowsMul x0 x1 i := by
  idx_vars i
  pointwise [k0_pay2, k0_pay1]
  rfl

/-- A later column block's store. -/
theorem pay3_apply (x0 : Vec Ideal S1024x2048 .bf16) (x1 : Vec Ideal S1024x2048 .bf16) (v : Vec Ideal S1024x1024 .f32) (i : S1024x1024.Idx) :
    k0_pay3 x0 x1 v i = v i + rowsMul x0 x1 i := by
  idx_vars i
  pointwise [k0_pay3, k0_pay1]
  rfl

variable (m : (ℓ : Loc nD τ sig) → Buf (Elt Ideal) ℓ) (c : Dev nD)

/-- The first column block starts the sum. -/
theorem acc_start (t : Fin cfg0.N) (h : t.val % 2 = 0) (i : S1024x1024.Idx) :
    (outsAt0 m c t.val t.isLt).2 i = 0 + rowsMul (M := 1024) (N := 1024) (K := 2048) (iblk m c 0 t) (iblk m c 1 t) i := by
  rw [outsAt0_A m c t h (by omega) (by omega)]
  frame_out
  rw [pay2_apply, zero_add]

/-- Every later column block adds its share. -/
theorem acc_step (t : Fin cfg0.N) (h : ¬t.val % 2 = 0) (i : S1024x1024.Idx) :
    (outsAt0 m c t.val t.isLt).2 i = (outsAt0 m c (t.val - 1) (Nat.lt_of_le_of_lt (Nat.sub_le _ _) t.isLt)).2 i + rowsMul (M := 1024) (N := 1024) (K := 2048) (iblk m c 0 t) (iblk m c 1 t) i := by
  rw [outsAt0_B m c t h (by omega) (by omega)]
  frame_out
  rw [pay3_apply]
  exact congrArg (· + _) (congrFun (Memref.IsWhole.read_unread _ _) i)

/-- The last column block's point stores the sum. -/
theorem out_last (t : Fin cfg0.N) (h : t.val % 2 = 1) (i : S1024x1024.Idx) : (outsAt0 m c t.val t.isLt).1 i = (outsAt0 m c t.val t.isLt).2 i := by
  rw [outsAt0_B m c t (by omega) h h]
  frame_out

/-- The windows' block indices at a point. -/
theorem e0 : ∀ t : Fin grid0.N, win0_0.index t = ![t.val / 2, t.val % 2] := by decide +kernel
theorem e1 : ∀ t : Fin grid0.N, win0_1.index t = ![0, t.val % 2] := by decide +kernel
theorem e2 : ∀ t : Fin grid0.N, win0_2.index t = ![t.val / 2, 0] := by decide +kernel

/-- What the kernel leaves in its result array. -/
theorem kernel_dx : (dats m 0 c).arrAt 2 cfg0.N = rowsMul (m ((c : Thread nD τ).loc main_arg1)) (m ((c : Thread nD τ).loc main_arg0)) := by
  refine (dats m 0 c).arrAt_eq_of_covers 2 _ (by decide +kernel) fun t hf y => ?_
  have h3 := (flush0_2 t).mp hf
  rw [after0_2]
  blk_simp
  change S1024x1024.Idx at y
  rw [out_last m c t h3 y, Pipeline.eq_sum_fin_of_reset_step_apply_of_flush (fun n h => (outsAt0 m c n h).2) 2 (fun _ => 0) (fun t i => rowsMul (M := 1024) (N := 1024) (K := 2048) (iblk m c 0 t) (iblk m c 1 t) i) (acc_start m c) (acc_step m c) t h3 y]
  unfold rowsMul
  rw [zero_add]
  refine Fin.sum_mul_add_congr fun s k hl => ?_
  have hs := s.isLt
  congr 1 <;> blk_ext [iblk, V, e0, e1, e2]

/-- The two printings' tables are one. -/
theorem defs_same : Kernel5.defs (F := Bits) = Kernel5Ideal.defs := by
  refine congrArg (Pipeline.defs (Kernel5Ideal.pcfgs (F := Bits))) (congrArg Defs.onTc (fin_one_ext (funext fun (_, _) => ?_)))
  dsimp only
  rw [show Kernel5.cc0_ff1_bwd (F := Bits) = Kernel5Ideal.cc0_ff1_bwd from rfl]
  rfl

/-- The frame of the kernel as printed. -/
theorem frame_kernel : quiescent_Kernel5 := fun m ρ _ =>
  defs_same ▸ Kernel5Ideal.Gen.frame (F := Bits) m ρ

/-- The frame of the reference. -/
theorem frame_referenceIdeal : quiescent_Reference5Ideal := fun m ρ _ =>
  (θ_run _ _ _).mono (fun r h => ⟨fun c => (h c).2, sem_eq_zero_of_no_sems (by decide) r.2⟩) (Reference5Ideal.Value.run m ρ)

/-- On arguments of equal value the kernel and the reference hold the same result. -/
theorem algebraic : algebraic_Kernel5Ideal_Reference5Ideal := by
  intro m g m' g' _ hsame
  refine ⟨fun c => rowsMul (m ((c : Thread nD τ).loc main_arg1)) (m ((c : Thread nD τ).loc main_arg0)), ?_, ?_⟩
  · exact (θ_run _ _ _).mono (fun r h c => ⟨(h c).1.trans (kernel_dx m c), (h c).2⟩) (Value.run_blocks m g)
  · refine (θ_run _ _ _).mono (fun r h c => ⟨(h c).1.trans (funext fun j => ?_), (h c).2⟩) (Reference5Ideal.Value.run m' g')
    obtain ⟨h0, h1⟩ := hsame c
    dsimp only
    rw [← h0, ← h1]
    change Reference5Ideal.S8192x1024.Idx at j
    idx_vars j
    pointwise
    rfl

end Cert.Call5
-- ==== Proof.Mlp.Call6.lean ====
/-
  Hand-written. The weight gradient of the MLP's first product: the sum over the row blocks is the sum over the rows.
-/
module

public import proofs.«01_k».proof.Defs
public import proofs.«01_k».proof.Proof.Mlp.Products
public import proofs.«01_k».proof.Proof.Gen.Kernel6
public import proofs.«01_k».proof.Proof.Gen.Kernel6Ideal.Value
public import proofs.«01_k».proof.Proof.Gen.Reference6Ideal.Run

@[expose] public section

set_option maxRecDepth 16384

noncomputable section

namespace Cert.Call6

open Kernel6Ideal Kernel6Ideal.Gen
open Idealize.ShloMosaic Idealize.ShloMosaic.TcCoe Idealize.ShloMosaic.Tactic Idealize.SL.Sem
open Products

/-- The first row block's store. -/
theorem pay2_apply (x0 : Vec Ideal S2048x1024 .bf16) (x1 : Vec Ideal S2048x1024 .bf16) (i : S1024x1024.Idx) :
    k0_pay2 x0 x1 i = colsMul x0 x1 i := by
  idx_vars i
  pointwise [k0_pay2, k0_pay1]
  rfl

/-- A later row block's store. -/
theorem pay3_apply (x0 : Vec Ideal S2048x1024 .bf16) (x1 : Vec Ideal S2048x1024 .bf16) (v : Vec Ideal S1024x1024 .f32) (i : S1024x1024.Idx) :
    k0_pay3 x0 x1 v i = v i + colsMul x0 x1 i := by
  idx_vars i
  pointwise [k0_pay3, k0_pay1]
  rfl

variable (m : (ℓ : Loc nD τ sig) → Buf (Elt Ideal) ℓ) (c : Dev nD)

/-- The first row block starts the sum. -/
theorem acc_start (t : Fin cfg0.N) (h : t.val % 4 = 0) (i : S1024x1024.Idx) :
    (outsAt0 m c t.val t.isLt).2 i = 0 + colsMul (M := 1024) (N := 1024) (K := 2048) (iblk m c 0 t) (iblk m c 1 t) i := by
  rw [outsAt0_A m c t h (by omega) (by omega)]
  frame_out
  rw [pay2_apply, zero_add]

/-- Every later row block adds its share. -/
theorem acc_step (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + colsMul (M := 1024) (N := 1024) (K := 2048) (iblk m c 0 t) (iblk m c 1 t) i := by
  by_cases h3 : t.val % 4 = 3
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last row block's point stores the sum. -/
theorem out_last (t : Fin cfg0.N) (h : t.val % 4 = 3) (i : S1024x1024.Idx) : (outsAt0 m c t.val t.isLt).1 i = (outsAt0 m c t.val t.isLt).2 i := by
  rw [outsAt0_C m c t (by omega) (by omega) h]
  frame_out
  rfl

/-- The windows' block indices at a point. -/
theorem e0 : ∀ t : Fin grid0.N, win0_0.index t = ![t.val % 4, 0] := by decide +kernel
theorem e1 : ∀ t : Fin grid0.N, win0_1.index t = ![t.val % 4, t.val / 4] := by decide +kernel
theorem e2 : ∀ t : Fin grid0.N, win0_2.index t = ![0, t.val / 4] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S1024x1024.Idx at y
  rw [out_last m c t h3 y, Pipeline.eq_sum_fin_of_reset_step_apply_of_flush (fun n h => (outsAt0 m c n h).2) 4 (fun _ => 0) (fun t i => colsMul (M := 1024) (N := 1024) (K := 2048) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The two printings' tables are one. -/
theorem defs_same : Kernel6.defs (F := Bits) = Kernel6Ideal.defs := by
  refine congrArg (Pipeline.defs (Kernel6Ideal.pcfgs (F := Bits))) (congrArg Defs.onTc (fin_one_ext (funext fun (_, _) => ?_)))
  dsimp only
  rw [show Kernel6.cc0_ff1_wgrad (F := Bits) = Kernel6Ideal.cc0_ff1_wgrad from rfl]
  rfl

/-- The frame of the kernel as printed. -/
theorem frame_kernel : quiescent_Kernel6 := fun m ρ _ =>
  defs_same ▸ Kernel6Ideal.Gen.frame (F := Bits) m ρ

/-- The frame of the reference. -/
theorem frame_referenceIdeal : quiescent_Reference6Ideal := fun m ρ _ =>
  (θ_run _ _ _).mono (fun r h => ⟨fun c => (h c).2, sem_eq_zero_of_no_sems (by decide) r.2⟩) (Reference6Ideal.Value.run m ρ)

/-- On arguments of equal value the kernel and the reference hold the same result. -/
theorem algebraic : algebraic_Kernel6Ideal_Reference6Ideal := by
  intro m g m' g' _ hsame
  refine ⟨fun c => colsMul (m ((c : Thread nD τ).loc main_arg0)) (m ((c : Thread nD τ).loc main_arg1)), ?_, ?_⟩
  · exact (θ_run _ _ _).mono (fun r h c => ⟨(h c).1.trans (kernel_dw m c), (h c).2⟩) (Value.run_blocks m g)
  · refine (θ_run _ _ _).mono (fun r h c => ⟨(h c).1.trans (funext fun j => ?_), (h c).2⟩) (Reference6Ideal.Value.run m' g')
    obtain ⟨h0, h1⟩ := hsame c
    dsimp only
    rw [← h0, ← h1]
    change Reference6Ideal.S1024x4096.Idx at j
    idx_vars j
    pointwise
    exact Finset.sum_congr rfl fun k _ => mul_comm _ _

end Cert.Call6
-- ==== Proof.Mlp.Call7.lean ====
/-
  Hand-written. The MLP's first product and its squared ReLU: the kernel's blocks are the blocks of two arrays.
-/
module

public import proofs.«01_k».proof.Defs
public import proofs.«01_k».proof.Proof.Mlp.Products
public import proofs.«01_k».proof.Proof.Gen.Kernel7
public import proofs.«01_k».proof.Proof.Gen.Kernel7Ideal.Value
public import proofs.«01_k».proof.Proof.Gen.Reference7Ideal.Run

@[expose] public section

set_option maxRecDepth 16384

noncomputable section

namespace Cert.Call7

open Kernel7Ideal Kernel7Ideal.Gen
open Idealize.ShloMosaic Idealize.ShloMosaic.TcCoe Idealize.ShloMosaic.Tactic Idealize.SL.Sem
open Products

/-- The product's rows and columns, positive parts squared. -/
def relu2 (u : S8192x4096.Idx → EReal) : S8192x4096.Idx → EReal := fun i => max (u i) 0 * max (u i) 0

/-- A block's two results at an entry. -/
theorem pay3_apply (x0 : Vec Ideal S2048x1024 .bf16) (x1 : Vec Ideal S1024x1024 .bf16) (i : S2048x1024.Idx) :
    k0_pay3 x0 x1 i = matMul x0 x1 i := by
  idx_vars i
  pointwise [k0_pay3, k0_pay1]
  rfl
theorem pay2_apply (x0 : Vec Ideal S2048x1024 .bf16) (x1 : Vec Ideal S1024x1024 .bf16) (i : S2048x1024.Idx) :
    k0_pay2 x0 x1 i = max (matMul x0 x1 i) 0 * max (matMul x0 x1 i) 0 := by
  idx_vars i
  pointwise [k0_pay2, k0_pay1]
  rfl

/-- The windows' block indices at a point. -/
theorem e0 : ∀ t : Fin grid0.N, win0_0.index t = ![t.val / 4, 0] := by decide +kernel
theorem e1 : ∀ t : Fin grid0.N, win0_1.index t = ![0, t.val % 4] := by decide +kernel
theorem e2 : ∀ t : Fin grid0.N, win0_2.index t = ![t.val / 4, t.val % 4] := by decide +kernel
theorem e3 : ∀ t : Fin grid0.N, win0_3.index t = ![t.val / 4, t.val % 4] := by decide +kernel

variable (m : (ℓ : Loc nD τ sig) → Buf (Elt Ideal) ℓ) (c : Dev nD)

/-- A point's product is the whole product at the point's rows and columns. -/
theorem blk_product (t : Fin cfg0.N) (y : S2048x1024.Idx) (i : S8192x4096.Idx) (h0 : (i 0).val = t.val / 4 * 2048 + (y 0).val) (h1 : (i 1).val = t.val % 4 * 1024 + (y 1).val) :
    matMul (M := 2048) (N := 1024) (K := 1024) (iblk m c 0 t) (iblk m c 1 t) y = matMul (m ((c : Thread nD τ).loc main_arg0)) (m ((c : Thread nD τ).loc main_arg1)) i := by
  unfold matMul
  refine Fin.sum_fin_congr fun k => ?_
  congr 1 <;> blk_ext [iblk, V, e0, e1, h0, h1]

/-- The second result array, the product. -/
theorem kernel_u : (dats m 0 c).arrAt 3 cfg0.N = matMul (m ((c : Thread nD τ).loc main_arg0)) (m ((c : Thread nD τ).loc main_arg1)) := by
  refine (dats m 0 c).arrAt_eq_of_covers 3 _ (by decide +kernel) fun t _ y => ?_
  rw [after0_3]
  frame_out
  blk_simp
  change S2048x1024.Idx at y
  rw [pay3_apply]
  exact blk_product m c t y _ (by blk_simp [e3]) (by blk_simp [e3])

/-- The first result array, its positive part squared. -/
theorem kernel_act : (dats m 0 c).arrAt 2 cfg0.N = relu2 (matMul (m ((c : Thread nD τ).loc main_arg0)) (m ((c : Thread nD τ).loc main_arg1))) := by
  refine (dats m 0 c).arrAt_eq_of_covers 2 _ (by decide +kernel) fun t _ y => ?_
  rw [after0_2]
  frame_out
  blk_simp
  change S2048x1024.Idx at y
  rw [pay2_apply]
  exact congrArg (fun z : EReal => max z 0 * max z 0) (blk_product m c t y _ (by blk_simp [e2]) (by blk_simp [e2]))

/-- The two printings' tables are one. -/
theorem defs_same : Kernel7.defs (F := Bits) = Kernel7Ideal.defs := by
  refine congrArg (Pipeline.defs (Kernel7Ideal.pcfgs (F := Bits))) (congrArg Defs.onTc (fin_one_ext (funext fun (_, _) => ?_)))
  dsimp only
  rw [show Kernel7.cc0_ff1 (F := Bits) = Kernel7Ideal.cc0_ff1 from rfl]
  rfl

/-- The frame of the kernel as printed. -/
theorem frame_kernel : quiescent_Kernel7 := fun m ρ _ =>
  defs_same ▸ Kernel7Ideal.Gen.frame (F := Bits) m ρ

/-- The frame of the reference. -/
theorem frame_referenceIdeal : quiescent_Reference7Ideal := fun m ρ _ =>
  (θ_run _ _ _).mono (fun r h => ⟨fun c => (h c).2.2, sem_eq_zero_of_no_sems (by decide) r.2⟩) (Reference7Ideal.Value.run m ρ)

/-- On arguments of equal value the kernel and the reference hold the same results. -/
theorem algebraic : algebraic_Kernel7Ideal_Reference7Ideal := by
  intro m g m' g' _ hsame
  let u (c : Dev nD) := matMul (m ((c : Thread nD τ).loc main_arg0)) (m ((c : Thread nD τ).loc main_arg1))
  refine ⟨fun c => relu2 (u c), u, ?_, ?_⟩
  · exact (θ_run _ _ _).mono (fun r h c => ⟨(h c).1.trans (kernel_act m c), (h c).2.1.trans (kernel_u m c), (h c).2.2⟩) (Value.run_blocks m g)
  · refine (θ_run _ _ _).mono (fun r h c => ?_) (Reference7Ideal.Value.run m' g')
    obtain ⟨h0, h1⟩ := hsame c
    dsimp only [u]
    rw [← h0, ← h1]
    refine ⟨(h c).1.trans (funext fun j => ?_), (h c).2.1.trans (funext fun j => ?_), (h c).2.2⟩
    all_goals
      change S8192x4096.Idx at j
      idx_vars j
      pointwise
      rfl

end Cert.Call7
-- ==== Proof.Mlp.Call8.lean ====
/-
  Hand-written. The MLP's second product: the sum over the column blocks is the
  sum over the columns.
-/
module

public import proofs.«01_k».proof.Defs
public import proofs.«01_k».proof.Proof.Mlp.Products
public import proofs.«01_k».proof.Proof.Gen.Kernel8
public import proofs.«01_k».proof.Proof.Gen.Kernel8Ideal.Value
public import proofs.«01_k».proof.Proof.Gen.Reference8Ideal.Run

@[expose] public section

set_option maxRecDepth 16384

noncomputable section

namespace Cert.Call8

open Kernel8Ideal Kernel8Ideal.Gen
open Idealize.ShloMosaic Idealize.ShloMosaic.TcCoe Idealize.ShloMosaic.Tactic Idealize.SL.Sem
open Products

/-- The first column block's store. -/
theorem pay2_apply (x0 : Vec Ideal S1024x2048 .bf16) (x1 : Vec Ideal S2048x1024 .bf16) (i : S1024x1024.Idx) :
    k0_pay2 x0 x1 i = matMul x0 x1 i := by
  idx_vars i
  pointwise [k0_pay2, k0_pay1]
  rfl

/-- A later column block's store. -/
theorem pay3_apply (x0 : Vec Ideal S1024x2048 .bf16) (x1 : Vec Ideal S2048x1024 .bf16) (v : Vec Ideal S1024x1024 .f32) (i : S1024x1024.Idx) :
    k0_pay3 x0 x1 v i = v i + matMul x0 x1 i := by
  idx_vars i
  pointwise [k0_pay3, k0_pay1]
  rfl

variable (m : (ℓ : Loc nD τ sig) → Buf (Elt Ideal) ℓ) (c : Dev nD)

/-- The first column block starts the sum. -/
theorem acc_start (t : Fin cfg0.N) (h : t.val % 2 = 0) (i : S1024x1024.Idx) :
    (outsAt0 m c t.val t.isLt).2 i = 0 + matMul (M := 1024) (N := 1024) (K := 2048) (iblk m c 0 t) (iblk m c 1 t) i := by
  rw [outsAt0_A m c t h (by omega) (by omega)]
  frame_out
  rw [pay2_apply, zero_add]

/-- Every later column block adds its share. -/
theorem acc_step (t : Fin cfg0.N) (h : ¬t.val % 2 = 0) (i : S1024x1024.Idx) :
    (outsAt0 m c t.val t.isLt).2 i = (outsAt0 m c (t.val - 1) (Nat.lt_of_le_of_lt (Nat.sub_le _ _) t.isLt)).2 i + matMul (M := 1024) (N := 1024) (K := 2048) (iblk m c 0 t) (iblk m c 1 t) i := by
  rw [outsAt0_B m c t h (by omega) (by omega)]
  frame_out
  rw [pay3_apply]
  exact congrArg (· + _) (congrFun (Memref.IsWhole.read_unread _ _) i)

/-- The last column block's point stores the sum. -/
theorem out_last (t : Fin cfg0.N) (h : t.val % 2 = 1) (i : S1024x1024.Idx) : (outsAt0 m c t.val t.isLt).1 i = (outsAt0 m c t.val t.isLt).2 i := by
  rw [outsAt0_B m c t (by omega) h h]
  frame_out

/-- The windows' block indices at a point. -/
theorem e0 : ∀ t : Fin grid0.N, win0_0.index t = ![t.val / 2, t.val % 2] := by decide +kernel
theorem e1 : ∀ t : Fin grid0.N, win0_1.index t = ![t.val % 2, 0] := by decide +kernel
theorem e2 : ∀ t : Fin grid0.N, win0_2.index t = ![t.val / 2, 0] := by decide +kernel

/-- What the kernel leaves in its result array. -/
theorem kernel_out : (dats m 0 c).arrAt 2 cfg0.N = matMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S1024x1024.Idx at y
  rw [out_last m c t h3 y, Pipeline.eq_sum_fin_of_reset_step_apply_of_flush (fun n h => (outsAt0 m c n h).2) 2 (fun _ => 0) (fun t i => matMul (M := 1024) (N := 1024) (K := 2048) (iblk m c 0 t) (iblk m c 1 t) i) (acc_start m c) (acc_step m c) t h3 y]
  unfold matMul
  rw [zero_add]
  refine Fin.sum_mul_add_congr fun s k hl => ?_
  have hs := s.isLt
  congr 1 <;> blk_ext [iblk, V, e0, e1, e2]

/-- The two printings' tables are one. -/
theorem defs_same : Kernel8.defs (F := Bits) = Kernel8Ideal.defs := by
  refine congrArg (Pipeline.defs (Kernel8Ideal.pcfgs (F := Bits))) (congrArg Defs.onTc (fin_one_ext (funext fun (_, _) => ?_)))
  dsimp only
  rw [show Kernel8.cc0_ff2 (F := Bits) = Kernel8Ideal.cc0_ff2 from rfl]
  rfl

/-- The frame of the kernel as printed. -/
theorem frame_kernel : quiescent_Kernel8 := fun m ρ _ =>
  defs_same ▸ Kernel8Ideal.Gen.frame (F := Bits) m ρ

/-- The frame of the reference. -/
theorem frame_referenceIdeal : quiescent_Reference8Ideal := fun m ρ _ =>
  (θ_run _ _ _).mono (fun r h => ⟨fun c => (h c).2, sem_eq_zero_of_no_sems (by decide) r.2⟩) (Reference8Ideal.Value.run m ρ)

/-- On arguments of equal value the kernel and the reference hold the same result. -/
theorem algebraic : algebraic_Kernel8Ideal_Reference8Ideal := by
  intro m g m' g' _ hsame
  refine ⟨fun c => matMul (m ((c : Thread nD τ).loc main_arg0)) (m ((c : Thread nD τ).loc main_arg1)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference8Ideal.Value.run m' g')
    obtain ⟨h0, h1⟩ := hsame c
    dsimp only
    rw [← h0, ← h1]
    change Reference8Ideal.S8192x1024.Idx at j
    idx_vars j
    pointwise
    rfl

end Cert.Call8
-- ==== Proof.Mlp.Call9.lean ====
/-
  Hand-written. The weight and bias gradients of the input projection: sums over the row blocks are sums over the rows.
-/
module

public import proofs.«01_k».proof.Defs
public import proofs.«01_k».proof.Proof.Mlp.Products
public import proofs.«01_k».proof.Proof.Gen.Kernel9
public import proofs.«01_k».proof.Proof.Gen.Kernel9Ideal.Value
public import proofs.«01_k».proof.Proof.Gen.Reference9Ideal.Run

@[expose] public section

set_option maxRecDepth 16384

noncomputable section

namespace Cert.Call9

open Kernel9Ideal Kernel9Ideal.Gen
open Idealize.ShloMosaic Idealize.ShloMosaic.TcCoe Idealize.ShloMosaic.Tactic Idealize.SL.Sem
open Products

/-- The sum of a matrix's columns, as a row. -/
def colSum {M N : ℕ} (x : (⟨2, ![M, N]⟩ : Shape).Idx → EReal) : (⟨2, ![1, N]⟩ : Shape).Idx → EReal := fun i => ∑ k : Fin M, x (ix2 k (i 1))

/-- The first row block's store. -/
theorem pay4_apply (x0 : Vec Ideal S2048x1024 .bf16) (x1 : Vec Ideal S2048x1024 .bf16) (i : S1024x1024.Idx) :
    k0_pay4 x0 x1 i = colsMul x0 x1 i := by
  idx_vars i
  pointwise [k0_pay4, k0_pay1]
  rfl

/-- A later row block's store. -/
theorem pay5_apply (x0 : Vec Ideal S2048x1024 .bf16) (x1 : Vec Ideal S2048x1024 .bf16) (v : Vec Ideal S1024x1024 .f32) (i : S1024x1024.Idx) :
    k0_pay5 x0 x1 v i = v i + colsMul x0 x1 i := by
  idx_vars i
  pointwise [k0_pay5, k0_pay1]
  rfl

/-- The first row block's column sums. -/
theorem pay2_apply (x1 : Vec Ideal S2048x1024 .bf16) (i : S1x1024.Idx) : k0_pay2 x1 i = colSum x1 i := by
  idx_vars i
  pointwise [k0_pay2]
  rfl

/-- A later row block's column sums, added. -/
theorem pay3_apply (x1 : Vec Ideal S2048x1024 .bf16) (v : Vec Ideal S1x1024 .f32) (i : S1x1024.Idx) : k0_pay3 x1 v i = v i + colSum x1 i := by
  rw [← pay2_apply]
  idx_vars i
  pointwise [k0_pay3]

variable (m : (ℓ : Loc nD τ sig) → Buf (Elt Ideal) ℓ) (c : Dev nD)

/-- The first row block starts the sum. -/
theorem acc_start (t : Fin cfg0.N) (h : t.val % 4 = 0) (i : S1024x1024.Idx) :
    (outsAt0 m c t.val t.isLt).2.2 i = 0 + colsMul (M := 1024) (N := 1024) (K := 2048) (iblk m c 0 t) (iblk m c 1 t) i := by
  rw [outsAt0_A m c t h (by omega) h (by omega) (by omega)]
  frame_out
  rw [pay4_apply, zero_add]

/-- Every later row block adds its share. -/
theorem acc_step (t : Fin cfg0.N) (h : ¬t.val % 4 = 0) (i : S1024x1024.Idx) :
    (outsAt0 m c t.val t.isLt).2.2 i = (outsAt0 m c (t.val - 1) (Nat.lt_of_le_of_lt (Nat.sub_le _ _) t.isLt)).2.2 i + colsMul (M := 1024) (N := 1024) (K := 2048) (iblk m c 0 t) (iblk m c 1 t) i := by
  by_cases h3 : t.val % 4 = 3
  · rw [outsAt0_C m c t h (by omega) h (by omega) h3]
    frame_out
    rw [pay5_apply]
    exact congrArg (· + _) (congrFun (Memref.IsWhole.read_unread _ _) i)
  · rw [outsAt0_B m c t h (by omega) h (by omega) h3]
    frame_out
    rw [pay5_apply]
    exact congrArg (· + _) (congrFun (Memref.IsWhole.read_unread _ _) i)

/-- The column sums start at the first row block. -/
theorem sum_start (t : Fin cfg0.N) (h : t.val % 4 = 0) (i : S1x1024.Idx) :
    (outsAt0 m c t.val t.isLt).2.1 i = 0 + colSum (M := 2048) (N := 1024) (iblk m c 1 t) i := by
  rw [outsAt0_A m c t h (by omega) h (by omega) (by omega)]
  frame_out
  rw [pay2_apply, zero_add]

/-- Every later row block adds its column sums. -/
theorem sum_step (t : Fin cfg0.N) (h : ¬t.val % 4 = 0) (i : S1x1024.Idx) :
    (outsAt0 m c t.val t.isLt).2.1 i = (outsAt0 m c (t.val - 1) (Nat.lt_of_le_of_lt (Nat.sub_le _ _) t.isLt)).2.1 i + colSum (M := 2048) (N := 1024) (iblk m c 1 t) i := by
  by_cases h3 : t.val % 4 = 3
  · rw [outsAt0_C m c t h (by omega) h (by omega) h3]
    frame_out
    rw [pay3_apply]
  · rw [outsAt0_B m c t h (by omega) h (by omega) h3]
    frame_out
    rw [pay3_apply]

/-- The last row block's point stores the sum. -/
theorem out_last (t : Fin cfg0.N) (h : t.val % 4 = 3) (i : S1024x1024.Idx) : (outsAt0 m c t.val t.isLt).1 i = (outsAt0 m c t.val t.isLt).2.2 i := by
  rw [outsAt0_C m c t (by omega) (by omega) (by omega) (by omega) h]
  frame_out
  rfl

/-- The windows' block indices at a point. -/
theorem e0 : ∀ t : Fin grid0.N, win0_0.index t = ![t.val % 4, 0] := by decide +kernel
theorem e1 : ∀ t : Fin grid0.N, win0_1.index t = ![t.val % 4, t.val / 4] := by decide +kernel
theorem e3 : ∀ t : Fin grid0.N, win0_3.index t = ![0, t.val / 4] := by decide +kernel
theorem e2 : ∀ t : Fin grid0.N, win0_2.index t = ![0, t.val / 4] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S1024x1024.Idx at y
  rw [out_last m c t h3 y, Pipeline.eq_sum_fin_of_reset_step_apply_of_flush (fun n h => (outsAt0 m c n h).2.2) 4 (fun _ => 0) (fun t i => colsMul (M := 1024) (N := 1024) (K := 2048) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The column sums the kernel leaves in its second result array. -/
theorem kernel_sum : (dats m 0 c).arrAt 3 cfg0.N = colSum (m ((c : Thread nD τ).loc main_arg1)) := by
  refine (dats m 0 c).arrAt_eq_of_covers 3 _ (by decide +kernel) fun t hf y => ?_
  have h3 := (flush0_3 t).mp hf
  rw [after0_3]
  blk_simp
  change S1x1024.Idx at y
  rw [Pipeline.eq_sum_fin_of_reset_step_apply_of_flush (fun n h => (outsAt0 m c n h).2.1) 4 (fun _ => 0) (fun t i => colSum (M := 2048) (N := 1024) (iblk m c 1 t) i) (sum_start m c) (sum_step m c) t h3 y]
  unfold colSum
  rw [zero_add]
  refine Fin.sum_mul_add_congr fun s k hl => ?_
  have hs := s.isLt
  blk_ext [iblk, V, e1, e3]

/-- The two printings' tables are one. -/
theorem defs_same : Kernel9.defs (F := Bits) = Kernel9Ideal.defs := by
  refine congrArg (Pipeline.defs (Kernel9Ideal.pcfgs (F := Bits))) (congrArg Defs.onTc (fin_one_ext (funext fun (_, _) => ?_)))
  dsimp only
  rw [show Kernel9.cc0_in_proj_wgrad (F := Bits) = Kernel9Ideal.cc0_in_proj_wgrad from rfl]
  rfl

/-- The frame of the kernel as printed. -/
theorem frame_kernel : quiescent_Kernel9 := fun m ρ _ =>
  defs_same ▸ Kernel9Ideal.Gen.frame (F := Bits) m ρ

/-- The frame of the reference. -/
theorem frame_referenceIdeal : quiescent_Reference9Ideal := fun m ρ _ =>
  (θ_run _ _ _).mono (fun r h => ⟨fun c => (h c).2.2, sem_eq_zero_of_no_sems (by decide) r.2⟩) (Reference9Ideal.Value.run m ρ)

/-- On arguments of equal value the kernel and the reference hold the same results. -/
theorem algebraic : algebraic_Kernel9Ideal_Reference9Ideal := by
  intro m g m' g' _ hsame
  refine ⟨fun c => colsMul (m ((c : Thread nD τ).loc main_arg0)) (m ((c : Thread nD τ).loc main_arg1)), fun c => colSum (m ((c : Thread nD τ).loc main_arg1)), ?_, ?_⟩
  · exact (θ_run _ _ _).mono (fun r h c => ⟨(h c).1.trans (kernel_dw m c), (h c).2.1.trans (kernel_sum m c), (h c).2.2⟩) (Value.run_blocks m g)
  · refine (θ_run _ _ _).mono (fun r h c => ?_) (Reference9Ideal.Value.run m' g')
    obtain ⟨h0, h1⟩ := hsame c
    dsimp only
    rw [← h0, ← h1]
    refine ⟨(h c).1.trans (funext fun j => ?_), (h c).2.1.trans (funext fun j => ?_), (h c).2.2⟩
    · change Reference9Ideal.S1024x4096.Idx at j
      idx_vars j
      pointwise
      exact Finset.sum_congr rfl fun k _ => mul_comm _ _
    · change S1x4096.Idx at j
      idx_vars j
      pointwise
      exact Fin.sum_univ_one _

end Cert.Call9
-- ==== Proof.Mlp.Call10.lean ====
/-
  Hand-written. The input projection with its bias and column scale, and the copy of its last columns that is not rounded.
-/
module

public import proofs.«01_k».proof.Defs
public import proofs.«01_k».proof.Proof.Mlp.Products
public import proofs.«01_k».proof.Proof.Gen.Kernel10
public import proofs.«01_k».proof.Proof.Gen.Kernel10Ideal.Value
public import proofs.«01_k».proof.Proof.Gen.Reference10Ideal.Run

@[expose] public section

set_option maxRecDepth 16384

noncomputable section

namespace Cert.Call10

open Kernel10Ideal Kernel10Ideal.Gen
open Idealize.ShloMosaic Idealize.ShloMosaic.TcCoe Idealize.ShloMosaic.Tactic Idealize.SL.Sem
open Products

/-- A product with its columns' bias and scale. -/
def scaled {M N K : ℕ} (x : (⟨2, ![M, K]⟩ : Shape).Idx → EReal) (w : (⟨2, ![K, N]⟩ : Shape).Idx → EReal) (b s : (⟨2, ![1, N]⟩ : Shape).Idx → EReal) : (⟨2, ![M, N]⟩ : Shape).Idx → EReal :=
  fun i => (matMul x w i + b (ix2 0 (i 1))) * s (ix2 0 (i 1))

/-- The last 128 columns. -/
def tail (u : S8192x4096.Idx → EReal) : S8192x128.Idx → EReal := fun i => u (ix2 (i 0) ⟨3968 + (i 1).val, by have := (i 1).isLt; simp at this; omega⟩)

/-- A block's two results at an entry. -/
theorem pay3_apply (x0 : Vec Ideal S2048x1024 .bf16) (x1 : Vec Ideal S1024x1024 .bf16) (x2 x3 : Vec Ideal S1x1024 .f32) (i : S2048x1024.Idx) :
    k0_pay3 x0 x1 x2 x3 i = scaled x0 x1 x2 x3 i := by
  idx_vars i
  pointwise [k0_pay3, k0_pay1]
  rfl
theorem pay2_apply (x0 : Vec Ideal S2048x1024 .bf16) (x1 : Vec Ideal S1024x1024 .bf16) (x2 x3 : Vec Ideal S1x1024 .f32) (i : S2048x128.Idx) (j : S2048x1024.Idx) (h0 : (j 0).val = (i 0).val) (h1 : (j 1).val = 896 + (i 1).val) :
    k0_pay2 x0 x1 x2 x3 i = scaled x0 x1 x2 x3 j := by
  rw [← pay3_apply]
  refine congrArg (k0_pay1 x0 x1 x2 x3) (funext fun a => Fin.ext ?_)
  fin_cases a
  · exact (Nat.zero_add _).trans h0.symm
  · exact h1.symm

/-- The windows' block indices at a point. -/
theorem e0 : ∀ t : Fin grid0.N, win0_0.index t = ![t.val / 4, 0] := by decide +kernel
theorem e1 : ∀ t : Fin grid0.N, win0_1.index t = ![0, t.val % 4] := by decide +kernel
theorem e2 : ∀ t : Fin grid0.N, win0_2.index t = ![0, t.val % 4] := by decide +kernel
theorem e3 : ∀ t : Fin grid0.N, win0_3.index t = ![0, t.val % 4] := by decide +kernel
theorem e4 : ∀ t : Fin grid0.N, win0_4.index t = ![t.val / 4, t.val % 4] := by decide +kernel
theorem e5 : ∀ t : Fin grid0.N, win0_5.index t = ![t.val / 4, 0] := by decide +kernel

variable (m : (ℓ : Loc nD τ sig) → Buf (Elt Ideal) ℓ) (c : Dev nD)

/-- A point's scaled product is the whole one at the point's rows and columns. -/
theorem blk_scaled (t : Fin cfg0.N) (y : S2048x1024.Idx) (i : S8192x4096.Idx) (h0 : (i 0).val = t.val / 4 * 2048 + (y 0).val) (h1 : (i 1).val = t.val % 4 * 1024 + (y 1).val) :
    scaled (M := 2048) (N := 1024) (K := 1024) (iblk m c 0 t) (iblk m c 1 t) (iblk m c 2 t) (iblk m c 3 t) y = scaled (m ((c : Thread nD τ).loc main_arg0)) (m ((c : Thread nD τ).loc main_arg1)) (m ((c : Thread nD τ).loc main_arg2)) (m ((c : Thread nD τ).loc main_arg3)) i := by
  unfold scaled matMul
  refine congr (congrArg HMul.hMul (congr (congrArg HAdd.hAdd (Fin.sum_fin_congr fun k => ?_)) ?_)) ?_
  · congr 1 <;> blk_ext [iblk, V, e0, e1, h0, h1]
  · blk_ext [iblk, V, e2, h1]
  · blk_ext [iblk, V, e3, h1]

/-- The first result array. -/
theorem kernel_out : (dats m 0 c).arrAt 4 cfg0.N = scaled (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4]
  blk_simp
  change S2048x1024.Idx at y
  refine Eq.trans ?_ (blk_scaled m c t y _ (by blk_simp [e4]) (by blk_simp [e4]))
  by_cases h3 : t.val % 4 = 3
  · rw [outsAt0_B m c t h3]
    frame_out
    rw [pay3_apply]
  · rw [outsAt0_A m c t h3]
    frame_out
    rw [pay3_apply]

/-- The second result array, its last 128 columns. -/
theorem kernel_tail : (dats m 0 c).arrAt 5 cfg0.N = tail (scaled (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have h3 := (flush0_5 t).mp hf
  rw [after0_5]
  blk_simp
  change S2048x128.Idx at y
  rw [outsAt0_B m c t h3]
  frame_out
  have hy := (y 1).isLt
  rw [pay2_apply _ _ _ _ y (ix2 (y 0) ⟨896 + (y 1).val, by simp at hy; omega⟩) rfl rfl]
  exact blk_scaled m c t _ _ (by blk_simp [e5]) (by blk_simp [e5, h3]; dsimp only; omega)

/-- The slice is the last 128 columns. -/
theorem slice_tail (u : FVec Ideal S8192x4096 .f32) : extractStridedSlice S8192x128 ![0, 3968] u Reference10Ideal.Gen.facts.slices_S8192x4096_S8192x128_0_3968 = tail u := by
  refine funext fun i => congrArg u (funext fun a => Fin.ext ?_)
  fin_cases a
  · exact Nat.zero_add _
  · rfl

/-- The reference's result before the rounding. -/
theorem ref_pre (x : FVec Ideal S8192x1024 .bf16) (w : FVec Ideal S1024x4096 .bf16) (b s : FVec Ideal S1x4096 .f32) :
    (mulf (addf (Host.dotGeneral Reference10Ideal.dot_S8192x1024_S1024x4096_S8192x4096_1_0_0_1_n_n none (extf .f32 x bitsLt_bf16_f32) (extf .f32 w bitsLt_bf16_f32)) (broadcastInDim S8192x4096 ![0, 1] Reference10Ideal.Gen.facts.bcast_S1x4096_S8192x4096_0_1 b)) (broadcastInDim S8192x4096 ![0, 1] Reference10Ideal.Gen.facts.bcast_S1x4096_S8192x4096_0_1 s)) = scaled x w b s := by
  funext j
  idx_vars j
  pointwise
  rfl

/-- The two printings' tables are one. -/
theorem defs_same : Kernel10.defs (F := Bits) = Kernel10Ideal.defs := by
  refine congrArg (Pipeline.defs (Kernel10Ideal.pcfgs (F := Bits))) (congrArg Defs.onTc (fin_one_ext (funext fun (_, _) => ?_)))
  dsimp only
  rw [show Kernel10.cc0_in_proj (F := Bits) = Kernel10Ideal.cc0_in_proj from rfl]
  rfl

/-- The frame of the kernel as printed. -/
theorem frame_kernel : quiescent_Kernel10 := fun m ρ _ =>
  defs_same ▸ Kernel10Ideal.Gen.frame (F := Bits) m ρ

/-- The frame of the reference. -/
theorem frame_referenceIdeal : quiescent_Reference10Ideal := fun m ρ _ =>
  (θ_run _ _ _).mono (fun r h => ⟨fun c => (h c).2.2, sem_eq_zero_of_no_sems (by decide) r.2⟩) (Reference10Ideal.Value.run m ρ)

/-- On arguments of equal value the kernel and the reference hold the same results. -/
theorem algebraic : algebraic_Kernel10Ideal_Reference10Ideal := by
  intro m g m' g' _ hsame
  let u (c : Dev nD) := scaled (m ((c : Thread nD τ).loc main_arg0)) (m ((c : Thread nD τ).loc main_arg1)) (m ((c : Thread nD τ).loc main_arg2)) (m ((c : Thread nD τ).loc main_arg3))
  refine ⟨u, fun c => tail (u c), ?_, ?_⟩
  · exact (θ_run _ _ _).mono (fun r h c => ⟨(h c).1.trans (kernel_out m c), (h c).2.1.trans (kernel_tail m c), (h c).2.2⟩) (Value.run_blocks m g)
  · refine (θ_run _ _ _).mono (fun r h c => ?_) (Reference10Ideal.Value.run m' g')
    obtain ⟨h0, h1, h2, h3⟩ := hsame c
    have hu := congr (congr (congr (congrArg scaled h0) h1) h2) h3
    exact ⟨(h c).1.trans ((ref_pre _ _ _ _).trans hu), (h c).2.1.trans ((slice_tail _).trans (congrArg tail ((ref_pre _ _ _ _).trans hu))), (h c).2.2⟩

end Cert.Call10
-- ==== Proof.Mlp.Call11.lean ====
/-
  Hand-written. The output projection: the kernel's row blocks are the blocks of one product.
-/
module

public import proofs.«01_k».proof.Defs
public import proofs.«01_k».proof.Proof.Mlp.Products
public import proofs.«01_k».proof.Proof.Gen.Kernel11
public import proofs.«01_k».proof.Proof.Gen.Kernel11Ideal.Value
public import proofs.«01_k».proof.Proof.Gen.Reference11Ideal.Run

@[expose] public section

set_option maxRecDepth 16384

noncomputable section

namespace Cert.Call11

open Kernel11Ideal Kernel11Ideal.Gen
open Idealize.ShloMosaic Idealize.ShloMosaic.TcCoe Idealize.ShloMosaic.Tactic Idealize.SL.Sem
open Products

/-- A block's result at an entry. -/
theorem pay_apply (x0 : Vec Ideal S512x1024 .bf16) (x1 : Vec Ideal S1024x1024 .bf16) (i : S512x1024.Idx) :
    k0_pay1 x0 x1 i = matMul x0 x1 i := by
  idx_vars i
  pointwise [k0_pay1]
  rfl

/-- The windows' block indices at a point. -/
theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- What the kernel leaves in its result array. -/
theorem kernel_out (m : (ℓ : Loc nD τ sig) → Buf (Elt Ideal) ℓ) (c : Dev nD) : (dats m 0 c).arrAt 2 cfg0.N = matMul (m ((c : Thread nD τ).loc main_arg0)) (m ((c : Thread nD τ).loc main_arg1)) := by
  refine (dats m 0 c).arrAt_eq_of_covers 2 _ (by decide +kernel) fun t _ y => ?_
  rw [after0_2]
  frame_out
  blk_simp
  change S512x1024.Idx at y
  rw [pay_apply]
  unfold matMul
  refine Fin.sum_fin_congr fun k => ?_
  congr 1 <;> blk_ext [iblk, V, e0, e1, e2]

/-- The two printings' tables are one. -/
theorem defs_same : Kernel11.defs (F := Bits) = Kernel11Ideal.defs := by
  refine congrArg (Pipeline.defs (Kernel11Ideal.pcfgs (F := Bits))) (congrArg Defs.onTc (fin_one_ext (funext fun (_, _) => ?_)))
  dsimp only
  rw [show Kernel11.cc0_out_proj (F := Bits) = Kernel11Ideal.cc0_out_proj from rfl]
  rfl

/-- The frame of the kernel as printed. -/
theorem frame_kernel : quiescent_Kernel11 := fun m ρ _ =>
  defs_same ▸ Kernel11Ideal.Gen.frame (F := Bits) m ρ

/-- The frame of the reference. -/
theorem frame_referenceIdeal : quiescent_Reference11Ideal := fun m ρ _ =>
  (θ_run _ _ _).mono (fun r h => ⟨fun c => (h c).2, sem_eq_zero_of_no_sems (by decide) r.2⟩) (Reference11Ideal.Value.run m ρ)

/-- On arguments of equal value the kernel and the reference hold the same result. -/
theorem algebraic : algebraic_Kernel11Ideal_Reference11Ideal := by
  intro m g m' g' _ hsame
  refine ⟨fun c => matMul (m ((c : Thread nD τ).loc main_arg0)) (m ((c : Thread nD τ).loc main_arg1)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference11Ideal.Value.run m' g')
    obtain ⟨h0, h1⟩ := hsame c
    dsimp only
    rw [← h0, ← h1]
    change Reference11Ideal.S8192x1024.Idx at j
    idx_vars j
    pointwise
    rfl

end Cert.Call11
-- ==== Proof.Mlp.Call12.lean ====
/-
  Hand-written. The backward of the output projection in its first factor: the kernel's row blocks are the blocks of one product.
-/
module

public import proofs.«01_k».proof.Defs
public import proofs.«01_k».proof.Proof.Mlp.Products
public import proofs.«01_k».proof.Proof.Gen.Kernel12
public import proofs.«01_k».proof.Proof.Gen.Kernel12Ideal.Value
public import proofs.«01_k».proof.Proof.Gen.Reference12Ideal.Run

@[expose] public section

set_option maxRecDepth 16384

noncomputable section

namespace Cert.Call12

open Kernel12Ideal Kernel12Ideal.Gen
open Idealize.ShloMosaic Idealize.ShloMosaic.TcCoe Idealize.ShloMosaic.Tactic Idealize.SL.Sem
open Products

/-- A block's result at an entry. -/
theorem pay_apply (x0 : Vec Ideal S512x1024 .bf16) (x1 : Vec Ideal S1024x1024 .bf16) (i : S512x1024.Idx) :
    k0_pay1 x0 x1 i = rowsMul x0 x1 i := by
  idx_vars i
  pointwise [k0_pay1]
  rfl

/-- The windows' block indices at a point. -/
theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- What the kernel leaves in its result array. -/
theorem kernel_out (m : (ℓ : Loc nD τ sig) → Buf (Elt Ideal) ℓ) (c : Dev nD) : (dats m 0 c).arrAt 2 cfg0.N = rowsMul (m ((c : Thread nD τ).loc main_arg1)) (m ((c : Thread nD τ).loc main_arg0)) := by
  refine (dats m 0 c).arrAt_eq_of_covers 2 _ (by decide +kernel) fun t _ y => ?_
  rw [after0_2]
  frame_out
  blk_simp
  change S512x1024.Idx at y
  rw [pay_apply]
  unfold rowsMul
  refine Fin.sum_fin_congr fun k => ?_
  congr 1 <;> blk_ext [iblk, V, e0, e1, e2]

/-- The two printings' tables are one. -/
theorem defs_same : Kernel12.defs (F := Bits) = Kernel12Ideal.defs := by
  refine congrArg (Pipeline.defs (Kernel12Ideal.pcfgs (F := Bits))) (congrArg Defs.onTc (fin_one_ext (funext fun (_, _) => ?_)))
  dsimp only
  rw [show Kernel12.cc0_out_proj_bwd (F := Bits) = Kernel12Ideal.cc0_out_proj_bwd from rfl]
  rfl

/-- The frame of the kernel as printed. -/
theorem frame_kernel : quiescent_Kernel12 := fun m ρ _ =>
  defs_same ▸ Kernel12Ideal.Gen.frame (F := Bits) m ρ

/-- The frame of the reference. -/
theorem frame_referenceIdeal : quiescent_Reference12Ideal := fun m ρ _ =>
  (θ_run _ _ _).mono (fun r h => ⟨fun c => (h c).2, sem_eq_zero_of_no_sems (by decide) r.2⟩) (Reference12Ideal.Value.run m ρ)

/-- On arguments of equal value the kernel and the reference hold the same result. -/
theorem algebraic : algebraic_Kernel12Ideal_Reference12Ideal := by
  intro m g m' g' _ hsame
  refine ⟨fun c => rowsMul (m ((c : Thread nD τ).loc main_arg1)) (m ((c : Thread nD τ).loc main_arg0)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference12Ideal.Value.run m' g')
    obtain ⟨h0, h1⟩ := hsame c
    dsimp only
    rw [← h0, ← h1]
    change Reference12Ideal.S8192x1024.Idx at j
    idx_vars j
    pointwise
    rfl

end Cert.Call12
-- ==== Proof.Mlp.Call13.lean ====
/-
  Hand-written. The weight gradient of the output projection: the sum over the row blocks is the sum over the rows.
-/
module

public import proofs.«01_k».proof.Defs
public import proofs.«01_k».proof.Proof.Mlp.Products
public import proofs.«01_k».proof.Proof.Gen.Kernel13
public import proofs.«01_k».proof.Proof.Gen.Kernel13Ideal.Value
public import proofs.«01_k».proof.Proof.Gen.Reference13Ideal.Run

@[expose] public section

set_option maxRecDepth 16384

noncomputable section

namespace Cert.Call13

open Kernel13Ideal Kernel13Ideal.Gen
open Idealize.ShloMosaic Idealize.ShloMosaic.TcCoe Idealize.ShloMosaic.Tactic Idealize.SL.Sem
open Products

/-- The first row block's store. -/
theorem pay2_apply (x0 : Vec Ideal S1024x1024 .bf16) (x1 : Vec Ideal S1024x1024 .bf16) (i : S1024x1024.Idx) :
    k0_pay2 x0 x1 i = colsMul x0 x1 i := by
  idx_vars i
  pointwise [k0_pay2, k0_pay1]
  rfl

/-- A later row block's store. -/
theorem pay3_apply (x0 : Vec Ideal S1024x1024 .bf16) (x1 : Vec Ideal S1024x1024 .bf16) (v : Vec Ideal S1024x1024 .f32) (i : S1024x1024.Idx) :
    k0_pay3 x0 x1 v i = v i + colsMul x0 x1 i := by
  idx_vars i
  pointwise [k0_pay3, k0_pay1]
  rfl

variable (m : (ℓ : Loc nD τ sig) → Buf (Elt Ideal) ℓ) (c : Dev nD)

/-- The first row block starts the sum. -/
theorem acc_start (t : Fin cfg0.N) (h : t.val % 8 = 0) (i : S1024x1024.Idx) :
    (outsAt0 m c t.val t.isLt).2 i = 0 + colsMul (M := 1024) (N := 1024) (K := 1024) (iblk m c 0 t) (iblk m c 1 t) i := by
  have ht := lt_of_lt_of_eq t.isLt N_0
  rw [outsAt0_A m c t h (by omega) (by omega)]
  frame_out
  rw [pay2_apply, zero_add]

/-- Every later row block adds its share. -/
theorem acc_step (t : Fin cfg0.N) (h : ¬t.val % 8 = 0) (i : S1024x1024.Idx) :
    (outsAt0 m c t.val t.isLt).2 i = (outsAt0 m c (t.val - 1) (Nat.lt_of_le_of_lt (Nat.sub_le _ _) t.isLt)).2 i + colsMul (M := 1024) (N := 1024) (K := 1024) (iblk m c 0 t) (iblk m c 1 t) i := by
  have ht := lt_of_lt_of_eq t.isLt N_0
  by_cases h3 : t.val % 8 = 7
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last row block's point stores the sum. -/
theorem out_last (t : Fin cfg0.N) (h : t.val % 8 = 7) (i : S1024x1024.Idx) : (outsAt0 m c t.val t.isLt).1 i = (outsAt0 m c t.val t.isLt).2 i := by
  have ht := lt_of_lt_of_eq t.isLt N_0
  rw [outsAt0_C m c t (by omega) (by omega) h]
  frame_out
  rfl

/-- The windows' block indices at a point. -/
theorem e0 : ∀ t : Fin grid0.N, win0_0.index t = ![t.val % 8, t.val / 8] := by decide +kernel
theorem e1 : ∀ t : Fin grid0.N, win0_1.index t = ![t.val % 8, 0] := by decide +kernel
theorem e2 : ∀ t : Fin grid0.N, win0_2.index t = ![t.val / 8, 0] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S1024x1024.Idx at y
  rw [out_last m c t h3 y, Pipeline.eq_sum_fin_of_reset_step_apply_of_flush (fun n h => (outsAt0 m c n h).2) 8 (fun _ => 0) (fun t i => colsMul (M := 1024) (N := 1024) (K := 1024) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The two printings' tables are one. -/
theorem defs_same : Kernel13.defs (F := Bits) = Kernel13Ideal.defs := by
  refine congrArg (Pipeline.defs (Kernel13Ideal.pcfgs (F := Bits))) (congrArg Defs.onTc (fin_one_ext (funext fun (_, _) => ?_)))
  dsimp only
  rw [show Kernel13.cc0_out_proj_wgrad (F := Bits) = Kernel13Ideal.cc0_out_proj_wgrad from rfl]
  rfl

/-- The frame of the kernel as printed. -/
theorem frame_kernel : quiescent_Kernel13 := fun m ρ _ =>
  defs_same ▸ Kernel13Ideal.Gen.frame (F := Bits) m ρ

/-- The frame of the reference. -/
theorem frame_referenceIdeal : quiescent_Reference13Ideal := fun m ρ _ =>
  (θ_run _ _ _).mono (fun r h => ⟨fun c => (h c).2, sem_eq_zero_of_no_sems (by decide) r.2⟩) (Reference13Ideal.Value.run m ρ)

/-- On arguments of equal value the kernel and the reference hold the same result. -/
theorem algebraic : algebraic_Kernel13Ideal_Reference13Ideal := by
  intro m g m' g' _ hsame
  refine ⟨fun c => colsMul (m ((c : Thread nD τ).loc main_arg0)) (m ((c : Thread nD τ).loc main_arg1)), ?_, ?_⟩
  · exact (θ_run _ _ _).mono (fun r h c => ⟨(h c).1.trans (kernel_dw m c), (h c).2⟩) (Value.run_blocks m g)
  · refine (θ_run _ _ _).mono (fun r h c => ⟨(h c).1.trans (funext fun j => ?_), (h c).2⟩) (Reference13Ideal.Value.run m' g')
    obtain ⟨h0, h1⟩ := hsame c
    dsimp only
    rw [← h0, ← h1]
    change Reference13Ideal.S1024x1024.Idx at j
    idx_vars j
    pointwise
    exact Finset.sum_congr rfl fun k _ => mul_comm _ _

end Cert.Call13
-- ==== Proof.Mlp.Call14.lean ====
/-
  Hand-written. The latent attention's output projection: the kernel's blocks are the blocks of one array.
-/
module

public import proofs.«01_k».proof.Defs
public import proofs.«01_k».proof.Proof.Mlp.Products
public import proofs.«01_k».proof.Proof.Gen.Kernel14
public import proofs.«01_k».proof.Proof.Gen.Kernel14Ideal.Value
public import proofs.«01_k».proof.Proof.Gen.Reference14Ideal.Run

@[expose] public section

set_option maxRecDepth 16384

noncomputable section

namespace Cert.Call14

open Kernel14Ideal Kernel14Ideal.Gen
open Idealize.ShloMosaic Idealize.ShloMosaic.TcCoe Idealize.ShloMosaic.Tactic Idealize.SL.Sem
open Products

/-- A block's result at an entry. -/
theorem pay_apply (x0 : Vec Ideal S512x512 .bf16) (x1 : Vec Ideal S512x1024 .bf16) (i : S512x1024.Idx) :
    k0_pay1 x0 x1 i = matMul x0 x1 i := by
  idx_vars i
  pointwise [k0_pay1]
  rfl

/-- The windows' block indices at a point. -/
theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- What the kernel leaves in its result array. -/
theorem kernel_out (m : (ℓ : Loc nD τ sig) → Buf (Elt Ideal) ℓ) (c : Dev nD) : (dats m 0 c).arrAt 2 cfg0.N = matMul (m ((c : Thread nD τ).loc main_arg0)) (m ((c : Thread nD τ).loc main_arg1)) := by
  refine (dats m 0 c).arrAt_eq_of_covers 2 _ (by decide +kernel) fun t _ y => ?_
  rw [after0_2]
  frame_out
  blk_simp
  change S512x1024.Idx at y
  rw [pay_apply]
  unfold matMul
  refine Fin.sum_fin_congr fun k => ?_
  congr 1 <;> blk_ext [iblk, V, e0, e1, e2]

/-- The two printings' tables are one. -/
theorem defs_same : Kernel14.defs (F := Bits) = Kernel14Ideal.defs := by
  refine congrArg (Pipeline.defs (Kernel14Ideal.pcfgs (F := Bits))) (congrArg Defs.onTc (fin_one_ext (funext fun (_, _) => ?_)))
  dsimp only
  rw [show Kernel14.cc0_o_proj_mla (F := Bits) = Kernel14Ideal.cc0_o_proj_mla from rfl]
  rfl

/-- The frame of the kernel as printed. -/
theorem frame_kernel : quiescent_Kernel14 := fun m ρ _ =>
  defs_same ▸ Kernel14Ideal.Gen.frame (F := Bits) m ρ

/-- The frame of the reference. -/
theorem frame_referenceIdeal : quiescent_Reference14Ideal := fun m ρ _ =>
  (θ_run _ _ _).mono (fun r h => ⟨fun c => (h c).2, sem_eq_zero_of_no_sems (by decide) r.2⟩) (Reference14Ideal.Value.run m ρ)

/-- On arguments of equal value the kernel and the reference hold the same result. -/
theorem algebraic : algebraic_Kernel14Ideal_Reference14Ideal := by
  intro m g m' g' _ hsame
  refine ⟨fun c => matMul (m ((c : Thread nD τ).loc main_arg0)) (m ((c : Thread nD τ).loc main_arg1)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference14Ideal.Value.run m' g')
    obtain ⟨h0, h1⟩ := hsame c
    dsimp only
    rw [← h0, ← h1]
    change Reference14Ideal.S8192x1024.Idx at j
    idx_vars j
    pointwise
    rfl

end Cert.Call14
-- ==== Proof.Mlp.Call15.lean ====
/-
  Hand-written. The backward product of the latent attention's output projection, also left as transposed tiles.
-/
module

public import proofs.«01_k».proof.Defs
public import proofs.«01_k».proof.Proof.Mlp.Products
public import proofs.«01_k».proof.Proof.Gen.Kernel15
public import proofs.«01_k».proof.Proof.Gen.Kernel15Ideal.Value
public import proofs.«01_k».proof.Proof.Gen.Reference15Ideal.Run

@[expose] public section

set_option maxRecDepth 16384

noncomputable section

namespace Cert.Call15

open Kernel15Ideal Kernel15Ideal.Gen
open Idealize.ShloMosaic Idealize.ShloMosaic.TcCoe Idealize.ShloMosaic.Tactic Idealize.SL.Sem
open Products

/-- A matrix, 512 rows and 128 columns at a time, columns by rows. -/
def tiles (u : S8192x512.Idx → EReal) : S4x16x128x512.Idx → EReal := fun i =>
  u (ix2 ⟨(i 1).val * 512 + (i 3).val, by have h := (i 1).isLt; have h' := (i 3).isLt; simp at h h'; omega⟩
    ⟨(i 0).val * 128 + (i 2).val, by have h := (i 0).isLt; have h' := (i 2).isLt; simp at h h'; omega⟩)

/-- A block's product at an entry. -/
theorem pay1_apply (x0 x1 : Vec Ideal S512x1024 .bf16) (i : S512x512.Idx) : k0_pay1 x0 x1 i = rowsMul x0 x1 i := by
  idx_vars i
  pointwise [k0_pay1]
  rfl
theorem pay2_apply (x0 x1 : Vec Ideal S512x1024 .bf16) (i : S512x512.Idx) : k0_pay2 x0 x1 i = rowsMul x0 x1 i :=
  pay1_apply x0 x1 i

/-- The windows' block indices at a point. -/
theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel
theorem e3 : ∀ t : Fin grid0.N, win0_3.index t = ![0, t.val, 0, 0] := by decide +kernel

variable (m : (ℓ : Loc nD τ sig) → Buf (Elt Ideal) ℓ) (c : Dev nD)

/-- A point's product is the whole product at the point's rows. -/
theorem blk_product (t : Fin cfg0.N) (y : S512x512.Idx) (i : S8192x512.Idx) (h0 : (i 0).val = t.val * 512 + (y 0).val) (h1 : (i 1).val = (y 1).val) :
    rowsMul (M := 512) (N := 512) (K := 1024) (iblk m c 0 t) (iblk m c 1 t) y = rowsMul (m ((c : Thread nD τ).loc main_arg1)) (m ((c : Thread nD τ).loc main_arg0)) i := by
  unfold rowsMul
  refine Fin.sum_fin_congr fun k => ?_
  congr 1 <;> blk_ext [iblk, V, e0, e1, h0, h1]

/-- The first result array, the product. -/
theorem kernel_out : (dats m 0 c).arrAt 2 cfg0.N = rowsMul (m ((c : Thread nD τ).loc main_arg1)) (m ((c : Thread nD τ).loc main_arg0)) := by
  refine (dats m 0 c).arrAt_eq_of_covers 2 _ (by decide +kernel) fun t _ y => ?_
  rw [after0_2]
  frame_out
  blk_simp
  change S512x512.Idx at y
  rw [pay2_apply]
  exact blk_product m c t y _ (by blk_simp [e2]) (by blk_simp [e2])

/-- The second result array, its tiles. -/
theorem kernel_tiles : (dats m 0 c).arrAt 3 cfg0.N = tiles (rowsMul (m ((c : Thread nD τ).loc main_arg1)) (m ((c : Thread nD τ).loc main_arg0))) := by
  refine (dats m 0 c).arrAt_eq_of_covers 3 _ (by decide +kernel) fun t _ y => ?_
  rw [after0_3, out0_3]
  blk_simp
  change S4x1x128x512.Idx at y
  rw [Value.canon3_eq]
  frame_out
  refine (pay1_apply _ _ (Value.ix3_0 y)).trans (blk_product m c t _ _ ?_ ?_)
  · blk_simp [e3]
  · blk_simp [e3]

/-- The reference's results. -/
theorem ref_out (ct : FVec Ideal S8192x1024 .bf16) (w : FVec Ideal S512x1024 .bf16) :
    truncf .bf16 (Host.dotGeneral Reference15Ideal.dot_S8192x1024_S512x1024_S8192x512_1_1_0_0_n_n none (extf .f32 ct Reference15Ideal.Gen.facts.bitsLt_bf16_f32) (extf .f32 w Reference15Ideal.Gen.facts.bitsLt_bf16_f32)) Reference15Ideal.Gen.facts.bitsLt_bf16_f32 = rowsMul ct w := by
  funext j
  idx_vars j
  pointwise
  rfl
theorem ref_tiles (u : FVec Ideal S8192x512 .bf16) :
    transpose S4x16x128x512 [2, 0, 3, 1] (shapeCast Reference15Ideal.S16x512x4x128 u Reference15Ideal.Gen.facts.shapeCasts_S8192x512_S16x512x4x128) Reference15Ideal.Gen.facts.transposes_S16x512x4x128_S4x16x128x512_2_0_3_1 = tiles u := by
  funext j
  idx_vars j
  pointwise
  rfl

/-- The two printings' tables are one. -/
theorem defs_same : Kernel15.defs (F := Bits) = Kernel15Ideal.defs := by
  refine congrArg (Pipeline.defs (Kernel15Ideal.pcfgs (F := Bits))) (congrArg Defs.onTc (fin_one_ext (funext fun (_, _) => ?_)))
  dsimp only
  rw [show Kernel15.cc0_o_proj_mla_bwd (F := Bits) = Kernel15Ideal.cc0_o_proj_mla_bwd from rfl]
  rfl

/-- The frame of the kernel as printed. -/
theorem frame_kernel : quiescent_Kernel15 := fun m ρ _ =>
  defs_same ▸ Kernel15Ideal.Gen.frame (F := Bits) m ρ

/-- The frame of the reference. -/
theorem frame_referenceIdeal : quiescent_Reference15Ideal := fun m ρ _ =>
  (θ_run _ _ _).mono (fun r h => ⟨fun c => (h c).2.2, sem_eq_zero_of_no_sems (by decide) r.2⟩) (Reference15Ideal.Value.run m ρ)

/-- On arguments of equal value the kernel and the reference hold the same results. -/
theorem algebraic : algebraic_Kernel15Ideal_Reference15Ideal := by
  intro m g m' g' _ hsame
  let u (c : Dev nD) := rowsMul (m ((c : Thread nD τ).loc main_arg1)) (m ((c : Thread nD τ).loc main_arg0))
  refine ⟨u, fun c => tiles (u c), ?_, ?_⟩
  · exact (θ_run _ _ _).mono (fun r h c => ⟨(h c).1.trans (kernel_out m c), (h c).2.1.trans (kernel_tiles m c), (h c).2.2⟩) (Value.run_blocks m g)
  · refine (θ_run _ _ _).mono (fun r h c => ?_) (Reference15Ideal.Value.run m' g')
    obtain ⟨h0, h1⟩ := hsame c
    have hu := (ref_out _ _).trans (congr (congrArg rowsMul h1) h0)
    exact ⟨(h c).1.trans hu, (h c).2.1.trans ((ref_tiles _).trans (congrArg tiles hu)), (h c).2.2⟩

end Cert.Call15
-- ==== Proof.Mlp.Call16.lean ====
/-
  Hand-written. The weight gradient of the latent attention's output projection: the sum over the row blocks is the sum over the rows.
-/
module

public import proofs.«01_k».proof.Defs
public import proofs.«01_k».proof.Proof.Mlp.Products
public import proofs.«01_k».proof.Proof.Gen.Kernel16
public import proofs.«01_k».proof.Proof.Gen.Kernel16Ideal.Value
public import proofs.«01_k».proof.Proof.Gen.Reference16Ideal.Run

@[expose] public section

set_option maxRecDepth 16384

noncomputable section

namespace Cert.Call16

open Kernel16Ideal Kernel16Ideal.Gen
open Idealize.ShloMosaic Idealize.ShloMosaic.TcCoe Idealize.ShloMosaic.Tactic Idealize.SL.Sem
open Products

/-- The first row block's store. -/
theorem pay2_apply (x0 : Vec Ideal S1024x512 .bf16) (x1 : Vec Ideal S1024x1024 .bf16) (i : S512x1024.Idx) :
    k0_pay2 x0 x1 i = colsMul x0 x1 i := by
  idx_vars i
  pointwise [k0_pay2, k0_pay1]
  rfl

/-- A later row block's store. -/
theorem pay3_apply (x0 : Vec Ideal S1024x512 .bf16) (x1 : Vec Ideal S1024x1024 .bf16) (v : Vec Ideal S512x1024 .f32) (i : S512x1024.Idx) :
    k0_pay3 x0 x1 v i = v i + colsMul x0 x1 i := by
  idx_vars i
  pointwise [k0_pay3, k0_pay1]
  rfl

variable (m : (ℓ : Loc nD τ sig) → Buf (Elt Ideal) ℓ) (c : Dev nD)

/-- The first row block starts the sum. -/
theorem acc_start (t : Fin cfg0.N) (h : t.val % 8 = 0) (i : S512x1024.Idx) :
    (outsAt0 m c t.val t.isLt).2 i = 0 + colsMul (M := 512) (N := 1024) (K := 1024) (iblk m c 0 t) (iblk m c 1 t) i := by
  have ht := lt_of_lt_of_eq t.isLt N_0
  rw [outsAt0_A m c t h (by omega) (by omega)]
  frame_out
  rw [pay2_apply, zero_add]

/-- Every later row block adds its share. -/
theorem acc_step (t : Fin cfg0.N) (h : ¬t.val % 8 = 0) (i : S512x1024.Idx) :
    (outsAt0 m c t.val t.isLt).2 i = (outsAt0 m c (t.val - 1) (Nat.lt_of_le_of_lt (Nat.sub_le _ _) t.isLt)).2 i + colsMul (M := 512) (N := 1024) (K := 1024) (iblk m c 0 t) (iblk m c 1 t) i := by
  have ht := lt_of_lt_of_eq t.isLt N_0
  by_cases h3 : t.val % 8 = 7
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last row block's point stores the sum. -/
theorem out_last (t : Fin cfg0.N) (h : t.val % 8 = 7) (i : S512x1024.Idx) : (outsAt0 m c t.val t.isLt).1 i = (outsAt0 m c t.val t.isLt).2 i := by
  have ht := lt_of_lt_of_eq t.isLt N_0
  rw [outsAt0_C m c t (by omega) (by omega) h]
  frame_out
  rfl

/-- The windows' block indices at a point. -/
theorem e0 : ∀ t : Fin grid0.N, win0_0.index t = ![t.val % 8, t.val / 8] := by decide +kernel
theorem e1 : ∀ t : Fin grid0.N, win0_1.index t = ![t.val % 8, 0] := by decide +kernel
theorem e2 : ∀ t : Fin grid0.N, win0_2.index t = ![t.val / 8, 0] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S512x1024.Idx at y
  rw [out_last m c t h3 y, Pipeline.eq_sum_fin_of_reset_step_apply_of_flush (fun n h => (outsAt0 m c n h).2) 8 (fun _ => 0) (fun t i => colsMul (M := 512) (N := 1024) (K := 1024) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The two printings' tables are one. -/
theorem defs_same : Kernel16.defs (F := Bits) = Kernel16Ideal.defs := by
  refine congrArg (Pipeline.defs (Kernel16Ideal.pcfgs (F := Bits))) (congrArg Defs.onTc (fin_one_ext (funext fun (_, _) => ?_)))
  dsimp only
  rw [show Kernel16.cc0_o_proj_mla_wgrad (F := Bits) = Kernel16Ideal.cc0_o_proj_mla_wgrad from rfl]
  rfl

/-- The frame of the kernel as printed. -/
theorem frame_kernel : quiescent_Kernel16 := fun m ρ _ =>
  defs_same ▸ Kernel16Ideal.Gen.frame (F := Bits) m ρ

/-- The frame of the reference. -/
theorem frame_referenceIdeal : quiescent_Reference16Ideal := fun m ρ _ =>
  (θ_run _ _ _).mono (fun r h => ⟨fun c => (h c).2, sem_eq_zero_of_no_sems (by decide) r.2⟩) (Reference16Ideal.Value.run m ρ)

/-- On arguments of equal value the kernel and the reference hold the same result. -/
theorem algebraic : algebraic_Kernel16Ideal_Reference16Ideal := by
  intro m g m' g' _ hsame
  refine ⟨fun c => colsMul (m ((c : Thread nD τ).loc main_arg0)) (m ((c : Thread nD τ).loc main_arg1)), ?_, ?_⟩
  · exact (θ_run _ _ _).mono (fun r h c => ⟨(h c).1.trans (kernel_dw m c), (h c).2⟩) (Value.run_blocks m g)
  · refine (θ_run _ _ _).mono (fun r h c => ⟨(h c).1.trans (funext fun j => ?_), (h c).2⟩) (Reference16Ideal.Value.run m' g')
    obtain ⟨h0, h1⟩ := hsame c
    dsimp only
    rw [← h0, ← h1]
    change Reference16Ideal.S512x1024.Idx at j
    idx_vars j
    pointwise
    exact Finset.sum_congr rfl fun k _ => mul_comm _ _

end Cert.Call16
-- ==== Proof.Mlp.Call17.lean ====
/-
  Hand-written. The latent attention's projection to the queries: the kernel's row blocks are the blocks of one product.
-/
module

public import proofs.«01_k».proof.Defs
public import proofs.«01_k».proof.Proof.Mlp.Products
public import proofs.«01_k».proof.Proof.Gen.Kernel17
public import proofs.«01_k».proof.Proof.Gen.Kernel17Ideal.Value
public import proofs.«01_k».proof.Proof.Gen.Reference17Ideal.Run

@[expose] public section

set_option maxRecDepth 16384

noncomputable section

namespace Cert.Call17

open Kernel17Ideal Kernel17Ideal.Gen
open Idealize.ShloMosaic Idealize.ShloMosaic.TcCoe Idealize.ShloMosaic.Tactic Idealize.SL.Sem
open Products

/-- A block's result at an entry. -/
theorem pay_apply (x0 : Vec Ideal S512x256 .bf16) (x1 : Vec Ideal S256x1024 .bf16) (i : S512x1024.Idx) :
    k0_pay1 x0 x1 i = matMul x0 x1 i := by
  idx_vars i
  pointwise [k0_pay1]
  rfl

/-- The windows' block indices at a point. -/
theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- What the kernel leaves in its result array. -/
theorem kernel_out (m : (ℓ : Loc nD τ sig) → Buf (Elt Ideal) ℓ) (c : Dev nD) : (dats m 0 c).arrAt 2 cfg0.N = matMul (m ((c : Thread nD τ).loc main_arg0)) (m ((c : Thread nD τ).loc main_arg1)) := by
  refine (dats m 0 c).arrAt_eq_of_covers 2 _ (by decide +kernel) fun t _ y => ?_
  rw [after0_2]
  frame_out
  blk_simp
  change S512x1024.Idx at y
  rw [pay_apply]
  unfold matMul
  refine Fin.sum_fin_congr fun k => ?_
  congr 1 <;> blk_ext [iblk, V, e0, e1, e2]

/-- The two printings' tables are one. -/
theorem defs_same : Kernel17.defs (F := Bits) = Kernel17Ideal.defs := by
  refine congrArg (Pipeline.defs (Kernel17Ideal.pcfgs (F := Bits))) (congrArg Defs.onTc (fin_one_ext (funext fun (_, _) => ?_)))
  dsimp only
  rw [show Kernel17.cc0_q_up (F := Bits) = Kernel17Ideal.cc0_q_up from rfl]
  rfl

/-- The frame of the kernel as printed. -/
theorem frame_kernel : quiescent_Kernel17 := fun m ρ _ =>
  defs_same ▸ Kernel17Ideal.Gen.frame (F := Bits) m ρ

/-- The frame of the reference. -/
theorem frame_referenceIdeal : quiescent_Reference17Ideal := fun m ρ _ =>
  (θ_run _ _ _).mono (fun r h => ⟨fun c => (h c).2, sem_eq_zero_of_no_sems (by decide) r.2⟩) (Reference17Ideal.Value.run m ρ)

/-- On arguments of equal value the kernel and the reference hold the same result. -/
theorem algebraic : algebraic_Kernel17Ideal_Reference17Ideal := by
  intro m g m' g' _ hsame
  refine ⟨fun c => matMul (m ((c : Thread nD τ).loc main_arg0)) (m ((c : Thread nD τ).loc main_arg1)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference17Ideal.Value.run m' g')
    obtain ⟨h0, h1⟩ := hsame c
    dsimp only
    rw [← h0, ← h1]
    change Reference17Ideal.S8192x1024.Idx at j
    idx_vars j
    pointwise
    rfl

end Cert.Call17
-- ==== Proof.Mlp.Call18.lean ====
/-
  Hand-written. The backward of the latent attention's projection to the queries in its first factor: the kernel's row blocks are the
  blocks of one product.
-/
module

public import proofs.«01_k».proof.Defs
public import proofs.«01_k».proof.Proof.Mlp.Products
public import proofs.«01_k».proof.Proof.Gen.Kernel18
public import proofs.«01_k».proof.Proof.Gen.Kernel18Ideal.Value
public import proofs.«01_k».proof.Proof.Gen.Reference18Ideal.Run

@[expose] public section

set_option maxRecDepth 16384

noncomputable section

namespace Cert.Call18

open Kernel18Ideal Kernel18Ideal.Gen
open Idealize.ShloMosaic Idealize.ShloMosaic.TcCoe Idealize.ShloMosaic.Tactic Idealize.SL.Sem
open Products

/-- A block's result at an entry. -/
theorem pay_apply (x0 : Vec Ideal S512x1024 .bf16) (x1 : Vec Ideal S256x1024 .bf16) (i : S512x256.Idx) :
    k0_pay1 x0 x1 i = rowsMul x0 x1 i := by
  idx_vars i
  pointwise [k0_pay1]
  rfl

/-- The windows' block indices at a point. -/
theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- What the kernel leaves in its result array. -/
theorem kernel_out (m : (ℓ : Loc nD τ sig) → Buf (Elt Ideal) ℓ) (c : Dev nD) : (dats m 0 c).arrAt 2 cfg0.N = rowsMul (m ((c : Thread nD τ).loc main_arg1)) (m ((c : Thread nD τ).loc main_arg0)) := by
  refine (dats m 0 c).arrAt_eq_of_covers 2 _ (by decide +kernel) fun t _ y => ?_
  rw [after0_2]
  frame_out
  blk_simp
  change S512x256.Idx at y
  rw [pay_apply]
  unfold rowsMul
  refine Fin.sum_fin_congr fun k => ?_
  congr 1 <;> blk_ext [iblk, V, e0, e1, e2]

/-- The two printings' tables are one. -/
theorem defs_same : Kernel18.defs (F := Bits) = Kernel18Ideal.defs := by
  refine congrArg (Pipeline.defs (Kernel18Ideal.pcfgs (F := Bits))) (congrArg Defs.onTc (fin_one_ext (funext fun (_, _) => ?_)))
  dsimp only
  rw [show Kernel18.cc0_q_up_bwd (F := Bits) = Kernel18Ideal.cc0_q_up_bwd from rfl]
  rfl

/-- The frame of the kernel as printed. -/
theorem frame_kernel : quiescent_Kernel18 := fun m ρ _ =>
  defs_same ▸ Kernel18Ideal.Gen.frame (F := Bits) m ρ

/-- The frame of the reference. -/
theorem frame_referenceIdeal : quiescent_Reference18Ideal := fun m ρ _ =>
  (θ_run _ _ _).mono (fun r h => ⟨fun c => (h c).2, sem_eq_zero_of_no_sems (by decide) r.2⟩) (Reference18Ideal.Value.run m ρ)

/-- On arguments of equal value the kernel and the reference hold the same result. -/
theorem algebraic : algebraic_Kernel18Ideal_Reference18Ideal := by
  intro m g m' g' _ hsame
  refine ⟨fun c => rowsMul (m ((c : Thread nD τ).loc main_arg1)) (m ((c : Thread nD τ).loc main_arg0)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference18Ideal.Value.run m' g')
    obtain ⟨h0, h1⟩ := hsame c
    dsimp only
    rw [← h0, ← h1]
    change Reference18Ideal.S8192x256.Idx at j
    idx_vars j
    pointwise
    rfl

end Cert.Call18
-- ==== Proof.Mlp.Call19.lean ====
/-
  Hand-written. The weight gradient of the latent attention's projection to the queries: the sum over the row blocks is the sum over
  the rows.
-/
module

public import proofs.«01_k».proof.Defs
public import proofs.«01_k».proof.Proof.Mlp.Products
public import proofs.«01_k».proof.Proof.Gen.Kernel19
public import proofs.«01_k».proof.Proof.Gen.Kernel19Ideal.Value
public import proofs.«01_k».proof.Proof.Gen.Reference19Ideal.Run

@[expose] public section

set_option maxRecDepth 16384

noncomputable section

namespace Cert.Call19

open Kernel19Ideal Kernel19Ideal.Gen
open Idealize.ShloMosaic Idealize.ShloMosaic.TcCoe Idealize.ShloMosaic.Tactic Idealize.SL.Sem
open Products

/-- The first row block's store. -/
theorem pay2_apply (x0 : Vec Ideal S1024x256 .bf16) (x1 : Vec Ideal S1024x1024 .bf16) (i : S256x1024.Idx) :
    k0_pay2 x0 x1 i = colsMul x0 x1 i := by
  idx_vars i
  pointwise [k0_pay2, k0_pay1]
  rfl

/-- A later row block's store. -/
theorem pay3_apply (x0 : Vec Ideal S1024x256 .bf16) (x1 : Vec Ideal S1024x1024 .bf16) (v : Vec Ideal S256x1024 .f32) (i : S256x1024.Idx) :
    k0_pay3 x0 x1 v i = v i + colsMul x0 x1 i := by
  idx_vars i
  pointwise [k0_pay3, k0_pay1]
  rfl

variable (m : (ℓ : Loc nD τ sig) → Buf (Elt Ideal) ℓ) (c : Dev nD)

/-- The first row block starts the sum. -/
theorem acc_start (t : Fin cfg0.N) (h : t.val % 8 = 0) (i : S256x1024.Idx) :
    (outsAt0 m c t.val t.isLt).2 i = 0 + colsMul (M := 256) (N := 1024) (K := 1024) (iblk m c 0 t) (iblk m c 1 t) i := by
  have ht := lt_of_lt_of_eq t.isLt N_0
  rw [outsAt0_A m c t h (by omega) (by omega)]
  frame_out
  rw [pay2_apply, zero_add]

/-- Every later row block adds its share. -/
theorem acc_step (t : Fin cfg0.N) (h : ¬t.val % 8 = 0) (i : S256x1024.Idx) :
    (outsAt0 m c t.val t.isLt).2 i = (outsAt0 m c (t.val - 1) (Nat.lt_of_le_of_lt (Nat.sub_le _ _) t.isLt)).2 i + colsMul (M := 256) (N := 1024) (K := 1024) (iblk m c 0 t) (iblk m c 1 t) i := by
  have ht := lt_of_lt_of_eq t.isLt N_0
  by_cases h3 : t.val % 8 = 7
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last row block's point stores the sum. -/
theorem out_last (t : Fin cfg0.N) (h : t.val % 8 = 7) (i : S256x1024.Idx) : (outsAt0 m c t.val t.isLt).1 i = (outsAt0 m c t.val t.isLt).2 i := by
  have ht := lt_of_lt_of_eq t.isLt N_0
  rw [outsAt0_C m c t (by omega) (by omega) h]
  frame_out
  rfl

/-- The windows' block indices at a point. -/
theorem e0 : ∀ t : Fin grid0.N, win0_0.index t = ![t.val % 8, t.val / 8] := by decide +kernel
theorem e1 : ∀ t : Fin grid0.N, win0_1.index t = ![t.val % 8, 0] := by decide +kernel
theorem e2 : ∀ t : Fin grid0.N, win0_2.index t = ![t.val / 8, 0] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S256x1024.Idx at y
  rw [out_last m c t h3 y, Pipeline.eq_sum_fin_of_reset_step_apply_of_flush (fun n h => (outsAt0 m c n h).2) 8 (fun _ => 0) (fun t i => colsMul (M := 256) (N := 1024) (K := 1024) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The two printings' tables are one. -/
theorem defs_same : Kernel19.defs (F := Bits) = Kernel19Ideal.defs := by
  refine congrArg (Pipeline.defs (Kernel19Ideal.pcfgs (F := Bits))) (congrArg Defs.onTc (fin_one_ext (funext fun (_, _) => ?_)))
  dsimp only
  rw [show Kernel19.cc0_q_up_wgrad (F := Bits) = Kernel19Ideal.cc0_q_up_wgrad from rfl]
  rfl

/-- The frame of the kernel as printed. -/
theorem frame_kernel : quiescent_Kernel19 := fun m ρ _ =>
  defs_same ▸ Kernel19Ideal.Gen.frame (F := Bits) m ρ

/-- The frame of the reference. -/
theorem frame_referenceIdeal : quiescent_Reference19Ideal := fun m ρ _ =>
  (θ_run _ _ _).mono (fun r h => ⟨fun c => (h c).2, sem_eq_zero_of_no_sems (by decide) r.2⟩) (Reference19Ideal.Value.run m ρ)

/-- On arguments of equal value the kernel and the reference hold the same result. -/
theorem algebraic : algebraic_Kernel19Ideal_Reference19Ideal := by
  intro m g m' g' _ hsame
  refine ⟨fun c => colsMul (m ((c : Thread nD τ).loc main_arg0)) (m ((c : Thread nD τ).loc main_arg1)), ?_, ?_⟩
  · exact (θ_run _ _ _).mono (fun r h c => ⟨(h c).1.trans (kernel_dw m c), (h c).2⟩) (Value.run_blocks m g)
  · refine (θ_run _ _ _).mono (fun r h c => ⟨(h c).1.trans (funext fun j => ?_), (h c).2⟩) (Reference19Ideal.Value.run m' g')
    obtain ⟨h0, h1⟩ := hsame c
    dsimp only
    rw [← h0, ← h1]
    change Reference19Ideal.S256x1024.Idx at j
    idx_vars j
    pointwise
    exact Finset.sum_congr rfl fun k _ => mul_comm _ _

end Cert.Call19
-- ==== Proof.Mlp.Call20.lean ====
/-
  Hand-written. The latent attention's projection to the keys and values: the kernel's blocks are the blocks of one product.
-/
module

public import proofs.«01_k».proof.Defs
public import proofs.«01_k».proof.Proof.Mlp.Products
public import proofs.«01_k».proof.Proof.Gen.Kernel20
public import proofs.«01_k».proof.Proof.Gen.Kernel20Ideal.Value
public import proofs.«01_k».proof.Proof.Gen.Reference20Ideal.Run

@[expose] public section

set_option maxRecDepth 16384

noncomputable section

namespace Cert.Call20

open Kernel20Ideal Kernel20Ideal.Gen
open Idealize.ShloMosaic Idealize.ShloMosaic.TcCoe Idealize.ShloMosaic.Tactic Idealize.SL.Sem
open Products

/-- A block's result at an entry. -/
theorem pay_apply (x0 : Vec Ideal S512x128 .bf16) (x1 : Vec Ideal S128x512 .bf16) (i : S512x512.Idx) :
    k0_pay1 x0 x1 i = matMul x0 x1 i := by
  idx_vars i
  pointwise [k0_pay1]
  rfl

/-- The windows' block indices at a point. -/
theorem e0 : ∀ t : Fin grid0.N, win0_0.index t = ![t.val / 3, 0] := by decide +kernel
theorem e1 : ∀ t : Fin grid0.N, win0_1.index t = ![0, t.val % 3] := by decide +kernel
theorem e2 : ∀ t : Fin grid0.N, win0_2.index t = ![t.val / 3, t.val % 3] := by decide +kernel

/-- What the kernel leaves in its result array. -/
theorem kernel_out (m : (ℓ : Loc nD τ sig) → Buf (Elt Ideal) ℓ) (c : Dev nD) : (dats m 0 c).arrAt 2 cfg0.N = matMul (m ((c : Thread nD τ).loc main_arg0)) (m ((c : Thread nD τ).loc main_arg1)) := by
  refine (dats m 0 c).arrAt_eq_of_covers 2 _ (by decide +kernel) fun t _ y => ?_
  rw [after0_2]
  frame_out
  blk_simp
  change S512x512.Idx at y
  rw [pay_apply]
  unfold matMul
  refine Fin.sum_fin_congr fun k => ?_
  congr 1 <;> blk_ext [iblk, V, e0, e1, e2]

/-- The two printings' tables are one. -/
theorem defs_same : Kernel20.defs (F := Bits) = Kernel20Ideal.defs := by
  refine congrArg (Pipeline.defs (Kernel20Ideal.pcfgs (F := Bits))) (congrArg Defs.onTc (fin_one_ext (funext fun (_, _) => ?_)))
  dsimp only
  rw [show Kernel20.cc0_kv_up (F := Bits) = Kernel20Ideal.cc0_kv_up from rfl]
  rfl

/-- The frame of the kernel as printed. -/
theorem frame_kernel : quiescent_Kernel20 := fun m ρ _ =>
  defs_same ▸ Kernel20Ideal.Gen.frame (F := Bits) m ρ

/-- The frame of the reference. -/
theorem frame_referenceIdeal : quiescent_Reference20Ideal := fun m ρ _ =>
  (θ_run _ _ _).mono (fun r h => ⟨fun c => (h c).2, sem_eq_zero_of_no_sems (by decide) r.2⟩) (Reference20Ideal.Value.run m ρ)

/-- On arguments of equal value the kernel and the reference hold the same result. -/
theorem algebraic : algebraic_Kernel20Ideal_Reference20Ideal := by
  intro m g m' g' _ hsame
  refine ⟨fun c => matMul (m ((c : Thread nD τ).loc main_arg0)) (m ((c : Thread nD τ).loc main_arg1)), ?_, ?_⟩
  · exact (θ_run _ _ _).mono (fun r h c => ⟨(h c).1.trans (kernel_out m c), (h c).2⟩) (Value.run_blocks m g)
  · refine (θ_run _ _ _).mono (fun r h c => ⟨(h c).1.trans (funext fun j => ?_), (h c).2⟩) (Reference20Ideal.Value.run m' g')
    obtain ⟨h0, h1⟩ := hsame c
    dsimp only
    rw [← h0, ← h1]
    change Reference20Ideal.S8192x1536.Idx at j
    idx_vars j
    pointwise
    rfl

end Cert.Call20
-- ==== Proof.Mlp.Call21.lean ====
/-
  Hand-written. The backward of the latent attention's projection to the keys and values in its first factor: the sum over the column
  blocks is the sum over the columns.
-/
module

public import proofs.«01_k».proof.Defs
public import proofs.«01_k».proof.Proof.Mlp.Products
public import proofs.«01_k».proof.Proof.Gen.Kernel21
public import proofs.«01_k».proof.Proof.Gen.Kernel21Ideal.Value
public import proofs.«01_k».proof.Proof.Gen.Reference21Ideal.Run

@[expose] public section

set_option maxRecDepth 16384

noncomputable section

namespace Cert.Call21

open Kernel21Ideal Kernel21Ideal.Gen
open Idealize.ShloMosaic Idealize.ShloMosaic.TcCoe Idealize.ShloMosaic.Tactic Idealize.SL.Sem
open Products

/-- The first column block's store. -/
theorem pay2_apply (x0 : Vec Ideal S512x512 .bf16) (x1 : Vec Ideal S128x512 .bf16) (i : S512x128.Idx) :
    k0_pay2 x0 x1 i = rowsMul x0 x1 i := by
  idx_vars i
  pointwise [k0_pay2, k0_pay1]
  rfl

/-- A later column block's store. -/
theorem pay3_apply (x0 : Vec Ideal S512x512 .bf16) (x1 : Vec Ideal S128x512 .bf16) (v : Vec Ideal S512x128 .f32) (i : S512x128.Idx) :
    k0_pay3 x0 x1 v i = v i + rowsMul x0 x1 i := by
  idx_vars i
  pointwise [k0_pay3, k0_pay1]
  rfl

variable (m : (ℓ : Loc nD τ sig) → Buf (Elt Ideal) ℓ) (c : Dev nD)

/-- The first column block starts the sum. -/
theorem acc_start (t : Fin cfg0.N) (h : t.val % 3 = 0) (i : S512x128.Idx) :
    (outsAt0 m c t.val t.isLt).2 i = 0 + rowsMul (M := 512) (N := 128) (K := 512) (iblk m c 0 t) (iblk m c 1 t) i := by
  rw [outsAt0_A m c t h (by omega) (by omega)]
  frame_out
  rw [pay2_apply, zero_add]

/-- Every later column block adds its share. -/
theorem acc_step (t : Fin cfg0.N) (h : ¬t.val % 3 = 0) (i : S512x128.Idx) :
    (outsAt0 m c t.val t.isLt).2 i = (outsAt0 m c (t.val - 1) (Nat.lt_of_le_of_lt (Nat.sub_le _ _) t.isLt)).2 i + rowsMul (M := 512) (N := 128) (K := 512) (iblk m c 0 t) (iblk m c 1 t) i := by
  by_cases h3 : t.val % 3 = 2
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last column block's point stores the sum. -/
theorem out_last (t : Fin cfg0.N) (h : t.val % 3 = 2) (i : S512x128.Idx) : (outsAt0 m c t.val t.isLt).1 i = (outsAt0 m c t.val t.isLt).2 i := by
  rw [outsAt0_C m c t (by omega) (by omega) h]
  frame_out

/-- The windows' block indices at a point. -/
theorem e0 : ∀ t : Fin grid0.N, win0_0.index t = ![t.val / 3, t.val % 3] := by decide +kernel
theorem e1 : ∀ t : Fin grid0.N, win0_1.index t = ![0, t.val % 3] := by decide +kernel
theorem e2 : ∀ t : Fin grid0.N, win0_2.index t = ![t.val / 3, 0] := by decide +kernel

/-- What the kernel leaves in its result array. -/
theorem kernel_dx : (dats m 0 c).arrAt 2 cfg0.N = rowsMul (m ((c : Thread nD τ).loc main_arg1)) (m ((c : Thread nD τ).loc main_arg0)) := by
  refine (dats m 0 c).arrAt_eq_of_covers 2 _ (by decide +kernel) fun t hf y => ?_
  have h3 := (flush0_2 t).mp hf
  rw [after0_2]
  blk_simp
  change S512x128.Idx at y
  rw [out_last m c t h3 y, Pipeline.eq_sum_fin_of_reset_step_apply_of_flush (fun n h => (outsAt0 m c n h).2) 3 (fun _ => 0) (fun t i => rowsMul (M := 512) (N := 128) (K := 512) (iblk m c 0 t) (iblk m c 1 t) i) (acc_start m c) (acc_step m c) t h3 y]
  unfold rowsMul
  rw [zero_add]
  refine Fin.sum_mul_add_congr fun s k hl => ?_
  have hs := s.isLt
  congr 1 <;> blk_ext [iblk, V, e0, e1, e2]

/-- The two printings' tables are one. -/
theorem defs_same : Kernel21.defs (F := Bits) = Kernel21Ideal.defs := by
  refine congrArg (Pipeline.defs (Kernel21Ideal.pcfgs (F := Bits))) (congrArg Defs.onTc (fin_one_ext (funext fun (_, _) => ?_)))
  dsimp only
  rw [show Kernel21.cc0_kv_up_bwd (F := Bits) = Kernel21Ideal.cc0_kv_up_bwd from rfl]
  rfl

/-- The frame of the kernel as printed. -/
theorem frame_kernel : quiescent_Kernel21 := fun m ρ _ =>
  defs_same ▸ Kernel21Ideal.Gen.frame (F := Bits) m ρ

/-- The frame of the reference. -/
theorem frame_referenceIdeal : quiescent_Reference21Ideal := fun m ρ _ =>
  (θ_run _ _ _).mono (fun r h => ⟨fun c => (h c).2, sem_eq_zero_of_no_sems (by decide) r.2⟩) (Reference21Ideal.Value.run m ρ)

/-- On arguments of equal value the kernel and the reference hold the same result. -/
theorem algebraic : algebraic_Kernel21Ideal_Reference21Ideal := by
  intro m g m' g' _ hsame
  refine ⟨fun c => rowsMul (m ((c : Thread nD τ).loc main_arg1)) (m ((c : Thread nD τ).loc main_arg0)), ?_, ?_⟩
  · exact (θ_run _ _ _).mono (fun r h c => ⟨(h c).1.trans (kernel_dx m c), (h c).2⟩) (Value.run_blocks m g)
  · refine (θ_run _ _ _).mono (fun r h c => ⟨(h c).1.trans (funext fun j => ?_), (h c).2⟩) (Reference21Ideal.Value.run m' g')
    obtain ⟨h0, h1⟩ := hsame c
    dsimp only
    rw [← h0, ← h1]
    change Reference21Ideal.S8192x128.Idx at j
    idx_vars j
    pointwise
    rfl

end Cert.Call21
-- ==== Proof.Mlp.Call22.lean ====
/-
  Hand-written. The weight gradient of the latent attention's projection to the keys and values: the sum over the row blocks is the
  sum over the rows.
-/
module

public import proofs.«01_k».proof.Defs
public import proofs.«01_k».proof.Proof.Mlp.Products
public import proofs.«01_k».proof.Proof.Gen.Kernel22
public import proofs.«01_k».proof.Proof.Gen.Kernel22Ideal.Value
public import proofs.«01_k».proof.Proof.Gen.Reference22Ideal.Run

@[expose] public section

set_option maxRecDepth 16384

noncomputable section

namespace Cert.Call22

open Kernel22Ideal Kernel22Ideal.Gen
open Idealize.ShloMosaic Idealize.ShloMosaic.TcCoe Idealize.ShloMosaic.Tactic Idealize.SL.Sem
open Products

/-- The first row block's store. -/
theorem pay2_apply (x0 : Vec Ideal S1024x128 .bf16) (x1 : Vec Ideal S1024x512 .bf16) (i : S128x512.Idx) :
    k0_pay2 x0 x1 i = colsMul x0 x1 i := by
  idx_vars i
  pointwise [k0_pay2, k0_pay1]
  rfl

/-- A later row block's store. -/
theorem pay3_apply (x0 : Vec Ideal S1024x128 .bf16) (x1 : Vec Ideal S1024x512 .bf16) (v : Vec Ideal S128x512 .f32) (i : S128x512.Idx) :
    k0_pay3 x0 x1 v i = v i + colsMul x0 x1 i := by
  idx_vars i
  pointwise [k0_pay3, k0_pay1]
  rfl

variable (m : (ℓ : Loc nD τ sig) → Buf (Elt Ideal) ℓ) (c : Dev nD)

/-- The first row block starts the sum. -/
theorem acc_start (t : Fin cfg0.N) (h : t.val % 8 = 0) (i : S128x512.Idx) :
    (outsAt0 m c t.val t.isLt).2 i = 0 + colsMul (M := 128) (N := 512) (K := 1024) (iblk m c 0 t) (iblk m c 1 t) i := by
  rw [outsAt0_A m c t h (by omega) (by omega)]
  frame_out
  rw [pay2_apply, zero_add]

/-- Every later row block adds its share. -/
theorem acc_step (t : Fin cfg0.N) (h : ¬t.val % 8 = 0) (i : S128x512.Idx) :
    (outsAt0 m c t.val t.isLt).2 i = (outsAt0 m c (t.val - 1) (Nat.lt_of_le_of_lt (Nat.sub_le _ _) t.isLt)).2 i + colsMul (M := 128) (N := 512) (K := 1024) (iblk m c 0 t) (iblk m c 1 t) i := by
  by_cases h3 : t.val % 8 = 7
  on_goal 1 => rw [outsAt0_C m c t h (by omega) h3]
  on_goal 2 => rw [outsAt0_B m c t h (by omega) h3]
  all_goals
    frame_out
    rw [pay3_apply]
    exact congrArg (· + _) (congrFun (Memref.IsWhole.read_unread _ _) i)

/-- The last row block's point stores the sum. -/
theorem out_last (t : Fin cfg0.N) (h : t.val % 8 = 7) (i : S128x512.Idx) : (outsAt0 m c t.val t.isLt).1 i = (outsAt0 m c t.val t.isLt).2 i := by
  rw [outsAt0_C m c t (by omega) (by omega) h]
  frame_out
  rfl

/-- The windows' block indices at a point. -/
theorem e0 : ∀ t : Fin grid0.N, win0_0.index t = ![t.val % 8, 0] := by decide +kernel
theorem e1 : ∀ t : Fin grid0.N, win0_1.index t = ![t.val % 8, t.val / 8] := by decide +kernel
theorem e2 : ∀ t : Fin grid0.N, win0_2.index t = ![0, t.val / 8] := by decide +kernel

/-- What the kernel leaves in its result array. -/
theorem kernel_dw : (dats m 0 c).arrAt 2 cfg0.N = colsMul (m ((c : Thread nD τ).loc main_arg0)) (m ((c : Thread nD τ).loc main_arg1)) := by
  refine (dats m 0 c).arrAt_eq_of_covers 2 _ (by decide +kernel) fun t hf y => ?_
  have h3 := (flush0_2 t).mp hf
  rw [after0_2]
  blk_simp
  change S128x512.Idx at y
  rw [out_last m c t h3 y, Pipeline.eq_sum_fin_of_reset_step_apply_of_flush (fun n h => (outsAt0 m c n h).2) 8 (fun _ => 0) (fun t i => colsMul (M := 128) (N := 512) (K := 1024) (iblk m c 0 t) (iblk m c 1 t) i) (acc_start m c) (acc_step m c) t h3 y]
  unfold colsMul
  rw [zero_add]
  refine Fin.sum_mul_add_congr fun s k hl => ?_
  have hs := s.isLt
  congr 1 <;> blk_ext [iblk, V, e0, e1, e2]

/-- The two printings' tables are one. -/
theorem defs_same : Kernel22.defs (F := Bits) = Kernel22Ideal.defs := by
  refine congrArg (Pipeline.defs (Kernel22Ideal.pcfgs (F := Bits))) (congrArg Defs.onTc (fin_one_ext (funext fun (_, _) => ?_)))
  dsimp only
  rw [show Kernel22.cc0_kv_up_wgrad (F := Bits) = Kernel22Ideal.cc0_kv_up_wgrad from rfl]
  rfl

/-- The frame of the kernel as printed. -/
theorem frame_kernel : quiescent_Kernel22 := fun m ρ _ =>
  defs_same ▸ Kernel22Ideal.Gen.frame (F := Bits) m ρ

/-- The frame of the reference. -/
theorem frame_referenceIdeal : quiescent_Reference22Ideal := fun m ρ _ =>
  (θ_run _ _ _).mono (fun r h => ⟨fun c => (h c).2, sem_eq_zero_of_no_sems (by decide) r.2⟩) (Reference22Ideal.Value.run m ρ)

/-- On arguments of equal value the kernel and the reference hold the same result. -/
theorem algebraic : algebraic_Kernel22Ideal_Reference22Ideal := by
  intro m g m' g' _ hsame
  refine ⟨fun c => colsMul (m ((c : Thread nD τ).loc main_arg0)) (m ((c : Thread nD τ).loc main_arg1)), ?_, ?_⟩
  · exact (θ_run _ _ _).mono (fun r h c => ⟨(h c).1.trans (kernel_dw m c), (h c).2⟩) (Value.run_blocks m g)
  · refine (θ_run _ _ _).mono (fun r h c => ⟨(h c).1.trans (funext fun j => ?_), (h c).2⟩) (Reference22Ideal.Value.run m' g')
    obtain ⟨h0, h1⟩ := hsame c
    dsimp only
    rw [← h0, ← h1]
    change Reference22Ideal.S128x1536.Idx at j
    idx_vars j
    pointwise
    exact Finset.sum_congr rfl fun k _ => mul_comm _ _

end Cert.Call22
-- ==== Proof.Mlp.Gates.lean ====
/-
  Hand-written. The gated merge of the two attentions and its derivatives, entry by entry.
-/
module

public import proofs.«01_k».proof.Proof.Mlp.Products

@[expose] public section

noncomputable section

namespace Cert.Gates

open Idealize.ShloMosaic Idealize.ShloMosaic.Tactic

/-- The logistic function. -/
def sig (t : EReal) : EReal := Ideal.div 1 (1 + Ideal.exp (-t))

/-- The arrays' shape, and that of the input projection's result. -/
abbrev R : Shape := ⟨2, ![8192, 1024]⟩
abbrev Z : Shape := ⟨2, ![8192, 4096]⟩

/-- The gates' logits: the first 1024 columns and the next. -/
def left (z : Z.Idx → EReal) : R.Idx → EReal := fun i =>
  z (ix2 (i 0) ⟨(i 1).val, Nat.lt_of_lt_of_le (i 1).isLt (by decide)⟩)
def right (z : Z.Idx → EReal) : R.Idx → EReal := fun i =>
  z (ix2 (i 0) ⟨1024 + (i 1).val, Nat.lt_of_lt_of_le (Nat.add_lt_add_left (i 1).isLt 1024) (by decide)⟩)

/-- The gated merge. -/
def merge {S : Shape} (ga gb ya yb : S.Idx → EReal) : S.Idx → EReal := fun i => sig (ga i) * ya i + sig (gb i) * yb i

/-- Its gradient in a gated value and in a gate's logit. -/
def dValue {S : Shape} (g ct : S.Idx → EReal) : S.Idx → EReal := fun i => ct i * sig (g i)
def dLogit {S : Shape} (g y ct : S.Idx → EReal) : S.Idx → EReal := fun i => ct i * y i * sig (g i) * (1 - sig (g i))

end Cert.Gates

end
-- ==== Proof.Mlp.Call23.lean ====
/-
  Hand-written. The gradients of the gated merge: the kernel's row blocks are the blocks of four arrays.
-/
module

public import proofs.«01_k».proof.Defs
public import proofs.«01_k».proof.Proof.Mlp.Gates
public import proofs.«01_k».proof.Proof.Gen.Kernel23
public import proofs.«01_k».proof.Proof.Gen.Kernel23Ideal.Value
public import proofs.«01_k».proof.Proof.Gen.Reference23Ideal.Run

@[expose] public section

set_option maxRecDepth 16384

noncomputable section

namespace Cert.Call23

open Kernel23Ideal Kernel23Ideal.Gen
open Idealize.ShloMosaic Idealize.ShloMosaic.TcCoe Idealize.ShloMosaic.Tactic Idealize.SL.Sem
open Products Gates

/-- A block's gate at an entry. -/
theorem pay3_apply (x : Vec Ideal S512x1024 .bf16) (i : S512x1024.Idx) : k0_pay3 x i = sig (x i) := by
  idx_vars i
  pointwise [k0_pay3]
  rw [zero_sub]
  rfl

/-- A block's results at an entry. -/
theorem pay7_apply (x0 : Vec Ideal S512x1024 .f32) (x1 : Vec Ideal S512x1024 .bf16) (i : S512x1024.Idx) :
    k0_pay7 x0 x1 i = dValue x1 x0 i := congrArg (x0 i * ·) (pay3_apply x1 i)
theorem pay8_apply (x0 : Vec Ideal S512x1024 .f32) (x1 : Vec Ideal S512x1024 .bf16) (i : S512x1024.Idx) :
    k0_pay8 x0 x1 i = dValue x1 x0 i := pay7_apply x0 x1 i
theorem pay1_apply (x0 : Vec Ideal S512x1024 .f32) (x1 : Vec Ideal S512x1024 .bf16) (x2 : Vec Ideal S512x1024 .f32) (i : S512x1024.Idx) :
    k0_pay1 (k0_pay5 x0 x1 x2) i = dLogit x1 x2 x0 i := by
  unfold dLogit
  rw [← pay3_apply]
  idx_vars i
  pointwise [k0_pay1, k0_pay5]
theorem pay2_apply (x0 : Vec Ideal S512x1024 .f32) (x1 : Vec Ideal S512x1024 .bf16) (x2 : Vec Ideal S512x1024 .f32) (i : S512x1024.Idx) :
    k0_pay2 (k0_pay6 x0 x1 x2) i = dLogit x1 x2 x0 i := pay1_apply x0 x1 x2 i

/-- The windows' block indices at a point. -/
theorem e0 : ∀ t : Fin grid0.N, win0_0.index t = ![t.val, 0] := by decide +kernel
theorem e1 : ∀ t : Fin grid0.N, win0_1.index t = ![t.val, 0] := by decide +kernel
theorem e2 : ∀ t : Fin grid0.N, win0_2.index t = ![t.val, 1] := by decide +kernel
theorem e3 : ∀ t : Fin grid0.N, win0_3.index t = ![t.val, 0] := by decide +kernel
theorem e4 : ∀ t : Fin grid0.N, win0_4.index t = ![t.val, 0] := by decide +kernel
theorem e5 : ∀ t : Fin grid0.N, win0_5.index t = ![t.val, 0] := by decide +kernel
theorem e6 : ∀ t : Fin grid0.N, win0_6.index t = ![t.val, 0] := by decide +kernel
theorem e7 : ∀ t : Fin grid0.N, win0_7.index t = ![t.val, 0] := by decide +kernel
theorem e8 : ∀ t : Fin grid0.N, win0_8.index t = ![t.val, 0] := by decide +kernel

variable (m : (ℓ : Loc nD τ sig) → Buf (Elt Ideal) ℓ) (c : Dev nD)

section

variable (t : Fin cfg0.N) (y : S512x1024.Idx) (i : S8192x1024.Idx) (h0 : (i 0).val = t.val * 512 + (y 0).val) (h1 : (i 1).val = (y 1).val)

include h0 h1

/-- An argument's block at an entry. -/
theorem blk0 : iblk m c 0 t y = (m ((c : Thread nD τ).loc main_arg3)) i := by blk_ext [iblk, V, e0, h0, h1]
theorem blk1 : iblk m c 1 t y = left (m ((c : Thread nD τ).loc main_arg0)) i := by blk_ext [iblk, V, e1, h0, h1]
theorem blk2 : iblk m c 2 t y = right (m ((c : Thread nD τ).loc main_arg0)) i := by blk_ext [iblk, V, e2, h0, h1]
theorem blk3 : iblk m c 3 t y = (m ((c : Thread nD τ).loc main_arg1)) i := by blk_ext [iblk, V, e3, h0, h1]
theorem blk4 : iblk m c 4 t y = (m ((c : Thread nD τ).loc main_arg2)) i := by blk_ext [iblk, V, e4, h0, h1]

/-- A block's result is the whole result at the block's rows. -/
theorem pt5 : dValue (S := S512x1024) (iblk m c 1 t) (iblk m c 0 t) y = dValue (left (m ((c : Thread nD τ).loc main_arg0))) (m ((c : Thread nD τ).loc main_arg3)) i := by
  unfold dValue
  rw [blk1 m c t y i h0 h1, blk0 m c t y i h0 h1]
theorem pt6 : dValue (S := S512x1024) (iblk m c 2 t) (iblk m c 0 t) y = dValue (right (m ((c : Thread nD τ).loc main_arg0))) (m ((c : Thread nD τ).loc main_arg3)) i := by
  unfold dValue
  rw [blk2 m c t y i h0 h1, blk0 m c t y i h0 h1]
theorem pt7 : dLogit (S := S512x1024) (iblk m c 1 t) (iblk m c 3 t) (iblk m c 0 t) y = dLogit (left (m ((c : Thread nD τ).loc main_arg0))) (m ((c : Thread nD τ).loc main_arg1)) (m ((c : Thread nD τ).loc main_arg3)) i := by
  unfold dLogit
  rw [blk1 m c t y i h0 h1, blk3 m c t y i h0 h1, blk0 m c t y i h0 h1]
theorem pt8 : dLogit (S := S512x1024) (iblk m c 2 t) (iblk m c 4 t) (iblk m c 0 t) y = dLogit (right (m ((c : Thread nD τ).loc main_arg0))) (m ((c : Thread nD τ).loc main_arg2)) (m ((c : Thread nD τ).loc main_arg3)) i := by
  unfold dLogit
  rw [blk2 m c t y i h0 h1, blk4 m c t y i h0 h1, blk0 m c t y i h0 h1]

end

/-- What the kernel leaves in its result arrays. -/
theorem kernel_out5 : (dats m 0 c).arrAt 5 cfg0.N = dValue (left (m ((c : Thread nD τ).loc main_arg0))) (m ((c : Thread nD τ).loc main_arg3)) := by
  refine (dats m 0 c).arrAt_eq_of_covers 5 _ (by decide +kernel) fun t _ y => ?_
  rw [after0_5]
  frame_out
  blk_simp
  change S512x1024.Idx at y
  rw [pay7_apply]
  exact pt5 m c t y _ (by blk_simp [e5]) (by blk_simp [e5])
theorem kernel_out6 : (dats m 0 c).arrAt 6 cfg0.N = dValue (right (m ((c : Thread nD τ).loc main_arg0))) (m ((c : Thread nD τ).loc main_arg3)) := by
  refine (dats m 0 c).arrAt_eq_of_covers 6 _ (by decide +kernel) fun t _ y => ?_
  rw [after0_6]
  frame_out
  blk_simp
  change S512x1024.Idx at y
  rw [pay8_apply]
  exact pt6 m c t y _ (by blk_simp [e6]) (by blk_simp [e6])
theorem kernel_out7 : (dats m 0 c).arrAt 7 cfg0.N = dLogit (left (m ((c : Thread nD τ).loc main_arg0))) (m ((c : Thread nD τ).loc main_arg1)) (m ((c : Thread nD τ).loc main_arg3)) := by
  refine (dats m 0 c).arrAt_eq_of_covers 7 _ (by decide +kernel) fun t _ y => ?_
  rw [after0_7]
  frame_out
  blk_simp
  change S512x1024.Idx at y
  rw [pay1_apply]
  exact pt7 m c t y _ (by blk_simp [e7]) (by blk_simp [e7])
theorem kernel_out8 : (dats m 0 c).arrAt 8 cfg0.N = dLogit (right (m ((c : Thread nD τ).loc main_arg0))) (m ((c : Thread nD τ).loc main_arg2)) (m ((c : Thread nD τ).loc main_arg3)) := by
  refine (dats m 0 c).arrAt_eq_of_covers 8 _ (by decide +kernel) fun t _ y => ?_
  rw [after0_8]
  frame_out
  blk_simp
  change S512x1024.Idx at y
  rw [pay2_apply]
  exact pt8 m c t y _ (by blk_simp [e8]) (by blk_simp [e8])

/-- The two printings' tables are one. -/
theorem defs_same : Kernel23.defs (F := Bits) = Kernel23Ideal.defs := by
  refine congrArg (Pipeline.defs (Kernel23Ideal.pcfgs (F := Bits))) (congrArg Defs.onTc (fin_one_ext (funext fun (_, _) => ?_)))
  dsimp only
  rw [show Kernel23.cc0_gate_bwd (F := Bits) = Kernel23Ideal.cc0_gate_bwd from rfl]
  rfl

/-- The frame of the kernel as printed. -/
theorem frame_kernel : quiescent_Kernel23 := fun m ρ _ =>
  defs_same ▸ Kernel23Ideal.Gen.frame (F := Bits) m ρ

/-- The frame of the reference. -/
theorem frame_referenceIdeal : quiescent_Reference23Ideal := fun m ρ _ =>
  (θ_run _ _ _).mono (fun r h => ⟨fun c => (h c).2.2.2.2, sem_eq_zero_of_no_sems (by decide) r.2⟩) (Reference23Ideal.Value.run m ρ)

/-- On arguments of equal value the kernel and the reference hold the same results. -/
theorem algebraic : algebraic_Kernel23Ideal_Reference23Ideal := by
  intro m g m' g' _ hsame
  refine ⟨fun c => dValue (left (m ((c : Thread nD τ).loc main_arg0))) (m ((c : Thread nD τ).loc main_arg3)), fun c => dValue (right (m ((c : Thread nD τ).loc main_arg0))) (m ((c : Thread nD τ).loc main_arg3)), fun c => dLogit (left (m ((c : Thread nD τ).loc main_arg0))) (m ((c : Thread nD τ).loc main_arg1)) (m ((c : Thread nD τ).loc main_arg3)), fun c => dLogit (right (m ((c : Thread nD τ).loc main_arg0))) (m ((c : Thread nD τ).loc main_arg2)) (m ((c : Thread nD τ).loc main_arg3)), ?_, ?_⟩
  · exact (θ_run _ _ _).mono (fun r h c => ⟨(h c).1.trans (kernel_out5 m c), (h c).2.1.trans (kernel_out6 m c), (h c).2.2.1.trans (kernel_out7 m c), (h c).2.2.2.1.trans (kernel_out8 m c), (h c).2.2.2.2⟩) (Value.run_blocks m g)
  · refine (θ_run _ _ _).mono (fun r h c => ?_) (Reference23Ideal.Value.run m' g')
    obtain ⟨h0, h1, h2, h3⟩ := hsame c
    dsimp only
    rw [← h0, ← h1, ← h2, ← h3]
    refine ⟨(h c).1.trans ?_, (h c).2.1.trans ?_, (h c).2.2.1.trans ?_, (h c).2.2.2.1.trans ?_, (h c).2.2.2.2⟩
    all_goals
      funext j
      change S8192x1024.Idx at j
      idx_vars j
      pointwise
    · exact mul_comm _ _
    · exact mul_comm _ _
    · exact (mul_assoc _ _ _).symm
    · exact (mul_assoc _ _ _).symm

end Cert.Call23
-- ==== Proof.Mlp.Call24.lean ====
/-
  Hand-written. The gated merge of the two attentions: the kernel's row blocks are the blocks of one array.
-/
module

public import proofs.«01_k».proof.Defs
public import proofs.«01_k».proof.Proof.Mlp.Gates
public import proofs.«01_k».proof.Proof.Gen.Kernel24
public import proofs.«01_k».proof.Proof.Gen.Kernel24Ideal.Value
public import proofs.«01_k».proof.Proof.Gen.Reference24Ideal.Run

@[expose] public section

set_option maxRecDepth 16384

noncomputable section

namespace Cert.Call24

open Kernel24Ideal Kernel24Ideal.Gen
open Idealize.ShloMosaic Idealize.ShloMosaic.TcCoe Idealize.ShloMosaic.Tactic Idealize.SL.Sem
open Products Gates

/-- A block's result at an entry. -/
theorem pay1_apply (x0 x1 : Vec Ideal S512x1024 .bf16) (x2 x3 : Vec Ideal S512x1024 .f32) (i : S512x1024.Idx) :
    k0_pay1 x0 x1 x2 x3 i = merge x0 x1 x2 x3 i := by
  idx_vars i
  pointwise [k0_pay1]
  rw [zero_sub, zero_sub]
  rfl

/-- The windows' block indices at a point. -/
theorem e0 : ∀ t : Fin grid0.N, win0_0.index t = ![t.val, 0] := by decide +kernel
theorem e1 : ∀ t : Fin grid0.N, win0_1.index t = ![t.val, 1] := by decide +kernel
theorem e2 : ∀ t : Fin grid0.N, win0_2.index t = ![t.val, 0] := by decide +kernel
theorem e3 : ∀ t : Fin grid0.N, win0_3.index t = ![t.val, 0] := by decide +kernel
theorem e4 : ∀ t : Fin grid0.N, win0_4.index t = ![t.val, 0] := by decide +kernel

variable (m : (ℓ : Loc nD τ sig) → Buf (Elt Ideal) ℓ) (c : Dev nD)

section

variable (t : Fin cfg0.N) (y : S512x1024.Idx) (i : S8192x1024.Idx) (h0 : (i 0).val = t.val * 512 + (y 0).val) (h1 : (i 1).val = (y 1).val)

include h0 h1

/-- An argument's block at an entry. -/
theorem blk0 : iblk m c 0 t y = left (m ((c : Thread nD τ).loc main_arg0)) i := by blk_ext [iblk, V, e0, h0, h1]
theorem blk1 : iblk m c 1 t y = right (m ((c : Thread nD τ).loc main_arg0)) i := by blk_ext [iblk, V, e1, h0, h1]
theorem blk2 : iblk m c 2 t y = (m ((c : Thread nD τ).loc main_arg1)) i := by blk_ext [iblk, V, e2, h0, h1]
theorem blk3 : iblk m c 3 t y = (m ((c : Thread nD τ).loc main_arg2)) i := by blk_ext [iblk, V, e3, h0, h1]

/-- A block's result is the whole result at the block's rows. -/
theorem pt4 : merge (S := S512x1024) (iblk m c 0 t) (iblk m c 1 t) (iblk m c 2 t) (iblk m c 3 t) y = merge (left (m ((c : Thread nD τ).loc main_arg0))) (right (m ((c : Thread nD τ).loc main_arg0))) (m ((c : Thread nD τ).loc main_arg1)) (m ((c : Thread nD τ).loc main_arg2)) i := by
  unfold merge
  rw [blk0 m c t y i h0 h1, blk1 m c t y i h0 h1, blk2 m c t y i h0 h1, blk3 m c t y i h0 h1]

end

/-- What the kernel leaves in its result array. -/
theorem kernel_out4 : (dats m 0 c).arrAt 4 cfg0.N = merge (left (m ((c : Thread nD τ).loc main_arg0))) (right (m ((c : Thread nD τ).loc main_arg0))) (m ((c : Thread nD τ).loc main_arg1)) (m ((c : Thread nD τ).loc main_arg2)) := by
  refine (dats m 0 c).arrAt_eq_of_covers 4 _ (by decide +kernel) fun t _ y => ?_
  rw [after0_4]
  frame_out
  blk_simp
  change S512x1024.Idx at y
  rw [pay1_apply]
  exact pt4 m c t y _ (by blk_simp [e4]) (by blk_simp [e4])

/-- The two printings' tables are one. -/
theorem defs_same : Kernel24.defs (F := Bits) = Kernel24Ideal.defs := by
  refine congrArg (Pipeline.defs (Kernel24Ideal.pcfgs (F := Bits))) (congrArg Defs.onTc (fin_one_ext (funext fun (_, _) => ?_)))
  dsimp only
  rw [show Kernel24.cc0_gate_merge (F := Bits) = Kernel24Ideal.cc0_gate_merge from rfl]
  rfl

/-- The frame of the kernel as printed. -/
theorem frame_kernel : quiescent_Kernel24 := fun m ρ _ =>
  defs_same ▸ Kernel24Ideal.Gen.frame (F := Bits) m ρ

/-- The frame of the reference. -/
theorem frame_referenceIdeal : quiescent_Reference24Ideal := fun m ρ _ =>
  (θ_run _ _ _).mono (fun r h => ⟨fun c => (h c).2, sem_eq_zero_of_no_sems (by decide) r.2⟩) (Reference24Ideal.Value.run m ρ)

/-- On arguments of equal value the kernel and the reference hold the same result. -/
theorem algebraic : algebraic_Kernel24Ideal_Reference24Ideal := by
  intro m g m' g' _ hsame
  refine ⟨fun c => merge (left (m ((c : Thread nD τ).loc main_arg0))) (right (m ((c : Thread nD τ).loc main_arg0))) (m ((c : Thread nD τ).loc main_arg1)) (m ((c : Thread nD τ).loc main_arg2)), ?_, ?_⟩
  · exact (θ_run _ _ _).mono (fun r h c => ⟨(h c).1.trans (kernel_out4 m c), (h c).2⟩) (Value.run_blocks m g)
  · refine (θ_run _ _ _).mono (fun r h c => ?_) (Reference24Ideal.Value.run m' g')
    obtain ⟨h0, h1, h2⟩ := hsame c
    dsimp only
    rw [← h0, ← h1, ← h2]
    refine ⟨(h c).1.trans (funext fun j => ?_), (h c).2⟩
    change S8192x1024.Idx at j
    idx_vars j
    pointwise
    rfl

end Cert.Call24
-- ==== Proof.Mlp.Adam.lean ====
/-
  Hand-written. A step of AdamW on the sum of eight devices' gradients, entry by entry.
-/
module

public import proofs.«01_k».proof.Proof.Mlp.Products

@[expose] public section

noncomputable section

namespace Cert.Adam

open Idealize.ShloMosaic Idealize.ShloMosaic.Tactic

/-- The sum of the eight pieces. -/
def total {N : ℕ} (p : (⟨3, ![8, N, 128]⟩ : Shape).Idx → EReal) : (⟨2, ![N, 128]⟩ : Shape).Idx → EReal :=
  fun i => ∑ d : Fin 8, p (ix3 d (i 0) (i 1))

/-- The decaying means of the gradient and of its square. -/
def mean {S : Shape} (g m : S.Idx → EReal) : S.Idx → EReal := fun i =>
  Ideal.ofBits .f32 0x3F666666#32 * m i + Ideal.ofBits .f32 0x3DCCCCCD#32 * g i
def square {S : Shape} (g v : S.Idx → EReal) : S.Idx → EReal := fun i =>
  Ideal.ofBits .f32 0x3F7FBE77#32 * v i + Ideal.ofBits .f32 0x3A83126F#32 * (g i * g i)

/-- The step: the corrected mean over the root of the corrected square, and the weights' decay. -/
def delta {S : Shape} (g w m v : S.Idx → EReal) : S.Idx → EReal := fun i =>
  Ideal.ofBits .f32 0xBA83126F#32 *
    (Ideal.div (Ideal.div (mean g m i) (Ideal.ofBits .f32 0x3F26BD02#32))
      (Ideal.sqrt (Ideal.div (square g v i) (Ideal.ofBits .f32 0x3C231ACC#32)) + Ideal.ofBits .f32 0x322BCC77#32)
      + Ideal.ofBits .f32 0x3C23D70A#32 * w i)

end Cert.Adam
-- ==== Proof.Mlp.Call25.lean ====
/-
  Hand-written. The sum of the eight pieces of the gradients of the first four matrices, and their step.
-/
module

public import proofs.«01_k».proof.Defs
public import proofs.«01_k».proof.Proof.Mlp.Adam
public import proofs.«01_k».proof.Proof.Gen.Kernel25
public import proofs.«01_k».proof.Proof.Gen.Kernel25Ideal.Value
public import proofs.«01_k».proof.Proof.Gen.Reference25Ideal.Run

@[expose] public section

set_option maxRecDepth 16384

noncomputable section

namespace Cert.Call25

open Kernel25Ideal Kernel25Ideal.Gen
open Idealize.ShloMosaic Idealize.ShloMosaic.TcCoe Idealize.ShloMosaic.Tactic Idealize.SL.Sem
open Products Adam

/-- A block's results. -/
theorem pay5_eq (x : Vec Ideal S8x1152x128 .bf16) (w m v : Vec Ideal S1152x128 .f32) : k0_pay5 x w m v = total x := by
  funext i
  change S1152x128.Idx at i
  unfold total
  rw [Fin.sum_univ_eight]
  idx_vars i
  pointwise [k0_pay5, k0_pay4]
theorem pay3_eq (g w m v : Vec Ideal S1152x128 .f32) : k0_pay3 g w m v = delta g w m v := by
  funext i
  change S1152x128.Idx at i
  idx_vars i
  pointwise [k0_pay3, k0_pay1, k0_pay2]
  rfl
theorem pay1_eq (g m : Vec Ideal S1152x128 .f32) : k0_pay1 g m = mean g m := by
  funext i
  change S1152x128.Idx at i
  idx_vars i
  pointwise [k0_pay1]
  rfl
theorem pay2_eq (g v : Vec Ideal S1152x128 .f32) : k0_pay2 g v = square g v := by
  funext i
  change S1152x128.Idx at i
  idx_vars i
  pointwise [k0_pay2]
  rfl

/-- The windows' block indices at a point. -/
theorem e0 : ∀ t : Fin grid0.N, win0_0.index t = ![0, t.val, 0] := by decide +kernel
theorem e1 : ∀ t : Fin grid0.N, win0_1.index t = ![t.val, 0] := by decide +kernel
theorem e2 : ∀ t : Fin grid0.N, win0_2.index t = ![t.val, 0] := by decide +kernel
theorem e3 : ∀ t : Fin grid0.N, win0_3.index t = ![t.val, 0] := by decide +kernel
theorem e4 : ∀ t : Fin grid0.N, win0_4.index t = ![t.val, 0] := by decide +kernel
theorem e5 : ∀ t : Fin grid0.N, win0_5.index t = ![t.val, 0] := by decide +kernel
theorem e6 : ∀ t : Fin grid0.N, win0_6.index t = ![t.val, 0] := by decide +kernel
theorem e7 : ∀ t : Fin grid0.N, win0_7.index t = ![t.val, 0] := by decide +kernel

variable (m : (ℓ : Loc nD τ sig) → Buf (Elt Ideal) ℓ) (c : Dev nD)

/-- The arguments: the pieces, the weights and the two means. -/
abbrev pieces : (⟨3, ![8, 4608, 128]⟩ : Shape).Idx → EReal := m ((c : Thread nD τ).loc main_arg0)
abbrev wgt : (⟨2, ![4608, 128]⟩ : Shape).Idx → EReal := m ((c : Thread nD τ).loc main_arg1)
abbrev fst : (⟨2, ![4608, 128]⟩ : Shape).Idx → EReal := m ((c : Thread nD τ).loc main_arg2)
abbrev snd : (⟨2, ![4608, 128]⟩ : Shape).Idx → EReal := m ((c : Thread nD τ).loc main_arg3)

section

variable (t : Fin cfg0.N) (y : S1152x128.Idx) (i : S4608x128.Idx) (h0 : (i 0).val = t.val * 1152 + (y 0).val) (h1 : (i 1).val = (y 1).val)

include h0 h1

/-- An argument's block at an entry. -/
theorem blk0 : total (N := 1152) (iblk m c 0 t) y = total (pieces m c) i :=
  Finset.sum_congr rfl fun d _ => by blk_ext [iblk, V, e0, h0, h1]
theorem blk1 : iblk m c 1 t y = wgt m c i := by blk_ext [iblk, V, e1, h0, h1]
theorem blk2 : iblk m c 2 t y = fst m c i := by blk_ext [iblk, V, e2, h0, h1]
theorem blk3 : iblk m c 3 t y = snd m c i := by blk_ext [iblk, V, e3, h0, h1]

/-- A block's result is the whole result at the block's rows. -/
theorem pt6 : mean (S := S1152x128) (total (N := 1152) (iblk m c 0 t)) (iblk m c 2 t) y = mean (total (pieces m c)) (fst m c) i := by
  unfold mean
  rw [blk0 m c t y i h0 h1, blk2 m c t y i h0 h1]
theorem pt7 : square (S := S1152x128) (total (N := 1152) (iblk m c 0 t)) (iblk m c 3 t) y = square (total (pieces m c)) (snd m c) i := by
  unfold square
  rw [blk0 m c t y i h0 h1, blk3 m c t y i h0 h1]
theorem pt5 : delta (S := S1152x128) (total (N := 1152) (iblk m c 0 t)) (iblk m c 1 t) (iblk m c 2 t) (iblk m c 3 t) y = delta (total (pieces m c)) (wgt m c) (fst m c) (snd m c) i := by
  unfold delta
  rw [pt6 m c t y i h0 h1, pt7 m c t y i h0 h1, blk1 m c t y i h0 h1]

end

/-- What the kernel leaves in its result arrays. -/
theorem kernel_out4 : (dats m 0 c).arrAt 4 cfg0.N = total (pieces m c) := by
  refine (dats m 0 c).arrAt_eq_of_covers 4 _ (by decide +kernel) fun t _ y => ?_
  rw [after0_4]
  frame_out
  blk_simp
  change S1152x128.Idx at y
  rw [pay5_eq]
  exact blk0 m c t y _ (by blk_simp [e4]) (by blk_simp [e4])
theorem kernel_out5 : (dats m 0 c).arrAt 5 cfg0.N = delta (total (pieces m c)) (wgt m c) (fst m c) (snd m c) := by
  refine (dats m 0 c).arrAt_eq_of_covers 5 _ (by decide +kernel) fun t _ y => ?_
  rw [after0_5]
  frame_out
  blk_simp
  change S1152x128.Idx at y
  rw [pay5_eq, pay3_eq]
  exact pt5 m c t y _ (by blk_simp [e5]) (by blk_simp [e5])
theorem kernel_out6 : (dats m 0 c).arrAt 6 cfg0.N = mean (total (pieces m c)) (fst m c) := by
  refine (dats m 0 c).arrAt_eq_of_covers 6 _ (by decide +kernel) fun t _ y => ?_
  rw [after0_6]
  frame_out
  blk_simp
  change S1152x128.Idx at y
  rw [pay5_eq, pay1_eq]
  exact pt6 m c t y _ (by blk_simp [e6]) (by blk_simp [e6])
theorem kernel_out7 : (dats m 0 c).arrAt 7 cfg0.N = square (total (pieces m c)) (snd m c) := by
  refine (dats m 0 c).arrAt_eq_of_covers 7 _ (by decide +kernel) fun t _ y => ?_
  rw [after0_7]
  frame_out
  blk_simp
  change S1152x128.Idx at y
  rw [pay5_eq, pay2_eq]
  exact pt7 m c t y _ (by blk_simp [e7]) (by blk_simp [e7])

/-- The two printings' tables are one. -/
theorem defs_same : Kernel25.defs (F := Bits) = Kernel25Ideal.defs := by
  refine congrArg (Pipeline.defs (Kernel25Ideal.pcfgs (F := Bits))) (congrArg Defs.onTc (fin_one_ext (funext fun (_, _) => ?_)))
  dsimp only
  rw [show Kernel25.cc0_sum_pieces_adamw_a (F := Bits) = Kernel25Ideal.cc0_sum_pieces_adamw_a from rfl]
  rfl

/-- The frame of the kernel as printed. -/
theorem frame_kernel : quiescent_Kernel25 := fun m ρ _ =>
  defs_same ▸ Kernel25Ideal.Gen.frame (F := Bits) m ρ

/-- The frame of the reference. -/
theorem frame_referenceIdeal : quiescent_Reference25Ideal := fun m ρ _ =>
  (θ_run _ _ _).mono (fun r h => ⟨fun c => (h c).2.2.2.2, sem_eq_zero_of_no_sems (by decide) r.2⟩) (Reference25Ideal.Value.run m ρ)

/-- On arguments of equal value the kernel and the reference hold the same results. -/
theorem algebraic : algebraic_Kernel25Ideal_Reference25Ideal := by
  intro m g m' g' _ hsame
  refine ⟨fun c => total (pieces m c), fun c => delta (total (pieces m c)) (wgt m c) (fst m c) (snd m c), fun c => mean (total (pieces m c)) (fst m c), fun c => square (total (pieces m c)) (snd m c), ?_, ?_⟩
  · exact (θ_run _ _ _).mono (fun r h c => ⟨(h c).1.trans (kernel_out4 m c), (h c).2.1.trans (kernel_out5 m c), (h c).2.2.1.trans (kernel_out6 m c), (h c).2.2.2.1.trans (kernel_out7 m c), (h c).2.2.2.2⟩) (Value.run_blocks m g)
  · refine (θ_run _ _ _).mono (fun r h c => ?_) (Reference25Ideal.Value.run m' g')
    obtain ⟨h0, h1, h2, h3⟩ := hsame c
    dsimp only [pieces, wgt, fst, snd]
    rw [← h0, ← h1, ← h2, ← h3]
    refine ⟨(h c).1.trans ?_, (h c).2.1.trans ?_, (h c).2.2.1.trans ?_, (h c).2.2.2.1.trans ?_, (h c).2.2.2.2⟩
    all_goals
      funext j
      change S4608x128.Idx at j
      idx_vars j
      pointwise
      rfl

end Cert.Call25
-- ==== Proof.Mlp.Call26.lean ====
/-
  Hand-written. The sum of the eight pieces of the gradients of the other five matrices, and their step.
-/
module

public import proofs.«01_k».proof.Defs
public import proofs.«01_k».proof.Proof.Mlp.Adam
public import proofs.«01_k».proof.Proof.Gen.Kernel26
public import proofs.«01_k».proof.Proof.Gen.Kernel26Ideal.Value
public import proofs.«01_k».proof.Proof.Gen.Reference26Ideal.Run

@[expose] public section

set_option maxRecDepth 16384

noncomputable section

namespace Cert.Call26

open Kernel26Ideal Kernel26Ideal.Gen
open Idealize.ShloMosaic Idealize.ShloMosaic.TcCoe Idealize.ShloMosaic.Tactic Idealize.SL.Sem
open Products Adam

/-- A block's results. -/
theorem pay5_eq (x : Vec Ideal S8x2560x128 .bf16) (w m v : Vec Ideal S2560x128 .f32) : k0_pay5 x w m v = total x := by
  funext i
  change S2560x128.Idx at i
  unfold total
  rw [Fin.sum_univ_eight]
  idx_vars i
  pointwise [k0_pay5, k0_pay4]
theorem pay3_eq (g w m v : Vec Ideal S2560x128 .f32) : k0_pay3 g w m v = delta g w m v := by
  funext i
  change S2560x128.Idx at i
  idx_vars i
  pointwise [k0_pay3, k0_pay1, k0_pay2]
  rfl
theorem pay1_eq (g m : Vec Ideal S2560x128 .f32) : k0_pay1 g m = mean g m := by
  funext i
  change S2560x128.Idx at i
  idx_vars i
  pointwise [k0_pay1]
  rfl
theorem pay2_eq (g v : Vec Ideal S2560x128 .f32) : k0_pay2 g v = square g v := by
  funext i
  change S2560x128.Idx at i
  idx_vars i
  pointwise [k0_pay2]
  rfl

/-- The windows' block indices at a point. -/
theorem e0 : ∀ t : Fin grid0.N, win0_0.index t = ![0, t.val, 0] := by decide +kernel
theorem e1 : ∀ t : Fin grid0.N, win0_1.index t = ![t.val, 0] := by decide +kernel
theorem e2 : ∀ t : Fin grid0.N, win0_2.index t = ![t.val, 0] := by decide +kernel
theorem e3 : ∀ t : Fin grid0.N, win0_3.index t = ![t.val, 0] := by decide +kernel
theorem e4 : ∀ t : Fin grid0.N, win0_4.index t = ![t.val, 0] := by decide +kernel
theorem e5 : ∀ t : Fin grid0.N, win0_5.index t = ![t.val, 0] := by decide +kernel
theorem e6 : ∀ t : Fin grid0.N, win0_6.index t = ![t.val, 0] := by decide +kernel
theorem e7 : ∀ t : Fin grid0.N, win0_7.index t = ![t.val, 0] := by decide +kernel

variable (m : (ℓ : Loc nD τ sig) → Buf (Elt Ideal) ℓ) (c : Dev nD)

/-- The arguments: the pieces, the weights and the two means. -/
abbrev pieces : (⟨3, ![8, 10240, 128]⟩ : Shape).Idx → EReal := m ((c : Thread nD τ).loc main_arg0)
abbrev wgt : (⟨2, ![10240, 128]⟩ : Shape).Idx → EReal := m ((c : Thread nD τ).loc main_arg1)
abbrev fst : (⟨2, ![10240, 128]⟩ : Shape).Idx → EReal := m ((c : Thread nD τ).loc main_arg2)
abbrev snd : (⟨2, ![10240, 128]⟩ : Shape).Idx → EReal := m ((c : Thread nD τ).loc main_arg3)

section

variable (t : Fin cfg0.N) (y : S2560x128.Idx) (i : S10240x128.Idx) (h0 : (i 0).val = t.val * 2560 + (y 0).val) (h1 : (i 1).val = (y 1).val)

include h0 h1

/-- An argument's block at an entry. -/
theorem blk0 : total (N := 2560) (iblk m c 0 t) y = total (pieces m c) i :=
  Finset.sum_congr rfl fun d _ => by blk_ext [iblk, V, e0, h0, h1]
theorem blk1 : iblk m c 1 t y = wgt m c i := by blk_ext [iblk, V, e1, h0, h1]
theorem blk2 : iblk m c 2 t y = fst m c i := by blk_ext [iblk, V, e2, h0, h1]
theorem blk3 : iblk m c 3 t y = snd m c i := by blk_ext [iblk, V, e3, h0, h1]

/-- A block's result is the whole result at the block's rows. -/
theorem pt6 : mean (S := S2560x128) (total (N := 2560) (iblk m c 0 t)) (iblk m c 2 t) y = mean (total (pieces m c)) (fst m c) i := by
  unfold mean
  rw [blk0 m c t y i h0 h1, blk2 m c t y i h0 h1]
theorem pt7 : square (S := S2560x128) (total (N := 2560) (iblk m c 0 t)) (iblk m c 3 t) y = square (total (pieces m c)) (snd m c) i := by
  unfold square
  rw [blk0 m c t y i h0 h1, blk3 m c t y i h0 h1]
theorem pt5 : delta (S := S2560x128) (total (N := 2560) (iblk m c 0 t)) (iblk m c 1 t) (iblk m c 2 t) (iblk m c 3 t) y = delta (total (pieces m c)) (wgt m c) (fst m c) (snd m c) i := by
  unfold delta
  rw [pt6 m c t y i h0 h1, pt7 m c t y i h0 h1, blk1 m c t y i h0 h1]

end

/-- What the kernel leaves in its result arrays. -/
theorem kernel_out4 : (dats m 0 c).arrAt 4 cfg0.N = total (pieces m c) := by
  refine (dats m 0 c).arrAt_eq_of_covers 4 _ (by decide +kernel) fun t _ y => ?_
  rw [after0_4]
  frame_out
  blk_simp
  change S2560x128.Idx at y
  rw [pay5_eq]
  exact blk0 m c t y _ (by blk_simp [e4]) (by blk_simp [e4])
theorem kernel_out5 : (dats m 0 c).arrAt 5 cfg0.N = delta (total (pieces m c)) (wgt m c) (fst m c) (snd m c) := by
  refine (dats m 0 c).arrAt_eq_of_covers 5 _ (by decide +kernel) fun t _ y => ?_
  rw [after0_5]
  frame_out
  blk_simp
  change S2560x128.Idx at y
  rw [pay5_eq, pay3_eq]
  exact pt5 m c t y _ (by blk_simp [e5]) (by blk_simp [e5])
theorem kernel_out6 : (dats m 0 c).arrAt 6 cfg0.N = mean (total (pieces m c)) (fst m c) := by
  refine (dats m 0 c).arrAt_eq_of_covers 6 _ (by decide +kernel) fun t _ y => ?_
  rw [after0_6]
  frame_out
  blk_simp
  change S2560x128.Idx at y
  rw [pay5_eq, pay1_eq]
  exact pt6 m c t y _ (by blk_simp [e6]) (by blk_simp [e6])
theorem kernel_out7 : (dats m 0 c).arrAt 7 cfg0.N = square (total (pieces m c)) (snd m c) := by
  refine (dats m 0 c).arrAt_eq_of_covers 7 _ (by decide +kernel) fun t _ y => ?_
  rw [after0_7]
  frame_out
  blk_simp
  change S2560x128.Idx at y
  rw [pay5_eq, pay2_eq]
  exact pt7 m c t y _ (by blk_simp [e7]) (by blk_simp [e7])

/-- The two printings' tables are one. -/
theorem defs_same : Kernel26.defs (F := Bits) = Kernel26Ideal.defs := by
  refine congrArg (Pipeline.defs (Kernel26Ideal.pcfgs (F := Bits))) (congrArg Defs.onTc (fin_one_ext (funext fun (_, _) => ?_)))
  dsimp only
  rw [show Kernel26.cc0_sum_pieces_adamw_b (F := Bits) = Kernel26Ideal.cc0_sum_pieces_adamw_b from rfl]
  rfl

/-- The frame of the kernel as printed. -/
theorem frame_kernel : quiescent_Kernel26 := fun m ρ _ =>
  defs_same ▸ Kernel26Ideal.Gen.frame (F := Bits) m ρ

/-- The frame of the reference. -/
theorem frame_referenceIdeal : quiescent_Reference26Ideal := fun m ρ _ =>
  (θ_run _ _ _).mono (fun r h => ⟨fun c => (h c).2.2.2.2, sem_eq_zero_of_no_sems (by decide) r.2⟩) (Reference26Ideal.Value.run m ρ)

/-- On arguments of equal value the kernel and the reference hold the same results. -/
theorem algebraic : algebraic_Kernel26Ideal_Reference26Ideal := by
  intro m g m' g' _ hsame
  refine ⟨fun c => total (pieces m c), fun c => delta (total (pieces m c)) (wgt m c) (fst m c) (snd m c), fun c => mean (total (pieces m c)) (fst m c), fun c => square (total (pieces m c)) (snd m c), ?_, ?_⟩
  · exact (θ_run _ _ _).mono (fun r h c => ⟨(h c).1.trans (kernel_out4 m c), (h c).2.1.trans (kernel_out5 m c), (h c).2.2.1.trans (kernel_out6 m c), (h c).2.2.2.1.trans (kernel_out7 m c), (h c).2.2.2.2⟩) (Value.run_blocks m g)
  · refine (θ_run _ _ _).mono (fun r h c => ?_) (Reference26Ideal.Value.run m' g')
    obtain ⟨h0, h1, h2, h3⟩ := hsame c
    dsimp only [pieces, wgt, fst, snd]
    rw [← h0, ← h1, ← h2, ← h3]
    refine ⟨(h c).1.trans ?_, (h c).2.1.trans ?_, (h c).2.2.1.trans ?_, (h c).2.2.2.1.trans ?_, (h c).2.2.2.2⟩
    all_goals
      funext j
      change S10240x128.Idx at j
      idx_vars j
      pointwise
      rfl

end Cert.Call26
-- ==== Proof.Mlp.Norm.lean ====
/-
  Hand-written. The derivative of a root-mean-square norm, over the extended reals: two orders of its factors agree, at
  the infinities too.
-/
module

public import proofs.«01_k».proof.Proof.Mlp.Products

@[expose] public section

noncomputable section

namespace Cert.Norm

open Idealize.ShloMosaic Idealize.ShloMosaic.Tactic

/-- The constants: the row's length, the norm's small number and minus a half. -/
theorem ofBits_len : Ideal.ofBits .f32 0x44800000#32 = ((1024 : ℝ) : EReal) := by
  simp [Ideal.ofBits, Ideal.ieee, -EReal.coe_mul]
  norm_num
theorem ofBits_eps : Ideal.ofBits .f32 0x358637BD#32 = ((8796093 / 8796093022208 : ℝ) : EReal) := by
  simp [Ideal.ofBits, Ideal.ieee, -EReal.coe_mul]
  norm_num
theorem ofBits_half : Ideal.ofBits .f32 0xBF000000#32 = ((-1 / 2 : ℝ) : EReal) := by
  simp [Ideal.ofBits, Ideal.ieee, -EReal.coe_mul]
  norm_num

/-- A row's mean square, from the sum of its squares, and the small number. -/
def var (q : EReal) : EReal := Ideal.div q (Ideal.ofBits .f32 0x44800000#32) + Ideal.ofBits .f32 0x358637BD#32

/-- The gradient of the norm in an entry `x`: `a` is the gain times the cotangent, `s` the sum of its products with the
    normed row. -/
def back (r x a s : EReal) : EReal := r * (a - x * r * Ideal.div s (Ideal.ofBits .f32 0x44800000#32))

/-- A square is not negative. -/
theorem mul_self (a : EReal) : 0 ≤ a * a :=
  EReal.mul_nonneg_iff.mpr ((le_total 0 a).imp (fun h => ⟨h, h⟩) fun h => ⟨h, h⟩)

/-- The rows' roots, the gradient of the normed array added to another, a row's part in that of the
    gain, and that of the gain. -/
def root {N D : ℕ} (x : (⟨2, ![N, D]⟩ : Shape).Idx → EReal) (t : Fin N) : EReal := Ideal.rsqrt (var (∑ k : Fin D, x (ix2 t k) * x (ix2 t k)))
def gradX {N D : ℕ} (x d e : (⟨2, ![N, D]⟩ : Shape).Idx → EReal) (g : (⟨2, ![1, D]⟩ : Shape).Idx → EReal) : (⟨2, ![N, D]⟩ : Shape).Idx → EReal := fun i =>
  e i + back (root x (i 0)) (x i) (d i * g (ix2 0 (i 1))) (∑ k : Fin D, d (ix2 (i 0) k) * g (ix2 0 k) * (x (ix2 (i 0) k) * root x (i 0)))
def part {N D : ℕ} (x d : (⟨2, ![N, D]⟩ : Shape).Idx → EReal) (t : Fin N) (j : Fin D) : EReal := d (ix2 t j) * (x (ix2 t j) * root x t)
def gradG {N D : ℕ} (x d : (⟨2, ![N, D]⟩ : Shape).Idx → EReal) : (⟨2, ![1, D]⟩ : Shape).Idx → EReal := fun i =>
  ∑ t : Fin N, part x d t (i 1)

/-- The mean square with the small number is infinity or a positive real number. -/
theorem var_cases {q : EReal} (h : 0 ≤ q) : var q = ⊤ ∨ ∃ v : ℝ, 0 < v ∧ var q = (v : EReal) := by
  unfold var
  rw [ofBits_len, ofBits_eps, Ideal.div_coe (by norm_num)]
  induction q with
  | bot => exact absurd h (by simp)
  | top =>
    refine .inl ?_
    rw [EReal.top_mul_coe_of_pos (by norm_num)]
    rfl
  | coe q =>
    have hq : 0 ≤ q := by exact_mod_cast h
    exact .inr ⟨q * (1 / 1024) + 8796093 / 8796093022208, by positivity, by push_cast; rfl⟩

/-- A real factor that is not negative leaves a sum. -/
theorem sum_mul_real {n : ℕ} (r : ℝ) (h : 0 ≤ r) (f : Fin n → EReal) : ∑ k, (r : EReal) * f k = r * ∑ k, f k := by
  induction n with
  | zero => simp
  | succ n ih =>
    rw [Fin.sum_univ_succ, Fin.sum_univ_succ, ih, EReal.left_distrib_of_nonneg_of_ne_top (by exact_mod_cast h) (EReal.coe_ne_top r)]

/-- A number twice is two times it. -/
theorem add_self (z : EReal) : z + z = ((2 : ℝ) : EReal) * z := by
  have h := EReal.right_distrib_of_nonneg (a := 1) (b := 1) (c := z) (by norm_num) (by norm_num)
  rw [one_mul] at h
  rw [← h]
  congr 1
  rw [← EReal.coe_one, ← EReal.coe_add, one_add_one_eq_two]

/-- The gradient as the chain rule writes it is the gradient as the product of the root and a difference. -/
theorem back_eq {n : ℕ} (x a : Fin n → EReal) (q : EReal) (h : 0 ≤ q) (j : Fin n) (C : EReal)
    (hC : C = Ideal.div ((∑ k, x k * a k) * (Ideal.ofBits .f32 0xBF000000#32 * Ideal.div (Ideal.rsqrt (var q)) (var q)))
      (Ideal.ofBits .f32 0x44800000#32)) :
    a j * Ideal.rsqrt (var q) + x j * C + C * x j
      = back (Ideal.rsqrt (var q)) (x j) (a j) (∑ k, a k * (x k * Ideal.rsqrt (var q))) := by
  unfold back
  rw [hC, ofBits_len, ofBits_half, Ideal.div_coe (by norm_num), Ideal.div_coe (by norm_num)]
  rcases var_cases h with hv | ⟨v, h0, hv⟩
  · rw [hv, Ideal.rsqrt_top, Ideal.div]
    simp
  · have hr : Ideal.rsqrt (var q) = (((Real.sqrt v)⁻¹ : ℝ) : EReal) := by
      rw [hv, Ideal.rsqrt_coe, if_neg h0.not_gt, if_neg h0.ne']
    rw [hr, hv, Ideal.div_coe h0.ne']
    have hs : 0 ≤ (Real.sqrt v)⁻¹ := by positivity
    have h2 : (Real.sqrt v)⁻¹ * (Real.sqrt v)⁻¹ = 1 / v := by
      rw [← mul_inv, Real.mul_self_sqrt h0.le, one_div]
    generalize (Real.sqrt v)⁻¹ = r at hs h2
    have e : (∑ k, a k * (x k * (r : EReal))) = r * ∑ k, x k * a k := by
      rw [← sum_mul_real r hs]
      exact Finset.sum_congr rfl fun k _ => by rw [← mul_assoc, mul_comm, mul_comm (a k)]
    rw [e]
    generalize (∑ k, x k * a k) = s
    have e1 : x j * (s * (((-1 / 2 : ℝ) : EReal) * ((r : EReal) * ((1 / v : ℝ) : EReal))) * ((1 / 1024 : ℝ) : EReal))
        = ((-1 / 2 * (r * (1 / v)) * (1 / 1024) : ℝ) : EReal) * (x j * s) := by
      push_cast
      ac_rfl
    have e2 : (r : EReal) * (x j * r * (r * s * ((1 / 1024 : ℝ) : EReal))) = ((r * (r * r) * (1 / 1024) : ℝ) : EReal) * (x j * s) := by
      push_cast
      ac_rfl
    rw [mul_comm (s * _ * _) (x j), e1, add_assoc, add_self, ← mul_assoc, ← EReal.coe_mul, sub_eq_add_neg,
      EReal.left_distrib_of_nonneg_of_ne_top (by exact_mod_cast hs) (EReal.coe_ne_top r), mul_comm (a j), mul_neg, e2, h2,
      ← EReal.neg_mul, ← EReal.coe_neg]
    congr 3
    ring

/-- The derivative's form of an array's gradient. -/
theorem gradX_eq {N D : ℕ} (x d e : (⟨2, ![N, D]⟩ : Shape).Idx → EReal) (g : (⟨2, ![1, D]⟩ : Shape).Idx → EReal) (a : Fin N) (b : Fin D) (C : EReal)
    (hC : C = Ideal.div ((∑ k : Fin D, x (ix2 a k) * (d (ix2 a k) * g (ix2 0 k))) * (Ideal.ofBits .f32 0xBF000000#32 *
      Ideal.div (root x a) (var (∑ k : Fin D, x (ix2 a k) * x (ix2 a k))))) (Ideal.ofBits .f32 0x44800000#32)) :
    e (ix2 a b) + (d (ix2 a b) * g (ix2 0 b) * root x a + x (ix2 a b) * C + C * x (ix2 a b)) = gradX x d e g (ix2 a b) :=
  congrArg (e (ix2 a b) + ·) (back_eq (fun k : Fin D => x (ix2 a k)) (fun k => d (ix2 a k) * g (ix2 0 k)) _
    (Finset.sum_nonneg fun k _ => mul_self (x (ix2 a k))) b C hC)

end Cert.Norm
-- ==== Proof.Mlp.Call27.lean ====
/-
  Hand-written. The gradients of the norm before the mixing: the step's gradient in its input, and the gain's.
-/
module

public import proofs.«01_k».proof.Defs
public import proofs.«01_k».proof.Proof.Mlp.Norm
public import proofs.«01_k».proof.Proof.Gen.Kernel27
public import proofs.«01_k».proof.Proof.Gen.Kernel27Ideal.Value
public import proofs.«01_k».proof.Proof.Gen.Reference27Ideal.Run

@[expose] public section

set_option maxRecDepth 16384

noncomputable section

namespace Cert.Call27

open Kernel27Ideal Kernel27Ideal.Gen
open Idealize.ShloMosaic Idealize.ShloMosaic.TcCoe Idealize.ShloMosaic.Tactic Idealize.SL.Sem
open Products Norm

/-- A block's gradient. -/
theorem pay4_apply (x d e : Vec Ideal S512x1024 .f32) (g : Vec Ideal S1x1024 .f32) (i : S512x1024.Idx) : k0_pay4 x d e g i = gradX x d e g i := by
  idx_vars i
  pointwise [k0_pay4, k0_pay3, k0_pay2]
  rfl

/-- A block's share in the gain's gradient, and its addition. -/
theorem pay5_apply (x d : Vec Ideal S512x1024 .f32) (i : S1x1024.Idx) : k0_pay5 x d i = gradG x d i := by
  idx_vars i
  pointwise [k0_pay5, k0_pay3, k0_pay2]
  rfl
theorem pay1_apply (x d : Vec Ideal S512x1024 .f32) (v : Vec Ideal S1x1024 .f32) (i : S1x1024.Idx) : k0_pay1 (k0_pay5 x d) v i = v i + gradG x d i := by
  rw [← pay5_apply]
  idx_vars i
  pointwise [k0_pay1]

variable (m : (ℓ : Loc nD τ sig) → Buf (Elt Ideal) ℓ) (c : Dev nD)

/-- The arguments: the input, its norm's cotangent, the other gradient and the gain. -/
abbrev X : (⟨2, ![8192, 1024]⟩ : Shape).Idx → EReal := m ((c : Thread nD τ).loc main_arg0)
abbrev D : (⟨2, ![8192, 1024]⟩ : Shape).Idx → EReal := m ((c : Thread nD τ).loc main_arg1)
abbrev E : (⟨2, ![8192, 1024]⟩ : Shape).Idx → EReal := m ((c : Thread nD τ).loc main_arg2)
abbrev G : (⟨2, ![1, 1024]⟩ : Shape).Idx → EReal := m ((c : Thread nD τ).loc main_arg3)

/-- What a point leaves in the gradient's block. -/
theorem out_grad (t : Fin cfg0.N) (i : S512x1024.Idx) :
    (outsAt0 m c t.val t.isLt).1 i = gradX (N := 512) (D := 1024) (iblk m c 0 t) (iblk m c 1 t) (iblk m c 2 t) (iblk m c 3 t) i := by
  have ht := lt_of_lt_of_eq t.isLt N_0
  by_cases h : t.val % 16 = 0
  on_goal 1 => rw [outsAt0_A m c t h (by omega)]
  on_goal 2 => rw [outsAt0_B m c t h (by omega)]
  all_goals
    frame_out
    rw [pay4_apply]

/-- The gain's gradient starts at the first row block. -/
theorem acc_start (t : Fin cfg0.N) (h : t.val % 16 = 0) (i : S1x1024.Idx) :
    (outsAt0 m c t.val t.isLt).2 i = 0 + gradG (N := 512) (D := 1024) (iblk m c 0 t) (iblk m c 1 t) i := by
  have ht := lt_of_lt_of_eq t.isLt N_0
  rw [outsAt0_A m c t h (by omega)]
  frame_out
  rw [pay5_apply, zero_add]

/-- Every later row block adds its share. -/
theorem acc_step (t : Fin cfg0.N) (h : ¬t.val % 16 = 0) (i : S1x1024.Idx) :
    (outsAt0 m c t.val t.isLt).2 i = (outsAt0 m c (t.val - 1) (Nat.lt_of_le_of_lt (Nat.sub_le _ _) t.isLt)).2 i + gradG (N := 512) (D := 1024) (iblk m c 0 t) (iblk m c 1 t) i := by
  rw [outsAt0_B m c t h (by omega)]
  frame_out
  rw [pay1_apply]

/-- The windows' block indices at a point. -/
theorem e0 : ∀ t : Fin grid0.N, win0_0.index t = ![t.val, 0] := by decide +kernel
theorem e1 : ∀ t : Fin grid0.N, win0_1.index t = ![t.val, 0] := by decide +kernel
theorem e2 : ∀ t : Fin grid0.N, win0_2.index t = ![t.val, 0] := by decide +kernel
theorem e3 : ∀ t : Fin grid0.N, win0_3.index t = ![0, 0] := by decide +kernel
theorem e4 : ∀ t : Fin grid0.N, win0_4.index t = ![t.val, 0] := by decide +kernel
theorem e5 : ∀ t : Fin grid0.N, win0_5.index t = ![0, 0] := by decide +kernel

/-- The gain's block is the gain. -/
theorem blk3 (t : Fin cfg0.N) (k : Fin 1024) : iblk m c 3 t (ix2 (0 : Fin 1) k) = G m c (ix2 0 k) := by blk_ext [iblk, V, e3]

section

variable (t : Fin cfg0.N) (y : S512x1024.Idx) (i : S8192x1024.Idx) (h0 : (i 0).val = t.val * 512 + (y 0).val) (h1 : (i 1).val = (y 1).val)

include h0 h1

/-- An argument's block at an entry. -/
theorem blk0 : iblk m c 0 t y = X m c i := by blk_ext [iblk, V, e0, h0, h1]
theorem blk1 : iblk m c 1 t y = D m c i := by blk_ext [iblk, V, e1, h0, h1]
theorem blk2 : iblk m c 2 t y = E m c i := by blk_ext [iblk, V, e2, h0, h1]

end

/-- A block's root is its row's. -/
theorem root_blk (t : Fin cfg0.N) (k : Fin 512) (r : Fin 8192) (hr : r.val = t.val * 512 + k.val) : root (N := 512) (D := 1024) (iblk m c 0 t) k = root (X m c) r :=
  congrArg (fun q => Ideal.rsqrt (var q)) (Finset.sum_congr rfl fun l _ => by rw [blk0 m c t (ix2 k l) (ix2 r l) hr rfl])

/-- A block's gradient is the gradient at the block's rows. -/
theorem pt (t : Fin cfg0.N) (y : S512x1024.Idx) (i : S8192x1024.Idx) (h0 : (i 0).val = t.val * 512 + (y 0).val) (h1 : (i 1).val = (y 1).val) :
    gradX (N := 512) (D := 1024) (iblk m c 0 t) (iblk m c 1 t) (iblk m c 2 t) (iblk m c 3 t) y = gradX (X m c) (D m c) (E m c) (G m c) i := by
  have hx := fun k : Fin 1024 => blk0 m c t (ix2 (y 0) k) (ix2 (i 0) k) h0 rfl
  have hd := fun k : Fin 1024 => blk1 m c t (ix2 (y 0) k) (ix2 (i 0) k) h0 rfl
  unfold gradX
  rw [blk2 m c t y i h0 h1, blk0 m c t y i h0 h1, blk1 m c t y i h0 h1, root_blk m c t (y 0) (i 0) h0,
    Finset.sum_congr rfl fun k _ => by rw [hx k, hd k, blk3 m c t k], blk3 m c t (y 1), show y 1 = i 1 from Fin.ext h1.symm]

/-- A block row's part in the gain's gradient is its row's. -/
theorem part_blk (t : Fin cfg0.N) (k : Fin 512) (r : Fin 8192) (a b : Fin 1024) (hr : r.val = t.val * 512 + k.val) (hb : b.val = a.val) :
    part (N := 512) (D := 1024) (iblk m c 0 t) (iblk m c 1 t) k a = part (X m c) (D m c) r b := by
  unfold part
  rw [blk0 m c t (ix2 k a) (ix2 r b) hr hb, blk1 m c t (ix2 k a) (ix2 r b) hr hb, root_blk m c t k r hr]

/-- The gradient the kernel leaves. -/
theorem kernel_dx : (dats m 0 c).arrAt 4 cfg0.N = gradX (X m c) (D m c) (E m c) (G m c) := by
  refine (dats m 0 c).arrAt_eq_of_covers 4 _ (by decide +kernel) fun t _ y => ?_
  rw [after0_4]
  blk_simp
  change S512x1024.Idx at y
  rw [out_grad]
  exact pt m c t y _ (by blk_simp [e4]) (by blk_simp [e4])

/-- The gain's gradient the kernel leaves. -/
theorem kernel_dg : (dats m 0 c).arrAt 5 cfg0.N = gradG (X m c) (D m c) := by
  refine (dats m 0 c).arrAt_eq_of_covers 5 _ (by decide +kernel) fun t hf y => ?_
  have h3 := (flush0_5 t).mp hf
  rw [after0_5]
  blk_simp
  change S1x1024.Idx at y
  rw [Pipeline.eq_sum_fin_of_reset_step_apply_of_flush (fun n h => (outsAt0 m c n h).2) 16 (fun _ => 0) (fun t i => gradG (N := 512) (D := 1024) (iblk m c 0 t) (iblk m c 1 t) i) (acc_start m c) (acc_step m c) t h3 y]
  unfold gradG
  rw [zero_add]
  refine Fin.sum_mul_add_congr fun s k hl => ?_
  have hs := s.isLt
  have ht := lt_of_lt_of_eq t.isLt N_0
  refine part_blk m c _ k _ (y 1) _ ?_ ?_
  · change s.val * 512 + k.val = (16 * (t.val / 16) + s.val) * 512 + k.val
    omega
  · blk_simp [e5]

/-- The two printings' tables are one. -/
theorem defs_same : Kernel27.defs (F := Bits) = Kernel27Ideal.defs := by
  refine congrArg (Pipeline.defs (Kernel27Ideal.pcfgs (F := Bits))) (congrArg Defs.onTc (fin_one_ext (funext fun (_, _) => ?_)))
  dsimp only
  rw [show Kernel27.cc0_pre_mix_bwd (F := Bits) = Kernel27Ideal.cc0_pre_mix_bwd from rfl]
  rfl

/-- The frame of the kernel as printed. -/
theorem frame_kernel : quiescent_Kernel27 := fun m ρ _ =>
  defs_same ▸ Kernel27Ideal.Gen.frame (F := Bits) m ρ

/-- The frame of the reference. -/
theorem frame_referenceIdeal : quiescent_Reference27Ideal := fun m ρ _ =>
  (θ_run _ _ _).mono (fun r h => ⟨fun c => (h c).2.2, sem_eq_zero_of_no_sems (by decide) r.2⟩) (Reference27Ideal.Value.run m ρ)

/-- On arguments of equal value the kernel and the reference hold the same results. -/
theorem algebraic : algebraic_Kernel27Ideal_Reference27Ideal := by
  intro m g m' g' _ hsame
  refine ⟨fun c => gradX (X m c) (D m c) (E m c) (G m c), fun c => gradG (X m c) (D m c), ?_, ?_⟩
  · exact (θ_run _ _ _).mono (fun r h c => ⟨(h c).1.trans (kernel_dx m c), (h c).2.1.trans (kernel_dg m c), (h c).2.2⟩) (Value.run_blocks m g)
  · refine (θ_run _ _ _).mono (fun r h c => ?_) (Reference27Ideal.Value.run m' g')
    obtain ⟨h0, h1, h2, h3⟩ := hsame c
    dsimp only [X, D, E, G]
    rw [← h0, ← h1, ← h2, ← h3]
    refine ⟨(h c).1.trans (funext fun j => ?_), (h c).2.1.trans (funext fun j => ?_), (h c).2.2⟩
    · change Reference27Ideal.S8192x1024.Idx at j
      idx_vars j
      pointwise
      exact gradX_eq (N := 8192) (D := 1024) _ _ _ _ j0 j1 _ (Fin.sum_univ_one _)
    · change S1x1024.Idx at j
      idx_vars j
      pointwise
      exact Finset.sum_congr rfl fun k _ => mul_comm _ _

end Cert.Call27
-- ==== Proof.lean ====
/-
  Hand-written. The certificate: the claims of Defs.lean, from the modules that prove them.
-/
module

public import proofs.«01_k».proof.Defs
public import proofs.«01_k».proof.Proof.Frames
public import proofs.«01_k».proof.Proof.Mla.Frames
public import proofs.«01_k».proof.Proof.Equal
public import proofs.«01_k».proof.Proof.Mla.Equal
public import proofs.«01_k».proof.Proof.Mlp.Call3
public import proofs.«01_k».proof.Proof.Mlp.Call4
public import proofs.«01_k».proof.Proof.Mlp.Call5
public import proofs.«01_k».proof.Proof.Mlp.Call6
public import proofs.«01_k».proof.Proof.Mlp.Call7
public import proofs.«01_k».proof.Proof.Mlp.Call8
public import proofs.«01_k».proof.Proof.Mlp.Call9
public import proofs.«01_k».proof.Proof.Mlp.Call10
public import proofs.«01_k».proof.Proof.Mlp.Call11
public import proofs.«01_k».proof.Proof.Mlp.Call12
public import proofs.«01_k».proof.Proof.Mlp.Call13
public import proofs.«01_k».proof.Proof.Mlp.Call14
public import proofs.«01_k».proof.Proof.Mlp.Call15
public import proofs.«01_k».proof.Proof.Mlp.Call16
public import proofs.«01_k».proof.Proof.Mlp.Call17
public import proofs.«01_k».proof.Proof.Mlp.Call18
public import proofs.«01_k».proof.Proof.Mlp.Call19
public import proofs.«01_k».proof.Proof.Mlp.Call20
public import proofs.«01_k».proof.Proof.Mlp.Call21
public import proofs.«01_k».proof.Proof.Mlp.Call22
public import proofs.«01_k».proof.Proof.Mlp.Call23
public import proofs.«01_k».proof.Proof.Mlp.Call24
public import proofs.«01_k».proof.Proof.Mlp.Call25
public import proofs.«01_k».proof.Proof.Mlp.Call26
public import proofs.«01_k».proof.Proof.Mlp.Call27
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal.Run

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Finite.facts, Cert.Finite2.facts,
  Cert.Frames.frame_kernel, Cert.Frames.frame_kernelIdeal, fun m ρ _ => Cert.Frames.frame_kernelIdeal m ρ trivial,
  Cert.Frames.frame_referenceIdeal, fun m ρ _ => Cert.Frames.frame_referenceIdeal m ρ trivial,
  Cert.Frames2.frame_kernel2, Cert.Frames2.frame_kernel2Ideal, fun m ρ _ => Cert.Frames2.frame_kernel2Ideal m ρ trivial,
  Cert.Frames2.frame_reference2Ideal, fun m ρ _ => Cert.Frames2.frame_reference2Ideal m ρ trivial,
  Cert.Call3.frame_kernel, fun m ρ _ => Cert.Kernel3Ideal.Gen.frame m ρ, Cert.Call3.frame_referenceIdeal,
  Cert.Call4.frame_kernel, fun m ρ _ => Cert.Kernel4Ideal.Gen.frame m ρ, Cert.Call4.frame_referenceIdeal,
  Cert.Call5.frame_kernel, fun m ρ _ => Cert.Kernel5Ideal.Gen.frame m ρ, Cert.Call5.frame_referenceIdeal,
  Cert.Call6.frame_kernel, fun m ρ _ => Cert.Kernel6Ideal.Gen.frame m ρ, Cert.Call6.frame_referenceIdeal,
  Cert.Call7.frame_kernel, fun m ρ _ => Cert.Kernel7Ideal.Gen.frame m ρ, Cert.Call7.frame_referenceIdeal,
  Cert.Call8.frame_kernel, fun m ρ _ => Cert.Kernel8Ideal.Gen.frame m ρ, Cert.Call8.frame_referenceIdeal,
  Cert.Call9.frame_kernel, fun m ρ _ => Cert.Kernel9Ideal.Gen.frame m ρ, Cert.Call9.frame_referenceIdeal,
  Cert.Call10.frame_kernel, fun m ρ _ => Cert.Kernel10Ideal.Gen.frame m ρ, Cert.Call10.frame_referenceIdeal,
  Cert.Call11.frame_kernel, fun m ρ _ => Cert.Kernel11Ideal.Gen.frame m ρ, Cert.Call11.frame_referenceIdeal,
  Cert.Call12.frame_kernel, fun m ρ _ => Cert.Kernel12Ideal.Gen.frame m ρ, Cert.Call12.frame_referenceIdeal,
  Cert.Call13.frame_kernel, fun m ρ _ => Cert.Kernel13Ideal.Gen.frame m ρ, Cert.Call13.frame_referenceIdeal,
  Cert.Call14.frame_kernel, fun m ρ _ => Cert.Kernel14Ideal.Gen.frame m ρ, Cert.Call14.frame_referenceIdeal,
  Cert.Call15.frame_kernel, fun m ρ _ => Cert.Kernel15Ideal.Gen.frame m ρ, Cert.Call15.frame_referenceIdeal,
  Cert.Call16.frame_kernel, fun m ρ _ => Cert.Kernel16Ideal.Gen.frame m ρ, Cert.Call16.frame_referenceIdeal,
  Cert.Call17.frame_kernel, fun m ρ _ => Cert.Kernel17Ideal.Gen.frame m ρ, Cert.Call17.frame_referenceIdeal,
  Cert.Call18.frame_kernel, fun m ρ _ => Cert.Kernel18Ideal.Gen.frame m ρ, Cert.Call18.frame_referenceIdeal,
  Cert.Call19.frame_kernel, fun m ρ _ => Cert.Kernel19Ideal.Gen.frame m ρ, Cert.Call19.frame_referenceIdeal,
  Cert.Call20.frame_kernel, fun m ρ _ => Cert.Kernel20Ideal.Gen.frame m ρ, Cert.Call20.frame_referenceIdeal,
  Cert.Call21.frame_kernel, fun m ρ _ => Cert.Kernel21Ideal.Gen.frame m ρ, Cert.Call21.frame_referenceIdeal,
  Cert.Call22.frame_kernel, fun m ρ _ => Cert.Kernel22Ideal.Gen.frame m ρ, Cert.Call22.frame_referenceIdeal,
  Cert.Call23.frame_kernel, fun m ρ _ => Cert.Kernel23Ideal.Gen.frame m ρ, Cert.Call23.frame_referenceIdeal,
  Cert.Call24.frame_kernel, fun m ρ _ => Cert.Kernel24Ideal.Gen.frame m ρ, Cert.Call24.frame_referenceIdeal,
  Cert.Call25.frame_kernel, fun m ρ _ => Cert.Kernel25Ideal.Gen.frame m ρ, Cert.Call25.frame_referenceIdeal,
  Cert.Call26.frame_kernel, fun m ρ _ => Cert.Kernel26Ideal.Gen.frame m ρ, Cert.Call26.frame_referenceIdeal,
  Cert.Call27.frame_kernel, fun m ρ _ => Cert.Kernel27Ideal.Gen.frame m ρ, Cert.Call27.frame_referenceIdeal,
  Cert.Frames.preserves_kernel, Cert.Finite.algebraic,
  Cert.Frames2.preserves_kernel2, Cert.Finite2.algebraic,
  trivial, Cert.Call3.algebraic, trivial, Cert.Call4.algebraic, trivial, Cert.Call5.algebraic, trivial, Cert.Call6.algebraic,
  trivial, Cert.Call7.algebraic, trivial, Cert.Call8.algebraic, trivial, Cert.Call9.algebraic, trivial, Cert.Call10.algebraic,
  trivial, Cert.Call11.algebraic, trivial, Cert.Call12.algebraic, trivial, Cert.Call13.algebraic, trivial, Cert.Call14.algebraic,
  trivial, Cert.Call15.algebraic, trivial, Cert.Call16.algebraic, trivial, Cert.Call17.algebraic, trivial, Cert.Call18.algebraic,
  trivial, Cert.Call19.algebraic, trivial, Cert.Call20.algebraic, trivial, Cert.Call21.algebraic, trivial, Cert.Call22.algebraic,
  trivial, Cert.Call23.algebraic, trivial, Cert.Call24.algebraic, trivial, Cert.Call25.algebraic, trivial, Cert.Call26.algebraic,
  trivial, Cert.Call27.algebraic⟩

end Cert.Proof

end
